-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_DhMix (m : (ℓ : Loc Cert.DhMix.nD Cert.DhMix.τ Cert.DhMix.sig) → Buf (Elt Bits) ℓ) : Prop :=
  True

def Pre_DhMixIdeal (m : (ℓ : Loc Cert.DhMixIdeal.nD Cert.DhMixIdeal.τ Cert.DhMixIdeal.sig) → Buf (Elt Ideal) ℓ) : Prop :=
  True

def Pre_DhMixIdeal_dh_mix_finite [hPre_dh_mix_finite : Cert.Pre_dh_mix_finite.Facts] (m : (ℓ : Loc Cert.DhMixIdeal.nD Cert.DhMixIdeal.τ Cert.DhMixIdeal.sig) → Buf (Elt Ideal) ℓ) : Prop :=
  ∀ c : Dev Cert.DhMixIdeal.nD,
    (Cert.Pre_dh_mix_finite.fn (F := Ideal) (m ((c.tc : Thread Cert.DhMixIdeal.nD Cert.DhMixIdeal.τ).loc Cert.DhMixIdeal.main_arg0)) (m ((c.tc : Thread Cert.DhMixIdeal.nD Cert.DhMixIdeal.τ).loc Cert.DhMixIdeal.main_arg1)) (m ((c.tc : Thread Cert.DhMixIdeal.nD Cert.DhMixIdeal.τ).loc Cert.DhMixIdeal.main_arg2)) (m ((c.tc : Thread Cert.DhMixIdeal.nD Cert.DhMixIdeal.τ).loc Cert.DhMixIdeal.main_arg3)) (m ((c.tc : Thread Cert.DhMixIdeal.nD Cert.DhMixIdeal.τ).loc Cert.DhMixIdeal.main_arg4)) (m ((c.tc : Thread Cert.DhMixIdeal.nD Cert.DhMixIdeal.τ).loc Cert.DhMixIdeal.main_arg5))) = (fun _ => 1#1)

def Pre_DhMixRefIdeal (m : (ℓ : Loc Cert.DhMixRefIdeal.nD Cert.DhMixRefIdeal.τ Cert.DhMixRefIdeal.sig) → Buf (Elt Ideal) ℓ) : Prop :=
  True

def Pre_DhMixRefIdeal_dh_mix_finite [hPre_dh_mix_finite : Cert.Pre_dh_mix_finite.Facts] (m : (ℓ : Loc Cert.DhMixRefIdeal.nD Cert.DhMixRefIdeal.τ Cert.DhMixRefIdeal.sig) → Buf (Elt Ideal) ℓ) : Prop :=
  ∀ c : Dev Cert.DhMixRefIdeal.nD,
    (Cert.Pre_dh_mix_finite.fn (F := Ideal) (m ((c.tc : Thread Cert.DhMixRefIdeal.nD Cert.DhMixRefIdeal.τ).loc Cert.DhMixRefIdeal.main_arg0)) (m ((c.tc : Thread Cert.DhMixRefIdeal.nD Cert.DhMixRefIdeal.τ).loc Cert.DhMixRefIdeal.main_arg1)) (m ((c.tc : Thread Cert.DhMixRefIdeal.nD Cert.DhMixRefIdeal.τ).loc Cert.DhMixRefIdeal.main_arg2)) (m ((c.tc : Thread Cert.DhMixRefIdeal.nD Cert.DhMixRefIdeal.τ).loc Cert.DhMixRefIdeal.main_arg3)) (m ((c.tc : Thread Cert.DhMixRefIdeal.nD Cert.DhMixRefIdeal.τ).loc Cert.DhMixRefIdeal.main_arg4)) (m ((c.tc : Thread Cert.DhMixRefIdeal.nD Cert.DhMixRefIdeal.τ).loc Cert.DhMixRefIdeal.main_arg5))) = (fun _ => 1#1)

def Pre_DhFfn (m : (ℓ : Loc Cert.DhFfn.nD Cert.DhFfn.τ Cert.DhFfn.sig) → Buf (Elt Bits) ℓ) : Prop :=
  True

def Pre_DhFfnIdeal (m : (ℓ : Loc Cert.DhFfnIdeal.nD Cert.DhFfnIdeal.τ Cert.DhFfnIdeal.sig) → Buf (Elt Ideal) ℓ) : Prop :=
  True

def Pre_DhFfnIdeal_dh_ffn_finite [hPre_dh_ffn_finite : Cert.Pre_dh_ffn_finite.Facts] (m : (ℓ : Loc Cert.DhFfnIdeal.nD Cert.DhFfnIdeal.τ Cert.DhFfnIdeal.sig) → Buf (Elt Ideal) ℓ) : Prop :=
  ∀ c : Dev Cert.DhFfnIdeal.nD,
    (Cert.Pre_dh_ffn_finite.fn (F := Ideal) (m ((c.tc : Thread Cert.DhFfnIdeal.nD Cert.DhFfnIdeal.τ).loc Cert.DhFfnIdeal.main_arg0)) (m ((c.tc : Thread Cert.DhFfnIdeal.nD Cert.DhFfnIdeal.τ).loc Cert.DhFfnIdeal.main_arg1)) (m ((c.tc : Thread Cert.DhFfnIdeal.nD Cert.DhFfnIdeal.τ).loc Cert.DhFfnIdeal.main_arg2)) (m ((c.tc : Thread Cert.DhFfnIdeal.nD Cert.DhFfnIdeal.τ).loc Cert.DhFfnIdeal.main_arg3)) (m ((c.tc : Thread Cert.DhFfnIdeal.nD Cert.DhFfnIdeal.τ).loc Cert.DhFfnIdeal.main_arg4)) (m ((c.tc : Thread Cert.DhFfnIdeal.nD Cert.DhFfnIdeal.τ).loc Cert.DhFfnIdeal.main_arg5))) = (fun _ => 1#1)

def Pre_DhFfnRefIdeal (m : (ℓ : Loc Cert.DhFfnRefIdeal.nD Cert.DhFfnRefIdeal.τ Cert.DhFfnRefIdeal.sig) → Buf (Elt Ideal) ℓ) : Prop :=
  True

def Pre_DhFfnRefIdeal_dh_ffn_finite [hPre_dh_ffn_finite : Cert.Pre_dh_ffn_finite.Facts] (m : (ℓ : Loc Cert.DhFfnRefIdeal.nD Cert.DhFfnRefIdeal.τ Cert.DhFfnRefIdeal.sig) → Buf (Elt Ideal) ℓ) : Prop :=
  ∀ c : Dev Cert.DhFfnRefIdeal.nD,
    (Cert.Pre_dh_ffn_finite.fn (F := Ideal) (m ((c.tc : Thread Cert.DhFfnRefIdeal.nD Cert.DhFfnRefIdeal.τ).loc Cert.DhFfnRefIdeal.main_arg0)) (m ((c.tc : Thread Cert.DhFfnRefIdeal.nD Cert.DhFfnRefIdeal.τ).loc Cert.DhFfnRefIdeal.main_arg1)) (m ((c.tc : Thread Cert.DhFfnRefIdeal.nD Cert.DhFfnRefIdeal.τ).loc Cert.DhFfnRefIdeal.main_arg2)) (m ((c.tc : Thread Cert.DhFfnRefIdeal.nD Cert.DhFfnRefIdeal.τ).loc Cert.DhFfnRefIdeal.main_arg3)) (m ((c.tc : Thread Cert.DhFfnRefIdeal.nD Cert.DhFfnRefIdeal.τ).loc Cert.DhFfnRefIdeal.main_arg4)) (m ((c.tc : Thread Cert.DhFfnRefIdeal.nD Cert.DhFfnRefIdeal.τ).loc Cert.DhFfnRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldRefIdeal (m : (ℓ : Loc Cert.FoldRefIdeal.nD Cert.FoldRefIdeal.τ Cert.FoldRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_DhMix [hDhMix : Cert.DhMix.Facts] : Prop :=
  ∀ (m : (ℓ : Loc Cert.DhMix.nD Cert.DhMix.τ Cert.DhMix.sig) → Buf (Elt Bits) ℓ) (g : Dev Cert.DhMix.nD → PrngReg), Pre_DhMix m →
    θ_run (Cert.DhMix.defs (F := Bits)) (onTc (τ := Cert.DhMix.τ) (Cert.DhMix.main (F := Bits))) ⟨m, fun _ => 0, g⟩ (fun r => (∀ c : Dev Cert.DhMix.nD,
      r.2.mem ((c.tc : Thread Cert.DhMix.nD Cert.DhMix.τ).loc Cert.DhMix.main_arg0) = m ((c.tc : Thread Cert.DhMix.nD Cert.DhMix.τ).loc Cert.DhMix.main_arg0)
      ∧ r.2.mem ((c.tc : Thread Cert.DhMix.nD Cert.DhMix.τ).loc Cert.DhMix.main_arg1) = m ((c.tc : Thread Cert.DhMix.nD Cert.DhMix.τ).loc Cert.DhMix.main_arg1)
      ∧ r.2.mem ((c.tc : Thread Cert.DhMix.nD Cert.DhMix.τ).loc Cert.DhMix.main_arg2) = m ((c.tc : Thread Cert.DhMix.nD Cert.DhMix.τ).loc Cert.DhMix.main_arg2)
      ∧ r.2.mem ((c.tc : Thread Cert.DhMix.nD Cert.DhMix.τ).loc Cert.DhMix.main_arg3) = m ((c.tc : Thread Cert.DhMix.nD Cert.DhMix.τ).loc Cert.DhMix.main_arg3)
      ∧ r.2.mem ((c.tc : Thread Cert.DhMix.nD Cert.DhMix.τ).loc Cert.DhMix.main_arg4) = m ((c.tc : Thread Cert.DhMix.nD Cert.DhMix.τ).loc Cert.DhMix.main_arg4)
      ∧ r.2.mem ((c.tc : Thread Cert.DhMix.nD Cert.DhMix.τ).loc Cert.DhMix.main_arg5) = m ((c.tc : Thread Cert.DhMix.nD Cert.DhMix.τ).loc Cert.DhMix.main_arg5))
      ∧ r.2.sem = fun _ => 0)

def quiescent_DhMixIdeal [hDhMixIdeal : Cert.DhMixIdeal.Facts] : Prop :=
  ∀ (m : (ℓ : Loc Cert.DhMixIdeal.nD Cert.DhMixIdeal.τ Cert.DhMixIdeal.sig) → Buf (Elt Ideal) ℓ) (g : Dev Cert.DhMixIdeal.nD → PrngReg), Pre_DhMixIdeal m →
    θ_run (Cert.DhMixIdeal.defs (F := Ideal)) (onTc (τ := Cert.DhMixIdeal.τ) (Cert.DhMixIdeal.main (F := Ideal))) ⟨m, fun _ => 0, g⟩ (fun r => (∀ c : Dev Cert.DhMixIdeal.nD,
      r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
      ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
      ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2)
      ∧ r.2.mem ((c.tc : Thread Cert.DhMixIdeal.nD Cert.DhMixIdeal.τ).loc Cert.DhMixIdeal.main_arg3) = m ((c.tc : Thread Cert.DhMixIdeal.nD Cert.DhMixIdeal.τ).loc Cert.DhMixIdeal.main_arg3)
      ∧ r.2.mem ((c.tc : Thread Cert.DhMixIdeal.nD Cert.DhMixIdeal.τ).loc Cert.DhMixIdeal.main_arg4) = m ((c.tc : Thread Cert.DhMixIdeal.nD Cert.DhMixIdeal.τ).loc Cert.DhMixIdeal.main_arg4)
      ∧ r.2.mem ((c.tc : Thread Cert.DhMixIdeal.nD Cert.DhMixIdeal.τ).loc Cert.DhMixIdeal.main_arg5) = m ((c.tc : Thread Cert.DhMixIdeal.nD Cert.DhMixIdeal.τ).loc Cert.DhMixIdeal.main_arg5))
      ∧ r.2.sem = fun _ => 0)

def quiescent_DhMixIdeal_pre_dh_mix_finite [hDhMixIdeal : Cert.DhMixIdeal.Facts] [hPre_dh_mix_finite : Cert.Pre_dh_mix_finite.Facts] : Prop :=
  ∀ (m : (ℓ : Loc Cert.DhMixIdeal.nD Cert.DhMixIdeal.τ Cert.DhMixIdeal.sig) → Buf (Elt Ideal) ℓ) (g : Dev Cert.DhMixIdeal.nD → PrngReg), Pre_DhMixIdeal_dh_mix_finite m →
    θ_run (Cert.DhMixIdeal.defs (F := Ideal)) (onTc (τ := Cert.DhMixIdeal.τ) (Cert.DhMixIdeal.main (F := Ideal))) ⟨m, fun _ => 0, g⟩ (fun r => (∀ c : Dev Cert.DhMixIdeal.nD,
      r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
      ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
      ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2)
      ∧ r.2.mem ((c.tc : Thread Cert.DhMixIdeal.nD Cert.DhMixIdeal.τ).loc Cert.DhMixIdeal.main_arg3) = m ((c.tc : Thread Cert.DhMixIdeal.nD Cert.DhMixIdeal.τ).loc Cert.DhMixIdeal.main_arg3)
      ∧ r.2.mem ((c.tc : Thread Cert.DhMixIdeal.nD Cert.DhMixIdeal.τ).loc Cert.DhMixIdeal.main_arg4) = m ((c.tc : Thread Cert.DhMixIdeal.nD Cert.DhMixIdeal.τ).loc Cert.DhMixIdeal.main_arg4)
      ∧ r.2.mem ((c.tc : Thread Cert.DhMixIdeal.nD Cert.DhMixIdeal.τ).loc Cert.DhMixIdeal.main_arg5) = m ((c.tc : Thread Cert.DhMixIdeal.nD Cert.DhMixIdeal.τ).loc Cert.DhMixIdeal.main_arg5))
      ∧ r.2.sem = fun _ => 0)

def quiescent_DhMixRefIdeal [hDhMixRefIdeal : Cert.DhMixRefIdeal.Facts] : Prop :=
  ∀ (m : (ℓ : Loc Cert.DhMixRefIdeal.nD Cert.DhMixRefIdeal.τ Cert.DhMixRefIdeal.sig) → Buf (Elt Ideal) ℓ) (g : Dev Cert.DhMixRefIdeal.nD → PrngReg), Pre_DhMixRefIdeal m →
    θ_run (Cert.DhMixRefIdeal.defs (F := Ideal)) (onTc (τ := Cert.DhMixRefIdeal.τ) (Cert.DhMixRefIdeal.main (F := Ideal))) ⟨m, fun _ => 0, g⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1)
      ∧ r.2.mem ((c.tc : Thread Cert.DhMixRefIdeal.nD Cert.DhMixRefIdeal.τ).loc Cert.DhMixRefIdeal.main_arg2) = m ((c.tc : Thread Cert.DhMixRefIdeal.nD Cert.DhMixRefIdeal.τ).loc Cert.DhMixRefIdeal.main_arg2)
      ∧ r.2.mem ((c.tc : Thread Cert.DhMixRefIdeal.nD Cert.DhMixRefIdeal.τ).loc Cert.DhMixRefIdeal.main_arg3) = m ((c.tc : Thread Cert.DhMixRefIdeal.nD Cert.DhMixRefIdeal.τ).loc Cert.DhMixRefIdeal.main_arg3)
      ∧ r.2.mem ((c.tc : Thread Cert.DhMixRefIdeal.nD Cert.DhMixRefIdeal.τ).loc Cert.DhMixRefIdeal.main_arg4) = m ((c.tc : Thread Cert.DhMixRefIdeal.nD Cert.DhMixRefIdeal.τ).loc Cert.DhMixRefIdeal.main_arg4)
      ∧ r.2.mem ((c.tc : Thread Cert.DhMixRefIdeal.nD Cert.DhMixRefIdeal.τ).loc Cert.DhMixRefIdeal.main_arg5) = m ((c.tc : Thread Cert.DhMixRefIdeal.nD Cert.DhMixRefIdeal.τ).loc Cert.DhMixRefIdeal.main_arg5))
      ∧ r.2.sem = fun _ => 0)

def quiescent_DhMixRefIdeal_pre_dh_mix_finite [hDhMixRefIdeal : Cert.DhMixRefIdeal.Facts] [hPre_dh_mix_finite : Cert.Pre_dh_mix_finite.Facts] : Prop :=
  ∀ (m : (ℓ : Loc Cert.DhMixRefIdeal.nD Cert.DhMixRefIdeal.τ Cert.DhMixRefIdeal.sig) → Buf (Elt Ideal) ℓ) (g : Dev Cert.DhMixRefIdeal.nD → PrngReg), Pre_DhMixRefIdeal_dh_mix_finite m →
    θ_run (Cert.DhMixRefIdeal.defs (F := Ideal)) (onTc (τ := Cert.DhMixRefIdeal.τ) (Cert.DhMixRefIdeal.main (F := Ideal))) ⟨m, fun _ => 0, g⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1)
      ∧ r.2.mem ((c.tc : Thread Cert.DhMixRefIdeal.nD Cert.DhMixRefIdeal.τ).loc Cert.DhMixRefIdeal.main_arg2) = m ((c.tc : Thread Cert.DhMixRefIdeal.nD Cert.DhMixRefIdeal.τ).loc Cert.DhMixRefIdeal.main_arg2)
      ∧ r.2.mem ((c.tc : Thread Cert.DhMixRefIdeal.nD Cert.DhMixRefIdeal.τ).loc Cert.DhMixRefIdeal.main_arg3) = m ((c.tc : Thread Cert.DhMixRefIdeal.nD Cert.DhMixRefIdeal.τ).loc Cert.DhMixRefIdeal.main_arg3)
      ∧ r.2.mem ((c.tc : Thread Cert.DhMixRefIdeal.nD Cert.DhMixRefIdeal.τ).loc Cert.DhMixRefIdeal.main_arg4) = m ((c.tc : Thread Cert.DhMixRefIdeal.nD Cert.DhMixRefIdeal.τ).loc Cert.DhMixRefIdeal.main_arg4)
      ∧ r.2.mem ((c.tc : Thread Cert.DhMixRefIdeal.nD Cert.DhMixRefIdeal.τ).loc Cert.DhMixRefIdeal.main_arg5) = m ((c.tc : Thread Cert.DhMixRefIdeal.nD Cert.DhMixRefIdeal.τ).loc Cert.DhMixRefIdeal.main_arg5))
      ∧ r.2.sem = fun _ => 0)

def quiescent_DhFfn [hDhFfn : Cert.DhFfn.Facts] : Prop :=
  ∀ (m : (ℓ : Loc Cert.DhFfn.nD Cert.DhFfn.τ Cert.DhFfn.sig) → Buf (Elt Bits) ℓ) (g : Dev Cert.DhFfn.nD → PrngReg), Pre_DhFfn m →
    θ_run (Cert.DhFfn.defs (F := Bits)) (onTc (τ := Cert.DhFfn.τ) (Cert.DhFfn.main (F := Bits))) ⟨m, fun _ => 0, g⟩ (fun r => (∀ c : Dev Cert.DhFfn.nD,
      r.2.mem ((c.tc : Thread Cert.DhFfn.nD Cert.DhFfn.τ).loc Cert.DhFfn.main_arg0) = m ((c.tc : Thread Cert.DhFfn.nD Cert.DhFfn.τ).loc Cert.DhFfn.main_arg0)
      ∧ r.2.mem ((c.tc : Thread Cert.DhFfn.nD Cert.DhFfn.τ).loc Cert.DhFfn.main_arg1) = m ((c.tc : Thread Cert.DhFfn.nD Cert.DhFfn.τ).loc Cert.DhFfn.main_arg1)
      ∧ r.2.mem ((c.tc : Thread Cert.DhFfn.nD Cert.DhFfn.τ).loc Cert.DhFfn.main_arg2) = m ((c.tc : Thread Cert.DhFfn.nD Cert.DhFfn.τ).loc Cert.DhFfn.main_arg2)
      ∧ r.2.mem ((c.tc : Thread Cert.DhFfn.nD Cert.DhFfn.τ).loc Cert.DhFfn.main_arg3) = m ((c.tc : Thread Cert.DhFfn.nD Cert.DhFfn.τ).loc Cert.DhFfn.main_arg3)
      ∧ r.2.mem ((c.tc : Thread Cert.DhFfn.nD Cert.DhFfn.τ).loc Cert.DhFfn.main_arg4) = m ((c.tc : Thread Cert.DhFfn.nD Cert.DhFfn.τ).loc Cert.DhFfn.main_arg4)
      ∧ r.2.mem ((c.tc : Thread Cert.DhFfn.nD Cert.DhFfn.τ).loc Cert.DhFfn.main_arg5) = m ((c.tc : Thread Cert.DhFfn.nD Cert.DhFfn.τ).loc Cert.DhFfn.main_arg5))
      ∧ r.2.sem = fun _ => 0)

def quiescent_DhFfnIdeal [hDhFfnIdeal : Cert.DhFfnIdeal.Facts] : Prop :=
  ∀ (m : (ℓ : Loc Cert.DhFfnIdeal.nD Cert.DhFfnIdeal.τ Cert.DhFfnIdeal.sig) → Buf (Elt Ideal) ℓ) (g : Dev Cert.DhFfnIdeal.nD → PrngReg), Pre_DhFfnIdeal m →
    θ_run (Cert.DhFfnIdeal.defs (F := Ideal)) (onTc (τ := Cert.DhFfnIdeal.τ) (Cert.DhFfnIdeal.main (F := Ideal))) ⟨m, fun _ => 0, g⟩ (fun r => (∀ c : Dev Cert.DhFfnIdeal.nD,
      r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
      ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1)
      ∧ r.2.mem ((c.tc : Thread Cert.DhFfnIdeal.nD Cert.DhFfnIdeal.τ).loc Cert.DhFfnIdeal.main_arg2) = m ((c.tc : Thread Cert.DhFfnIdeal.nD Cert.DhFfnIdeal.τ).loc Cert.DhFfnIdeal.main_arg2)
      ∧ r.2.mem ((c.tc : Thread Cert.DhFfnIdeal.nD Cert.DhFfnIdeal.τ).loc Cert.DhFfnIdeal.main_arg3) = m ((c.tc : Thread Cert.DhFfnIdeal.nD Cert.DhFfnIdeal.τ).loc Cert.DhFfnIdeal.main_arg3)
      ∧ r.2.mem ((c.tc : Thread Cert.DhFfnIdeal.nD Cert.DhFfnIdeal.τ).loc Cert.DhFfnIdeal.main_arg4) = m ((c.tc : Thread Cert.DhFfnIdeal.nD Cert.DhFfnIdeal.τ).loc Cert.DhFfnIdeal.main_arg4)
      ∧ r.2.mem ((c.tc : Thread Cert.DhFfnIdeal.nD Cert.DhFfnIdeal.τ).loc Cert.DhFfnIdeal.main_arg5) = m ((c.tc : Thread Cert.DhFfnIdeal.nD Cert.DhFfnIdeal.τ).loc Cert.DhFfnIdeal.main_arg5))
      ∧ r.2.sem = fun _ => 0)

def quiescent_DhFfnIdeal_pre_dh_ffn_finite [hDhFfnIdeal : Cert.DhFfnIdeal.Facts] [hPre_dh_ffn_finite : Cert.Pre_dh_ffn_finite.Facts] : Prop :=
  ∀ (m : (ℓ : Loc Cert.DhFfnIdeal.nD Cert.DhFfnIdeal.τ Cert.DhFfnIdeal.sig) → Buf (Elt Ideal) ℓ) (g : Dev Cert.DhFfnIdeal.nD → PrngReg), Pre_DhFfnIdeal_dh_ffn_finite m →
    θ_run (Cert.DhFfnIdeal.defs (F := Ideal)) (onTc (τ := Cert.DhFfnIdeal.τ) (Cert.DhFfnIdeal.main (F := Ideal))) ⟨m, fun _ => 0, g⟩ (fun r => (∀ c : Dev Cert.DhFfnIdeal.nD,
      r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
      ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1)
      ∧ r.2.mem ((c.tc : Thread Cert.DhFfnIdeal.nD Cert.DhFfnIdeal.τ).loc Cert.DhFfnIdeal.main_arg2) = m ((c.tc : Thread Cert.DhFfnIdeal.nD Cert.DhFfnIdeal.τ).loc Cert.DhFfnIdeal.main_arg2)
      ∧ r.2.mem ((c.tc : Thread Cert.DhFfnIdeal.nD Cert.DhFfnIdeal.τ).loc Cert.DhFfnIdeal.main_arg3) = m ((c.tc : Thread Cert.DhFfnIdeal.nD Cert.DhFfnIdeal.τ).loc Cert.DhFfnIdeal.main_arg3)
      ∧ r.2.mem ((c.tc : Thread Cert.DhFfnIdeal.nD Cert.DhFfnIdeal.τ).loc Cert.DhFfnIdeal.main_arg4) = m ((c.tc : Thread Cert.DhFfnIdeal.nD Cert.DhFfnIdeal.τ).loc Cert.DhFfnIdeal.main_arg4)
      ∧ r.2.mem ((c.tc : Thread Cert.DhFfnIdeal.nD Cert.DhFfnIdeal.τ).loc Cert.DhFfnIdeal.main_arg5) = m ((c.tc : Thread Cert.DhFfnIdeal.nD Cert.DhFfnIdeal.τ).loc Cert.DhFfnIdeal.main_arg5))
      ∧ r.2.sem = fun _ => 0)

def quiescent_DhFfnRefIdeal [hDhFfnRefIdeal : Cert.DhFfnRefIdeal.Facts] : Prop :=
  ∀ (m : (ℓ : Loc Cert.DhFfnRefIdeal.nD Cert.DhFfnRefIdeal.τ Cert.DhFfnRefIdeal.sig) → Buf (Elt Ideal) ℓ) (g : Dev Cert.DhFfnRefIdeal.nD → PrngReg), Pre_DhFfnRefIdeal m →
    θ_run (Cert.DhFfnRefIdeal.defs (F := Ideal)) (onTc (τ := Cert.DhFfnRefIdeal.τ) (Cert.DhFfnRefIdeal.main (F := Ideal))) ⟨m, fun _ => 0, g⟩ (fun r => (∀ c : Dev Cert.DhFfnRefIdeal.nD,
      r.2.mem ((c.tc : Thread Cert.DhFfnRefIdeal.nD Cert.DhFfnRefIdeal.τ).loc Cert.DhFfnRefIdeal.main_arg0) = m ((c.tc : Thread Cert.DhFfnRefIdeal.nD Cert.DhFfnRefIdeal.τ).loc Cert.DhFfnRefIdeal.main_arg0)
      ∧ r.2.mem ((c.tc : Thread Cert.DhFfnRefIdeal.nD Cert.DhFfnRefIdeal.τ).loc Cert.DhFfnRefIdeal.main_arg1) = m ((c.tc : Thread Cert.DhFfnRefIdeal.nD Cert.DhFfnRefIdeal.τ).loc Cert.DhFfnRefIdeal.main_arg1)
      ∧ r.2.mem ((c.tc : Thread Cert.DhFfnRefIdeal.nD Cert.DhFfnRefIdeal.τ).loc Cert.DhFfnRefIdeal.main_arg2) = m ((c.tc : Thread Cert.DhFfnRefIdeal.nD Cert.DhFfnRefIdeal.τ).loc Cert.DhFfnRefIdeal.main_arg2)
      ∧ r.2.mem ((c.tc : Thread Cert.DhFfnRefIdeal.nD Cert.DhFfnRefIdeal.τ).loc Cert.DhFfnRefIdeal.main_arg3) = m ((c.tc : Thread Cert.DhFfnRefIdeal.nD Cert.DhFfnRefIdeal.τ).loc Cert.DhFfnRefIdeal.main_arg3)
      ∧ r.2.mem ((c.tc : Thread Cert.DhFfnRefIdeal.nD Cert.DhFfnRefIdeal.τ).loc Cert.DhFfnRefIdeal.main_arg4) = m ((c.tc : Thread Cert.DhFfnRefIdeal.nD Cert.DhFfnRefIdeal.τ).loc Cert.DhFfnRefIdeal.main_arg4)
      ∧ r.2.mem ((c.tc : Thread Cert.DhFfnRefIdeal.nD Cert.DhFfnRefIdeal.τ).loc Cert.DhFfnRefIdeal.main_arg5) = m ((c.tc : Thread Cert.DhFfnRefIdeal.nD Cert.DhFfnRefIdeal.τ).loc Cert.DhFfnRefIdeal.main_arg5))
      ∧ r.2.sem = fun _ => 0)

def quiescent_DhFfnRefIdeal_pre_dh_ffn_finite [hDhFfnRefIdeal : Cert.DhFfnRefIdeal.Facts] [hPre_dh_ffn_finite : Cert.Pre_dh_ffn_finite.Facts] : Prop :=
  ∀ (m : (ℓ : Loc Cert.DhFfnRefIdeal.nD Cert.DhFfnRefIdeal.τ Cert.DhFfnRefIdeal.sig) → Buf (Elt Ideal) ℓ) (g : Dev Cert.DhFfnRefIdeal.nD → PrngReg), Pre_DhFfnRefIdeal_dh_ffn_finite m →
    θ_run (Cert.DhFfnRefIdeal.defs (F := Ideal)) (onTc (τ := Cert.DhFfnRefIdeal.τ) (Cert.DhFfnRefIdeal.main (F := Ideal))) ⟨m, fun _ => 0, g⟩ (fun r => (∀ c : Dev Cert.DhFfnRefIdeal.nD,
      r.2.mem ((c.tc : Thread Cert.DhFfnRefIdeal.nD Cert.DhFfnRefIdeal.τ).loc Cert.DhFfnRefIdeal.main_arg0) = m ((c.tc : Thread Cert.DhFfnRefIdeal.nD Cert.DhFfnRefIdeal.τ).loc Cert.DhFfnRefIdeal.main_arg0)
      ∧ r.2.mem ((c.tc : Thread Cert.DhFfnRefIdeal.nD Cert.DhFfnRefIdeal.τ).loc Cert.DhFfnRefIdeal.main_arg1) = m ((c.tc : Thread Cert.DhFfnRefIdeal.nD Cert.DhFfnRefIdeal.τ).loc Cert.DhFfnRefIdeal.main_arg1)
      ∧ r.2.mem ((c.tc : Thread Cert.DhFfnRefIdeal.nD Cert.DhFfnRefIdeal.τ).loc Cert.DhFfnRefIdeal.main_arg2) = m ((c.tc : Thread Cert.DhFfnRefIdeal.nD Cert.DhFfnRefIdeal.τ).loc Cert.DhFfnRefIdeal.main_arg2)
      ∧ r.2.mem ((c.tc : Thread Cert.DhFfnRefIdeal.nD Cert.DhFfnRefIdeal.τ).loc Cert.DhFfnRefIdeal.main_arg3) = m ((c.tc : Thread Cert.DhFfnRefIdeal.nD Cert.DhFfnRefIdeal.τ).loc Cert.DhFfnRefIdeal.main_arg3)
      ∧ r.2.mem ((c.tc : Thread Cert.DhFfnRefIdeal.nD Cert.DhFfnRefIdeal.τ).loc Cert.DhFfnRefIdeal.main_arg4) = m ((c.tc : Thread Cert.DhFfnRefIdeal.nD Cert.DhFfnRefIdeal.τ).loc Cert.DhFfnRefIdeal.main_arg4)
      ∧ r.2.mem ((c.tc : Thread Cert.DhFfnRefIdeal.nD Cert.DhFfnRefIdeal.τ).loc Cert.DhFfnRefIdeal.main_arg5) = m ((c.tc : Thread Cert.DhFfnRefIdeal.nD Cert.DhFfnRefIdeal.τ).loc Cert.DhFfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2)
      ∧ r.2.mem ((c.tc : Thread Cert.UpProj.nD Cert.UpProj.τ).loc Cert.UpProj.main_arg3) = m ((c.tc : Thread Cert.UpProj.nD Cert.UpProj.τ).loc Cert.UpProj.main_arg3))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2)
      ∧ r.2.mem ((c.tc : Thread Cert.Fold.nD Cert.Fold.τ).loc Cert.Fold.main_arg3) = m ((c.tc : Thread Cert.Fold.nD Cert.Fold.τ).loc Cert.Fold.main_arg3)
      ∧ r.2.mem ((c.tc : Thread Cert.Fold.nD Cert.Fold.τ).loc Cert.Fold.main_arg4) = m ((c.tc : Thread Cert.Fold.nD Cert.Fold.τ).loc Cert.Fold.main_arg4)
      ∧ r.2.mem ((c.tc : Thread Cert.Fold.nD Cert.Fold.τ).loc Cert.Fold.main_arg5) = m ((c.tc : Thread Cert.Fold.nD Cert.Fold.τ).loc Cert.Fold.main_arg5)
      ∧ r.2.mem ((c.tc : Thread Cert.Fold.nD Cert.Fold.τ).loc Cert.Fold.main_arg6) = m ((c.tc : Thread Cert.Fold.nD Cert.Fold.τ).loc Cert.Fold.main_arg6)
      ∧ r.2.mem ((c.tc : Thread Cert.Fold.nD Cert.Fold.τ).loc Cert.Fold.main_arg7) = m ((c.tc : Thread Cert.Fold.nD Cert.Fold.τ).loc Cert.Fold.main_arg7)
      ∧ r.2.mem ((c.tc : Thread Cert.Fold.nD Cert.Fold.τ).loc Cert.Fold.main_arg8) = m ((c.tc : Thread Cert.Fold.nD Cert.Fold.τ).loc Cert.Fold.main_arg8)
      ∧ r.2.mem ((c.tc : Thread Cert.Fold.nD Cert.Fold.τ).loc Cert.Fold.main_arg9) = m ((c.tc : Thread Cert.Fold.nD Cert.Fold.τ).loc Cert.Fold.main_arg9)
      ∧ r.2.mem ((c.tc : Thread Cert.Fold.nD Cert.Fold.τ).loc Cert.Fold.main_arg10) = m ((c.tc : Thread Cert.Fold.nD Cert.Fold.τ).loc Cert.Fold.main_arg10)
      ∧ r.2.mem ((c.tc : Thread Cert.Fold.nD Cert.Fold.τ).loc Cert.Fold.main_arg11) = m ((c.tc : Thread Cert.Fold.nD Cert.Fold.τ).loc Cert.Fold.main_arg11)
      ∧ r.2.mem ((c.tc : Thread Cert.Fold.nD Cert.Fold.τ).loc Cert.Fold.main_arg12) = m ((c.tc : Thread Cert.Fold.nD Cert.Fold.τ).loc Cert.Fold.main_arg12)
      ∧ r.2.mem ((c.tc : Thread Cert.Fold.nD Cert.Fold.τ).loc Cert.Fold.main_arg13) = m ((c.tc : Thread Cert.Fold.nD Cert.Fold.τ).loc Cert.Fold.main_arg13))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
      ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
      ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4)
      ∧ r.2.mem ((c.tc : Thread Cert.FoldIdeal.nD Cert.FoldIdeal.τ).loc Cert.FoldIdeal.main_arg5) = m ((c.tc : Thread Cert.FoldIdeal.nD Cert.FoldIdeal.τ).loc Cert.FoldIdeal.main_arg5)
      ∧ r.2.mem ((c.tc : Thread Cert.FoldIdeal.nD Cert.FoldIdeal.τ).loc Cert.FoldIdeal.main_arg6) = m ((c.tc : Thread Cert.FoldIdeal.nD Cert.FoldIdeal.τ).loc Cert.FoldIdeal.main_arg6)
      ∧ r.2.mem ((c.tc : Thread Cert.FoldIdeal.nD Cert.FoldIdeal.τ).loc Cert.FoldIdeal.main_arg7) = m ((c.tc : Thread Cert.FoldIdeal.nD Cert.FoldIdeal.τ).loc Cert.FoldIdeal.main_arg7)
      ∧ r.2.mem ((c.tc : Thread Cert.FoldIdeal.nD Cert.FoldIdeal.τ).loc Cert.FoldIdeal.main_arg8) = m ((c.tc : Thread Cert.FoldIdeal.nD Cert.FoldIdeal.τ).loc Cert.FoldIdeal.main_arg8)
      ∧ r.2.mem ((c.tc : Thread Cert.FoldIdeal.nD Cert.FoldIdeal.τ).loc Cert.FoldIdeal.main_arg9) = m ((c.tc : Thread Cert.FoldIdeal.nD Cert.FoldIdeal.τ).loc Cert.FoldIdeal.main_arg9)
      ∧ r.2.mem ((c.tc : Thread Cert.FoldIdeal.nD Cert.FoldIdeal.τ).loc Cert.FoldIdeal.main_arg10) = m ((c.tc : Thread Cert.FoldIdeal.nD Cert.FoldIdeal.τ).loc Cert.FoldIdeal.main_arg10)
      ∧ r.2.mem ((c.tc : Thread Cert.FoldIdeal.nD Cert.FoldIdeal.τ).loc Cert.FoldIdeal.main_arg11) = m ((c.tc : Thread Cert.FoldIdeal.nD Cert.FoldIdeal.τ).loc Cert.FoldIdeal.main_arg11)
      ∧ r.2.mem ((c.tc : Thread Cert.FoldIdeal.nD Cert.FoldIdeal.τ).loc Cert.FoldIdeal.main_arg12) = m ((c.tc : Thread Cert.FoldIdeal.nD Cert.FoldIdeal.τ).loc Cert.FoldIdeal.main_arg12)
      ∧ r.2.mem ((c.tc : Thread Cert.FoldIdeal.nD Cert.FoldIdeal.τ).loc Cert.FoldIdeal.main_arg13) = m ((c.tc : Thread Cert.FoldIdeal.nD Cert.FoldIdeal.τ).loc Cert.FoldIdeal.main_arg13))
      ∧ r.2.sem = fun _ => 0)

def quiescent_FoldRefIdeal [hFoldRefIdeal : Cert.FoldRefIdeal.Facts] : Prop :=
  ∀ (m : (ℓ : Loc Cert.FoldRefIdeal.nD Cert.FoldRefIdeal.τ Cert.FoldRefIdeal.sig) → Buf (Elt Ideal) ℓ) (g : Dev Cert.FoldRefIdeal.nD → PrngReg), Pre_FoldRefIdeal m →
    θ_run (Cert.FoldRefIdeal.defs (F := Ideal)) (onTc (τ := Cert.FoldRefIdeal.τ) (Cert.FoldRefIdeal.main (F := Ideal))) ⟨m, fun _ => 0, g⟩ (fun r => (∀ c : Dev Cert.FoldRefIdeal.nD,
      r.2.mem ((c.tc : Thread Cert.FoldRefIdeal.nD Cert.FoldRefIdeal.τ).loc Cert.FoldRefIdeal.main_arg0) = m ((c.tc : Thread Cert.FoldRefIdeal.nD Cert.FoldRefIdeal.τ).loc Cert.FoldRefIdeal.main_arg0)
      ∧ r.2.mem ((c.tc : Thread Cert.FoldRefIdeal.nD Cert.FoldRefIdeal.τ).loc Cert.FoldRefIdeal.main_arg1) = m ((c.tc : Thread Cert.FoldRefIdeal.nD Cert.FoldRefIdeal.τ).loc Cert.FoldRefIdeal.main_arg1)
      ∧ r.2.mem ((c.tc : Thread Cert.FoldRefIdeal.nD Cert.FoldRefIdeal.τ).loc Cert.FoldRefIdeal.main_arg2) = m ((c.tc : Thread Cert.FoldRefIdeal.nD Cert.FoldRefIdeal.τ).loc Cert.FoldRefIdeal.main_arg2)
      ∧ r.2.mem ((c.tc : Thread Cert.FoldRefIdeal.nD Cert.FoldRefIdeal.τ).loc Cert.FoldRefIdeal.main_arg3) = m ((c.tc : Thread Cert.FoldRefIdeal.nD Cert.FoldRefIdeal.τ).loc Cert.FoldRefIdeal.main_arg3)
      ∧ r.2.mem ((c.tc : Thread Cert.FoldRefIdeal.nD Cert.FoldRefIdeal.τ).loc Cert.FoldRefIdeal.main_arg4) = m ((c.tc : Thread Cert.FoldRefIdeal.nD Cert.FoldRefIdeal.τ).loc Cert.FoldRefIdeal.main_arg4)
      ∧ r.2.mem ((c.tc : Thread Cert.FoldRefIdeal.nD Cert.FoldRefIdeal.τ).loc Cert.FoldRefIdeal.main_arg5) = m ((c.tc : Thread Cert.FoldRefIdeal.nD Cert.FoldRefIdeal.τ).loc Cert.FoldRefIdeal.main_arg5)
      ∧ r.2.mem ((c.tc : Thread Cert.FoldRefIdeal.nD Cert.FoldRefIdeal.τ).loc Cert.FoldRefIdeal.main_arg6) = m ((c.tc : Thread Cert.FoldRefIdeal.nD Cert.FoldRefIdeal.τ).loc Cert.FoldRefIdeal.main_arg6)
      ∧ r.2.mem ((c.tc : Thread Cert.FoldRefIdeal.nD Cert.FoldRefIdeal.τ).loc Cert.FoldRefIdeal.main_arg7) = m ((c.tc : Thread Cert.FoldRefIdeal.nD Cert.FoldRefIdeal.τ).loc Cert.FoldRefIdeal.main_arg7)
      ∧ r.2.mem ((c.tc : Thread Cert.FoldRefIdeal.nD Cert.FoldRefIdeal.τ).loc Cert.FoldRefIdeal.main_arg8) = m ((c.tc : Thread Cert.FoldRefIdeal.nD Cert.FoldRefIdeal.τ).loc Cert.FoldRefIdeal.main_arg8)
      ∧ r.2.mem ((c.tc : Thread Cert.FoldRefIdeal.nD Cert.FoldRefIdeal.τ).loc Cert.FoldRefIdeal.main_arg9) = m ((c.tc : Thread Cert.FoldRefIdeal.nD Cert.FoldRefIdeal.τ).loc Cert.FoldRefIdeal.main_arg9)
      ∧ r.2.mem ((c.tc : Thread Cert.FoldRefIdeal.nD Cert.FoldRefIdeal.τ).loc Cert.FoldRefIdeal.main_arg10) = m ((c.tc : Thread Cert.FoldRefIdeal.nD Cert.FoldRefIdeal.τ).loc Cert.FoldRefIdeal.main_arg10)
      ∧ r.2.mem ((c.tc : Thread Cert.FoldRefIdeal.nD Cert.FoldRefIdeal.τ).loc Cert.FoldRefIdeal.main_arg11) = m ((c.tc : Thread Cert.FoldRefIdeal.nD Cert.FoldRefIdeal.τ).loc Cert.FoldRefIdeal.main_arg11)
      ∧ r.2.mem ((c.tc : Thread Cert.FoldRefIdeal.nD Cert.FoldRefIdeal.τ).loc Cert.FoldRefIdeal.main_arg12) = m ((c.tc : Thread Cert.FoldRefIdeal.nD Cert.FoldRefIdeal.τ).loc Cert.FoldRefIdeal.main_arg12)
      ∧ r.2.mem ((c.tc : Thread Cert.FoldRefIdeal.nD Cert.FoldRefIdeal.τ).loc Cert.FoldRefIdeal.main_arg13) = m ((c.tc : Thread Cert.FoldRefIdeal.nD Cert.FoldRefIdeal.τ).loc Cert.FoldRefIdeal.main_arg13))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v4) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_v36) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v28_0)) (v1 : (c : Dev Cert.FfnIdeal.nD) → Buf (Elt Ideal) ((c.tc : Thread Cert.FfnIdeal.nD Cert.FfnIdeal.τ).loc Cert.FfnIdeal.main_v28_1)) (v2 : (c : Dev Cert.FfnIdeal.nD) → Buf (Elt Ideal) ((c.tc : Thread Cert.FfnIdeal.nD Cert.FfnIdeal.τ).loc Cert.FfnIdeal.main_v28_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v28_0) = v0 c
          ∧ r.2.mem ((c.tc : Thread Cert.FfnIdeal.nD Cert.FfnIdeal.τ).loc Cert.FfnIdeal.main_v28_1) = v1 c
          ∧ r.2.mem ((c.tc : Thread Cert.FfnIdeal.nD Cert.FfnIdeal.τ).loc Cert.FfnIdeal.main_v28_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_v72) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_DhMix_DhMixIdeal : Prop :=
  True

def algebraic_DhMixIdeal_DhMixRefIdeal_pre_dh_mix_finite [hDhMixIdeal : Cert.DhMixIdeal.Facts] [hDhMixRefIdeal : Cert.DhMixRefIdeal.Facts] [hPre_dh_mix_finite : Cert.Pre_dh_mix_finite.Facts] : Prop :=
  ∀ (m : (ℓ : Loc Cert.DhMixIdeal.nD Cert.DhMixIdeal.τ Cert.DhMixIdeal.sig) → Buf (Elt Ideal) ℓ) (g : Dev Cert.DhMixIdeal.nD → PrngReg)
    (m' : (ℓ : Loc Cert.DhMixRefIdeal.nD Cert.DhMixRefIdeal.τ Cert.DhMixRefIdeal.sig) → Buf (Elt Ideal) ℓ) (g' : Dev Cert.DhMixRefIdeal.nD → PrngReg), Pre_DhMixIdeal_dh_mix_finite m →
    (∀ c : Dev Cert.DhMixIdeal.nD,
      m' ((c.tc : Thread Cert.DhMixRefIdeal.nD Cert.DhMixRefIdeal.τ).loc Cert.DhMixRefIdeal.main_arg0) = m ((c.tc : Thread Cert.DhMixIdeal.nD Cert.DhMixIdeal.τ).loc Cert.DhMixIdeal.main_arg0)
      ∧ m' ((c.tc : Thread Cert.DhMixRefIdeal.nD Cert.DhMixRefIdeal.τ).loc Cert.DhMixRefIdeal.main_arg1) = m ((c.tc : Thread Cert.DhMixIdeal.nD Cert.DhMixIdeal.τ).loc Cert.DhMixIdeal.main_arg1)
      ∧ m' ((c.tc : Thread Cert.DhMixRefIdeal.nD Cert.DhMixRefIdeal.τ).loc Cert.DhMixRefIdeal.main_arg2) = m ((c.tc : Thread Cert.DhMixIdeal.nD Cert.DhMixIdeal.τ).loc Cert.DhMixIdeal.main_arg2)
      ∧ m' ((c.tc : Thread Cert.DhMixRefIdeal.nD Cert.DhMixRefIdeal.τ).loc Cert.DhMixRefIdeal.main_arg3) = m ((c.tc : Thread Cert.DhMixIdeal.nD Cert.DhMixIdeal.τ).loc Cert.DhMixIdeal.main_arg3)
      ∧ m' ((c.tc : Thread Cert.DhMixRefIdeal.nD Cert.DhMixRefIdeal.τ).loc Cert.DhMixRefIdeal.main_arg4) = m ((c.tc : Thread Cert.DhMixIdeal.nD Cert.DhMixIdeal.τ).loc Cert.DhMixIdeal.main_arg4)
      ∧ m' ((c.tc : Thread Cert.DhMixRefIdeal.nD Cert.DhMixRefIdeal.τ).loc Cert.DhMixRefIdeal.main_arg5) = m ((c.tc : Thread Cert.DhMixIdeal.nD Cert.DhMixIdeal.τ).loc Cert.DhMixIdeal.main_arg5)) →
    ∃ (v0 : (c : Dev Cert.DhMixIdeal.nD) → Buf (Elt Ideal) ((c.tc : Thread Cert.DhMixIdeal.nD Cert.DhMixIdeal.τ).loc Cert.DhMixIdeal.main_v1_0)) (v1 : (c : Dev Cert.DhMixIdeal.nD) → Buf (Elt Ideal) ((c.tc : Thread Cert.DhMixIdeal.nD Cert.DhMixIdeal.τ).loc Cert.DhMixIdeal.main_v1_1)) (v2 : (c : Dev Cert.DhMixIdeal.nD) → Buf (Elt Ideal) ((c.tc : Thread Cert.DhMixIdeal.nD Cert.DhMixIdeal.τ).loc Cert.DhMixIdeal.main_v2)),
      θ_run (Cert.DhMixIdeal.defs (F := Ideal)) (onTc (τ := Cert.DhMixIdeal.τ) (Cert.DhMixIdeal.main (F := Ideal))) ⟨m, fun _ => 0, g⟩ (fun r => ∀ c : Dev Cert.DhMixIdeal.nD,
          r.2.mem ((c.tc : Thread Cert.DhMixIdeal.nD Cert.DhMixIdeal.τ).loc Cert.DhMixIdeal.main_v1_0) = v0 c
          ∧ r.2.mem ((c.tc : Thread Cert.DhMixIdeal.nD Cert.DhMixIdeal.τ).loc Cert.DhMixIdeal.main_v1_1) = v1 c
          ∧ r.2.mem ((c.tc : Thread Cert.DhMixIdeal.nD Cert.DhMixIdeal.τ).loc Cert.DhMixIdeal.main_v2) = v2 c
          ∧ r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
          ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
          ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2)
          ∧ r.2.mem ((c.tc : Thread Cert.DhMixIdeal.nD Cert.DhMixIdeal.τ).loc Cert.DhMixIdeal.main_arg3) = m ((c.tc : Thread Cert.DhMixIdeal.nD Cert.DhMixIdeal.τ).loc Cert.DhMixIdeal.main_arg3)
          ∧ r.2.mem ((c.tc : Thread Cert.DhMixIdeal.nD Cert.DhMixIdeal.τ).loc Cert.DhMixIdeal.main_arg4) = m ((c.tc : Thread Cert.DhMixIdeal.nD Cert.DhMixIdeal.τ).loc Cert.DhMixIdeal.main_arg4)
          ∧ r.2.mem ((c.tc : Thread Cert.DhMixIdeal.nD Cert.DhMixIdeal.τ).loc Cert.DhMixIdeal.main_arg5) = m ((c.tc : Thread Cert.DhMixIdeal.nD Cert.DhMixIdeal.τ).loc Cert.DhMixIdeal.main_arg5))
      ∧ θ_run (Cert.DhMixRefIdeal.defs (F := Ideal)) (onTc (τ := Cert.DhMixRefIdeal.τ) (Cert.DhMixRefIdeal.main (F := Ideal))) ⟨m', fun _ => 0, g'⟩ (fun r => ∀ c : Dev Cert.DhMixRefIdeal.nD,
          r.2.mem ((c.tc : Thread Cert.DhMixRefIdeal.nD Cert.DhMixRefIdeal.τ).loc Cert.DhMixRefIdeal.main_v43) = v0 c
          ∧ r.2.mem ((c.tc : Thread Cert.DhMixRefIdeal.nD Cert.DhMixRefIdeal.τ).loc Cert.DhMixRefIdeal.main_v44) = v1 c
          ∧ r.2.mem ((c.tc : Thread Cert.DhMixRefIdeal.nD Cert.DhMixRefIdeal.τ).loc Cert.DhMixRefIdeal.main_v28) = v2 c
          ∧ r.2.mem ((c.tc : Thread Cert.DhMixRefIdeal.nD Cert.DhMixRefIdeal.τ).loc Cert.DhMixRefIdeal.main_arg0) = m' ((c.tc : Thread Cert.DhMixRefIdeal.nD Cert.DhMixRefIdeal.τ).loc Cert.DhMixRefIdeal.main_arg0)
          ∧ r.2.mem ((c.tc : Thread Cert.DhMixRefIdeal.nD Cert.DhMixRefIdeal.τ).loc Cert.DhMixRefIdeal.main_arg1) = m' ((c.tc : Thread Cert.DhMixRefIdeal.nD Cert.DhMixRefIdeal.τ).loc Cert.DhMixRefIdeal.main_arg1)
          ∧ r.2.mem ((c.tc : Thread Cert.DhMixRefIdeal.nD Cert.DhMixRefIdeal.τ).loc Cert.DhMixRefIdeal.main_arg2) = m' ((c.tc : Thread Cert.DhMixRefIdeal.nD Cert.DhMixRefIdeal.τ).loc Cert.DhMixRefIdeal.main_arg2)
          ∧ r.2.mem ((c.tc : Thread Cert.DhMixRefIdeal.nD Cert.DhMixRefIdeal.τ).loc Cert.DhMixRefIdeal.main_arg3) = m' ((c.tc : Thread Cert.DhMixRefIdeal.nD Cert.DhMixRefIdeal.τ).loc Cert.DhMixRefIdeal.main_arg3)
          ∧ r.2.mem ((c.tc : Thread Cert.DhMixRefIdeal.nD Cert.DhMixRefIdeal.τ).loc Cert.DhMixRefIdeal.main_arg4) = m' ((c.tc : Thread Cert.DhMixRefIdeal.nD Cert.DhMixRefIdeal.τ).loc Cert.DhMixRefIdeal.main_arg4)
          ∧ r.2.mem ((c.tc : Thread Cert.DhMixRefIdeal.nD Cert.DhMixRefIdeal.τ).loc Cert.DhMixRefIdeal.main_arg5) = m' ((c.tc : Thread Cert.DhMixRefIdeal.nD Cert.DhMixRefIdeal.τ).loc Cert.DhMixRefIdeal.main_arg5))

def preserves_DhFfn_DhFfnIdeal : Prop :=
  True

def algebraic_DhFfnIdeal_DhFfnRefIdeal_pre_dh_ffn_finite [hDhFfnIdeal : Cert.DhFfnIdeal.Facts] [hDhFfnRefIdeal : Cert.DhFfnRefIdeal.Facts] [hPre_dh_ffn_finite : Cert.Pre_dh_ffn_finite.Facts] : Prop :=
  ∀ (m : (ℓ : Loc Cert.DhFfnIdeal.nD Cert.DhFfnIdeal.τ Cert.DhFfnIdeal.sig) → Buf (Elt Ideal) ℓ) (g : Dev Cert.DhFfnIdeal.nD → PrngReg)
    (m' : (ℓ : Loc Cert.DhFfnRefIdeal.nD Cert.DhFfnRefIdeal.τ Cert.DhFfnRefIdeal.sig) → Buf (Elt Ideal) ℓ) (g' : Dev Cert.DhFfnRefIdeal.nD → PrngReg), Pre_DhFfnIdeal_dh_ffn_finite m →
    (∀ c : Dev Cert.DhFfnIdeal.nD,
      m' ((c.tc : Thread Cert.DhFfnRefIdeal.nD Cert.DhFfnRefIdeal.τ).loc Cert.DhFfnRefIdeal.main_arg0) = m ((c.tc : Thread Cert.DhFfnIdeal.nD Cert.DhFfnIdeal.τ).loc Cert.DhFfnIdeal.main_arg0)
      ∧ m' ((c.tc : Thread Cert.DhFfnRefIdeal.nD Cert.DhFfnRefIdeal.τ).loc Cert.DhFfnRefIdeal.main_arg1) = m ((c.tc : Thread Cert.DhFfnIdeal.nD Cert.DhFfnIdeal.τ).loc Cert.DhFfnIdeal.main_arg1)
      ∧ m' ((c.tc : Thread Cert.DhFfnRefIdeal.nD Cert.DhFfnRefIdeal.τ).loc Cert.DhFfnRefIdeal.main_arg2) = m ((c.tc : Thread Cert.DhFfnIdeal.nD Cert.DhFfnIdeal.τ).loc Cert.DhFfnIdeal.main_arg2)
      ∧ m' ((c.tc : Thread Cert.DhFfnRefIdeal.nD Cert.DhFfnRefIdeal.τ).loc Cert.DhFfnRefIdeal.main_arg3) = m ((c.tc : Thread Cert.DhFfnIdeal.nD Cert.DhFfnIdeal.τ).loc Cert.DhFfnIdeal.main_arg3)
      ∧ m' ((c.tc : Thread Cert.DhFfnRefIdeal.nD Cert.DhFfnRefIdeal.τ).loc Cert.DhFfnRefIdeal.main_arg4) = m ((c.tc : Thread Cert.DhFfnIdeal.nD Cert.DhFfnIdeal.τ).loc Cert.DhFfnIdeal.main_arg4)
      ∧ m' ((c.tc : Thread Cert.DhFfnRefIdeal.nD Cert.DhFfnRefIdeal.τ).loc Cert.DhFfnRefIdeal.main_arg5) = m ((c.tc : Thread Cert.DhFfnIdeal.nD Cert.DhFfnIdeal.τ).loc Cert.DhFfnIdeal.main_arg5)) →
    ∃ (v0 : (c : Dev Cert.DhFfnIdeal.nD) → Buf (Elt Ideal) ((c.tc : Thread Cert.DhFfnIdeal.nD Cert.DhFfnIdeal.τ).loc Cert.DhFfnIdeal.main_v1_0)) (v1 : (c : Dev Cert.DhFfnIdeal.nD) → Buf (Elt Ideal) ((c.tc : Thread Cert.DhFfnIdeal.nD Cert.DhFfnIdeal.τ).loc Cert.DhFfnIdeal.main_v1_1)) (v2 : (c : Dev Cert.DhFfnIdeal.nD) → Buf (Elt Ideal) ((c.tc : Thread Cert.DhFfnIdeal.nD Cert.DhFfnIdeal.τ).loc Cert.DhFfnIdeal.main_v2)),
      θ_run (Cert.DhFfnIdeal.defs (F := Ideal)) (onTc (τ := Cert.DhFfnIdeal.τ) (Cert.DhFfnIdeal.main (F := Ideal))) ⟨m, fun _ => 0, g⟩ (fun r => ∀ c : Dev Cert.DhFfnIdeal.nD,
          r.2.mem ((c.tc : Thread Cert.DhFfnIdeal.nD Cert.DhFfnIdeal.τ).loc Cert.DhFfnIdeal.main_v1_0) = v0 c
          ∧ r.2.mem ((c.tc : Thread Cert.DhFfnIdeal.nD Cert.DhFfnIdeal.τ).loc Cert.DhFfnIdeal.main_v1_1) = v1 c
          ∧ r.2.mem ((c.tc : Thread Cert.DhFfnIdeal.nD Cert.DhFfnIdeal.τ).loc Cert.DhFfnIdeal.main_v2) = v2 c
          ∧ r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
          ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1)
          ∧ r.2.mem ((c.tc : Thread Cert.DhFfnIdeal.nD Cert.DhFfnIdeal.τ).loc Cert.DhFfnIdeal.main_arg2) = m ((c.tc : Thread Cert.DhFfnIdeal.nD Cert.DhFfnIdeal.τ).loc Cert.DhFfnIdeal.main_arg2)
          ∧ r.2.mem ((c.tc : Thread Cert.DhFfnIdeal.nD Cert.DhFfnIdeal.τ).loc Cert.DhFfnIdeal.main_arg3) = m ((c.tc : Thread Cert.DhFfnIdeal.nD Cert.DhFfnIdeal.τ).loc Cert.DhFfnIdeal.main_arg3)
          ∧ r.2.mem ((c.tc : Thread Cert.DhFfnIdeal.nD Cert.DhFfnIdeal.τ).loc Cert.DhFfnIdeal.main_arg4) = m ((c.tc : Thread Cert.DhFfnIdeal.nD Cert.DhFfnIdeal.τ).loc Cert.DhFfnIdeal.main_arg4)
          ∧ r.2.mem ((c.tc : Thread Cert.DhFfnIdeal.nD Cert.DhFfnIdeal.τ).loc Cert.DhFfnIdeal.main_arg5) = m ((c.tc : Thread Cert.DhFfnIdeal.nD Cert.DhFfnIdeal.τ).loc Cert.DhFfnIdeal.main_arg5))
      ∧ θ_run (Cert.DhFfnRefIdeal.defs (F := Ideal)) (onTc (τ := Cert.DhFfnRefIdeal.τ) (Cert.DhFfnRefIdeal.main (F := Ideal))) ⟨m', fun _ => 0, g'⟩ (fun r => ∀ c : Dev Cert.DhFfnRefIdeal.nD,
          r.2.mem ((c.tc : Thread Cert.DhFfnRefIdeal.nD Cert.DhFfnRefIdeal.τ).loc Cert.DhFfnRefIdeal.main_v46) = v0 c
          ∧ r.2.mem ((c.tc : Thread Cert.DhFfnRefIdeal.nD Cert.DhFfnRefIdeal.τ).loc Cert.DhFfnRefIdeal.main_v47) = v1 c
          ∧ r.2.mem ((c.tc : Thread Cert.DhFfnRefIdeal.nD Cert.DhFfnRefIdeal.τ).loc Cert.DhFfnRefIdeal.main_v31) = v2 c
          ∧ r.2.mem ((c.tc : Thread Cert.DhFfnRefIdeal.nD Cert.DhFfnRefIdeal.τ).loc Cert.DhFfnRefIdeal.main_arg0) = m' ((c.tc : Thread Cert.DhFfnRefIdeal.nD Cert.DhFfnRefIdeal.τ).loc Cert.DhFfnRefIdeal.main_arg0)
          ∧ r.2.mem ((c.tc : Thread Cert.DhFfnRefIdeal.nD Cert.DhFfnRefIdeal.τ).loc Cert.DhFfnRefIdeal.main_arg1) = m' ((c.tc : Thread Cert.DhFfnRefIdeal.nD Cert.DhFfnRefIdeal.τ).loc Cert.DhFfnRefIdeal.main_arg1)
          ∧ r.2.mem ((c.tc : Thread Cert.DhFfnRefIdeal.nD Cert.DhFfnRefIdeal.τ).loc Cert.DhFfnRefIdeal.main_arg2) = m' ((c.tc : Thread Cert.DhFfnRefIdeal.nD Cert.DhFfnRefIdeal.τ).loc Cert.DhFfnRefIdeal.main_arg2)
          ∧ r.2.mem ((c.tc : Thread Cert.DhFfnRefIdeal.nD Cert.DhFfnRefIdeal.τ).loc Cert.DhFfnRefIdeal.main_arg3) = m' ((c.tc : Thread Cert.DhFfnRefIdeal.nD Cert.DhFfnRefIdeal.τ).loc Cert.DhFfnRefIdeal.main_arg3)
          ∧ r.2.mem ((c.tc : Thread Cert.DhFfnRefIdeal.nD Cert.DhFfnRefIdeal.τ).loc Cert.DhFfnRefIdeal.main_arg4) = m' ((c.tc : Thread Cert.DhFfnRefIdeal.nD Cert.DhFfnRefIdeal.τ).loc Cert.DhFfnRefIdeal.main_arg4)
          ∧ r.2.mem ((c.tc : Thread Cert.DhFfnRefIdeal.nD Cert.DhFfnRefIdeal.τ).loc Cert.DhFfnRefIdeal.main_arg5) = m' ((c.tc : Thread Cert.DhFfnRefIdeal.nD Cert.DhFfnRefIdeal.τ).loc Cert.DhFfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)
      ∧ m' ((c.tc : Thread Cert.UpProjRefIdeal.nD Cert.UpProjRefIdeal.τ).loc Cert.UpProjRefIdeal.main_arg3) = m ((c.tc : Thread Cert.UpProjIdeal.nD Cert.UpProjIdeal.τ).loc Cert.UpProjIdeal.main_arg3)) →
    ∃ (v0 : (c : Dev Cert.UpProjIdeal.nD) → Buf (Elt Ideal) ((c.tc : Thread Cert.UpProjIdeal.nD Cert.UpProjIdeal.τ).loc Cert.UpProjIdeal.main_v1_0)) (v1 : (c : Dev Cert.UpProjIdeal.nD) → Buf (Elt Ideal) ((c.tc : Thread Cert.UpProjIdeal.nD Cert.UpProjIdeal.τ).loc Cert.UpProjIdeal.main_v1_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v1_0) = v0 c
          ∧ r.2.mem ((c.tc : Thread Cert.UpProjIdeal.nD Cert.UpProjIdeal.τ).loc Cert.UpProjIdeal.main_v1_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
          ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v16) = v0 c
          ∧ r.2.mem ((c.tc : Thread Cert.UpProjRefIdeal.nD Cert.UpProjRefIdeal.τ).loc Cert.UpProjRefIdeal.main_v17) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2)
          ∧ r.2.mem ((c.tc : Thread Cert.UpProjRefIdeal.nD Cert.UpProjRefIdeal.τ).loc Cert.UpProjRefIdeal.main_arg3) = m' ((c.tc : Thread Cert.UpProjRefIdeal.nD Cert.UpProjRefIdeal.τ).loc Cert.UpProjRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v12) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v6) = v0 c
          ∧ r.2.mem ((c.tc : Thread Cert.AdamwRefIdeal.nD Cert.AdamwRefIdeal.τ).loc Cert.AdamwRefIdeal.main_v30) = v1 c
          ∧ r.2.mem ((c.tc : Thread Cert.AdamwRefIdeal.nD Cert.AdamwRefIdeal.τ).loc Cert.AdamwRefIdeal.main_v11) = v2 c
          ∧ r.2.mem ((c.tc : Thread Cert.AdamwRefIdeal.nD Cert.AdamwRefIdeal.τ).loc Cert.AdamwRefIdeal.main_v17) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5))

def preserves_Fold_FoldIdeal : Prop :=
  True

def algebraic_FoldIdeal_FoldRefIdeal [hFoldIdeal : Cert.FoldIdeal.Facts] [hFoldRefIdeal : Cert.FoldRefIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldRefIdeal.nD Cert.FoldRefIdeal.τ Cert.FoldRefIdeal.sig) → Buf (Elt Ideal) ℓ) (g' : Dev Cert.FoldRefIdeal.nD → PrngReg), Pre_FoldIdeal m →
    (∀ c : Dev Cert.FoldIdeal.nD,
      m' ((c.tc : Thread Cert.FoldRefIdeal.nD Cert.FoldRefIdeal.τ).loc Cert.FoldRefIdeal.main_arg0) = m ((c.tc : Thread Cert.FoldIdeal.nD Cert.FoldIdeal.τ).loc Cert.FoldIdeal.main_arg0)
      ∧ m' ((c.tc : Thread Cert.FoldRefIdeal.nD Cert.FoldRefIdeal.τ).loc Cert.FoldRefIdeal.main_arg1) = m ((c.tc : Thread Cert.FoldIdeal.nD Cert.FoldIdeal.τ).loc Cert.FoldIdeal.main_arg1)
      ∧ m' ((c.tc : Thread Cert.FoldRefIdeal.nD Cert.FoldRefIdeal.τ).loc Cert.FoldRefIdeal.main_arg2) = m ((c.tc : Thread Cert.FoldIdeal.nD Cert.FoldIdeal.τ).loc Cert.FoldIdeal.main_arg2)
      ∧ m' ((c.tc : Thread Cert.FoldRefIdeal.nD Cert.FoldRefIdeal.τ).loc Cert.FoldRefIdeal.main_arg3) = m ((c.tc : Thread Cert.FoldIdeal.nD Cert.FoldIdeal.τ).loc Cert.FoldIdeal.main_arg3)
      ∧ m' ((c.tc : Thread Cert.FoldRefIdeal.nD Cert.FoldRefIdeal.τ).loc Cert.FoldRefIdeal.main_arg4) = m ((c.tc : Thread Cert.FoldIdeal.nD Cert.FoldIdeal.τ).loc Cert.FoldIdeal.main_arg4)
      ∧ m' ((c.tc : Thread Cert.FoldRefIdeal.nD Cert.FoldRefIdeal.τ).loc Cert.FoldRefIdeal.main_arg5) = m ((c.tc : Thread Cert.FoldIdeal.nD Cert.FoldIdeal.τ).loc Cert.FoldIdeal.main_arg5)
      ∧ m' ((c.tc : Thread Cert.FoldRefIdeal.nD Cert.FoldRefIdeal.τ).loc Cert.FoldRefIdeal.main_arg6) = m ((c.tc : Thread Cert.FoldIdeal.nD Cert.FoldIdeal.τ).loc Cert.FoldIdeal.main_arg6)
      ∧ m' ((c.tc : Thread Cert.FoldRefIdeal.nD Cert.FoldRefIdeal.τ).loc Cert.FoldRefIdeal.main_arg7) = m ((c.tc : Thread Cert.FoldIdeal.nD Cert.FoldIdeal.τ).loc Cert.FoldIdeal.main_arg7)
      ∧ m' ((c.tc : Thread Cert.FoldRefIdeal.nD Cert.FoldRefIdeal.τ).loc Cert.FoldRefIdeal.main_arg8) = m ((c.tc : Thread Cert.FoldIdeal.nD Cert.FoldIdeal.τ).loc Cert.FoldIdeal.main_arg8)
      ∧ m' ((c.tc : Thread Cert.FoldRefIdeal.nD Cert.FoldRefIdeal.τ).loc Cert.FoldRefIdeal.main_arg9) = m ((c.tc : Thread Cert.FoldIdeal.nD Cert.FoldIdeal.τ).loc Cert.FoldIdeal.main_arg9)
      ∧ m' ((c.tc : Thread Cert.FoldRefIdeal.nD Cert.FoldRefIdeal.τ).loc Cert.FoldRefIdeal.main_arg10) = m ((c.tc : Thread Cert.FoldIdeal.nD Cert.FoldIdeal.τ).loc Cert.FoldIdeal.main_arg10)
      ∧ m' ((c.tc : Thread Cert.FoldRefIdeal.nD Cert.FoldRefIdeal.τ).loc Cert.FoldRefIdeal.main_arg11) = m ((c.tc : Thread Cert.FoldIdeal.nD Cert.FoldIdeal.τ).loc Cert.FoldIdeal.main_arg11)
      ∧ m' ((c.tc : Thread Cert.FoldRefIdeal.nD Cert.FoldRefIdeal.τ).loc Cert.FoldRefIdeal.main_arg12) = m ((c.tc : Thread Cert.FoldIdeal.nD Cert.FoldIdeal.τ).loc Cert.FoldIdeal.main_arg12)
      ∧ m' ((c.tc : Thread Cert.FoldRefIdeal.nD Cert.FoldRefIdeal.τ).loc Cert.FoldRefIdeal.main_arg13) = m ((c.tc : Thread Cert.FoldIdeal.nD Cert.FoldIdeal.τ).loc Cert.FoldIdeal.main_arg13)) →
    ∃ (v0 : (c : Dev Cert.FoldIdeal.nD) → Buf (Elt Ideal) ((c.tc : Thread Cert.FoldIdeal.nD Cert.FoldIdeal.τ).loc Cert.FoldIdeal.main_v0)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v0) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
          ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
          ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4)
          ∧ r.2.mem ((c.tc : Thread Cert.FoldIdeal.nD Cert.FoldIdeal.τ).loc Cert.FoldIdeal.main_arg5) = m ((c.tc : Thread Cert.FoldIdeal.nD Cert.FoldIdeal.τ).loc Cert.FoldIdeal.main_arg5)
          ∧ r.2.mem ((c.tc : Thread Cert.FoldIdeal.nD Cert.FoldIdeal.τ).loc Cert.FoldIdeal.main_arg6) = m ((c.tc : Thread Cert.FoldIdeal.nD Cert.FoldIdeal.τ).loc Cert.FoldIdeal.main_arg6)
          ∧ r.2.mem ((c.tc : Thread Cert.FoldIdeal.nD Cert.FoldIdeal.τ).loc Cert.FoldIdeal.main_arg7) = m ((c.tc : Thread Cert.FoldIdeal.nD Cert.FoldIdeal.τ).loc Cert.FoldIdeal.main_arg7)
          ∧ r.2.mem ((c.tc : Thread Cert.FoldIdeal.nD Cert.FoldIdeal.τ).loc Cert.FoldIdeal.main_arg8) = m ((c.tc : Thread Cert.FoldIdeal.nD Cert.FoldIdeal.τ).loc Cert.FoldIdeal.main_arg8)
          ∧ r.2.mem ((c.tc : Thread Cert.FoldIdeal.nD Cert.FoldIdeal.τ).loc Cert.FoldIdeal.main_arg9) = m ((c.tc : Thread Cert.FoldIdeal.nD Cert.FoldIdeal.τ).loc Cert.FoldIdeal.main_arg9)
          ∧ r.2.mem ((c.tc : Thread Cert.FoldIdeal.nD Cert.FoldIdeal.τ).loc Cert.FoldIdeal.main_arg10) = m ((c.tc : Thread Cert.FoldIdeal.nD Cert.FoldIdeal.τ).loc Cert.FoldIdeal.main_arg10)
          ∧ r.2.mem ((c.tc : Thread Cert.FoldIdeal.nD Cert.FoldIdeal.τ).loc Cert.FoldIdeal.main_arg11) = m ((c.tc : Thread Cert.FoldIdeal.nD Cert.FoldIdeal.τ).loc Cert.FoldIdeal.main_arg11)
          ∧ r.2.mem ((c.tc : Thread Cert.FoldIdeal.nD Cert.FoldIdeal.τ).loc Cert.FoldIdeal.main_arg12) = m ((c.tc : Thread Cert.FoldIdeal.nD Cert.FoldIdeal.τ).loc Cert.FoldIdeal.main_arg12)
          ∧ r.2.mem ((c.tc : Thread Cert.FoldIdeal.nD Cert.FoldIdeal.τ).loc Cert.FoldIdeal.main_arg13) = m ((c.tc : Thread Cert.FoldIdeal.nD Cert.FoldIdeal.τ).loc Cert.FoldIdeal.main_arg13))
      ∧ θ_run (Cert.FoldRefIdeal.defs (F := Ideal)) (onTc (τ := Cert.FoldRefIdeal.τ) (Cert.FoldRefIdeal.main (F := Ideal))) ⟨m', fun _ => 0, g'⟩ (fun r => ∀ c : Dev Cert.FoldRefIdeal.nD,
          r.2.mem ((c.tc : Thread Cert.FoldRefIdeal.nD Cert.FoldRefIdeal.τ).loc Cert.FoldRefIdeal.main_v15) = v0 c
          ∧ r.2.mem ((c.tc : Thread Cert.FoldRefIdeal.nD Cert.FoldRefIdeal.τ).loc Cert.FoldRefIdeal.main_arg0) = m' ((c.tc : Thread Cert.FoldRefIdeal.nD Cert.FoldRefIdeal.τ).loc Cert.FoldRefIdeal.main_arg0)
          ∧ r.2.mem ((c.tc : Thread Cert.FoldRefIdeal.nD Cert.FoldRefIdeal.τ).loc Cert.FoldRefIdeal.main_arg1) = m' ((c.tc : Thread Cert.FoldRefIdeal.nD Cert.FoldRefIdeal.τ).loc Cert.FoldRefIdeal.main_arg1)
          ∧ r.2.mem ((c.tc : Thread Cert.FoldRefIdeal.nD Cert.FoldRefIdeal.τ).loc Cert.FoldRefIdeal.main_arg2) = m' ((c.tc : Thread Cert.FoldRefIdeal.nD Cert.FoldRefIdeal.τ).loc Cert.FoldRefIdeal.main_arg2)
          ∧ r.2.mem ((c.tc : Thread Cert.FoldRefIdeal.nD Cert.FoldRefIdeal.τ).loc Cert.FoldRefIdeal.main_arg3) = m' ((c.tc : Thread Cert.FoldRefIdeal.nD Cert.FoldRefIdeal.τ).loc Cert.FoldRefIdeal.main_arg3)
          ∧ r.2.mem ((c.tc : Thread Cert.FoldRefIdeal.nD Cert.FoldRefIdeal.τ).loc Cert.FoldRefIdeal.main_arg4) = m' ((c.tc : Thread Cert.FoldRefIdeal.nD Cert.FoldRefIdeal.τ).loc Cert.FoldRefIdeal.main_arg4)
          ∧ r.2.mem ((c.tc : Thread Cert.FoldRefIdeal.nD Cert.FoldRefIdeal.τ).loc Cert.FoldRefIdeal.main_arg5) = m' ((c.tc : Thread Cert.FoldRefIdeal.nD Cert.FoldRefIdeal.τ).loc Cert.FoldRefIdeal.main_arg5)
          ∧ r.2.mem ((c.tc : Thread Cert.FoldRefIdeal.nD Cert.FoldRefIdeal.τ).loc Cert.FoldRefIdeal.main_arg6) = m' ((c.tc : Thread Cert.FoldRefIdeal.nD Cert.FoldRefIdeal.τ).loc Cert.FoldRefIdeal.main_arg6)
          ∧ r.2.mem ((c.tc : Thread Cert.FoldRefIdeal.nD Cert.FoldRefIdeal.τ).loc Cert.FoldRefIdeal.main_arg7) = m' ((c.tc : Thread Cert.FoldRefIdeal.nD Cert.FoldRefIdeal.τ).loc Cert.FoldRefIdeal.main_arg7)
          ∧ r.2.mem ((c.tc : Thread Cert.FoldRefIdeal.nD Cert.FoldRefIdeal.τ).loc Cert.FoldRefIdeal.main_arg8) = m' ((c.tc : Thread Cert.FoldRefIdeal.nD Cert.FoldRefIdeal.τ).loc Cert.FoldRefIdeal.main_arg8)
          ∧ r.2.mem ((c.tc : Thread Cert.FoldRefIdeal.nD Cert.FoldRefIdeal.τ).loc Cert.FoldRefIdeal.main_arg9) = m' ((c.tc : Thread Cert.FoldRefIdeal.nD Cert.FoldRefIdeal.τ).loc Cert.FoldRefIdeal.main_arg9)
          ∧ r.2.mem ((c.tc : Thread Cert.FoldRefIdeal.nD Cert.FoldRefIdeal.τ).loc Cert.FoldRefIdeal.main_arg10) = m' ((c.tc : Thread Cert.FoldRefIdeal.nD Cert.FoldRefIdeal.τ).loc Cert.FoldRefIdeal.main_arg10)
          ∧ r.2.mem ((c.tc : Thread Cert.FoldRefIdeal.nD Cert.FoldRefIdeal.τ).loc Cert.FoldRefIdeal.main_arg11) = m' ((c.tc : Thread Cert.FoldRefIdeal.nD Cert.FoldRefIdeal.τ).loc Cert.FoldRefIdeal.main_arg11)
          ∧ r.2.mem ((c.tc : Thread Cert.FoldRefIdeal.nD Cert.FoldRefIdeal.τ).loc Cert.FoldRefIdeal.main_arg12) = m' ((c.tc : Thread Cert.FoldRefIdeal.nD Cert.FoldRefIdeal.τ).loc Cert.FoldRefIdeal.main_arg12)
          ∧ r.2.mem ((c.tc : Thread Cert.FoldRefIdeal.nD Cert.FoldRefIdeal.τ).loc Cert.FoldRefIdeal.main_arg13) = m' ((c.tc : Thread Cert.FoldRefIdeal.nD Cert.FoldRefIdeal.τ).loc Cert.FoldRefIdeal.main_arg13))

def Claim : Prop :=
  ∃ (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hDhMix : Cert.DhMix.Facts) (hDhMixIdeal : Cert.DhMixIdeal.Facts) (hDhMixRefIdeal : Cert.DhMixRefIdeal.Facts) (hDhFfn : Cert.DhFfn.Facts) (hDhFfnIdeal : Cert.DhFfnIdeal.Facts) (hDhFfnRefIdeal : Cert.DhFfnRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hDwUp : Cert.DwUp.Facts) (hDwUpIdeal : Cert.DwUpIdeal.Facts) (hDwUpRefIdeal : Cert.DwUpRefIdeal.Facts) (hAdamw : Cert.Adamw.Facts) (hAdamwIdeal : Cert.AdamwIdeal.Facts) (hAdamwRefIdeal : Cert.AdamwRefIdeal.Facts) (hFold : Cert.Fold.Facts) (hFoldIdeal : Cert.FoldIdeal.Facts) (hFoldRefIdeal : Cert.FoldRefIdeal.Facts) (hPre_loss_finite : Cert.Pre_loss_finite.Facts) (hPre_ffn_finite : Cert.Pre_ffn_finite.Facts) (hPre_dh_mix_finite : Cert.Pre_dh_mix_finite.Facts) (hPre_dh_ffn_finite : Cert.Pre_dh_ffn_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_DhMix (hDhMix := hDhMix)
    ∧ quiescent_DhMixIdeal (hDhMixIdeal := hDhMixIdeal)
    ∧ quiescent_DhMixIdeal_pre_dh_mix_finite (hDhMixIdeal := hDhMixIdeal) (hPre_dh_mix_finite := hPre_dh_mix_finite)
    ∧ quiescent_DhMixRefIdeal (hDhMixRefIdeal := hDhMixRefIdeal)
    ∧ quiescent_DhMixRefIdeal_pre_dh_mix_finite (hDhMixRefIdeal := hDhMixRefIdeal) (hPre_dh_mix_finite := hPre_dh_mix_finite)
    ∧ quiescent_DhFfn (hDhFfn := hDhFfn)
    ∧ quiescent_DhFfnIdeal (hDhFfnIdeal := hDhFfnIdeal)
    ∧ quiescent_DhFfnIdeal_pre_dh_ffn_finite (hDhFfnIdeal := hDhFfnIdeal) (hPre_dh_ffn_finite := hPre_dh_ffn_finite)
    ∧ quiescent_DhFfnRefIdeal (hDhFfnRefIdeal := hDhFfnRefIdeal)
    ∧ quiescent_DhFfnRefIdeal_pre_dh_ffn_finite (hDhFfnRefIdeal := hDhFfnRefIdeal) (hPre_dh_ffn_finite := hPre_dh_ffn_finite)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Fold (hFold := hFold)
    ∧ quiescent_FoldIdeal (hFoldIdeal := hFoldIdeal)
    ∧ quiescent_FoldRefIdeal (hFoldRefIdeal := hFoldRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_DhMix_DhMixIdeal
    ∧ algebraic_DhMixIdeal_DhMixRefIdeal_pre_dh_mix_finite (hDhMixIdeal := hDhMixIdeal) (hDhMixRefIdeal := hDhMixRefIdeal) (hPre_dh_mix_finite := hPre_dh_mix_finite)
    ∧ preserves_DhFfn_DhFfnIdeal
    ∧ algebraic_DhFfnIdeal_DhFfnRefIdeal_pre_dh_ffn_finite (hDhFfnIdeal := hDhFfnIdeal) (hDhFfnRefIdeal := hDhFfnRefIdeal) (hPre_dh_ffn_finite := hPre_dh_ffn_finite)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_DwUp_DwUpIdeal
    ∧ algebraic_DwUpIdeal_DwUpRefIdeal (hDwUpIdeal := hDwUpIdeal) (hDwUpRefIdeal := hDwUpRefIdeal)
    ∧ preserves_Adamw_AdamwIdeal
    ∧ algebraic_AdamwIdeal_AdamwRefIdeal (hAdamwIdeal := hAdamwIdeal) (hAdamwRefIdeal := hAdamwRefIdeal)
    ∧ preserves_Fold_FoldIdeal
    ∧ algebraic_FoldIdeal_FoldRefIdeal (hFoldIdeal := hFoldIdeal) (hFoldRefIdeal := hFoldRefIdeal)
-- ==== Pre_dh_ffn_finite.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S8x128 : Shape := ⟨2, ![8, 128]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S2x4096x2816 .bf16) (main_arg1 : FVec F S5632x1024 .bf16) (main_arg2 : FVec F S4096x1024 .f32) (main_arg3 : FVec F S1024 .f32) (main_arg4 : FVec F S4096x1024 .f32) (main_arg5 : FVec F S8x128 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_dh_mix_finite.lean ====
abbrev S1x4096x2560 : Shape := ⟨3, ![1, 4096, 2560]⟩
abbrev S2560x1024 : Shape := ⟨2, ![2560, 1024]⟩
abbrev S4096x1024 : Shape := ⟨2, ![4096, 1024]⟩
abbrev S1024 : Shape := ⟨1, ![1024]⟩
abbrev S8x128 : Shape := ⟨2, ![8, 128]⟩
abbrev S_ : Shape := ⟨0, ![]⟩

class Facts : Prop where
  bitsLt_bf16_f32 : FTy.bits .bf16 < FTy.bits .f32
  bcast_S_S1x4096x2560 : S_.BroadcastsInDim S1x4096x2560 (![] : Fin 0 → Fin S1x4096x2560.rank)
  reducesTo_S1x4096x2560_S_d0_1_2 : S1x4096x2560.ReducesTo [0, 1, 2] S_
  h_S_ : 0 < S_.numel
  bcast_S_S2560x1024 : S_.BroadcastsInDim S2560x1024 (![] : Fin 0 → Fin S2560x1024.rank)
  reducesTo_S2560x1024_S_d0_1 : S2560x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S1x4096x2560 .bf16) (main_arg1 : FVec F S2560x1024 .bf16) (main_arg2 : FVec F S4096x1024 .f32) (main_arg3 : FVec F S1024 .f32) (main_arg4 : FVec F S4096x1024 .f32) (main_arg5 : FVec F S8x128 .f32) : IVec S_ 1 :=
  let main_v0 : FVec F S1x4096x2560 .f32 := (extf .f32 · bitsLt_bf16_f32) main_arg0
  let main_v1 : FVec F S1x4096x2560 .f32 := Host.absf main_v0
  let main_cst : FVec F S_ .f32 := constant S_ .f32 0x7F800000#32
  let main_v2 : FVec F S1x4096x2560 .f32 := broadcastInDim S1x4096x2560 ![] bcast_S_S1x4096x2560 main_cst
  let main_v3 : IVec S1x4096x2560 1 := cmpf .olt main_v1 main_v2
  let main_c : IVec S_ 1 := constantI S_ 1 1#1
  let main_v4 : IVec S_ 1 := (fun x v => Host.reduce IntOp.andi x v reducesTo_S1x4096x2560_S_d0_1_2 h_S_) main_v3 main_c
  let main_v5 : FVec F S2560x1024 .f32 := (extf .f32 · bitsLt_bf16_f32) main_arg1
  let main_v6 : FVec F S2560x1024 .f32 := Host.absf main_v5
  let main_cst_0 : FVec F S_ .f32 := constant S_ .f32 0x7F800000#32
  let main_v7 : FVec F S2560x1024 .f32 := broadcastInDim S2560x1024 ![] bcast_S_S2560x1024 main_cst_0
  let main_v8 : IVec S2560x1024 1 := cmpf .olt main_v6 main_v7
  let main_c_1 : IVec S_ 1 := constantI S_ 1 1#1
  let main_v9 : IVec S_ 1 := (fun x v => Host.reduce IntOp.andi x v reducesTo_S2560x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_ffn_finite.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v15 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v15 main_v20
  main_v21

def fn {F : FTy → Type} [FloatOps F] (main_arg0 : FVec F S4096x5632 .bf16) (main_arg1 : FVec F S3x5632 .f32) (main_arg2 : FVec F S2816x1024 .bf16) (main_arg3 : FVec F S4096x1024 .bf16) (main_arg4 : FVec F S8x128 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S3x5632 .f32 := Host.absf main_arg1
  let main_cst_0 : FVec F S_ .f32 := constant S_ .f32 0x7F800000#32
  let main_v6 : FVec F S3x5632 .f32 := broadcastInDim S3x5632 ![] bcast_S_S3x5632 main_cst_0
  let main_v7 : IVec S3x5632 1 := cmpf .olt main_v5 main_v6
  let main_c_1 : IVec S_ 1 := constantI S_ 1 1#1
  let main_v8 : IVec S_ 1 := (fun x v => Host.reduce IntOp.andi x v reducesTo_S3x5632_S_d0_1 h_S_) main_v7 main_c_1
  let main_v9 : IVec S_ 1 := andi main_v4 main_v8
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  let main_v16 : FVec F S4096x1024 .f32 := (extf .f32 · bitsLt_bf16_f32) main_arg3
  let main_v17 : FVec F S4096x1024 .f32 := Host.absf main_v16
  fn_part1 (F := F) main_v15 main_v17
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Loss.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S64x1024 : Shape := ⟨2, ![64, 1024]⟩
abbrev S64 : Shape := ⟨1, ![64]⟩
abbrev S64x1 : Shape := ⟨2, ![64, 1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c64_i32 : BitVec 32 := 64#32
  let v4 : BitVec 32 := Scalar.muli arg8 c64_i32
  v4
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c64_i32 : BitVec 32 := 64#32
  let v4 : BitVec 32 := Scalar.muli arg8 c64_i32
  let v5 : BitVec 32 := v4
  let v6 : Index := Scalar.indexCast v5
  let c0 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Ffn.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S2x4096x2816 : Shape := ⟨3, ![2, 4096, 2816]⟩
abbrev S3x2816 : Shape := ⟨2, ![3, 2816]⟩
abbrev S512x1024 : Shape := ⟨2, ![512, 1024]⟩
abbrev S512x1408 : Shape := ⟨2, ![512, 1408]⟩
abbrev S3x1408 : Shape := ⟨2, ![3, 1408]⟩
abbrev S1408x1024 : Shape := ⟨2, ![1408, 1024]⟩
abbrev S2x512x1408 : Shape := ⟨3, ![2, 512, 1408]⟩
abbrev S520x1408 : Shape := ⟨2, ![520, 1408]⟩
abbrev S24x1408 : Shape := ⟨2, ![24, 1408]⟩
abbrev S8x1408 : Shape := ⟨2, ![8, 1408]⟩
abbrev S1x1408 : Shape := ⟨2, ![1, 1408]⟩
abbrev S64x1408 : Shape := ⟨2, ![64, 1408]⟩
abbrev S64x128 : Shape := ⟨2, ![64, 128]⟩
abbrev S1x512x1408 : Shape := ⟨3, ![1, 512, 1408]⟩
abbrev S1x64x128 : Shape := ⟨3, ![1, 64, 128]⟩
abbrev S1408 : Shape := ⟨1, ![1408]⟩

abbrev nBuf : Space → Nat
  | .hbm => 38
  | .vmem => 29
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S2816x1024, .bf16⟩
  | .hbm, ⟨3, _⟩ => ⟨S4096x1024, .bf16⟩
  | .hbm, ⟨4, _⟩ => ⟨S8x128, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | .hbm, ⟨33, _⟩ => ⟨S4096x2816, .bf16⟩
  | .hbm, ⟨34, _⟩ => ⟨S4096x2816, .bf16⟩
  | .hbm, ⟨35, _⟩ => ⟨S2x4096x2816, .bf16⟩
  | .hbm, ⟨36, _⟩ => ⟨S3x2816, .f32⟩
  | .hbm, ⟨37, _⟩ => ⟨S3x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1408x1024, .bf16⟩
  | .local _ .vmem, ⟨15, _⟩ => ⟨S1408x1024, .bf16⟩
  | .local _ .vmem, ⟨16, _⟩ => ⟨S2x512x1408, .bf16⟩
  | .local _ .vmem, ⟨17, _⟩ => ⟨S2x512x1408, .bf16⟩
  | .local _ .vmem, ⟨18, _⟩ => ⟨S3x1408, .f32⟩
  | .local _ .vmem, ⟨19, _⟩ => ⟨S3x1408, .f32⟩
  | .local _ .vmem, ⟨20, _⟩ => ⟨S3x1408, .f32⟩
  | .local _ .vmem, ⟨21, _⟩ => ⟨S3x1408, .f32⟩
  | .local _ .vmem, ⟨22, _⟩ => ⟨S512x1408, .f32⟩
  | .local _ .vmem, ⟨23, _⟩ => ⟨S520x1408, .f32⟩
  | .local _ .vmem, ⟨24, _⟩ => ⟨S520x1408, .f32⟩
  | .local _ .vmem, ⟨25, _⟩ => ⟨S24x1408, .f32⟩
  | .local _ .vmem, ⟨26, _⟩ => ⟨S24x1408, .f32⟩
  | .local _ .vmem, ⟨27, _⟩ => ⟨S24x1408, .f32⟩
  | .local _ .vmem, ⟨28, _⟩ => ⟨S24x1408, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_26 : BitVec 32 := 0#32
  let c8_i32 : BitVec 32 := 8#32
  let v45 : BitVec 32 := Scalar.addi c0_i32_26 c8_i32
  let c1_i32 : BitVec 32 := 1#32
  ⟨c0_i32_26, v45, c1_i32⟩
def k0_mult1 (k0_t1 : Fin k0_t1_loop.trips) : BitVec 32 :=
  let c0_i32_26 : BitVec 32 := 0#32
  let c1_i32 : BitVec 32 := 1#32
  let arg21 : BitVec 32 := Scf.iv c0_i32_26 c1_i32 k0_t1
  let c64_i32 : BitVec 32 := 64#32
  let v59 : BitVec 32 := Scalar.muli arg21 c64_i32
  v59
def k0_off1 (k0_t1 : Fin k0_t1_loop.trips) : Fin 2 → Nat :=
  let c0_i32_26 : BitVec 32 := 0#32
  let c1_i32 : BitVec 32 := 1#32
  let arg21 : BitVec 32 := Scf.iv c0_i32_26 c1_i32 k0_t1
  let c64_i32 : BitVec 32 := 64#32
  let v59 : BitVec 32 := Scalar.muli arg21 c64_i32
  let v60 : BitVec 32 := v59
  let v61 : Index := Scalar.indexCast v60
  let c0_45 : Index := 0#32
  ![v61.toNat, 0]
def k0_off2 (k0_t1 : Fin k0_t1_loop.trips) : Fin 2 → Nat :=
  let c0_i32_26 : BitVec 32 := 0#32
  let c1_i32 : BitVec 32 := 1#32
  let arg21 : BitVec 32 := Scf.iv c0_i32_26 c1_i32 k0_t1
  let c64_i32 : BitVec 32 := 64#32
  let v59 : BitVec 32 := Scalar.muli arg21 c64_i32
  let v60 : BitVec 32 := v59
  let v86 : Index := Scalar.indexCast v60
  let c0_53 : Index := 0#32
  ![v86.toNat, 0]
@[reducible] def k0_t2_loop : Scf.Loop 32 :=
  let c0_i32_29 : BitVec 32 := 0#32
  let c11_i32 : BitVec 32 := 11#32
  let v46 : BitVec 32 := Scalar.addi c0_i32_29 c11_i32
  let c1_i32_30 : BitVec 32 := 1#32
  ⟨c0_i32_29, v46, c1_i32_30⟩
def k0_mult2 (k0_t2 : Fin k0_t2_loop.trips) : BitVec 32 :=
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  v59
def k0_off3 (k0_t2 : Fin k0_t2_loop.trips) : Fin 2 → Nat :=
  let c0_45 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v61 : Index := Scalar.indexCast v60
  ![0, v61.toNat]
def k0_off4 (k0_t2 : Fin k0_t2_loop.trips) : Fin 2 → Nat :=
  let c2_46 : Index := 2#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v64 : Index := Scalar.indexCast v60
  ![2, v64.toNat]
def k0_off5 (k0_t2 : Fin k0_t2_loop.trips) : Fin 2 → Nat :=
  let c0_47 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v66 : Index := Scalar.indexCast v60
  ![0, v66.toNat]
def k0_off6 (k0_t2 : Fin k0_t2_loop.trips) : Fin 2 → Nat :=
  let c1_48 : Index := 1#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v86 : Index := Scalar.indexCast v60
  ![1, v86.toNat]
def k0_off7 (k0_t2 : Fin k0_t2_loop.trips) : Fin 2 → Nat :=
  let c8_49 : Index := 8#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v88 : Index := Scalar.indexCast v60
  ![8, v88.toNat]
def k0_off8 (k0_t2 : Fin k0_t2_loop.trips) : Fin 2 → Nat :=
  let c0_50 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v109 : Index := Scalar.indexCast v60
  ![0, v109.toNat]
def k0_off9 (k0_t2 : Fin k0_t2_loop.trips) : Fin 2 → Nat :=
  let c16_51 : Index := 16#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v111 : Index := Scalar.indexCast v60
  ![16, v111.toNat]
def k0_off10 (k0_t2 : Fin k0_t2_loop.trips) : Fin 3 → Nat :=
  let c0_i32_28 : BitVec 32 := 0#32
  let c0_i32_52 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v135 : Index := Scalar.indexCast v60
  ![0, 0, v135.toNat]
def k0_off11 (k0_t2 : Fin k0_t2_loop.trips) : Fin 2 → Nat :=
  let c64 : Index := 64#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v137 : Index := Scalar.indexCast v60
  ![64, v137.toNat]
def k0_off12 (k0_t2 : Fin k0_t2_loop.trips) : Fin 2 → Nat :=
  let c66 : Index := 66#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v140 : Index := Scalar.indexCast v60
  ![66, v140.toNat]
def k0_off13 (k0_t2 : Fin k0_t2_loop.trips) : Fin 2 → Nat :=
  let c65 : Index := 65#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v163 : Index := Scalar.indexCast v60
  ![65, v163.toNat]
def k0_off14 (k0_t2 : Fin k0_t2_loop.trips) : Fin 2 → Nat :=
  let c64_57 : Index := 64#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v187 : Index := Scalar.indexCast v60
  ![64, v187.toNat]
def k0_off15 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v214 : Index := Scalar.indexCast v60
  ![0, 64, v214.toNat]
def k0_off16 (k0_t2 : Fin k0_t2_loop.trips) : Fin 2 → Nat :=
  let c128 : Index := 128#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v216 : Index := Scalar.indexCast v60
  ![128, v216.toNat]
def k0_off17 (k0_t2 : Fin k0_t2_loop.trips) : Fin 2 → Nat :=
  let c130 : Index := 130#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v219 : Index := Scalar.indexCast v60
  ![130, v219.toNat]
def k0_off18 (k0_t2 : Fin k0_t2_loop.trips) : Fin 2 → Nat :=
  let c129 : Index := 129#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v242 : Index := Scalar.indexCast v60
  ![129, v242.toNat]
def k0_off19 (k0_t2 : Fin k0_t2_loop.trips) : Fin 2 → Nat :=
  let c128_64 : Index := 128#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v266 : Index := Scalar.indexCast v60
  ![128, v266.toNat]
def k0_off20 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v293 : Index := Scalar.indexCast v60
  ![0, 128, v293.toNat]
def k0_off21 (k0_t2 : Fin k0_t2_loop.trips) : Fin 2 → Nat :=
  let c192 : Index := 192#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v295 : Index := Scalar.indexCast v60
  ![192, v295.toNat]
def k0_off22 (k0_t2 : Fin k0_t2_loop.trips) : Fin 2 → Nat :=
  let c194 : Index := 194#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v298 : Index := Scalar.indexCast v60
  ![194, v298.toNat]
def k0_off23 (k0_t2 : Fin k0_t2_loop.trips) : Fin 2 → Nat :=
  let c193 : Index := 193#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v321 : Index := Scalar.indexCast v60
  ![193, v321.toNat]
def k0_off24 (k0_t2 : Fin k0_t2_loop.trips) : Fin 2 → Nat :=
  let c192_71 : Index := 192#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v345 : Index := Scalar.indexCast v60
  ![192, v345.toNat]
def k0_off25 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v372 : Index := Scalar.indexCast v60
  ![0, 192, v372.toNat]
def k0_off26 (k0_t2 : Fin k0_t2_loop.trips) : Fin 2 → Nat :=
  let c256 : Index := 256#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v374 : Index := Scalar.indexCast v60
  ![256, v374.toNat]
def k0_off27 (k0_t2 : Fin k0_t2_loop.trips) : Fin 2 → Nat :=
  let c258 : Index := 258#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v377 : Index := Scalar.indexCast v60
  ![258, v377.toNat]
def k0_off28 (k0_t2 : Fin k0_t2_loop.trips) : Fin 2 → Nat :=
  let c257 : Index := 257#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v400 : Index := Scalar.indexCast v60
  ![257, v400.toNat]
def k0_off29 (k0_t2 : Fin k0_t2_loop.trips) : Fin 2 → Nat :=
  let c256_78 : Index := 256#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v424 : Index := Scalar.indexCast v60
  ![256, v424.toNat]
def k0_off30 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v451 : Index := Scalar.indexCast v60
  ![0, 256, v451.toNat]
def k0_off31 (k0_t2 : Fin k0_t2_loop.trips) : Fin 2 → Nat :=
  let c320 : Index := 320#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v453 : Index := Scalar.indexCast v60
  ![320, v453.toNat]
def k0_off32 (k0_t2 : Fin k0_t2_loop.trips) : Fin 2 → Nat :=
  let c322 : Index := 322#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v456 : Index := Scalar.indexCast v60
  ![322, v456.toNat]
def k0_off33 (k0_t2 : Fin k0_t2_loop.trips) : Fin 2 → Nat :=
  let c321 : Index := 321#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v479 : Index := Scalar.indexCast v60
  ![321, v479.toNat]
def k0_off34 (k0_t2 : Fin k0_t2_loop.trips) : Fin 2 → Nat :=
  let c320_85 : Index := 320#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v503 : Index := Scalar.indexCast v60
  ![320, v503.toNat]
def k0_off35 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v530 : Index := Scalar.indexCast v60
  ![0, 320, v530.toNat]
def k0_off36 (k0_t2 : Fin k0_t2_loop.trips) : Fin 2 → Nat :=
  let c384 : Index := 384#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v532 : Index := Scalar.indexCast v60
  ![384, v532.toNat]
def k0_off37 (k0_t2 : Fin k0_t2_loop.trips) : Fin 2 → Nat :=
  let c386 : Index := 386#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v535 : Index := Scalar.indexCast v60
  ![386, v535.toNat]
def k0_off38 (k0_t2 : Fin k0_t2_loop.trips) : Fin 2 → Nat :=
  let c385 : Index := 385#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v558 : Index := Scalar.indexCast v60
  ![385, v558.toNat]
def k0_off39 (k0_t2 : Fin k0_t2_loop.trips) : Fin 2 → Nat :=
  let c384_92 : Index := 384#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v582 : Index := Scalar.indexCast v60
  ![384, v582.toNat]
def k0_off40 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v609 : Index := Scalar.indexCast v60
  ![0, 384, v609.toNat]
def k0_off41 (k0_t2 : Fin k0_t2_loop.trips) : Fin 2 → Nat :=
  let c448 : Index := 448#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v611 : Index := Scalar.indexCast v60
  ![448, v611.toNat]
def k0_off42 (k0_t2 : Fin k0_t2_loop.trips) : Fin 2 → Nat :=
  let c450 : Index := 450#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v614 : Index := Scalar.indexCast v60
  ![450, v614.toNat]
def k0_off43 (k0_t2 : Fin k0_t2_loop.trips) : Fin 2 → Nat :=
  let c449 : Index := 449#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v637 : Index := Scalar.indexCast v60
  ![449, v637.toNat]
def k0_off44 (k0_t2 : Fin k0_t2_loop.trips) : Fin 2 → Nat :=
  let c448_99 : Index := 448#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v661 : Index := Scalar.indexCast v60
  ![448, v661.toNat]
def k0_off45 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v59 : BitVec 32 := Scalar.muli arg21 c128_i32
  let v60 : BitVec 32 := v59
  let v688 : Index := Scalar.indexCast v60
  ![0, 448, v688.toNat]
@[reducible] def k0_t3_loop : Scf.Loop 32 :=
  let c0_i32_33 : BitVec 32 := 0#32
  let c11_i32_34 : BitVec 32 := 11#32
  let v47 : BitVec 32 := Scalar.addi c0_i32_33 c11_i32_34
  let c1_i32_35 : BitVec 32 := 1#32
  ⟨c0_i32_33, v47, c1_i32_35⟩
def k0_mult3 (k0_t3 : Fin k0_t3_loop.trips) : BitVec 32 :=
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  v59
def k0_off46 (k0_t3 : Fin k0_t3_loop.trips) : Fin 2 → Nat :=
  let c0_45 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v61 : Index := Scalar.indexCast v60
  ![0, v61.toNat]
def k0_off47 (k0_t3 : Fin k0_t3_loop.trips) : Fin 2 → Nat :=
  let c2_46 : Index := 2#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v64 : Index := Scalar.indexCast v60
  ![2, v64.toNat]
def k0_off48 (k0_t3 : Fin k0_t3_loop.trips) : Fin 2 → Nat :=
  let c0_47 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v66 : Index := Scalar.indexCast v60
  ![0, v66.toNat]
def k0_off49 (k0_t3 : Fin k0_t3_loop.trips) : Fin 2 → Nat :=
  let c1_48 : Index := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v86 : Index := Scalar.indexCast v60
  ![1, v86.toNat]
def k0_off50 (k0_t3 : Fin k0_t3_loop.trips) : Fin 2 → Nat :=
  let c8_49 : Index := 8#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v88 : Index := Scalar.indexCast v60
  ![8, v88.toNat]
def k0_off51 (k0_t3 : Fin k0_t3_loop.trips) : Fin 2 → Nat :=
  let c0_50 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v109 : Index := Scalar.indexCast v60
  ![0, v109.toNat]
def k0_off52 (k0_t3 : Fin k0_t3_loop.trips) : Fin 2 → Nat :=
  let c16_51 : Index := 16#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v111 : Index := Scalar.indexCast v60
  ![16, v111.toNat]
def k0_off53 (k0_t3 : Fin k0_t3_loop.trips) : Fin 3 → Nat :=
  let c1_i32_32 : BitVec 32 := 1#32
  let c0_i32_52 : BitVec 32 := 0#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v135 : Index := Scalar.indexCast v60
  ![1, 0, v135.toNat]
def k0_off54 (k0_t3 : Fin k0_t3_loop.trips) : Fin 2 → Nat :=
  let c64 : Index := 64#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v137 : Index := Scalar.indexCast v60
  ![64, v137.toNat]
def k0_off55 (k0_t3 : Fin k0_t3_loop.trips) : Fin 2 → Nat :=
  let c66 : Index := 66#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v140 : Index := Scalar.indexCast v60
  ![66, v140.toNat]
def k0_off56 (k0_t3 : Fin k0_t3_loop.trips) : Fin 2 → Nat :=
  let c65 : Index := 65#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v163 : Index := Scalar.indexCast v60
  ![65, v163.toNat]
def k0_off57 (k0_t3 : Fin k0_t3_loop.trips) : Fin 2 → Nat :=
  let c64_57 : Index := 64#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v187 : Index := Scalar.indexCast v60
  ![64, v187.toNat]
def k0_off58 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v214 : Index := Scalar.indexCast v60
  ![1, 64, v214.toNat]
def k0_off59 (k0_t3 : Fin k0_t3_loop.trips) : Fin 2 → Nat :=
  let c128 : Index := 128#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v216 : Index := Scalar.indexCast v60
  ![128, v216.toNat]
def k0_off60 (k0_t3 : Fin k0_t3_loop.trips) : Fin 2 → Nat :=
  let c130 : Index := 130#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v219 : Index := Scalar.indexCast v60
  ![130, v219.toNat]
def k0_off61 (k0_t3 : Fin k0_t3_loop.trips) : Fin 2 → Nat :=
  let c129 : Index := 129#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v242 : Index := Scalar.indexCast v60
  ![129, v242.toNat]
def k0_off62 (k0_t3 : Fin k0_t3_loop.trips) : Fin 2 → Nat :=
  let c128_64 : Index := 128#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v266 : Index := Scalar.indexCast v60
  ![128, v266.toNat]
def k0_off63 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v293 : Index := Scalar.indexCast v60
  ![1, 128, v293.toNat]
def k0_off64 (k0_t3 : Fin k0_t3_loop.trips) : Fin 2 → Nat :=
  let c192 : Index := 192#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v295 : Index := Scalar.indexCast v60
  ![192, v295.toNat]
def k0_off65 (k0_t3 : Fin k0_t3_loop.trips) : Fin 2 → Nat :=
  let c194 : Index := 194#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v298 : Index := Scalar.indexCast v60
  ![194, v298.toNat]
def k0_off66 (k0_t3 : Fin k0_t3_loop.trips) : Fin 2 → Nat :=
  let c193 : Index := 193#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v321 : Index := Scalar.indexCast v60
  ![193, v321.toNat]
def k0_off67 (k0_t3 : Fin k0_t3_loop.trips) : Fin 2 → Nat :=
  let c192_71 : Index := 192#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v345 : Index := Scalar.indexCast v60
  ![192, v345.toNat]
def k0_off68 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v372 : Index := Scalar.indexCast v60
  ![1, 192, v372.toNat]
def k0_off69 (k0_t3 : Fin k0_t3_loop.trips) : Fin 2 → Nat :=
  let c256 : Index := 256#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v374 : Index := Scalar.indexCast v60
  ![256, v374.toNat]
def k0_off70 (k0_t3 : Fin k0_t3_loop.trips) : Fin 2 → Nat :=
  let c258 : Index := 258#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v377 : Index := Scalar.indexCast v60
  ![258, v377.toNat]
def k0_off71 (k0_t3 : Fin k0_t3_loop.trips) : Fin 2 → Nat :=
  let c257 : Index := 257#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v400 : Index := Scalar.indexCast v60
  ![257, v400.toNat]
def k0_off72 (k0_t3 : Fin k0_t3_loop.trips) : Fin 2 → Nat :=
  let c256_78 : Index := 256#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v424 : Index := Scalar.indexCast v60
  ![256, v424.toNat]
def k0_off73 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v451 : Index := Scalar.indexCast v60
  ![1, 256, v451.toNat]
def k0_off74 (k0_t3 : Fin k0_t3_loop.trips) : Fin 2 → Nat :=
  let c320 : Index := 320#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v453 : Index := Scalar.indexCast v60
  ![320, v453.toNat]
def k0_off75 (k0_t3 : Fin k0_t3_loop.trips) : Fin 2 → Nat :=
  let c322 : Index := 322#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v456 : Index := Scalar.indexCast v60
  ![322, v456.toNat]
def k0_off76 (k0_t3 : Fin k0_t3_loop.trips) : Fin 2 → Nat :=
  let c321 : Index := 321#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v479 : Index := Scalar.indexCast v60
  ![321, v479.toNat]
def k0_off77 (k0_t3 : Fin k0_t3_loop.trips) : Fin 2 → Nat :=
  let c320_85 : Index := 320#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v503 : Index := Scalar.indexCast v60
  ![320, v503.toNat]
def k0_off78 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v530 : Index := Scalar.indexCast v60
  ![1, 320, v530.toNat]
def k0_off79 (k0_t3 : Fin k0_t3_loop.trips) : Fin 2 → Nat :=
  let c384 : Index := 384#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v532 : Index := Scalar.indexCast v60
  ![384, v532.toNat]
def k0_off80 (k0_t3 : Fin k0_t3_loop.trips) : Fin 2 → Nat :=
  let c386 : Index := 386#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v535 : Index := Scalar.indexCast v60
  ![386, v535.toNat]
def k0_off81 (k0_t3 : Fin k0_t3_loop.trips) : Fin 2 → Nat :=
  let c385 : Index := 385#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v558 : Index := Scalar.indexCast v60
  ![385, v558.toNat]
def k0_off82 (k0_t3 : Fin k0_t3_loop.trips) : Fin 2 → Nat :=
  let c384_92 : Index := 384#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v582 : Index := Scalar.indexCast v60
  ![384, v582.toNat]
def k0_off83 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v609 : Index := Scalar.indexCast v60
  ![1, 384, v609.toNat]
def k0_off84 (k0_t3 : Fin k0_t3_loop.trips) : Fin 2 → Nat :=
  let c448 : Index := 448#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v611 : Index := Scalar.indexCast v60
  ![448, v611.toNat]
def k0_off85 (k0_t3 : Fin k0_t3_loop.trips) : Fin 2 → Nat :=
  let c450 : Index := 450#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v614 : Index := Scalar.indexCast v60
  ![450, v614.toNat]
def k0_off86 (k0_t3 : Fin k0_t3_loop.trips) : Fin 2 → Nat :=
  let c449 : Index := 449#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v637 : Index := Scalar.indexCast v60
  ![449, v637.toNat]
def k0_off87 (k0_t3 : Fin k0_t3_loop.trips) : Fin 2 → Nat :=
  let c448_99 : Index := 448#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v661 : Index := Scalar.indexCast v60
  ![448, v661.toNat]
def k0_off88 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v59 : BitVec 32 := Scalar.muli arg21 c128_i32
  let v60 : BitVec 32 := v59
  let v688 : Index := Scalar.indexCast v60
  ![1, 448, v688.toNat]
def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_44 : BitVec 32 := 0#32
  let v58 : BitVec 1 := Scalar.cmpi .ne v57 c0_i32_44
  v58

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi arg0 c2_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S3x2816 : Shape := ⟨2, ![3, 2816]⟩
abbrev S1x4096x2816 : Shape := ⟨3, ![1, 4096, 2816]⟩
abbrev S2x4096x2816 : Shape := ⟨3, ![2, 4096, 2816]⟩

abbrev nBuf : Space → Nat
  | .hbm => 114
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S2816x1024, .bf16⟩
  | .hbm, ⟨3, _⟩ => ⟨S4096x1024, .bf16⟩
  | .hbm, ⟨4, _⟩ => ⟨S8x128, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S2816x1024, .f32⟩
  | .hbm, ⟨51, _⟩ => ⟨S4096x1024, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S5632, .f32⟩
  | .hbm, ⟨69, _⟩ => ⟨S_, .f32⟩
  | .hbm, ⟨70, _⟩ => ⟨S4098x5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S4096x5632, .f32⟩
  | .hbm, ⟨75, _⟩ => ⟨S4096x5632, .f32⟩
  | .hbm, ⟨76, _⟩ => ⟨S4096x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S5632, .f32⟩
  | .hbm, ⟨82, _⟩ => ⟨S_, .f32⟩
  | .hbm, ⟨83, _⟩ => ⟨S4098x5632, .f32⟩
  | .hbm, ⟨84, _⟩ => ⟨S4098x5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S4096x5632, .f32⟩
  | .hbm, ⟨90, _⟩ => ⟨S4096x5632, .f32⟩
  | .hbm, ⟨91, _⟩ => ⟨S4096x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S5632, .f32⟩
  | .hbm, ⟨97, _⟩ => ⟨S_, .f32⟩
  | .hbm, ⟨98, _⟩ => ⟨S4098x5632, .f32⟩
  | .hbm, ⟨99, _⟩ => ⟨S4098x5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S2x5632, .f32⟩
  | .hbm, ⟨105, _⟩ => ⟨S4096x5632, .f32⟩
  | .hbm, ⟨106, _⟩ => ⟨S3x2816, .f32⟩
  | .hbm, ⟨107, _⟩ => ⟨S3x2816, .f32⟩
  | .hbm, ⟨108, _⟩ => ⟨S4096x2816, .f32⟩
  | .hbm, ⟨109, _⟩ => ⟨S4096x2816, .f32⟩
  | .hbm, ⟨110, _⟩ => ⟨S1x4096x2816, .f32⟩
  | .hbm, ⟨111, _⟩ => ⟨S1x4096x2816, .f32⟩
  | .hbm, ⟨112, _⟩ => ⟨S2x4096x2816, .f32⟩
  | .hbm, ⟨113, _⟩ => ⟨S2x4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v28_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v28_1 : Ref sig .tc := ⟨.hbm, 47, rfl⟩
abbrev main_v28_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== DhMix.lean ====
abbrev S1x4096x2560 : Shape := ⟨3, ![1, 4096, 2560]⟩
abbrev S2560x1024 : Shape := ⟨2, ![2560, 1024]⟩
abbrev S4096x1024 : Shape := ⟨2, ![4096, 1024]⟩
abbrev S1024 : Shape := ⟨1, ![1024]⟩
abbrev S8x128 : Shape := ⟨2, ![8, 128]⟩
abbrev S1x1024 : Shape := ⟨2, ![1, 1024]⟩
abbrev S8x1024 : Shape := ⟨2, ![8, 1024]⟩
abbrev S512x1024 : Shape := ⟨2, ![512, 1024]⟩
abbrev S3x1x512x2560 : Shape := ⟨4, ![3, 1, 512, 2560]⟩
abbrev S3x1 : Shape := ⟨2, ![3, 1]⟩
abbrev S1x1 : Shape := ⟨2, ![1, 1]⟩
abbrev S_ : Shape := ⟨0, ![]⟩
abbrev S1x1x512x2560 : Shape := ⟨4, ![1, 1, 512, 2560]⟩
abbrev S512x2560 : Shape := ⟨2, ![512, 2560]⟩
abbrev S1x512x2560 : Shape := ⟨3, ![1, 512, 2560]⟩
abbrev S256x2560 : Shape := ⟨2, ![256, 2560]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S1x4096x2560, .bf16⟩
  | .hbm, ⟨1, _⟩ => ⟨S2560x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .hbm, ⟨10, _⟩ => ⟨S_, .f32⟩
  | .hbm, ⟨11, _⟩ => ⟨S1024, .f32⟩
  | .local _ .vmem, ⟨0, _⟩ => ⟨S2560x1024, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S512x1024, .f32⟩
  | .local _ .vmem, ⟨12, _⟩ => ⟨S3x1x512x2560, .bf16⟩
  | _, _ => ⟨S1x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_120 : BitVec 32 := 0#32
  c0_i32_120
def k0_mult2 : BitVec 32 :=
  let c512_i32_129 : BitVec 32 := 512#32
  c512_i32_129
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_117 : BitVec 32 := 2#32
  let v319 : BitVec 32 := Scalar.addi arg0 c2_i32_117
  let c512_i32_124 : BitVec 32 := 512#32
  let v330 : BitVec 32 := Scalar.muli v319 c512_i32_124
  v330
def k0_off1 (i : grid0.Coords) : Fin 2 → Nat :=
  let arg0 : BitVec 32 := BitVec.ofNat 32 (i 0).val
  let c2_i32_117 : BitVec 32 := 2#32
  let v319 : BitVec 32 := Scalar.addi arg0 c2_i32_117
  let c3_i32_118 : BitVec 32 := 3#32
  let c0_i32_119 : BitVec 32 := 0#32
  let v320 : BitVec 1 := Scalar.cmpi .eq c3_i32_118 c0_i32_119
  let c1_i32_120 : BitVec 32 := 1#32
  let v321 : BitVec 32 := Scalar.select v320 c1_i32_120 c3_i32_118
  let v322 : BitVec 32 := Scalar.remsi v319 v321
  let c0_i32_122 : BitVec 32 := 0#32
  let v324 : BitVec 1 := Scalar.cmpi .slt v322 c0_i32_122
  let c0_i32_123 : BitVec 32 := 0#32
  let v325 : BitVec 1 := Scalar.cmpi .slt v321 c0_i32_123
  let v326 : BitVec 1 := Scalar.xori v324 v325
  let c0_i32_121 : BitVec 32 := 0#32
  let v323 : BitVec 1 := Scalar.cmpi .ne v322 c0_i32_121
  let v327 : BitVec 1 := Scalar.andi v326 v323
  let v328 : BitVec 32 := Scalar.addi v322 v321
  let v329 : BitVec 32 := Scalar.select v327 v328 v322
  let c0_i32_127 : BitVec 32 := 0#32
  ![v329.toNat, 0]
def k0_off2 (i : grid0.Coords) : Fin 4 → Nat :=
  let arg0 : BitVec 32 := BitVec.ofNat 32 (i 0).val
  let c2_i32_117 : BitVec 32 := 2#32
  let v319 : BitVec 32 := Scalar.addi arg0 c2_i32_117
  let c3_i32_118 : BitVec 32 := 3#32
  let c0_i32_119 : BitVec 32 := 0#32
  let v320 : BitVec 1 := Scalar.cmpi .eq c3_i32_118 c0_i32_119
  let c1_i32_120 : BitVec 32 := 1#32
  let v321 : BitVec 32 := Scalar.select v320 c1_i32_120 c3_i32_118
  let v322 : BitVec 32 := Scalar.remsi v319 v321
  let c0_i32_122 : BitVec 32 := 0#32
  let v324 : BitVec 1 := Scalar.cmpi .slt v322 c0_i32_122
  let c0_i32_123 : BitVec 32 := 0#32
  let v325 : BitVec 1 := Scalar.cmpi .slt v321 c0_i32_123
  let v326 : BitVec 1 := Scalar.xori v324 v325
  let c0_i32_121 : BitVec 32 := 0#32
  let v323 : BitVec 1 := Scalar.cmpi .ne v322 c0_i32_121
  let v327 : BitVec 1 := Scalar.andi v326 v323
  let v328 : BitVec 32 := Scalar.addi v322 v321
  let v329 : BitVec 32 := Scalar.select v327 v328 v322
  let c0_i32_126 : BitVec 32 := 0#32
  let c0_i32_128 : BitVec 32 := 0#32
  let c0_i32_129 : BitVec 32 := 0#32
  ![v329.toNat, 0, 0, 0]
def k0_off3 (i : grid0.Coords) : Fin 3 → Nat :=
  let c0_i32_125 : BitVec 32 := 0#32
  let arg0 : BitVec 32 := BitVec.ofNat 32 (i 0).val
  let c2_i32_117 : BitVec 32 := 2#32
  let v319 : BitVec 32 := Scalar.addi arg0 c2_i32_117
  let c512_i32_124 : BitVec 32 := 512#32
  let v330 : BitVec 32 := Scalar.muli v319 c512_i32_124
  let v331 : BitVec 32 := v330
  let c0_i32_130 : BitVec 32 := 0#32
  ![0, v331.toNat, 0]
def k0_mult4 (i : grid0.Coords) : BitVec 32 :=
  let arg0 : BitVec 32 := BitVec.ofNat 32 (i 0).val
  let c512_i32 : BitVec 32 := 512#32
  let v17 : BitVec 32 := Scalar.muli arg0 c512_i32
  v17
def k0_off4 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_8 : BitVec 32 := 0#32
  ![v16.toNat, 0]
def k0_off5 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_9 : BitVec 32 := 0#32
  let c0_i32_10 : BitVec 32 := 0#32
  ![v16.toNat, 0, 0, 0]
def k0_off6 (i : grid0.Coords) : Fin 3 → Nat :=
  let c0_i32_6 : BitVec 32 := 0#32
  let arg0 : BitVec 32 := BitVec.ofNat 32 (i 0).val
  let c512_i32 : BitVec 32 := 512#32
  let v17 : BitVec 32 := Scalar.muli arg0 c512_i32
  let v18 : BitVec 32 := v17
  let c0_i32_11 : BitVec 32 := 0#32
  ![0, v18.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2560x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DhMixRefIdeal.lean ====
abbrev S1x4096x2560 : Shape := ⟨3, ![1, 4096, 2560]⟩
abbrev S2560x1024 : Shape := ⟨2, ![2560, 1024]⟩
abbrev S4096x1024 : Shape := ⟨2, ![4096, 1024]⟩
abbrev S1024 : Shape := ⟨1, ![1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2560 : Shape := ⟨2, ![1024, 2560]⟩
abbrev S4096x2560 : Shape := ⟨2, ![4096, 2560]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x2560, .bf16⟩
  | .hbm, ⟨1, _⟩ => ⟨S2560x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S2560x1024, .f32⟩
  | .hbm, ⟨27, _⟩ => ⟨S1024x2560, .f32⟩
  | .hbm, ⟨28, _⟩ => ⟨S4096x2560, .f32⟩
  | .hbm, ⟨29, _⟩ => ⟨S1x4096x2560, .bf16⟩
  | .hbm, ⟨30, _⟩ => ⟨S4096x2560, .bf16⟩
  | .hbm, ⟨31, _⟩ => ⟨S4096x2560, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S1x4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DhFfn.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S8x128 : Shape := ⟨2, ![8, 128]⟩
abbrev S1x1024 : Shape := ⟨2, ![1, 1024]⟩
abbrev S8x1024 : Shape := ⟨2, ![8, 1024]⟩
abbrev S2816x1024 : Shape := ⟨2, ![2816, 1024]⟩
abbrev S512x1024 : Shape := ⟨2, ![512, 1024]⟩
abbrev S3x2x512x2816 : Shape := ⟨4, ![3, 2, 512, 2816]⟩
abbrev S3x2 : Shape := ⟨2, ![3, 2]⟩
abbrev S1x1 : Shape := ⟨2, ![1, 1]⟩
abbrev S_ : Shape := ⟨0, ![]⟩
abbrev S1x1x512x2816 : Shape := ⟨4, ![1, 1, 512, 2816]⟩
abbrev S512x2816 : Shape := ⟨2, ![512, 2816]⟩
abbrev S1x512x2816 : Shape := ⟨3, ![1, 512, 2816]⟩
abbrev S256x2816 : Shape := ⟨2, ![256, 2816]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .hbm, ⟨10, _⟩ => ⟨S_, .f32⟩
  | .hbm, ⟨11, _⟩ => ⟨S1024, .f32⟩
  | .local _ .vmem, ⟨0, _⟩ => ⟨S2816x1024, .bf16⟩
  | .local _ .vmem, ⟨1, _⟩ => ⟨S2816x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | .local _ .vmem, ⟨12, _⟩ => ⟨S512x1024, .f32⟩
  | .local _ .vmem, ⟨13, _⟩ => ⟨S3x2x512x2816, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_155 : BitVec 32 := 0#32
  c0_i32_155
def k0_mult2 : BitVec 32 :=
  let c0_i32_164 : BitVec 32 := 0#32
  c0_i32_164
def k0_mult3 : BitVec 32 :=
  let c512_i32_173 : BitVec 32 := 512#32
  c512_i32_173
def k0_mult4 : BitVec 32 :=
  let c512_i32_182 : BitVec 32 := 512#32
  c512_i32_182
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult5 (i : grid0.Coords) : BitVec 32 :=
  let arg0 : BitVec 32 := BitVec.ofNat 32 (i 0).val
  let c2_i32_152 : BitVec 32 := 2#32
  let v359 : BitVec 32 := Scalar.addi arg0 c2_i32_152
  let c512_i32_159 : BitVec 32 := 512#32
  let v370 : BitVec 32 := Scalar.muli v359 c512_i32_159
  v370
def k0_off1 (i : grid0.Coords) : Fin 2 → Nat :=
  let arg0 : BitVec 32 := BitVec.ofNat 32 (i 0).val
  let c2_i32_152 : BitVec 32 := 2#32
  let v359 : BitVec 32 := Scalar.addi arg0 c2_i32_152
  let c3_i32_153 : BitVec 32 := 3#32
  let c0_i32_154 : BitVec 32 := 0#32
  let v360 : BitVec 1 := Scalar.cmpi .eq c3_i32_153 c0_i32_154
  let c1_i32_155 : BitVec 32 := 1#32
  let v361 : BitVec 32 := Scalar.select v360 c1_i32_155 c3_i32_153
  let v362 : BitVec 32 := Scalar.remsi v359 v361
  let c0_i32_157 : BitVec 32 := 0#32
  let v364 : BitVec 1 := Scalar.cmpi .slt v362 c0_i32_157
  let c0_i32_158 : BitVec 32 := 0#32
  let v365 : BitVec 1 := Scalar.cmpi .slt v361 c0_i32_158
  let v366 : BitVec 1 := Scalar.xori v364 v365
  let c0_i32_156 : BitVec 32 := 0#32
  let v363 : BitVec 1 := Scalar.cmpi .ne v362 c0_i32_156
  let v367 : BitVec 1 := Scalar.andi v366 v363
  let v368 : BitVec 32 := Scalar.addi v362 v361
  let v369 : BitVec 32 := Scalar.select v367 v368 v362
  let c0_i32_162 : BitVec 32 := 0#32
  ![v369.toNat, 0]
def k0_off2 (i : grid0.Coords) : Fin 4 → Nat :=
  let arg0 : BitVec 32 := BitVec.ofNat 32 (i 0).val
  let c2_i32_152 : BitVec 32 := 2#32
  let v359 : BitVec 32 := Scalar.addi arg0 c2_i32_152
  let c3_i32_153 : BitVec 32 := 3#32
  let c0_i32_154 : BitVec 32 := 0#32
  let v360 : BitVec 1 := Scalar.cmpi .eq c3_i32_153 c0_i32_154
  let c1_i32_155 : BitVec 32 := 1#32
  let v361 : BitVec 32 := Scalar.select v360 c1_i32_155 c3_i32_153
  let v362 : BitVec 32 := Scalar.remsi v359 v361
  let c0_i32_157 : BitVec 32 := 0#32
  let v364 : BitVec 1 := Scalar.cmpi .slt v362 c0_i32_157
  let c0_i32_158 : BitVec 32 := 0#32
  let v365 : BitVec 1 := Scalar.cmpi .slt v361 c0_i32_158
  let v366 : BitVec 1 := Scalar.xori v364 v365
  let c0_i32_156 : BitVec 32 := 0#32
  let v363 : BitVec 1 := Scalar.cmpi .ne v362 c0_i32_156
  let v367 : BitVec 1 := Scalar.andi v366 v363
  let v368 : BitVec 32 := Scalar.addi v362 v361
  let v369 : BitVec 32 := Scalar.select v367 v368 v362
  let c0_i32_161 : BitVec 32 := 0#32
  let c0_i32_163 : BitVec 32 := 0#32
  let c0_i32_164 : BitVec 32 := 0#32
  ![v369.toNat, 0, 0, 0]
def k0_off3 (i : grid0.Coords) : Fin 3 → Nat :=
  let c0_i32_160 : BitVec 32 := 0#32
  let arg0 : BitVec 32 := BitVec.ofNat 32 (i 0).val
  let c2_i32_152 : BitVec 32 := 2#32
  let v359 : BitVec 32 := Scalar.addi arg0 c2_i32_152
  let c512_i32_159 : BitVec 32 := 512#32
  let v370 : BitVec 32 := Scalar.muli v359 c512_i32_159
  let v371 : BitVec 32 := v370
  let c0_i32_165 : BitVec 32 := 0#32
  ![0, v371.toNat, 0]
def k0_mult6 (i : grid0.Coords) : BitVec 32 :=
  let arg0 : BitVec 32 := BitVec.ofNat 32 (i 0).val
  let c2_i32_166 : BitVec 32 := 2#32
  let v378 : BitVec 32 := Scalar.addi arg0 c2_i32_166
  let c512_i32_173 : BitVec 32 := 512#32
  let v389 : BitVec 32 := Scalar.muli v378 c512_i32_173
  v389
def k0_off4 (i : grid0.Coords) : Fin 2 → Nat :=
  let arg0 : BitVec 32 := BitVec.ofNat 32 (i 0).val
  let c2_i32_166 : BitVec 32 := 2#32
  let v378 : BitVec 32 := Scalar.addi arg0 c2_i32_166
  let c3_i32_167 : BitVec 32 := 3#32
  let c0_i32_168 : BitVec 32 := 0#32
  let v379 : BitVec 1 := Scalar.cmpi .eq c3_i32_167 c0_i32_168
  let c1_i32_169 : BitVec 32 := 1#32
  let v380 : BitVec 32 := Scalar.select v379 c1_i32_169 c3_i32_167
  let v381 : BitVec 32 := Scalar.remsi v378 v380
  let c0_i32_171 : BitVec 32 := 0#32
  let v383 : BitVec 1 := Scalar.cmpi .slt v381 c0_i32_171
  let c0_i32_172 : BitVec 32 := 0#32
  let v384 : BitVec 1 := Scalar.cmpi .slt v380 c0_i32_172
  let v385 : BitVec 1 := Scalar.xori v383 v384
  let c0_i32_170 : BitVec 32 := 0#32
  let v382 : BitVec 1 := Scalar.cmpi .ne v381 c0_i32_170
  let v386 : BitVec 1 := Scalar.andi v385 v382
  let v387 : BitVec 32 := Scalar.addi v381 v380
  let v388 : BitVec 32 := Scalar.select v386 v387 v381
  let c1_i32_176 : BitVec 32 := 1#32
  ![v388.toNat, 1]
def k0_off5 (i : grid0.Coords) : Fin 4 → Nat :=
  let arg0 : BitVec 32 := BitVec.ofNat 32 (i 0).val
  let c2_i32_166 : BitVec 32 := 2#32
  let v378 : BitVec 32 := Scalar.addi arg0 c2_i32_166
  let c3_i32_167 : BitVec 32 := 3#32
  let c0_i32_168 : BitVec 32 := 0#32
  let v379 : BitVec 1 := Scalar.cmpi .eq c3_i32_167 c0_i32_168
  let c1_i32_169 : BitVec 32 := 1#32
  let v380 : BitVec 32 := Scalar.select v379 c1_i32_169 c3_i32_167
  let v381 : BitVec 32 := Scalar.remsi v378 v380
  let c0_i32_171 : BitVec 32 := 0#32
  let v383 : BitVec 1 := Scalar.cmpi .slt v381 c0_i32_171
  let c0_i32_172 : BitVec 32 := 0#32
  let v384 : BitVec 1 := Scalar.cmpi .slt v380 c0_i32_172
  let v385 : BitVec 1 := Scalar.xori v383 v384
  let c0_i32_170 : BitVec 32 := 0#32
  let v382 : BitVec 1 := Scalar.cmpi .ne v381 c0_i32_170
  let v386 : BitVec 1 := Scalar.andi v385 v382
  let v387 : BitVec 32 := Scalar.addi v381 v380
  let v388 : BitVec 32 := Scalar.select v386 v387 v381
  let c1_i32_175 : BitVec 32 := 1#32
  let c0_i32_177 : BitVec 32 := 0#32
  let c0_i32_178 : BitVec 32 := 0#32
  ![v388.toNat, 1, 0, 0]
def k0_off6 (i : grid0.Coords) : Fin 3 → Nat :=
  let c1_i32_174 : BitVec 32 := 1#32
  let arg0 : BitVec 32 := BitVec.ofNat 32 (i 0).val
  let c2_i32_166 : BitVec 32 := 2#32
  let v378 : BitVec 32 := Scalar.addi arg0 c2_i32_166
  let c512_i32_173 : BitVec 32 := 512#32
  let v389 : BitVec 32 := Scalar.muli v378 c512_i32_173
  let v390 : BitVec 32 := v389
  let c0_i32_179 : BitVec 32 := 0#32
  ![1, v390.toNat, 0]
def k0_mult7 (i : grid0.Coords) : BitVec 32 :=
  let arg0 : BitVec 32 := BitVec.ofNat 32 (i 0).val
  let c512_i32 : BitVec 32 := 512#32
  let v17 : BitVec 32 := Scalar.muli arg0 c512_i32
  v17
def k0_off7 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_8 : BitVec 32 := 0#32
  ![v16.toNat, 0]
def k0_off8 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_9 : BitVec 32 := 0#32
  let c0_i32_10 : BitVec 32 := 0#32
  ![v16.toNat, 0, 0, 0]
def k0_off9 (i : grid0.Coords) : Fin 3 → Nat :=
  let c0_i32_6 : BitVec 32 := 0#32
  let arg0 : BitVec 32 := BitVec.ofNat 32 (i 0).val
  let c512_i32 : BitVec 32 := 512#32
  let v17 : BitVec 32 := Scalar.muli arg0 c512_i32
  let v18 : BitVec 32 := v17
  let c0_i32_11 : BitVec 32 := 0#32
  ![0, v18.toNat, 0]
def k0_mult8 (i : grid0.Coords) : BitVec 32 :=
  let arg0 : BitVec 32 := BitVec.ofNat 32 (i 0).val
  let c512_i32_18 : BitVec 32 := 512#32
  let v35 : BitVec 32 := Scalar.muli arg0 c512_i32_18
  v35
def k0_off10 (i : grid0.Coords) : Fin 2 → Nat :=
  let arg0 : BitVec 32 := BitVec.ofNat 32 (i 0).val
  let c3_i32_12 : BitVec 32 := 3#32
  let c0_i32_13 : BitVec 32 := 0#32
  let v25 : BitVec 1 := Scalar.cmpi .eq c3_i32_12 c0_i32_13
  let c1_i32_14 : BitVec 32 := 1#32
  let v26 : BitVec 32 := Scalar.select v25 c1_i32_14 c3_i32_12
  let v27 : BitVec 32 := Scalar.remsi arg0 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c1_i32_21 : BitVec 32 := 1#32
  ![v34.toNat, 1]
def k0_off11 (i : grid0.Coords) : Fin 4 → Nat :=
  let arg0 : BitVec 32 := BitVec.ofNat 32 (i 0).val
  let c3_i32_12 : BitVec 32 := 3#32
  let c0_i32_13 : BitVec 32 := 0#32
  let v25 : BitVec 1 := Scalar.cmpi .eq c3_i32_12 c0_i32_13
  let c1_i32_14 : BitVec 32 := 1#32
  let v26 : BitVec 32 := Scalar.select v25 c1_i32_14 c3_i32_12
  let v27 : BitVec 32 := Scalar.remsi arg0 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c1_i32_20 : BitVec 32 := 1#32
  let c0_i32_22 : BitVec 32 := 0#32
  let c0_i32_23 : BitVec 32 := 0#32
  ![v34.toNat, 1, 0, 0]
def k0_off12 (i : grid0.Coords) : Fin 3 → Nat :=
  let c1_i32_19 : BitVec 32 := 1#32
  let arg0 : BitVec 32 := BitVec.ofNat 32 (i 0).val
  let c512_i32_18 : BitVec 32 := 512#32
  let v35 : BitVec 32 := Scalar.muli arg0 c512_i32_18
  let v36 : BitVec 32 := v35
  let c0_i32_24 : BitVec 32 := 0#32
  ![1, v36.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2816x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DhFfnRefIdeal.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S5632x1024, .f32⟩
  | .hbm, ⟨27, _⟩ => ⟨S1024x5632, .f32⟩
  | .hbm, ⟨28, _⟩ => ⟨S4096x5632, .f32⟩
  | .hbm, ⟨29, _⟩ => ⟨S1x4096x2816, .bf16⟩
  | .hbm, ⟨30, _⟩ => ⟨S4096x2816, .bf16⟩
  | .hbm, ⟨31, _⟩ => ⟨S1x4096x2816, .bf16⟩
  | .hbm, ⟨32, _⟩ => ⟨S4096x2816, .bf16⟩
  | .hbm, ⟨33, _⟩ => ⟨S4096x5632, .bf16⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== InProj.lean ====
abbrev S4096x1024 : Shape := ⟨2, ![4096, 1024]⟩
abbrev S1024 : Shape := ⟨1, ![1024]⟩
abbrev S2560x1024 : Shape := ⟨2, ![2560, 1024]⟩
abbrev S2560 : Shape := ⟨1, ![2560]⟩
abbrev S8x128 : Shape := ⟨2, ![8, 128]⟩
abbrev S1x1024 : Shape := ⟨2, ![1, 1024]⟩
abbrev S1x2560 : Shape := ⟨2, ![1, 2560]⟩
abbrev S4096x2560 : Shape := ⟨2, ![4096, 2560]⟩
abbrev S512x1024 : Shape := ⟨2, ![512, 1024]⟩
abbrev S512x2560 : Shape := ⟨2, ![512, 2560]⟩
abbrev S128x1024 : Shape := ⟨2, ![128, 1024]⟩
abbrev S128 : Shape := ⟨1, ![128]⟩
abbrev S128x1 : Shape := ⟨2, ![128, 1]⟩
abbrev S512x512 : Shape := ⟨2, ![512, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2560x1024, .bf16⟩
  | .hbm, ⟨3, _⟩ => ⟨S2560, .f32⟩
  | .hbm, ⟨4, _⟩ => ⟨S8x128, .f32⟩
  | .hbm, ⟨5, _⟩ => ⟨S1x1024, .f32⟩
  | .hbm, ⟨6, _⟩ => ⟨S1x2560, .f32⟩
  | .hbm, ⟨7, _⟩ => ⟨S4096x2560, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S1x2560, .f32⟩
  | .local _ .vmem, ⟨5, _⟩ => ⟨S512x2560, .bf16⟩
  | .local _ .vmem, ⟨6, _⟩ => ⟨S512x2560, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S4096x1024 : Shape := ⟨2, ![4096, 1024]⟩
abbrev S1024 : Shape := ⟨1, ![1024]⟩
abbrev S2560x1024 : Shape := ⟨2, ![2560, 1024]⟩
abbrev S2560 : Shape := ⟨1, ![2560]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2560 : Shape := ⟨2, ![1024, 2560]⟩
abbrev S4096x2560 : Shape := ⟨2, ![4096, 2560]⟩
abbrev S1x2560 : Shape := ⟨2, ![1, 2560]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2560x1024, .bf16⟩
  | .hbm, ⟨3, _⟩ => ⟨S2560, .f32⟩
  | .hbm, ⟨4, _⟩ => ⟨S8x128, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S2560x1024, .f32⟩
  | .hbm, ⟨22, _⟩ => ⟨S1024x2560, .f32⟩
  | .hbm, ⟨23, _⟩ => ⟨S4096x2560, .f32⟩
  | .hbm, ⟨24, _⟩ => ⟨S1x2560, .f32⟩
  | .hbm, ⟨25, _⟩ => ⟨S4096x2560, .f32⟩
  | .hbm, ⟨26, _⟩ => ⟨S4096x2560, .f32⟩
  | .hbm, ⟨27, _⟩ => ⟨S4096x2560, .bf16⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== UpProj.lean ====
abbrev S4096x1024 : Shape := ⟨2, ![4096, 1024]⟩
abbrev S1024 : Shape := ⟨1, ![1024]⟩
abbrev S5632x1024 : Shape := ⟨2, ![5632, 1024]⟩
abbrev S8x128 : Shape := ⟨2, ![8, 128]⟩
abbrev S1x1024 : Shape := ⟨2, ![1, 1024]⟩
abbrev S4096x5632 : Shape := ⟨2, ![4096, 5632]⟩
abbrev S512x1024 : Shape := ⟨2, ![512, 1024]⟩
abbrev S512x5632 : Shape := ⟨2, ![512, 5632]⟩
abbrev S128x1024 : Shape := ⟨2, ![128, 1024]⟩
abbrev S128 : Shape := ⟨1, ![128]⟩
abbrev S128x1 : Shape := ⟨2, ![128, 1]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S5632x1024, .bf16⟩
  | .hbm, ⟨3, _⟩ => ⟨S8x128, .f32⟩
  | .hbm, ⟨4, _⟩ => ⟨S1x1024, .f32⟩
  | .hbm, ⟨5, _⟩ => ⟨S4096x5632, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpProjRefIdeal.lean ====
abbrev S4096x1024 : Shape := ⟨2, ![4096, 1024]⟩
abbrev S1024 : Shape := ⟨1, ![1024]⟩
abbrev S5632x1024 : Shape := ⟨2, ![5632, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩
abbrev S4096x5632 : Shape := ⟨2, ![4096, 5632]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S5632x1024, .bf16⟩
  | .hbm, ⟨3, _⟩ => ⟨S8x128, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S5632x1024, .f32⟩
  | .hbm, ⟨21, _⟩ => ⟨S1024x5632, .f32⟩
  | .hbm, ⟨22, _⟩ => ⟨S4096x5632, .f32⟩
  | .hbm, ⟨23, _⟩ => ⟨S4096x5632, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwUp.lean ====
abbrev S2x4096x2816 : Shape := ⟨3, ![2, 4096, 2816]⟩
abbrev S4096x1024 : Shape := ⟨2, ![4096, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2x4096x2816 : Shape := ⟨3, ![2, 4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S1x4096x2816, .bf16⟩
  | .hbm, ⟨7, _⟩ => ⟨S4096x2816, .bf16⟩
  | .hbm, ⟨8, _⟩ => ⟨S1x4096x2816, .bf16⟩
  | .hbm, ⟨9, _⟩ => ⟨S4096x2816, .bf16⟩
  | .hbm, ⟨10, _⟩ => ⟨S4096x5632, .bf16⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Adamw.lean ====
abbrev S4x704x1024 : Shape := ⟨3, ![4, 704, 1024]⟩
abbrev S2x704x1024 : Shape := ⟨3, ![2, 704, 1024]⟩
abbrev S8x128 : Shape := ⟨2, ![8, 128]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x128, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwRefIdeal.lean ====
abbrev S4x704x1024 : Shape := ⟨3, ![4, 704, 1024]⟩
abbrev S2x704x1024 : Shape := ⟨3, ![2, 704, 1024]⟩
abbrev S8x128 : Shape := ⟨2, ![8, 128]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x128, .f32⟩
  | .hbm, ⟨6, _⟩ => ⟨S4x704x1024, .f32⟩
  | .hbm, ⟨7, _⟩ => ⟨S_, .f32⟩
  | .hbm, ⟨8, _⟩ => ⟨S704x1024, .f32⟩
  | .hbm, ⟨9, _⟩ => ⟨S4x704x1024, .f32⟩
  | .hbm, ⟨10, _⟩ => ⟨S_, .f32⟩
  | .hbm, ⟨11, _⟩ => ⟨S704x1024, .f32⟩
  | .hbm, ⟨12, _⟩ => ⟨S1x704x1024, .f32⟩
  | .hbm, ⟨13, _⟩ => ⟨S1x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S_, .f32⟩
  | .hbm, ⟨19, _⟩ => ⟨S2x704x1024, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S2x704x1024, .f32⟩
  | .hbm, ⟨37, _⟩ => ⟨S_, .f32⟩
  | .hbm, ⟨38, _⟩ => ⟨S2x704x1024, .f32⟩
  | .hbm, ⟨39, _⟩ => ⟨S2x704x1024, .f32⟩
  | .hbm, ⟨40, _⟩ => ⟨S2x704x1024, .f32⟩
  | .hbm, ⟨41, _⟩ => ⟨S_, .f32⟩
  | .hbm, ⟨42, _⟩ => ⟨S2x704x1024, .f32⟩
  | .hbm, ⟨43, _⟩ => ⟨S2x704x1024, .f32⟩
  | .hbm, ⟨44, _⟩ => ⟨S2x704x1024, .f32⟩
  | .hbm, ⟨45, _⟩ => ⟨S_, .f32⟩
  | .hbm, ⟨46, _⟩ => ⟨S2x704x1024, .f32⟩
  | .hbm, ⟨47, _⟩ => ⟨S2x704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Fold.lean ====
abbrev S8x1024 : Shape := ⟨2, ![8, 1024]⟩
abbrev S8x2560 : Shape := ⟨2, ![8, 2560]⟩
abbrev S8x512 : Shape := ⟨2, ![8, 512]⟩
abbrev S1x14336 : Shape := ⟨2, ![1, 14336]⟩
abbrev S1024 : Shape := ⟨1, ![1024]⟩
abbrev S1x1024 : Shape := ⟨2, ![1, 1024]⟩
abbrev S2560 : Shape := ⟨1, ![2560]⟩
abbrev S1x2560 : Shape := ⟨2, ![1, 2560]⟩
abbrev S512 : Shape := ⟨1, ![512]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S8x1024, .f32⟩
  | .hbm, ⟨1, _⟩ => ⟨S8x2560, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x1024, .f32⟩
  | .hbm, ⟨6, _⟩ => ⟨S8x1024, .f32⟩
  | .hbm, ⟨7, _⟩ => ⟨S8x2560, .f32⟩
  | .hbm, ⟨8, _⟩ => ⟨S8x512, .f32⟩
  | .hbm, ⟨9, _⟩ => ⟨S8x512, .f32⟩
  | .hbm, ⟨10, _⟩ => ⟨S8x512, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x14336, .f32⟩
  | .local _ .vmem, ⟨0, _⟩ => ⟨S8x1024, .f32⟩
  | .local _ .vmem, ⟨1, _⟩ => ⟨S8x2560, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x1024, .f32⟩
  | .local _ .vmem, ⟨6, _⟩ => ⟨S8x1024, .f32⟩
  | .local _ .vmem, ⟨7, _⟩ => ⟨S8x2560, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1x14336, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x14336 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== FoldRefIdeal.lean ====
abbrev S8x1024 : Shape := ⟨2, ![8, 1024]⟩
abbrev S8x2560 : Shape := ⟨2, ![8, 2560]⟩
abbrev S8x512 : Shape := ⟨2, ![8, 512]⟩
abbrev S_ : Shape := ⟨0, ![]⟩
abbrev S1024 : Shape := ⟨1, ![1024]⟩
abbrev S2560 : Shape := ⟨1, ![2560]⟩
abbrev S512 : Shape := ⟨1, ![512]⟩
abbrev S14336 : Shape := ⟨1, ![14336]⟩
abbrev S1x14336 : Shape := ⟨2, ![1, 14336]⟩

abbrev nBuf : Space → Nat
  | .hbm => 44
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2560, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x1024, .f32⟩
  | .hbm, ⟨6, _⟩ => ⟨S8x1024, .f32⟩
  | .hbm, ⟨7, _⟩ => ⟨S8x2560, .f32⟩
  | .hbm, ⟨8, _⟩ => ⟨S8x512, .f32⟩
  | .hbm, ⟨9, _⟩ => ⟨S8x512, .f32⟩
  | .hbm, ⟨10, _⟩ => ⟨S8x512, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S2560, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S2560, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S14336, .f32⟩
  | .hbm, ⟨43, _⟩ => ⟨S1x14336, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_cst_3 : Ref sig .tc := ⟨.hbm, 22, rfl⟩
abbrev main_v4 : Ref sig .tc := ⟨.hbm, 23, rfl⟩
abbrev main_cst_4 : Ref sig .tc := ⟨.hbm, 24, rfl⟩
abbrev main_v5 : Ref sig .tc := ⟨.hbm, 25, rfl⟩
abbrev main_cst_5 : Ref sig .tc := ⟨.hbm, 26, rfl⟩
abbrev main_v6 : Ref sig .tc := ⟨.hbm, 27, rfl⟩
abbrev main_cst_6 : Ref sig .tc := ⟨.hbm, 28, rfl⟩
abbrev main_v7 : Ref sig .tc := ⟨.hbm, 29, rfl⟩
abbrev main_cst_7 : Ref sig .tc := ⟨.hbm, 30, rfl⟩
abbrev main_v8 : Ref sig .tc := ⟨.hbm, 31, rfl⟩
abbrev main_cst_8 : Ref sig .tc := ⟨.hbm, 32, rfl⟩
abbrev main_v9 : Ref sig .tc := ⟨.hbm, 33, rfl⟩
abbrev main_cst_9 : Ref sig .tc := ⟨.hbm, 34, rfl⟩
abbrev main_v10 : Ref sig .tc := ⟨.hbm, 35, rfl⟩
abbrev main_cst_10 : Ref sig .tc := ⟨.hbm, 36, rfl⟩
abbrev main_v11 : Ref sig .tc := ⟨.hbm, 37, rfl⟩
abbrev main_cst_11 : Ref sig .tc := ⟨.hbm, 38, rfl⟩
abbrev main_v12 : Ref sig .tc := ⟨.hbm, 39, rfl⟩
abbrev main_cst_12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Proof.Blocks.lean ====
/-
  Small facts about buffers read and stored whole, used by every call: a load of the whole block reads the block, a
  store of the whole block leaves what was stored, whatever was stored before.
-/
module

public import Idealize.ShloMosaic.Lib.Pipeline.ValueKit

@[expose] public section

noncomputable section

open Idealize.ShloMosaic Idealize.ShloMosaic.TcCoe Idealize.SL.Sem

namespace Cert.Blocks

theorem hz : (![0, 0] : Fin 2 → Nat) = fun _ => 0 := funext fun a => by fin_cases a <;> rfl

variable {sig : RefSig} {κ : Kind} {sp : Space} {S : Shape} {e : EltTy} {Val : EltTy → Type}

/-- A load of the whole block. -/
theorem readAt_whole [∀ e, Nonempty (Val e)] {off : Fin S.rank → Nat} (h : off = fun _ => 0) (inb : ∀ a, off a + S.size a ≤ S.size a)
    (v : View sig κ sp S e) (f : v.ty.Contents Val) :
    View.readAt Val v (Rect.unit off S.size inb).toLoadRect f = v.read Val f := by
  rw [View.readAt_eq_ld, View.ld_unit_zero h]

/-- A store of the whole block. -/
theorem read_cons_whole {off : Fin S.rank → Nat} (h : off = fun _ => 0) (inb : ∀ a, off a + S.size a ≤ S.size a)
    (v : View sig κ sp S e) (f : v.ty.Contents Val) (w : S.Idx → Val e) (L : List (View.Piece Val S e)) :
    v.read Val (v.writes Val f ((⟨Rect.unit off S.size inb, w⟩ : View.Piece Val S e) :: L)) = w := by
  subst h
  funext y
  have q := View.read_writes_cons_emb v f (Rect.whole S) w L y
  rw [Rect.emb_whole_apply] at q
  exact q

end Cert.Blocks

end
-- ==== Proof.LossLoop.lean ====
/-
  The loss call's counted loop, as values. Each point of the grid takes a block of 512 rows; the loop's trip `k` takes
  the 64 rows from `64 k` on. What the eight trips leave in the four buffers the call writes is stated here: the two
  accumulated blocks of eight rows as a recursion over the trips (`accL`, `accG`), the two blocks of 512 rows as one
  function of the row (`outX`, `outXb`), each row computed by the trip that holds it.
-/
module

public import proofs.«01_k».proof.Proof.Gen.LossIdeal.Loops
public import Idealize.ShloMosaic.Lib.Pipeline.ValueKit
public import proofs.«01_k».proof.Proof.Blocks
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.LossIdeal.Value

open Cert.LossIdeal Cert.LossIdeal.Gen

variable {F : FTy → Type} [FloatOps F]

open Cert.Blocks

theorem trips_eq : k0_t1_loop.trips = 8 := by decide +kernel

/-- The 64 rows of a block that trip `k` takes. -/
abbrev rows (k : Fin k0_t1_loop.trips) : Rect S512x1024 := Rect.unit (k0_off1 k) S64x1024.size (k0_off1_inb k)

/-- Trip `k`'s rows of a block. -/
abbrev part (x : Vec F S512x1024 .f32) (k : Fin k0_t1_loop.trips) : Vec F S64x1024 .f32 := View.ld x (rows k)

/-- The block of partial sums of the squared error before trip `k`, from `s` on. -/
def accL (x : Vec F S512x1024 .f32) (g : Vec F S1x1024 .f32) (t : Vec F S512x1024 .f32) (s : Vec F S8x1024 .f32) : ℕ → Vec F S8x1024 .f32
  | 0 => s
  | k + 1 => if h : k < k0_t1_loop.trips then k0_pay9 (part x ⟨k, h⟩) g (part t ⟨k, h⟩) (accL x g t s k) else accL x g t s k

/-- The block of partial sums of the scale's gradient before trip `k`, from `s` on. -/
def accG (x : Vec F S512x1024 .f32) (g : Vec F S1x1024 .f32) (t : Vec F S512x1024 .f32) (s : Vec F S8x1024 .f32) : ℕ → Vec F S8x1024 .f32
  | 0 => s
  | k + 1 => if h : k < k0_t1_loop.trips then
      k0_pay3 (k0_pay7 (part x ⟨k, h⟩)) (k0_pay10 (part x ⟨k, h⟩) g (part t ⟨k, h⟩)) (accG x g t s k) else accG x g t s k

/-- The gradient of trip `k`'s rows. -/
abbrev tripX (x : Vec F S512x1024 .f32) (g : Vec F S1x1024 .f32) (t : Vec F S512x1024 .f32) (k : Fin k0_t1_loop.trips) : Vec F S64x1024 .f32 :=
  k0_pay4 (k0_pay6 (part x k)) (k0_pay7 (part x k)) (k0_pay10 (part x k) g (part t k)) g

/-- The same at the storage format of the next product. -/
abbrev tripXb (x : Vec F S512x1024 .f32) (g : Vec F S1x1024 .f32) (t : Vec F S512x1024 .f32) (k : Fin k0_t1_loop.trips) : Vec F S64x1024 .bf16 :=
  k0_pay5 (k0_pay6 (part x k)) (k0_pay7 (part x k)) (k0_pay10 (part x k) g (part t k)) g

/-- The trip that takes row `r` of the block. -/
def tripOf (y : S512x1024.Idx) : Fin k0_t1_loop.trips :=
  ⟨(y 0 : Nat) / 64, by rw [trips_eq]; have : (y 0 : Nat) < 512 := (y 0).isLt; omega⟩

/-- The place of an element of the block among its trip's rows. -/
def within (y : S512x1024.Idx) : S64x1024.Idx :=
  ix2 (n0 := 64) (n1 := 1024) ⟨(y 0 : Nat) % 64, Nat.mod_lt _ (by decide)⟩ (y 1)

/-- The whole block's gradient: every row from the trip that takes it. -/
def outX (x : Vec F S512x1024 .f32) (g : Vec F S1x1024 .f32) (t : Vec F S512x1024 .f32) : Vec F S512x1024 .f32 :=
  fun y => tripX x g t (tripOf y) (within y)

/-- The same at the storage format of the next product. -/
def outXb (x : Vec F S512x1024 .f32) (g : Vec F S1x1024 .f32) (t : Vec F S512x1024 .f32) : Vec F S512x1024 .bf16 :=
  fun y => tripXb x g t (tripOf y) (within y)

theorem tripOf_emb (k : Fin k0_t1_loop.trips) (z : S64x1024.Idx) : tripOf ((rows k).emb z) = k := by
  apply Fin.ext
  have h : (((rows k).emb z) 0 : Nat) = k0_off1 k 0 + z 0 := ValueKit.rect_emb_unit_val (s := S512x1024) (k0_off1 k) S64x1024.size (k0_off1_inb k) z 0
  have hz : (z 0 : Nat) < 64 := (z 0).isLt
  show (((rows k).emb z) 0 : Nat) / 64 = k.val
  rw [h, k0_off1_eq]
  show (64 * k.val + (z 0 : Nat)) / 64 = k.val
  omega

theorem within_emb (k : Fin k0_t1_loop.trips) (z : S64x1024.Idx) : within ((rows k).emb z) = z := by
  have hz : (z 0 : Nat) < 64 := (z 0).isLt
  funext a
  apply Fin.ext
  revert a
  refine Fin.forall_fin_two.mpr ⟨?_, ?_⟩
  · have h : (((rows k).emb z) 0 : Nat) = k0_off1 k 0 + z 0 := ValueKit.rect_emb_unit_val (s := S512x1024) (k0_off1 k) S64x1024.size (k0_off1_inb k) z 0
    show (((rows k).emb z) 0 : Nat) % 64 = (z 0 : Nat)
    rw [h, k0_off1_eq]
    show (64 * k.val + (z 0 : Nat)) % 64 = (z 0 : Nat)
    omega
  · have h : (((rows k).emb z) 1 : Nat) = k0_off1 k 1 + z 1 := ValueKit.rect_emb_unit_val (s := S512x1024) (k0_off1 k) S64x1024.size (k0_off1_inb k) z 1
    show (((rows k).emb z) 1 : Nat) = (z 1 : Nat)
    rw [h, k0_off1_eq]
    show 0 + (z 1 : Nat) = (z 1 : Nat)
    omega

theorem mem_rows (k : Fin k0_t1_loop.trips) (y : S512x1024.Idx) (h : tripOf y = k) : y ∈ (rows k).set := by
  subst h
  refine Rect.mem_set_unit.mpr ?_
  intro a
  have h0 : (y 0 : Nat) < 512 := (y 0).isLt
  have h1 : (y 1 : Nat) < 1024 := (y 1).isLt
  rw [k0_off1_eq]
  match a with
  | ⟨0, _⟩ => show 64 * ((y 0 : Nat) / 64) ≤ (y 0 : Nat) ∧ (y 0 : Nat) < 64 * ((y 0 : Nat) / 64) + 64; omega
  | ⟨1, _⟩ => show 0 ≤ (y 1 : Nat) ∧ (y 1 : Nat) < 0 + 1024; omega

section Loop

variable (𝒱 : Variants) (c : Dev nD) (bd : Option 𝒱.V) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S8x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S8x1024 .f32) (h7 : a7.IsWhole)
  (x : Vec F S512x1024 .f32) (g : Vec F S1x1024 .f32) (t : Vec F S512x1024 .f32)

/-- What one trip stores, from what it loads. -/
theorem trip_loads (k : Fin k0_t1_loop.trips) (f1 f2 f3 f4 f5 f6 f7)
    {X : Vec F S64x1024 .f32} {G : Vec F S1x1024 .f32} {T : Vec F S64x1024 .f32} {L D : Vec F S8x1024 .f32}
    (e1 : View.readAt (Elt F) a1.view (rows k).toLoadRect f1 = X)
    (e2 : View.readAt (Elt F) a2.view (Rect.unit ![0, 0] S1x1024.size inb_S1x1024_S1x1024_0_0).toLoadRect f2 = G)
    (e3 : View.readAt (Elt F) a3.view (rows k).toLoadRect f3 = T)
    (e4 : View.readAt (Elt F) a4.view (Rect.unit ![0, 0] S8x1024.size inb_S8x1024_S8x1024_0_0).toLoadRect f4 = L)
    (e7 : View.readAt (Elt F) a7.view (Rect.unit ![0, 0] S8x1024.size inb_S8x1024_S8x1024_0_0).toLoadRect f7 = D) :
    tripL_k0_t1 (F := F) 𝒱 c bd i a1 h1 a2 h2 a3 h3 a4 h4 a5 h5 a6 h6 a7 h7 f1 f2 f3 k f4 f5 f6 f7
      = ([⟨Rect.unit ![0, 0] S8x1024.size inb_S8x1024_S8x1024_0_0, k0_pay9 X G T L⟩],
         [⟨rows k, k0_pay4 (k0_pay6 X) (k0_pay7 X) (k0_pay10 X G T) G⟩],
         [⟨rows k, k0_pay5 (k0_pay6 X) (k0_pay7 X) (k0_pay10 X G T) G⟩],
         [⟨Rect.unit ![0, 0] S8x1024.size inb_S8x1024_S8x1024_0_0, k0_pay3 (k0_pay7 X) (k0_pay10 X G T) D⟩]) := by
  subst e1 e2 e3 e4 e7
  unfold tripL_k0_t1 trip_k0_t1
  dsimp only
  sl_unfold_words
  rfl

/-- What one trip stores, as a function of the blocks and of what it finds in the two accumulated ones. -/
theorem trip_eq (k : Fin k0_t1_loop.trips) (f4 f5 f6 f7) :
    tripL_k0_t1 (F := F) 𝒱 c bd i a1 h1 a2 h2 a3 h3 a4 h4 a5 h5 a6 h6 a7 h7 (h1.unread x) (h2.unread g) (h3.unread t) k f4 f5 f6 f7
      = ([⟨Rect.unit ![0, 0] S8x1024.size inb_S8x1024_S8x1024_0_0, k0_pay9 (part x k) g (part t k) (a4.view.read (Elt F) f4)⟩],
         [⟨rows k, tripX x g t k⟩], [⟨rows k, tripXb x g t k⟩],
         [⟨Rect.unit ![0, 0] S8x1024.size inb_S8x1024_S8x1024_0_0,
            k0_pay3 (k0_pay7 (part x k)) (k0_pay10 (part x k) g (part t k)) (a7.view.read (Elt F) f7)⟩]) :=
  trip_loads 𝒱 c bd i a1 h1 a2 h2 a3 h3 a4 h4 a5 h5 a6 h6 a7 h7 k _ _ _ f4 f5 f6 f7
    (by rw [View.readAt_eq_ld, h1.read_unread]) ((readAt_whole (S := S1x1024) hz _ a2.view _).trans (h2.read_unread _))
    (by rw [View.readAt_eq_ld, h3.read_unread]) (readAt_whole (S := S8x1024) hz _ a4.view _)
    (readAt_whole (S := S8x1024) hz _ a7.view _)

/-- The four buffers before trip `k`: the accumulated blocks hold the recursions' `k`-th values, and what lies in the
other two are the rows of the trips run so far. -/
theorem before_trip (G4 G5 G6 G7) (k : ℕ) (hk : k ≤ k0_t1_loop.trips) :
    let P := pb_k0_t1 (F := F) 𝒱 c bd i a1 h1 a2 h2 a3 h3 a4 h4 a5 h5 a6 h6 a7 h7 (h1.unread x) (h2.unread g) (h3.unread t) G4 G5 G6 G7 k
    a4.view.read (Elt F) (a4.view.writes (Elt F) G4 P.1) = accL x g t (a4.view.read (Elt F) G4) k
      ∧ a7.view.read (Elt F) (a7.view.writes (Elt F) G7 P.2.2.2) = accG x g t (a7.view.read (Elt F) G7) k
      ∧ (∀ p ∈ P.2.1, ∀ z, p.2 z = outX x g t (p.1.emb z)) ∧ (∀ p ∈ P.2.2.1, ∀ z, p.2 z = outXb x g t (p.1.emb z))
      ∧ (∀ y, (tripOf y).val < k → ∃ p ∈ P.2.1, y ∈ p.1.set) ∧ (∀ y, (tripOf y).val < k → ∃ p ∈ P.2.2.1, y ∈ p.1.set) := by
  induction k with
  | zero =>
    refine ⟨rfl, rfl, fun p hp => ?_, fun p hp => ?_, fun y h => absurd h (Nat.not_lt_zero _), fun y h => absurd h (Nat.not_lt_zero _)⟩
    · exact absurd hp List.not_mem_nil
    · exact absurd hp List.not_mem_nil
  | succ k ih =>
    have hk' : k < k0_t1_loop.trips := hk
    obtain ⟨i4, i7, i5, i6, c5, c6⟩ := ih hk'.le
    have hs := pb_k0_t1_succ (F := F) 𝒱 c bd i a1 h1 a2 h2 a3 h3 a4 h4 a5 h5 a6 h6 a7 h7 (h1.unread x) (h2.unread g) (h3.unread t) G4 G5 G6 G7 ⟨k, hk'⟩
    rw [trip_eq] at hs
    dsimp only at hs ⊢
    rw [hs]
    dsimp only
    refine ⟨?_, ?_, ?_, ?_, ?_, ?_⟩
    · refine (read_cons_whole (S := S8x1024) hz _ a4.view _ _ _).trans ?_
      rw [i4, accL, dif_pos hk']
    · refine (read_cons_whole (S := S8x1024) hz _ a7.view _ _ _).trans ?_
      rw [i7, accG, dif_pos hk']
    · intro p hp z
      rcases List.mem_cons.mp hp with rfl | hp
      · show _ = tripX x g t (tripOf _) (within _)
        rw [tripOf_emb, within_emb]
      · exact i5 p hp z
    · intro p hp z
      rcases List.mem_cons.mp hp with rfl | hp
      · show _ = tripXb x g t (tripOf _) (within _)
        rw [tripOf_emb, within_emb]
      · exact i6 p hp z
    · intro y hy
      by_cases h : (tripOf y).val = k
      · exact ⟨_, List.mem_cons_self, mem_rows ⟨k, hk'⟩ y (Fin.ext h)⟩
      · obtain ⟨p, hp, hm⟩ := c5 y (by omega)
        exact ⟨p, List.mem_cons_of_mem _ hp, hm⟩
    · intro y hy
      by_cases h : (tripOf y).val = k
      · exact ⟨_, List.mem_cons_self, mem_rows ⟨k, hk'⟩ y (Fin.ext h)⟩
      · obtain ⟨p, hp, hm⟩ := c6 y (by omega)
        exact ⟨p, List.mem_cons_of_mem _ hp, hm⟩

/-- The four buffers after the loop. -/
theorem after_loop (G4 G5 G6 G7) :
    let P := pb_k0_t1 (F := F) 𝒱 c bd i a1 h1 a2 h2 a3 h3 a4 h4 a5 h5 a6 h6 a7 h7 (h1.unread x) (h2.unread g) (h3.unread t) G4 G5 G6 G7 k0_t1_loop.trips
    a4.view.read (Elt F) (a4.view.writes (Elt F) G4 P.1) = accL x g t (a4.view.read (Elt F) G4) 8
      ∧ a5.view.read (Elt F) (a5.view.writes (Elt F) G5 P.2.1) = outX x g t
      ∧ a6.view.read (Elt F) (a6.view.writes (Elt F) G6 P.2.2.1) = outXb x g t
      ∧ a7.view.read (Elt F) (a7.view.writes (Elt F) G7 P.2.2.2) = accG x g t (a7.view.read (Elt F) G7) 8 := by
  obtain ⟨i4, i7, i5, i6, c5, c6⟩ := before_trip 𝒱 c bd i a1 h1 a2 h2 a3 h3 a4 h4 a5 h5 a6 h6 a7 h7 x g t G4 G5 G6 G7 _ le_rfl
  refine ⟨i4.trans (by rw [trips_eq]), ?_, ?_, i7.trans (by rw [trips_eq])⟩
  · rw [View.read_writes_eq_canon _ _ _ fun y => c5 y (tripOf y).isLt]
    exact funext fun y => View.canon_apply_of_pieces _ _ i5 y (c5 y (tripOf y).isLt)
  · rw [View.read_writes_eq_canon _ _ _ fun y => c6 y (tripOf y).isLt]
    exact funext fun y => View.canon_apply_of_pieces _ _ i6 y (c6 y (tripOf y).isLt)

end Loop

end Cert.LossIdeal.Value

end
-- ==== Proof.RealLaws.lean ====
/-
  Real numbers inside the extended reals: the few laws by which an expression of the idealized programs, read at
  arguments that are real numbers, is itself a real number. Sums, products, quotients by a nonzero number and the
  reciprocal square root of a positive number are taken to the same expression over `ℝ`; the constants the programs
  print are given as real numbers. The last part reads the precondition `all (|x| < inf)`: under it every element of
  the array is a real number.
-/
module

public import Idealize.ShloMosaic.Lib.Pointwise
public import Idealize.ShloMosaic.Lib.ReduceAll

@[expose] public section

noncomputable section

open Idealize.ShloMosaic

namespace Cert.RealLaws

/-- A finite sum of real numbers, formed in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of real numbers with a nonzero divisor is the real quotient. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The reciprocal square root of a positive real number. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-! ## The constants -/

theorem ofBits_1024 : Ideal.ofBits .f32 0x44800000#32 = ((1024 : ℝ) : EReal) := by
  simp [Ideal.ofBits, Ideal.ieee]; rw [← EReal.coe_mul]; norm_num

theorem ofBits_recip2048 : Ideal.ofBits .f32 0x3A000000#32 = ((1 / 2048 : ℝ) : EReal) := by
  simp [Ideal.ofBits, Ideal.ieee]; rw [← EReal.coe_mul]; norm_num

theorem ofBits_recip1024 : Ideal.ofBits .f32 0x3A800000#32 = ((1 / 1024 : ℝ) : EReal) := by
  simp [Ideal.ofBits, Ideal.ieee]; rw [← EReal.coe_mul]; norm_num

/-- The `f32` nearest to `1e-6`, which both programs add to the mean of the squares. -/
def eps : ℝ := 8796093 / 2 ^ 43

theorem eps_pos : 0 < eps := by unfold eps; positivity

theorem ofBits_eps : Ideal.ofBits .f32 0x358637BD#32 = (eps : EReal) := by
  simp [Ideal.ofBits, Ideal.ieee, eps]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_neg_half : Ideal.ofBits .f32 0xBF000000#32 = ((-1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

/-! ## The root mean square of a row -/

/-- The mean of the squares of a row of 1024 numbers, plus `eps`. -/
def ms (x : Fin 1024 → ℝ) : ℝ := (∑ k, x k * x k) / 1024 + eps

theorem ms_pos (x : Fin 1024 → ℝ) : 0 < ms x := by
  have : 0 ≤ ∑ k, x k * x k := Finset.sum_nonneg fun k _ => mul_self_nonneg _
  unfold ms; have := eps_pos; positivity

/-- The reciprocal of the root mean square of a row. -/
def rinv (x : Fin 1024 → ℝ) : ℝ := (Real.sqrt (ms x))⁻¹

theorem rinv_sq (x : Fin 1024 → ℝ) : rinv x * rinv x = (ms x)⁻¹ := by
  unfold rinv; rw [← mul_inv, Real.mul_self_sqrt (ms_pos x).le]

/-- The reciprocal root mean square of a row of real numbers, as the programs compute it. -/
theorem rsqrt_ms (x : Fin 1024 → ℝ) :
    Ideal.rsqrt (Ideal.div (∑ k, ((x k : ℝ) : EReal) * (x k : EReal)) (Ideal.ofBits .f32 0x44800000#32) + Ideal.ofBits .f32 0x358637BD#32)
      = (rinv x : EReal) := by
  simp only [← EReal.coe_mul, coe_sum, ofBits_1024, ofBits_eps]
  rw [div_coe _ _ (by norm_num), ← EReal.coe_add, show ((∑ k, x k * x k) / 1024 + eps : ℝ) = ms x from rfl, rsqrt_pos _ (ms_pos x)]
  rfl

/-! ## The precondition -/

theorem ofBits_inf : Ideal.ofBits .f32 0x7F800000#32 = ⊤ := by
  simp [Ideal.ofBits, Ideal.ieee]

theorem real_of_olt_inf (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- A check that every entry of an array is finite says that every entry is a real number. -/
theorem real_of_all {s t u : Shape} {axes : List (Fin s.rank)} [Subsingleton t.Idx] (x : FVec Ideal s .f32) (k : FVec Ideal s .f32) (hk : ∀ i, k i = ⊤)
    (init : IVec u 1) (h : s.ReducesTo axes t) (hu : 0 < u.numel) (j : t.Idx)
    (e : Host.reduce IntOp.andi (cmpf .olt (Host.absf x) k) init h hu j = 1#1) (i : s.Idx) : ∃ r : ℝ, x i = (r : EReal) := by
  have := Host.reduce_andi_all _ _ h hu j e i
  refine real_of_olt_inf _ ?_
  rw [← hk i]
  exact this

/-- The real numbers in an array of rows; zeros past its end. -/
def rowsOf {n d : ℕ} (x : Fin n → Fin d → EReal) (i : ℕ) (j : Fin d) : ℝ := if h : i < n then (x ⟨i, h⟩ j).toReal else 0

theorem rowsOf_eq {n d : ℕ} (x : Fin n → Fin d → EReal) (hx : ∀ i j, ∃ r : ℝ, x i j = (r : EReal)) (i : Fin n) (j : Fin d) :
    x i j = ((rowsOf x i j : ℝ) : EReal) := by
  obtain ⟨r, hr⟩ := hx i j
  unfold rowsOf
  rw [dif_pos i.isLt, hr, EReal.toReal_coe]

end Cert.RealLaws

end
-- ==== Proof.NormGrad.lean ====
/- The gradient of a row over its root mean square, over the real numbers, and sums over the rows of tiles. -/
module

public import proofs.«01_k».proof.Proof.RealLaws

@[expose] public section

noncomputable section

namespace Cert.Rows

open Cert.RealLaws

/-- A row over its root mean square. -/
def xn (x : Fin 1024 → ℝ) (j : Fin 1024) : ℝ := x j * rinv x

/-- The gradient `d` that reaches a row past the norm, and what the norm with gains `g` makes of the cotangent `h`. -/
def dnorm (x h g d : Fin 1024 → ℝ) (j : Fin 1024) : ℝ :=
  d j + rinv x * (h j * g j - xn x j * ((∑ k, h k * g k * xn x k) / 1024))

/-- The same, as the chain rule writes it: through the root mean square once for each of the two factors of the square. -/
theorem dnorm_eq (x h g d : Fin 1024 → ℝ) (j : Fin 1024) :
    dnorm x h g d j = d j + h j * g j * rinv x
      + x j * ((∑ k, x k * (h k * g k)) * (-1 / 2 * (rinv x / ms x)) / 1024)
      + (∑ k, x k * (h k * g k)) * (-1 / 2 * (rinv x / ms x)) / 1024 * x j := by
  have e : ∑ k, h k * g k * xn x k = rinv x * ∑ k, x k * (h k * g k) := by
    rw [Finset.mul_sum]
    exact Finset.sum_congr rfl fun k _ => by unfold xn; ring
  unfold dnorm
  rw [e, div_eq_mul_inv (rinv _) (ms _), ← rinv_sq]
  unfold xn
  ring

/-- A row times a matrix. -/
def mulRow {n : ℕ} (W : ℕ → Fin 1024 → ℝ) (z : Fin n → ℝ) (j : Fin 1024) : ℝ := ∑ k : Fin n, z k * W k j

/-- `m` sums of `n` rows each, `n` rows apart, are one sum. -/
theorem sum_range_mul (f : ℕ → ℝ) (m n : ℕ) : ∑ p ∈ Finset.range m, ∑ k ∈ Finset.range n, f (n * p + k) = ∑ i ∈ Finset.range (n * m), f i := by
  induction m with
  | zero => simp
  | succ m ih => rw [Finset.sum_range_succ, ih, Nat.mul_succ, Finset.sum_range_add]

/-- Rows 512, 128 and 8 apart, and the eight of one block of partial sums, are all the rows. -/
theorem all_rows (f : ℕ → ℝ) :
    ∑ u : Fin 8, ∑ p ∈ Finset.range 8, ∑ q ∈ Finset.range 4, ∑ a ∈ Finset.range 16, f (512 * p + (128 * q + (8 * a + u)))
      = ∑ i ∈ Finset.range 4096, f i := by
  rw [Fin.sum_univ_eq_sum_range (fun u => ∑ p ∈ Finset.range 8, ∑ q ∈ Finset.range 4, ∑ a ∈ Finset.range 16, f (512 * p + (128 * q + (8 * a + u)))) 8,
    Finset.sum_comm]
  rw [← sum_range_mul f 8 512]
  refine Finset.sum_congr rfl fun p _ => ?_
  rw [Finset.sum_comm, ← sum_range_mul (fun i => f (512 * p + i)) 4 128]
  refine Finset.sum_congr rfl fun q _ => ?_
  rw [Finset.sum_comm, ← sum_range_mul (fun i => f (512 * p + (128 * q + i))) 16 8]

end Cert.Rows

end
-- ==== Proof.LossPay.lean ====
/-
  One trip's arithmetic over the real numbers: where the rows a trip takes hold real numbers, each of the values it
  stores is the real formula of that row, and the two accumulated blocks grow by a sum over the rows.
-/
module

public import proofs.«01_k».proof.Proof.LossLoop
public import proofs.«01_k».proof.Proof.NormGrad

@[expose] public section

set_option maxRecDepth 16384

noncomputable section

open Idealize.ShloMosaic Idealize.ShloMosaic.TcCoe Idealize.SL.Sem

namespace Cert.Rows

open Cert.RealLaws

/-- The scaled row's error against the target. -/
def err (x g t : Fin 1024 → ℝ) (j : Fin 1024) : ℝ := xn x j * g j - t j

/-- The loss's derivative by the scaled row. -/
def dy (x g t : Fin 1024 → ℝ) (j : Fin 1024) : ℝ := err x g t j * (1 / 1024)

/-- The loss's derivative by the row. -/
def dx (x g t : Fin 1024 → ℝ) (j : Fin 1024) : ℝ :=
  rinv x * (dy x g t j * g j - xn x j * ((∑ k, dy x g t k * g k * xn x k) / 1024))

end Cert.Rows

namespace Cert.LossIdeal.Value

open Cert.LossIdeal Cert.LossIdeal.Gen Cert.Blocks Cert.RealLaws Cert.Rows

section Trip

variable (v7 : Vec Ideal S64x1024 .f32) (v18 : Vec Ideal S1x1024 .f32) (v23 : Vec Ideal S64x1024 .f32)
  (xr tr : ℕ → Fin 1024 → ℝ) (g : Fin 1024 → ℝ)

theorem pay6_real (hx : ∀ (r : Fin 64) j, v7 (ix2 r j) = (xr r j : EReal)) (r : Fin 64) :
    k0_pay6 (F := Ideal) v7 (ix2 r 0) = (rinv (xr r) : EReal) := by
  pointwise [k0_pay6]
  simp only [hx]
  exact rsqrt_ms _

theorem pay7_real (hx : ∀ (r : Fin 64) j, v7 (ix2 r j) = (xr r j : EReal)) (r : Fin 64) (j : Fin 1024) :
    k0_pay7 (F := Ideal) v7 (ix2 r j) = (xn (xr r) j : EReal) := by
  pointwise [k0_pay7]
  rw [hx, pay6_real v7 xr hx, ← EReal.coe_mul]
  rfl

theorem pay8_real (hx : ∀ (r : Fin 64) j, v7 (ix2 r j) = (xr r j : EReal)) (hg : ∀ j, v18 (ix2 0 j) = (g j : EReal))
    (ht : ∀ (r : Fin 64) j, v23 (ix2 r j) = (tr r j : EReal)) (r : Fin 64) (j : Fin 1024) :
    k0_pay8 (F := Ideal) v7 v18 v23 (ix2 r j) = (err (xr r) g (tr r) j : EReal) := by
  pointwise [k0_pay8]
  rw [pay7_real v7 xr hx, hg, ht, ← EReal.coe_mul, ← EReal.coe_sub]
  rfl

theorem pay10_real (hx : ∀ (r : Fin 64) j, v7 (ix2 r j) = (xr r j : EReal)) (hg : ∀ j, v18 (ix2 0 j) = (g j : EReal))
    (ht : ∀ (r : Fin 64) j, v23 (ix2 r j) = (tr r j : EReal)) (r : Fin 64) (j : Fin 1024) :
    k0_pay10 (F := Ideal) v7 v18 v23 (ix2 r j) = (dy (xr r) g (tr r) j : EReal) := by
  pointwise [k0_pay10]
  rw [pay8_real v7 v18 v23 xr tr g hx hg ht, show Ideal.ofBits .f32 981467136#32 = _ from ofBits_recip1024, ← EReal.coe_mul]
  rfl

/-- The squared error of the trip's rows, eight rows apart, added to the block of partial sums. -/
theorem pay9_real (hx : ∀ (r : Fin 64) j, v7 (ix2 r j) = (xr r j : EReal)) (hg : ∀ j, v18 (ix2 0 j) = (g j : EReal))
    (ht : ∀ (r : Fin 64) j, v23 (ix2 r j) = (tr r j : EReal)) (v25 : Vec Ideal S8x1024 .f32) (s : Fin 8) (j : Fin 1024) :
    k0_pay9 (F := Ideal) v7 v18 v23 v25 (ix2 s j)
      = v25 (ix2 s j) + ((∑ a ∈ Finset.range 8, err (xr (8 * a + s)) g (tr (8 * a + s)) j * err (xr (8 * a + s)) g (tr (8 * a + s)) j : ℝ) : EReal) := by
  pointwise [k0_pay9]
  simp only [pay8_real v7 v18 v23 xr tr g hx hg ht, ← EReal.coe_mul, ← EReal.coe_add]
  simp [Finset.sum_range_succ]

/-- The scale's gradient of the trip's rows, likewise. -/
theorem pay3_real (v17 v46 : Vec Ideal S64x1024 .f32) (v47 : Vec Ideal S8x1024 .f32)
    (a b : ℕ → Fin 1024 → ℝ) (ha : ∀ (r : Fin 64) j, v17 (ix2 r j) = (a r j : EReal)) (hb : ∀ (r : Fin 64) j, v46 (ix2 r j) = (b r j : EReal))
    (s : Fin 8) (j : Fin 1024) :
    k0_pay3 (F := Ideal) v17 v46 v47 (ix2 s j)
      = v47 (ix2 s j) + ((∑ k ∈ Finset.range 8, b (8 * k + s) j * a (8 * k + s) j : ℝ) : EReal) := by
  pointwise [k0_pay3]
  simp only [ha, hb, ← EReal.coe_mul, ← EReal.coe_add]
  simp [Finset.sum_range_succ]

/-- The rows' gradient. -/
theorem pay4_real (hx : ∀ (r : Fin 64) j, v7 (ix2 r j) = (xr r j : EReal)) (hg : ∀ j, v18 (ix2 0 j) = (g j : EReal))
    (ht : ∀ (r : Fin 64) j, v23 (ix2 r j) = (tr r j : EReal)) (r : Fin 64) (j : Fin 1024) :
    k0_pay4 (F := Ideal) (k0_pay6 v7) (k0_pay7 v7) (k0_pay10 v7 v18 v23) v18 (ix2 r j) = (dx (xr r) g (tr r) j : EReal) := by
  pointwise [k0_pay4]
  simp only [pay6_real v7 xr hx, pay7_real v7 xr hx, pay10_real v7 v18 v23 xr tr g hx hg ht, hg, ← EReal.coe_mul, coe_sum,
    show Ideal.ofBits .f32 1149239296#32 = _ from ofBits_1024]
  rw [div_coe _ _ (by norm_num), ← EReal.coe_mul, ← EReal.coe_sub, ← EReal.coe_mul]
  rfl

theorem pay5_real (hx : ∀ (r : Fin 64) j, v7 (ix2 r j) = (xr r j : EReal)) (hg : ∀ j, v18 (ix2 0 j) = (g j : EReal))
    (ht : ∀ (r : Fin 64) j, v23 (ix2 r j) = (tr r j : EReal)) (r : Fin 64) (j : Fin 1024) :
    k0_pay5 (F := Ideal) (k0_pay6 v7) (k0_pay7 v7) (k0_pay10 v7 v18 v23) v18 (ix2 r j) = (dx (xr r) g (tr r) j : EReal) := by
  pointwise [k0_pay5]
  first
    | exact pay4_real v7 v18 v23 xr tr g hx hg ht r j
    | (simp only [pay6_real v7 xr hx, pay7_real v7 xr hx, pay10_real v7 v18 v23 xr tr g hx hg ht, hg, ← EReal.coe_mul, coe_sum,
        show Ideal.ofBits .f32 1149239296#32 = _ from ofBits_1024]
       rw [div_coe _ _ (by norm_num), ← EReal.coe_mul, ← EReal.coe_sub, ← EReal.coe_mul]
       rfl)

end Trip

section Block

variable (x : Vec Ideal S512x1024 .f32) (g : Vec Ideal S1x1024 .f32) (t : Vec Ideal S512x1024 .f32)
  (xr tr : ℕ → Fin 1024 → ℝ) (gr : Fin 1024 → ℝ)

/-- Trip `k`'s rows of a block of real numbers. -/
theorem part_real (k : Fin k0_t1_loop.trips) (hx : ∀ (r : Fin 512) j, x (ix2 r j) = (xr r j : EReal)) (r : Fin 64) (j : Fin 1024) :
    part x k (ix2 r j) = (xr (64 * k.val + r.val) j : EReal) := by
  have hk : k.val < 8 := lt_of_lt_of_eq k.isLt trips_eq
  have hr : (r : Nat) < 64 := r.isLt
  have e : part x k (ix2 r j) = x (ix2 ⟨64 * k.val + r.val, by omega⟩ j) := by
    refine View.ld_unit_apply_of x (k0_off1 k) S64x1024.size (k0_off1_inb k) _ _ fun a => ?_
    rw [show k0_off1 k a = (![64 * k.val, 0] : Fin 2 → Nat) a from congrFun (k0_off1_eq k) a]
    revert a
    refine Fin.forall_fin_two.mpr ⟨rfl, ?_⟩
    show (j : Nat) = 0 + (j : Nat)
    omega
  rw [e, hx]

variable (hx : ∀ (r : Fin 512) j, x (ix2 r j) = (xr r j : EReal)) (hg : ∀ j, g (ix2 0 j) = (gr j : EReal))
  (ht : ∀ (r : Fin 512) j, t (ix2 r j) = (tr r j : EReal))
include hx hg ht

theorem accL_real (s : Vec Ideal S8x1024 .f32) (k : ℕ) (hk : k ≤ 8) (u : Fin 8) (j : Fin 1024) :
    accL x g t s k (ix2 u j) = s (ix2 u j) + ((∑ q ∈ Finset.range k, ∑ a ∈ Finset.range 8,
      err (xr (64 * q + (8 * a + u))) gr (tr (64 * q + (8 * a + u))) j * err (xr (64 * q + (8 * a + u))) gr (tr (64 * q + (8 * a + u))) j : ℝ) : EReal) := by
  induction k with
  | zero => simp [accL]
  | succ k ih =>
    have h : k < k0_t1_loop.trips := lt_of_lt_of_eq hk trips_eq.symm
    rw [accL, dif_pos h, pay9_real _ _ _ (fun r => xr (64 * k + r)) (fun r => tr (64 * k + r)) gr
      (part_real x xr ⟨k, h⟩ hx) hg (part_real t tr ⟨k, h⟩ ht), ih (by omega), Finset.sum_range_succ _ k, EReal.coe_add, add_assoc]

theorem accG_real (s : Vec Ideal S8x1024 .f32) (k : ℕ) (hk : k ≤ 8) (u : Fin 8) (j : Fin 1024) :
    accG x g t s k (ix2 u j) = s (ix2 u j) + ((∑ q ∈ Finset.range k, ∑ a ∈ Finset.range 8,
      dy (xr (64 * q + (8 * a + u))) gr (tr (64 * q + (8 * a + u))) j * xn (xr (64 * q + (8 * a + u))) j : ℝ) : EReal) := by
  induction k with
  | zero => simp [accG]
  | succ k ih =>
    have h : k < k0_t1_loop.trips := lt_of_lt_of_eq hk trips_eq.symm
    rw [accG, dif_pos h, pay3_real _ _ _ (fun r => xn (xr (64 * k + r))) (fun r => dy (xr (64 * k + r)) gr (tr (64 * k + r)))
      (pay7_real _ (fun r => xr (64 * k + r)) (part_real x xr ⟨k, h⟩ hx))
      (pay10_real _ _ _ (fun r => xr (64 * k + r)) (fun r => tr (64 * k + r)) gr (part_real x xr ⟨k, h⟩ hx) hg (part_real t tr ⟨k, h⟩ ht)),
      ih (by omega), Finset.sum_range_succ _ k, EReal.coe_add, add_assoc]

theorem outX_real (r : Fin 512) (j : Fin 1024) : outX x g t (ix2 r j) = (dx (xr r) gr (tr r) j : EReal) := by
  have hr : (r : Nat) < 512 := r.isLt
  refine (pay4_real _ _ _ (fun q => xr (64 * (r.val / 64) + q)) (fun q => tr (64 * (r.val / 64) + q)) gr
    (part_real x xr (tripOf (ix2 r j)) hx) hg (part_real t tr (tripOf (ix2 r j)) ht) ⟨r.val % 64, Nat.mod_lt _ (by decide)⟩ j).trans ?_
  rw [show 64 * (r.val / 64) + ((⟨r.val % 64, Nat.mod_lt _ (by decide)⟩ : Fin 64) : Nat) = r.val from Nat.div_add_mod _ _]

theorem outXb_real (r : Fin 512) (j : Fin 1024) : outXb x g t (ix2 r j) = (dx (xr r) gr (tr r) j : EReal) := by
  have hr : (r : Nat) < 512 := r.isLt
  refine (pay5_real _ _ _ (fun q => xr (64 * (r.val / 64) + q)) (fun q => tr (64 * (r.val / 64) + q)) gr
    (part_real x xr (tripOf (ix2 r j)) hx) hg (part_real t tr (tripOf (ix2 r j)) ht) ⟨r.val % 64, Nat.mod_lt _ (by decide)⟩ j).trans ?_
  rw [show 64 * (r.val / 64) + ((⟨r.val % 64, Nat.mod_lt _ (by decide)⟩ : Fin 64) : Nat) = r.val from Nat.div_add_mod _ _]

end Block

end Cert.LossIdeal.Value

end
-- ==== Proof.LossFrame.lean ====
/-
  The loss call's run: what each point of the grid leaves in the four buffers the call writes, by the loop's values
  (LossLoop), and from there the run of the whole program. The two accumulated blocks are cleared at the first point
  and carried from point to point; the two gradient blocks are written at every point.
-/
module

public import proofs.«01_k».proof.Proof.LossLoop
public import proofs.«01_k».proof.Proof.Gen.LossIdeal.Frame.Runs
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.LossIdeal.Value

open Cert.LossIdeal Cert.LossIdeal.Gen Cert.Blocks

variable {F : FTy → Type} [FloatOps F]

local notation "𝕄" => MT nD τ sig Unit (Elt F) ℕ (UR sig nD τ) ℕ

section Body

variable (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S8x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S8x1024 .f32) (h7 : a7.IsWhole)
  (x : Vec F S512x1024 .f32) (g : Vec F S1x1024 .f32) (t : Vec F S512x1024 .f32) (l d : Vec F S8x1024 .f32)

/-- What the body leaves: the inputs as they were, the accumulated blocks advanced from `l` and `d`, the gradients. -/
def leaves : sProp 𝕄 :=
  iprop(owns (c : Thread nD τ) a1 fullShare x ∗ owns (c : Thread nD τ) a2 fullShare g ∗ owns (c : Thread nD τ) a3 fullShare t
    ∗ owns (c : Thread nD τ) a4 fullShare (accL x g t l 8) ∗ owns (c : Thread nD τ) a5 fullShare (outX x g t)
    ∗ owns (c : Thread nD τ) a6 fullShare (outXb x g t) ∗ owns (c : Thread nD τ) a7 fullShare (accG x g t d 8))

/-- The body at the first point. -/
theorem run_first (hc0 : cond0_0 i) (E : Set ℕ) (K : PUnit → sProp 𝕄) :
    iprop(owns (c : Thread nD τ) a1 fullShare x ∗ owns (c : Thread nD τ) a2 fullShare g ∗ owns (c : Thread nD τ) a3 fullShare t
      ∗ (∃ d, owns (c : Thread nD τ) a4 fullShare d) ∗ (∃ d, owns (c : Thread nD τ) a5 fullShare d)
      ∗ (∃ d, owns (c : Thread nD τ) a6 fullShare d) ∗ (∃ d, owns (c : Thread nD τ) a7 fullShare d)
      ∗ (leaves (F := F) c a1 a2 a3 a4 a5 a6 a7 x g t k0_pay1 k0_pay2 -∗ K ⟨⟩))
    ⊢ wp Idealize.ShloMosaic.frame (wpE (defs₀ (F := F)) Variants.none c none) E
        (cc0_loss i a1 h1 a2 h2 a3 h3 a4 h4 a5 h5 a6 h6 a7 h7) K := by
  simp only [cc0_loss_eq_skeleton]; unfold cc0_loss_skel
  unfold leaves owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := h1.eq_unread hf1; obtain rfl := h2.eq_unread hf2; obtain rfl := h3.eq_unread hf3
  sl_exec (disch := first | sl_exact hc0)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    rw [View.writes_append]
    exact (after_loop Variants.none c none i a1 h1 a2 h2 a3 h3 a4 h4 a5 h5 a6 h6 a7 h7 x g t _ _ _ _).1.trans
      (congrArg (fun s => accL x g t s 8) (read_cons_whole (S := S8x1024) hz _ a4.view _ _ _))
  isplitl [H5]
  · iexists _; isplitr; swap; · iexact H5
    ipureintro
    exact (after_loop Variants.none c none i a1 h1 a2 h2 a3 h3 a4 h4 a5 h5 a6 h6 a7 h7 x g t _ _ _ _).2.1
  isplitl [H6]
  · iexists _; isplitr; swap; · iexact H6
    ipureintro
    exact (after_loop Variants.none c none i a1 h1 a2 h2 a3 h3 a4 h4 a5 h5 a6 h6 a7 h7 x g t _ _ _ _).2.2.1
  · iexists _; isplitr; swap; · iexact H7
    ipureintro
    rw [View.writes_append]
    exact (after_loop Variants.none c none i a1 h1 a2 h2 a3 h3 a4 h4 a5 h5 a6 h6 a7 h7 x g t _ _ _ _).2.2.2.trans
      (congrArg (fun s => accG x g t s 8) (read_cons_whole (S := S8x1024) hz _ a7.view _ _ _))

/-- The body at a later point. -/
theorem run_later (hc0 : ¬cond0_0 i) (E : Set ℕ) (K : PUnit → sProp 𝕄) :
    iprop(owns (c : Thread nD τ) a1 fullShare x ∗ owns (c : Thread nD τ) a2 fullShare g ∗ owns (c : Thread nD τ) a3 fullShare t
      ∗ owns (c : Thread nD τ) a4 fullShare l ∗ (∃ d, owns (c : Thread nD τ) a5 fullShare d)
      ∗ (∃ d, owns (c : Thread nD τ) a6 fullShare d) ∗ owns (c : Thread nD τ) a7 fullShare d
      ∗ (leaves (F := F) c a1 a2 a3 a4 a5 a6 a7 x g t l d -∗ K ⟨⟩))
    ⊢ wp Idealize.ShloMosaic.frame (wpE (defs₀ (F := F)) Variants.none c none) E
        (cc0_loss i a1 h1 a2 h2 a3 h3 a4 h4 a5 h5 a6 h6 a7 h7) K := by
  simp only [cc0_loss_eq_skeleton]; unfold cc0_loss_skel
  unfold leaves owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := h1.eq_unread hf1; obtain rfl := h2.eq_unread hf2; obtain rfl := h3.eq_unread hf3
  sl_exec (disch := first | sl_exact hc0)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    exact (after_loop Variants.none c none i a1 h1 a2 h2 a3 h3 a4 h4 a5 h5 a6 h6 a7 h7 x g t _ _ _ _).1.trans (by rw [hf4])
  isplitl [H5]
  · iexists _; isplitr; swap; · iexact H5
    ipureintro
    exact (after_loop Variants.none c none i a1 h1 a2 h2 a3 h3 a4 h4 a5 h5 a6 h6 a7 h7 x g t _ _ _ _).2.1
  isplitl [H6]
  · iexists _; isplitr; swap; · iexact H6
    ipureintro
    exact (after_loop Variants.none c none i a1 h1 a2 h2 a3 h3 a4 h4 a5 h5 a6 h6 a7 h7 x g t _ _ _ _).2.2.1
  · iexists _; isplitr; swap; · iexact H7
    ipureintro
    exact (after_loop Variants.none c none i a1 h1 a2 h2 a3 h3 a4 h4 a5 h5 a6 h6 a7 h7 x g t _ _ _ _).2.2.2.trans (by rw [hf7])

end Body

variable (m : (ℓ : Loc nD τ sig) → Buf (Elt F) ℓ) (ρ : Dev nD → PrngReg)

/-- The partial sums of the squared error after point `n`. -/
def sumL (c : Dev nD) : (n : ℕ) → n < cfg0.N → Vec F S8x1024 .f32
  | 0, h => accL (iblk m c 0 ⟨0, h⟩) (iblk m c 1 ⟨0, h⟩) (iblk m c 2 ⟨0, h⟩) k0_pay1 8
  | n + 1, h => accL (iblk m c 0 ⟨n + 1, h⟩) (iblk m c 1 ⟨n + 1, h⟩) (iblk m c 2 ⟨n + 1, h⟩) (sumL c n (Nat.lt_of_succ_lt h)) 8

/-- The partial sums of the scale's gradient after point `n`. -/
def sumG (c : Dev nD) : (n : ℕ) → n < cfg0.N → Vec F S8x1024 .f32
  | 0, h => accG (iblk m c 0 ⟨0, h⟩) (iblk m c 1 ⟨0, h⟩) (iblk m c 2 ⟨0, h⟩) k0_pay2 8
  | n + 1, h => accG (iblk m c 0 ⟨n + 1, h⟩) (iblk m c 1 ⟨n + 1, h⟩) (iblk m c 2 ⟨n + 1, h⟩) (sumG c n (Nat.lt_of_succ_lt h)) 8

theorem sumL_first (c : Dev nD) (t : Fin cfg0.N) (h0 : t.val % 8 = 0) :
    sumL m c t.val t.isLt = accL (iblk m c 0 t) (iblk m c 1 t) (iblk m c 2 t) k0_pay1 8 := by
  obtain ⟨n, hn⟩ := t
  have hN : n < 8 := lt_of_lt_of_eq hn (show cfg0.N = 8 from N_0)
  cases n with
  | zero => rfl
  | succ n => exfalso; dsimp only at h0; omega

theorem sumL_later (c : Dev nD) (t : Fin cfg0.N) (h0 : ¬t.val % 8 = 0) :
    sumL m c t.val t.isLt = accL (iblk m c 0 t) (iblk m c 1 t) (iblk m c 2 t)
      (sumL m c (t.val - 1) (Nat.lt_of_le_of_lt (Nat.sub_le _ _) t.isLt)) 8 := by
  obtain ⟨n, hn⟩ := t
  cases n with
  | zero => exact absurd rfl h0
  | succ n => rfl

theorem sumG_first (c : Dev nD) (t : Fin cfg0.N) (h0 : t.val % 8 = 0) :
    sumG m c t.val t.isLt = accG (iblk m c 0 t) (iblk m c 1 t) (iblk m c 2 t) k0_pay2 8 := by
  obtain ⟨n, hn⟩ := t
  have hN : n < 8 := lt_of_lt_of_eq hn (show cfg0.N = 8 from N_0)
  cases n with
  | zero => rfl
  | succ n => exfalso; dsimp only at h0; omega

theorem sumG_later (c : Dev nD) (t : Fin cfg0.N) (h0 : ¬t.val % 8 = 0) :
    sumG m c t.val t.isLt = accG (iblk m c 0 t) (iblk m c 1 t) (iblk m c 2 t)
      (sumG m c (t.val - 1) (Nat.lt_of_le_of_lt (Nat.sub_le _ _) t.isLt)) 8 := by
  obtain ⟨n, hn⟩ := t
  cases n with
  | zero => exact absurd rfl h0
  | succ n => rfl

/-- What the region finds in its arrays and what each point leaves in each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => sumL m c t.val t.isLt
    | ⟨4, _⟩ => outX (iblk m c 0 t) (iblk m c 1 t) (iblk m c 2 t)
    | ⟨5, _⟩ => outXb (iblk m c 0 t) (iblk m c 1 t) (iblk m c 2 t)
    | ⟨6, _⟩ => sumG m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = sumL m c t.val t.isLt := by dsimp only [dats]
theorem after0_4 (c : Dev nD) (t : Fin cfg0.N) :
    (dats m 0 c).after 4 t = outX (iblk m c 0 t) (iblk m c 1 t) (iblk m c 2 t) := by dsimp only [dats]
theorem after0_5 (c : Dev nD) (t : Fin cfg0.N) :
    (dats m 0 c).after 5 t = outXb (iblk m c 0 t) (iblk m c 1 t) (iblk m c 2 t) := by dsimp only [dats]
theorem after0_6 (c : Dev nD) (t : Fin cfg0.N) : (dats m 0 c).after 6 t = sumG m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point an accumulated block holds what the point before left. -/
theorem before0_3 (c : Dev nD) (t : Fin cfg0.N) (h0 : ¬t.val % 8 = 0) (d) :
    (dats m 0 c).before 3 t d = sumL m c (t.val - 1) (Nat.lt_of_le_of_lt (Nat.sub_le _ _) t.isLt) := by
  have hN : t.val < 8 := lt_of_lt_of_eq t.isLt (show cfg0.N = 8 from N_0)
  rw [Dat.before_out_kept _ 3 rfl t (by omega)
    (Bool.eq_false_iff.mpr fun h => by have := (flush0_3 _).mp h; dsimp only at this; omega) (fun _ => rfl) (fun _ _ => rfl)]
  dsimp only [dats]

theorem before0_6 (c : Dev nD) (t : Fin cfg0.N) (h0 : ¬t.val % 8 = 0) (d) :
    (dats m 0 c).before 6 t d = sumG m c (t.val - 1) (Nat.lt_of_le_of_lt (Nat.sub_le _ _) t.isLt) := by
  have hN : t.val < 8 := lt_of_lt_of_eq t.isLt (show cfg0.N = 8 from N_0)
  rw [Dat.before_out_kept _ 6 rfl t (by omega)
    (Bool.eq_false_iff.mpr fun h => by have := (flush0_6 _).mp h; dsimp only at this; omega) (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the first one clears the accumulated blocks, a later one finds what the point before left. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [sumL_first m c t h0, sumG_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ (iblk m c 0 t) (iblk m c 1 t) (iblk m c 2 t) ((hcond0_0 t).mpr h0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro Hl
    unfold leaves
    isplitl [HΦ]; · iexact HΦ
    isplitl [Ho]; · iexact Ho
    iexact Hl
  · rw [sumL_later m c t h0, sumG_later m c t h0]
    simp only [before0_3 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (iblk m c 0 t) (iblk m c 1 t) (iblk m c 2 t) _ _ (fun h => h0 ((hcond0_0 t).mp h)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro Hl
    unfold leaves
    isplitl [HΦ]; · iexact HΦ
    isplitl [Ho]; · iexact Ho
    iexact Hl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program's run: the region's arrays at what the points left, then the host lines after it; no signal left over. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument as it was and no signal left over. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
  ((θ_run defs _ _).mono (fun _ h => h.2) (run_main_quiescent m ρ))

end Cert.LossIdeal.Value

end
-- ==== Proof.LossValue.lean ====
/-
  The loss call's results over the real numbers: the two gradient arrays, the two blocks of partial sums and the host's
  sums of them, as formulas of the rows of `x`, the scale `g` and the rows of the target.
-/
module

public import proofs.«01_k».proof.Proof.LossPay
public import proofs.«01_k».proof.Proof.LossFrame

@[expose] public section

set_option maxRecDepth 16384

noncomputable section

open Idealize.ShloMosaic Idealize.ShloMosaic.TcCoe Idealize.SL.Sem
open Idealize.ShloMosaic.Pipeline (Dat Cfg Window)

namespace Cert.LossIdeal.Value

open Cert.LossIdeal Cert.LossIdeal.Gen Cert.Blocks Cert.RealLaws Cert.Rows

variable (m : (ℓ : Loc nD τ sig) → Buf (Elt Ideal) ℓ) (ρ : Dev nD → PrngReg) (c : Dev nD)
  (X T : ℕ → Fin 1024 → ℝ) (g : Fin 1024 → ℝ)

/-- The arguments hold the real rows `X`, the scale `g` and the rows `T`. -/
structure Holds : Prop where
  x : ∀ (i : Fin 4096) j, (m ((c : Thread nD τ).loc main_arg0) : Vec Ideal S4096x1024 .f32) (ix2 i j) = (X i j : EReal)
  g : ∀ j : Fin 1024, (m ((c : Thread nD τ).loc main_arg1) : Vec Ideal S1024 .f32) (ix1 j) = (g j : EReal)
  t : ∀ (i : Fin 4096) j, (m ((c : Thread nD τ).loc main_arg2) : Vec Ideal S4096x1024 .f32) (ix2 i j) = (T i j : EReal)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)

theorem V_v0 : V m c main_v0 = shapeCast S1x1024 (m ((c : Thread nD τ).loc main_arg1)) shapeCasts_S1024_S1x1024 := by
  unfold V V0
  simp only [hostOps0, List.flatten_cons, List.flatten_nil, List.append_nil]
  after_results
  rfl

variable {m c X T g} (h : Holds m c X T g)
include h

theorem blk_x (t : Fin cfg0.N) (r : Fin 512) (j : Fin 1024) : iblk m c 0 t (ix2 r j) = (X (512 * t.val + r) j : EReal) := by
  have hN : t.val < 8 := lt_of_lt_of_eq t.isLt (show cfg0.N = 8 from N_0)
  have e : iblk m c 0 t (ix2 r j) = (m ((c : Thread nD τ).loc main_arg0) : Vec Ideal S4096x1024 .f32) (ix2 ⟨512 * t.val + r, by omega⟩ j) := by
    blk_simp [iblk]
    rw [show V m c main_arg0 = _ from V_main_arg0 m c]
    congr 1
    blk_ext [idx_0]
  rw [e, h.x]

theorem blk_t (t : Fin cfg0.N) (r : Fin 512) (j : Fin 1024) : iblk m c 2 t (ix2 r j) = (T (512 * t.val + r) j : EReal) := by
  have hN : t.val < 8 := lt_of_lt_of_eq t.isLt (show cfg0.N = 8 from N_0)
  have e : iblk m c 2 t (ix2 r j) = (m ((c : Thread nD τ).loc main_arg2) : Vec Ideal S4096x1024 .f32) (ix2 ⟨512 * t.val + r, by omega⟩ j) := by
    blk_simp [iblk]
    rw [show V m c main_arg2 = _ from V_main_arg2 m c]
    congr 1
    blk_ext [idx_2]
  rw [e, h.t]

theorem blk_g (t : Fin cfg0.N) (j : Fin 1024) : iblk m c 1 t (ix2 0 j) = (g j : EReal) := by
  have e : iblk m c 1 t (ix2 0 j) = (m ((c : Thread nD τ).loc main_arg1) : Vec Ideal S1024 .f32) (ix1 j) := by
    blk_simp [iblk]
    rw [show V m c main_v0 = _ from V_v0 m c]
    pointwise
    refine congrArg (fun k => (m ((c : Thread nD τ).loc main_arg1) : Vec Ideal S1024 .f32) (ix1 k)) (Fin.ext ?_)
    blk_simp [idx_1]
  rw [e, h.g]

/-- The gradient array. -/
theorem final_dx : (dats m 0 c).arrAt 4 cfg0.N = (fun y => ((dx (X (y 0 : Fin 4096)) g (T (y 0 : Fin 4096)) (y 1) : ℝ) : EReal) : Vec Ideal S4096x1024 .f32) := by
  refine (dats m 0 c).arrAt_eq_of_covers 4 _ (by decide +kernel) fun t hf y => ?_
  blk_simp
  rw [after0_4, idx_4]
  have e : ((win0_4.blk t).view.emb y 1 : Fin 1024) = y 1 := Fin.ext (by blk_simp [idx_4])
  rw [e]
  have key (r : Fin 512) (j : Fin 1024) : outX (iblk m c 0 t) (iblk m c 1 t) (iblk m c 2 t) (ix2 r j)
      = ((dx (X (t.val * 512 + r)) g (T (t.val * 512 + r)) j : ℝ) : EReal) := by
    rw [outX_real _ _ _ (fun r => X (512 * t.val + r)) (fun r => T (512 * t.val + r)) g (blk_x h t) (blk_g h t) (blk_t h t),
      Nat.mul_comm t.val 512]
  refine .trans ?_ (key (y 0) (y 1))
  exact congrArg _ (eq_ix2 (n0 := 512) (n1 := 1024) y)

/-- The gradient array at the storage format of the next product. -/
theorem final_dxb : (dats m 0 c).arrAt 5 cfg0.N = (fun y => ((dx (X (y 0 : Fin 4096)) g (T (y 0 : Fin 4096)) (y 1) : ℝ) : EReal) : Vec Ideal S4096x1024 .bf16) := by
  refine (dats m 0 c).arrAt_eq_of_covers 5 _ (by decide +kernel) fun t hf y => ?_
  blk_simp
  rw [after0_5, idx_5]
  have e : ((win0_5.blk t).view.emb y 1 : Fin 1024) = y 1 := Fin.ext (by blk_simp [idx_5])
  rw [e]
  have key (r : Fin 512) (j : Fin 1024) : outXb (iblk m c 0 t) (iblk m c 1 t) (iblk m c 2 t) (ix2 r j)
      = ((dx (X (t.val * 512 + r)) g (T (t.val * 512 + r)) j : ℝ) : EReal) := by
    rw [outXb_real _ _ _ (fun r => X (512 * t.val + r)) (fun r => T (512 * t.val + r)) g (blk_x h t) (blk_g h t) (blk_t h t),
      Nat.mul_comm t.val 512]
  refine .trans ?_ (key (y 0) (y 1))
  exact congrArg _ (eq_ix2 (n0 := 512) (n1 := 1024) y)

theorem sumL_real (u : Fin 8) (j : Fin 1024) (n : ℕ) (hn : n < cfg0.N) :
    sumL m c n hn (ix2 u j) = ((∑ p ∈ Finset.range (n + 1), ∑ q ∈ Finset.range 8, ∑ a ∈ Finset.range 8,
      err (X (512 * p + (64 * q + (8 * a + u)))) g (T (512 * p + (64 * q + (8 * a + u)))) j
        * err (X (512 * p + (64 * q + (8 * a + u)))) g (T (512 * p + (64 * q + (8 * a + u)))) j : ℝ) : EReal) := by
  induction n with
  | zero =>
    rw [sumL, accL_real _ _ _ (fun r => X (512 * 0 + r)) (fun r => T (512 * 0 + r)) g (blk_x h ⟨0, hn⟩) (blk_g h ⟨0, hn⟩) (blk_t h ⟨0, hn⟩) _ 8 le_rfl]
    rw [show k0_pay1 (F := Ideal) (ix2 u j) = 0 from by pointwise [k0_pay1], zero_add,
      Finset.sum_range_one]
  | succ n ih =>
    rw [sumL, accL_real _ _ _ (fun r => X (512 * (n + 1) + r)) (fun r => T (512 * (n + 1) + r)) g (blk_x h ⟨n + 1, hn⟩) (blk_g h ⟨n + 1, hn⟩) (blk_t h ⟨n + 1, hn⟩) _ 8 le_rfl,
      ih, ← EReal.coe_add, ← Finset.sum_range_succ]

theorem sumG_real (u : Fin 8) (j : Fin 1024) (n : ℕ) (hn : n < cfg0.N) :
    sumG m c n hn (ix2 u j) = ((∑ p ∈ Finset.range (n + 1), ∑ q ∈ Finset.range 8, ∑ a ∈ Finset.range 8,
      dy (X (512 * p + (64 * q + (8 * a + u)))) g (T (512 * p + (64 * q + (8 * a + u)))) j
        * xn (X (512 * p + (64 * q + (8 * a + u)))) j : ℝ) : EReal) := by
  induction n with
  | zero =>
    rw [sumG, accG_real _ _ _ (fun r => X (512 * 0 + r)) (fun r => T (512 * 0 + r)) g (blk_x h ⟨0, hn⟩) (blk_g h ⟨0, hn⟩) (blk_t h ⟨0, hn⟩) _ 8 le_rfl]
    rw [show k0_pay2 (F := Ideal) (ix2 u j) = 0 from by pointwise [k0_pay2], zero_add,
      Finset.sum_range_one]
  | succ n ih =>
    rw [sumG, accG_real _ _ _ (fun r => X (512 * (n + 1) + r)) (fun r => T (512 * (n + 1) + r)) g (blk_x h ⟨n + 1, hn⟩) (blk_g h ⟨n + 1, hn⟩) (blk_t h ⟨n + 1, hn⟩) _ 8 le_rfl,
      ih, ← EReal.coe_add, ← Finset.sum_range_succ]

omit h in
/-- Rows 512, 64 and 8 apart, and the eight of one block of partial sums, are all the rows. -/
theorem all_rows (f : ℕ → ℝ) :
    ∑ u : Fin 8, ∑ p ∈ Finset.range 8, ∑ q ∈ Finset.range 8, ∑ a ∈ Finset.range 8, f (512 * p + (64 * q + (8 * a + u)))
      = ∑ i ∈ Finset.range 4096, f i := by
  rw [Fin.sum_univ_eq_sum_range (fun u => ∑ p ∈ Finset.range 8, ∑ q ∈ Finset.range 8, ∑ a ∈ Finset.range 8, f (512 * p + (64 * q + (8 * a + u)))) 8,
    Finset.sum_comm]
  rw [← sum_range_mul f 8 512]
  refine Finset.sum_congr rfl fun p _ => ?_
  rw [Finset.sum_comm, ← sum_range_mul (fun i => f (512 * p + i)) 8 64]
  refine Finset.sum_congr rfl fun q _ => ?_
  rw [Finset.sum_comm, ← sum_range_mul (fun i => f (512 * p + (64 * q + i))) 8 8]

omit h in
/-- The block of partial sums of the squared error. -/
theorem final_l : (dats m 0 c).arrAt 3 cfg0.N = (sumL m c 7 (by rw [show cfg0.N = 8 from N_0]; decide) : Vec Ideal S8x1024 .f32) := by
  refine (dats m 0 c).arrAt_eq_of_after_last 3 t0_7 (by decide +kernel) _ fun j => ?_
  blk_simp
  rw [after0_3]
  rfl

omit h in
/-- The block of partial sums of the scale's gradient. -/
theorem final_g : (dats m 0 c).arrAt 6 cfg0.N = (sumG m c 7 (by rw [show cfg0.N = 8 from N_0]; decide) : Vec Ideal S8x1024 .f32) := by
  refine (dats m 0 c).arrAt_eq_of_after_last 6 t0_7 (by decide +kernel) _ fun j => ?_
  blk_simp
  rw [after0_6]
  rfl

theorem tail_loss : (Pipeline.afterTail₀ cfgs (dats m) 0 (V0 m) [hostOps1] c main_v3 : Vec Ideal S_ .f32)
    = fun _ => (((1 / 2048) * ∑ i ∈ Finset.range 4096, ∑ j : Fin 1024, err (X i) g (T i) j * err (X i) g (T i) j : ℝ) : EReal) := by
  unfold Pipeline.afterTail₀
  simp only [hostOps1, List.flatten_cons, List.flatten_nil, List.append_nil]
  after_results
  rw [Pipeline.withArrays_arr spec0 (by decide) c (V0 m c) (fun w => (dats m 0 c).arrAt w cfg0.N) 3]
  rw [final_l]
  funext i
  pointwise
  rw [show Ideal.ofBits .f32 973078528#32 = _ from ofBits_recip2048]
  simp only [sumL_real h, coe_sum, ← EReal.coe_mul]
  refine congrArg (fun a : ℝ => ((1 / 2048 * a : ℝ) : EReal)) ?_
  rw [Finset.sum_comm, Finset.sum_comm (s := Finset.range 4096)]
  exact Finset.sum_congr rfl fun j _ => all_rows fun i => err (X i) g (T i) j * err (X i) g (T i) j

theorem tail_dg : (Pipeline.afterTail₀ cfgs (dats m) 0 (V0 m) [hostOps1] c main_v4 : Vec Ideal S1024 .f32)
    = fun y => ((∑ i ∈ Finset.range 4096, dy (X i) g (T i) (y 0) * xn (X i) (y 0) : ℝ) : EReal) := by
  unfold Pipeline.afterTail₀
  simp only [hostOps1, List.flatten_cons, List.flatten_nil, List.append_nil]
  after_results
  rw [Pipeline.withArrays_arr spec0 (by decide) c (V0 m c) (fun w => (dats m 0 c).arrAt w cfg0.N) 6]
  rw [final_g]
  funext y
  obtain ⟨j, rfl⟩ : ∃ j : Fin 1024, y = ix1 j := ⟨y 0, eq_ix1 y⟩
  pointwise
  simp only [sumG_real h, coe_sum]
  exact congrArg (fun a : ℝ => (a : EReal)) (all_rows fun i => dy (X i) g (T i) j * xn (X i) j)

end Cert.LossIdeal.Value

end
-- ==== Proof.LossRefValue.lean ====
/- Every result of the reference, in closed form over the real numbers. -/
module
public import Idealize.ShloMosaic.Lib.Pointwise
public import proofs.«01_k».proof.Proof.Gen.LossRefIdeal.Read
public import proofs.«01_k».proof.Proof.LossPay
@[expose] public section
set_option maxRecDepth 16384

noncomputable section
open Idealize.ShloMosaic Idealize.ShloMosaic.TcCoe Idealize.SL.Sem
open Cert.RealLaws Cert.Rows

namespace Cert.LossRefIdeal.Value
open Cert.LossRefIdeal Cert.LossRefIdeal.Gen Cert.LossRefIdeal.Read

variable {x : Vec Ideal S4096x1024 .f32} {g : Vec Ideal S1024 .f32} {t : Vec Ideal S4096x1024 .f32}
  {X T : ℕ → Fin 1024 → ℝ} {G : Fin 1024 → ℝ}
  (hx : ∀ (i : Fin 4096) j, x (ix2 i j) = ((X i j : ℝ) : EReal)) (hg : ∀ j, g (ix1 j) = ((G j : ℝ) : EReal))
  (ht : ∀ (i : Fin 4096) j, t (ix2 i j) = ((T i j : ℝ) : EReal))
include hx

theorem v6_real (i : Fin 4096) : val_main_v6 (F := Ideal) x (ix2 i 0) = ((ms (X i) : ℝ) : EReal) := by
  pointwise [val_main_v6, val_main_v5, val_main_v4, val_main_v3, val_main_v2, val_main_v1, val_main_v0, val_main_cst, val_main_cst_0, val_main_cst_1]
  simp only [hx, ← EReal.coe_mul, coe_sum]
  rw [show Ideal.ofBits .f32 1149239296#32 = _ from ofBits_1024, show Ideal.ofBits .f32 897988541#32 = _ from ofBits_eps,
    div_coe _ _ (by norm_num), ← EReal.coe_add]
  rfl

theorem v7_real (i : Fin 4096) : val_main_v7 (F := Ideal) x (ix2 i 0) = ((rinv (X i) : ℝ) : EReal) := by
  pointwise [val_main_v7]
  rw [v6_real hx, rsqrt_pos _ (ms_pos _)]
  rfl

theorem v10_real (i : Fin 4096) : val_main_v10 (F := Ideal) x (ix2 i 0) = ((-1 / 2 * (rinv (X i) / ms (X i)) : ℝ) : EReal) := by
  pointwise [val_main_v10, val_main_v9, val_main_v8, val_main_cst_2]
  rw [v7_real hx, v6_real hx, div_coe _ _ (ms_pos _).ne', show Ideal.ofBits .f32 3204448256#32 = _ from ofBits_neg_half, ← EReal.coe_mul]

theorem v12_real (i : Fin 4096) (j : Fin 1024) : val_main_v12 (F := Ideal) x (ix2 i j) = ((xn (X i) j : ℝ) : EReal) := by
  pointwise [val_main_v12, val_main_v11]
  rw [v7_real hx, hx, ← EReal.coe_mul]
  rfl

include hg ht

theorem v16_real (i : Fin 4096) (j : Fin 1024) : val_main_v16 (F := Ideal) x g t (ix2 i j) = ((err (X i) G (T i) j : ℝ) : EReal) := by
  pointwise [val_main_v16, val_main_v15, val_main_v14, val_main_v13]
  rw [v12_real hx, hg, ht, ← EReal.coe_mul, ← EReal.coe_sub]
  rfl

theorem v24_real : val_main_v24 (F := Ideal) x g t
    = fun _ => (((1 / 2048) * ∑ i ∈ Finset.range 4096, ∑ j : Fin 1024, err (X i) G (T i) j * err (X i) G (T i) j : ℝ) : EReal) := by
  funext y
  pointwise [val_main_v24, val_main_cst_7, val_main_v23, val_main_cst_6, val_main_v22, val_main_v21, val_main_cst_5, val_main_v20, val_main_cst_4, val_main_v17]
  simp only [v16_real hx hg ht, ← EReal.coe_mul, coe_sum]
  simp only [show Ideal.ofBits .f32 1149239296#32 = _ from ofBits_1024, show Ideal.ofBits .f32 1056964608#32 = _ from ofBits_half,
    div_coe _ _ (show (1024 : ℝ) ≠ 0 by norm_num), coe_sum, ← EReal.coe_mul]
  refine congrArg (fun a : ℝ => (a : EReal)) ?_
  rw [← Finset.sum_div, Fin.sum_univ_eq_sum_range (fun i => ∑ j, err (X i) G (T i) j * err (X i) G (T i) j) 4096]
  ring

theorem v30_real (i : Fin 4096) (j : Fin 1024) : val_main_v30 (F := Ideal) x g t (ix2 i j) = ((dy (X i) G (T i) j : ℝ) : EReal) := by
  pointwise [val_main_v30, val_main_v29, val_main_v28, val_main_v27, val_main_v26, val_main_v25, val_main_v19, val_main_v18, val_main_cst_3, val_main_cst_8, val_main_cst_9, val_main_cst_10]
  rw [v16_real hx hg ht]
  rw [show Ideal.ofBits .f32 1149239296#32 = _ from ofBits_1024, show Ideal.ofBits .f32 1056964608#32 = _ from ofBits_half,
    show Ideal.ofBits .f32 1073741824#32 = _ from ofBits_two, div_coe _ _ (by norm_num), ← EReal.coe_mul, ← EReal.coe_mul]
  refine congrArg (fun a : ℝ => (a : EReal)) ?_
  unfold dy
  ring

theorem v36_real : val_main_v36 (F := Ideal) x g t
    = fun y => ((∑ i ∈ Finset.range 4096, dy (X i) G (T i) (y 0) * xn (X i) (y 0) : ℝ) : EReal) := by
  funext y
  pointwise [val_main_v36, val_main_cst_12, val_main_v33, val_main_v32, val_main_cst_11, val_main_v31]
  obtain ⟨j, rfl⟩ : ∃ j : Fin 1024, y = ix1 j := ⟨y 0, eq_ix1 y⟩
  refine (Fin.sum_univ_one _).trans ?_
  have e (i : Fin 4096) : val_main_v12 (F := Ideal) x (ix2 i j) * val_main_v30 (F := Ideal) x g t (ix2 i j)
      = ((dy (X i) G (T i) j * xn (X i) j : ℝ) : EReal) := by
    rw [v12_real hx, v30_real hx hg ht, ← EReal.coe_mul, mul_comm]
  refine (Finset.sum_congr rfl fun i _ => e i).trans ?_
  rw [coe_sum, Fin.sum_univ_eq_sum_range (fun i => dy (X i) G (T i) j * xn (X i) j) 4096]
  rfl

theorem v35_real (i : Fin 4096) (j : Fin 1024) : val_main_v35 (F := Ideal) x g t (ix2 i j) = ((dy (X i) G (T i) j * G j : ℝ) : EReal) := by
  pointwise [val_main_v35, val_main_v34, val_main_v13]
  rw [v30_real hx hg ht, hg, ← EReal.coe_mul]

theorem v46_real (i : Fin 4096) (j : Fin 1024) : val_main_v46 (F := Ideal) x g t (ix2 i j)
    = (((∑ k, X i k * (dy (X i) G (T i) k * G k)) * (-1 / 2 * (rinv (X i) / ms (X i))) / 1024 : ℝ) : EReal) := by
  pointwise [val_main_v46, val_main_v45, val_main_cst_15, val_main_v44, val_main_v43, val_main_cst_14, val_main_v42, val_main_v39, val_main_v38, val_main_cst_13, val_main_v37]
  rw [Fin.sum_univ_one, v10_real hx]
  simp only [hx, v35_real hx hg ht, ← EReal.coe_mul, coe_sum]
  rw [show Ideal.ofBits .f32 1149239296#32 = _ from ofBits_1024, div_coe _ _ (by norm_num)]

theorem v50_real : val_main_v50 (F := Ideal) x g t = fun y => ((dx (X (y 0 : Fin 4096)) G (T (y 0 : Fin 4096)) (y 1) : ℝ) : EReal) := by
  funext y
  obtain ⟨i, j, rfl⟩ : ∃ (i : Fin 4096) (j : Fin 1024), y = ix2 i j := ⟨y 0, y 1, eq_ix2 y⟩
  pointwise [val_main_v50, val_main_v49, val_main_v48, val_main_v47, val_main_v41, val_main_v40]
  rw [v35_real hx hg ht, v7_real hx, v46_real hx hg ht, hx]
  simp only [← EReal.coe_mul, ← EReal.coe_add]
  refine congrArg (fun a : ℝ => (a : EReal)) ?_
  have e : ∑ k, dy (X i) G (T i) k * G k * xn (X i) k = rinv (X i) * ∑ k, X i k * (dy (X i) G (T i) k * G k) := by
    rw [Finset.mul_sum]
    exact Finset.sum_congr rfl fun k _ => by unfold xn; ring
  unfold dx
  rw [e, div_eq_mul_inv (rinv _) (ms _), ← rinv_sq]
  unfold xn
  ring

theorem v51_real : val_main_v51 (F := Ideal) x g t = fun y => ((dx (X (y 0 : Fin 4096)) G (T (y 0 : Fin 4096)) (y 1) : ℝ) : EReal) := by
  rw [← v50_real hx hg ht]
  rfl

end Cert.LossRefIdeal.Value

end
-- ==== Proof.LossClaim.lean ====
/- The loss call and its reference compute the same four results. -/
module
public import proofs.«01_k».proof.Defs
public import proofs.«01_k».proof.Proof.Gen.Loss
public import proofs.«01_k».proof.Proof.Gen.Pre_loss_finite
public import proofs.«01_k».proof.Proof.Gen.LossRefIdeal.Run
public import proofs.«01_k».proof.Proof.LossValue
public import proofs.«01_k».proof.Proof.LossRefValue
@[expose] public section
set_option maxRecDepth 16384

noncomputable section
open Idealize.ShloMosaic Idealize.ShloMosaic.TcCoe Idealize.SL.Sem
open Cert.RealLaws Cert.Rows

namespace Cert.LossIdeal.Value
open Cert.LossIdeal Cert.LossIdeal.Gen

variable (m : (ℓ : Loc nD τ sig) → Buf (Elt Ideal) ℓ) (ρ : Dev nD → PrngReg) (c : Dev nD)

/-- The rows of `x`, of the target, and the scale, as real numbers. -/
def X : ℕ → Fin 1024 → ℝ := rowsOf fun (i : Fin 4096) j => (m ((c : Thread nD τ).loc main_arg0) : Vec Ideal S4096x1024 .f32) (ix2 i j)
def T : ℕ → Fin 1024 → ℝ := rowsOf fun (i : Fin 4096) j => (m ((c : Thread nD τ).loc main_arg2) : Vec Ideal S4096x1024 .f32) (ix2 i j)
def G (j : Fin 1024) : ℝ := rowsOf (n := 1) (fun _ j => (m ((c : Thread nD τ).loc main_arg1) : Vec Ideal S1024 .f32) (ix1 j)) 0 j

theorem holds (pre : Pre_LossIdeal_loss_finite m) : Holds m c (X m c) (T m c) (G m c) := by
  have e := congrFun (pre c) (Shape.Idx.first Cert.Pre_loss_finite.Gen.h_S_)
  obtain ⟨e01, e2⟩ := IntOp.andi_eq_one.1 e
  obtain ⟨e0, e1⟩ := IntOp.andi_eq_one.1 e01
  have hk (s : Shape) (h : Cert.Pre_loss_finite.S_.BroadcastsInDim s ![]) (i : s.Idx) :
      broadcastInDim s ![] h (constant (F := Ideal) Cert.Pre_loss_finite.S_ .f32 0x7F800000#32) i = ⊤ := ofBits_inf
  exact ⟨fun i j => rowsOf_eq _ (fun i j => real_of_all _ _ (hk _ _) _ _ _ _ e0 (ix2 i j)) i j,
    fun j => rowsOf_eq (n := 1) _ (fun _ j => real_of_all _ _ (hk _ _) _ _ _ _ e1 (ix1 j)) 0 j,
    fun i j => rowsOf_eq _ (fun i j => real_of_all _ _ (hk _ _) _ _ _ _ e2 (ix2 i j)) i j⟩

def lossOut : Vec Ideal S_ .f32 :=
  fun _ => (((1 / 2048) * ∑ i ∈ Finset.range 4096, ∑ j : Fin 1024, err (X m c i) (G m c) (T m c i) j * err (X m c i) (G m c) (T m c i) j : ℝ) : EReal)
def dxOut : Vec Ideal S4096x1024 .f32 := fun y => ((dx (X m c (y 0 : Fin 4096)) (G m c) (T m c (y 0 : Fin 4096)) (y 1) : ℝ) : EReal)
def dgOut : Vec Ideal S1024 .f32 := fun y => ((∑ i ∈ Finset.range 4096, dy (X m c i) (G m c) (T m c i) (y 0) * xn (X m c i) (y 0) : ℝ) : EReal)

theorem run_kernel (pre : Pre_LossIdeal_loss_finite m) : θ_run (defs (F := Ideal)) (onTc (τ := τ) (main (F := Ideal))) ⟨m, fun _ => 0, ρ⟩ (fun r => ∀ c : Dev nD,
      r.2.mem ((c.tc : Thread nD τ).loc main_v3) = lossOut m c
      ∧ r.2.mem ((c.tc : Thread nD τ).loc main_v1_1) = dxOut m c
      ∧ r.2.mem ((c.tc : Thread nD τ).loc main_v1_2) = (dxOut m c : Vec Ideal S4096x1024 .bf16)
      ∧ r.2.mem ((c.tc : Thread nD τ).loc main_v4) = dgOut m c) :=
  (θ_run defs _ _).mono (fun r h c =>
    ⟨((h c).2 main_v3 (Pipeline.mem_restRefs_of main_v3 (by decide) (by decide))).trans (tail_loss (holds m c pre)),
      ((h c).1 4).trans (final_dx (holds m c pre)),
      ((h c).1 5).trans (final_dxb (holds m c pre)),
      ((h c).2 main_v4 (Pipeline.mem_restRefs_of main_v4 (by decide) (by decide))).trans (tail_dg (holds m c pre))⟩)
    (run_main m ρ)

theorem frame_reference (m : (ℓ : Loc Cert.LossRefIdeal.nD Cert.LossRefIdeal.τ Cert.LossRefIdeal.sig) → Buf (Elt Ideal) ℓ) (ρ : Dev Cert.LossRefIdeal.nD → PrngReg) :
    θ_run (Cert.LossRefIdeal.defs (F := Ideal)) (onTc (τ := Cert.LossRefIdeal.τ) (Cert.LossRefIdeal.main (F := Ideal))) ⟨m, fun _ => 0, ρ⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0) :=
  (θ_run Cert.LossRefIdeal.defs _ _).mono (fun r h => ⟨fun c => (h c).2.2.2.2, Idealize.ShloMosaic.sem_eq_zero_of_no_sems (by decide) r.2⟩)
    (Cert.LossRefIdeal.Value.run (F := Ideal) m ρ)

theorem value : algebraic_LossIdeal_LossRefIdeal_pre_loss_finite := fun m ρ m' ρ' pre hag =>
  ⟨lossOut m, dxOut m, fun c => (dxOut m c : Vec Ideal S4096x1024 .bf16), dgOut m,
    (θ_run defs _ _).mono (fun _ h c => ⟨(h.1 c).1, (h.1 c).2.1, (h.1 c).2.2.1, (h.1 c).2.2.2, h.2.1 c⟩)
      (θ_run_and (run_kernel m ρ pre) (frame m ρ)),
    (θ_run Cert.LossRefIdeal.defs _ _).mono (fun _ h c => by
      obtain ⟨h0, h1, h2, h3, hargs⟩ := h c
      have H := holds m c pre
      have hx := fun (i : Fin 4096) (j : Fin 1024) => (congrFun (hag c).1 (ix2 i j)).trans (H.x i j)
      have hg := fun (j : Fin 1024) => (congrFun (hag c).2.1 (ix1 j)).trans (H.g j)
      have ht := fun (i : Fin 4096) (j : Fin 1024) => (congrFun (hag c).2.2 (ix2 i j)).trans (H.t i j)
      exact ⟨h0.trans (Cert.LossRefIdeal.Value.v24_real hx hg ht),
        h1.trans ((Cert.LossRefIdeal.Read.val_main_v50_eq m' c).trans (Cert.LossRefIdeal.Value.v50_real hx hg ht)),
        h2.trans ((Cert.LossRefIdeal.Read.val_main_v51_eq m' c).trans (Cert.LossRefIdeal.Value.v51_real hx hg ht)),
        h3.trans (Cert.LossRefIdeal.Value.v36_real hx hg ht), hargs⟩)
      (Cert.LossRefIdeal.Value.run (F := Ideal) m' ρ')⟩

end Cert.LossIdeal.Value

end
-- ==== Proof.FfnConv.lean ====
/-
  The two three-tap convolutions of the feed-forward gradient call, as values. A point of the grid takes 512 rows; each
  convolution runs over eleven blocks of 128 lanes and, within one, over eight blocks of 64 rows. Here is what one such
  trip stores, written over the whole arrays the trip reads (`convOut` for the rows' gradient, `tapSums` for the
  gradient of the taps), and that a trip's pieces are those functions on the trip's lanes.
-/
module

public import proofs.«01_k».proof.Proof.Gen.FfnIdeal.Loops
public import Idealize.ShloMosaic.Lib.Pipeline.ValueKit
public import proofs.«01_k».proof.Proof.Blocks
public import Idealize.ShloMosaic.Lib.Pointwise
public import Idealize.ShloMosaic.Lib.Tactic
public import Idealize.ShloMosaic.Lib.WritesUnit

@[expose] public section

set_option maxRecDepth 16384

noncomputable section

open Idealize.ShloMosaic Idealize.ShloMosaic.TcCoe Idealize.SL.Sem

namespace Cert.FfnIdeal.Value

open Cert.FfnIdeal Cert.FfnIdeal.Gen

variable {F : FTy → Type} [FloatOps F]

open Cert.Blocks

/-- Rows `64 b` to `64 b + 63` of a block, on lane block `k`. -/
def rows64 (X : Vec F S512x1408 .bf16) (b : Fin 8) (k : Fin 11) : Vec F S64x128 .bf16 := fun z =>
  X (ix2 (n0 := 512) (n1 := 1408) ⟨64 * b.val + (z 0 : Nat), by have : (z 0 : Nat) < 64 := (z 0).isLt; omega⟩
    ⟨128 * k.val + (z 1 : Nat), by have : (z 1 : Nat) < 128 := (z 1).isLt; omega⟩)

/-- The same rows of a window, `s` rows later. -/
def win64 (X : Vec F S520x1408 .f32) (s : Fin 3) (b : Fin 8) (k : Fin 11) : Vec F S64x128 .f32 := fun z =>
  X (ix2 (n0 := 520) (n1 := 1408) ⟨64 * b.val + s.val + (z 0 : Nat), by have : (z 0 : Nat) < 64 := (z 0).isLt; omega⟩
    ⟨128 * k.val + (z 1 : Nat), by have : (z 1 : Nat) < 128 := (z 1).isLt; omega⟩)

/-- Tap `j`'s eight rows, on lane block `k`. -/
def tap8 (X : Vec F S24x1408 .f32) (j : Fin 3) (k : Fin 11) : Vec F S8x128 .f32 := fun z =>
  X (ix2 (n0 := 24) (n1 := 1408) ⟨8 * j.val + (z 0 : Nat), by have : (z 0 : Nat) < 8 := (z 0).isLt; omega⟩
    ⟨128 * k.val + (z 1 : Nat), by have : (z 1 : Nat) < 128 := (z 1).isLt; omega⟩)

theorem ld_rows64 (X : Vec F S512x1408 .bf16) (b : Fin 8) (k : Fin 11) {off : Fin 2 → ℕ} (inb) (h : off = ![64 * b.val, 128 * k.val]) :
    View.ld X (Rect.unit (s := S512x1408) off S64x128.size inb) = rows64 X b k := by
  subst h
  exact funext fun z => View.ld_unit_apply_of X _ _ inb z _ (Fin.forall_fin_two.mpr ⟨rfl, rfl⟩)

theorem ld_win64 (X : Vec F S520x1408 .f32) (s : Fin 3) (b : Fin 8) (k : Fin 11) {off : Fin 2 → ℕ} (inb)
    (h : off = ![64 * b.val + s.val, 128 * k.val]) :
    View.ld X (Rect.unit (s := S520x1408) off S64x128.size inb) = win64 X s b k := by
  subst h
  exact funext fun z => View.ld_unit_apply_of X _ _ inb z _ (Fin.forall_fin_two.mpr ⟨rfl, rfl⟩)

theorem ld_tap8 (X : Vec F S24x1408 .f32) (j : Fin 3) (k : Fin 11) {off : Fin 2 → ℕ} (inb) (h : off = ![8 * j.val, 128 * k.val]) :
    View.ld X (Rect.unit (s := S24x1408) off S8x128.size inb) = tap8 X j k := by
  subst h
  exact funext fun z => View.ld_unit_apply_of X _ _ inb z _ (Fin.forall_fin_two.mpr ⟨rfl, rfl⟩)

/-- Three taps times three windows. -/
abbrev conv3 (a2 : Vec F S64x128 .f32) (w0 : Vec F S8x128 .f32) (a1 : Vec F S64x128 .f32) (w1 : Vec F S8x128 .f32)
    (a0 : Vec F S64x128 .f32) (w2 : Vec F S8x128 .f32) : Vec F S1x64x128 .bf16 := k0_pay9 (k0_pay6 a2 w0 a1 w1) a0 w2

/-- Eight blocks added up, the first first. -/
abbrev add8 (p : Fin 8 → FVec F S8x128 .f32) : FVec F S8x128 .f32 :=
  addf (addf (addf (addf (addf (addf (addf (p 0) (p 1)) (p 2)) (p 3)) (p 4)) (p 5)) (p 6)) (p 7)

/-- The convolution of rows `64 b` to `64 b + 63` on lane block `k`. -/
abbrev convBlk (win : Vec F S520x1408 .f32) (w : Vec F S24x1408 .f32) (b : Fin 8) (k : Fin 11) : Vec F S1x64x128 .bf16 :=
  conv3 (win64 win 2 b k) (tap8 w 0 k) (win64 win 1 b k) (tap8 w 1 k) (win64 win 0 b k) (tap8 w 2 k)

/-- What tap `j`'s block of sums receives on lane block `k`. -/
abbrev tapBlk (x : Vec F S512x1408 .bf16) (win : Vec F S520x1408 .f32) (s : Fin 3) (k : Fin 11) : FVec F S8x128 .f32 :=
  add8 fun b => k0_pay5 (rows64 x b k) (win64 win s b k)

/-- The lane block of a lane, and the lane's place in it. -/
def laneBlk (l : Fin 1408) : Fin 11 := ⟨l.val / 128, by omega⟩
def laneIn (l : Fin 1408) : Fin 128 := ⟨l.val % 128, Nat.mod_lt _ (by decide)⟩

/-- The convolution at every row and lane. -/
def convOut (win : Vec F S520x1408 .f32) (w : Vec F S24x1408 .f32) (r : Fin 512) (l : Fin 1408) : F .bf16 :=
  convBlk win w ⟨r.val / 64, by omega⟩ (laneBlk l) (ix3 (n0 := 1) (n1 := 64) (n2 := 128) 0 ⟨r.val % 64, Nat.mod_lt _ (by decide)⟩ (laneIn l))

/-- The tap sums `s` advanced by one point: tap `j` meets the window `2 - j` rows later. -/
def tapSums (x : Vec F S512x1408 .bf16) (win : Vec F S520x1408 .f32) (s : Vec F S24x1408 .f32) : Vec F S24x1408 .f32 := fun y =>
  (k0_pay144 (tapBlk x win (Fin.rev ⟨(y 0 : Nat) / 8, by have : (y 0 : Nat) < 24 := (y 0).isLt; omega⟩) (laneBlk (y 1)))
    (tap8 s ⟨(y 0 : Nat) / 8, by have : (y 0 : Nat) < 24 := (y 0).isLt; omega⟩ (laneBlk (y 1))))
    (ix2 (n0 := 8) (n1 := 128) ⟨(y 0 : Nat) % 8, Nat.mod_lt _ (by decide)⟩ (laneIn (y 1)))

/-- The two convolutions of a point, one half of the block each. -/
def convBoth (wg : Vec F S520x1408 .f32) (tg : Vec F S24x1408 .f32) (wv : Vec F S520x1408 .f32) (tv : Vec F S24x1408 .f32) :
    Vec F S2x512x1408 .bf16 := fun y => if (y 0 : Nat) = 0 then convOut wg tg (y 1) (y 2) else convOut wv tv (y 1) (y 2)

section Steps

variable (win : Vec F S520x1408 .f32) (w : Vec F S24x1408 .f32) (x : Vec F S512x1408 .bf16)

/-- A piece of one trip: 64 rows of half `h`, holding the convolution there. -/
theorem piece_agrees (h : Fin 2) (b : Fin 8) (k : Fin 11) {off : Fin 3 → ℕ} (inb) (he : off = ![h.val, 64 * b.val, 128 * k.val])
    (z : S1x64x128.Idx) :
    let y := (Rect.unit (s := S2x512x1408) off S1x64x128.size inb).emb z
    (y 0 : Nat) = h ∧ convBlk win w b k z = convOut win w (y 1) (y 2) := by
  subst he
  have z0 : (z 0 : Nat) < 1 := (z 0).isLt
  have z1 : (z 1 : Nat) < 64 := (z 1).isLt
  have z2 : (z 2 : Nat) < 128 := (z 2).isLt
  have e (a) := ValueKit.rect_emb_unit_val (s := S2x512x1408) (![h.val, 64 * b.val, 128 * k.val]) S1x64x128.size inb z a
  have e0 := e 0
  have e1 : ((Rect.unit (s := S2x512x1408) (![h.val, 64 * b.val, 128 * k.val]) S1x64x128.size inb).emb z 1 : Nat) = 64 * b.val + z 1 := e 1
  have e2 : ((Rect.unit (s := S2x512x1408) (![h.val, 64 * b.val, 128 * k.val]) S1x64x128.size inb).emb z 2 : Nat) = 128 * k.val + z 2 := e 2
  dsimp only
  refine ⟨e0.trans (by show h.val + (z 0 : Nat) = h.val; omega), ?_⟩
  unfold convOut laneBlk laneIn
  have hb : (⟨((Rect.unit (s := S2x512x1408) (![h.val, 64 * b.val, 128 * k.val]) S1x64x128.size inb).emb z 1 : Nat) / 64, by
      rw [e1]; omega⟩ : Fin 8) = b := Fin.ext (by show (_ : Nat) / 64 = _; rw [e1]; omega)
  have hk : (⟨((Rect.unit (s := S2x512x1408) (![h.val, 64 * b.val, 128 * k.val]) S1x64x128.size inb).emb z 2 : Nat) / 128, by
      rw [e2]; omega⟩ : Fin 11) = k := Fin.ext (by show (_ : Nat) / 128 = _; rw [e2]; omega)
  refine (congrFun (congrArg₂ (convBlk win w) hb.symm hk.symm) z).trans (congrArg _ ?_)
  refine (eq_ix3 (n0 := 1) (n1 := 64) (n2 := 128) z).trans ?_
  congr 1
  · exact Fin.ext (by show (z 0 : Nat) = 0; omega)
  · exact Fin.ext (by show (z 1 : Nat) = _ % 64; rw [e1]; omega)
  · exact Fin.ext (by show (z 2 : Nat) = _ % 128; rw [e2]; omega)

/-- Every row of half `h` on lane block `k` lies in one of the trip's pieces. -/
theorem piece_mem (h : Fin 2) (b : Fin 8) (k : Fin 11) {off : Fin 3 → ℕ} (inb) (he : off = ![h.val, 64 * b.val, 128 * k.val])
    (y : S2x512x1408.Idx) (h0 : (y 0 : Nat) = h) (h1 : (y 1 : Nat) / 64 = b) (h2 : (y 2 : Nat) / 128 = k) :
    y ∈ (Rect.unit (s := S2x512x1408) off S1x64x128.size inb).set := by
  subst he
  refine Rect.mem_set_unit.mpr ?_
  intro a
  match a with
  | ⟨0, _⟩ => show h.val ≤ (y 0 : Nat) ∧ (y 0 : Nat) < h.val + 1; omega
  | ⟨1, _⟩ => show 64 * b.val ≤ (y 1 : Nat) ∧ (y 1 : Nat) < 64 * b.val + 64; omega
  | ⟨2, _⟩ => show 128 * k.val ≤ (y 2 : Nat) ∧ (y 2 : Nat) < 128 * k.val + 128; omega

/-- A list of pieces that holds the convolution of half `h` on the lane blocks before `k`. -/
structure Held (h : Fin 2) (L : List (View.Piece (Elt F) S2x512x1408 .bf16)) (k : ℕ) : Prop where
  agrees : ∀ p ∈ L, ∀ z, ((p.1.emb z) 0 : Nat) = h ∧ p.2 z = convOut win w ((p.1.emb z) 1) ((p.1.emb z) 2)
  covers : ∀ y : S2x512x1408.Idx, (y 0 : Nat) = h → (y 2 : Nat) / 128 < k → ∃ p ∈ L, y ∈ p.1.set

theorem held_nil (h : Fin 2) : Held win w h [] 0 :=
  ⟨fun p hp => absurd hp List.not_mem_nil, fun _ _ hk => absurd hk (Nat.not_lt_zero _)⟩

/-- One trip's eight pieces in front. -/
theorem held_step (h : Fin 2) (L : List (View.Piece (Elt F) S2x512x1408 .bf16)) (k : Fin 11)
    (off : Fin 8 → Fin 3 → ℕ) (inb : ∀ b a, off b a + S1x64x128.size a ≤ S2x512x1408.size a)
    (he : ∀ b : Fin 8, off b = ![h.val, 64 * b.val, 128 * k.val]) (H : Held win w h L k.val)
    (T : List (View.Piece (Elt F) S2x512x1408 .bf16))
    (hT : T = [⟨Rect.unit (off 7) S1x64x128.size (inb 7), convBlk win w 7 k⟩, ⟨Rect.unit (off 6) S1x64x128.size (inb 6), convBlk win w 6 k⟩,
      ⟨Rect.unit (off 5) S1x64x128.size (inb 5), convBlk win w 5 k⟩, ⟨Rect.unit (off 4) S1x64x128.size (inb 4), convBlk win w 4 k⟩,
      ⟨Rect.unit (off 3) S1x64x128.size (inb 3), convBlk win w 3 k⟩, ⟨Rect.unit (off 2) S1x64x128.size (inb 2), convBlk win w 2 k⟩,
      ⟨Rect.unit (off 1) S1x64x128.size (inb 1), convBlk win w 1 k⟩, ⟨Rect.unit (off 0) S1x64x128.size (inb 0), convBlk win w 0 k⟩]) :
    Held win w h (T ++ L) (k.val + 1) := by
  have hin : ∀ b : Fin 8, (⟨Rect.unit (off b) S1x64x128.size (inb b), convBlk win w b k⟩ : View.Piece (Elt F) S2x512x1408 .bf16) ∈ T := by
    subst hT; intro b; fin_cases b <;> simp
  have hof : ∀ p ∈ T, ∃ b : Fin 8, p = ⟨Rect.unit (off b) S1x64x128.size (inb b), convBlk win w b k⟩ := by
    subst hT; intro p hp
    simp only [List.mem_cons, List.not_mem_nil, or_false] at hp
    rcases hp with h | h | h | h | h | h | h | h
    exacts [⟨7, h⟩, ⟨6, h⟩, ⟨5, h⟩, ⟨4, h⟩, ⟨3, h⟩, ⟨2, h⟩, ⟨1, h⟩, ⟨0, h⟩]
  refine ⟨fun p hp z => ?_, fun y h0 hk => ?_⟩
  · rcases List.mem_append.mp hp with hp | hp
    · obtain ⟨b, rfl⟩ := hof p hp
      exact piece_agrees win w h b k (inb b) (he b) z
    · exact H.agrees p hp z
  · by_cases hl : (y 2 : Nat) / 128 = k.val
    · have h1 : (y 1 : Nat) < 512 := (y 1).isLt
      exact ⟨_, List.mem_append_left _ (hin ⟨(y 1 : Nat) / 64, by omega⟩), piece_mem h _ k (inb _) (he _) y h0 rfl hl⟩
    · obtain ⟨p, hp, hm⟩ := H.covers y h0 (by omega)
      exact ⟨p, List.mem_append_right _ hp, hm⟩

/-- One trip's three read-modify-writes of the tap sums. -/
theorem sums_step {κ : Kind} {sp : Space} (v : View sig κ sp S24x1408 .f32) (f : v.ty.Contents (Elt F)) (old : Vec F S24x1408 .f32) (k : Fin 11)
    (L : List (View.Piece (Elt F) S24x1408 .f32))
    (H : ∀ y, v.read (Elt F) (v.writes (Elt F) f L) y = if (y 1 : Nat) / 128 < k.val then tapSums x win old y else old y)
    (off : Fin 3 → Fin 2 → ℕ) (inb : ∀ j a, off j a + S8x128.size a ≤ S24x1408.size a)
    (he : ∀ j : Fin 3, off j = ![8 * j.val, 128 * k.val])
    (T : List (View.Piece (Elt F) S24x1408 .f32))
    (hT : T = [⟨Rect.unit (off 2) S8x128.size (inb 2), k0_pay144 (tapBlk x win 0 k) (tap8 (v.read (Elt F) (v.writes (Elt F) f L)) 2 k)⟩,
      ⟨Rect.unit (off 1) S8x128.size (inb 1), k0_pay144 (tapBlk x win 1 k) (tap8 (v.read (Elt F) (v.writes (Elt F) f L)) 1 k)⟩,
      ⟨Rect.unit (off 0) S8x128.size (inb 0), k0_pay144 (tapBlk x win 2 k) (tap8 (v.read (Elt F) (v.writes (Elt F) f L)) 0 k)⟩]) (y) :
    v.read (Elt F) (v.writes (Elt F) f (T ++ L)) y = if (y 1 : Nat) / 128 < k.val + 1 then tapSums x win old y else old y := by
  subst hT
  have y0 : (y 0 : Nat) < 24 := (y 0).isLt
  have y1 : (y 1 : Nat) < 1408 := (y 1).isLt
  have ht : ∀ j, tap8 (v.read (Elt F) (v.writes (Elt F) f L)) j k = tap8 old j k := fun j => funext fun z => by
    have z1 : (z 1 : Nat) < 128 := (z 1).isLt
    unfold tap8
    rw [H]
    exact if_neg (by show ¬ ((128 * k.val + (z 1 : Nat)) / 128 < k.val); omega)
  rw [ht, ht, ht]
  simp only [List.cons_append, List.nil_append]
  by_cases hl : (y 1 : Nat) / 128 = k.val
  · rw [if_pos (by omega)]
    have hk : laneBlk (y 1) = k := Fin.ext hl
    unfold tapSums
    rw [hk]
    by_cases h2 : (y 0 : Nat) / 8 = 2
    · rw [View.read_writes_cons_unit_of_mem v f (inb 2) _ _ y
        (ix2 (n0 := 8) (n1 := 128) ⟨(y 0 : Nat) % 8, Nat.mod_lt _ (by decide)⟩ (laneIn (y 1))) (he 2)
        (Fin.forall_fin_two.mpr ⟨by show (y 0 : Nat) = 8 * 2 + (y 0 : Nat) % 8; omega, by show (y 1 : Nat) = 128 * k.val + (y 1 : Nat) % 128; omega⟩)]
      have e : (⟨(y 0 : Nat) / 8, by omega⟩ : Fin 3) = 2 := Fin.ext h2
      rw [e]; rfl
    · rw [View.read_writes_cons_unit_of_not_mem v f (inb 2) _ _ y (he 2) 0 (by show (y 0 : Nat) < 8 * 2 ∨ 8 * 2 + 8 ≤ (y 0 : Nat); omega)]
      by_cases h1 : (y 0 : Nat) / 8 = 1
      · rw [View.read_writes_cons_unit_of_mem v f (inb 1) _ _ y
          (ix2 (n0 := 8) (n1 := 128) ⟨(y 0 : Nat) % 8, Nat.mod_lt _ (by decide)⟩ (laneIn (y 1))) (he 1)
          (Fin.forall_fin_two.mpr ⟨by show (y 0 : Nat) = 8 * 1 + (y 0 : Nat) % 8; omega, by show (y 1 : Nat) = 128 * k.val + (y 1 : Nat) % 128; omega⟩)]
        have e : (⟨(y 0 : Nat) / 8, by omega⟩ : Fin 3) = 1 := Fin.ext h1
        rw [e]; rfl
      · rw [View.read_writes_cons_unit_of_not_mem v f (inb 1) _ _ y (he 1) 0 (by show (y 0 : Nat) < 8 * 1 ∨ 8 * 1 + 8 ≤ (y 0 : Nat); omega),
          View.read_writes_cons_unit_of_mem v f (inb 0) _ _ y
          (ix2 (n0 := 8) (n1 := 128) ⟨(y 0 : Nat) % 8, Nat.mod_lt _ (by decide)⟩ (laneIn (y 1))) (he 0)
          (Fin.forall_fin_two.mpr ⟨by show (y 0 : Nat) = 8 * 0 + (y 0 : Nat) % 8; omega, by show (y 1 : Nat) = 128 * k.val + (y 1 : Nat) % 128; omega⟩)]
        have e : (⟨(y 0 : Nat) / 8, by omega⟩ : Fin 3) = 0 := Fin.ext (by show (y 0 : Nat) / 8 = 0; omega)
        rw [e]; rfl
  · have miss (j : Fin 3) := fun (w : S8x128.Idx → Elt F .f32) (M : List (View.Piece (Elt F) S24x1408 .f32)) =>
      View.read_writes_cons_unit_of_not_mem v f (inb j) w M y (he j) 1
        (by show (y 1 : Nat) < 128 * k.val ∨ 128 * k.val + 128 ≤ (y 1 : Nat); omega)
    refine (miss 2 _ _).trans ((miss 1 _ _).trans ((miss 0 _ _).trans ((H y).trans ?_)))
    by_cases h : (y 1 : Nat) / 128 < k.val
    · rw [if_pos h, if_pos (by omega)]
    · rw [if_neg h, if_neg (by omega)]

end Steps

end Cert.FfnIdeal.Value

end
-- ==== Proof.FfnLoop.lean ====
/-
  The three counted loops of the feed-forward gradient call. The first, eight trips of 64 rows, fills rows 0 to 511 of
  the two windows with the gradient of the gate's and of the value's convolution; the second and the third, eleven trips
  of 128 lanes each, are the two convolutions of FfnConv.lean. What each leaves is stated over the whole arrays it reads.
-/
module

public import proofs.«01_k».proof.Proof.Gen.FfnIdeal.Loops
public import Idealize.ShloMosaic.Lib.Pipeline.ValueKit
public import proofs.«01_k».proof.Proof.Blocks
public import Idealize.ShloMosaic.Lib.Pointwise
public import Idealize.ShloMosaic.Lib.Tactic
public import Idealize.ShloMosaic.Lib.WritesUnit
public import proofs.«01_k».proof.Proof.FfnConv

@[expose] public section

set_option maxRecDepth 16384

noncomputable section

open Idealize.ShloMosaic Idealize.ShloMosaic.TcCoe Idealize.SL.Sem

namespace Cert.FfnIdeal.Value

open Cert.FfnIdeal Cert.FfnIdeal.Gen

variable {F : FTy → Type} [FloatOps F]

open Cert.Blocks

theorem trips1_eq : k0_t1_loop.trips = 8 := by decide +kernel
theorem trips2_eq : k0_t2_loop.trips = 11 := by decide +kernel
theorem trips3_eq : k0_t3_loop.trips = 11 := by decide +kernel

/-- The lane block of a trip of the second or of the third loop. -/
abbrev lane2 (k : Fin k0_t2_loop.trips) : Fin 11 := ⟨k.val, lt_of_lt_of_eq k.isLt trips2_eq⟩
abbrev lane3 (k : Fin k0_t3_loop.trips) : Fin 11 := ⟨k.val, lt_of_lt_of_eq k.isLt trips3_eq⟩

/-- Rows `64 k` to `64 k + 63` of a block, every lane. -/
def part {e : EltTy} (X : Vec F S512x1408 e) (k : Fin 8) : Vec F S64x1408 e := fun z =>
  X (ix2 (n0 := 512) (n1 := 1408) ⟨64 * k.val + (z 0 : Nat), by have : (z 0 : Nat) < 64 := (z 0).isLt; omega⟩ (z 1))

theorem ld_part {e : EltTy} (X : Vec F S512x1408 e) (k : Fin 8) {off : Fin 2 → ℕ} (inb) (h : off = ![64 * k.val, 0]) :
    View.ld X (Rect.unit (s := S512x1408) off S64x1408.size inb) = part X k := by
  subst h
  exact funext fun z => View.ld_unit_apply_of X _ _ inb z _ (Fin.forall_fin_two.mpr ⟨rfl, by show (z 1 : Nat) = 0 + (z 1 : Nat); omega⟩)

/-- The gradient of the gate's and of the value's convolution, at a row and a lane. -/
def gateGrad (g : Vec F S512x1408 .bf16) (d : Vec F S512x1408 .f32) (v : Vec F S512x1408 .bf16) (r : ℕ) (h : r < 512) (l : Fin 1408) : F .f32 :=
  (k0_pay141 (part g ⟨r / 64, by omega⟩) (part d ⟨r / 64, by omega⟩) (part v ⟨r / 64, by omega⟩))
    (ix2 (n0 := 64) (n1 := 1408) ⟨r % 64, Nat.mod_lt _ (by decide)⟩ l)
def valGrad (g : Vec F S512x1408 .bf16) (d : Vec F S512x1408 .f32) (r : ℕ) (h : r < 512) (l : Fin 1408) : F .f32 :=
  (k0_pay142 (part g ⟨r / 64, by omega⟩) (part d ⟨r / 64, by omega⟩)) (ix2 (n0 := 64) (n1 := 1408) ⟨r % 64, Nat.mod_lt _ (by decide)⟩ l)

/-- One trip of the first loop in front of a list of pieces: 64 further rows. -/
theorem rows_step {κ : Kind} {sp : Space} (v : View sig κ sp S520x1408 .f32) (f : v.ty.Contents (Elt F)) (k : Fin 8)
    (L : List (View.Piece (Elt F) S520x1408 .f32)) (G : (r : ℕ) → r < 512 → Fin 1408 → F .f32)
    (H : ∀ y, v.read (Elt F) (v.writes (Elt F) f L) y = if h : (y 0 : Nat) < 64 * k.val then G (y 0) (by omega) (y 1) else v.read (Elt F) f y)
    {off : Fin 2 → ℕ} (inb) (he : off = ![64 * k.val, 0]) (w : Vec F S64x1408 .f32)
    (hw : ∀ (z : S64x1408.Idx) (hz), w z = G (64 * k.val + (z 0 : Nat)) hz (z 1)) (y) :
    v.read (Elt F) (v.writes (Elt F) f ((⟨Rect.unit (s := S520x1408) off S64x1408.size inb, w⟩ : View.Piece (Elt F) S520x1408 .f32) :: L)) y
      = if h : (y 0 : Nat) < 64 * (k.val + 1) then G (y 0) (by omega) (y 1) else v.read (Elt F) f y := by
  by_cases h1 : (y 0 : Nat) < 64 * k.val
  · rw [dif_pos (by omega)]
    refine (View.read_writes_cons_unit_of_not_mem v f inb w L y he 0 (Or.inl h1)).trans ((H y).trans (dif_pos h1))
  by_cases h2 : (y 0 : Nat) < 64 * (k.val + 1)
  · rw [dif_pos h2]
    refine (View.read_writes_cons_unit_of_mem v f inb w L y
      (ix2 (n0 := 64) (n1 := 1408) ⟨(y 0 : Nat) - 64 * k.val, by omega⟩ (y 1)) he
      (Fin.forall_fin_two.mpr ⟨by show (y 0 : Nat) = 64 * k.val + ((y 0 : Nat) - 64 * k.val); omega, by show (y 1 : Nat) = 0 + (y 1 : Nat); omega⟩)).trans ?_
    have e : 64 * k.val + ((y 0 : Nat) - 64 * k.val) = (y 0 : Nat) := by omega
    rw [hw _ (by show 64 * k.val + ((y 0 : Nat) - 64 * k.val) < 512; omega)]
    show G (64 * k.val + ((y 0 : Nat) - 64 * k.val)) _ (y 1) = _
    congr 1
  · rw [dif_neg h2]
    refine (View.read_writes_cons_unit_of_not_mem v f inb w L y he 0 (Or.inr (by show 64 * k.val + 64 ≤ (y 0 : Nat); omega))).trans ((H y).trans (dif_neg h1))

section Loops

variable (𝒱 : Variants) (c : Dev nD) (bd : Option 𝒱.V) (i : grid0.Coords)
  (a2 : Memref sig .tc .vmem S512x1024 .bf16) (h2 : a2.IsWhole) (a3 : Memref sig .tc .vmem S512x1408 .bf16) (h3 : a3.IsWhole)
  (a4 : Memref sig .tc .vmem S512x1408 .bf16) (h4 : a4.IsWhole) (a5 : Memref sig .tc .vmem S512x1408 .bf16) (h5 : a5.IsWhole)
  (a6 : Memref sig .tc .vmem S512x1408 .bf16) (h6 : a6.IsWhole) (a7 : Memref sig .tc .vmem S3x1408 .f32) (h7 : a7.IsWhole)
  (a8 : Memref sig .tc .vmem S3x1408 .f32) (h8 : a8.IsWhole) (a9 : Memref sig .tc .vmem S1408x1024 .bf16) (h9 : a9.IsWhole)
  (a10 : Memref sig .tc .hbm S8x128 .f32) (h10 : a10.IsWhole) (a11 : Memref sig .tc .vmem S2x512x1408 .bf16) (h11 : a11.IsWhole)
  (a12 : Memref sig .tc .vmem S3x1408 .f32) (h12 : a12.IsWhole) (a13 : Memref sig .tc .vmem S3x1408 .f32) (h13 : a13.IsWhole)
  (a14 : Memref sig .tc .vmem S512x1408 .f32) (h14 : a14.IsWhole) (a15 : Memref sig .tc .vmem S520x1408 .f32) (h15 : a15.IsWhole)
  (a16 : Memref sig .tc .vmem S520x1408 .f32) (h16 : a16.IsWhole) (a17 : Memref sig .tc .vmem S24x1408 .f32) (h17 : a17.IsWhole)
  (a18 : Memref sig .tc .vmem S24x1408 .f32) (h18 : a18.IsWhole) (a19 : Memref sig .tc .vmem S24x1408 .f32) (h19 : a19.IsWhole)
  (a20 : Memref sig .tc .vmem S24x1408 .f32) (h20 : a20.IsWhole)
  (v29 : FVec F S8x1408 .f32) (v30 : Vec F S8x1408 .f32)

section First

variable (g : Vec F S512x1408 .bf16) (v : Vec F S512x1408 .bf16) (d : Vec F S512x1408 .f32)

/-- The trip of the first loop as one of eight. -/
abbrev blk1 (k : Fin k0_t1_loop.trips) : Fin 8 := ⟨k.val, lt_of_lt_of_eq k.isLt trips1_eq⟩

/-- What one trip of the first loop stores. -/
theorem trip1_eq (k : Fin k0_t1_loop.trips) :
    tripL_k0_t1 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread g) (h6.unread v) (h14.unread d) k
      = ([⟨Rect.unit (k0_off2 k) S64x1408.size (k0_off2_inb k), k0_pay141 (part g (blk1 k)) (part d (blk1 k)) (part v (blk1 k))⟩],
         [⟨Rect.unit (k0_off2 k) S64x1408.size (k0_off2_inb k), k0_pay142 (part g (blk1 k)) (part d (blk1 k))⟩]) := by
  have e5 : View.readAt (Elt F) a5.view (Rect.unit (s := S512x1408) (k0_off1 k) S64x1408.size (k0_off1_inb k)).toLoadRect (h5.unread g) = part g (blk1 k) := by
    rw [View.readAt_eq_ld, h5.read_unread]; exact ld_part g (blk1 k) _ (k0_off1_eq k)
  have e6 : View.readAt (Elt F) a6.view (Rect.unit (s := S512x1408) (k0_off1 k) S64x1408.size (k0_off1_inb k)).toLoadRect (h6.unread v) = part v (blk1 k) := by
    rw [View.readAt_eq_ld, h6.read_unread]; exact ld_part v (blk1 k) _ (k0_off1_eq k)
  have e14 : View.readAt (Elt F) a14.view (Rect.unit (s := S512x1408) (k0_off1 k) S64x1408.size (k0_off1_inb k)).toLoadRect (h14.unread d) = part d (blk1 k) := by
    rw [View.readAt_eq_ld, h14.read_unread]; exact ld_part d (blk1 k) _ (k0_off1_eq k)
  rw [← e5, ← e6, ← e14]
  unfold tripL_k0_t1 trip_k0_t1
  dsimp only

/-- The two windows before trip `k`. -/
theorem before1 (G15 G16) (k : ℕ) (hk : k ≤ k0_t1_loop.trips) :
    let P := pb_k0_t1 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread g) (h6.unread v) (h14.unread d) k
    (∀ y, a15.view.read (Elt F) (a15.view.writes (Elt F) G15 P.1) y
        = if h : (y 0 : Nat) < 64 * k then gateGrad g d v (y 0) (by have := trips1_eq; omega) (y 1) else a15.view.read (Elt F) G15 y)
    ∧ (∀ y, a16.view.read (Elt F) (a16.view.writes (Elt F) G16 P.2) y
        = if h : (y 0 : Nat) < 64 * k then valGrad g d (y 0) (by have := trips1_eq; omega) (y 1) else a16.view.read (Elt F) G16 y) := by
  induction k with
  | zero =>
    have h0 (n : ℕ) : ¬ n < 64 * 0 := by omega
    refine ⟨fun y => ?_, fun y => ?_⟩ <;> · rw [dif_neg (h0 _)]; rfl
  | succ k ih =>
    have hk' : k < k0_t1_loop.trips := hk
    have hk8 : k < 8 := lt_of_lt_of_eq hk' trips1_eq
    obtain ⟨i15, i16⟩ := ih hk'.le
    have hs := pb_k0_t1_succ (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread g) (h6.unread v) (h14.unread d) ⟨k, hk'⟩
    rw [trip1_eq] at hs
    dsimp only at hs ⊢
    rw [hs]
    dsimp only
    refine ⟨rows_step a15.view G15 (blk1 ⟨k, hk'⟩) _ (gateGrad g d v) i15 (k0_off2_inb _) (k0_off2_eq _) _ fun z hz => ?_,
      rows_step a16.view G16 (blk1 ⟨k, hk'⟩) _ (valGrad g d) i16 (k0_off2_inb _) (k0_off2_eq _) _ fun z hz => ?_⟩
    all_goals
      have z0 : (z 0 : Nat) < 64 := (z 0).isLt
      have e : (⟨(64 * k + (z 0 : Nat)) / 64, by omega⟩ : Fin 8) = blk1 ⟨k, hk'⟩ := Fin.ext (by show (64 * k + (z 0 : Nat)) / 64 = k; omega)
      have ez : z = ix2 (n0 := 64) (n1 := 1408) ⟨(64 * k + (z 0 : Nat)) % 64, Nat.mod_lt _ (by decide)⟩ (z 1) := by
        refine (eq_ix2 (n0 := 64) (n1 := 1408) z).trans ?_
        congr 1
        exact Fin.ext (by show (z 0 : Nat) = (64 * k + (z 0 : Nat)) % 64; omega)
    · show _ = gateGrad g d v (64 * k + (z 0 : Nat)) _ (z 1)
      unfold gateGrad
      rw [e]
      exact congrArg _ ez
    · show _ = valGrad g d (64 * k + (z 0 : Nat)) _ (z 1)
      unfold valGrad
      rw [e]
      exact congrArg _ ez

/-- What the first loop leaves: rows 0 to 511 new, the eight rows after them as they were. -/
theorem after1 (G15 G16) :
    let P := pb_k0_t1 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread g) (h6.unread v) (h14.unread d) k0_t1_loop.trips
    (∀ y, a15.view.read (Elt F) (a15.view.writes (Elt F) G15 P.1) y
        = if h : (y 0 : Nat) < 512 then gateGrad g d v (y 0) h (y 1) else a15.view.read (Elt F) G15 y)
    ∧ (∀ y, a16.view.read (Elt F) (a16.view.writes (Elt F) G16 P.2) y
        = if h : (y 0 : Nat) < 512 then valGrad g d (y 0) h (y 1) else a16.view.read (Elt F) G16 y) := by
  have h := before1 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 g v d G15 G16 _ le_rfl
  have e : 64 * k0_t1_loop.trips = 512 := by rw [trips1_eq]
  dsimp only at h ⊢
  simp only [e] at h
  exact h

end First

section Convolutions

variable (x : Vec F S512x1408 .bf16) (win : Vec F S520x1408 .f32) (w : Vec F S24x1408 .f32)

/-- The offsets of the eight stores of trip `k` of the second loop, and of its three tap blocks. -/
def offs2 (k : Fin k0_t2_loop.trips) : Fin 8 → Fin 3 → ℕ := ![k0_off10 k, k0_off15 k, k0_off20 k, k0_off25 k, k0_off30 k, k0_off35 k, k0_off40 k, k0_off45 k]
def taps2 (k : Fin k0_t2_loop.trips) : Fin 3 → Fin 2 → ℕ := ![k0_off5 k, k0_off7 k, k0_off9 k]

theorem offs2_inb (k : Fin k0_t2_loop.trips) : ∀ b a, offs2 k b a + S1x64x128.size a ≤ S2x512x1408.size a :=
  fun b => match b with
  | 0 => k0_off10_inb k
  | 1 => k0_off15_inb k
  | 2 => k0_off20_inb k
  | 3 => k0_off25_inb k
  | 4 => k0_off30_inb k
  | 5 => k0_off35_inb k
  | 6 => k0_off40_inb k
  | 7 => k0_off45_inb k

theorem taps2_inb (k : Fin k0_t2_loop.trips) : ∀ j a, taps2 k j a + S8x128.size a ≤ S24x1408.size a :=
  fun j => match j with
  | 0 => k0_off5_inb k
  | 1 => k0_off7_inb k
  | 2 => k0_off9_inb k

theorem offs2_eq (k : Fin k0_t2_loop.trips) (b : Fin 8) : offs2 k b = ![0, 64 * b.val, 128 * k.val] := by
  match b with
  | 0 => exact k0_off10_eq k
  | 1 => exact k0_off15_eq k
  | 2 => exact k0_off20_eq k
  | 3 => exact k0_off25_eq k
  | 4 => exact k0_off30_eq k
  | 5 => exact k0_off35_eq k
  | 6 => exact k0_off40_eq k
  | 7 => exact k0_off45_eq k

theorem taps2_eq (k : Fin k0_t2_loop.trips) (j : Fin 3) : taps2 k j = ![8 * j.val, 128 * k.val] := by
  match j with
  | 0 => exact k0_off5_eq k
  | 1 => exact k0_off7_eq k
  | 2 => exact k0_off9_eq k

set_option maxHeartbeats 1600000 in
/-- What one trip of the second loop stores. -/
theorem trip2_eq (k : Fin k0_t2_loop.trips) (f11 f17) :
    tripL_k0_t2 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h3.unread x) (h15.unread win) (h19.unread w) k f11 f17
      = ([⟨Rect.unit (offs2 k 7) S1x64x128.size (offs2_inb k 7), convBlk win w 7 (lane2 k)⟩,
          ⟨Rect.unit (offs2 k 6) S1x64x128.size (offs2_inb k 6), convBlk win w 6 (lane2 k)⟩,
          ⟨Rect.unit (offs2 k 5) S1x64x128.size (offs2_inb k 5), convBlk win w 5 (lane2 k)⟩,
          ⟨Rect.unit (offs2 k 4) S1x64x128.size (offs2_inb k 4), convBlk win w 4 (lane2 k)⟩,
          ⟨Rect.unit (offs2 k 3) S1x64x128.size (offs2_inb k 3), convBlk win w 3 (lane2 k)⟩,
          ⟨Rect.unit (offs2 k 2) S1x64x128.size (offs2_inb k 2), convBlk win w 2 (lane2 k)⟩,
          ⟨Rect.unit (offs2 k 1) S1x64x128.size (offs2_inb k 1), convBlk win w 1 (lane2 k)⟩,
          ⟨Rect.unit (offs2 k 0) S1x64x128.size (offs2_inb k 0), convBlk win w 0 (lane2 k)⟩],
        [⟨Rect.unit (taps2 k 2) S8x128.size (taps2_inb k 2), k0_pay144 (tapBlk x win 0 (lane2 k)) (tap8 (a17.view.read (Elt F) f17) 2 (lane2 k))⟩,
          ⟨Rect.unit (taps2 k 1) S8x128.size (taps2_inb k 1), k0_pay144 (tapBlk x win 1 (lane2 k)) (tap8 (a17.view.read (Elt F) f17) 1 (lane2 k))⟩,
          ⟨Rect.unit (taps2 k 0) S8x128.size (taps2_inb k 0), k0_pay144 (tapBlk x win 2 (lane2 k)) (tap8 (a17.view.read (Elt F) f17) 0 (lane2 k))⟩]) := by
  have eX (b : Fin 8) {off : Fin 2 → ℕ} (inb) (he : off = ![64 * b.val, 128 * k.val]) :
      View.readAt (Elt F) a3.view (Rect.unit (s := S512x1408) off S64x128.size inb).toLoadRect (h3.unread x) = rows64 x b (lane2 k) := by
    rw [View.readAt_eq_ld, h3.read_unread]; exact ld_rows64 x b (lane2 k) inb he
  have eA (s : Fin 3) (b : Fin 8) {off : Fin 2 → ℕ} (inb) (he : off = ![64 * b.val + s.val, 128 * k.val]) :
      View.readAt (Elt F) a15.view (Rect.unit (s := S520x1408) off S64x128.size inb).toLoadRect (h15.unread win) = win64 win s b (lane2 k) := by
    rw [View.readAt_eq_ld, h15.read_unread]; exact ld_win64 win s b (lane2 k) inb he
  have eW (j : Fin 3) {off : Fin 2 → ℕ} (inb) (he : off = ![8 * j.val, 128 * k.val]) :
      View.readAt (Elt F) a19.view (Rect.unit (s := S24x1408) off S8x128.size inb).toLoadRect (h19.unread w) = tap8 w j (lane2 k) := by
    rw [View.readAt_eq_ld, h19.read_unread]; exact ld_tap8 w j (lane2 k) inb he
  have eS (j : Fin 3) {off : Fin 2 → ℕ} (inb) (he : off = ![8 * j.val, 128 * k.val]) :
      View.readAt (Elt F) a17.view (Rect.unit (s := S24x1408) off S8x128.size inb).toLoadRect f17 = tap8 (a17.view.read (Elt F) f17) j (lane2 k) := by
    rw [View.readAt_eq_ld]; exact ld_tap8 _ j (lane2 k) inb he
  unfold convBlk tapBlk add8
  beta_reduce
  rw [← eX 0 (k0_off3_inb k) (k0_off3_eq k), ← eX 1 (k0_off11_inb k) (k0_off11_eq k), ← eX 2 (k0_off16_inb k) (k0_off16_eq k),
    ← eX 3 (k0_off21_inb k) (k0_off21_eq k), ← eX 4 (k0_off26_inb k) (k0_off26_eq k), ← eX 5 (k0_off31_inb k) (k0_off31_eq k),
    ← eX 6 (k0_off36_inb k) (k0_off36_eq k), ← eX 7 (k0_off41_inb k) (k0_off41_eq k),
    ← eA 0 0 (k0_off8_inb k) (k0_off8_eq k), ← eA 1 0 (k0_off6_inb k) (k0_off6_eq k), ← eA 2 0 (k0_off4_inb k) (k0_off4_eq k),
    ← eA 0 1 (k0_off14_inb k) (k0_off14_eq k), ← eA 1 1 (k0_off13_inb k) (k0_off13_eq k), ← eA 2 1 (k0_off12_inb k) (k0_off12_eq k),
    ← eA 0 2 (k0_off19_inb k) (k0_off19_eq k), ← eA 1 2 (k0_off18_inb k) (k0_off18_eq k), ← eA 2 2 (k0_off17_inb k) (k0_off17_eq k),
    ← eA 0 3 (k0_off24_inb k) (k0_off24_eq k), ← eA 1 3 (k0_off23_inb k) (k0_off23_eq k), ← eA 2 3 (k0_off22_inb k) (k0_off22_eq k),
    ← eA 0 4 (k0_off29_inb k) (k0_off29_eq k), ← eA 1 4 (k0_off28_inb k) (k0_off28_eq k), ← eA 2 4 (k0_off27_inb k) (k0_off27_eq k),
    ← eA 0 5 (k0_off34_inb k) (k0_off34_eq k), ← eA 1 5 (k0_off33_inb k) (k0_off33_eq k), ← eA 2 5 (k0_off32_inb k) (k0_off32_eq k),
    ← eA 0 6 (k0_off39_inb k) (k0_off39_eq k), ← eA 1 6 (k0_off38_inb k) (k0_off38_eq k), ← eA 2 6 (k0_off37_inb k) (k0_off37_eq k),
    ← eA 0 7 (k0_off44_inb k) (k0_off44_eq k), ← eA 1 7 (k0_off43_inb k) (k0_off43_eq k), ← eA 2 7 (k0_off42_inb k) (k0_off42_eq k),
    ← eW 0 (k0_off5_inb k) (k0_off5_eq k), ← eW 1 (k0_off7_inb k) (k0_off7_eq k), ← eW 2 (k0_off9_inb k) (k0_off9_eq k),
    ← eS 0 (k0_off5_inb k) (k0_off5_eq k), ← eS 1 (k0_off7_inb k) (k0_off7_eq k), ← eS 2 (k0_off9_inb k) (k0_off9_eq k)]
  unfold tripL_k0_t2 trip_k0_t2
  dsimp only
  sl_unfold_run_names
  refine Prod.ext ?_ ?_
  · dsimp only
    iterate 8 refine congrArg₂ List.cons ?_ ?_; · rfl
    rfl
  · refine congrArg₂ List.cons (congrArg (Sigma.mk _) ?_) (congrArg₂ List.cons (congrArg (Sigma.mk _) ?_)
      (congrArg₂ List.cons (congrArg (Sigma.mk _) ?_) rfl)) <;>
    dsimp only [k0_pay5, k0_pay4, k0_pay7, k0_pay8, k0_pay10, k0_pay11, k0_pay12, k0_pay13, k0_pay14, k0_pay15, k0_pay16,
      k0_pay18, k0_pay19, k0_pay20, k0_pay21, k0_pay22, k0_pay24, k0_pay25, k0_pay26, k0_pay27, k0_pay28, k0_pay29,
      k0_pay30, k0_pay31, k0_pay33, k0_pay34, k0_pay35, k0_pay36, k0_pay37, k0_pay39, k0_pay40, k0_pay41, k0_pay42,
      k0_pay43, k0_pay44, k0_pay45, k0_pay46, k0_pay48, k0_pay49, k0_pay50, k0_pay51, k0_pay52, k0_pay53, k0_pay54,
      k0_pay55, k0_pay57, k0_pay58, k0_pay59, k0_pay60, k0_pay61, k0_pay62, k0_pay63, k0_pay144, k0_pay145,
      k0_pay146]

/-- The half of the output block and the tap sums before trip `k`. -/
theorem before2 (G11 G17) (k : ℕ) (hk : k ≤ k0_t2_loop.trips) :
    let P := pb_k0_t2 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h3.unread x) (h15.unread win) (h19.unread w) G11 G17 k
    Held win w 0 P.1 k
      ∧ ∀ y, a17.view.read (Elt F) (a17.view.writes (Elt F) G17 P.2) y
          = if (y 1 : Nat) / 128 < k then tapSums x win (a17.view.read (Elt F) G17) y else a17.view.read (Elt F) G17 y := by
  induction k with
  | zero => exact ⟨held_nil win w 0, fun y => (if_neg (Nat.not_lt_zero _)).symm⟩
  | succ k ih =>
    have hk' : k < k0_t2_loop.trips := hk
    obtain ⟨iL, iS⟩ := ih hk'.le
    have hs := pb_k0_t2_succ (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h3.unread x) (h15.unread win) (h19.unread w) G11 G17 ⟨k, hk'⟩
    rw [trip2_eq] at hs
    dsimp only at hs ⊢
    rw [hs]
    dsimp only
    exact ⟨held_step win w 0 _ (lane2 ⟨k, hk'⟩) (offs2 ⟨k, hk'⟩) (offs2_inb _) (offs2_eq _) iL _ rfl,
      sums_step win x a17.view G17 (a17.view.read (Elt F) G17) (lane2 ⟨k, hk'⟩) _ iS (taps2 ⟨k, hk'⟩) (taps2_inb _) (taps2_eq _) _ rfl⟩

/-- What the second loop leaves. -/
theorem after2 (G11 G17) :
    let P := pb_k0_t2 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h3.unread x) (h15.unread win) (h19.unread w) G11 G17 k0_t2_loop.trips
    Held win w 0 P.1 11
      ∧ a17.view.read (Elt F) (a17.view.writes (Elt F) G17 P.2) = tapSums x win (a17.view.read (Elt F) G17) := by
  obtain ⟨iL, iS⟩ := before2 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 x win w G11 G17 _ le_rfl
  refine ⟨by rw [← trips2_eq]; exact iL, funext fun y => (iS y).trans (if_pos ?_)⟩
  have : (y 1 : Nat) < 1408 := (y 1).isLt
  rw [trips2_eq]; omega

/-- The offsets of the eight stores of trip `k` of the third loop, and of its three tap blocks. -/
def offs3 (k : Fin k0_t3_loop.trips) : Fin 8 → Fin 3 → ℕ := ![k0_off53 k, k0_off58 k, k0_off63 k, k0_off68 k, k0_off73 k, k0_off78 k, k0_off83 k, k0_off88 k]
def taps3 (k : Fin k0_t3_loop.trips) : Fin 3 → Fin 2 → ℕ := ![k0_off48 k, k0_off50 k, k0_off52 k]

theorem offs3_inb (k : Fin k0_t3_loop.trips) : ∀ b a, offs3 k b a + S1x64x128.size a ≤ S2x512x1408.size a :=
  fun b => match b with
  | 0 => k0_off53_inb k
  | 1 => k0_off58_inb k
  | 2 => k0_off63_inb k
  | 3 => k0_off68_inb k
  | 4 => k0_off73_inb k
  | 5 => k0_off78_inb k
  | 6 => k0_off83_inb k
  | 7 => k0_off88_inb k

theorem taps3_inb (k : Fin k0_t3_loop.trips) : ∀ j a, taps3 k j a + S8x128.size a ≤ S24x1408.size a :=
  fun j => match j with
  | 0 => k0_off48_inb k
  | 1 => k0_off50_inb k
  | 2 => k0_off52_inb k

theorem offs3_eq (k : Fin k0_t3_loop.trips) (b : Fin 8) : offs3 k b = ![1, 64 * b.val, 128 * k.val] := by
  match b with
  | 0 => exact k0_off53_eq k
  | 1 => exact k0_off58_eq k
  | 2 => exact k0_off63_eq k
  | 3 => exact k0_off68_eq k
  | 4 => exact k0_off73_eq k
  | 5 => exact k0_off78_eq k
  | 6 => exact k0_off83_eq k
  | 7 => exact k0_off88_eq k

theorem taps3_eq (k : Fin k0_t3_loop.trips) (j : Fin 3) : taps3 k j = ![8 * j.val, 128 * k.val] := by
  match j with
  | 0 => exact k0_off48_eq k
  | 1 => exact k0_off50_eq k
  | 2 => exact k0_off52_eq k

set_option maxHeartbeats 1600000 in
/-- What one trip of the third loop stores. -/
theorem trip3_eq (k : Fin k0_t3_loop.trips) (f11 f18) :
    tripL_k0_t3 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h4.unread x) (h16.unread win) (h20.unread w) k f11 f18
      = ([⟨Rect.unit (offs3 k 7) S1x64x128.size (offs3_inb k 7), convBlk win w 7 (lane3 k)⟩,
          ⟨Rect.unit (offs3 k 6) S1x64x128.size (offs3_inb k 6), convBlk win w 6 (lane3 k)⟩,
          ⟨Rect.unit (offs3 k 5) S1x64x128.size (offs3_inb k 5), convBlk win w 5 (lane3 k)⟩,
          ⟨Rect.unit (offs3 k 4) S1x64x128.size (offs3_inb k 4), convBlk win w 4 (lane3 k)⟩,
          ⟨Rect.unit (offs3 k 3) S1x64x128.size (offs3_inb k 3), convBlk win w 3 (lane3 k)⟩,
          ⟨Rect.unit (offs3 k 2) S1x64x128.size (offs3_inb k 2), convBlk win w 2 (lane3 k)⟩,
          ⟨Rect.unit (offs3 k 1) S1x64x128.size (offs3_inb k 1), convBlk win w 1 (lane3 k)⟩,
          ⟨Rect.unit (offs3 k 0) S1x64x128.size (offs3_inb k 0), convBlk win w 0 (lane3 k)⟩],
        [⟨Rect.unit (taps3 k 2) S8x128.size (taps3_inb k 2), k0_pay144 (tapBlk x win 0 (lane3 k)) (tap8 (a18.view.read (Elt F) f18) 2 (lane3 k))⟩,
          ⟨Rect.unit (taps3 k 1) S8x128.size (taps3_inb k 1), k0_pay144 (tapBlk x win 1 (lane3 k)) (tap8 (a18.view.read (Elt F) f18) 1 (lane3 k))⟩,
          ⟨Rect.unit (taps3 k 0) S8x128.size (taps3_inb k 0), k0_pay144 (tapBlk x win 2 (lane3 k)) (tap8 (a18.view.read (Elt F) f18) 0 (lane3 k))⟩]) := by
  have eX (b : Fin 8) {off : Fin 2 → ℕ} (inb) (he : off = ![64 * b.val, 128 * k.val]) :
      View.readAt (Elt F) a4.view (Rect.unit (s := S512x1408) off S64x128.size inb).toLoadRect (h4.unread x) = rows64 x b (lane3 k) := by
    rw [View.readAt_eq_ld, h4.read_unread]; exact ld_rows64 x b (lane3 k) inb he
  have eA (s : Fin 3) (b : Fin 8) {off : Fin 2 → ℕ} (inb) (he : off = ![64 * b.val + s.val, 128 * k.val]) :
      View.readAt (Elt F) a16.view (Rect.unit (s := S520x1408) off S64x128.size inb).toLoadRect (h16.unread win) = win64 win s b (lane3 k) := by
    rw [View.readAt_eq_ld, h16.read_unread]; exact ld_win64 win s b (lane3 k) inb he
  have eW (j : Fin 3) {off : Fin 2 → ℕ} (inb) (he : off = ![8 * j.val, 128 * k.val]) :
      View.readAt (Elt F) a20.view (Rect.unit (s := S24x1408) off S8x128.size inb).toLoadRect (h20.unread w) = tap8 w j (lane3 k) := by
    rw [View.readAt_eq_ld, h20.read_unread]; exact ld_tap8 w j (lane3 k) inb he
  have eS (j : Fin 3) {off : Fin 2 → ℕ} (inb) (he : off = ![8 * j.val, 128 * k.val]) :
      View.readAt (Elt F) a18.view (Rect.unit (s := S24x1408) off S8x128.size inb).toLoadRect f18 = tap8 (a18.view.read (Elt F) f18) j (lane3 k) := by
    rw [View.readAt_eq_ld]; exact ld_tap8 _ j (lane3 k) inb he
  unfold convBlk tapBlk add8
  beta_reduce
  rw [← eX 0 (k0_off46_inb k) (k0_off46_eq k), ← eX 1 (k0_off54_inb k) (k0_off54_eq k), ← eX 2 (k0_off59_inb k) (k0_off59_eq k),
    ← eX 3 (k0_off64_inb k) (k0_off64_eq k), ← eX 4 (k0_off69_inb k) (k0_off69_eq k), ← eX 5 (k0_off74_inb k) (k0_off74_eq k),
    ← eX 6 (k0_off79_inb k) (k0_off79_eq k), ← eX 7 (k0_off84_inb k) (k0_off84_eq k),
    ← eA 0 0 (k0_off51_inb k) (k0_off51_eq k), ← eA 1 0 (k0_off49_inb k) (k0_off49_eq k), ← eA 2 0 (k0_off47_inb k) (k0_off47_eq k),
    ← eA 0 1 (k0_off57_inb k) (k0_off57_eq k), ← eA 1 1 (k0_off56_inb k) (k0_off56_eq k), ← eA 2 1 (k0_off55_inb k) (k0_off55_eq k),
    ← eA 0 2 (k0_off62_inb k) (k0_off62_eq k), ← eA 1 2 (k0_off61_inb k) (k0_off61_eq k), ← eA 2 2 (k0_off60_inb k) (k0_off60_eq k),
    ← eA 0 3 (k0_off67_inb k) (k0_off67_eq k), ← eA 1 3 (k0_off66_inb k) (k0_off66_eq k), ← eA 2 3 (k0_off65_inb k) (k0_off65_eq k),
    ← eA 0 4 (k0_off72_inb k) (k0_off72_eq k), ← eA 1 4 (k0_off71_inb k) (k0_off71_eq k), ← eA 2 4 (k0_off70_inb k) (k0_off70_eq k),
    ← eA 0 5 (k0_off77_inb k) (k0_off77_eq k), ← eA 1 5 (k0_off76_inb k) (k0_off76_eq k), ← eA 2 5 (k0_off75_inb k) (k0_off75_eq k),
    ← eA 0 6 (k0_off82_inb k) (k0_off82_eq k), ← eA 1 6 (k0_off81_inb k) (k0_off81_eq k), ← eA 2 6 (k0_off80_inb k) (k0_off80_eq k),
    ← eA 0 7 (k0_off87_inb k) (k0_off87_eq k), ← eA 1 7 (k0_off86_inb k) (k0_off86_eq k), ← eA 2 7 (k0_off85_inb k) (k0_off85_eq k),
    ← eW 0 (k0_off48_inb k) (k0_off48_eq k), ← eW 1 (k0_off50_inb k) (k0_off50_eq k), ← eW 2 (k0_off52_inb k) (k0_off52_eq k),
    ← eS 0 (k0_off48_inb k) (k0_off48_eq k), ← eS 1 (k0_off50_inb k) (k0_off50_eq k), ← eS 2 (k0_off52_inb k) (k0_off52_eq k)]
  unfold tripL_k0_t3 trip_k0_t3
  dsimp only
  sl_unfold_run_names
  refine Prod.ext ?_ ?_
  · dsimp only
    iterate 8 refine congrArg₂ List.cons ?_ ?_; · rfl
    rfl
  · refine congrArg₂ List.cons (congrArg (Sigma.mk _) ?_) (congrArg₂ List.cons (congrArg (Sigma.mk _) ?_)
      (congrArg₂ List.cons (congrArg (Sigma.mk _) ?_) rfl)) <;>
    dsimp only [k0_pay4, k0_pay5, k0_pay65, k0_pay66, k0_pay68, k0_pay69, k0_pay71, k0_pay72, k0_pay73, k0_pay74, k0_pay75,
      k0_pay76, k0_pay77, k0_pay79, k0_pay80, k0_pay81, k0_pay82, k0_pay83, k0_pay85, k0_pay86, k0_pay87, k0_pay88,
      k0_pay89, k0_pay90, k0_pay91, k0_pay92, k0_pay94, k0_pay95, k0_pay96, k0_pay97, k0_pay98, k0_pay100,
      k0_pay101, k0_pay102, k0_pay103, k0_pay104, k0_pay105, k0_pay106, k0_pay107, k0_pay109, k0_pay110, k0_pay111,
      k0_pay112, k0_pay113, k0_pay114, k0_pay115, k0_pay116, k0_pay118, k0_pay119, k0_pay120, k0_pay121, k0_pay122,
      k0_pay123, k0_pay124, k0_pay144, k0_pay147, k0_pay148, k0_pay149, k0_pay150, k0_pay151]

/-- The half of the output block and the tap sums before trip `k`. -/
theorem before3 (G11 G18) (k : ℕ) (hk : k ≤ k0_t3_loop.trips) :
    let P := pb_k0_t3 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h4.unread x) (h16.unread win) (h20.unread w) G11 G18 k
    Held win w 1 P.1 k
      ∧ ∀ y, a18.view.read (Elt F) (a18.view.writes (Elt F) G18 P.2) y
          = if (y 1 : Nat) / 128 < k then tapSums x win (a18.view.read (Elt F) G18) y else a18.view.read (Elt F) G18 y := by
  induction k with
  | zero => exact ⟨held_nil win w 1, fun y => (if_neg (Nat.not_lt_zero _)).symm⟩
  | succ k ih =>
    have hk' : k < k0_t3_loop.trips := hk
    obtain ⟨iL, iS⟩ := ih hk'.le
    have hs := pb_k0_t3_succ (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h4.unread x) (h16.unread win) (h20.unread w) G11 G18 ⟨k, hk'⟩
    rw [trip3_eq] at hs
    dsimp only at hs ⊢
    rw [hs]
    dsimp only
    exact ⟨held_step win w 1 _ (lane3 ⟨k, hk'⟩) (offs3 ⟨k, hk'⟩) (offs3_inb _) (offs3_eq _) iL _ rfl,
      sums_step win x a18.view G18 (a18.view.read (Elt F) G18) (lane3 ⟨k, hk'⟩) _ iS (taps3 ⟨k, hk'⟩) (taps3_inb _) (taps3_eq _) _ rfl⟩

/-- What the third loop leaves. -/
theorem after3 (G11 G18) :
    let P := pb_k0_t3 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h4.unread x) (h16.unread win) (h20.unread w) G11 G18 k0_t3_loop.trips
    Held win w 1 P.1 11
      ∧ a18.view.read (Elt F) (a18.view.writes (Elt F) G18 P.2) = tapSums x win (a18.view.read (Elt F) G18) := by
  obtain ⟨iL, iS⟩ := before3 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 x win w G11 G18 _ le_rfl
  refine ⟨by rw [← trips3_eq]; exact iL, funext fun y => (iS y).trans (if_pos ?_)⟩
  have : (y 1 : Nat) < 1408 := (y 1).isLt
  rw [trips3_eq]; omega

end Convolutions

end Loops

end Cert.FfnIdeal.Value

end
-- ==== Proof.FfnPoint.lean ====
/-
  What one point of the feed-forward gradient call computes, from the blocks it reads and from what the point before left
  in the two windows and in the tap sums: the taps repeated eight times, the two windows of gradients with the carried rows
  below them, the two convolutions, the advanced tap sums.
-/
module

public import proofs.«01_k».proof.Proof.FfnLoop

@[expose] public section

set_option maxRecDepth 16384

noncomputable section

open Idealize.ShloMosaic Idealize.ShloMosaic.TcCoe Idealize.SL.Sem

namespace Cert.FfnIdeal.Value

open Cert.FfnIdeal Cert.FfnIdeal.Gen Cert.Blocks

variable {F : FTy → Type} [FloatOps F]

/-- Row `j` of the taps. -/
def tapRow (w : Vec F S3x1408 .f32) (j : Fin 3) : Vec F S1x1408 .f32 := fun z => w (ix2 (n0 := 3) (n1 := 1408) j (z 1))

/-- Every tap eight times over. -/
def rep (w : Vec F S3x1408 .f32) : Vec F S24x1408 .f32 := fun y =>
  k0_pay130 (tapRow w ⟨(y 0 : Nat) / 8, by have : (y 0 : Nat) < 24 := (y 0).isLt; omega⟩)
    (ix2 (n0 := 8) (n1 := 1408) ⟨(y 0 : Nat) % 8, Nat.mod_lt _ (by decide)⟩ (y 1))

/-- The eight rows of tap `j` of the sums. -/
def sumRows (s : Vec F S24x1408 .f32) (j : Fin 3) : Vec F S8x1408 .f32 := fun z =>
  s (ix2 (n0 := 24) (n1 := 1408) ⟨8 * j.val + (z 0 : Nat), by have : (z 0 : Nat) < 8 := (z 0).isLt; omega⟩ (z 1))

/-- The first eight rows of a window, and the last eight. -/
def headRows (w : Vec F S520x1408 .f32) : Vec F S8x1408 .f32 := fun z =>
  w (ix2 (n0 := 520) (n1 := 1408) ⟨(z 0 : Nat), by have : (z 0 : Nat) < 8 := (z 0).isLt; omega⟩ (z 1))
def tailRows (w : Vec F S520x1408 .f32) : Vec F S8x1408 .f32 := fun z =>
  w (ix2 (n0 := 520) (n1 := 1408) ⟨512 + (z 0 : Nat), by have : (z 0 : Nat) < 8 := (z 0).isLt; omega⟩ (z 1))

/-- A window: the gradients of 512 rows, and below them the carried ones. -/
def window (G : (r : ℕ) → r < 512 → Fin 1408 → F .f32) (k : Vec F S8x1408 .f32) : Vec F S520x1408 .f32 := fun y =>
  if h : (y 0 : Nat) < 512 then G (y 0) h (y 1)
  else k (ix2 (n0 := 8) (n1 := 1408) ⟨(y 0 : Nat) - 512, by have : (y 0 : Nat) < 520 := (y 0).isLt; omega⟩ (y 1))

theorem tailRows_window (G : (r : ℕ) → r < 512 → Fin 1408 → F .f32) (k : Vec F S8x1408 .f32) : tailRows (window G k) = k := by
  funext z
  have hz : (z 0 : Nat) < 8 := (z 0).isLt
  unfold tailRows window
  rw [dif_neg (by show ¬ 512 + (z 0 : Nat) < 512; omega)]
  exact congrArg k (funext fun a => match a with
    | ⟨0, _⟩ => Fin.ext (by show 512 + (z 0 : Nat) - 512 = (z 0 : Nat); omega)
    | ⟨1, _⟩ => rfl)

theorem ld_tapRow (w : Vec F S3x1408 .f32) (j : Fin 3) (inb) :
    View.ld w (Rect.unit (s := S3x1408) ![j.val, 0] S1x1408.size inb) = tapRow w j :=
  funext fun z => View.ld_unit_apply_of w _ _ inb z _ (Fin.forall_fin_two.mpr
    ⟨by have : (z 0 : Nat) < 1 := (z 0).isLt; show j.val = j.val + (z 0 : Nat); omega, by show (z 1 : Nat) = 0 + (z 1 : Nat); omega⟩)

theorem ld_sumRows (s : Vec F S24x1408 .f32) (j : Fin 3) (inb) :
    View.ld s (Rect.unit (s := S24x1408) ![8 * j.val, 0] S8x1408.size inb) = sumRows s j :=
  funext fun z => View.ld_unit_apply_of s _ _ inb z _ (Fin.forall_fin_two.mpr
    ⟨rfl, by show (z 1 : Nat) = 0 + (z 1 : Nat); omega⟩)

theorem ld_headRows (w : Vec F S520x1408 .f32) (inb) :
    View.ld w (Rect.unit (s := S520x1408) ![0, 0] S8x1408.size inb) = headRows w :=
  funext fun z => View.ld_unit_apply_of w _ _ inb z _ (Fin.forall_fin_two.mpr
    ⟨by show (z 0 : Nat) = 0 + (z 0 : Nat); omega, by show (z 1 : Nat) = 0 + (z 1 : Nat); omega⟩)

section Stores

variable {κ : Kind} {sp : Space}

/-- The three stores of the repeated taps. -/
theorem read_rep (v : View sig κ sp S24x1408 .f32) (f : v.ty.Contents (Elt F)) (a : Memref sig .tc .vmem S3x1408 .f32) (h : a.IsWhole)
    (w : Vec F S3x1408 .f32) (i0 i1 i2 j0 j1 j2) :
    v.read (Elt F) (v.writes (Elt F) f
      [⟨Rect.unit (s := S24x1408) ![16, 0] S8x1408.size i2, k0_pay130 (View.readAt (Elt F) a.view (Rect.unit (s := S3x1408) ![2, 0] S1x1408.size j2).toLoadRect (h.unread w))⟩,
        ⟨Rect.unit (s := S24x1408) ![8, 0] S8x1408.size i1, k0_pay130 (View.readAt (Elt F) a.view (Rect.unit (s := S3x1408) ![1, 0] S1x1408.size j1).toLoadRect (h.unread w))⟩,
        ⟨Rect.unit (s := S24x1408) ![0, 0] S8x1408.size i0, k0_pay130 (View.readAt (Elt F) a.view (Rect.unit (s := S3x1408) ![0, 0] S1x1408.size j0).toLoadRect (h.unread w))⟩])
      = rep w := by
  have e : ∀ (j : Fin 3) (inb), View.readAt (Elt F) a.view (Rect.unit (s := S3x1408) ![j.val, 0] S1x1408.size inb).toLoadRect (h.unread w) = tapRow w j :=
    fun j inb => by rw [View.readAt_eq_ld, h.read_unread]; exact ld_tapRow w j inb
  have e0 := e 0 j0
  have e1 := e 1 j1
  have e2 := e 2 j2
  change View.readAt (Elt F) a.view (Rect.unit (s := S3x1408) ![0, 0] S1x1408.size j0).toLoadRect (h.unread w) = _ at e0
  change View.readAt (Elt F) a.view (Rect.unit (s := S3x1408) ![1, 0] S1x1408.size j1).toLoadRect (h.unread w) = _ at e1
  change View.readAt (Elt F) a.view (Rect.unit (s := S3x1408) ![2, 0] S1x1408.size j2).toLoadRect (h.unread w) = _ at e2
  rw [e0, e1, e2]
  funext y
  have hy : (y 0 : Nat) < 24 := (y 0).isLt
  have key : ∀ (j : Fin 3), (y 0 : Nat) / 8 = j.val → rep w y = k0_pay130 (tapRow w j) (ix2 (n0 := 8) (n1 := 1408) ⟨(y 0 : Nat) % 8, Nat.mod_lt _ (by decide)⟩ (y 1)) :=
    fun j hj => by unfold rep; exact congrFun (congrArg (fun t => k0_pay130 (tapRow w t)) (Fin.ext hj)) _
  by_cases h2 : 16 ≤ (y 0 : Nat)
  · rw [key 2 (by show (y 0 : Nat) / 8 = 2; omega)]
    exact View.read_writes_cons_rows_of_mem v f i2 _ _ y (ix2 (n0 := 8) (n1 := 1408) ⟨(y 0 : Nat) % 8, Nat.mod_lt _ (by decide)⟩ (y 1)) rfl
      (by show (y 0 : Nat) = 16 + (y 0 : Nat) % 8; omega) rfl
  rw [View.read_writes_cons_rows_of_not_mem v f i2 _ _ y rfl rfl (.inl (by show (y 0 : Nat) < 16; omega))]
  by_cases h1 : 8 ≤ (y 0 : Nat)
  · rw [key 1 (by show (y 0 : Nat) / 8 = 1; omega)]
    exact View.read_writes_cons_rows_of_mem v f i1 _ _ y (ix2 (n0 := 8) (n1 := 1408) ⟨(y 0 : Nat) % 8, Nat.mod_lt _ (by decide)⟩ (y 1)) rfl
      (by show (y 0 : Nat) = 8 + (y 0 : Nat) % 8; omega) rfl
  rw [View.read_writes_cons_rows_of_not_mem v f i1 _ _ y rfl rfl (.inl (by show (y 0 : Nat) < 8; omega)),
    key 0 (by show (y 0 : Nat) / 8 = 0; omega)]
  exact View.read_writes_cons_rows_of_mem v f i0 _ _ y (ix2 (n0 := 8) (n1 := 1408) ⟨(y 0 : Nat) % 8, Nat.mod_lt _ (by decide)⟩ (y 1)) rfl
    (by show (y 0 : Nat) = 0 + (y 0 : Nat) % 8; omega) rfl

/-- A store of eight rows below the gradients: on those rows the block holds them, above what it held. -/
theorem tail_store (v : View sig κ sp S520x1408 .f32) (f : v.ty.Contents (Elt F)) (k : Vec F S8x1408 .f32) (inb) :
    tailRows (v.read (Elt F) (v.writes (Elt F) f [⟨Rect.unit (s := S520x1408) ![512, 0] S8x1408.size inb, k⟩])) = k :=
  funext fun z => View.read_writes_cons_rows_of_mem v f inb _ _ _ z rfl rfl rfl

/-- The carried rows stored below a window's gradients. -/
theorem carry_store (v : View sig κ sp S520x1408 .f32) (f : v.ty.Contents (Elt F)) (L : List (View.Piece (Elt F) S520x1408 .f32))
    (G : (r : ℕ) → r < 512 → Fin 1408 → F .f32) (k' : Vec F S8x1408 .f32) (hL : v.read (Elt F) (v.writes (Elt F) f L) = window G k')
    (k : Vec F S8x1408 .f32) (inb) :
    v.read (Elt F) (v.writes (Elt F) f ((⟨Rect.unit (s := S520x1408) ![512, 0] S8x1408.size inb, k⟩ : View.Piece (Elt F) S520x1408 .f32) :: L)) = window G k := by
  funext y
  have hy : (y 0 : Nat) < 520 := (y 0).isLt
  by_cases h : (y 0 : Nat) < 512
  · rw [View.read_writes_cons_rows_of_not_mem v f inb _ _ y rfl rfl (.inl (by show (y 0 : Nat) < 512; exact h)), hL]
    unfold window; rw [dif_pos h, dif_pos h]
  · unfold window; rw [dif_neg h]
    exact View.read_writes_cons_rows_of_mem v f inb _ _ y (ix2 (n0 := 8) (n1 := 1408) ⟨(y 0 : Nat) - 512, by omega⟩ (y 1)) rfl
      (by show (y 0 : Nat) = 512 + ((y 0 : Nat) - 512); omega) rfl

/-- The same where the carried rows are the window's own first ones. -/
theorem carry_head (a : Memref sig .tc .vmem S520x1408 .f32) (f : a.view.ty.Contents (Elt F)) (L : List (View.Piece (Elt F) S520x1408 .f32))
    (G : (r : ℕ) → r < 512 → Fin 1408 → F .f32) (k : Vec F S8x1408 .f32) (hL : a.view.read (Elt F) (a.view.writes (Elt F) f L) = window G k) (inb inb0) :
    a.view.read (Elt F) (a.view.writes (Elt F) f ((⟨Rect.unit (s := S520x1408) ![512, 0] S8x1408.size inb,
        k0_pay151 (View.readAt (Elt F) a.view (Rect.unit (s := S520x1408) ![0, 0] S8x1408.size inb0).toLoadRect (a.view.writes (Elt F) f L))⟩ :
          View.Piece (Elt F) S520x1408 .f32) :: L)) = window G (k0_pay151 (headRows (window G k))) := by
  rw [View.readAt_eq_ld, hL, ld_headRows]
  exact carry_store a.view f L G k hL _ inb

/-- The product of the incoming gradient with the weights. -/
theorem read_dact (v : View sig κ sp S512x1408 .f32) (f : v.ty.Contents (Elt F))
    (a : Memref sig .tc .vmem S512x1024 .bf16) (h : a.IsWhole) (dx : Vec F S512x1024 .bf16)
    (b : Memref sig .tc .vmem S1408x1024 .bf16) (hb : b.IsWhole) (wd : Vec F S1408x1024 .bf16) (i0 i1 i2) :
    v.read (Elt F) (v.writes (Elt F) f [⟨Rect.unit (s := S512x1408) ![0, 0] S512x1408.size i0,
        k0_pay137 (View.readAt (Elt F) a.view (Rect.unit (s := S512x1024) ![0, 0] S512x1024.size i1).toLoadRect (h.unread dx))
          (View.readAt (Elt F) b.view (Rect.unit (s := S1408x1024) ![0, 0] S1408x1024.size i2).toLoadRect (hb.unread wd))⟩]) = k0_pay137 dx wd := by
  rw [readAt_whole (S := S512x1024) hz, readAt_whole (S := S1408x1024) hz, h.read_unread, hb.read_unread]
  exact read_cons_whole (S := S512x1408) hz _ v f _ _

/-- The three sums of eight rows, one row each. -/
def fold3 (s : Vec F S24x1408 .f32) : Vec F S3x1408 .f32 := k0_pay2 (sumRows s 0) (sumRows s 1) (sumRows s 2)

theorem read_fold3 (v : View sig κ sp S3x1408 .f32) (f : v.ty.Contents (Elt F))
    (a : Memref sig .tc .vmem S24x1408 .f32) (g : a.view.ty.Contents (Elt F)) (s : Vec F S24x1408 .f32) (hg : a.view.read (Elt F) g = s) (i0 i1 i2 i3) :
    v.read (Elt F) (v.writes (Elt F) f [⟨Rect.unit (s := S3x1408) ![0, 0] S3x1408.size i3,
        k0_pay2 (View.readAt (Elt F) a.view (Rect.unit (s := S24x1408) ![0, 0] S8x1408.size i0).toLoadRect g)
          (View.readAt (Elt F) a.view (Rect.unit (s := S24x1408) ![8, 0] S8x1408.size i1).toLoadRect g)
          (View.readAt (Elt F) a.view (Rect.unit (s := S24x1408) ![16, 0] S8x1408.size i2).toLoadRect g)⟩]) = fold3 s := by
  rw [View.readAt_eq_ld, View.readAt_eq_ld, View.readAt_eq_ld, hg]
  refine (read_cons_whole (S := S3x1408) hz _ v f _ _).trans ?_
  unfold fold3
  exact congr (congr (congrArg k0_pay2 (ld_sumRows s 0 i0)) (ld_sumRows s 1 i1)) (ld_sumRows s 2 i2)

/-- Both convolutions, the gate's half stored first. -/
theorem both_halves (v : View sig κ sp S2x512x1408 .bf16) (f : v.ty.Contents (Elt F)) (wg wv : Vec F S520x1408 .f32) (tg tv : Vec F S24x1408 .f32)
    (L M : List (View.Piece (Elt F) S2x512x1408 .bf16)) (hL : Held wg tg 0 L 11) (hM : Held wv tv 1 M 11) :
    v.read (Elt F) (v.writes (Elt F) f (M ++ L)) = convBoth wg tg wv tv := by
  funext y
  have hy : (y 0 : Nat) < 2 := (y 0).isLt
  have hl : (y 2 : Nat) / 128 < 11 := by have : (y 2 : Nat) < 1408 := (y 2).isLt; omega
  refine View.read_writes_apply_of_pieces v f (convBoth wg tg wv tv) (M ++ L) (fun p hp z => ?_) y ?_
  · unfold convBoth
    rcases List.mem_append.mp hp with hp | hp
    · obtain ⟨h0, h1⟩ := hM.agrees p hp z
      rw [if_neg (by rw [h0]; decide)]; exact h1
    · obtain ⟨h0, h1⟩ := hL.agrees p hp z
      rw [if_pos (by rw [h0]; rfl)]; exact h1
  · by_cases h0 : (y 0 : Nat) = 0
    · obtain ⟨p, hp, hm⟩ := hL.covers y h0 hl
      exact ⟨p, List.mem_append_right _ hp, hm⟩
    · obtain ⟨p, hp, hm⟩ := hM.covers y (by show (y 0 : Nat) = 1; omega) hl
      exact ⟨p, List.mem_append_left _ hp, hm⟩

end Stores

section Point

variable (𝒱 : Variants) (c : Dev nD) (bd : Option 𝒱.V) (i : grid0.Coords)
  (a2 : Memref sig .tc .vmem S512x1024 .bf16) (h2 : a2.IsWhole) (a3 : Memref sig .tc .vmem S512x1408 .bf16) (h3 : a3.IsWhole)
  (a4 : Memref sig .tc .vmem S512x1408 .bf16) (h4 : a4.IsWhole) (a5 : Memref sig .tc .vmem S512x1408 .bf16) (h5 : a5.IsWhole)
  (a6 : Memref sig .tc .vmem S512x1408 .bf16) (h6 : a6.IsWhole) (a7 : Memref sig .tc .vmem S3x1408 .f32) (h7 : a7.IsWhole)
  (a8 : Memref sig .tc .vmem S3x1408 .f32) (h8 : a8.IsWhole) (a9 : Memref sig .tc .vmem S1408x1024 .bf16) (h9 : a9.IsWhole)
  (a10 : Memref sig .tc .hbm S8x128 .f32) (h10 : a10.IsWhole) (a11 : Memref sig .tc .vmem S2x512x1408 .bf16) (h11 : a11.IsWhole)
  (a12 : Memref sig .tc .vmem S3x1408 .f32) (h12 : a12.IsWhole) (a13 : Memref sig .tc .vmem S3x1408 .f32) (h13 : a13.IsWhole)
  (a14 : Memref sig .tc .vmem S512x1408 .f32) (h14 : a14.IsWhole) (a15 : Memref sig .tc .vmem S520x1408 .f32) (h15 : a15.IsWhole)
  (a16 : Memref sig .tc .vmem S520x1408 .f32) (h16 : a16.IsWhole) (a17 : Memref sig .tc .vmem S24x1408 .f32) (h17 : a17.IsWhole)
  (a18 : Memref sig .tc .vmem S24x1408 .f32) (h18 : a18.IsWhole) (a19 : Memref sig .tc .vmem S24x1408 .f32) (h19 : a19.IsWhole)
  (a20 : Memref sig .tc .vmem S24x1408 .f32) (h20 : a20.IsWhole)
  (v29 : FVec F S8x1408 .f32) (v30 : Vec F S8x1408 .f32)
  (cg cv : Vec F S512x1408 .bf16) (d : Vec F S512x1408 .f32) (x : Vec F S512x1408 .bf16) (w : Vec F S3x1408 .f32) (k : Vec F S8x1408 .f32)

/-- The gate's window after the first loop, from the carried rows it found. -/
theorem window_gate (f14 G15) (e14 : a14.view.read (Elt F) f14 = d) (e15 : tailRows (a15.view.read (Elt F) G15) = k) :
    a15.view.read (Elt F) (a15.view.writes (Elt F) G15 (pb_k0_t1 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread cg) (h6.unread cv) f14 k0_t1_loop.trips).1)
      = window (gateGrad cg d cv) k := by
  obtain rfl := h14.eq_unread e14
  subst e15
  funext y
  have hy : (y 0 : Nat) < 520 := (y 0).isLt
  refine ((after1 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 cg cv d G15 a16.view.junk).1 y).trans ?_
  unfold window tailRows
  by_cases h : (y 0 : Nat) < 512
  · rw [dif_pos h, dif_pos h]
  · rw [dif_neg h, dif_neg h]
    exact congrArg _ (funext fun a => match a with
      | ⟨0, _⟩ => Fin.ext (by show (y 0 : Nat) = 512 + ((y 0 : Nat) - 512); omega)
      | ⟨1, _⟩ => rfl)

/-- The value's one. -/
theorem window_val (f14 G16) (e14 : a14.view.read (Elt F) f14 = d) (e16 : tailRows (a16.view.read (Elt F) G16) = k) :
    a16.view.read (Elt F) (a16.view.writes (Elt F) G16 (pb_k0_t1 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h5.unread cg) (h6.unread cv) f14 k0_t1_loop.trips).2)
      = window (valGrad cg d) k := by
  obtain rfl := h14.eq_unread e14
  subst e16
  funext y
  have hy : (y 0 : Nat) < 520 := (y 0).isLt
  refine ((after1 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 cg cv d a15.view.junk G16).2 y).trans ?_
  unfold window tailRows
  by_cases h : (y 0 : Nat) < 512
  · rw [dif_pos h, dif_pos h]
  · rw [dif_neg h, dif_neg h]
    exact congrArg _ (funext fun a => match a with
      | ⟨0, _⟩ => Fin.ext (by show (y 0 : Nat) = 512 + ((y 0 : Nat) - 512); omega)
      | ⟨1, _⟩ => rfl)

variable (win : Vec F S520x1408 .f32) (t : Vec F S24x1408 .f32)

/-- The second loop, whatever the names of what it reads. -/
theorem conv_gate (f15 f19 G11 G17) (e15 : a15.view.read (Elt F) f15 = win) (e19 : a19.view.read (Elt F) f19 = t) :
    let P := pb_k0_t2 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h3.unread x) f15 f19 G11 G17 k0_t2_loop.trips
    Held win t 0 P.1 11 ∧ a17.view.read (Elt F) (a17.view.writes (Elt F) G17 P.2) = tapSums x win (a17.view.read (Elt F) G17) := by
  obtain rfl := h15.eq_unread e15
  obtain rfl := h19.eq_unread e19
  exact after2 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 x win t G11 G17

/-- The third. -/
theorem conv_val (f16 f20 G11 G18) (e16 : a16.view.read (Elt F) f16 = win) (e20 : a20.view.read (Elt F) f20 = t) :
    let P := pb_k0_t3 (F := F) 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 (h4.unread x) f16 f20 G11 G18 k0_t3_loop.trips
    Held win t 1 P.1 11 ∧ a18.view.read (Elt F) (a18.view.writes (Elt F) G18 P.2) = tapSums x win (a18.view.read (Elt F) G18) := by
  obtain rfl := h16.eq_unread e16
  obtain rfl := h20.eq_unread e20
  exact after3 𝒱 c bd i a2 h2 a3 h3 a4 h4 a5 h5 a6 h6 a7 h7 a8 h8 a9 h9 a10 h10 a11 h11 a12 h12 a13 h13 a14 h14 a15 h15 a16 h16 a17 h17 a18 h18 a19 h19 a20 h20 v29 v30 x win t G11 G18

end Point

end Cert.FfnIdeal.Value

end
-- ==== Proof.FfnBody.lean ====
/-
  The body of the feed-forward gradient call at one point of its grid: what it leaves in the block of the gradient, in
  the tap sums and in the rows it carries to the next point, over the whole blocks it reads (FfnPoint.lean).
-/
module

public import proofs.«01_k».proof.Proof.FfnPoint
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.FfnIdeal.Value

open Cert.FfnIdeal Cert.FfnIdeal.Gen Cert.Blocks

variable {F : FTy → Type} [FloatOps F]

local notation "𝕄" => MT nD τ sig Unit (Elt F) ℕ (UR sig nD τ) ℕ

/-- The first point of a sweep over the rows, as the body asks for it. -/
abbrev isFirst (i : grid0.Coords) : Prop :=
  Scalar.cmpi .ne (Scalar.extui (Scalar.cmpi .eq (BitVec.ofNat 32 (i 1).val) 0#32)) 0#32 = 1#1
/-- The last one. -/
abbrev isLast (i : grid0.Coords) : Prop := k0_cond2 i = 1#1

theorem first_iff : ∀ i : grid0.Coords, isFirst i ↔ (i 1).val = 0 := fun i => by
  unfold isFirst; generalize i 1 = j; revert j; decide +kernel
theorem last_iff : ∀ i : grid0.Coords, isLast i ↔ (i 1).val = 7 := fun i => by
  unfold isLast k0_cond2; generalize i 1 = j; revert j; decide +kernel

section Body

variable (c : Dev nD) (i : grid0.Coords)
  (a2 : Memref sig .tc .vmem S512x1024 .bf16) (h2 : a2.IsWhole) (a3 : Memref sig .tc .vmem S512x1408 .bf16) (h3 : a3.IsWhole)
  (a4 : Memref sig .tc .vmem S512x1408 .bf16) (h4 : a4.IsWhole) (a5 : Memref sig .tc .vmem S512x1408 .bf16) (h5 : a5.IsWhole)
  (a6 : Memref sig .tc .vmem S512x1408 .bf16) (h6 : a6.IsWhole) (a7 : Memref sig .tc .vmem S3x1408 .f32) (h7 : a7.IsWhole)
  (a8 : Memref sig .tc .vmem S3x1408 .f32) (h8 : a8.IsWhole) (a9 : Memref sig .tc .vmem S1408x1024 .bf16) (h9 : a9.IsWhole)
  (a10 : Memref sig .tc .hbm S8x128 .f32) (h10 : a10.IsWhole) (a11 : Memref sig .tc .vmem S2x512x1408 .bf16) (h11 : a11.IsWhole)
  (a12 : Memref sig .tc .vmem S3x1408 .f32) (h12 : a12.IsWhole) (a13 : Memref sig .tc .vmem S3x1408 .f32) (h13 : a13.IsWhole)
  (a14 : Memref sig .tc .vmem S512x1408 .f32) (h14 : a14.IsWhole) (a15 : Memref sig .tc .vmem S520x1408 .f32) (h15 : a15.IsWhole)
  (a16 : Memref sig .tc .vmem S520x1408 .f32) (h16 : a16.IsWhole) (a17 : Memref sig .tc .vmem S24x1408 .f32) (h17 : a17.IsWhole)
  (a18 : Memref sig .tc .vmem S24x1408 .f32) (h18 : a18.IsWhole) (a19 : Memref sig .tc .vmem S24x1408 .f32) (h19 : a19.IsWhole)
  (a20 : Memref sig .tc .vmem S24x1408 .f32) (h20 : a20.IsWhole)
  (dx : Vec F S512x1024 .bf16) (xg xv cg cv : Vec F S512x1408 .bf16) (wg wv : Vec F S3x1408 .f32) (wd : Vec F S1408x1024 .bf16)

/-- The two windows a point convolves, from the carried rows it starts with, and what it leaves in them. -/
def winGate (k : Vec F S8x1408 .f32) : Vec F S520x1408 .f32 := window (gateGrad cg (k0_pay137 dx wd) cv) k
def winVal (k : Vec F S8x1408 .f32) : Vec F S520x1408 .f32 := window (valGrad cg (k0_pay137 dx wd)) k
def nextGate (k : Vec F S8x1408 .f32) : Vec F S520x1408 .f32 := winGate dx cg cv wd (k0_pay151 (headRows (winGate dx cg cv wd k)))
def nextVal (k : Vec F S8x1408 .f32) : Vec F S520x1408 .f32 := winVal dx cg wd (k0_pay151 (headRows (winVal dx cg wd k)))

/-- The carried rows and the tap sums a point starts with: zeros at the first point of a sweep. -/
def startRows (d : Vec F S520x1408 .f32) : Vec F S8x1408 .f32 := if isFirst i then k0_pay126 else tailRows d
def startSums (d : Vec F S24x1408 .f32) : Vec F S24x1408 .f32 := if isFirst i then k0_pay128 else d
/-- What a point leaves in a block of the taps' gradient: the folded sums at the last point of a sweep. -/
def endTaps (s : Vec F S24x1408 .f32) (d : Vec F S3x1408 .f32) : Vec F S3x1408 .f32 := if isLast i then fold3 s else d

set_option maxHeartbeats 8000000 in
/-- The body, from the windows `d15`, `d16` and the sums `d17`, `d18` of the point before. -/
theorem run (E : Set ℕ) (K : PUnit → sProp 𝕄) (d12 d13 : Vec F S3x1408 .f32) (d15 d16 : Vec F S520x1408 .f32) (d17 d18 : Vec F S24x1408 .f32)
    (kg kv : Vec F S8x1408 .f32) (sg sv : Vec F S24x1408 .f32) (o12 o13 : Vec F S3x1408 .f32)
    (hkg : kg = startRows i d15) (hkv : kv = startRows i d16) (hsg : sg = startSums i d17) (hsv : sv = startSums i d18)
    (ho12 : o12 = endTaps i (tapSums xg (winGate dx cg cv wd kg) sg) d12) (ho13 : o13 = endTaps i (tapSums xv (winVal dx cg wd kv) sv) d13) :
    iprop(owns (c : Thread nD τ) a2 fullShare dx
      ∗ owns (c : Thread nD τ) a3 fullShare xg
      ∗ owns (c : Thread nD τ) a4 fullShare xv
      ∗ owns (c : Thread nD τ) a5 fullShare cg
      ∗ owns (c : Thread nD τ) a6 fullShare cv
      ∗ owns (c : Thread nD τ) a7 fullShare wg
      ∗ owns (c : Thread nD τ) a8 fullShare wv
      ∗ owns (c : Thread nD τ) a9 fullShare wd
      ∗ (∃ d, owns (c : Thread nD τ) a11 fullShare d) ∗ owns (c : Thread nD τ) a12 fullShare d12 ∗ owns (c : Thread nD τ) a13 fullShare d13
      ∗ (∃ d, owns (c : Thread nD τ) a14 fullShare d) ∗ owns (c : Thread nD τ) a15 fullShare d15 ∗ owns (c : Thread nD τ) a16 fullShare d16
      ∗ owns (c : Thread nD τ) a17 fullShare d17 ∗ owns (c : Thread nD τ) a18 fullShare d18
      ∗ (∃ d, owns (c : Thread nD τ) a19 fullShare d) ∗ (∃ d, owns (c : Thread nD τ) a20 fullShare d)
      ∗ ((owns (c : Thread nD τ) a2 fullShare dx
      ∗ owns (c : Thread nD τ) a3 fullShare xg
      ∗ owns (c : Thread nD τ) a4 fullShare xv
      ∗ owns (c : Thread nD τ) a5 fullShare cg
      ∗ owns (c : Thread nD τ) a6 fullShare cv
      ∗ owns (c : Thread nD τ) a7 fullShare wg
      ∗ owns (c : Thread nD τ) a8 fullShare wv
      ∗ owns (c : Thread nD τ) a9 fullShare wd
        ∗ owns (c : Thread nD τ) a11 fullShare (convBoth (winGate dx cg cv wd kg) (rep wg) (winVal dx cg wd kv) (rep wv))
        ∗ owns (c : Thread nD τ) a12 fullShare o12 ∗ owns (c : Thread nD τ) a13 fullShare o13
        ∗ (∃ d, owns (c : Thread nD τ) a14 fullShare d) ∗ owns (c : Thread nD τ) a15 fullShare (nextGate dx cg cv wd kg)
        ∗ owns (c : Thread nD τ) a16 fullShare (nextVal dx cg wd kv)
        ∗ owns (c : Thread nD τ) a17 fullShare (tapSums xg (winGate dx cg cv wd kg) sg)
        ∗ owns (c : Thread nD τ) a18 fullShare (tapSums xv (winVal dx cg wd kv) sv)
        ∗ (∃ d, owns (c : Thread nD τ) a19 fullShare d) ∗ (∃ d, owns (c : Thread nD τ) a20 fullShare d)) -∗ K ⟨⟩))
    ⊢ wp Idealize.ShloMosaic.frame (wpE (defs₀ (F := F)) Variants.none c none) E
        (cc0_ffn_bwd i a2 h2 a3 h3 a4 h4 a5 h5 a6 h6 a7 h7 a8 h8 a9 h9 a10 h10 a11 h11 a12 h12 a13 h13 a14 h14 a15 h15 a16 h16 a17 h17 a18 h18 a19 h19 a20 h20) K := by
  simp only [cc0_ffn_bwd_eq_skeleton]; unfold cc0_ffn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d11, %f11, -, H11⟩, ⟨%f12, %hf12, H12⟩, ⟨%f13, %hf13, H13⟩, ⟨%d14, %f14, -, H14⟩, ⟨%f15, %hf15, H15⟩, ⟨%f16, %hf16, H16⟩,
    ⟨%f17, %hf17, H17⟩, ⟨%f18, %hf18, H18⟩, ⟨%d19, %f19, -, H19⟩, ⟨%d20, %f20, -, H20⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  have hcase : (isFirst i ∧ ¬isLast i) ∨ (¬isFirst i ∧ ¬isLast i) ∨ (¬isFirst i ∧ isLast i) := by
    rw [first_iff, last_iff]; omega
  rcases hcase with ⟨hc0, hc1⟩ | ⟨hc0, hc1⟩ | ⟨hc0, hc1⟩
  all_goals
    sl_exec (disch := first | sl_exact hc0 | sl_exact hc1)
    sl_unfold_run_names
    sl_step
    unfold startRows at hkg hkv
    unfold startSums at hsg hsv
    unfold endTaps at ho12 ho13
    first | rw [if_pos hc0] at hkg hkv hsg hsv | rw [if_neg hc0] at hkg hkv hsg hsv
    first | rw [if_pos hc1] at ho12 ho13 | rw [if_neg hc1] at ho12 ho13
    subst hkg hkv hsg hsv ho12 ho13
    unfold nextGate nextVal winGate winVal
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H11]
    · iexists _; isplitr; swap; · iexact H11
      ipureintro
      exact both_halves _ _ _ _ _ _ _ _ (conv_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xg _ _ _ _ _ _ (by first | exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf15) | (rw [View.writes_append]; exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a7 h7 wg _ _ _ _ _ _)).1 (conv_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xv _ _ _ _ _ _ (by first | exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf16) | (rw [View.writes_append]; exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a8 h8 wv _ _ _ _ _ _)).1
    isplitl [H12]
    · iexists _; isplitr; swap; · iexact H12
      ipureintro
      first | exact hf12 | exact read_fold3 _ _ a17 _ _ ((conv_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xg _ _ _ _ _ _ (by first | exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf15) | (rw [View.writes_append]; exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a7 h7 wg _ _ _ _ _ _)).2.trans (congrArg _ hf17)) _ _ _ _
    isplitl [H13]
    · iexists _; isplitr; swap; · iexact H13
      ipureintro
      first | exact hf13 | exact read_fold3 _ _ a18 _ _ ((conv_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xv _ _ _ _ _ _ (by first | exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf16) | (rw [View.writes_append]; exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a8 h8 wv _ _ _ _ _ _)).2.trans (congrArg _ hf18)) _ _ _ _
    isplitl [H14]
    · iexists _; iexists _; isplitr; swap; · iexact H14
      ipureintro; rfl
    isplitl [H15]
    · iexists _; isplitr; swap; · iexact H15
      ipureintro
      exact carry_head a15 _ _ _ _ (by first | exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf15) | (rw [View.writes_append]; exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) _ _
    isplitl [H16]
    · iexists _; isplitr; swap; · iexact H16
      ipureintro
      exact carry_head a16 _ _ _ _ (by first | exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf16) | (rw [View.writes_append]; exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) _ _
    isplitl [H17]
    · iexists _; isplitr; swap; · iexact H17
      ipureintro
      first | exact (conv_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xg _ _ _ _ _ _ (by first | exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf15) | (rw [View.writes_append]; exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a7 h7 wg _ _ _ _ _ _)).2.trans (congrArg _ hf17) | (rw [View.writes_append]; exact (conv_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xg _ _ _ _ _ _ (by first | exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf15) | (rw [View.writes_append]; exact window_gate Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a7 h7 wg _ _ _ _ _ _)).2.trans (congrArg _ (read_cons_whole (S := S24x1408) hz _ a17.view _ _ _)))
    isplitl [H18]
    · iexists _; isplitr; swap; · iexact H18
      ipureintro
      first | exact (conv_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xv _ _ _ _ _ _ (by first | exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf16) | (rw [View.writes_append]; exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a8 h8 wv _ _ _ _ _ _)).2.trans (congrArg _ hf18) | (rw [View.writes_append]; exact (conv_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ xv _ _ _ _ _ _ (by first | exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (congrArg tailRows hf16) | (rw [View.writes_append]; exact window_val Variants.none c none i a2 h2 a3 h3 a4 h4 a5 h5 a6 h6 a7 h7 a8 h8 a9 h9 a10 h10 a11 h11 a12 h12 a13 h13 a14 h14 a15 h15 a16 h16 a17 h17 a18 h18 a19 h19 a20 h20 _ _ cg cv _ _ _ _ (read_dact _ _ a2 h2 dx a9 h9 wd _ _ _)  (tail_store _ _ _ _))) (read_rep _ _ a8 h8 wv _ _ _ _ _ _)).2.trans (congrArg _ (read_cons_whole (S := S24x1408) hz _ a18.view _ _ _)))
    isplitl [H19]
    · iexists _; iexists _; isplitr; swap; · iexact H19
      ipureintro; rfl
    · iexists _; iexists _; isplitr; swap; · iexact H20
      ipureintro; rfl

end Body
end Cert.FfnIdeal.Value
end
-- ==== Proof.FfnMath.lean ====
/-
  The gated feed-forward layer's gradient over the real numbers: the causal convolution over the last three rows, the
  gate, the gradient at the gate and at the value, and from these the gradient at the rows and at the taps.  An array is
  a function of a row and a lane; past its last row every gradient is zero.
-/
module

public import proofs.«01_k».proof.Proof.RealLaws

@[expose] public section

noncomputable section

open Idealize.ShloMosaic Cert.RealLaws

namespace Cert.Gated

/-- The real numbers in an array; zeros outside it. -/
def tab {n d : ℕ} (x : Fin n → Fin d → EReal) (i j : ℕ) : ℝ := if h : i < n ∧ j < d then (x ⟨i, h.1⟩ ⟨j, h.2⟩).toReal else 0

theorem tab_eq {n d : ℕ} (x : Fin n → Fin d → EReal) (hx : ∀ i j, ∃ r : ℝ, x i j = (r : EReal)) (i : Fin n) (j : Fin d) :
    x i j = ((tab x i j : ℝ) : EReal) := by
  obtain ⟨r, hr⟩ := hx i j
  unfold tab
  rw [dif_pos ⟨i.isLt, j.isLt⟩, hr, EReal.toReal_coe]

/-- The logistic function. -/
def sg (x : ℝ) : ℝ := (1 + Real.exp (-x))⁻¹

theorem sg_tanh (x : ℝ) : 1 / 2 * Real.tanh (1 / 2 * x) + 1 / 2 = sg x := by
  have e : Real.exp (-x) = Real.exp (-(1 / 2 * x)) * Real.exp (-(1 / 2 * x)) := by rw [← Real.exp_add]; ring_nf
  have p := Real.exp_pos (1 / 2 * x)
  have q := Real.exp_pos (-(1 / 2 * x))
  have pq : Real.exp (1 / 2 * x) * Real.exp (-(1 / 2 * x)) = 1 := by rw [← Real.exp_add]; simp
  unfold sg
  rw [Real.tanh_eq_sinh_div_cosh, Real.sinh_eq, Real.cosh_eq, e]
  generalize Real.exp (1 / 2 * x) = a at *
  generalize Real.exp (-(1 / 2 * x)) = b at *
  have h0 : a + b ≠ 0 := by positivity
  have h1 : 1 + b * b ≠ 0 := by positivity
  field_simp
  linear_combination (2 * b) * pq

/-- The gradient at the gate `g` and at the value `v`, of an incoming gradient `d` of `g · sg g · v`. -/
def gateOf (g v d : ℝ) : ℝ := d * v * (sg g * (1 + g * (1 - sg g)))
def valOf (g d : ℝ) : ℝ := d * (g * sg g)

section Layer

variable (U W D Wd : ℕ → ℕ → ℝ)

/-- A table `s` rows earlier, zero before its first row. -/
def prev (s t l : ℕ) : ℝ := if s ≤ t then U (t - s) l else 0

/-- The causal convolution by three taps. -/
def conv (t l : ℕ) : ℝ := W 0 l * prev U 2 t l + W 1 l * prev U 1 t l + W 2 l * U t l

/-- The incoming gradient through the last product. -/
def dact (t l : ℕ) : ℝ := ∑ k : Fin 1024, D t k * Wd l k

/-- The gradient at gate lane `l` and at value lane `l`. -/
def dgate (t l : ℕ) : ℝ := gateOf (conv U W t l) (conv U W t (2816 + l)) (dact D Wd t l)
def dval (t l : ℕ) : ℝ := valOf (conv U W t l) (dact D Wd t l)

end Layer

section Convolution

variable (G : ℕ → ℝ) (u w : ℕ → ℝ)

/-- Nothing beyond row 4095. -/
def upTo (t : ℕ) : ℝ := if t < 4096 then G t else 0

/-- The gradient at the convolution's input, of a gradient `G` at its output. -/
def dconv (t : ℕ) : ℝ := w 0 * upTo G (t + 2) + w 1 * upTo G (t + 1) + w 2 * upTo G t

/-- The gradient at tap `k`. -/
def dtap (k : ℕ) : ℝ := ∑ t ∈ Finset.range 4096, u t * upTo G (t + (2 - k))

theorem shifted (s : ℕ) (hs : s ≤ 4096) :
    ∑ t ∈ Finset.range 4096, G t * (if s ≤ t then u (t - s) else 0) = ∑ t ∈ Finset.range 4096, u t * upTo G (t + s) := by
  have e : 4096 = s + (4096 - s) := by omega
  have e' : 4096 = (4096 - s) + s := by omega
  conv_lhs => rw [e]
  conv_rhs => rw [e']
  rw [Finset.sum_range_add, Finset.sum_range_add,
    Finset.sum_eq_zero (s := Finset.range s) (fun t ht => by rw [if_neg (by have := Finset.mem_range.1 ht; omega), mul_zero]),
    Finset.sum_eq_zero (s := Finset.range s) (fun t ht => by unfold upTo; rw [if_neg (by omega), mul_zero]), zero_add, add_zero]
  refine Finset.sum_congr rfl fun t ht => ?_
  have := Finset.mem_range.1 ht
  unfold upTo
  rw [if_pos (by omega), if_pos (by omega), Nat.add_sub_cancel_left, mul_comm, Nat.add_comm]

end Convolution

/-- The gradient at the rows: gates first, values second. -/
def rowsOut (U W D Wd : ℕ → ℕ → ℝ) (h t l : ℕ) : ℝ :=
  if h = 0 then dconv (fun i => dgate U W D Wd i l) (fun k => W k l) t else dconv (fun i => dval U W D Wd i l) (fun k => W k (2816 + l)) t

/-- Eight sums of `m` rows each, `n` rows apart, are one sum. -/
theorem sum_blocks (f : ℕ → ℝ) (m n : ℕ) : ∑ p ∈ Finset.range m, ∑ k ∈ Finset.range n, f (n * p + k) = ∑ i ∈ Finset.range (n * m), f i := by
  induction m with
  | zero => simp
  | succ m ih => rw [Finset.sum_range_succ, ih, Nat.mul_succ, Finset.sum_range_add]

/-- Rows 512, 64 and 8 apart, the 512 ones last first, and the eight of one block of partial sums, are all the rows. -/
theorem all_rows (f : ℕ → ℝ) :
    ∑ u : Fin 8, ∑ p ∈ Finset.range 8, ∑ b ∈ Finset.range 8, ∑ q ∈ Finset.range 8, f (512 * (7 - p) + (64 * b + (8 * q + u)))
      = ∑ i ∈ Finset.range 4096, f i := by
  rw [Fin.sum_univ_eq_sum_range (fun u => ∑ p ∈ Finset.range 8, ∑ b ∈ Finset.range 8, ∑ q ∈ Finset.range 8, f (512 * (7 - p) + (64 * b + (8 * q + u)))) 8,
    Finset.sum_comm,
    Finset.sum_range_reflect (fun p => ∑ u ∈ Finset.range 8, ∑ b ∈ Finset.range 8, ∑ q ∈ Finset.range 8, f (512 * p + (64 * b + (8 * q + u)))) 8]
  rw [← sum_blocks f 8 512]
  refine Finset.sum_congr rfl fun p _ => ?_
  rw [Finset.sum_comm, ← sum_blocks (fun i => f (512 * p + i)) 8 64]
  refine Finset.sum_congr rfl fun b _ => ?_
  rw [Finset.sum_comm, ← sum_blocks (fun i => f (512 * p + (64 * b + i))) 8 8]

end Cert.Gated

end
-- ==== Proof.FfnPay.lean ====
/-
  One point's arithmetic of the feed-forward gradient call over the real numbers: where the blocks it reads hold real
  numbers, the two windows of gradients, the convolutions and the advanced tap sums are the real formulas of their rows.
-/
module

public import Idealize.ShloMosaic.Lib.Pointwise
public import proofs.«01_k».proof.Proof.FfnBody
public import proofs.«01_k».proof.Proof.FfnMath

@[expose] public section

set_option maxRecDepth 16384

noncomputable section

open Idealize.ShloMosaic Idealize.ShloMosaic.TcCoe Idealize.SL.Sem

namespace Cert.FfnIdeal.Value

open Cert.FfnIdeal Cert.FfnIdeal.Gen Cert.Blocks Cert.RealLaws Cert.Gated

theorem half_bf16 : Ideal.ofBits .bf16 0x3F00#16 = ((1 / 2 : ℝ) : EReal) := by
  simp [Ideal.ofBits, Ideal.ieee]; rw [← EReal.coe_mul]; norm_num

/-- A block that holds the real table `f`. -/
def Is {n d : ℕ} (x : (⟨2, ![n, d]⟩ : Shape).Idx → EReal) (f : ℕ → ℕ → ℝ) : Prop := ∀ (r : Fin n) (l : Fin d), x (ix2 r l) = ((f r l : ℝ) : EReal)

section Gate

theorem pay139_real (g : Vec Ideal S64x1408 .bf16) (r : Fin 64) (l : Fin 1408) (x : ℝ) (h : g (ix2 r l) = (x : EReal)) :
    k0_pay139 (F := Ideal) g (ix2 r l) = ((sg x : ℝ) : EReal) := by
  pointwise [k0_pay139, k0_pay138]
  rw [h, half_bf16, ← EReal.coe_mul, Ideal.tanh_coe, ← EReal.coe_mul, ← EReal.coe_add, sg_tanh]

theorem pay141_real (g : Vec Ideal S64x1408 .bf16) (d : Vec Ideal S64x1408 .f32) (v : Vec Ideal S64x1408 .bf16) (r : Fin 64) (l : Fin 1408)
    (x y z : ℝ) (hg : g (ix2 r l) = (x : EReal)) (hd : d (ix2 r l) = (y : EReal)) (hv : v (ix2 r l) = (z : EReal)) :
    k0_pay141 (F := Ideal) g d v (ix2 r l) = ((gateOf x z y : ℝ) : EReal) := by
  pointwise [k0_pay141, k0_pay140, k0_pay138]
  rw [pay139_real g r l x hg, hg, hd, hv, ← EReal.coe_one]
  simp only [← EReal.coe_mul, ← EReal.coe_add, ← EReal.coe_sub]
  rfl

theorem pay142_real (g : Vec Ideal S64x1408 .bf16) (d : Vec Ideal S64x1408 .f32) (r : Fin 64) (l : Fin 1408)
    (x y : ℝ) (hg : g (ix2 r l) = (x : EReal)) (hd : d (ix2 r l) = (y : EReal)) :
    k0_pay142 (F := Ideal) g d (ix2 r l) = ((valOf x y : ℝ) : EReal) := by
  pointwise [k0_pay142, k0_pay140, k0_pay138]
  rw [pay139_real g r l x hg, hg, hd]
  simp only [← EReal.coe_mul]
  rfl

theorem part_real {X : S512x1408.Idx → EReal} {f : ℕ → ℕ → ℝ} (h : Is X f) (r : ℕ) (hr : r < 512) (l : Fin 1408) (X' : S64x1408.Idx → EReal)
    (e : ∀ z, X' z = X (ix2 (n0 := 512) (n1 := 1408) ⟨64 * (r / 64) + (z 0 : Nat), by have : (z 0 : Nat) < 64 := (z 0).isLt; omega⟩ (z 1))) :
    X' (ix2 (n0 := 64) (n1 := 1408) ⟨r % 64, Nat.mod_lt _ (by decide)⟩ l) = ((f r l : ℝ) : EReal) :=
  ((e _).trans (h _ _)).trans (congrArg (fun k => ((f k l : ℝ) : EReal)) (Nat.div_add_mod r 64))

variable {g v : Vec Ideal S512x1408 .bf16} {d : Vec Ideal S512x1408 .f32} {gr vr dr : ℕ → ℕ → ℝ}

theorem gateGrad_real (hg : Is g gr) (hd : Is d dr) (hv : Is v vr) (r : ℕ) (h : r < 512) (l : Fin 1408) :
    gateGrad (F := Ideal) g d v r h l = ((gateOf (gr r l) (vr r l) (dr r l) : ℝ) : EReal) :=
  pay141_real _ _ _ _ _ _ _ _ (part_real hg r h l _ fun _ => rfl) (part_real hd r h l _ fun _ => rfl) (part_real hv r h l _ fun _ => rfl)

theorem valGrad_real (hg : Is g gr) (hd : Is d dr) (r : ℕ) (h : r < 512) (l : Fin 1408) :
    valGrad (F := Ideal) g d r h l = ((valOf (gr r l) (dr r l) : ℝ) : EReal) :=
  pay142_real _ _ _ _ _ _ (part_real hg r h l _ fun _ => rfl) (part_real hd r h l _ fun _ => rfl)

theorem pay137_real (dx : Vec Ideal S512x1024 .bf16) (wd : Vec Ideal S1408x1024 .bf16) (Dr Wr : ℕ → ℕ → ℝ) (hx : Is dx Dr) (hw : Is wd Wr) :
    Is (k0_pay137 (F := Ideal) dx wd) (dact Dr Wr) := fun r l => by
  pointwise [k0_pay137]
  have e (k : Fin 1024) : dx (ix2 r k) * wd (ix2 l k) = ((Dr r k * Wr l k : ℝ) : EReal) := by rw [hx, hw, ← EReal.coe_mul]
  simp only [e, coe_sum]
  rfl

/-- A window over the real numbers: gradients above, carried rows below. -/
theorem window_real (G : (r : ℕ) → r < 512 → Fin 1408 → EReal) (k : Vec Ideal S8x1408 .f32) (f : ℕ → ℕ → ℝ)
    (hG : ∀ r h l, G r h l = ((f r l : ℝ) : EReal)) (hk : ∀ (z : Fin 8) (l : Fin 1408), k (ix2 z l) = ((f (512 + z) l : ℝ) : EReal)) :
    Is (window (F := Ideal) G k) f := fun r l => by
  by_cases h : (r : Nat) < 512
  · refine .trans ?_ (hG r h l)
    unfold window
    exact dif_pos h
  · have hr : (r : Nat) < 520 := r.isLt
    refine .trans ?_ ((hk ⟨r - 512, by omega⟩ l).trans (congrArg (fun k => ((f k l : ℝ) : EReal)) (show 512 + ((r : Nat) - 512) = r by omega)))
    unfold window
    exact dif_neg h

end Gate

section Taps

variable {win : Vec Ideal S520x1408 .f32} {w : Vec Ideal S3x1408 .f32} {x : Vec Ideal S512x1408 .bf16} {wr tr xr : ℕ → ℕ → ℝ}

theorem rep_real (ht : Is w tr) (y : Fin 24) (l : Fin 1408) : rep (F := Ideal) w (ix2 y l) = ((tr (y / 8) l : ℝ) : EReal) := by
  have hy : (y : Nat) < 24 := y.isLt
  have e : rep (F := Ideal) w (ix2 y l) = w (ix2 (n0 := 3) (n1 := 1408) ⟨y / 8, by omega⟩ l) := by
    show k0_pay130 (tapRow w ⟨(y : Nat) / 8, _⟩) (ix2 (n0 := 8) (n1 := 1408) ⟨(y : Nat) % 8, _⟩ l) = _
    pointwise [k0_pay130]
    rfl
  rw [e, ht]

theorem conv3_real (a2 a1 a0 : Vec Ideal S64x128 .f32) (w0 w1 w2 : Vec Ideal S8x128 .f32) (r : Fin 64) (l : Fin 128) (c0 c1 c2 x0 x1 x2 : ℝ)
    (h0 : ∀ z, w0 (ix2 z l) = (c0 : EReal)) (h1 : ∀ z, w1 (ix2 z l) = (c1 : EReal)) (h2 : ∀ z, w2 (ix2 z l) = (c2 : EReal))
    (k2 : a2 (ix2 r l) = (x2 : EReal)) (k1 : a1 (ix2 r l) = (x1 : EReal)) (k0 : a0 (ix2 r l) = (x0 : EReal)) :
    k0_pay9 (F := Ideal) (k0_pay6 a2 w0 a1 w1) a0 w2 (ix3 (n0 := 1) (n1 := 64) (n2 := 128) 0 r l) = ((c0 * x2 + c1 * x1 + c2 * x0 : ℝ) : EReal) := by
  pointwise [k0_pay9, k0_pay6]
  simp only [h0, h1, h2, dite_eq_ite, ite_self, k0, k1, k2, ← EReal.coe_mul, ← EReal.coe_add]

theorem lane (l : Fin 1408) : 128 * (laneBlk l).val + (laneIn l).val = l.val := Nat.div_add_mod _ _

theorem tap8_real {s : Vec Ideal S24x1408 .f32} {f : ℕ → ℕ → ℝ} (h : Is s f) (j : Fin 3) (z : Fin 8) (l : Fin 1408) :
    tap8 (F := Ideal) s j (laneBlk l) (ix2 z (laneIn l)) = ((f (8 * j + z) l : ℝ) : EReal) :=
  (h _ _).trans (congrArg (fun k => ((f (8 * j + z) k : ℝ) : EReal)) (lane l))

theorem win64_real (h : Is win wr) (s : Fin 3) (b : Fin 8) (z : Fin 64) (l : Fin 1408) :
    win64 (F := Ideal) win s b (laneBlk l) (ix2 z (laneIn l)) = ((wr (64 * b + s + z) l : ℝ) : EReal) :=
  (h _ _).trans (congrArg (fun k => ((wr (64 * b + s + z) k : ℝ) : EReal)) (lane l))

theorem rows64_real (h : Is x xr) (b : Fin 8) (z : Fin 64) (l : Fin 1408) :
    rows64 (F := Ideal) x b (laneBlk l) (ix2 z (laneIn l)) = ((xr (64 * b + z) l : ℝ) : EReal) :=
  (h _ _).trans (congrArg (fun k => ((xr (64 * b + z) k : ℝ) : EReal)) (lane l))

theorem convOut_real (hw : Is win wr) (ht : Is w tr) (r : Fin 512) (l : Fin 1408) :
    convOut (F := Ideal) win (rep w) r l = ((tr 0 l * wr (r + 2) l + tr 1 l * wr (r + 1) l + tr 2 l * wr r l : ℝ) : EReal) := by
  have hr : (r : Nat) < 512 := r.isLt
  have ht' : Is (rep (F := Ideal) w) (fun y l => tr (y / 8) l) := rep_real ht
  have e (j : Fin 3) (z : Fin 8) : tap8 (F := Ideal) (rep w) j (laneBlk l) (ix2 z (laneIn l)) = ((tr j l : ℝ) : EReal) := by
    rw [tap8_real ht', show (8 * (j : Nat) + z) / 8 = j by have := z.isLt; omega]
  have k (s : Fin 3) : win64 (F := Ideal) win s ⟨r.val / 64, by omega⟩ (laneBlk l) (ix2 (n0 := 64) (n1 := 128) ⟨r.val % 64, Nat.mod_lt _ (by decide)⟩ (laneIn l))
      = ((wr (r + s) l : ℝ) : EReal) := by
    rw [win64_real hw]
    exact congrArg (fun k => ((wr k l : ℝ) : EReal)) (by show 64 * (r.val / 64) + s + r.val % 64 = r + s; omega)
  exact conv3_real _ _ _ _ _ _ _ _ _ _ _ _ _ _ (e 0) (e 1) (e 2) (k 2) (k 1) (k 0)

theorem pay5_real (x : Vec Ideal S64x128 .bf16) (a : Vec Ideal S64x128 .f32) (l : Fin 128) (xr ar : ℕ → ℝ)
    (hx : ∀ z : Fin 64, x (ix2 z l) = ((xr z : ℝ) : EReal)) (ha : ∀ z : Fin 64, a (ix2 z l) = ((ar z : ℝ) : EReal)) (u : Fin 8) :
    k0_pay5 (F := Ideal) x a (ix2 u l) = ((∑ q ∈ Finset.range 8, xr (8 * q + u) * ar (8 * q + u) : ℝ) : EReal) := by
  pointwise [k0_pay5, k0_pay4]
  simp only [hx, ha, ← EReal.coe_mul, ← EReal.coe_add]
  simp [Finset.sum_range_succ]

theorem tapBlk_real (hx : Is x xr) (hw : Is win wr) (s : Fin 3) (u : Fin 8) (l : Fin 1408) :
    tapBlk (F := Ideal) x win s (laneBlk l) (ix2 u (laneIn l))
      = ((∑ b ∈ Finset.range 8, ∑ q ∈ Finset.range 8, xr (64 * b + (8 * q + u)) l * wr (64 * b + (8 * q + u) + s) l : ℝ) : EReal) := by
  have e (b : Fin 8) : k0_pay5 (F := Ideal) (rows64 x b (laneBlk l)) (win64 win s b (laneBlk l)) (ix2 u (laneIn l))
      = ((∑ q ∈ Finset.range 8, xr (64 * b + (8 * q + u)) l * wr (64 * b + (8 * q + u) + s) l : ℝ) : EReal) :=
    pay5_real _ _ _ (fun z => xr (64 * b + z) l) (fun z => wr (64 * b + z + s) l) (fun z => rows64_real hx b z l)
      (fun z => (win64_real hw s b z l).trans (congrArg (fun k => ((wr k l : ℝ) : EReal)) (by omega))) u
  unfold tapBlk add8
  pointwise
  simp only [e, ← EReal.coe_add]
  simp [Finset.sum_range_succ]

theorem tapSums_real (hx : Is x xr) (hw : Is win wr) {s : Vec Ideal S24x1408 .f32} {f : ℕ → ℕ → ℝ} (hs : Is s f) :
    Is (tapSums (F := Ideal) x win s) (fun y l => f y l
      + ∑ b ∈ Finset.range 8, ∑ q ∈ Finset.range 8, xr (64 * b + (8 * q + y % 8)) l * wr (64 * b + (8 * q + y % 8) + (2 - y / 8)) l) := fun y l => by
  have hy : (y : Nat) < 24 := y.isLt
  have e (j : Fin 3) (u : Fin 8) : k0_pay144 (F := Ideal) (tapBlk x win (Fin.rev j) (laneBlk l)) (tap8 s j (laneBlk l)) (ix2 u (laneIn l))
      = ((f (8 * j + u) l + ∑ b ∈ Finset.range 8, ∑ q ∈ Finset.range 8, xr (64 * b + (8 * q + u)) l * wr (64 * b + (8 * q + u) + (2 - j)) l : ℝ) : EReal) := by
    pointwise [k0_pay144]
    refine (congrArg₂ (· + ·) (tap8_real hs j u l) (tapBlk_real hx hw (Fin.rev j) u l)).trans ?_
    rw [← EReal.coe_add, show ((Fin.rev j : Fin 3) : Nat) = 2 - j from by rw [Fin.val_rev]; omega]
  refine (e ⟨y / 8, by omega⟩ ⟨y % 8, Nat.mod_lt _ (by decide)⟩).trans ?_
  simp only [show 8 * ((y : Nat) / 8) + (y : Nat) % 8 = y from Nat.div_add_mod _ _]

theorem fold3_real (s : Vec Ideal S24x1408 .f32) (f : ℕ → ℕ → ℝ) (hs : Is s f) (j : Fin 3) (l : Fin 1408) :
    fold3 (F := Ideal) s (ix2 j l) = ((∑ u : Fin 8, f (8 * j + u) l : ℝ) : EReal) := by
  have e (j : Fin 3) (u : Fin 8) : sumRows (F := Ideal) s j (ix2 u l) = ((f (8 * j + u) l : ℝ) : EReal) := hs _ _
  unfold fold3
  match j with
  | ⟨0, _⟩ =>
    pointwise [k0_pay2]
    simp only [e, coe_sum]
    rfl
  | ⟨1, _⟩ =>
    pointwise [k0_pay2]
    simp only [e, coe_sum]
    rfl
  | ⟨2, _⟩ =>
    pointwise [k0_pay2]
    simp only [e, coe_sum]
    rfl

end Taps

end Cert.FfnIdeal.Value

end
-- ==== Proof.FfnFrame.lean ====
/-
  The feed-forward gradient call's run: the windows and the tap sums carried from point to point, what each point leaves
  in the three blocks the call writes, and from there the run of the whole program.
-/
module

public import proofs.«01_k».proof.Proof.FfnBody
public import proofs.«01_k».proof.Proof.Gen.FfnIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.FfnIdeal.Value

open Cert.FfnIdeal Cert.FfnIdeal.Gen Cert.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one point hands to the next: the two windows and the two tap sums. -/
structure Carried (F : FTy → Type) [FloatOps F] where
  wg : Vec F S520x1408 .f32
  wv : Vec F S520x1408 .f32
  sg : Vec F S24x1408 .f32
  sv : Vec F S24x1408 .f32

/-- The windows of gradients of point `t`, and the tap sums after it, from what the point before left. -/
def gateAt (c : Dev nD) (t : Fin cfg0.N) (s : Carried F) : Vec F S520x1408 .f32 :=
  winGate (iblk m c 0 t) (iblk m c 3 t) (iblk m c 4 t) (iblk m c 7 t) (startRows (grid0.coords t) s.wg)
def valAt (c : Dev nD) (t : Fin cfg0.N) (s : Carried F) : Vec F S520x1408 .f32 :=
  winVal (iblk m c 0 t) (iblk m c 3 t) (iblk m c 7 t) (startRows (grid0.coords t) s.wv)
def sumGateAt (c : Dev nD) (t : Fin cfg0.N) (s : Carried F) : Vec F S24x1408 .f32 :=
  tapSums (iblk m c 1 t) (gateAt m c t s) (startSums (grid0.coords t) s.sg)
def sumValAt (c : Dev nD) (t : Fin cfg0.N) (s : Carried F) : Vec F S24x1408 .f32 :=
  tapSums (iblk m c 2 t) (valAt m c t s) (startSums (grid0.coords t) s.sv)

/-- What point `t` leaves, from what the point before left. -/
def next (c : Dev nD) (t : Fin cfg0.N) (s : Carried F) : Carried F where
  wg := nextGate (iblk m c 0 t) (iblk m c 3 t) (iblk m c 4 t) (iblk m c 7 t) (startRows (grid0.coords t) s.wg)
  wv := nextVal (iblk m c 0 t) (iblk m c 3 t) (iblk m c 7 t) (startRows (grid0.coords t) s.wv)
  sg := sumGateAt m c t s
  sv := sumValAt m c t s

/-- What point `n` finds. Nothing reads what the first one finds. -/
def found (c : Dev nD) : ℕ → Carried F
  | 0 => ⟨fun _ => k0_pay126 (ix2 (n0 := 8) (n1 := 1408) 0 0), fun _ => k0_pay126 (ix2 (n0 := 8) (n1 := 1408) 0 0), k0_pay128, k0_pay128⟩
  | n + 1 => if h : n < cfg0.N then next m c ⟨n, h⟩ (found c n) else found c n

theorem coord_row : ∀ t : Fin cfg0.N, ((grid0.coords t 1).val : ℕ) = t.val % 8 :=
  (by decide +kernel : ∀ t : Fin grid0.N, ((grid0.coords t 1).val : ℕ) = t.val % 8)

theorem first_at (t : Fin cfg0.N) : isFirst (grid0.coords t) ↔ t.val % 8 = 0 := by rw [first_iff, coord_row]
theorem last_at (t : Fin cfg0.N) : isLast (grid0.coords t) ↔ t.val % 8 = 7 := by rw [last_iff, coord_row]

/-- At the first point what was found does not matter. -/
theorem start_rows (t : Fin cfg0.N) (d d' : Vec F S520x1408 .f32) (h : t.val ≠ 0 → d = d') :
    startRows (grid0.coords t) d = startRows (grid0.coords t) d' := by
  by_cases h0 : t.val = 0
  · have hf : isFirst (grid0.coords t) := (first_at t).mpr (by rw [h0])
    unfold startRows; rw [if_pos hf, if_pos hf]
  · rw [h h0]
theorem start_sums (t : Fin cfg0.N) (d d' : Vec F S24x1408 .f32) (h : t.val ≠ 0 → d = d') :
    startSums (grid0.coords t) d = startSums (grid0.coords t) d' := by
  by_cases h0 : t.val = 0
  · have hf : isFirst (grid0.coords t) := (first_at t).mpr (by rw [h0])
    unfold startSums; rw [if_pos hf, if_pos hf]
  · rw [h h0]

/-- Between two points: the carried buffers at what the point before left, the others at anything. -/
def Between (c : Dev nD) (n : ℕ) : sProp 𝕄 :=
  iprop(∃ s : Carried F, ⌜n ≠ 0 → s = found m c n⌝
    ∗ (∃ d, owns (c : Thread nD τ) (Memref.whole cc0_scratch0) fullShare d)
    ∗ owns (c : Thread nD τ) (Memref.whole cc0_scratch1) fullShare s.wg ∗ owns (c : Thread nD τ) (Memref.whole cc0_scratch2) fullShare s.wv
    ∗ owns (c : Thread nD τ) (Memref.whole cc0_scratch3) fullShare s.sg ∗ owns (c : Thread nD τ) (Memref.whole cc0_scratch4) fullShare s.sv
    ∗ (∃ d, owns (c : Thread nD τ) (Memref.whole cc0_scratch5) fullShare d) ∗ (∃ d, owns (c : Thread nD τ) (Memref.whole cc0_scratch6) fullShare d)
    ∗ ∃ r, prngReg c r)

/-- What the region finds in its arrays and what each point leaves in each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => convBoth (gateAt m c t (found m c t.val)) (rep (iblk m c 5 t)) (valAt m c t (found m c t.val)) (rep (iblk m c 6 t))
    | ⟨9, _⟩ => fold3 (sumGateAt m c t (found m c t.val))
    | ⟨10, _⟩ => fold3 (sumValAt m c t (found m c t.val))
  Φ t := Between m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = convBoth (gateAt m c t (found m c t.val)) (rep (iblk m c 5 t)) (valAt m c t (found m c t.val)) (rep (iblk m c 6 t)) := by dsimp only [dats]
theorem after0_9 (c : Dev nD) (t : Fin cfg0.N) : (dats m 0 c).after 9 t = fold3 (sumGateAt m c t (found m c t.val)) := by dsimp only [dats]
theorem after0_10 (c : Dev nD) (t : Fin cfg0.N) : (dats m 0 c).after 10 t = fold3 (sumValAt m c t (found m c t.val)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the taps' gradients only at the last point of a sweep. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t ∗ (dats m 0 c).leavesExact 10 t)

/-- A block of the taps' gradient after a point: kept as found before the last point of a sweep, the folded sums there. -/
theorem leaves_taps (c : Dev nD) (t : Fin cfg0.N) (d) :
    owns (c : Thread nD τ) (st0_9 t) fullShare (endTaps (grid0.coords t) (sumGateAt m c t (found m c t.val)) ((dats m 0 c).before 9 t d))
      ⊢ ((dats m 0 c).leavesExact 9 t : sProp 𝕄) := by
  unfold endTaps
  by_cases h : isLast (grid0.coords t)
  · have hi : cfg0.idle 9 (cfg0.grid.coords t) = false := by show (!(k0_cond2 (grid0.coords t) == 1#1)) = false; rw [show k0_cond2 (grid0.coords t) = 1#1 from h]; rfl
    rw [if_pos h]; unfold Dat.leavesExact; rw [hi]
    show _ ⊢ owns (c : Thread nD τ) (st0_9 t) fullShare ((dats m 0 c).after 9 t)
    rw [after0_9]
  · have hi : cfg0.idle 9 (cfg0.grid.coords t) = true := by
      show (!(k0_cond2 (grid0.coords t) == 1#1)) = true
      rw [Bool.not_eq_true', beq_eq_false_iff_ne]; exact h
    have hf : (cfg0.win 9).flush t = false := Bool.eq_false_iff.mpr fun hh => h ((last_at t).mpr ((flush0_9 t).mp hh))
    rw [if_neg h, Dat.leavesExact_idle _ 9 t hi hf]
    iintro H; iexists d; iexact H

theorem leaves_taps' (c : Dev nD) (t : Fin cfg0.N) (d) :
    owns (c : Thread nD τ) (st0_10 t) fullShare (endTaps (grid0.coords t) (sumValAt m c t (found m c t.val)) ((dats m 0 c).before 10 t d))
      ⊢ ((dats m 0 c).leavesExact 10 t : sProp 𝕄) := by
  unfold endTaps
  by_cases h : isLast (grid0.coords t)
  · have hi : cfg0.idle 10 (cfg0.grid.coords t) = false := by show (!(k0_cond2 (grid0.coords t) == 1#1)) = false; rw [show k0_cond2 (grid0.coords t) = 1#1 from h]; rfl
    rw [if_pos h]; unfold Dat.leavesExact; rw [hi]
    show _ ⊢ owns (c : Thread nD τ) (st0_10 t) fullShare ((dats m 0 c).after 10 t)
    rw [after0_10]
  · have hi : cfg0.idle 10 (cfg0.grid.coords t) = true := by
      show (!(k0_cond2 (grid0.coords t) == 1#1)) = true
      rw [Bool.not_eq_true', beq_eq_false_iff_ne]; exact h
    have hf : (cfg0.win 10).flush t = false := Bool.eq_false_iff.mpr fun hh => h ((last_at t).mpr ((flush0_10 t).mp hh))
    rw [if_neg h, Dat.leavesExact_idle _ 10 t hi hf]
    iintro H; iexists d; iexact H

theorem found_succ (c : Dev nD) (t : Fin cfg0.N) : found m c (t.val + 1) = next m c t (found m c t.val) := by
  show (if h : t.val < cfg0.N then next m c ⟨t.val, h⟩ (found m c t.val) else found m c t.val) = _
  rw [dif_pos t.isLt]

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Between m c (t.val + 1) from rfl, show (dats m 0 c).Φ t.castSucc = Between m c t.val from rfl,
    show (dats m 0 c).owesAt () t.succ = (dats m 0 c).owesAt () t.castSucc from rfl,
    after0_0, after0_1, after0_2, after0_3, after0_4, after0_5, after0_6, after0_7, after0_8]
  unfold Between
  iintro ⟨⟨%s, %hs, X0, X1, X2, X3, X4, X5, X6, Xr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) Set.univ _
    ((dats m 0 c).before 9 t d9) ((dats m 0 c).before 10 t d10) s.wg s.wv s.sg s.sv
    (startRows (grid0.coords t) (found m c t.val).wg) (startRows (grid0.coords t) (found m c t.val).wv)
    (startSums (grid0.coords t) (found m c t.val).sg) (startSums (grid0.coords t) (found m c t.val).sv)
    (endTaps (grid0.coords t) (sumGateAt m c t (found m c t.val)) ((dats m 0 c).before 9 t d9))
    (endTaps (grid0.coords t) (sumValAt m c t (found m c t.val)) ((dats m 0 c).before 10 t d10))
    (start_rows t _ _ fun h => (congrArg Carried.wg (hs h)).symm) (start_rows t _ _ fun h => (congrArg Carried.wv (hs h)).symm)
    (start_sums t _ _ fun h => (congrArg Carried.sg (hs h)).symm) (start_sums t _ _ fun h => (congrArg Carried.sv (hs h)).symm) rfl rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [X0]; · iexact X0
  isplitl [X1]; · iexact X1
  isplitl [X2]; · iexact X2
  isplitl [X3]; · iexact X3
  isplitl [X4]; · iexact X4
  isplitl [X5]; · iexact X5
  isplitl [X6]; · iexact X6
  iintro ⟨H0, H1, H2, H3, H4, H5, H6, H7, H8, H9, H10, X0, X1, X2, X3, X4, X5, X6⟩
  isplitl [X0 X1 X2 X3 X4 X5 X6 Xr]
  · iexists (next m c t (found m c t.val))
    isplitr; · ipureintro; exact fun _ => (found_succ m c t).symm
    isplitl [X0]; · iexact X0
    isplitl [X1]; · iexact X1
    isplitl [X2]; · iexact X2
    isplitl [X3]; · iexact X3
    isplitl [X4]; · iexact X4
    isplitl [X5]; · iexact X5
    isplitl [X6]; · iexact X6
    iexact Xr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves_taps m c t d9); iexact H9
  · iapply (leaves_taps' m c t d10); iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region starts with the carried buffers at anything, -/
theorem enter (c : Dev nD) : Pipeline.ΦA spec0 c ⊢ ((dats m 0 c).Φ 0 : sProp 𝕄) := by
  show _ ⊢ Between m c 0
  unfold Pipeline.ΦA Between
  rw [scopedRest0_eq]
  iintro ⟨⟨⟨%f0, H0⟩, ⟨%f1, H1⟩, ⟨%f2, H2⟩, ⟨%f3, H3⟩, ⟨%f4, H4⟩, ⟨%f5, H5⟩, ⟨%f6, H6⟩⟩, Hr⟩
  iexists (⟨f1, f2, f3, f4⟩ : Carried F)
  isplitr; · ipureintro; exact fun h => absurd rfl h
  simp only [owns_whole]
  isplitl [H0]; · iexists f0; iexact H0
  isplitl [H1]; · iexact H1
  isplitl [H2]; · iexact H2
  isplitl [H3]; · iexact H3
  isplitl [H4]; · iexact H4
  isplitl [H5]; · iexists f5; iexact H5
  isplitl [H6]; · iexists f6; iexact H6
  iexact Hr

/-- and ends so. -/
theorem leave (c : Dev nD) : ((dats m 0 c).Φ (Fin.last cfg0.N) : sProp 𝕄) ⊢ Pipeline.ΦA spec0 c := by
  show Between m c cfg0.N ⊢ _
  unfold Pipeline.ΦA Between
  rw [scopedRest0_eq]
  simp only [owns_whole]
  iintro ⟨%s, -, ⟨%f0, H0⟩, H1, H2, H3, H4, ⟨%f5, H5⟩, ⟨%f6, H6⟩, Hr⟩
  isplitr [Hr]; swap; · iexact Hr
  isplitl [H0]; · iexists f0; iexact H0
  isplitl [H1]; · iexists s.wg; iexact H1
  isplitl [H2]; · iexists s.wv; iexact H2
  isplitl [H3]; · iexists s.sg; iexact H3
  isplitl [H4]; · iexists s.sv; iexact H4
  isplitl [H5]; · iexists f5; iexact H5
  iexists f6; iexact H6

set_option backward.isDefEq.respectTransparency.types false in
set_option maxHeartbeats 800000 in
/-- The program's run: the host lines, then the region's arrays at what the points left; no signal left over. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := enter m) (hout := leave m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument as it was and no signal left over. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
  ((θ_run defs _ _).mono (fun _ h => h.2) (run_main_quiescent m ρ))

end Cert.FfnIdeal.Value

end
-- ==== Proof.FfnValue.lean ====
/-
  The feed-forward gradient call's three results over the real numbers: the gradient at the rows, one half for the gates
  and one for the values, and the gradients at the taps of either half.
-/
module

public import proofs.«01_k».proof.Proof.FfnPay
public import proofs.«01_k».proof.Proof.FfnFrame

@[expose] public section

set_option maxRecDepth 16384

noncomputable section

open Idealize.ShloMosaic Idealize.ShloMosaic.TcCoe Idealize.SL.Sem
open Idealize.ShloMosaic.Pipeline (Dat Cfg Window)

namespace Cert.FfnIdeal.Value

open Cert.FfnIdeal Cert.FfnIdeal.Gen Cert.Blocks Cert.RealLaws Cert.Gated

variable (m : (ℓ : Loc nD τ sig) → Buf (Elt Ideal) ℓ) (ρ : Dev nD → PrngReg) (c : Dev nD) (U W D Wd : ℕ → ℕ → ℝ)

/-- The arguments hold the real rows `U`, the taps `W`, the weights `Wd` and the incoming gradient `D`. -/
structure Holds : Prop where
  u : Is (m ((c : Thread nD τ).loc main_arg0) : Vec Ideal S4096x5632 .bf16) U
  w : Is (m ((c : Thread nD τ).loc main_arg1) : Vec Ideal S3x5632 .f32) W
  wd : Is (m ((c : Thread nD τ).loc main_arg2) : Vec Ideal S2816x1024 .bf16) Wd
  d : Is (m ((c : Thread nD τ).loc main_arg3) : Vec Ideal S4096x1024 .bf16) D

theorem idx_0 : ∀ t : Fin cfg0.N, win0_0.index t = ![7 - t.val % 8, 0] := (by decide +kernel : ∀ t : Fin grid0.N, _)
theorem idx_1 : ∀ t : Fin cfg0.N, win0_1.index t = ![7 - t.val % 8, t.val / 8] := (by decide +kernel : ∀ t : Fin grid0.N, _)
theorem idx_2 : ∀ t : Fin cfg0.N, win0_2.index t = ![7 - t.val % 8, 2 + t.val / 8] := (by decide +kernel : ∀ t : Fin grid0.N, _)
theorem idx_3 : ∀ t : Fin cfg0.N, win0_3.index t = ![7 - t.val % 8, t.val / 8] := (by decide +kernel : ∀ t : Fin grid0.N, _)
theorem idx_4 : ∀ t : Fin cfg0.N, win0_4.index t = ![7 - t.val % 8, t.val / 8] := (by decide +kernel : ∀ t : Fin grid0.N, _)
theorem idx_5 : ∀ t : Fin cfg0.N, win0_5.index t = ![0, t.val / 8] := (by decide +kernel : ∀ t : Fin grid0.N, _)
theorem idx_6 : ∀ t : Fin cfg0.N, win0_6.index t = ![0, 2 + t.val / 8] := (by decide +kernel : ∀ t : Fin grid0.N, _)
theorem idx_7 : ∀ t : Fin cfg0.N, win0_7.index t = ![t.val / 8, 0] := (by decide +kernel : ∀ t : Fin grid0.N, _)
theorem idx_8 : ∀ t : Fin cfg0.N, win0_8.index t = ![0, 7 - t.val % 8, t.val / 8] := (by decide +kernel : ∀ t : Fin grid0.N, _)
theorem idx_9 : ∀ t : Fin cfg0.N, win0_9.index t = ![0, t.val / 8] := (by decide +kernel : ∀ t : Fin grid0.N, _)
theorem idx_10 : ∀ t : Fin cfg0.N, win0_10.index t = ![0, t.val / 8] := (by decide +kernel : ∀ t : Fin grid0.N, _)

section Host

variable (x : Vec Ideal S4096x5632 .bf16) (w : Vec Ideal S3x5632 .f32)

/-- The rows below two rows of zeros. -/
def below : Vec Ideal S4098x5632 .f32 :=
  concatenate S4098x5632 0 [⟨S2x5632, broadcastInDim S2x5632 ![] bcast_S_S2x5632 (constant (F := Ideal) S_ .f32 0x00000000#32)⟩, ⟨S4096x5632, extf (F := Ideal) .f32 x bitsLt_bf16_f32⟩]
    concatenates_S2x5632_S4096x5632_S4098x5632_d0

/-- The host's convolution of the rows. -/
def hostConv : Vec Ideal S4096x5632 .bf16 :=
  truncf (F := Ideal) .bf16 (addf (addf (addf (broadcastInDim S4096x5632 ![] bcast_S_S4096x5632 (constant (F := Ideal) S_ .f32 0x00000000#32))
    (mulf (broadcastInDim S4096x5632 ![0, 1] bcast_S1x5632_S4096x5632_0_1 (broadcastInDim S1x5632 ![1] bcast_S5632_S1x5632_1
        (shapeCast S5632 (extractStridedSlice S1x5632 ![0, 0] w slices_S3x5632_S1x5632_0_0) shapeCasts_S1x5632_S5632)))
      (extractStridedSlice S4096x5632 ![0, 0] (below x) slices_S4098x5632_S4096x5632_0_0)))
    (mulf (broadcastInDim S4096x5632 ![0, 1] bcast_S1x5632_S4096x5632_0_1 (broadcastInDim S1x5632 ![1] bcast_S5632_S1x5632_1
        (shapeCast S5632 (extractStridedSlice S1x5632 ![1, 0] w slices_S3x5632_S1x5632_1_0) shapeCasts_S1x5632_S5632)))
      (extractStridedSlice S4096x5632 ![1, 0] (below x) slices_S4098x5632_S4096x5632_1_0)))
    (mulf (broadcastInDim S4096x5632 ![0, 1] bcast_S1x5632_S4096x5632_0_1 (broadcastInDim S1x5632 ![1] bcast_S5632_S1x5632_1
        (shapeCast S5632 (extractStridedSlice S1x5632 ![2, 0] w slices_S3x5632_S1x5632_2_0) shapeCasts_S1x5632_S5632)))
      (extractStridedSlice S4096x5632 ![2, 0] (below x) slices_S4098x5632_S4096x5632_2_0))) bitsLt_bf16_f32

variable {x w U W}

theorem below_real (hx : Is x U) : Is (below x) (fun r l => if 2 ≤ r then U (r - 2) l else 0) := fun r l => by
  unfold below
  pointwise
  by_cases h : (r : Nat) < 2
  · rw [dif_pos h, if_neg (by omega)]
    simp
  · rw [dif_neg h]
    exact (hx _ _).trans (congrArg (fun a : ℝ => (a : EReal)) (if_pos (show 2 ≤ (r : Nat) by omega)).symm)

theorem earlier (s t l : ℕ) (hs : s ≤ 2) : (if 2 ≤ s + t then U (s + t - 2) l else 0) = prev U (2 - s) t l := by
  unfold prev
  by_cases h : 2 ≤ s + t
  · rw [if_pos h, if_pos (by omega), show s + t - 2 = t - (2 - s) by omega]
  · rw [if_neg h, if_neg (by omega)]

theorem hostConv_real (hx : Is x U) (hw : Is w W) : Is (hostConv x w) (conv U W) := fun r l => by
  unfold hostConv
  pointwise
  simp only [below_real hx _ _, hw _ _, ← EReal.coe_mul, ← EReal.coe_add]
  refine congrArg (fun a : ℝ => (a : EReal)) ?_
  have e0 := earlier (U := U) 0 r l (by omega)
  rw [Nat.zero_add] at e0
  rw [e0, earlier 1 _ _ (by omega), earlier 2 _ _ le_rfl]
  rfl

end Host

theorem V_v26 : (V m c main_v26 : Vec Ideal S4096x2816 .bf16) = extractStridedSlice S4096x2816 ![0, 0]
    (hostConv (m ((c : Thread nD τ).loc main_arg0)) (m ((c : Thread nD τ).loc main_arg1))) slices_S4096x5632_S4096x2816_0_0 := by
  unfold V
  simp only [hostOps0, List.flatten_cons, List.flatten_nil, List.append_nil]
  after_results
  rfl

theorem V_v27 : (V m c main_v27 : Vec Ideal S4096x2816 .bf16) = extractStridedSlice S4096x2816 ![0, 2816]
    (hostConv (m ((c : Thread nD τ).loc main_arg0)) (m ((c : Thread nD τ).loc main_arg1))) slices_S4096x5632_S4096x2816_0_2816 := by
  unfold V
  simp only [hostOps0, List.flatten_cons, List.flatten_nil, List.append_nil]
  after_results
  rfl

variable {m c U W D Wd} (h : Holds m c U W D Wd)
include h

theorem blk_d (t : Fin cfg0.N) : Is (iblk m c 0 t) (fun r l => D (512 * (7 - t.val % 8) + r) l) := fun r l => by
  have hN : t.val < 16 := lt_of_lt_of_eq t.isLt (show cfg0.N = 16 from N_0)
  have hr := r.isLt
  have hl := l.isLt
  have e : iblk m c 0 t (ix2 r l) = (m ((c : Thread nD τ).loc main_arg3) : Vec Ideal S4096x1024 .bf16)
      (ix2 ⟨512 * (7 - t.val % 8) + r, by omega⟩ l) := by
    blk_simp [iblk]
    rw [show V m c main_arg3 = _ from V_main_arg3 m c]
    congr 1
    blk_ext [idx_0]
  rw [e, h.d]

theorem blk_ug (t : Fin cfg0.N) : Is (iblk m c 1 t) (fun r l => U (512 * (7 - t.val % 8) + r) (1408 * (t.val / 8) + l)) := fun r l => by
  have hN : t.val < 16 := lt_of_lt_of_eq t.isLt (show cfg0.N = 16 from N_0)
  have hr := r.isLt
  have hl := l.isLt
  have e : iblk m c 1 t (ix2 r l) = (m ((c : Thread nD τ).loc main_arg0) : Vec Ideal S4096x5632 .bf16)
      (ix2 ⟨512 * (7 - t.val % 8) + r, by omega⟩ ⟨1408 * (t.val / 8) + l, by omega⟩) := by
    blk_simp [iblk]
    rw [show V m c main_arg0 = _ from V_main_arg0 m c]
    congr 1
    blk_ext [idx_1]
  rw [e, h.u]

theorem blk_uv (t : Fin cfg0.N) : Is (iblk m c 2 t) (fun r l => U (512 * (7 - t.val % 8) + r) (2816 + (1408 * (t.val / 8) + l))) := fun r l => by
  have hN : t.val < 16 := lt_of_lt_of_eq t.isLt (show cfg0.N = 16 from N_0)
  have hr := r.isLt
  have hl := l.isLt
  have e : iblk m c 2 t (ix2 r l) = (m ((c : Thread nD τ).loc main_arg0) : Vec Ideal S4096x5632 .bf16)
      (ix2 ⟨512 * (7 - t.val % 8) + r, by omega⟩ ⟨2816 + (1408 * (t.val / 8) + l), by omega⟩) := by
    blk_simp [iblk]
    rw [show V m c main_arg0 = _ from V_main_arg0 m c]
    congr 1
    blk_ext [idx_2]
  rw [e, h.u]

theorem blk_wg (t : Fin cfg0.N) : Is (iblk m c 5 t) (fun r l => W r (1408 * (t.val / 8) + l)) := fun r l => by
  have hN : t.val < 16 := lt_of_lt_of_eq t.isLt (show cfg0.N = 16 from N_0)
  have hr := r.isLt
  have hl := l.isLt
  have e : iblk m c 5 t (ix2 r l) = (m ((c : Thread nD τ).loc main_arg1) : Vec Ideal S3x5632 .f32)
      (ix2 r ⟨1408 * (t.val / 8) + l, by omega⟩) := by
    blk_simp [iblk]
    rw [show V m c main_arg1 = _ from V_main_arg1 m c]
    congr 1
    blk_ext [idx_5]
  rw [e, h.w]

theorem blk_wv (t : Fin cfg0.N) : Is (iblk m c 6 t) (fun r l => W r (2816 + (1408 * (t.val / 8) + l))) := fun r l => by
  have hN : t.val < 16 := lt_of_lt_of_eq t.isLt (show cfg0.N = 16 from N_0)
  have hr := r.isLt
  have hl := l.isLt
  have e : iblk m c 6 t (ix2 r l) = (m ((c : Thread nD τ).loc main_arg1) : Vec Ideal S3x5632 .f32)
      (ix2 r ⟨2816 + (1408 * (t.val / 8) + l), by omega⟩) := by
    blk_simp [iblk]
    rw [show V m c main_arg1 = _ from V_main_arg1 m c]
    congr 1
    blk_ext [idx_6]
  rw [e, h.w]

theorem blk_wd (t : Fin cfg0.N) : Is (iblk m c 7 t) (fun r l => Wd (1408 * (t.val / 8) + r) l) := fun r l => by
  have hN : t.val < 16 := lt_of_lt_of_eq t.isLt (show cfg0.N = 16 from N_0)
  have hr := r.isLt
  have hl := l.isLt
  have e : iblk m c 7 t (ix2 r l) = (m ((c : Thread nD τ).loc main_arg2) : Vec Ideal S2816x1024 .bf16)
      (ix2 ⟨1408 * (t.val / 8) + r, by omega⟩ l) := by
    blk_simp [iblk]
    rw [show V m c main_arg2 = _ from V_main_arg2 m c]
    congr 1
    blk_ext [idx_7]
  rw [e, h.wd]

theorem blk_cg (t : Fin cfg0.N) : Is (iblk m c 3 t) (fun r l => conv U W (512 * (7 - t.val % 8) + r) ((1408 * (t.val / 8) + l))) := fun r l => by
  have hN : t.val < 16 := lt_of_lt_of_eq t.isLt (show cfg0.N = 16 from N_0)
  have hr := r.isLt
  have hl := l.isLt
  have e : iblk m c 3 t (ix2 r l) = hostConv (m ((c : Thread nD τ).loc main_arg0)) (m ((c : Thread nD τ).loc main_arg1))
      (ix2 ⟨512 * (7 - t.val % 8) + r, by omega⟩ ⟨(1408 * (t.val / 8) + l), by omega⟩) := by
    blk_simp [iblk]
    rw [show V m c main_v26 = _ from V_v26 m c]
    pointwise
    congr 1
    blk_ext [idx_3]
  rw [e, hostConv_real h.u h.w]

theorem blk_cv (t : Fin cfg0.N) : Is (iblk m c 4 t) (fun r l => conv U W (512 * (7 - t.val % 8) + r) (2816 + (1408 * (t.val / 8) + l))) := fun r l => by
  have hN : t.val < 16 := lt_of_lt_of_eq t.isLt (show cfg0.N = 16 from N_0)
  have hr := r.isLt
  have hl := l.isLt
  have e : iblk m c 4 t (ix2 r l) = hostConv (m ((c : Thread nD τ).loc main_arg0)) (m ((c : Thread nD τ).loc main_arg1))
      (ix2 ⟨512 * (7 - t.val % 8) + r, by omega⟩ ⟨2816 + (1408 * (t.val / 8) + l), by omega⟩) := by
    blk_simp [iblk]
    rw [show V m c main_v27 = _ from V_v27 m c]
    pointwise
    congr 1
    blk_ext [idx_4]
  rw [e, hostConv_real h.u h.w]

/-- The gradients of a point's 512 rows, at its gates and at its values, whatever it carries. -/
theorem gate_rows (t : Fin cfg0.N) (s : Carried Ideal) (r : ℕ) (hr : r < 512) (l : Fin 1408) :
    gateGrad (F := Ideal) (iblk m c 3 t) (k0_pay137 (iblk m c 0 t) (iblk m c 7 t)) (iblk m c 4 t) r hr l
      = ((upTo (fun i => dgate U W D Wd i (1408 * (t.val / 8) + l)) (512 * (7 - t.val % 8) + r) : ℝ) : EReal) := by
  rw [gateGrad_real (blk_cg h t) (pay137_real _ _ _ _ (blk_d h t) (blk_wd h t)) (blk_cv h t)]
  unfold upTo
  rw [if_pos (by omega)]
  rfl

theorem val_rows (t : Fin cfg0.N) (s : Carried Ideal) (r : ℕ) (hr : r < 512) (l : Fin 1408) :
    valGrad (F := Ideal) (iblk m c 3 t) (k0_pay137 (iblk m c 0 t) (iblk m c 7 t)) r hr l
      = ((upTo (fun i => dval U W D Wd i (1408 * (t.val / 8) + l)) (512 * (7 - t.val % 8) + r) : ℝ) : EReal) := by
  rw [valGrad_real (blk_cg h t) (pay137_real _ _ _ _ (blk_d h t) (blk_wd h t))]
  unfold upTo
  rw [if_pos (by omega)]
  rfl

omit h in
/-- The rows a point finds carried: none at the first row block, else the ones its predecessor left. -/
theorem startRows_real (f : ℕ → ℝ) (t : Fin cfg0.N) (d : Vec Ideal S520x1408 .f32) (z : Fin 8) (l : Fin 1408)
    (hd : t.val % 8 ≠ 0 → tailRows d (ix2 z l) = ((upTo f (512 * (8 - t.val % 8) + z) : ℝ) : EReal)) :
    startRows (F := Ideal) (grid0.coords t) d (ix2 z l) = ((upTo f (512 * (7 - t.val % 8) + (512 + z)) : ℝ) : EReal) := by
  unfold startRows
  by_cases h0 : t.val % 8 = 0
  · rw [if_pos ((first_at t).2 h0)]
    have e : upTo f (512 * (7 - t.val % 8) + (512 + z)) = 0 := by unfold upTo; rw [if_neg (by omega)]
    rw [e]
    pointwise [k0_pay126]
    exact EReal.coe_zero.symm
  · rw [if_neg (fun k => h0 ((first_at t).1 k)), hd h0]
    exact congrArg (fun k => ((upTo f k : ℝ) : EReal)) (by omega)

theorem gate_real (t : Fin cfg0.N) :
    Is (gateAt m c t (found m c t.val)) (fun r l => upTo (fun i => dgate U W D Wd i (1408 * (t.val / 8) + l)) (512 * (7 - t.val % 8) + r)) := by
  refine window_real _ _ _ (fun r hr l => gate_rows h t (found m c t.val) r hr l) fun z l => ?_
  refine startRows_real _ t _ z l fun h0 => ?_
  have hz : (z : Nat) < 8 := z.isLt
  obtain ⟨n, hn⟩ : ∃ n, t.val = n + 1 := ⟨t.val - 1, by omega⟩
  have hN : n < cfg0.N := lt_trans (by omega) t.isLt
  rw [hn, found_succ m c ⟨n, hN⟩]
  have e : tailRows (next m c ⟨n, hN⟩ (found m c n)).wg = k0_pay151 (headRows (gateAt m c ⟨n, hN⟩ (found m c n))) := tailRows_window _ _
  rw [e]
  pointwise [k0_pay151]
  refine .trans ?_ ((gate_rows h ⟨n, hN⟩ (found m c n) z (by omega) l).trans ?_)
  · show window _ _ _ = _
    unfold window
    exact dif_pos (show (z : Nat) < 512 by omega)
  · show ((upTo (fun i => dgate U W D Wd i (1408 * (n / 8) + l)) (512 * (7 - n % 8) + z) : ℝ) : EReal) = _
    rw [show n / 8 = t.val / 8 by omega, show 7 - n % 8 = 8 - t.val % 8 by omega, hn]

theorem val_real (t : Fin cfg0.N) :
    Is (valAt m c t (found m c t.val)) (fun r l => upTo (fun i => dval U W D Wd i (1408 * (t.val / 8) + l)) (512 * (7 - t.val % 8) + r)) := by
  refine window_real _ _ _ (fun r hr l => val_rows h t (found m c t.val) r hr l) fun z l => ?_
  refine startRows_real _ t _ z l fun h0 => ?_
  have hz : (z : Nat) < 8 := z.isLt
  obtain ⟨n, hn⟩ : ∃ n, t.val = n + 1 := ⟨t.val - 1, by omega⟩
  have hN : n < cfg0.N := lt_trans (by omega) t.isLt
  rw [hn, found_succ m c ⟨n, hN⟩]
  have e : tailRows (next m c ⟨n, hN⟩ (found m c n)).wv = k0_pay151 (headRows (valAt m c ⟨n, hN⟩ (found m c n))) := tailRows_window _ _
  rw [e]
  pointwise [k0_pay151]
  refine .trans ?_ ((val_rows h ⟨n, hN⟩ (found m c n) z (by omega) l).trans ?_)
  · show window _ _ _ = _
    unfold window
    exact dif_pos (show (z : Nat) < 512 by omega)
  · show ((upTo (fun i => dval U W D Wd i (1408 * (n / 8) + l)) (512 * (7 - n % 8) + z) : ℝ) : EReal) = _
    rw [show n / 8 = t.val / 8 by omega, show 7 - n % 8 = 8 - t.val % 8 by omega, hn]

/-- The tap sums after row block `7 - t % 8`: over the row blocks from the last one down to it, 64 rows and 8 rows at a time. -/
def partialSums (u G : ℕ → ℝ) (n y : ℕ) : ℝ := ∑ p ∈ Finset.range n, ∑ b ∈ Finset.range 8, ∑ q ∈ Finset.range 8,
  u (512 * (7 - p) + (64 * b + (8 * q + y % 8))) * upTo G (512 * (7 - p) + (64 * b + (8 * q + y % 8)) + (2 - y / 8))

omit h in
/-- What a point makes of the sums its predecessor left. -/
theorem sums_point (u G : ℕ → ℕ → ℝ) (t : Fin cfg0.N) (x : Vec Ideal S512x1408 .bf16) (win : Vec Ideal S520x1408 .f32) (d : Vec Ideal S24x1408 .f32)
    (hx : Is x (fun r l => u l (512 * (7 - t.val % 8) + r))) (hw : Is win (fun r l => upTo (G l) (512 * (7 - t.val % 8) + r)))
    (hd : t.val % 8 ≠ 0 → Is d (fun y l => partialSums (u l) (G l) (t.val % 8) y)) :
    Is (tapSums (F := Ideal) x win (startSums (grid0.coords t) d)) (fun y l => partialSums (u l) (G l) (t.val % 8 + 1) y) := by
  have hs : Is (startSums (F := Ideal) (grid0.coords t) d) (fun y l => partialSums (u l) (G l) (t.val % 8) y) := fun y l => by
    unfold startSums
    by_cases h0 : t.val % 8 = 0
    · rw [if_pos ((first_at t).2 h0)]
      have e : partialSums (u l) (G l) (t.val % 8) y = 0 := by unfold partialSums; rw [h0, Finset.sum_range_zero]
      refine .trans ?_ (congrArg (fun a : ℝ => (a : EReal)) e).symm
      pointwise [k0_pay128]
      exact EReal.coe_zero.symm
    · rw [if_neg (fun k => h0 ((first_at t).1 k)), hd h0 y l]
  intro y l
  rw [tapSums_real hx hw hs y l]
  refine congrArg (fun a : ℝ => (a : EReal)) ?_
  unfold partialSums
  beta_reduce
  rw [Finset.sum_range_succ _ (t.val % 8)]
  simp only [Nat.add_assoc]

theorem sumGate_real (n : ℕ) : ∀ t : Fin cfg0.N, t.val = n → Is (sumGateAt m c t (found m c t.val))
    (fun y l => partialSums (fun i => U i (1408 * (t.val / 8) + l)) (fun i => dgate U W D Wd i (1408 * (t.val / 8) + l)) (t.val % 8 + 1) y) := by
  induction n with
  | zero =>
    intro t ht
    exact sums_point (fun l i => U i (1408 * (t.val / 8) + l)) (fun l i => dgate U W D Wd i (1408 * (t.val / 8) + l)) t _ _ _ (blk_ug h t) (gate_real h t)
      (fun h0 => absurd (by rw [ht]) h0)
  | succ n ih =>
    intro t ht
    refine sums_point (fun l i => U i (1408 * (t.val / 8) + l)) (fun l i => dgate U W D Wd i (1408 * (t.val / 8) + l)) t _ _ _ (blk_ug h t) (gate_real h t)
      (fun h0 y l => ?_)
    have hN : n < cfg0.N := lt_trans (by omega) t.isLt
    rw [ht, found_succ m c ⟨n, hN⟩]
    refine (ih ⟨n, hN⟩ rfl y l).trans ?_
    show ((partialSums (fun i => U i (1408 * (n / 8) + l)) (fun i => dgate U W D Wd i (1408 * (n / 8) + l)) (n % 8 + 1) y : ℝ) : EReal) = _
    rw [show n / 8 = (n + 1) / 8 by omega, show n % 8 + 1 = (n + 1) % 8 by omega]

theorem sumVal_real (n : ℕ) : ∀ t : Fin cfg0.N, t.val = n → Is (sumValAt m c t (found m c t.val))
    (fun y l => partialSums (fun i => U i (2816 + (1408 * (t.val / 8) + l))) (fun i => dval U W D Wd i (1408 * (t.val / 8) + l)) (t.val % 8 + 1) y) := by
  induction n with
  | zero =>
    intro t ht
    exact sums_point (fun l i => U i (2816 + (1408 * (t.val / 8) + l))) (fun l i => dval U W D Wd i (1408 * (t.val / 8) + l)) t _ _ _ (blk_uv h t) (val_real h t)
      (fun h0 => absurd (by rw [ht]) h0)
  | succ n ih =>
    intro t ht
    refine sums_point (fun l i => U i (2816 + (1408 * (t.val / 8) + l))) (fun l i => dval U W D Wd i (1408 * (t.val / 8) + l)) t _ _ _ (blk_uv h t) (val_real h t)
      (fun h0 y l => ?_)
    have hN : n < cfg0.N := lt_trans (by omega) t.isLt
    rw [ht, found_succ m c ⟨n, hN⟩]
    refine (ih ⟨n, hN⟩ rfl y l).trans ?_
    show ((partialSums (fun i => U i (2816 + (1408 * (n / 8) + l))) (fun i => dval U W D Wd i (1408 * (n / 8) + l)) (n % 8 + 1) y : ℝ) : EReal) = _
    rw [show n / 8 = (n + 1) / 8 by omega, show n % 8 + 1 = (n + 1) % 8 by omega]

omit h in
theorem all_sums (u G : ℕ → ℝ) (j : Fin 3) : ∑ a : Fin 8, partialSums u G (7 + 1) (8 * j + a) = dtap G u j := by
  unfold dtap
  rw [← all_rows fun i => u i * upTo G (i + (2 - j))]
  refine Finset.sum_congr rfl fun a _ => ?_
  have ha : (a : Nat) < 8 := a.isLt
  unfold partialSums
  rw [show (8 * (j : Nat) + a) % 8 = a by omega, show (8 * (j : Nat) + a) / 8 = j by omega]

theorem final_rows : (dats m 0 c).arrAt 8 cfg0.N = (fun y => ((rowsOut U W D Wd (y 0 : Fin 2) (y 1 : Fin 4096) (y 2 : Fin 2816) : ℝ) : EReal) : Vec Ideal S2x4096x2816 .bf16) := by
  refine (dats m 0 c).arrAt_eq_of_covers 8 _ (by decide +kernel) fun t hf y => ?_
  blk_simp
  rw [after0_8, idx_8]
  have key (a : Fin 2) (r : Fin 512) (l : Fin 1408) : convBoth (F := Ideal) (gateAt m c t (found m c t.val)) (rep (iblk m c 5 t))
      (valAt m c t (found m c t.val)) (rep (iblk m c 6 t)) (ix3 a r l)
      = ((rowsOut U W D Wd a (512 * (7 - t.val % 8) + r) (1408 * (t.val / 8) + l) : ℝ) : EReal) := by
    unfold rowsOut convBoth dconv
    by_cases h0 : (a : Nat) = 0
    · rw [if_pos h0]
      refine (if_pos h0).trans ?_
      exact convOut_real (gate_real h t) (blk_wg h t) r l
    · rw [if_neg h0]
      refine (if_neg h0).trans ?_
      exact convOut_real (val_real h t) (blk_wv h t) r l
  refine .trans ?_ ((key (y 0) (y 1) (y 2)).trans ?_)
  · exact congrArg _ (eq_ix3 (n0 := 2) (n1 := 512) (n2 := 1408) y)
  · show _ = ((rowsOut U W D Wd (0 * 2 + (y 0 : Nat)) ((7 - t.val % 8) * 512 + (y 1 : Nat)) (t.val / 8 * 1408 + (y 2 : Nat)) : ℝ) : EReal)
    rw [Nat.mul_comm (7 - t.val % 8), Nat.mul_comm (t.val / 8), Nat.zero_mul, Nat.zero_add]

theorem final_wg : (dats m 0 c).arrAt 9 cfg0.N = (fun y => ((dtap (fun i => dgate U W D Wd i (y 1 : Fin 2816)) (fun i => U i (y 1 : Fin 2816)) (y 0 : Fin 3) : ℝ) : EReal) : Vec Ideal S3x2816 .f32) := by
  refine (dats m 0 c).arrAt_eq_of_covers 9 _ (by decide +kernel) fun t hf y => ?_
  have h7 : t.val % 8 = 7 := (flush0_9 t).1 hf
  blk_simp
  rw [after0_9, idx_9]
  have key (j : Fin 3) (l : Fin 1408) : fold3 (F := Ideal) (sumGateAt m c t (found m c t.val)) (ix2 j l)
      = ((dtap (fun i => dgate U W D Wd i (1408 * (t.val / 8) + l)) (fun i => U i (1408 * (t.val / 8) + l)) j : ℝ) : EReal) := by
    rw [fold3_real _ _ (sumGate_real h t.val t rfl), h7, all_sums]
  refine .trans ?_ ((key (y 0) (y 1)).trans ?_)
  · exact congrArg _ (eq_ix2 (n0 := 3) (n1 := 1408) y)
  · show _ = ((dtap (fun i => dgate U W D Wd i (t.val / 8 * 1408 + (y 1 : Nat))) (fun i => U i (t.val / 8 * 1408 + (y 1 : Nat))) (0 * 3 + (y 0 : Nat)) : ℝ) : EReal)
    rw [Nat.mul_comm (t.val / 8), Nat.zero_mul, Nat.zero_add]

theorem final_wv : (dats m 0 c).arrAt 10 cfg0.N = (fun y => ((dtap (fun i => dval U W D Wd i (y 1 : Fin 2816)) (fun i => U i (2816 + (y 1 : Fin 2816))) (y 0 : Fin 3) : ℝ) : EReal) : Vec Ideal S3x2816 .f32) := by
  refine (dats m 0 c).arrAt_eq_of_covers 10 _ (by decide +kernel) fun t hf y => ?_
  have h7 : t.val % 8 = 7 := (flush0_10 t).1 hf
  blk_simp
  rw [after0_10, idx_10]
  have key (j : Fin 3) (l : Fin 1408) : fold3 (F := Ideal) (sumValAt m c t (found m c t.val)) (ix2 j l)
      = ((dtap (fun i => dval U W D Wd i (1408 * (t.val / 8) + l)) (fun i => U i (2816 + (1408 * (t.val / 8) + l))) j : ℝ) : EReal) := by
    rw [fold3_real _ _ (sumVal_real h t.val t rfl), h7, all_sums]
  refine .trans ?_ ((key (y 0) (y 1)).trans ?_)
  · exact congrArg _ (eq_ix2 (n0 := 3) (n1 := 1408) y)
  · show _ = ((dtap (fun i => dval U W D Wd i (t.val / 8 * 1408 + (y 1 : Nat))) (fun i => U i (2816 + (t.val / 8 * 1408 + (y 1 : Nat)))) (0 * 3 + (y 0 : Nat)) : ℝ) : EReal)
    rw [Nat.mul_comm (t.val / 8), Nat.zero_mul, Nat.zero_add]

end Cert.FfnIdeal.Value

end
-- ==== Proof.FfnRefValue.lean ====
/- Every result of the feed-forward gradient's reference, in closed form over the real numbers. -/
module
public import Idealize.ShloMosaic.Lib.Pointwise
public import proofs.«01_k».proof.Proof.Gen.FfnRefIdeal.Read
public import proofs.«01_k».proof.Proof.FfnMath
@[expose] public section
set_option maxRecDepth 16384

noncomputable section
open Idealize.ShloMosaic Idealize.ShloMosaic.TcCoe Idealize.SL.Sem
open Cert.RealLaws Cert.Gated

namespace Cert.FfnRefIdeal.Value
open Cert.FfnRefIdeal Cert.FfnRefIdeal.Gen Cert.FfnRefIdeal.Read

variable {x0 : Vec Ideal S4096x5632 .bf16} {x1 : Vec Ideal S3x5632 .f32} {x2 : Vec Ideal S2816x1024 .bf16} {x3 : Vec Ideal S4096x1024 .bf16}
  {U W D Wd : ℕ → ℕ → ℝ}
  (hu : ∀ (i : Fin 4096) (j : Fin 5632), x0 (ix2 i j) = ((U i j : ℝ) : EReal)) (hw : ∀ (i : Fin 3) (j : Fin 5632), x1 (ix2 i j) = ((W i j : ℝ) : EReal))
  (hd : ∀ (i : Fin 2816) (j : Fin 1024), x2 (ix2 i j) = ((Wd i j : ℝ) : EReal)) (hx : ∀ (i : Fin 4096) (j : Fin 1024), x3 (ix2 i j) = ((D i j : ℝ) : EReal))

include hu in
theorem v2_real (i : Fin 4098) (j : Fin 5632) : val_main_v2 (F := Ideal) x0 (ix2 i j) = (((if 2 ≤ (i : ℕ) then U (i - 2) j else 0 : ℝ)) : EReal) := by
  pointwise [val_main_v2, val_main_v1, val_main_v0, val_main_cst]
  by_cases h : (i : Nat) < 2
  · rw [dif_pos h, if_neg (by omega)]
    simp
  · rw [dif_neg h]
    exact (hu _ _).trans (congrArg (fun a : ℝ => (a : EReal)) (if_pos (show 2 ≤ (i : Nat) by omega)).symm)

omit hu in
theorem earlier (s t l : ℕ) (hs : s ≤ 2) : (if 2 ≤ s + t then U (s + t - 2) l else 0) = prev U (2 - s) t l := by
  unfold prev
  by_cases h : 2 ≤ s + t
  · rw [if_pos h, if_pos (by omega), show s + t - 2 = t - (2 - s) by omega]
  · rw [if_neg h, if_neg (by omega)]

include hu in
theorem v6_real (i : Fin 4096) (j : Fin 5632) : val_main_v6 (F := Ideal) x0 (ix2 i j) = ((prev U 2 i j : ℝ) : EReal) := by
  pointwise [val_main_v6]
  rw [v2_real hu]
  exact congrArg (fun a : ℝ => (a : EReal)) ((congrArg (fun k : ℕ => if 2 ≤ k then U (k - 2) j else 0) (Nat.zero_add _).symm).trans (earlier 0 _ _ (by omega)))

include hu in
theorem v14_real (i : Fin 4096) (j : Fin 5632) : val_main_v14 (F := Ideal) x0 (ix2 i j) = ((prev U 1 i j : ℝ) : EReal) := by
  pointwise [val_main_v14]
  rw [v2_real hu]
  exact congrArg (fun a : ℝ => (a : EReal)) (earlier 1 _ _ (by omega))

include hu in
theorem v21_real (i : Fin 4096) (j : Fin 5632) : val_main_v21 (F := Ideal) x0 (ix2 i j) = ((prev U 0 i j : ℝ) : EReal) := by
  pointwise [val_main_v21]
  rw [v2_real hu]
  exact congrArg (fun a : ℝ => (a : EReal)) (earlier 2 _ _ le_rfl)

include hw in
theorem taps_real (i : Fin 4096) (j : Fin 5632) : val_main_v8 (F := Ideal) x1 (ix2 i j) = ((W 0 j : ℝ) : EReal)
    ∧ val_main_v16 (F := Ideal) x1 (ix2 i j) = ((W 1 j : ℝ) : EReal) ∧ val_main_v23 (F := Ideal) x1 (ix2 i j) = ((W 2 j : ℝ) : EReal) := by
  refine ⟨?_, ?_, ?_⟩
  · pointwise [val_main_v8, val_main_v7, val_main_v5, val_main_v4]
    exact hw 0 j
  · pointwise [val_main_v16, val_main_v15, val_main_v13, val_main_v12]
    exact hw 1 j
  · pointwise [val_main_v23, val_main_v22, val_main_v20, val_main_v19]
    exact hw 2 j

include hu hw in
theorem v25_real (i : Fin 4096) (j : Fin 5632) : val_main_v25 (F := Ideal) x0 x1 (ix2 i j) = ((conv U W i j : ℝ) : EReal) := by
  pointwise [val_main_v25, val_main_v24, val_main_v18, val_main_v17, val_main_v11, val_main_v10, val_main_v9, val_main_cst_1]
  rw [(taps_real hw i j).1, (taps_real hw i j).2.1, (taps_real hw i j).2.2, v6_real hu, v14_real hu, v21_real hu]
  simp only [← EReal.coe_mul, ← EReal.coe_add]
  rfl

include hu hw in
theorem sg_real (i : Fin 4096) (j : Fin 2816) : val_main_v28_2 (F := Ideal) x0 x1 (ix2 i j) = ((sg (conv U W i j) : ℝ) : EReal) := by
  pointwise [val_main_v28_2, val_main_call0_v4, val_main_call0_cst_0, val_main_call0_v3, val_main_call0_v2, val_main_call0_cst, val_main_call0_v1, val_main_call0_v0, val_main_v26]
  rw [v25_real hu hw]
  rw [← EReal.coe_neg, Ideal.exp_coe, ← EReal.coe_one, ← EReal.coe_add, div_coe _ _ (by positivity), one_div]
  rfl

include hd hx in
theorem v33_real (i : Fin 4096) (j : Fin 2816) : val_main_v33 (F := Ideal) x2 x3 (ix2 i j) = ((dact D Wd i j : ℝ) : EReal) := by
  pointwise [val_main_v33, val_main_v32, val_main_v30]
  have e (k : Fin 1024) : x3 (ix2 i k) * x2 (ix2 j k) = ((D i k * Wd j k : ℝ) : EReal) := by rw [hx, hd, ← EReal.coe_mul]
  simp only [e, coe_sum]
  rfl

/-- The gradient at the convolution's output, gates first. -/
def both (U W D Wd : ℕ → ℕ → ℝ) (t l : ℕ) : ℝ := if l < 2816 then dgate U W D Wd t l else dval U W D Wd t (l - 2816)

section Results
include hu hw hd hx

theorem v34_real (i : Fin 4096) (j : Fin 2816) : val_main_v34 (F := Ideal) x0 x1 x2 x3 (ix2 i j) = ((dval U W D Wd i j : ℝ) : EReal) := by
  pointwise [val_main_v34, val_main_v28_0, val_main_v26]
  rw [v25_real hu hw, sg_real hu hw, v33_real hd hx]
  simp only [← EReal.coe_mul]
  refine congrArg (fun a : ℝ => (a : EReal)) ?_
  exact mul_comm _ _

theorem v36_real (i : Fin 4096) (j : Fin 2816) : val_main_v36 (F := Ideal) x0 x1 x2 x3 (ix2 i j) = ((dgate U W D Wd i j : ℝ) : EReal) := by
  pointwise [val_main_v36, val_main_call1_v2, val_main_call1_v1, val_main_call1_v0, val_main_v35, val_main_v28_1, val_main_call0_v7, val_main_call0_v6, val_main_call0_cst_1, val_main_v26, val_main_v27]
  rw [v25_real hu hw, sg_real hu hw, v33_real hd hx]
  rw [v25_real hu hw i ⟨j, by have := j.isLt; omega⟩]
  simp only [← EReal.coe_one, ← EReal.coe_mul, ← EReal.coe_add, ← EReal.coe_sub]
  refine congrArg (fun a : ℝ => (a : EReal)) ?_
  unfold dgate gateOf
  ring

theorem v37_real (i : Fin 4096) (j : Fin 5632) : val_main_v37 (F := Ideal) x0 x1 x2 x3 (ix2 i j) = ((both U W D Wd i j : ℝ) : EReal) := by
  pointwise [val_main_v37]
  unfold both
  by_cases h : (j : Nat) < 2816
  · rw [dif_pos h, if_pos h]
    exact v36_real hu hw hd hx _ _
  · rw [dif_neg h, if_neg h]
    exact v34_real hu hw hd hx _ _

theorem v70_real (i : Fin 4096) (j : Fin 5632) : val_main_v70 (F := Ideal) x0 x1 x2 x3 (ix2 i j)
    = ((dconv (fun t => both U W D Wd t j) (fun k => W k j) i : ℝ) : EReal) := by
  have hi : (i : Nat) < 4096 := i.isLt
  have t0 : val_main_v7 (F := Ideal) x1 (ix2 0 j) = ((W 0 j : ℝ) : EReal) := by
    pointwise [val_main_v7, val_main_v5, val_main_v4]
    exact hw 0 j
  have t1 : val_main_v15 (F := Ideal) x1 (ix2 0 j) = ((W 1 j : ℝ) : EReal) := by
    pointwise [val_main_v15, val_main_v13, val_main_v12]
    exact hw 1 j
  have t2 : val_main_v22 (F := Ideal) x1 (ix2 0 j) = ((W 2 j : ℝ) : EReal) := by
    pointwise [val_main_v22, val_main_v20, val_main_v19]
    exact hw 2 j
  pointwise [val_main_v70, val_main_v65, val_main_v64, val_main_v59, val_main_v58, val_main_v54, val_main_v53, val_main_v48, val_main_v47, val_main_v44, val_main_v39, val_main_v38,
    val_main_cst_8, val_main_cst_12]
  simp only [t0, t1, t2, v37_real hu hw hd hx _ _]
  unfold dconv upTo
  beta_reduce
  rw [if_pos hi, show 2 + (i : Nat) - 1 = i + 1 by omega, Nat.add_comm 2 (i : Nat)]
  by_cases h1 : (i : Nat) + 1 < 4096
  · rw [dif_pos ⟨by omega, h1⟩, if_pos h1]
    by_cases h2 : (i : Nat) + 2 < 4096
    · rw [dif_pos h2, if_pos h2]
      simp only [← EReal.coe_mul, ← EReal.coe_add]
      exact congrArg (fun a : ℝ => (a : EReal)) (by ring)
    · rw [dif_neg h2, if_neg h2]
      simp only [← EReal.coe_zero, ← EReal.coe_mul, ← EReal.coe_add]
      exact congrArg (fun a : ℝ => (a : EReal)) (by ring)
  · rw [dif_neg (fun k => h1 k.2), if_neg h1, dif_neg (by omega), if_neg (by omega)]
    simp only [← EReal.coe_zero, ← EReal.coe_mul, ← EReal.coe_add]
    exact congrArg (fun a : ℝ => (a : EReal)) (by ring)

/-- A column of the gradient against the rows `s` earlier. -/
theorem column_real (s : ℕ) (hs : s ≤ 2) (j : Fin 5632) (a : Vec Ideal S4096x5632 .f32) (ha : ∀ i : Fin 4096, a (ix2 i j) = ((prev U s i j : ℝ) : EReal)) :
    ∑ i : Fin 4096, val_main_v37 (F := Ideal) x0 x1 x2 x3 (ix2 i j) * a (ix2 i j)
      = ((dtap (fun t => both U W D Wd t j) (fun t => U t j) (2 - s) : ℝ) : EReal) := by
  simp only [v37_real hu hw hd hx _ _, ha, ← EReal.coe_mul, coe_sum]
  refine congrArg (fun a : ℝ => (a : EReal)) ?_
  rw [Fin.sum_univ_eq_sum_range (fun i => both U W D Wd i j * prev U s i j) 4096]
  unfold dtap
  rw [show 2 - (2 - s) = s by omega]
  exact shifted (fun t => both U W D Wd t j) (fun t => U t j) s (by omega)

theorem v68_real (k : Fin 3) (j : Fin 5632) : val_main_v68 (F := Ideal) x0 x1 x2 x3 (ix2 k j)
    = ((dtap (fun t => both U W D Wd t j) (fun t => U t j) k : ℝ) : EReal) := by
  have c0 := column_real hu hw hd hx 2 le_rfl j _ fun i => v6_real hu i j
  have c1 := column_real hu hw hd hx 1 (by omega) j _ fun i => v14_real hu i j
  have c2 := column_real hu hw hd hx 0 (by omega) j _ fun i => v21_real hu i j
  pointwise [val_main_v68, val_main_v67, val_main_v66, val_main_v63, val_main_v62, val_main_v61, val_main_v60, val_main_v57, val_main_v56, val_main_v55, val_main_v52, val_main_v51, val_main_v50, val_main_v49, val_main_v46, val_main_v45, val_main_v43, val_main_v42, val_main_v41, val_main_v40,
    val_main_cst_2, val_main_cst_3, val_main_cst_5, val_main_cst_6, val_main_cst_7, val_main_cst_9, val_main_cst_10, val_main_cst_11, val_main_cst_13]
  simp only [Fin.sum_univ_one]
  match k with
  | ⟨0, _⟩ =>
    rw [dif_neg (by simp), dif_neg (by simp), dif_pos (by simp), add_zero, zero_add]
    exact c0
  | ⟨1, _⟩ =>
    rw [dif_neg (by simp), dif_pos (by simp), dif_neg (by simp), add_zero, zero_add]
    exact c1
  | ⟨2, _⟩ =>
    rw [dif_pos (by simp), dif_neg (by simp), dif_neg (by simp), add_zero, add_zero]
    exact c2

omit hu hw hd hx

theorem both_gate (j : ℕ) (hj : j < 2816) : (fun t => both U W D Wd t j) = fun t => dgate U W D Wd t j := funext fun t => if_pos hj
theorem both_val (j : ℕ) : (fun t => both U W D Wd t (2816 + j)) = fun t => dval U W D Wd t j :=
  funext fun t => (if_neg (by omega)).trans (by rw [Nat.add_sub_cancel_left])

include hu hw hd hx

theorem v78_real : val_main_v78 (F := Ideal) x0 x1 x2 x3 = fun y => ((rowsOut U W D Wd (y 0 : Fin 2) (y 1 : Fin 4096) (y 2 : Fin 2816) : ℝ) : EReal) := by
  funext y
  obtain ⟨a, i, j, rfl⟩ : ∃ (a : Fin 2) (i : Fin 4096) (j : Fin 2816), y = ix3 a i j := ⟨y 0, y 1, y 2, eq_ix3 y⟩
  have hj : (j : Nat) < 2816 := j.isLt
  pointwise [val_main_v78, val_main_v77, val_main_v76, val_main_v75, val_main_v74, val_main_v73]
  unfold rowsOut
  by_cases h : (a : Nat) = 0
  · rw [dif_pos (by omega), if_pos h]
    refine (v70_real hu hw hd hx i ⟨j, by omega⟩).trans ?_
    rw [both_gate _ hj]
  · rw [dif_neg (by omega), if_neg h]
    refine (v70_real hu hw hd hx i ⟨2816 + j, by omega⟩).trans ?_
    rw [both_val]

theorem v71_real : val_main_v71 (F := Ideal) x0 x1 x2 x3 = fun y =>
    ((dtap (fun t => dgate U W D Wd t (y 1 : Fin 2816)) (fun t => U t (y 1 : Fin 2816)) (y 0 : Fin 3) : ℝ) : EReal) := by
  funext y
  obtain ⟨i, j, rfl⟩ : ∃ (i : Fin 3) (j : Fin 2816), y = ix2 i j := ⟨y 0, y 1, eq_ix2 y⟩
  have hj : (j : Nat) < 2816 := j.isLt
  pointwise [val_main_v71]
  refine (v68_real hu hw hd hx i ⟨j, by omega⟩).trans ?_
  rw [both_gate _ hj]

theorem v72_real : val_main_v72 (F := Ideal) x0 x1 x2 x3 = fun y =>
    ((dtap (fun t => dval U W D Wd t (y 1 : Fin 2816)) (fun t => U t (2816 + (y 1 : Fin 2816))) (y 0 : Fin 3) : ℝ) : EReal) := by
  funext y
  obtain ⟨i, j, rfl⟩ : ∃ (i : Fin 3) (j : Fin 2816), y = ix2 i j := ⟨y 0, y 1, eq_ix2 y⟩
  have hj : (j : Nat) < 2816 := j.isLt
  pointwise [val_main_v72]
  refine (v68_real hu hw hd hx i ⟨2816 + j, by omega⟩).trans ?_
  rw [both_val]

end Results

end Cert.FfnRefIdeal.Value

end
-- ==== Proof.FfnClaim.lean ====
/- The feed-forward gradient call and its reference compute the same three results. -/
module
public import proofs.«01_k».proof.Defs
public import proofs.«01_k».proof.Proof.Gen.Ffn
public import proofs.«01_k».proof.Proof.Gen.Pre_ffn_finite
public import proofs.«01_k».proof.Proof.Gen.FfnRefIdeal.Run
public import proofs.«01_k».proof.Proof.FfnValue
public import proofs.«01_k».proof.Proof.FfnRefValue
@[expose] public section
set_option maxRecDepth 16384

noncomputable section
open Idealize.ShloMosaic Idealize.ShloMosaic.TcCoe Idealize.SL.Sem
open Cert.RealLaws Cert.Gated

namespace Cert.FfnIdeal.Value
open Cert.FfnIdeal Cert.FfnIdeal.Gen

variable (m : (ℓ : Loc nD τ sig) → Buf (Elt Ideal) ℓ) (ρ : Dev nD → PrngReg) (c : Dev nD)

/-- The arguments as tables of real numbers. -/
def U : ℕ → ℕ → ℝ := tab fun (i : Fin 4096) (j : Fin 5632) => (m ((c : Thread nD τ).loc main_arg0) : Vec Ideal S4096x5632 .bf16) (ix2 i j)
def W : ℕ → ℕ → ℝ := tab fun (i : Fin 3) (j : Fin 5632) => (m ((c : Thread nD τ).loc main_arg1) : Vec Ideal S3x5632 .f32) (ix2 i j)
def Wd : ℕ → ℕ → ℝ := tab fun (i : Fin 2816) (j : Fin 1024) => (m ((c : Thread nD τ).loc main_arg2) : Vec Ideal S2816x1024 .bf16) (ix2 i j)
def D : ℕ → ℕ → ℝ := tab fun (i : Fin 4096) (j : Fin 1024) => (m ((c : Thread nD τ).loc main_arg3) : Vec Ideal S4096x1024 .bf16) (ix2 i j)

theorem holds (pre : Pre_FfnIdeal_ffn_finite m) : Holds m c (U m c) (W m c) (D m c) (Wd m c) := by
  have e := congrFun (pre c) (Shape.Idx.first Cert.Pre_ffn_finite.Gen.h_S_)
  obtain ⟨e012, e3⟩ := IntOp.andi_eq_one.1 e
  obtain ⟨e01, e2⟩ := IntOp.andi_eq_one.1 e012
  obtain ⟨e0, e1⟩ := IntOp.andi_eq_one.1 e01
  have hk (s : Shape) (h : Cert.Pre_ffn_finite.S_.BroadcastsInDim s ![]) (i : s.Idx) :
      broadcastInDim s ![] h (constant (F := Ideal) Cert.Pre_ffn_finite.S_ .f32 0x7F800000#32) i = ⊤ := ofBits_inf
  exact ⟨fun i j => tab_eq _ (fun i j => real_of_all _ _ (hk _ _) _ _ _ _ e0 (ix2 i j)) i j,
    fun i j => tab_eq _ (fun i j => real_of_all _ _ (hk _ _) _ _ _ _ e1 (ix2 i j)) i j,
    fun i j => tab_eq _ (fun i j => real_of_all _ _ (hk _ _) _ _ _ _ e2 (ix2 i j)) i j,
    fun i j => tab_eq _ (fun i j => real_of_all _ _ (hk _ _) _ _ _ _ e3 (ix2 i j)) i j⟩

def rowsResult : Vec Ideal S2x4096x2816 .bf16 := fun y => ((rowsOut (U m c) (W m c) (D m c) (Wd m c) (y 0 : Fin 2) (y 1 : Fin 4096) (y 2 : Fin 2816) : ℝ) : EReal)
def gateTaps : Vec Ideal S3x2816 .f32 := fun y =>
  ((dtap (fun i => dgate (U m c) (W m c) (D m c) (Wd m c) i (y 1 : Fin 2816)) (fun i => U m c i (y 1 : Fin 2816)) (y 0 : Fin 3) : ℝ) : EReal)
def valTaps : Vec Ideal S3x2816 .f32 := fun y =>
  ((dtap (fun i => dval (U m c) (W m c) (D m c) (Wd m c) i (y 1 : Fin 2816)) (fun i => U m c i (2816 + (y 1 : Fin 2816))) (y 0 : Fin 3) : ℝ) : EReal)

theorem run_kernel (pre : Pre_FfnIdeal_ffn_finite m) : θ_run (defs (F := Ideal)) (onTc (τ := τ) (main (F := Ideal))) ⟨m, fun _ => 0, ρ⟩ (fun r => ∀ c : Dev nD,
      r.2.mem ((c.tc : Thread nD τ).loc main_v28_0) = rowsResult m c
      ∧ r.2.mem ((c.tc : Thread nD τ).loc main_v28_1) = gateTaps m c
      ∧ r.2.mem ((c.tc : Thread nD τ).loc main_v28_2) = valTaps m c) :=
  (θ_run defs _ _).mono (fun r h c =>
    ⟨((h c).1 8).trans (final_rows (holds m c pre)), ((h c).1 9).trans (final_wg (holds m c pre)), ((h c).1 10).trans (final_wv (holds m c pre))⟩)
    (run_main m ρ)

theorem frame_reference (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0) :=
  (θ_run Cert.FfnRefIdeal.defs _ _).mono (fun r h => ⟨fun c => (h c).2.2.2, Idealize.ShloMosaic.sem_eq_zero_of_no_sems (by decide) r.2⟩)
    (Cert.FfnRefIdeal.Value.run (F := Ideal) m ρ)

theorem value : algebraic_FfnIdeal_FfnRefIdeal_pre_ffn_finite := fun m ρ m' ρ' pre hag =>
  ⟨rowsResult m, gateTaps m, valTaps m,
    (θ_run defs _ _).mono (fun _ h c => ⟨(h.1 c).1, (h.1 c).2.1, (h.1 c).2.2, h.2.1 c⟩)
      (θ_run_and (run_kernel m ρ pre) (frame m ρ)),
    (θ_run Cert.FfnRefIdeal.defs _ _).mono (fun _ h c => by
      obtain ⟨h0, h1, h2, hargs⟩ := h c
      have H := holds m c pre
      have hu := fun (i : Fin 4096) (j : Fin 5632) => (congrFun (hag c).1 (ix2 i j)).trans (H.u i j)
      have hw := fun (i : Fin 3) (j : Fin 5632) => (congrFun (hag c).2.1 (ix2 i j)).trans (H.w i j)
      have hd := fun (i : Fin 2816) (j : Fin 1024) => (congrFun (hag c).2.2.1 (ix2 i j)).trans (H.wd i j)
      have hx := fun (i : Fin 4096) (j : Fin 1024) => (congrFun (hag c).2.2.2.1 (ix2 i j)).trans (H.d i j)
      exact ⟨h0.trans ((Cert.FfnRefIdeal.Read.val_main_v78_eq _).trans (Cert.FfnRefIdeal.Value.v78_real hu hw hd hx)),
        h1.trans ((Cert.FfnRefIdeal.Read.val_main_v71_eq _).trans (Cert.FfnRefIdeal.Value.v71_real hu hw hd hx)),
        h2.trans ((Cert.FfnRefIdeal.Read.val_main_v72_eq _).trans (Cert.FfnRefIdeal.Value.v72_real hu hw hd hx)), hargs⟩)
      (Cert.FfnRefIdeal.Value.run (F := Ideal) m' ρ')⟩

end Cert.FfnIdeal.Value

end
-- ==== Proof.RowBlocks.lean ====
/-
  Blocks of rows of a matrix: what a load of a block of rows reads, after a store of the whole matrix or of a larger
  block, and what a buffer holds once its blocks of rows have all been stored.
-/
module

public import proofs.«01_k».proof.Proof.Blocks
public import Idealize.ShloMosaic.Lib.Pipeline.RowLoads
public import Idealize.ShloMosaic.Lib.Pipeline.ReadBack

@[expose] public section

noncomputable section

namespace Cert.RowBlocks

open Idealize.ShloMosaic Idealize.ShloMosaic.RowLoads

variable {α : Type} {m n : ℕ} {Val : EltTy → Type} [∀ e, Nonempty (Val e)] {sig : RefSig} {κ : Kind} {sp : Space} {e : EltTy}

/-- A rectangle of whole rows, read. -/
theorem ld_rows {k o : ℕ} (x : (⟨2, ![m, n]⟩ : Shape).Idx → Val e)
    (inb : ∀ a, (![o, 0] : Fin 2 → Nat) a + (⟨2, ![k, n]⟩ : Shape).size a ≤ (⟨2, ![m, n]⟩ : Shape).size a) (h : o + k ≤ m) :
    View.ld x (Rect.unit (s := (⟨2, ![m, n]⟩ : Shape)) ![o, 0] (⟨2, ![k, n]⟩ : Shape).size inb) = rowsFrom k x o h := by
  funext j
  unfold rowsFrom
  refine congrArg x ?_
  funext a; apply Fin.ext
  fin_cases a
  · show o + 1 * (j 0).val = o + (j 0).val; omega
  · show 0 + 1 * (j 1).val = (j 1).val; omega

/-- A load of rows from a buffer. -/
theorem readAt_rows {k o : ℕ} (v : View sig κ sp (⟨2, ![m, n]⟩ : Shape) e) (f : v.ty.Contents Val)
    (inb : ∀ a, (![o, 0] : Fin 2 → Nat) a + (⟨2, ![k, n]⟩ : Shape).size a ≤ (⟨2, ![m, n]⟩ : Shape).size a) (h : o + k ≤ m)
    (x : (⟨2, ![m, n]⟩ : Shape).Idx → Val e) (hx : v.read Val f = x) :
    View.readAt Val v (Rect.unit (s := (⟨2, ![m, n]⟩ : Shape)) ![o, 0] (⟨2, ![k, n]⟩ : Shape).size inb).toLoadRect f = rowsFrom k x o h := by
  rw [View.readAt_eq_ld, hx]; exact ld_rows x inb h

/-- A load of rows from a buffer written whole. -/
theorem readCov_whole {k o : ℕ} (v : View sig κ sp (⟨2, ![m, n]⟩ : Shape) e) (x : (⟨2, ![m, n]⟩ : Shape).Idx → Val e)
    (inb : ∀ a, (![o, 0] : Fin 2 → Nat) a + (⟨2, ![k, n]⟩ : Shape).size a ≤ (⟨2, ![m, n]⟩ : Shape).size a) (h : o + k ≤ m) :
    v.readCov [(⟨Rect.whole (⟨2, ![m, n]⟩ : Shape), x⟩ : View.Piece Val (⟨2, ![m, n]⟩ : Shape) e)]
      (Rect.unit (s := (⟨2, ![m, n]⟩ : Shape)) ![o, 0] (⟨2, ![k, n]⟩ : Shape).size inb).toLoadRect = rowsFrom k x o h := by
  rw [View.readCov_eq_canon', ← ld_rows x inb h]
  funext j
  have q := View.canon_cons_emb (Val := Val) (Rect.whole (⟨2, ![m, n]⟩ : Shape)) x []
    ((Rect.unit (s := (⟨2, ![m, n]⟩ : Shape)) ![o, 0] (⟨2, ![k, n]⟩ : Shape).size inb).emb j)
  rw [Rect.emb_whole_apply] at q
  exact q

/-- A load of rows inside the block of rows stored last. -/
theorem readCov_within {k b K o : ℕ} (v : View sig κ sp (⟨2, ![m, n]⟩ : Shape) e) (P : (⟨2, ![K, n]⟩ : Shape).Idx → Val e)
    (L : List (View.Piece Val (⟨2, ![m, n]⟩ : Shape) e))
    (inb : ∀ a, (![b, 0] : Fin 2 → Nat) a + (⟨2, ![K, n]⟩ : Shape).size a ≤ (⟨2, ![m, n]⟩ : Shape).size a)
    (inb' : ∀ a, (![b + o, 0] : Fin 2 → Nat) a + (⟨2, ![k, n]⟩ : Shape).size a ≤ (⟨2, ![m, n]⟩ : Shape).size a) (h : o + k ≤ K) :
    v.readCov ((⟨Rect.unit (s := (⟨2, ![m, n]⟩ : Shape)) ![b, 0] (⟨2, ![K, n]⟩ : Shape).size inb, P⟩ : View.Piece Val (⟨2, ![m, n]⟩ : Shape) e) :: L)
      (Rect.unit (s := (⟨2, ![m, n]⟩ : Shape)) ![b + o, 0] (⟨2, ![k, n]⟩ : Shape).size inb').toLoadRect = rowsFrom k P o h := by
  rw [View.readCov_eq_canon']
  funext j
  have q := View.canon_cons_emb (Val := Val) (Rect.unit (s := (⟨2, ![m, n]⟩ : Shape)) ![b, 0] (⟨2, ![K, n]⟩ : Shape).size inb) P L
    (ValueIdx.ix2 (⟨o + (j 0).val, by have : (j 0).val < k := (j 0).isLt; omega⟩ : Fin K) (j 1 : Fin n))
  refine .trans (congrArg _ ?_) q
  funext a; apply Fin.ext
  fin_cases a
  · show b + o + 1 * (j 0).val = b + 1 * (o + (j 0).val); omega
  · show 0 + 1 * (j 1).val = 0 + 1 * (j 1).val; rfl

/-- A load of the rectangle stored last. -/
theorem readCov_last {S : Shape} (v : View sig κ sp S e) {off size : Fin S.rank → Nat} (i j : ∀ a, off a + size a ≤ S.size a)
    (P : (Rect.unit off size i).shape.Idx → Val e) (L : List (View.Piece Val S e)) :
    v.readCov ((⟨Rect.unit off size i, P⟩ : View.Piece Val S e) :: L) (Rect.unit off size j).toLoadRect = P :=
  View.readCov_cons_toLoadRect v (Rect.unit off size i) P L

/-- The matrix whose block `s` of `k` rows is `f s`. -/
def stack (k N : ℕ) (f : ℕ → (⟨2, ![k, n]⟩ : Shape).Idx → α) : (⟨2, ![N * k, n]⟩ : Shape).Idx → α := fun y =>
  f ((y 0).val / k) (ValueIdx.ix2 (⟨(y 0).val % k, Nat.mod_lt _ (Nat.pos_of_ne_zero fun h0 => by
    have := (y 0).isLt; simp only [h0, Nat.mul_zero] at this; exact absurd this (Nat.not_lt_zero _))⟩ : Fin k) (y 1 : Fin n))

theorem stack_apply {k N : ℕ} (f : ℕ → (⟨2, ![k, n]⟩ : Shape).Idx → α) (s : ℕ) (r : Fin k) (l : Fin n) (h : s * k + r.val < N * k) :
    stack k N f (ValueIdx.ix2 ⟨s * k + r.val, h⟩ l) = f s (ValueIdx.ix2 r l) := by
  have hk : 0 < k := Nat.pos_of_ne_zero fun h0 => by subst h0; exact r.elim0
  unfold stack
  have e1 : (s * k + r.val) / k = s := by rw [Nat.add_comm, Nat.add_mul_div_right _ _ hk, Nat.div_eq_of_lt r.isLt, Nat.zero_add]
  have e2 : (s * k + r.val) % k = r.val := by rw [Nat.add_comm, Nat.add_mul_mod_self_right, Nat.mod_eq_of_lt r.isLt]
  refine (congrArg (fun q => f q _) (show _ / k = s from e1)).trans (congrArg (f s) ?_)
  funext a; apply Fin.ext; fin_cases a
  · exact e2
  · rfl

/-- Four blocks of rows, stored last first, are the matrix of those blocks. -/
theorem read_four {k : ℕ} (v : View sig κ sp (⟨2, ![4 * k, n]⟩ : Shape) e) (f : v.ty.Contents Val) (B : ℕ → (⟨2, ![k, n]⟩ : Shape).Idx → Val e)
    {o1 o2 o3 : ℕ} (h1 : o1 = 1 * k) (h2 : o2 = 2 * k) (h3 : o3 = 3 * k)
    (b0 b1 b2 b3 : (⟨2, ![k, n]⟩ : Shape).Idx → Val e) (e0 : b0 = B 0) (e1 : b1 = B 1) (e2 : b2 = B 2) (e3 : b3 = B 3)
    (i0 : ∀ a, (![0, 0] : Fin 2 → Nat) a + (⟨2, ![k, n]⟩ : Shape).size a ≤ (⟨2, ![4 * k, n]⟩ : Shape).size a)
    (i1 : ∀ a, (![o1, 0] : Fin 2 → Nat) a + (⟨2, ![k, n]⟩ : Shape).size a ≤ (⟨2, ![4 * k, n]⟩ : Shape).size a)
    (i2 : ∀ a, (![o2, 0] : Fin 2 → Nat) a + (⟨2, ![k, n]⟩ : Shape).size a ≤ (⟨2, ![4 * k, n]⟩ : Shape).size a)
    (i3 : ∀ a, (![o3, 0] : Fin 2 → Nat) a + (⟨2, ![k, n]⟩ : Shape).size a ≤ (⟨2, ![4 * k, n]⟩ : Shape).size a) :
    v.read Val (v.writes Val f [⟨Rect.unit (s := (⟨2, ![4 * k, n]⟩ : Shape)) ![o3, 0] (⟨2, ![k, n]⟩ : Shape).size i3, b3⟩,
      ⟨Rect.unit (s := (⟨2, ![4 * k, n]⟩ : Shape)) ![o2, 0] (⟨2, ![k, n]⟩ : Shape).size i2, b2⟩,
      ⟨Rect.unit (s := (⟨2, ![4 * k, n]⟩ : Shape)) ![o1, 0] (⟨2, ![k, n]⟩ : Shape).size i1, b1⟩,
      ⟨Rect.unit (s := (⟨2, ![4 * k, n]⟩ : Shape)) ![0, 0] (⟨2, ![k, n]⟩ : Shape).size i0, b0⟩]) = stack k 4 B := by
  subst h1 h2 h3 e0 e1 e2 e3
  funext y
  have hy : (y 0).val < 4 * k := (y 0).isLt
  have hk : 0 < k := by omega
  have key : ∀ (s o : ℕ) (hs : o = s * k) (i : ∀ a, (![o, 0] : Fin 2 → Nat) a + (⟨2, ![k, n]⟩ : Shape).size a ≤ (⟨2, ![4 * k, n]⟩ : Shape).size a)
      (x : (⟨2, ![k, n]⟩ : Shape).Idx), B s x = stack k 4 B ((Rect.unit (s := (⟨2, ![4 * k, n]⟩ : Shape)) ![o, 0] (⟨2, ![k, n]⟩ : Shape).size i).emb x) := by
    intro s o hs i x
    subst hs
    have hx : (x 0).val < k := (x 0).isLt
    have hi : s * k + k ≤ 4 * k := i 0
    refine .symm ((congrArg (stack k 4 B) (?_ : _ = ValueIdx.ix2 (⟨s * k + (x 0).val, by omega⟩ : Fin (4 * k)) (x 1 : Fin n))).trans
      ((stack_apply B s (x 0) (x 1) _).trans (congrArg (B s) ?_)))
    · funext a; apply Fin.ext; fin_cases a
      · show s * k + 1 * (x 0).val = s * k + (x 0).val; omega
      · show 0 + 1 * (x 1).val = (x 1).val; omega
    · exact (ValueIdx.eq_ix2 x).symm
  have hcov : ∃ p ∈ ([⟨Rect.unit (s := (⟨2, ![4 * k, n]⟩ : Shape)) ![3 * k, 0] (⟨2, ![k, n]⟩ : Shape).size i3, B 3⟩,
      ⟨Rect.unit (s := (⟨2, ![4 * k, n]⟩ : Shape)) ![2 * k, 0] (⟨2, ![k, n]⟩ : Shape).size i2, B 2⟩,
      ⟨Rect.unit (s := (⟨2, ![4 * k, n]⟩ : Shape)) ![1 * k, 0] (⟨2, ![k, n]⟩ : Shape).size i1, B 1⟩,
      ⟨Rect.unit (s := (⟨2, ![4 * k, n]⟩ : Shape)) ![0, 0] (⟨2, ![k, n]⟩ : Shape).size i0, B 0⟩] : List (View.Piece Val (⟨2, ![4 * k, n]⟩ : Shape) e)),
      y ∈ p.1.set := by
    have mem : ∀ (o : ℕ) (i : ∀ a, (![o, 0] : Fin 2 → Nat) a + (⟨2, ![k, n]⟩ : Shape).size a ≤ (⟨2, ![4 * k, n]⟩ : Shape).size a),
        o ≤ (y 0).val → (y 0).val < o + k → y ∈ (Rect.unit (s := (⟨2, ![4 * k, n]⟩ : Shape)) ![o, 0] (⟨2, ![k, n]⟩ : Shape).size i).set := by
      intro o i ha hb
      refine Rect.mem_set_unit.mpr fun a => ?_
      fin_cases a
      · exact ⟨ha, hb⟩
      · exact ⟨Nat.zero_le _, by have : (y 1).val < n := (y 1).isLt; show (y 1).val < 0 + n; omega⟩
    by_cases q3 : 3 * k ≤ (y 0).val
    · exact ⟨_, List.mem_cons_self, mem _ i3 q3 (by omega)⟩
    by_cases q2 : 2 * k ≤ (y 0).val
    · exact ⟨_, List.mem_cons_of_mem _ List.mem_cons_self, mem _ i2 q2 (by omega)⟩
    by_cases q1 : 1 * k ≤ (y 0).val
    · exact ⟨_, List.mem_cons_of_mem _ (List.mem_cons_of_mem _ List.mem_cons_self), mem _ i1 q1 (by omega)⟩
    · exact ⟨_, List.mem_cons_of_mem _ (List.mem_cons_of_mem _ (List.mem_cons_of_mem _ List.mem_cons_self)), mem _ i0 (Nat.zero_le _) (by omega)⟩
  refine (View.read_writes_apply_eq_canon v f y _ hcov).trans (View.canon_apply_of_pieces (stack k 4 B) _ ?_ y hcov)
  intro p hp x
  rcases List.mem_cons.mp hp with rfl | hp
  · exact key 3 _ rfl i3 x
  rcases List.mem_cons.mp hp with rfl | hp
  · exact key 2 _ rfl i2 x
  rcases List.mem_cons.mp hp with rfl | hp
  · exact key 1 _ rfl i1 x
  rcases List.mem_cons.mp hp with rfl | hp
  · exact key 0 0 (Nat.zero_mul k).symm i0 x
  · exact absurd hp List.not_mem_nil

end Cert.RowBlocks
end
-- ==== Proof.DhMixPoint.lean ====
/-
  What one point of the mixer's backward projection computes, as functions of the blocks it reads: the cotangent of the
  normalised rows, the gradient of the rows, and what the point adds to the gradient of the norm's gains.
-/
module

public import proofs.«01_k».proof.Proof.RowBlocks
public import proofs.«01_k».proof.Proof.Gen.DhMixIdeal.Skeleton

@[expose] public section

noncomputable section

open Idealize.ShloMosaic Idealize.ShloMosaic.TcCoe Idealize.ShloMosaic.RowLoads

namespace Cert.DhMixIdeal.Value

open Cert.DhMixIdeal Cert.DhMixIdeal.Gen

variable {F : FTy → Type} [FloatOps F]

/-- A block of 128 rows of a tile. -/
def rows128 {e : EltTy} (x : (S512x1024 : Shape).Idx → Elt F e) (s : ℕ) (h : 128 * s + 128 ≤ 512) : (S128x1024 : Shape).Idx → Elt F e :=
  rowsFrom (m := 512) 128 x (128 * s) h

/-- The products of a half of the tile's cotangent with the weights. -/
def dhHalf (z : Vec F S512x2560 .bf16) (w : Vec F S2560x1024 .bf16) (j : ℕ) (h : 256 * j + 256 ≤ 512) : Vec F S256x1024 .f32 :=
  k0_pay5 (rowsFrom (m := 512) (α := Elt F .bf16) 256 z (256 * j) h) w

/-- 128 rows of them. -/
def dhRows (z : Vec F S512x2560 .bf16) (w : Vec F S2560x1024 .bf16) (j o : ℕ) (h : 256 * j + 256 ≤ 512) (ho : 128 * o + 128 ≤ 256) : Vec F S128x1024 .f32 :=
  rowsFrom (m := 256) (α := Elt F .f32) 128 (dhHalf z w j h) (128 * o) ho

/-- The gradient of 128 rows. -/
def dxRows (x dh : Vec F S128x1024 .f32) (g : Vec F S1x1024 .f32) (d : Vec F S128x1024 .f32) : Vec F S128x1024 .f32 :=
  k0_pay13 (k0_pay6 x) (k0_pay7 x) dh g d

/-- The same in the narrow type. -/
def dxbRows (x dh : Vec F S128x1024 .f32) (g : Vec F S1x1024 .f32) (d : Vec F S128x1024 .f32) : Vec F S128x1024 .bf16 :=
  k0_pay14 (k0_pay6 x) (k0_pay7 x) dh g d

/-- The gains' gradient after 128 more rows. -/
def dgRows (s : Vec F S8x1024 .f32) (x dh : Vec F S128x1024 .f32) : Vec F S8x1024 .f32 :=
  k0_pay18 x (k0_pay15 x) dh s

variable (z : Vec F S512x2560 .bf16) (w : Vec F S2560x1024 .bf16) (x : Vec F S512x1024 .f32) (g : Vec F S1x1024 .f32) (d : Vec F S512x1024 .f32)

/-- Block `s` of the tile's gradient. -/
def dxBlock : ℕ → Vec F S128x1024 .f32
  | 0 => dxRows (rows128 x 0 (by omega)) (dhRows z w 0 0 (by omega) (by omega)) g (rows128 d 0 (by omega))
  | 1 => dxRows (rows128 x 1 (by omega)) (dhRows z w 0 1 (by omega) (by omega)) g (rows128 d 1 (by omega))
  | 2 => dxRows (rows128 x 2 (by omega)) (dhRows z w 1 0 (by omega) (by omega)) g (rows128 d 2 (by omega))
  | _ => dxRows (rows128 x 3 (by omega)) (dhRows z w 1 1 (by omega) (by omega)) g (rows128 d 3 (by omega))

/-- Block `s` of it in the narrow type. -/
def dxbBlock : ℕ → Vec F S128x1024 .bf16
  | 0 => dxbRows (rows128 x 0 (by omega)) (dhRows z w 0 0 (by omega) (by omega)) g (rows128 d 0 (by omega))
  | 1 => dxbRows (rows128 x 1 (by omega)) (dhRows z w 0 1 (by omega) (by omega)) g (rows128 d 1 (by omega))
  | 2 => dxbRows (rows128 x 2 (by omega)) (dhRows z w 1 0 (by omega) (by omega)) g (rows128 d 2 (by omega))
  | _ => dxbRows (rows128 x 3 (by omega)) (dhRows z w 1 1 (by omega) (by omega)) g (rows128 d 3 (by omega))

/-- The tile's gradient. -/
def dxTile : Vec F S512x1024 .f32 := Cert.RowBlocks.stack (α := Elt F .f32) (n := 1024) 128 4 (dxBlock z w x g d)

/-- The tile's gradient in the narrow type. -/
def dxbTile : Vec F S512x1024 .bf16 := Cert.RowBlocks.stack (α := Elt F .bf16) (n := 1024) 128 4 (dxbBlock z w x g d)

/-- The gains' gradient after the tile. -/
def dgTile (s : Vec F S8x1024 .f32) : Vec F S8x1024 .f32 :=
  dgRows (dgRows (dgRows (dgRows s (rows128 x 0 (by omega)) (dhRows z w 0 0 (by omega) (by omega)))
    (rows128 x 1 (by omega)) (dhRows z w 0 1 (by omega) (by omega)))
    (rows128 x 2 (by omega)) (dhRows z w 1 0 (by omega) (by omega)))
    (rows128 x 3 (by omega)) (dhRows z w 1 1 (by omega) (by omega))

section forms
variable (X : Vec F S128x1024 .f32) (H D : Vec F S128x1024 .f32) (s : Vec F S8x1024 .f32)

theorem dg_first : k0_pay12 (k0_pay8 s) (k0_pay9 X H) (k0_pay10 X H) (k0_pay11 X H) = dgRows s X H := rfl
theorem dg_third : k0_pay25 (k0_pay24 X) H s = dgRows s X H := rfl
theorem dg_fourth : k0_pay1 (k0_pay32 s) (k0_pay33 X H) (k0_pay34 X H) (k0_pay35 X H) = dgRows s X H := rfl
theorem dx_second : k0_pay20 (k0_pay16 (k0_pay15 X)) (k0_pay17 X (k0_pay15 X)) (k0_pay19 H g) D = dxRows X H g D := rfl
theorem dx_third : k0_pay28 (k0_pay23 X) (k0_pay24 X) (k0_pay26 H g) D (k0_pay27 (k0_pay24 X) H g) = dxRows X H g D := rfl
theorem dx_fourth : k0_pay2 (k0_pay30 X) (k0_pay31 X) H g D = dxRows X H g D := rfl
theorem dxb_second : k0_pay21 (k0_pay16 (k0_pay15 X)) (k0_pay17 X (k0_pay15 X)) (k0_pay19 H g) D = dxbRows X H g D := rfl
theorem dxb_third : k0_pay29 (k0_pay23 X) (k0_pay24 X) (k0_pay26 H g) D (k0_pay27 (k0_pay24 X) H g) = dxbRows X H g D := rfl
theorem dxb_fourth : k0_pay3 (k0_pay30 X) (k0_pay31 X) H g D = dxbRows X H g D := rfl
end forms

theorem half_second (Z : Vec F S256x2560 .bf16) : k0_pay22 Z w = k0_pay5 Z w := rfl

/-! What the stores of a point leave, from what its loads read. -/

section stores
variable {κ : Kind} {sp : Space} {X0 X1 X2 X3 H0 H1 H2 H3 D0 D1 D2 D3 : Vec F S128x1024 .f32} {G0 G1 G2 G3 : Vec F S1x1024 .f32}

theorem dxRows_congr {X X' H H' D D' : Vec F S128x1024 .f32} {G G' : Vec F S1x1024 .f32} (hX : X = X') (hH : H = H') (hG : G = G') (hD : D = D') :
    dxRows X H G D = dxRows X' H' G' D' := by rw [hX, hH, hG, hD]

theorem dxbRows_congr {X X' H H' D D' : Vec F S128x1024 .f32} {G G' : Vec F S1x1024 .f32} (hX : X = X') (hH : H = H') (hG : G = G') (hD : D = D') :
    dxbRows X H G D = dxbRows X' H' G' D' := by rw [hX, hH, hG, hD]

theorem dgRows_congr {X X' H H' : Vec F S128x1024 .f32} {S S' : Vec F S8x1024 .f32} (hS : S = S') (hX : X = X') (hH : H = H') :
    dgRows S X H = dgRows S' X' H' := by rw [hX, hH, hS]

variable {z w x g d}

/-- The tile's gradient stands in its buffer. -/
theorem dx_stored (v : View sig κ sp S512x1024 .f32) (f : v.ty.Contents (Elt F))
    (x0 : X0 = rows128 x 0 (by omega)) (x1 : X1 = rows128 x 1 (by omega)) (x2 : X2 = rows128 x 2 (by omega)) (x3 : X3 = rows128 x 3 (by omega))
    (d0 : D0 = rows128 d 0 (by omega)) (d1 : D1 = rows128 d 1 (by omega)) (d2 : D2 = rows128 d 2 (by omega)) (d3 : D3 = rows128 d 3 (by omega))
    (c0 : H0 = dhRows z w 0 0 (by omega) (by omega)) (c1 : H1 = dhRows z w 0 1 (by omega) (by omega))
    (c2 : H2 = dhRows z w 1 0 (by omega) (by omega)) (c3 : H3 = dhRows z w 1 1 (by omega) (by omega))
    (g0 : G0 = g) (g1 : G1 = g) (g2 : G2 = g) (g3 : G3 = g) (i0 i1 i2 i3) :
    v.read (Elt F) (v.writes (Elt F) f
      [⟨Rect.unit (s := S512x1024) ![384, 0] S128x1024.size i3, k0_pay2 (k0_pay30 X3) (k0_pay31 X3) H3 G3 D3⟩,
       ⟨Rect.unit (s := S512x1024) ![256, 0] S128x1024.size i2, k0_pay28 (k0_pay23 X2) (k0_pay24 X2) (k0_pay26 H2 G2) D2 (k0_pay27 (k0_pay24 X2) H2 G2)⟩,
       ⟨Rect.unit (s := S512x1024) ![128, 0] S128x1024.size i1, k0_pay20 (k0_pay16 (k0_pay15 X1)) (k0_pay17 X1 (k0_pay15 X1)) (k0_pay19 H1 G1) D1⟩,
       ⟨Rect.unit (s := S512x1024) ![0, 0] S128x1024.size i0, k0_pay13 (k0_pay6 X0) (k0_pay7 X0) H0 G0 D0⟩]) = dxTile z w x g d :=
  Cert.RowBlocks.read_four (Val := Elt F) (k := 128) (n := 1024) v f (dxBlock z w x g d) rfl rfl rfl _ _ _ _
    (dxRows_congr x0 c0 g0 d0)
    ((dx_second G1 X1 H1 D1).trans (dxRows_congr x1 c1 g1 d1))
    ((dx_third G2 X2 H2 D2).trans (dxRows_congr x2 c2 g2 d2))
    ((dx_fourth G3 X3 H3 D3).trans (dxRows_congr x3 c3 g3 d3)) i0 i1 i2 i3

/-- And the same in the narrow type. -/
theorem dxb_stored (v : View sig κ sp S512x1024 .bf16) (f : v.ty.Contents (Elt F))
    (x0 : X0 = rows128 x 0 (by omega)) (x1 : X1 = rows128 x 1 (by omega)) (x2 : X2 = rows128 x 2 (by omega)) (x3 : X3 = rows128 x 3 (by omega))
    (d0 : D0 = rows128 d 0 (by omega)) (d1 : D1 = rows128 d 1 (by omega)) (d2 : D2 = rows128 d 2 (by omega)) (d3 : D3 = rows128 d 3 (by omega))
    (c0 : H0 = dhRows z w 0 0 (by omega) (by omega)) (c1 : H1 = dhRows z w 0 1 (by omega) (by omega))
    (c2 : H2 = dhRows z w 1 0 (by omega) (by omega)) (c3 : H3 = dhRows z w 1 1 (by omega) (by omega))
    (g0 : G0 = g) (g1 : G1 = g) (g2 : G2 = g) (g3 : G3 = g) (i0 i1 i2 i3) :
    v.read (Elt F) (v.writes (Elt F) f
      [⟨Rect.unit (s := S512x1024) ![384, 0] S128x1024.size i3, k0_pay3 (k0_pay30 X3) (k0_pay31 X3) H3 G3 D3⟩,
       ⟨Rect.unit (s := S512x1024) ![256, 0] S128x1024.size i2, k0_pay29 (k0_pay23 X2) (k0_pay24 X2) (k0_pay26 H2 G2) D2 (k0_pay27 (k0_pay24 X2) H2 G2)⟩,
       ⟨Rect.unit (s := S512x1024) ![128, 0] S128x1024.size i1, k0_pay21 (k0_pay16 (k0_pay15 X1)) (k0_pay17 X1 (k0_pay15 X1)) (k0_pay19 H1 G1) D1⟩,
       ⟨Rect.unit (s := S512x1024) ![0, 0] S128x1024.size i0, k0_pay14 (k0_pay6 X0) (k0_pay7 X0) H0 G0 D0⟩]) = dxbTile z w x g d :=
  Cert.RowBlocks.read_four (Val := Elt F) (k := 128) (n := 1024) v f (dxbBlock z w x g d) rfl rfl rfl _ _ _ _
    (dxbRows_congr x0 c0 g0 d0)
    ((dxb_second G1 X1 H1 D1).trans (dxbRows_congr x1 c1 g1 d1))
    ((dxb_third G2 X2 H2 D2).trans (dxbRows_congr x2 c2 g2 d2))
    ((dxb_fourth G3 X3 H3 D3).trans (dxbRows_congr x3 c3 g3 d3)) i0 i1 i2 i3

/-- The four additions to the gains' gradient. -/
theorem dg_added {s S0 S1 S2 S3 : Vec F S8x1024 .f32} (s0 : S0 = s)
    (s1 : S1 = k0_pay12 (k0_pay8 S0) (k0_pay9 X0 H0) (k0_pay10 X0 H0) (k0_pay11 X0 H0))
    (s2 : S2 = k0_pay18 X1 (k0_pay15 X1) H1 S1) (s3 : S3 = k0_pay25 (k0_pay24 X2) H2 S2)
    (x0 : X0 = rows128 x 0 (by omega)) (x1 : X1 = rows128 x 1 (by omega)) (x2 : X2 = rows128 x 2 (by omega)) (x3 : X3 = rows128 x 3 (by omega))
    (c0 : H0 = dhRows z w 0 0 (by omega) (by omega)) (c1 : H1 = dhRows z w 0 1 (by omega) (by omega))
    (c2 : H2 = dhRows z w 1 0 (by omega) (by omega)) (c3 : H3 = dhRows z w 1 1 (by omega) (by omega)) :
    k0_pay1 (k0_pay32 S3) (k0_pay33 X3 H3) (k0_pay34 X3 H3) (k0_pay35 X3 H3) = dgTile z w x s :=
  (dg_fourth X3 H3 S3).trans (dgRows_congr (s3.trans ((dg_third X2 H2 S2).trans (dgRows_congr (s2.trans
    (dgRows_congr (s1.trans ((dg_first X0 H0 S0).trans (dgRows_congr s0 x0 c0))) x1 c1)) x2 c2))) x3 c3)

end stores

section loads
variable {z w x g d}
variable {κ κ' κ'' : Kind} {sp sp' sp'' : Space}

/-- A half of the tile's products, from the loads of the cotangent and the weights. -/
theorem half_loaded {u : View sig κ sp S512x2560 .bf16} {v : View sig κ' sp' S2560x1024 .bf16} {fv : v.ty.Contents (Elt F)} (hv : v.read (Elt F) fv = w)
    (j : ℕ) (h : 256 * j + 256 ≤ 512) {i i'} :
    k0_pay5 (u.readCov [⟨Rect.whole S512x2560, z⟩] (Rect.unit (s := S512x2560) ![256 * j, 0] S256x2560.size i).toLoadRect)
      (View.readAt (Elt F) v (Rect.unit (s := S2560x1024) ![0, 0] S2560x1024.size i').toLoadRect fv) = dhHalf z w j h :=
  congr (congrArg k0_pay5 (Cert.RowBlocks.readCov_whole (Val := Elt F) (m := 512) (n := 2560) (k := 256) (o := 256 * j) u z i h))
    ((Cert.Blocks.readAt_whole (Val := Elt F) Cert.Blocks.hz i' v fv).trans hv)

/-- 128 rows of it, loaded from the scratch. -/
theorem dh_loaded {v : View sig κ sp S512x1024 .f32} {P : Vec F S256x1024 .f32} {L} (j o b : ℕ) (hb : b = 256 * j) (h : 256 * j + 256 ≤ 512) (ho : 128 * o + 128 ≤ 256)
    (hP : P = dhHalf z w j h) {i i'} :
    v.readCov (⟨Rect.unit (s := S512x1024) ![b, 0] S256x1024.size i, P⟩ :: L) (Rect.unit (s := S512x1024) ![b + 128 * o, 0] S128x1024.size i').toLoadRect
      = dhRows z w j o h ho := by
  subst hP
  exact Cert.RowBlocks.readCov_within (Val := Elt F) (m := 512) (n := 1024) (K := 256) (k := 128) (b := b) (o := 128 * o) v _ L i i' ho

/-- 128 rows of the tile, loaded. -/
theorem rows_loaded {v : View sig κ sp S512x1024 .f32} {f : v.ty.Contents (Elt F)} (hv : v.read (Elt F) f = x) (s : ℕ) (h : 128 * s + 128 ≤ 512) {i} :
    View.readAt (Elt F) v (Rect.unit (s := S512x1024) ![128 * s, 0] S128x1024.size i).toLoadRect f = rows128 x s h :=
  Cert.RowBlocks.readAt_rows (Val := Elt F) (m := 512) (n := 1024) (k := 128) (o := 128 * s) v f i h x hv

end loads

end Cert.DhMixIdeal.Value
end
-- ==== Proof.DhMixPay.lean ====
/-
  One point's arithmetic over the real numbers: where the blocks it reads hold real numbers, each of the values it stores
  is the real formula of its row, and the gains' gradient grows by a sum over the rows.
-/
module

public import Idealize.ShloMosaic.Lib.Pointwise
public import proofs.«01_k».proof.Proof.DhMixPoint
public import proofs.«01_k».proof.Proof.NormGrad

@[expose] public section

set_option maxRecDepth 16384

noncomputable section

open Idealize.ShloMosaic Idealize.ShloMosaic.TcCoe Idealize.SL.Sem

namespace Cert.DhMixIdeal.Value

open Cert.DhMixIdeal Cert.DhMixIdeal.Gen Cert.RealLaws Cert.Rows

section Rows128

variable (x dh d : Vec Ideal S128x1024 .f32) (g : Vec Ideal S1x1024 .f32) (xr hr dr : ℕ → Fin 1024 → ℝ) (gr : Fin 1024 → ℝ)

theorem pay6_real (hx : ∀ (r : Fin 128) j, x (ix2 r j) = (xr r j : EReal)) (r : Fin 128) :
    k0_pay6 (F := Ideal) x (ix2 r 0) = (rinv (xr r) : EReal) := by
  pointwise [k0_pay6]
  simp only [hx]
  exact rsqrt_ms _

theorem pay7_real (hx : ∀ (r : Fin 128) j, x (ix2 r j) = (xr r j : EReal)) (r : Fin 128) (j : Fin 1024) :
    k0_pay7 (F := Ideal) x (ix2 r j) = (xn (xr r) j : EReal) := by
  pointwise [k0_pay7]
  rw [hx, pay6_real x xr hx, ← EReal.coe_mul]
  rfl

theorem pay17_real (hx : ∀ (r : Fin 128) j, x (ix2 r j) = (xr r j : EReal)) (r : Fin 128) (j : Fin 1024) :
    k0_pay17 (F := Ideal) x (k0_pay15 x) (ix2 r j) = (xn (xr r) j : EReal) := by
  rw [show k0_pay17 (F := Ideal) x (k0_pay15 x) = k0_pay7 x from rfl]
  exact pay7_real x xr hx r j

/-- The gains' gradient of 128 rows, eight rows apart, added to the block of partial sums. -/
theorem dgRows_real (hx : ∀ (r : Fin 128) j, x (ix2 r j) = (xr r j : EReal)) (hh : ∀ (r : Fin 128) j, dh (ix2 r j) = (hr r j : EReal))
    (s : Vec Ideal S8x1024 .f32) (u : Fin 8) (j : Fin 1024) :
    dgRows s x dh (ix2 u j)
      = s (ix2 u j) + ((∑ a ∈ Finset.range 16, hr (8 * a + u) j * xn (xr (8 * a + u)) j : ℝ) : EReal) := by
  unfold dgRows
  pointwise [k0_pay18]
  simp only [pay17_real x xr hx, hh, ← EReal.coe_mul, ← EReal.coe_add]
  simp [Finset.sum_range_succ]

/-- The rows' gradient. -/
theorem dxRows_real (hx : ∀ (r : Fin 128) j, x (ix2 r j) = (xr r j : EReal)) (hh : ∀ (r : Fin 128) j, dh (ix2 r j) = (hr r j : EReal))
    (hg : ∀ j, g (ix2 0 j) = (gr j : EReal)) (hd : ∀ (r : Fin 128) j, d (ix2 r j) = (dr r j : EReal)) (r : Fin 128) (j : Fin 1024) :
    dxRows x dh g d (ix2 r j) = (dnorm (xr r) (hr r) gr (dr r) j : EReal) := by
  unfold dxRows
  pointwise [k0_pay13]
  simp only [pay6_real x xr hx, pay7_real x xr hx, hh, hg, hd, ← EReal.coe_mul, coe_sum,
    show Ideal.ofBits .f32 1149239296#32 = _ from ofBits_1024]
  rw [div_coe _ _ (by norm_num), ← EReal.coe_mul, ← EReal.coe_sub, ← EReal.coe_mul, ← EReal.coe_add]
  rfl

theorem dxbRows_real (hx : ∀ (r : Fin 128) j, x (ix2 r j) = (xr r j : EReal)) (hh : ∀ (r : Fin 128) j, dh (ix2 r j) = (hr r j : EReal))
    (hg : ∀ j, g (ix2 0 j) = (gr j : EReal)) (hd : ∀ (r : Fin 128) j, d (ix2 r j) = (dr r j : EReal)) (r : Fin 128) (j : Fin 1024) :
    dxbRows x dh g d (ix2 r j) = (dnorm (xr r) (hr r) gr (dr r) j : EReal) :=
  dxRows_real x dh d g xr hr dr gr hx hh hg hd r j

end Rows128

section Tile

variable (z : Vec Ideal S512x2560 .bf16) (w : Vec Ideal S2560x1024 .bf16) (x : Vec Ideal S512x1024 .f32) (g : Vec Ideal S1x1024 .f32) (d : Vec Ideal S512x1024 .f32)
  (Z : ℕ → Fin 2560 → ℝ) (W xr dr : ℕ → Fin 1024 → ℝ) (gr : Fin 1024 → ℝ)

theorem rows128_real (hx : ∀ (r : Fin 512) j, x (ix2 r j) = (xr r j : EReal)) (s : ℕ) (h : 128 * s + 128 ≤ 512) (r : Fin 128) (j : Fin 1024) :
    rows128 (F := Ideal) (e := .f32) x s h (ix2 r j) = (xr (128 * s + r) j : EReal) := by
  have hr : (r : ℕ) < 128 := r.isLt
  exact hx ⟨128 * s + r, by omega⟩ j

variable (hz : ∀ (r : Fin 512) k, z (ix2 r k) = (Z r k : EReal)) (hw : ∀ (k : Fin 2560) j, w (ix2 k j) = (W k j : EReal))
include hz hw

theorem dhHalf_real (q : ℕ) (h : 256 * q + 256 ≤ 512) (r : Fin 256) (j : Fin 1024) :
    dhHalf (F := Ideal) z w q h (ix2 r j) = (mulRow W (Z (256 * q + r)) j : EReal) := by
  have hr : (r : ℕ) < 256 := r.isLt
  have e (k : Fin 2560) : RowLoads.rowsFrom (m := 512) (α := Elt Ideal .bf16) 256 z (256 * q) h (ix2 r k) = (Z (256 * q + r) k : EReal) :=
    hz ⟨256 * q + r, by omega⟩ k
  unfold dhHalf
  generalize RowLoads.rowsFrom (m := 512) (α := Elt Ideal .bf16) 256 z (256 * q) h = y at e
  pointwise [k0_pay5]
  simp only [e, hw, ← EReal.coe_mul, coe_sum]
  rfl

theorem dhRows_real (q o : ℕ) (h : 256 * q + 256 ≤ 512) (ho : 128 * o + 128 ≤ 256) (r : Fin 128) (j : Fin 1024) :
    dhRows (F := Ideal) z w q o h ho (ix2 r j) = (mulRow W (Z (128 * (2 * q + o) + r)) j : EReal) := by
  have hr : (r : ℕ) < 128 := r.isLt
  refine (dhHalf_real z w Z W hz hw q h ⟨128 * o + r, by omega⟩ j).trans ?_
  rw [show 256 * q + ((⟨128 * o + r, by omega⟩ : Fin 256) : ℕ) = 128 * (2 * q + o) + r from by
    show 256 * q + (128 * o + r) = _
    omega]

variable (hx : ∀ (r : Fin 512) j, x (ix2 r j) = (xr r j : EReal))
include hx

/-- What a tile adds to the gains' gradient. -/
theorem dgTile_real (s : Vec Ideal S8x1024 .f32) (u : Fin 8) (j : Fin 1024) :
    dgTile z w x s (ix2 u j) = s (ix2 u j) + ((∑ q ∈ Finset.range 4, ∑ a ∈ Finset.range 16,
      mulRow W (Z (128 * q + (8 * a + u))) j * xn (xr (128 * q + (8 * a + u))) j : ℝ) : EReal) := by
  have step (q o : ℕ) (h : 256 * q + 256 ≤ 512) (ho : 128 * o + 128 ≤ 256) (hs : 128 * (2 * q + o) + 128 ≤ 512) (s : Vec Ideal S8x1024 .f32) :
      dgRows s (rows128 x (2 * q + o) hs) (dhRows z w q o h ho) (ix2 u j) = s (ix2 u j)
        + ((∑ a ∈ Finset.range 16, mulRow W (Z (128 * (2 * q + o) + (8 * a + u))) j * xn (xr (128 * (2 * q + o) + (8 * a + u))) j : ℝ) : EReal) :=
    dgRows_real _ _ (fun r => xr (128 * (2 * q + o) + r)) (fun r => mulRow W (Z (128 * (2 * q + o) + r)))
      (rows128_real x xr hx _ hs) (dhRows_real z w Z W hz hw q o h ho) s u j
  unfold dgTile
  refine (step 1 1 (by omega) (by omega) (by omega) _).trans ?_
  refine (congrArg (· + _) (step 1 0 (by omega) (by omega) (by omega) _)).trans ?_
  refine (congrArg (· + _ + _) (step 0 1 (by omega) (by omega) (by omega) _)).trans ?_
  refine (congrArg (· + _ + _ + _) (step 0 0 (by omega) (by omega) (by omega) _)).trans ?_
  simp only [Finset.sum_range_succ _ 3, Finset.sum_range_succ _ 2, Finset.sum_range_succ _ 1, Finset.sum_range_one, EReal.coe_add, add_assoc]

variable (hg : ∀ j, g (ix2 0 j) = (gr j : EReal)) (hd : ∀ (r : Fin 512) j, d (ix2 r j) = (dr r j : EReal))
include hg hd

theorem dxBlock_real (s : ℕ) (hs : s < 4) (r : Fin 128) (j : Fin 1024) :
    dxBlock z w x g d s (ix2 r j) = (dnorm (xr (128 * s + r)) (mulRow W (Z (128 * s + r))) gr (dr (128 * s + r)) j : EReal) := by
  have step (q o : ℕ) (h : 256 * q + 256 ≤ 512) (ho : 128 * o + 128 ≤ 256) (hs : 128 * (2 * q + o) + 128 ≤ 512) :
      dxRows (rows128 x (2 * q + o) hs) (dhRows z w q o h ho) g (rows128 d (2 * q + o) hs) (ix2 r j)
        = (dnorm (xr (128 * (2 * q + o) + r)) (mulRow W (Z (128 * (2 * q + o) + r))) gr (dr (128 * (2 * q + o) + r)) j : EReal) :=
    dxRows_real _ _ _ g (fun r => xr (128 * (2 * q + o) + r)) (fun r => mulRow W (Z (128 * (2 * q + o) + r))) (fun r => dr (128 * (2 * q + o) + r)) gr
      (rows128_real x xr hx _ hs) (dhRows_real z w Z W hz hw q o h ho) hg (rows128_real d dr hd _ hs) r j
  match s, hs with
  | 0, _ => exact step 0 0 (by omega) (by omega) (by omega)
  | 1, _ => exact step 0 1 (by omega) (by omega) (by omega)
  | 2, _ => exact step 1 0 (by omega) (by omega) (by omega)
  | 3, _ => exact step 1 1 (by omega) (by omega) (by omega)

/-- A tile's gradient, row by row. -/
theorem dxTile_real (r : Fin 512) (j : Fin 1024) :
    dxTile z w x g d (ix2 r j) = (dnorm (xr r) (mulRow W (Z r)) gr (dr r) j : EReal) := by
  have hr : (r : ℕ) < 512 := r.isLt
  refine (dxBlock_real z w x g d Z W xr dr gr hz hw hx hg hd (r.val / 128) (by omega) ⟨r.val % 128, Nat.mod_lt _ (by decide)⟩ j).trans ?_
  rw [show 128 * (r.val / 128) + ((⟨r.val % 128, Nat.mod_lt _ (by decide)⟩ : Fin 128) : ℕ) = r.val from Nat.div_add_mod _ _]

omit hz hw hx hg hd in
/-- The narrow type stores the same real numbers. -/
theorem dxbTile_eq : dxbTile z w x g d = (dxTile z w x g d : (S512x1024 : Shape).Idx → EReal) := by
  funext y
  have e (s : ℕ) : dxbBlock z w x g d s = (dxBlock z w x g d s : (S128x1024 : Shape).Idx → EReal) := by
    match s with
    | 0 => rfl
    | 1 => rfl
    | 2 => rfl
    | _ + 3 => rfl
  exact congrFun (e _) _

end Tile

end Cert.DhMixIdeal.Value

end
-- ==== Proof.DhMixRing.lean ====
/-
  The mixer's backward projection streams the cotangent's row blocks through three slots of a scratch buffer. This
  module names the slots, the blocks and the semaphores, says what is held of each between two grid points, and turns
  what the launch hands over into that state and back.
-/
module

public import proofs.«01_k».proof.Proof.Gen.DhMixIdeal.Skeleton
public import proofs.«01_k».proof.Proof.Gen.DhMixIdeal.Launch
public import proofs.«01_k».proof.Proof.Gen.DhMixIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhMixIdeal.Value

open Cert.DhMixIdeal Cert.DhMixIdeal.Gen

variable {F : FTy → Type} [FloatOps F]

local notation "𝕄" => MT nD τ sig Unit (Elt F) ℕ (Pipeline.UD sig nD τ) ℕ

/-! ## Names -/

abbrev dhScr : Memref sig .tc .vmem S512x1024 .f32 := Memref.whole cc0_scratch0
abbrev ringScr : Memref sig .tc .vmem S3x1x512x2560 .bf16 := Memref.whole cc0_scratch1
abbrev dzArr : Memref sig .tc .hbm S1x4096x2560 .bf16 := Memref.whole main_arg0
abbrev depArr : Memref sig .tc .hbm S8x128 .f32 := Memref.whole main_arg5

theorem slot_inb (s : Fin 3) : ∀ a, (![s.val, 0, 0, 0] : Fin 4 → Nat) a + S1x1x512x2560.size a ≤ S3x1x512x2560.size a := by
  have := s.isLt; intro a; fin_cases a <;> simp <;> omega
theorem block_inb (b : Fin 8) : ∀ a, (![0, 512 * b.val, 0] : Fin 3 → Nat) a + S1x512x2560.size a ≤ S1x4096x2560.size a := by
  have := b.isLt; intro a; fin_cases a <;> simp <;> omega
theorem cell_inb (s : Fin 3) : ∀ a, (![s.val, 0] : Fin 2 → Nat) a + S1x1.size a ≤ S3x1.size a := by
  have := s.isLt; intro a; fin_cases a <;> simp <;> omega

/-- Slot `s` of the scratch buffer, block `b` of the cotangent's rows, and the semaphore of slot `s`. -/
def slot (s : Fin 3) : Memref sig .tc .vmem S512x2560 .bf16 :=
  (ringScr.slice (Rect.unit (s := S3x1x512x2560) ![s.val, 0, 0, 0] S1x1x512x2560.size (slot_inb s)) (fun _ => rfl)).squeeze S512x2560 squeezes_S1x1x512x2560_S512x2560
def block (b : Fin 8) : Memref sig .tc .hbm S512x2560 .bf16 :=
  (dzArr.slice (Rect.unit (s := S1x4096x2560) ![0, 512 * b.val, 0] S1x512x2560.size (block_inb b)) (fun _ => rfl)).squeeze S512x2560 squeezes_S1x512x2560_S512x2560
def cell (s : Fin 3) : DmaSems sig S_ :=
  (cc0_scratch2.slice (Rect.unit (s := S3x1) ![s.val, 0] S1x1.size (cell_inb s))).squeeze S_ squeezes_S1x1_S_
abbrev cellLoc (s : Fin 3) : SemLoc sig := SemLoc.dma (cell s).sem

/-- The three semaphores, by number. -/
abbrev ownSem : Fin 3 → SemLoc sig := fun j => (![SemLoc.dma 11, SemLoc.dma 12, SemLoc.dma 13] : Fin 3 → SemLoc sig) j
theorem cellLoc_eq : ∀ s : Fin 3, cellLoc s = ownSem s := by decide
theorem ownSem_facts : Pipeline.OwnSemFacts spec0 ownSem := by decide

/-! ## What is held of each -/

/-- The type of a buffer's contents, and a buffer held whole. -/
abbrev Held (c : Dev nD) {sp : Space} {S : Shape} {e : EltTy} (M : Memref sig .tc sp S e) : Type := Buf (Elt F) (M.view.loc (c : Thread nD τ))
abbrev whole (c : Dev nD) {sp : Space} {S : Shape} {e : EltTy} (M : Memref sig .tc sp S e) (f : Held (F := F) c M) : sProp 𝕄 :=
  M.view.loc (c : Thread nD τ) ↦{fullShare} f

section Ring
variable (c : Dev nD) (W : Held (F := F) c dzArr)

/-- Each slot carries a read share of the cotangent, so that a copy into it may borrow any block. -/
abbrev share (s : Fin 3) : PosShare TreeShare := if s.val = 0 then fullShare.left else if s.val = 1 then fullShare.right.left else fullShare.right.right
abbrev slotPt (s : Fin 3) (f : Held (F := F) c (slot s)) : sProp 𝕄 := (slot s).view.loc (c : Thread nD τ) ↦[(slot s).view.set]{fullShare} f
abbrev cellPt (s : Fin 3) : sProp 𝕄 := semVal ((c : Thread nD τ), cellLoc s) 0
abbrev lent (s : Fin 3) (b : Fin 8) : sProp 𝕄 := (block b).view.loc (c : Thread nD τ) ↦[(block b).view.set]{share s} W
/-- The rest of the slot's share, folded away from the executor. -/
def unlent (s : Fin 3) (b : Fin 8) : sProp 𝕄 := ((c : Thread nD τ).loc main_arg0) ↦[Finset.univ \ (block b).view.set]{share s} W
abbrev shared (s : Fin 3) : sProp 𝕄 := ((c : Thread nD τ).loc main_arg0) ↦[Finset.univ]{share s} W
/-- The rows of block `b`, and a slot's contents once they have landed in it. -/
abbrev rowsOf (b : Fin 8) : Vec F S512x2560 .bf16 := (block b).view.read (Elt F) W
abbrev landed (s : Fin 3) (b : Fin 8) (f : Held (F := F) c (slot s)) : Held (F := F) c (slot s) :=
  (slot s).view.writes (Elt F) f [⟨Rect.whole S512x2560, ReadAs.same.apply ((block b).view.read (Elt F) W)⟩]
abbrev copying (s : Fin 3) (b : Fin 8) (f : Held (F := F) c (slot s)) : sProp 𝕄 :=
  Transfers.Flight countersEmb (c : Thread nD τ) (cellLoc s) default ((slot s).view.amount (cellLoc s))
    iprop(slotPt c s (landed c W s b f) ∗ lent c W s b)
/-- A slot at rest has its share of the cotangent whole; a slot being filled has the rest of it. -/
abbrev resting (s : Fin 3) (f : Held (F := F) c (slot s)) : sProp 𝕄 := iprop(slotPt c s f ∗ shared c W s)
abbrev filling (s : Fin 3) (b : Fin 8) (f : Held (F := F) c (slot s)) : sProp 𝕄 := iprop(copying c W s b f ∗ unlent c W s b)
abbrev nothing (b : Fin 8) : sProp 𝕄 := iprop(emp)

/-- The ring before point `k`: at rest before the first one, then blocks `k` and `k + 1` on their way. -/
def ringAt (k : ℕ) : sProp 𝕄 :=
  if k = 0 then Ring.At₀ (cellPt c) (resting c W) nothing else Ring.At 2 (cellPt c) (resting c W) nothing (filling c W) k

omit [FloatOps F] in
theorem cellPt_eq (s : Fin 3) : cellPt (F := F) c s = semVal ((c : Thread nD τ), ownSem s) 0 :=
  congrArg (fun x => (semVal ((c : Thread nD τ), x) 0 : sProp 𝕄)) (cellLoc_eq s)

/-- A share of the cotangent is one block's elements and the rest. -/
theorem shared_split (s : Fin 3) (b : Fin 8) : shared (F := F) c W s ⊣⊢ iprop(lent c W s b ∗ unlent c W s b) := by
  unfold unlent; exact pointsTo_split_subset (Finset.subset_univ _)
/-- The cotangent whole is the three shares. -/
theorem whole_split : (whole c dzArr W : sProp 𝕄) ⊣⊢ iprop(shared c W 0 ∗ shared c W 1 ∗ shared c W 2) := by
  refine ⟨?_, ?_⟩
  · iintro H
    ihave H' := (pointsTo_share (PosShare.mem_left_op_right fullShare)).1 $$ H
    icases H' with ⟨Ha, Hb⟩
    ihave H'' := (pointsTo_share (PosShare.mem_left_op_right fullShare.right)).1 $$ Hb
    icases H'' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-! ## The slots are the scratch buffer -/

abbrev slotSet (s : Fin 3) : Finset S3x1x512x2560.Idx := (Rect.unit (s := S3x1x512x2560) ![s.val, 0, 0, 0] S1x1x512x2560.size (slot_inb s)).set
theorem slotSet_eq (s : Fin 3) : (slot s).view.set = slotSet s := by
  simp only [slot, Memref.view_squeeze, View.set_reshape]; exact View.set_slice_whole _ _
theorem slots_disjoint (s s' : Fin 3) (h : s ≠ s') : Disjoint (slotSet s) (slotSet s') :=
  Ring.lead_disjoint (s := S3x1x512x2560) (0 : Fin 4) 1 (fun s : Fin 3 => (![s.val, 0, 0, 0] : Fin 4 → Nat)) S1x1x512x2560.size slot_inb (fun s => by simp) rfl s s' h
theorem slots_cover : Finset.univ.biUnion slotSet = Finset.univ :=
  Ring.lead_cover (s := S3x1x512x2560) (0 : Fin 4) 1 (fun s : Fin 3 => (![s.val, 0, 0, 0] : Fin 4 → Nat)) S1x1x512x2560.size slot_inb (fun s => by simp)
    (fun s a ha => by fin_cases a <;> first | exact absurd rfl ha | rfl) rfl (fun a ha => by fin_cases a <;> first | exact absurd rfl ha | rfl) rfl
theorem slotPt_eq (s : Fin 3) (f) : slotPt (F := F) c s f = (((c : Thread nD τ).loc cc0_scratch1) ↦[slotSet s]{fullShare} f : sProp 𝕄) := by
  unfold slotPt; rw [slotSet_eq]; rfl

set_option maxHeartbeats 1000000 in
theorem slots_split : iprop(∃ d, owns (c : Thread nD τ) ringScr fullShare d)
    ⊢ (iprop((∃ f, slotPt (F := F) c 0 f) ∗ (∃ f, slotPt (F := F) c 1 f) ∗ ∃ f, slotPt (F := F) c 2 f) : sProp 𝕄) := by
  simp only [ringScr, owns_whole]
  exact Ring.slots3_split (U := Pipeline.UD sig nD τ) (ℓ := (c : Thread nD τ).loc cc0_scratch1) (q := fullShare) slotSet slots_disjoint slots_cover
    (slotPt c 0) (slotPt c 1) (slotPt c 2) (slotPt_eq c 0) (slotPt_eq c 1) (slotPt_eq c 2)
set_option maxHeartbeats 1000000 in
theorem slots_join : (iprop((∃ f, slotPt (F := F) c 0 f) ∗ (∃ f, slotPt (F := F) c 1 f) ∗ ∃ f, slotPt (F := F) c 2 f) : sProp 𝕄)
    ⊢ iprop(∃ d, owns (c : Thread nD τ) ringScr fullShare d) := by
  simp only [ringScr, owns_whole]
  exact Ring.slots3_join (U := Pipeline.UD sig nD τ) (ℓ := (c : Thread nD τ).loc cc0_scratch1) (q := fullShare) slotSet slots_disjoint slots_cover
    (slotPt c 0) (slotPt c 1) (slotPt c 2) (slotPt_eq c 0) (slotPt_eq c 1) (slotPt_eq c 2)

/-! ## Into the ring and out of it -/

/-- The scratch buffer, the semaphores at zero and the cotangent. -/
abbrev atRest : sProp 𝕄 := iprop((∃ d, owns (c : Thread nD τ) ringScr fullShare d)
  ∗ (semVal ((c : Thread nD τ), ownSem 0) 0 ∗ semVal ((c : Thread nD τ), ownSem 1) 0 ∗ semVal ((c : Thread nD τ), ownSem 2) 0) ∗ whole c dzArr W)

theorem ring_in : atRest c W ⊢ ringAt c W 0 := by
  unfold ringAt; rw [if_pos rfl]; unfold Ring.At₀
  rw [Ring.bigSep_fin3]
  simp only [Ring.free, cellPt_eq]
  iintro ⟨HS, ⟨H0, H1, H2⟩, HW⟩
  iapply Ring.with_homes₀
  ihave HS' := (slots_split (F := F) c) $$ HS
  icases HS' with ⟨⟨%d0, HS0⟩, ⟨%d1, HS1⟩, ⟨%d2, HS2⟩⟩
  ihave HW' := (whole_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2

theorem ring_out : ringAt c W 8 ⊢ atRest c W := by
  unfold ringAt; rw [if_neg (by decide)]
  iintro H
  ihave H' := (Ring.free3_of_At_last _ _ _ _) $$ H
  simp only [Ring.free, cellPt_eq]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_join (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c W).2; isplitl [HW0]; · iexact HW0
    isplitl [HW1]; · iexact HW1
    iexact HW2

end Ring

/-! ## The point's slots, blocks and semaphores -/

/-- The first point, and the points that start a copy. -/
abbrev isFirst (i : grid0.Coords) : Prop := k0_cond1 i = 1#1
abbrev starts (i : grid0.Coords) : Prop := k0_cond2 i = 1#1
theorem first_iff : ∀ t : Fin cfg0.N, isFirst (grid0.coords t) ↔ t.val = 0 := (by decide +kernel : ∀ t : Fin grid0.N, isFirst (grid0.coords t) ↔ t.val = 0)
theorem starts_iff : ∀ t : Fin cfg0.N, starts (grid0.coords t) ↔ t.val < 6 := (by decide +kernel : ∀ t : Fin grid0.N, starts (grid0.coords t) ↔ t.val < 6)

section Canon
omit [FloatOps F]

instance : NeZero grid0.N := ⟨by rw [N_0]; decide⟩

theorem slot_of {o : Fin 4 → Nat} {h} {s : Fin 3} (e : o = ![s.val, 0, 0, 0]) :
    (ringScr.slice (Rect.unit (s := S3x1x512x2560) o S1x1x512x2560.size h) (fun _ => rfl)).squeeze S512x2560 squeezes_S1x1x512x2560_S512x2560 = slot s :=
  congrArg (fun M : Memref sig .tc .vmem S1x1x512x2560 .bf16 => M.squeeze S512x2560 squeezes_S1x1x512x2560_S512x2560) (Memref.slice_unit_congr _ e _ _ (fun _ => rfl) (fun _ => rfl))
theorem block_of {o : Fin 3 → Nat} {h} {b : Fin 8} (e : o = ![0, 512 * b.val, 0]) :
    (dzArr.slice (Rect.unit (s := S1x4096x2560) o S1x512x2560.size h) (fun _ => rfl)).squeeze S512x2560 squeezes_S1x512x2560_S512x2560 = block b :=
  congrArg (fun M : Memref sig .tc .hbm S1x512x2560 .bf16 => M.squeeze S512x2560 squeezes_S1x512x2560_S512x2560) (Memref.slice_unit_congr _ e _ _ (fun _ => rfl) (fun _ => rfl))
theorem cell_of {o : Fin 2 → Nat} {h} {s : Fin 3} (e : o = ![s.val, 0]) :
    (cc0_scratch2.slice (Rect.unit (s := S3x1) o S1x1.size h)).squeeze S_ squeezes_S1x1_S_ = cell s :=
  congrArg (fun A : DmaSems sig S1x1 => A.squeeze S_ squeezes_S1x1_S_) (SemArray.slice_unit_congr _ e _ _)

variable (t : Fin grid0.N)

theorem off_first : ∀ t : Fin grid0.N, isFirst (grid0.coords t) →
    (![0, 0, 0, 0] : Fin 4 → Nat) = ![(Ring.sl 3 t.val).val, 0, 0, 0] ∧ (![0, 0] : Fin 2 → Nat) = ![(Ring.sl 3 t.val).val, 0]
      ∧ (![0, 0, 0] : Fin 3 → Nat) = ![0, 512 * (Ring.bk 8 t.val).val, 0]
      ∧ (![1, 0, 0, 0] : Fin 4 → Nat) = ![(Ring.sl 3 (t.val + 1)).val, 0, 0, 0] ∧ (![1, 0] : Fin 2 → Nat) = ![(Ring.sl 3 (t.val + 1)).val, 0]
      ∧ (![0, 512, 0] : Fin 3 → Nat) = ![0, 512 * (Ring.bk 8 (t.val + 1)).val, 0] := by decide +kernel
theorem off_next : ∀ t : Fin grid0.N, k0_off2 (grid0.coords t) = ![(Ring.sl 3 (t.val + 2)).val, 0, 0, 0] ∧ k0_off1 (grid0.coords t) = ![(Ring.sl 3 (t.val + 2)).val, 0]
    ∧ (starts (grid0.coords t) → k0_off3 (grid0.coords t) = ![0, 512 * (Ring.bk 8 (t.val + 2)).val, 0]) := by decide +kernel
theorem off_here : ∀ t : Fin grid0.N, k0_off5 (grid0.coords t) = ![(Ring.sl 3 t.val).val, 0, 0, 0] ∧ k0_off4 (grid0.coords t) = ![(Ring.sl 3 t.val).val, 0] := by decide +kernel

@[sl_canon] theorem slot_next (h : starts (grid0.coords t)) :
    (ringScr.slice (Rect.unit (s := S3x1x512x2560) (k0_off2 (grid0.coords t)) S1x1x512x2560.size (k0_off2_inb (grid0.coords t) h)) (fun _ => rfl)).squeeze S512x2560 squeezes_S1x1x512x2560_S512x2560 = slot (Ring.sl 3 (t.val + 2)) :=
  slot_of (off_next t).1
@[sl_canon] theorem cell_next (h : starts (grid0.coords t)) :
    (cc0_scratch2.slice (Rect.unit (s := S3x1) (k0_off1 (grid0.coords t)) S1x1.size (k0_off1_inb (grid0.coords t) h))).squeeze S_ squeezes_S1x1_S_ = cell (Ring.sl 3 (t.val + 2)) :=
  cell_of (off_next t).2.1
@[sl_canon] theorem block_next (h : starts (grid0.coords t)) :
    (dzArr.slice (Rect.unit (s := S1x4096x2560) (k0_off3 (grid0.coords t)) S1x512x2560.size (k0_off3_inb (grid0.coords t) h)) (fun _ => rfl)).squeeze S512x2560 squeezes_S1x512x2560_S512x2560 = block (Ring.bk 8 (t.val + 2)) :=
  block_of ((off_next t).2.2 h)
@[sl_canon] theorem slot_here :
    (ringScr.slice (Rect.unit (s := S3x1x512x2560) (k0_off5 (grid0.coords t)) S1x1x512x2560.size (k0_off5_inb (grid0.coords t))) (fun _ => rfl)).squeeze S512x2560 squeezes_S1x1x512x2560_S512x2560 = slot (Ring.sl 3 t.val) :=
  slot_of (off_here t).1
@[sl_canon] theorem cell_here :
    (cc0_scratch2.slice (Rect.unit (s := S3x1) (k0_off4 (grid0.coords t)) S1x1.size (k0_off4_inb (grid0.coords t)))).squeeze S_ squeezes_S1x1_S_ = cell (Ring.sl 3 t.val) :=
  cell_of (off_here t).2

end Canon
end Cert.DhMixIdeal.Value
end
-- ==== Proof.DhMixBody.lean ====
/-
  One point of the mixer's backward projection: the run of its body.
-/
module

public import proofs.«01_k».proof.Proof.DhMixRing
public import proofs.«01_k».proof.Proof.DhMixPoint

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhMixIdeal.Value

open Cert.DhMixIdeal Cert.DhMixIdeal.Gen

variable {F : FTy → Type} [FloatOps F]

local notation "𝕄" => MT nD τ sig Unit (Elt F) ℕ (Pipeline.UD sig nD τ) ℕ

variable (c : Dev nD) (t : Fin cfg0.N)
  (a2 : Memref sig .tc .vmem S2560x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a7 : Memref sig .tc .vmem S512x1024 .f32) (h7 : a7.IsWhole) (a8 : Memref sig .tc .vmem S512x1024 .bf16) (h8 : a8.IsWhole)
  (a9 : Memref sig .tc .vmem S8x1024 .f32) (h9 : a9.IsWhole) (a10 : Memref sig .tc .vmem S512x1024 .f32) (h10 : a10.IsWhole)
  (w : Vec F S2560x1024 .bf16) (x : Vec F S512x1024 .f32) (g : Vec F S1x1024 .f32) (d : Vec F S512x1024 .f32)
  (W : Held (F := F) c dzArr)

/-- The blocks a point reads, in their buffers. -/
abbrev given : sProp 𝕄 :=
  iprop(owns (c : Thread nD τ) a2 fullShare w ∗ owns (c : Thread nD τ) a3 fullShare x ∗ owns (c : Thread nD τ) a4 fullShare g ∗ owns (c : Thread nD τ) a5 fullShare d)

/-- What a point leaves in its output buffers and the scratch, the gains' gradient having stood at `s`. -/
abbrev left (s : Vec F S8x1024 .f32) : sProp 𝕄 :=
  iprop(owns (c : Thread nD τ) a7 fullShare (dxTile (rowsOf c W (Ring.bk 8 t.val)) w x g d) ∗ owns (c : Thread nD τ) a8 fullShare (dxbTile (rowsOf c W (Ring.bk 8 t.val)) w x g d)
    ∗ owns (c : Thread nD τ) a9 fullShare (dgTile (rowsOf c W (Ring.bk 8 t.val)) w x s) ∗ (∃ v, owns (c : Thread nD τ) a10 fullShare v))

set_option maxHeartbeats 8000000 in
/-- A point in the middle. -/
theorem run_middle (hc0 : ¬isFirst (grid0.coords t)) (hc1 : starts (grid0.coords t)) (K : PUnit → sProp 𝕄) (D : Waits sig Unit) (dg : Vec F S8x1024 .f32) :
    iprop(given c a2 a3 a4 a5 w x g d ∗ (∃ v, owns (c : Thread nD τ) a7 fullShare v) ∗ (∃ v, owns (c : Thread nD τ) a8 fullShare v) ∗ owns (c : Thread nD τ) a9 fullShare dg
      ∗ (∃ v, owns (c : Thread nD τ) a10 fullShare v)
      ∗ Ring.inflight (filling c W) (Ring.sl 3 t.val) (Ring.bk 8 t.val) ∗ Ring.inflight (filling c W) (Ring.sl 3 (t.val + 1)) (Ring.bk 8 (t.val + 1))
      ∗ Ring.free (cellPt c) (resting c W) (Ring.sl 3 (t.val + 2)) ∗ owes (c : Thread nD τ) 0 D
      ∗ (iprop(given c a2 a3 a4 a5 w x g d ∗ left c t a7 a8 a9 a10 w x g d W dg
        ∗ Ring.inflight (filling c W) (Ring.sl 3 (t.val + 1)) (Ring.bk 8 (t.val + 1)) ∗ Ring.inflight (filling c W) (Ring.sl 3 (t.val + 2)) (Ring.bk 8 (t.val + 2)) ∗ Ring.free (cellPt c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_mix (grid0.coords t) dzArr (Memref.isWhole_whole _) a2 h2 a3 h3 a4 h4 a5 h5 depArr (Memref.isWhole_whole _) a7 h7 a8 h8 a9 h9 a10 h10 ringScr (Memref.isWhole_whole _) cc0_scratch2) K := by
  haveI : Fact (¬isFirst (grid0.coords t)) := ⟨hc0⟩
  haveI : Fact (starts (grid0.coords t)) := ⟨hc1⟩
  simp only [cc0_dh_mix_eq_skeleton]; unfold cc0_dh_mix_skel
  simp only [k0_part1_eq_skeleton, k0_part2_eq_skeleton, k0_part3_eq_skeleton, k0_part4_eq_skeleton, k0_part5_eq_skeleton, k0_part6_eq_skeleton, k0_part7_eq_skeleton]
  have hcanon := slot_here t
  unfold given left owns Ring.free Ring.inflight
  iintro ⟨⟨⟨%f2, %hf2, H2⟩, ⟨%f3, %hf3, H3⟩, ⟨%f4, %hf4, H4⟩, ⟨%f5, %hf5, H5⟩⟩, ⟨%v7, %f7, -, H7⟩, ⟨%v8, %f8, -, H8⟩, ⟨%f9, %hf9, H9⟩, ⟨%v10, %f10, -, H10⟩,
    ⟨%g0, Hg0, Hu0⟩, ⟨%g1, Hg1, Hu1⟩, ⟨Hc2, ⟨%g2, Hs2, Hw2⟩⟩, HD, Hk⟩
  ihave Hx := (shared_split c W (Ring.sl 3 (t.val + 2)) (Ring.bk 8 (t.val + 2))).1 $$ Hw2
  icases Hx with ⟨Hl2, Hu2⟩
  obtain rfl := h2.eq_unread hf2; obtain rfl := h3.eq_unread hf3; obtain rfl := h4.eq_unread hf4; obtain rfl := h5.eq_unread hf5; obtain rfl := h9.eq_unread hf9
  sl_exec (disch := first | sl_exact hc0 | sl_exact hc1)
  sl_unfold_run_names
  sl_step
  have rx := fun s h i => rows_loaded (v := a3.view) (h3.read_unread x) s h (i := i)
  have rd := fun s h i => rows_loaded (v := a5.view) (h5.read_unread d) s h (i := i)
  have rg := fun i => (Cert.Blocks.readAt_whole (Val := Elt F) Cert.Blocks.hz i a4.view (h4.unread g)).trans (h4.read_unread g)
  have rh := fun j h i i' => half_loaded (z := rowsOf c W (Ring.bk 8 t.val)) (u := (slot (Ring.sl 3 t.val)).view) (v := a2.view) (h2.read_unread w) j h (i := i) (i' := i')
  iapply Hk
  isplitl [H2 H3 H4 H5]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    iexists _; isplitr; swap; · iexact H5
    ipureintro; exact h5.read_unread _
  isplitl [H7 H8 H9 H10]
  · isplitl [H7]
    · iexists _; isplitr; swap; · iexact H7
      ipureintro
      exact dx_stored a7.view f7 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H8]
    · iexists _; isplitr; swap; · iexact H8
      ipureintro
      exact dxb_stored a8.view f8 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H9]
    · iexists _; isplitr; swap; · iexact H9
      ipureintro
      exact (Cert.Blocks.read_cons_whole (Val := Elt F) Cert.Blocks.hz _ a9.view _ _ _).trans (dg_added ((Cert.Blocks.readAt_whole (Val := Elt F) Cert.Blocks.hz _ a9.view _).trans (h9.read_unread dg))
        (Cert.RowBlocks.readCov_last (Val := Elt F) a9.view _ _ _ _) (Cert.RowBlocks.readCov_last (Val := Elt F) a9.view _ _ _ _) (Cert.RowBlocks.readCov_last (Val := Elt F) a9.view _ _ _ _)
        (rx 0 _ _) (rx 1 _ _) (rx 2 _ _) (rx 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _)))
    iexists _; iexists _; isplitr; swap; · iexact H10
    ipureintro; rfl
  isplitl [Hg1 Hu1]
  · iexists _; isplitl [Hg1]; · iexact Hg1
    iexact Hu1
  isplitl [Hc2 Hu2]
  · iexists _; isplitl [Hc2]; · iexact Hc2
    iexact Hu2
  isplitl [Hg0 Hg0_dst Hg0_src Hu0]
  · isplitl [Hg0]; · iexact Hg0
    iexists _
    isplitl [Hg0_dst]; · iexact Hg0_dst
    iapply (shared_split c W (Ring.sl 3 t.val) (Ring.bk 8 t.val)).2
    isplitl [Hg0_src]; · iexact Hg0_src
    iexact Hu0
  iexists _; iexact HD

set_option maxHeartbeats 8000000 in
/-- One of the last points, which starts no copy. -/
theorem run_last (hc0 : ¬isFirst (grid0.coords t)) (hc1 : ¬starts (grid0.coords t)) (K : PUnit → sProp 𝕄) (D : Waits sig Unit) (dg : Vec F S8x1024 .f32) :
    iprop(given c a2 a3 a4 a5 w x g d ∗ (∃ v, owns (c : Thread nD τ) a7 fullShare v) ∗ (∃ v, owns (c : Thread nD τ) a8 fullShare v) ∗ owns (c : Thread nD τ) a9 fullShare dg
      ∗ (∃ v, owns (c : Thread nD τ) a10 fullShare v)
      ∗ Ring.inflight (filling c W) (Ring.sl 3 t.val) (Ring.bk 8 t.val) ∗ owes (c : Thread nD τ) 0 D
      ∗ (iprop(given c a2 a3 a4 a5 w x g d ∗ left c t a7 a8 a9 a10 w x g d W dg
        ∗ Ring.free (cellPt c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_mix (grid0.coords t) dzArr (Memref.isWhole_whole _) a2 h2 a3 h3 a4 h4 a5 h5 depArr (Memref.isWhole_whole _) a7 h7 a8 h8 a9 h9 a10 h10 ringScr (Memref.isWhole_whole _) cc0_scratch2) K := by
  haveI : Fact (¬isFirst (grid0.coords t)) := ⟨hc0⟩
  haveI : Fact (¬starts (grid0.coords t)) := ⟨hc1⟩
  simp only [cc0_dh_mix_eq_skeleton]; unfold cc0_dh_mix_skel
  simp only [k0_part1_eq_skeleton, k0_part2_eq_skeleton, k0_part3_eq_skeleton, k0_part4_eq_skeleton, k0_part5_eq_skeleton, k0_part6_eq_skeleton, k0_part7_eq_skeleton]
  have hcanon := slot_here t
  unfold given left owns Ring.free Ring.inflight
  iintro ⟨⟨⟨%f2, %hf2, H2⟩, ⟨%f3, %hf3, H3⟩, ⟨%f4, %hf4, H4⟩, ⟨%f5, %hf5, H5⟩⟩, ⟨%v7, %f7, -, H7⟩, ⟨%v8, %f8, -, H8⟩, ⟨%f9, %hf9, H9⟩, ⟨%v10, %f10, -, H10⟩,
    ⟨%g0, Hg0, Hu0⟩, HD, Hk⟩
  obtain rfl := h2.eq_unread hf2; obtain rfl := h3.eq_unread hf3; obtain rfl := h4.eq_unread hf4; obtain rfl := h5.eq_unread hf5; obtain rfl := h9.eq_unread hf9
  sl_exec (disch := first | sl_exact hc0 | sl_exact hc1)
  sl_unfold_run_names
  sl_step
  have rx := fun s h i => rows_loaded (v := a3.view) (h3.read_unread x) s h (i := i)
  have rd := fun s h i => rows_loaded (v := a5.view) (h5.read_unread d) s h (i := i)
  have rg := fun i => (Cert.Blocks.readAt_whole (Val := Elt F) Cert.Blocks.hz i a4.view (h4.unread g)).trans (h4.read_unread g)
  have rh := fun j h i i' => half_loaded (z := rowsOf c W (Ring.bk 8 t.val)) (u := (slot (Ring.sl 3 t.val)).view) (v := a2.view) (h2.read_unread w) j h (i := i) (i' := i')
  iapply Hk
  isplitl [H2 H3 H4 H5]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    iexists _; isplitr; swap; · iexact H5
    ipureintro; exact h5.read_unread _
  isplitl [H7 H8 H9 H10]
  · isplitl [H7]
    · iexists _; isplitr; swap; · iexact H7
      ipureintro
      exact dx_stored a7.view f7 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H8]
    · iexists _; isplitr; swap; · iexact H8
      ipureintro
      exact dxb_stored a8.view f8 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H9]
    · iexists _; isplitr; swap; · iexact H9
      ipureintro
      exact (Cert.Blocks.read_cons_whole (Val := Elt F) Cert.Blocks.hz _ a9.view _ _ _).trans (dg_added ((Cert.Blocks.readAt_whole (Val := Elt F) Cert.Blocks.hz _ a9.view _).trans (h9.read_unread dg))
        (Cert.RowBlocks.readCov_last (Val := Elt F) a9.view _ _ _ _) (Cert.RowBlocks.readCov_last (Val := Elt F) a9.view _ _ _ _) (Cert.RowBlocks.readCov_last (Val := Elt F) a9.view _ _ _ _)
        (rx 0 _ _) (rx 1 _ _) (rx 2 _ _) (rx 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _)))
    iexists _; iexists _; isplitr; swap; · iexact H10
    ipureintro; rfl
  isplitl [Hg0 Hg0_dst Hg0_src Hu0]
  · isplitl [Hg0]; · iexact Hg0
    iexists _
    isplitl [Hg0_dst]; · iexact Hg0_dst
    iapply (shared_split c W (Ring.sl 3 t.val) (Ring.bk 8 t.val)).2
    isplitl [Hg0_src]; · iexact Hg0_src
    iexact Hu0
  iexists _; iexact HD

set_option maxHeartbeats 8000000 in
/-- The first point. -/
theorem run_first (hc0 : isFirst (grid0.coords t)) (hc1 : starts (grid0.coords t)) (K : PUnit → sProp 𝕄) (D : Waits sig Unit) :
    iprop(given c a2 a3 a4 a5 w x g d ∗ (∃ v, owns (c : Thread nD τ) a7 fullShare v) ∗ (∃ v, owns (c : Thread nD τ) a8 fullShare v) ∗ (∃ v, owns (c : Thread nD τ) a9 fullShare v)
      ∗ (∃ v, owns (c : Thread nD τ) a10 fullShare v)
      ∗ Ring.free (cellPt c) (resting c W) (Ring.sl 3 t.val) ∗ Ring.free (cellPt c) (resting c W) (Ring.sl 3 (t.val + 1))
      ∗ Ring.free (cellPt c) (resting c W) (Ring.sl 3 (t.val + 2)) ∗ owes (c : Thread nD τ) 0 D
      ∗ (iprop(given c a2 a3 a4 a5 w x g d ∗ left c t a7 a8 a9 a10 w x g d W k0_pay4
        ∗ Ring.inflight (filling c W) (Ring.sl 3 (t.val + 1)) (Ring.bk 8 (t.val + 1)) ∗ Ring.inflight (filling c W) (Ring.sl 3 (t.val + 2)) (Ring.bk 8 (t.val + 2)) ∗ Ring.free (cellPt c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_mix (grid0.coords t) dzArr (Memref.isWhole_whole _) a2 h2 a3 h3 a4 h4 a5 h5 depArr (Memref.isWhole_whole _) a7 h7 a8 h8 a9 h9 a10 h10 ringScr (Memref.isWhole_whole _) cc0_scratch2) K := by
  haveI : Fact (isFirst (grid0.coords t)) := ⟨hc0⟩
  haveI : Fact (starts (grid0.coords t)) := ⟨hc1⟩
  simp only [cc0_dh_mix_eq_skeleton]; unfold cc0_dh_mix_skel
  simp only [k0_part1_eq_skeleton, k0_part2_eq_skeleton, k0_part3_eq_skeleton, k0_part4_eq_skeleton, k0_part5_eq_skeleton, k0_part6_eq_skeleton, k0_part7_eq_skeleton]
  have hcanon := slot_here t
  have hcanon_s0 := slot_of (h := inb_S3x1x512x2560_S1x1x512x2560_0_0_0_0) (s := Ring.sl 3 t.val) (off_first t hc0).1
  have hcanon_c0 := cell_of (h := inb_S3x1_S1x1_0_0) (s := Ring.sl 3 t.val) (off_first t hc0).2.1
  have hcanon_b0 := block_of (h := inb_S1x4096x2560_S1x512x2560_0_0_0) (b := Ring.bk 8 t.val) (off_first t hc0).2.2.1
  have hcanon_s1 := slot_of (h := inb_S3x1x512x2560_S1x1x512x2560_1_0_0_0) (s := Ring.sl 3 (t.val + 1)) (off_first t hc0).2.2.2.1
  have hcanon_c1 := cell_of (h := inb_S3x1_S1x1_1_0) (s := Ring.sl 3 (t.val + 1)) (off_first t hc0).2.2.2.2.1
  have hcanon_b1 := block_of (h := inb_S1x4096x2560_S1x512x2560_0_512_0) (b := Ring.bk 8 (t.val + 1)) (off_first t hc0).2.2.2.2.2
  unfold given left owns Ring.free Ring.inflight
  iintro ⟨⟨⟨%f2, %hf2, H2⟩, ⟨%f3, %hf3, H3⟩, ⟨%f4, %hf4, H4⟩, ⟨%f5, %hf5, H5⟩⟩, ⟨%v7, %f7, -, H7⟩, ⟨%v8, %f8, -, H8⟩, ⟨%v9, %f9, -, H9⟩, ⟨%v10, %f10, -, H10⟩,
    ⟨Hc0, ⟨%g0, Hs0, Hw0⟩⟩, ⟨Hc1, ⟨%g1, Hs1, Hw1⟩⟩, ⟨Hc2, ⟨%g2, Hs2, Hw2⟩⟩, HD, Hk⟩
  ihave Hx := (shared_split c W (Ring.sl 3 t.val) (Ring.bk 8 t.val)).1 $$ Hw0
  icases Hx with ⟨Hl0, Hu0⟩
  ihave Hx := (shared_split c W (Ring.sl 3 (t.val + 1)) (Ring.bk 8 (t.val + 1))).1 $$ Hw1
  icases Hx with ⟨Hl1, Hu1⟩
  ihave Hx := (shared_split c W (Ring.sl 3 (t.val + 2)) (Ring.bk 8 (t.val + 2))).1 $$ Hw2
  icases Hx with ⟨Hl2, Hu2⟩
  obtain rfl := h2.eq_unread hf2; obtain rfl := h3.eq_unread hf3; obtain rfl := h4.eq_unread hf4; obtain rfl := h5.eq_unread hf5
  sl_exec (disch := first | sl_exact hc0 | sl_exact hc1)
  sl_unfold_run_names
  sl_step
  have rx := fun s h i => rows_loaded (v := a3.view) (h3.read_unread x) s h (i := i)
  have rd := fun s h i => rows_loaded (v := a5.view) (h5.read_unread d) s h (i := i)
  have rg := fun i => (Cert.Blocks.readAt_whole (Val := Elt F) Cert.Blocks.hz i a4.view (h4.unread g)).trans (h4.read_unread g)
  have rh := fun j h i i' => half_loaded (z := rowsOf c W (Ring.bk 8 t.val)) (u := (slot (Ring.sl 3 t.val)).view) (v := a2.view) (h2.read_unread w) j h (i := i) (i' := i')
  iapply Hk
  isplitl [H2 H3 H4 H5]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    iexists _; isplitr; swap; · iexact H5
    ipureintro; exact h5.read_unread _
  isplitl [H7 H8 H9 H10]
  · isplitl [H7]
    · iexists _; isplitr; swap; · iexact H7
      ipureintro
      exact dx_stored a7.view f7 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H8]
    · iexists _; isplitr; swap; · iexact H8
      ipureintro
      exact dxb_stored a8.view f8 (rx 0 _ _) (rx 1 _ _) (rx 2 _ _) (rx 3 _ _) (rd 0 _ _) (rd 1 _ _) (rd 2 _ _) (rd 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _))
        (rg _) (rg _) (rg _) (rg _) _ _ _ _
    isplitl [H9]
    · iexists _; isplitr; swap; · iexact H9
      ipureintro
      exact (Cert.Blocks.read_cons_whole (Val := Elt F) Cert.Blocks.hz _ a9.view _ _ _).trans (dg_added (Cert.RowBlocks.readCov_last (Val := Elt F) a9.view _ _ _ _)
        (Cert.RowBlocks.readCov_last (Val := Elt F) a9.view _ _ _ _) (Cert.RowBlocks.readCov_last (Val := Elt F) a9.view _ _ _ _) (Cert.RowBlocks.readCov_last (Val := Elt F) a9.view _ _ _ _)
        (rx 0 _ _) (rx 1 _ _) (rx 2 _ _) (rx 3 _ _)
        (dh_loaded 0 0 0 rfl _ _ (rh 0 _ _ _)) (dh_loaded 0 1 0 rfl _ _ (rh 0 _ _ _)) (dh_loaded 1 0 256 rfl _ _ (rh 1 _ _ _)) (dh_loaded 1 1 256 rfl _ _ (rh 1 _ _ _)))
    iexists _; iexists _; isplitr; swap; · iexact H10
    ipureintro; rfl
  isplitl [Hc1 Hu1]
  · iexists _; isplitl [Hc1]; · iexact Hc1
    iexact Hu1
  isplitl [Hc2 Hu2]
  · iexists _; isplitl [Hc2]; · iexact Hc2
    iexact Hu2
  isplitl [Hc0 Hs0 Hl0 Hu0]
  · isplitl [Hc0]; · iexact Hc0
    iexists _
    isplitl [Hs0]; · iexact Hs0
    iapply (shared_split c W (Ring.sl 3 t.val) (Ring.bk 8 t.val)).2
    isplitl [Hl0]; · iexact Hl0
    iexact Hu0
  iexists _; iexact HD

end Cert.DhMixIdeal.Value
end
-- ==== Proof.DhMixFrame.lean ====
/-
  The run of the mixer's backward projection: what each point finds and leaves, the ring of copies between the points,
  and the frame of the whole program.
-/
module

public import proofs.«01_k».proof.Proof.DhMixBody
public import proofs.«01_k».proof.Proof.Gen.DhMixIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhMixIdeal.Value

open Cert.DhMixIdeal Cert.DhMixIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points compute -/

/-- The cotangent's rows of a point. -/
abbrev zRows (c : Dev nD) (t : ℕ) : Vec F S512x2560 .bf16 := rowsOf (F := F) c (V m c main_arg0) (Ring.bk 8 t)

/-- The gains' gradient after point `n`. -/
def sumG (c : Dev nD) : (n : ℕ) → n < cfg0.N → Vec F S8x1024 .f32
  | 0, h => dgTile (zRows m c 0) (iblk m c 0 ⟨0, h⟩) (iblk m c 1 ⟨0, h⟩) k0_pay4
  | n + 1, h => dgTile (zRows m c (n + 1)) (iblk m c 0 ⟨n + 1, h⟩) (iblk m c 1 ⟨n + 1, h⟩) (sumG c n (Nat.lt_of_succ_lt h))

theorem sumG_first (c : Dev nD) (t : Fin cfg0.N) (h0 : t.val = 0) :
    sumG m c t.val t.isLt = dgTile (zRows m c t.val) (iblk m c 0 t) (iblk m c 1 t) k0_pay4 := by
  obtain ⟨n, hn⟩ := t
  cases n with
  | zero => rfl
  | succ n => exact absurd h0 (Nat.succ_ne_zero n)

theorem sumG_later (c : Dev nD) (t : Fin cfg0.N) (h0 : ¬t.val = 0) :
    sumG m c t.val t.isLt = dgTile (zRows m c t.val) (iblk m c 0 t) (iblk m c 1 t) (sumG m c (t.val - 1) (Nat.lt_of_le_of_lt (Nat.sub_le _ _) t.isLt)) := by
  obtain ⟨n, hn⟩ := t
  cases n with
  | zero => exact absurd rfl h0
  | succ n => rfl

/-! ## The state between the points -/

/-- Between the points: the scratch at anything, the generator register, the token array, and the ring of copies. -/
def Phi (c : Dev nD) (k : ℕ) : sProp 𝕄 :=
  iprop((∃ d, owns (c : Thread nD τ) dhScr fullShare d) ∗ (∃ r, prngReg c r) ∗ whole c depArr (V m c main_arg5) ∗ ringAt c (V m c main_arg0) k)

/-- What the region finds in its arrays and what each point leaves in each block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxTile (zRows m c t.val) (iblk m c 0 t) (iblk m c 1 t) (iblk m c 2 t) (iblk m c 3 t)
    | ⟨5, _⟩ => dxbTile (zRows m c t.val) (iblk m c 0 t) (iblk m c 1 t) (iblk m c 2 t) (iblk m c 3 t)
    | ⟨6, _⟩ => sumG m c t.val t.isLt
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = dxTile (zRows m c t.val) (iblk m c 0 t) (iblk m c 1 t) (iblk m c 2 t) (iblk m c 3 t) := by dsimp only [dats]
theorem after0_5 (c : Dev nD) (t : Fin cfg0.N) :
    (dats m 0 c).after 5 t = dxbTile (zRows m c t.val) (iblk m c 0 t) (iblk m c 1 t) (iblk m c 2 t) (iblk m c 3 t) := by dsimp only [dats]
theorem after0_6 (c : Dev nD) (t : Fin cfg0.N) : (dats m 0 c).after 6 t = sumG m c t.val t.isLt := by dsimp only [dats]

/-! A window that is read holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)

/-- At a later point the gains' gradient holds what the point before left. -/
theorem before0_6 (c : Dev nD) (t : Fin cfg0.N) (h0 : ¬t.val = 0) (d) :
    (dats m 0 c).before 6 t d = sumG m c (t.val - 1) (Nat.lt_of_le_of_lt (Nat.sub_le _ _) t.isLt) := by
  have hN : t.val < 8 := lt_of_lt_of_eq t.isLt (show cfg0.N = 8 from N_0)
  rw [Dat.before_out_kept _ 6 rfl t (by omega)
    (Bool.eq_false_iff.mpr fun h => by have := (flush0_6 _).mp h; dsimp only at this; omega) (fun _ => rfl) (fun _ _ => rfl)]
  dsimp only [dats]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 2400000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4, after0_5, after0_6]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi ringAt
  have hN : t.val < 8 := lt_of_lt_of_eq t.isLt (show cfg0.N = 8 from N_0)
  by_cases h0 : t.val = 0
  · have h1 : t.val < 6 := by omega
    rw [sumG_first m c t h0, if_pos h0, if_neg (Nat.succ_ne_zero t.val)]
    rw [Ring.At₀_eq3' _ _ _ t.val h0 (by decide : 3 ≤ 8), Ring.At3_one' _ _ _ _ t.val h0 (by decide : 3 ≤ 8)]
    iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (run_first c t _ _ _ _ _ _ _ _ _ _ _ _ _ _ _ _ (iblk m c 0 t) (iblk m c 1 t) (iblk m c 2 t) (iblk m c 3 t) (V m c main_arg0)
      ((first_iff t).mpr h0) ((starts_iff t).mpr h1) _ W)
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [H6]; · iexists _; iexact H6
    isplitl [HS]; · iexact HS
    isplitl [R0]; · iexact R0
    isplitl [R1]; · iexact R1
    isplitl [R2]; · iexact R2
    isplitl [HW]; · iexact HW
    iintro ⟨⟨H0, H1, H2, H3⟩, ⟨H4, H5, H6, HS⟩, R0, R1, R2, ⟨%W', HW⟩⟩
    isplitl [HS Hg Hp R0 R1 R2]
    · isplitl [HS]; · iexact HS
      isplitl [Hg]; · iexact Hg
      isplitl [Hp]; · iexact Hp
      iapply (Ring.with_homes (Idealize.SL.BI.Entails.refl _))
      isplitl [R0]; · iexact R0
      isplitl [R1]; · iexact R1
      iexact R2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6
  · by_cases h1 : t.val < 6
    · rw [sumG_later m c t h0, if_neg h0, if_neg (Nat.succ_ne_zero t.val)]
      simp only [before0_6 m c t h0]
      have hB : t.val + 2 < 8 := by omega
      rw [Ring.At3_here _ _ _ _ t.val hB, Ring.At3_next _ _ _ _ t.val hB, Ring.slotAt3_next0 _ _ _ t.val (by omega), Ring.slotAt3_next1 _ _ _ t.val hB]
      iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (run_middle c t _ _ _ _ _ _ _ _ _ _ _ _ _ _ _ _ (iblk m c 0 t) (iblk m c 1 t) (iblk m c 2 t) (iblk m c 3 t) (V m c main_arg0)
        (fun h => h0 ((first_iff t).mp h)) ((starts_iff t).mpr h1) _ W _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [H6]; · iexact H6
      isplitl [HS]; · iexact HS
      isplitl [R0]; · iexact R0
      isplitl [R1]; · iexact R1
      isplitl [R2]; · iexact R2
      isplitl [HW]; · iexact HW
      iintro ⟨⟨H0, H1, H2, H3⟩, ⟨H4, H5, H6, HS⟩, R0, R1, R2, ⟨%W', HW⟩⟩
      isplitl [HS Hg Hp R0 R1 R2]
      · isplitl [HS]; · iexact HS
        isplitl [Hg]; · iexact Hg
        isplitl [Hp]; · iexact Hp
        iapply (Ring.with_homes (Idealize.SL.BI.Entails.refl _))
        isplitl [R0]; · iexact R0
        isplitl [R1]; · iexact R1
        iexact R2
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexact H6
    · rw [sumG_later m c t h0, if_neg h0, if_neg (Nat.succ_ne_zero t.val)]
      simp only [before0_6 m c t h0]
      rw [Ring.At3_here_tail _ _ _ _ t.val hN, Ring.At3_next_tail _ _ _ _ t.val (by omega : 8 ≤ t.val + 2) hN, Ring.slotAt3_tail_role _ _ _ t.val]
      iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (run_last c t _ _ _ _ _ _ _ _ _ _ _ _ _ _ _ _ (iblk m c 0 t) (iblk m c 1 t) (iblk m c 2 t) (iblk m c 3 t) (V m c main_arg0)
        (fun h => h0 ((first_iff t).mp h)) (fun h => h1 ((starts_iff t).mp h)) _ W _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [H6]; · iexact H6
      isplitl [HS]; · iexact HS
      isplitl [R0]; · iexact R0
      isplitl [HW]; · iexact HW
      iintro ⟨⟨H0, H1, H2, H3⟩, ⟨H4, H5, H6, HS⟩, R0, ⟨%W', HW⟩⟩
      isplitl [HS Hg Hp R0 R1 R2]
      · isplitl [HS]; · iexact HS
        isplitl [Hg]; · iexact Hg
        isplitl [Hp]; · iexact Hp
        iapply (Ring.with_homes (Idealize.SL.BI.Entails.refl _))
        isplitl [R1]; · iexact R1
        isplitl [R2]; · iexact R2
        iexact R0
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

/-- The arrays the region leaves in the main memory. -/
def unstaged : Finset (Ref sig .tc) := {main_arg0, main_arg5}
theorem unstaged_sub : unstaged ⊆ Pipeline.restRefs sig spec0 := by decide

/-- What the launch hands over, piece by piece. -/
theorem handed_eq (c : Dev nD) :
    (Pipeline.ΦD ownSem spec0 unstaged (V m) c : sProp 𝕄)
      = iprop(iprop((∃ d, owns (c : Thread nD τ) dhScr fullShare d) ∗ (∃ d, owns (c : Thread nD τ) ringScr fullShare d)) ∗ (∃ r, prngReg c r)
        ∗ iprop(semVal ((c : Thread nD τ), ownSem 0) 0 ∗ semVal ((c : Thread nD τ), ownSem 1) 0 ∗ semVal ((c : Thread nD τ), ownSem 2) 0)
        ∗ iprop(whole c dzArr (V m c main_arg0) ∗ whole c depArr (V m c main_arg5))) := by
  have hs : (Pipeline.ownSems0 (Ix := Unit) (Name := ℕ) (U := Pipeline.UD sig nD τ) (Lvl := ℕ) (Val := Elt F) (τ := τ) ownSem c : sProp 𝕄)
      = iprop(semVal ((c : Thread nD τ), ownSem 0) 0 ∗ semVal ((c : Thread nD τ), ownSem 1) 0 ∗ semVal ((c : Thread nD τ), ownSem 2) 0) := by
    rw [Pipeline.ownSems0_eq_of_list c ownSem [0, 1, 2] (by decide) (by decide)]; rfl
  have hb : (bigSep unstaged (fun b => ((c : Thread nD τ).loc b) ↦{fullShare} V m c b) : sProp 𝕄)
      = iprop(whole c dzArr (V m c main_arg0) ∗ whole c depArr (V m c main_arg5)) := by
    rw [BI.bigSep_eq_bigSepL_of_eq [main_arg0, main_arg5] (by decide) (by decide)]; rfl
  rw [Pipeline.ΦD_eq, scopedRest0_eq, hs, hb]; simp only [dhScr, ringScr, owns_whole]; try rfl

theorem phi_in (c : Dev nD) : Pipeline.ΦD ownSem spec0 unstaged (V m) c ⊢ (dats m 0 c).Φ 0 := by
  rw [handed_eq, show (dats m 0 c).Φ 0 = Phi m c 0 from rfl]
  unfold Phi
  iintro ⟨⟨HS, HR⟩, Hg, HQ, ⟨Hz, Hp⟩⟩
  isplitl [HS]; · iexact HS
  isplitl [Hg]; · iexact Hg
  isplitl [Hp]; · iexact Hp
  iapply (ring_in (F := F) c (V m c main_arg0))
  isplitl [HR]; · iexact HR
  isplitl [HQ]; · iexact HQ
  iexact Hz

theorem phi_out (c : Dev nD) : (dats m 0 c).Φ (Fin.last cfg0.N) ⊢ Pipeline.ΦD ownSem spec0 unstaged (V m) c := by
  rw [handed_eq, show (dats m 0 c).Φ (Fin.last cfg0.N) = Phi m c grid0.N from rfl]
  unfold Phi
  rw [show grid0.N = 8 from N_0]
  iintro ⟨HS, Hg, Hp, HR⟩
  ihave HX := (ring_out (F := F) c (V m c main_arg0)) $$ HR
  icases HX with ⟨HR, HQ, Hz⟩
  isplitl [HS HR]
  · isplitl [HS]; · iexact HS
    iexact HR
  isplitl [Hg]; · iexact Hg
  isplitl [HQ]; · iexact HQ
  isplitl [Hz]; · iexact Hz
  iexact Hp

/-! ## The lines around the region -/

set_option maxHeartbeats 800000 in
/-- The program is its lines before the region, the region, and its lines after it. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region leave the unstaged arrays alone. -/
theorem later_but : ∀ ops ∈ ([hostOps1] : List (List (HloOp τ sig (Elt F)))), ∀ op ∈ ops,
    op.bufs ⊆ Pipeline.tailRefsBut sig Pipeline.Prefetch.none spec0 unstaged := by
  intro ops hops op hop
  obtain rfl := List.mem_singleton.mp hops
  refine Pipeline.sub_tailRefsBut Pipeline.Prefetch.none spec0 unstaged op ((List.forall_iff_forall_mem.mp hostOps1_sub) op hop) (fun j => j.elim0) ?_
  simp only [hostOps1, List.mem_cons, List.mem_nil_iff, or_false] at hop
  intro b hb
  simp only [unstaged, Finset.mem_insert, Finset.mem_singleton] at hb
  rcases hop with rfl | rfl <;> rcases hb with rfl | rfl <;>
    simp only [StableHlo.nullary_bufs, StableHlo.binary_bufs, Finset.mem_insert, Finset.mem_singleton, not_or] <;> and_intros <;>
    exact StableHlo.devRef_ne_of_ne (by decide)

set_option backward.isDefEq.respectTransparency.types false in
set_option maxHeartbeats 800000 in
/-- The run. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownSem defs₀ Variants.none ownSem_facts unstaged unstaged_sub m ρ main
    (hbody := fun c => (body_obligation m c).loose) (hshare := fun c => (dats m 0 c).share_full fun _ => rfl)
    (howed := fun _ _ => rfl) (V₀ := V0 m) (opss := [hostOps1]) (hsub := later_but) (hfresh := sfx_fresh) (hkeep := sfx_keeps)
    (hmain := around m Variants.none) (hA := A_eq m) (hin := phi_in m) (hout := phi_out m)

/-- An array no line after the region writes and no window stages ends as the region finds it. -/
theorem end_of (c : Dev nD) (b : Ref sig .tc) (hb : b = main_arg0 ∨ b = main_arg3 ∨ b = main_arg5) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.binary_writes, Finset.mem_singleton]
      rcases hb with rfl | rfl | rfl <;> exact ⟨StableHlo.devRef_ne_of_ne (by decide), StableHlo.devRef_ne_of_ne (by decide)⟩)),
    Pipeline.withArrays_of_ne _ c (V0 m c) _ b (by
      rcases hb with rfl | rfl | rfl
      exacts [(by decide : ∀ w, Pipeline.arrRef spec0 w ≠ main_arg0), (by decide : ∀ w, Pipeline.arrRef spec0 w ≠ main_arg3), (by decide : ∀ w, Pipeline.arrRef spec0 w ≠ main_arg5)])]

/-- The program ends with its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans ((end_of m c main_arg0 (.inl rfl)).trans (V_main_arg0 m c)),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).2 main_arg3 (Pipeline.mem_restRefs_of main_arg3 (by decide) (by decide))).trans ((end_of m c main_arg3 (.inr (.inl rfl))).trans (V_main_arg3 m c)),
      ((h.1 c).1 3).trans (((dats m 0 c).arrAt_in 3 rfl _).trans ((A_eq m c 3).trans (V_main_arg4 m c))),
      ((h.1 c).2 main_arg5 (Pipeline.mem_restRefs_of main_arg5 (by decide) (by decide))).trans ((end_of m c main_arg5 (.inr (.inr rfl))).trans (V_main_arg5 m c))⟩, h.2⟩)
    (run_main m ρ)

end Cert.DhMixIdeal.Value
end
-- ==== Proof.DhMixValue.lean ====
/-
  The results of the mixer's backward projection over the real numbers: the rows' gradient in both types and the host's
  sum of the gains' gradient, as formulas of the rows of the arguments.
-/
module

public import proofs.«01_k».proof.Proof.DhMixPay
public import proofs.«01_k».proof.Proof.DhMixFrame

@[expose] public section

set_option maxRecDepth 16384

noncomputable section

open Idealize.ShloMosaic Idealize.ShloMosaic.TcCoe Idealize.SL.Sem
open Idealize.ShloMosaic.Pipeline (Dat Cfg Window)

namespace Cert.DhMixIdeal.Value

open Cert.DhMixIdeal Cert.DhMixIdeal.Gen Cert.RealLaws Cert.Rows

variable (m : (ℓ : Loc nD τ sig) → Buf (Elt Ideal) ℓ) (ρ : Dev nD → PrngReg) (c : Dev nD)
  (Z : ℕ → Fin 2560 → ℝ) (W X D : ℕ → Fin 1024 → ℝ) (g : Fin 1024 → ℝ)

/-- The arguments hold the cotangent's rows `Z`, the weights' rows `W`, the rows `X`, the gains `g` and the rows `D`. -/
structure Holds : Prop where
  z : ∀ (i : Fin 4096) (k : Fin 2560), (m ((c : Thread nD τ).loc main_arg0) : Vec Ideal S1x4096x2560 .bf16) (ix3 0 i k) = (Z i k : EReal)
  w : ∀ (k : Fin 2560) j, (m ((c : Thread nD τ).loc main_arg1) : Vec Ideal S2560x1024 .bf16) (ix2 k j) = (W k j : EReal)
  x : ∀ (i : Fin 4096) j, (m ((c : Thread nD τ).loc main_arg2) : Vec Ideal S4096x1024 .f32) (ix2 i j) = (X i j : EReal)
  g : ∀ j : Fin 1024, (m ((c : Thread nD τ).loc main_arg3) : Vec Ideal S1024 .f32) (ix1 j) = (g j : EReal)
  d : ∀ (i : Fin 4096) j, (m ((c : Thread nD τ).loc main_arg4) : Vec Ideal S4096x1024 .f32) (ix2 i j) = (D i j : EReal)

theorem idx_0 : ∀ t : Fin cfg0.N, win0_0.index t = ![0, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)

theorem V_v0 : V m c main_v0 = shapeCast S1x1024 (m ((c : Thread nD τ).loc main_arg3)) shapeCasts_S1024_S1x1024 := by
  unfold V V0
  simp only [hostOps0, List.flatten_cons, List.flatten_nil, List.append_nil]
  after_results
  rfl

theorem drop_unit {α : Type} (f : (S1x512x2560 : Shape).Idx → α) (hc : S1x512x2560.ShapeCasts S512x2560) (r : Fin 512) (k : Fin 2560) :
    shapeCast S512x2560 f hc (ix2 r k) = f (ix3 0 r k) := by
  pointwise

/-- Row `r` of a point's rows of the cotangent. -/
theorem rowsOf_apply (W : (S1x4096x2560 : Shape).Idx → EReal) (b : Fin 8) (r : Fin 512) (k : Fin 2560) :
    rowsOf (F := Ideal) c W b (ix2 r k) = W (ix3 0 ⟨512 * b.val + r.val, by omega⟩ k) := by
  refine (drop_unit (dzArr.view.readAt (Elt Ideal) (Rect.unit (s := S1x4096x2560) ![0, 512 * b.val, 0] S1x512x2560.size (block_inb b)).toLoadRect W) (by decide) r k).trans ?_
  refine congrArg W (funext fun a => Fin.ext ?_)
  match a with
  | ⟨0, _⟩ => rfl
  | ⟨1, _⟩ => exact congrArg (512 * b.val + ·) (Nat.one_mul _)
  | ⟨2, _⟩ => exact (Nat.zero_add _).trans (Nat.one_mul _)

variable {m c Z W X D g} (h : Holds m c Z W X D g)
include h

theorem blk_z (t : ℕ) (ht : t < 8) (r : Fin 512) (k : Fin 2560) : zRows m c t (ix2 r k) = (Z (512 * t + r) k : EReal) := by
  have hr : (r : ℕ) < 512 := r.isLt
  have hb : (Ring.bk 8 t).val = t := Nat.mod_eq_of_lt ht
  have e : zRows m c t (ix2 r k) = (m ((c : Thread nD τ).loc main_arg0) : Vec Ideal S1x4096x2560 .bf16) (ix3 0 ⟨512 * t + r, by omega⟩ k) := by
    refine (rowsOf_apply c (V m c main_arg0) _ r k).trans ?_
    rw [show V m c main_arg0 = _ from V_main_arg0 m c]
    refine congrArg (fun i => (m ((c : Thread nD τ).loc main_arg0) : Vec Ideal S1x4096x2560 .bf16) (ix3 0 i k)) (Fin.ext ?_)
    show 512 * (Ring.bk 8 t).val + r.val = 512 * t + r.val
    rw [hb]
  rw [e, h.z]

theorem blk_w (t : Fin cfg0.N) (k : Fin 2560) (j : Fin 1024) : iblk m c 0 t (ix2 k j) = (W k j : EReal) := by
  have e : iblk m c 0 t (ix2 k j) = (m ((c : Thread nD τ).loc main_arg1) : Vec Ideal S2560x1024 .bf16) (ix2 k j) := by
    blk_simp [iblk]
    rw [show V m c main_arg1 = _ from V_main_arg1 m c]
    congr 1
    blk_ext [idx_0]
  rw [e, h.w]

theorem blk_x (t : Fin cfg0.N) (r : Fin 512) (j : Fin 1024) : iblk m c 1 t (ix2 r j) = (X (512 * t.val + r) j : EReal) := by
  have hN : t.val < 8 := lt_of_lt_of_eq t.isLt (show cfg0.N = 8 from N_0)
  have e : iblk m c 1 t (ix2 r j) = (m ((c : Thread nD τ).loc main_arg2) : Vec Ideal S4096x1024 .f32) (ix2 ⟨512 * t.val + r, by omega⟩ j) := by
    blk_simp [iblk]
    rw [show V m c main_arg2 = _ from V_main_arg2 m c]
    congr 1
    blk_ext [idx_1]
  rw [e, h.x]

theorem blk_g (t : Fin cfg0.N) (j : Fin 1024) : iblk m c 2 t (ix2 0 j) = (g j : EReal) := by
  have e : iblk m c 2 t (ix2 0 j) = (m ((c : Thread nD τ).loc main_arg3) : Vec Ideal S1024 .f32) (ix1 j) := by
    blk_simp [iblk]
    rw [show V m c main_v0 = _ from V_v0 m c]
    pointwise
    refine congrArg (fun k => (m ((c : Thread nD τ).loc main_arg3) : Vec Ideal S1024 .f32) (ix1 k)) (Fin.ext ?_)
    blk_simp [idx_2]
  rw [e, h.g]

theorem blk_d (t : Fin cfg0.N) (r : Fin 512) (j : Fin 1024) : iblk m c 3 t (ix2 r j) = (D (512 * t.val + r) j : EReal) := by
  have hN : t.val < 8 := lt_of_lt_of_eq t.isLt (show cfg0.N = 8 from N_0)
  have e : iblk m c 3 t (ix2 r j) = (m ((c : Thread nD τ).loc main_arg4) : Vec Ideal S4096x1024 .f32) (ix2 ⟨512 * t.val + r, by omega⟩ j) := by
    blk_simp [iblk]
    rw [show V m c main_arg4 = _ from V_main_arg4 m c]
    congr 1
    blk_ext [idx_3]
  rw [e, h.d]

theorem tile_dx (t : Fin cfg0.N) (r : Fin 512) (j : Fin 1024) :
    dxTile (zRows m c t.val) (iblk m c 0 t) (iblk m c 1 t) (iblk m c 2 t) (iblk m c 3 t) (ix2 r j)
      = ((dnorm (X (t.val * 512 + r)) (mulRow W (Z (t.val * 512 + r))) g (D (t.val * 512 + r)) j : ℝ) : EReal) := by
  have hN : t.val < 8 := lt_of_lt_of_eq t.isLt (show cfg0.N = 8 from N_0)
  rw [dxTile_real _ _ _ _ _ (fun r => Z (512 * t.val + r)) W (fun r => X (512 * t.val + r)) (fun r => D (512 * t.val + r)) g
    (blk_z h t.val hN) (blk_w h t) (blk_x h t) (blk_g h t) (blk_d h t), Nat.mul_comm t.val 512]

/-- The rows' gradient. -/
theorem final_dx : (dats m 0 c).arrAt 4 cfg0.N
    = (fun y => ((dnorm (X (y 0 : Fin 4096)) (mulRow W (Z (y 0 : Fin 4096))) g (D (y 0 : Fin 4096)) (y 1) : ℝ) : EReal) : Vec Ideal S4096x1024 .f32) := by
  refine (dats m 0 c).arrAt_eq_of_covers 4 _ (by decide +kernel) fun t hf y => ?_
  blk_simp
  rw [after0_4, idx_4]
  have e : ((win0_4.blk t).view.emb y 1 : Fin 1024) = y 1 := Fin.ext (by blk_simp [idx_4])
  rw [e]
  refine .trans ?_ (tile_dx h t (y 0) (y 1))
  exact congrArg _ (eq_ix2 (n0 := 512) (n1 := 1024) y)

/-- The rows' gradient in the narrow type. -/
theorem final_dxb : (dats m 0 c).arrAt 5 cfg0.N
    = (fun y => ((dnorm (X (y 0 : Fin 4096)) (mulRow W (Z (y 0 : Fin 4096))) g (D (y 0 : Fin 4096)) (y 1) : ℝ) : EReal) : Vec Ideal S4096x1024 .bf16) := by
  refine (dats m 0 c).arrAt_eq_of_covers 5 _ (by decide +kernel) fun t hf y => ?_
  blk_simp
  rw [after0_5, idx_5, dxbTile_eq]
  have e : ((win0_5.blk t).view.emb y 1 : Fin 1024) = y 1 := Fin.ext (by blk_simp [idx_5])
  rw [e]
  refine .trans ?_ (tile_dx h t (y 0) (y 1))
  exact congrArg _ (eq_ix2 (n0 := 512) (n1 := 1024) y)

theorem sumG_real (u : Fin 8) (j : Fin 1024) (n : ℕ) (hn : n < cfg0.N) :
    sumG m c n hn (ix2 u j) = ((∑ p ∈ Finset.range (n + 1), ∑ q ∈ Finset.range 4, ∑ a ∈ Finset.range 16,
      mulRow W (Z (512 * p + (128 * q + (8 * a + u)))) j * xn (X (512 * p + (128 * q + (8 * a + u)))) j : ℝ) : EReal) := by
  have h8 : n < 8 := lt_of_lt_of_eq hn (show cfg0.N = 8 from N_0)
  induction n with
  | zero =>
    rw [sumG, dgTile_real _ _ _ (fun r => Z (512 * 0 + r)) W (fun r => X (512 * 0 + r)) (blk_z h 0 h8) (blk_w h ⟨0, hn⟩) (blk_x h ⟨0, hn⟩)]
    rw [show k0_pay4 (F := Ideal) (ix2 u j) = 0 from by pointwise [k0_pay4], zero_add,
      Finset.sum_range_one]
  | succ n ih =>
    rw [sumG, dgTile_real _ _ _ (fun r => Z (512 * (n + 1) + r)) W (fun r => X (512 * (n + 1) + r)) (blk_z h (n + 1) h8) (blk_w h ⟨n + 1, hn⟩) (blk_x h ⟨n + 1, hn⟩),
      ih _ (by omega), ← EReal.coe_add, ← Finset.sum_range_succ]

omit h in
/-- The block of partial sums of the gains' gradient. -/
theorem final_g : (dats m 0 c).arrAt 6 cfg0.N = (sumG m c 7 (by rw [show cfg0.N = 8 from N_0]; decide) : Vec Ideal S8x1024 .f32) := by
  refine (dats m 0 c).arrAt_eq_of_after_last 6 t0_7 (by decide +kernel) _ fun j => ?_
  blk_simp
  rw [after0_6]
  rfl

theorem tail_dg : (Pipeline.afterTail₀ cfgs (dats m) 0 (V0 m) [hostOps1] c main_v2 : Vec Ideal S1024 .f32)
    = fun y => ((∑ i ∈ Finset.range 4096, mulRow W (Z i) (y 0) * xn (X i) (y 0) : ℝ) : EReal) := by
  unfold Pipeline.afterTail₀
  simp only [hostOps1, List.flatten_cons, List.flatten_nil, List.append_nil]
  after_results
  rw [Pipeline.withArrays_arr spec0 (by decide) c (V0 m c) (fun w => (dats m 0 c).arrAt w cfg0.N) 6]
  rw [final_g]
  funext y
  obtain ⟨j, rfl⟩ : ∃ j : Fin 1024, y = ix1 j := ⟨y 0, eq_ix1 y⟩
  pointwise
  simp only [sumG_real h, coe_sum]
  exact congrArg (fun a : ℝ => (a : EReal)) (all_rows fun i => mulRow W (Z i) j * xn (X i) j)

end Cert.DhMixIdeal.Value

end
-- ==== Proof.DhMixRefValue.lean ====
/- Every result of the reference of the mixer's backward projection, in closed form over the real numbers. -/
module

public import Idealize.ShloMosaic.Lib.Pointwise
public import proofs.«01_k».proof.Proof.Gen.DhMixRefIdeal.Read
public import proofs.«01_k».proof.Proof.NormGrad

@[expose] public section

set_option maxRecDepth 16384

noncomputable section

open Idealize.ShloMosaic Idealize.ShloMosaic.TcCoe Idealize.SL.Sem
open Cert.RealLaws Cert.Rows

namespace Cert.DhMixRefIdeal.Value

open Cert.DhMixRefIdeal Cert.DhMixRefIdeal.Gen Cert.DhMixRefIdeal.Read

variable {z : Vec Ideal S1x4096x2560 .bf16} {w : Vec Ideal S2560x1024 .bf16} {x : Vec Ideal S4096x1024 .f32} {g : Vec Ideal S1024 .f32}
  {d : Vec Ideal S4096x1024 .f32} {Z : ℕ → Fin 2560 → ℝ} {W X D : ℕ → Fin 1024 → ℝ} {G : Fin 1024 → ℝ}
  (hx : ∀ (i : Fin 4096) j, x (ix2 i j) = ((X i j : ℝ) : EReal)) (hg : ∀ j, g (ix1 j) = ((G j : ℝ) : EReal))
  (hd : ∀ (i : Fin 4096) j, d (ix2 i j) = ((D i j : ℝ) : EReal))
  (hz : ∀ (i : Fin 4096) k, z (ix3 0 i k) = ((Z i k : ℝ) : EReal)) (hw : ∀ (k : Fin 2560) j, w (ix2 k j) = ((W k j : ℝ) : EReal))

section
include hx

theorem v6_real (i : Fin 4096) : val_main_v6 (F := Ideal) x (ix2 i 0) = ((ms (X i) : ℝ) : EReal) := by
  pointwise [val_main_v6, val_main_v5, val_main_v4, val_main_v3, val_main_v2, val_main_v1, val_main_v0, val_main_cst, val_main_cst_0, val_main_cst_1]
  simp only [hx, ← EReal.coe_mul, coe_sum]
  rw [show Ideal.ofBits .f32 1149239296#32 = _ from ofBits_1024, show Ideal.ofBits .f32 897988541#32 = _ from ofBits_eps,
    div_coe _ _ (by norm_num), ← EReal.coe_add]
  rfl

theorem v7_real (i : Fin 4096) : val_main_v7 (F := Ideal) x (ix2 i 0) = ((rinv (X i) : ℝ) : EReal) := by
  pointwise [val_main_v7]
  rw [v6_real hx, rsqrt_pos _ (ms_pos _)]
  rfl

theorem v10_real (i : Fin 4096) : val_main_v10 (F := Ideal) x (ix2 i 0) = ((-1 / 2 * (rinv (X i) / ms (X i)) : ℝ) : EReal) := by
  pointwise [val_main_v10, val_main_v9, val_main_v8, val_main_cst_2]
  rw [v7_real hx, v6_real hx, div_coe _ _ (ms_pos _).ne', show Ideal.ofBits .f32 3204448256#32 = _ from ofBits_neg_half, ← EReal.coe_mul]

theorem v12_real (i : Fin 4096) (j : Fin 1024) : val_main_v12 (F := Ideal) x (ix2 i j) = ((xn (X i) j : ℝ) : EReal) := by
  pointwise [val_main_v12, val_main_v11]
  rw [v7_real hx, hx, ← EReal.coe_mul]
  rfl
end

include hz hw in
theorem v22_real (i : Fin 4096) (j : Fin 1024) : val_main_v22 (F := Ideal) z w (ix2 i j) = ((mulRow W (Z i) j : ℝ) : EReal) := by
  have ez (k : Fin 2560) : val_main_v21 (F := Ideal) z (ix2 i k) = ((Z i k : ℝ) : EReal) := by
    pointwise [val_main_v21, val_main_v20, val_main_v19]
    exact hz i k
  have ew (k : Fin 2560) : val_main_v17 (F := Ideal) w (ix2 j k) = ((W k j : ℝ) : EReal) := by
    pointwise [val_main_v17, val_main_v16]
    exact hw k j
  pointwise [val_main_v22]
  simp only [ez, ew, ← EReal.coe_mul, coe_sum]
  rfl

include hx hz hw in
theorem v28_real : val_main_v28 (F := Ideal) z w x
    = fun y => ((∑ i ∈ Finset.range 4096, mulRow W (Z i) (y 0) * xn (X i) (y 0) : ℝ) : EReal) := by
  funext y
  pointwise [val_main_v28, val_main_cst_4, val_main_v25, val_main_v24, val_main_cst_3, val_main_v23]
  obtain ⟨j, rfl⟩ : ∃ j : Fin 1024, y = ix1 j := ⟨y 0, eq_ix1 y⟩
  refine (Fin.sum_univ_one _).trans ?_
  have e (i : Fin 4096) : val_main_v12 (F := Ideal) x (ix2 i j) * val_main_v22 (F := Ideal) z w (ix2 i j)
      = ((mulRow W (Z i) j * xn (X i) j : ℝ) : EReal) := by
    rw [v12_real hx, v22_real hz hw, ← EReal.coe_mul, mul_comm]
  refine (Finset.sum_congr rfl fun i _ => e i).trans ?_
  rw [coe_sum, Fin.sum_univ_eq_sum_range (fun i => mulRow W (Z i) j * xn (X i) j) 4096]
  rfl

include hg hz hw in
theorem v27_real (i : Fin 4096) (j : Fin 1024) : val_main_v27 (F := Ideal) z w g (ix2 i j) = ((mulRow W (Z i) j * G j : ℝ) : EReal) := by
  pointwise [val_main_v27, val_main_v26, val_main_v13]
  rw [v22_real hz hw, hg, ← EReal.coe_mul]

include hx hg hz hw in
theorem v38_real (i : Fin 4096) : val_main_v38 (F := Ideal) z w x g (ix1 i)
    = (((∑ k, X i k * (mulRow W (Z i) k * G k)) * (-1 / 2 * (rinv (X i) / ms (X i))) / 1024 : ℝ) : EReal) := by
  pointwise [val_main_v38, val_main_cst_7, val_main_v37, val_main_v36, val_main_cst_6, val_main_v35, val_main_v31, val_main_v30, val_main_cst_5, val_main_v29]
  rw [Fin.sum_univ_one, v10_real hx]
  simp only [hx, v27_real hg hz hw, ← EReal.coe_mul, coe_sum]
  rw [show Ideal.ofBits .f32 1149239296#32 = _ from ofBits_1024, div_coe _ _ (by norm_num)]

include hx hg hd hz hw

theorem v43_real : val_main_v43 (F := Ideal) z w x g d
    = fun y => ((dnorm (X (y 0 : Fin 4096)) (mulRow W (Z (y 0 : Fin 4096))) G (D (y 0 : Fin 4096)) (y 1) : ℝ) : EReal) := by
  funext y
  obtain ⟨i, j, rfl⟩ : ∃ (i : Fin 4096) (j : Fin 1024), y = ix2 i j := ⟨y 0, y 1, eq_ix2 y⟩
  pointwise [val_main_v43, val_main_v42, val_main_v41, val_main_v40, val_main_v39, val_main_v34, val_main_v33, val_main_v32]
  rw [v27_real hg hz hw, v7_real hx, v38_real hx hg hz hw, hx, hd]
  simp only [← EReal.coe_mul, ← EReal.coe_add]
  exact congrArg (fun a : ℝ => (a : EReal)) (dnorm_eq _ _ _ _ _).symm

theorem v44_real : val_main_v44 (F := Ideal) z w x g d
    = fun y => ((dnorm (X (y 0 : Fin 4096)) (mulRow W (Z (y 0 : Fin 4096))) G (D (y 0 : Fin 4096)) (y 1) : ℝ) : EReal) := by
  rw [← v43_real hx hg hd hz hw]
  rfl

end Cert.DhMixRefIdeal.Value

end
-- ==== Proof.DhMixClaim.lean ====
/- The mixer's backward projection and its reference compute the same three results. -/
module

public import proofs.«01_k».proof.Defs
public import proofs.«01_k».proof.Proof.Gen.DhMix
public import proofs.«01_k».proof.Proof.Gen.Pre_dh_mix_finite
public import proofs.«01_k».proof.Proof.Gen.DhMixRefIdeal.Run
public import proofs.«01_k».proof.Proof.DhMixValue
public import proofs.«01_k».proof.Proof.DhMixRefValue

@[expose] public section

set_option maxRecDepth 16384

noncomputable section

open Idealize.ShloMosaic Idealize.ShloMosaic.TcCoe Idealize.SL.Sem
open Cert.RealLaws Cert.Rows

namespace Cert.DhMixIdeal.Value

open Cert.DhMixIdeal Cert.DhMixIdeal.Gen

variable (m : (ℓ : Loc nD τ sig) → Buf (Elt Ideal) ℓ) (ρ : Dev nD → PrngReg) (c : Dev nD)

/-- The arguments' rows as real numbers: the cotangent, the weights, the rows, the gains, and the gradient past the norm. -/
def Z : ℕ → Fin 2560 → ℝ := RealLaws.rowsOf fun (i : Fin 4096) k => (m ((c : Thread nD τ).loc main_arg0) : Vec Ideal S1x4096x2560 .bf16) (ix3 0 i k)
def W : ℕ → Fin 1024 → ℝ := RealLaws.rowsOf fun (k : Fin 2560) j => (m ((c : Thread nD τ).loc main_arg1) : Vec Ideal S2560x1024 .bf16) (ix2 k j)
def X : ℕ → Fin 1024 → ℝ := RealLaws.rowsOf fun (i : Fin 4096) j => (m ((c : Thread nD τ).loc main_arg2) : Vec Ideal S4096x1024 .f32) (ix2 i j)
def G (j : Fin 1024) : ℝ := RealLaws.rowsOf (n := 1) (fun _ j => (m ((c : Thread nD τ).loc main_arg3) : Vec Ideal S1024 .f32) (ix1 j)) 0 j
def D : ℕ → Fin 1024 → ℝ := RealLaws.rowsOf fun (i : Fin 4096) j => (m ((c : Thread nD τ).loc main_arg4) : Vec Ideal S4096x1024 .f32) (ix2 i j)

theorem holds (pre : Pre_DhMixIdeal_dh_mix_finite m) : Holds m c (Z m c) (W m c) (X m c) (D m c) (G m c) := by
  have e := congrFun (pre c) (Shape.Idx.first Cert.Pre_dh_mix_finite.Gen.h_S_)
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  have hk (s : Shape) (h : Cert.Pre_dh_mix_finite.S_.BroadcastsInDim s ![]) (i : s.Idx) :
      broadcastInDim s ![] h (constant (F := Ideal) Cert.Pre_dh_mix_finite.S_ .f32 0x7F800000#32) i = ⊤ := ofBits_inf
  exact ⟨fun i k => rowsOf_eq _ (fun i k => real_of_all _ _ (hk _ _) _ _ _ _ e0 (ix3 0 i k)) i k,
    fun k j => rowsOf_eq _ (fun k j => real_of_all _ _ (hk _ _) _ _ _ _ e1 (ix2 k j)) k j,
    fun i j => rowsOf_eq _ (fun i j => real_of_all _ _ (hk _ _) _ _ _ _ e2 (ix2 i j)) i j,
    fun j => rowsOf_eq (n := 1) _ (fun _ j => real_of_all _ _ (hk _ _) _ _ _ _ e3 (ix1 j)) 0 j,
    fun i j => rowsOf_eq _ (fun i j => real_of_all _ _ (hk _ _) _ _ _ _ e4 (ix2 i j)) i j⟩

def dxOut : Vec Ideal S4096x1024 .f32 :=
  fun y => ((dnorm (X m c (y 0 : Fin 4096)) (mulRow (W m c) (Z m c (y 0 : Fin 4096))) (G m c) (D m c (y 0 : Fin 4096)) (y 1) : ℝ) : EReal)
def dgOut : Vec Ideal S1024 .f32 := fun y => ((∑ i ∈ Finset.range 4096, mulRow (W m c) (Z m c i) (y 0) * xn (X m c i) (y 0) : ℝ) : EReal)

theorem run_kernel (pre : Pre_DhMixIdeal_dh_mix_finite m) : θ_run (defs (F := Ideal)) (onTc (τ := τ) (main (F := Ideal))) ⟨m, fun _ => 0, ρ⟩ (fun r => ∀ c : Dev nD,
      r.2.mem ((c.tc : Thread nD τ).loc main_v1_0) = dxOut m c
      ∧ r.2.mem ((c.tc : Thread nD τ).loc main_v1_1) = (dxOut m c : Vec Ideal S4096x1024 .bf16)
      ∧ r.2.mem ((c.tc : Thread nD τ).loc main_v2) = dgOut m c) :=
  (θ_run defs _ _).mono (fun r h c =>
    ⟨((h.1 c).1 4).trans (final_dx (holds m c pre)),
      ((h.1 c).1 5).trans (final_dxb (holds m c pre)),
      ((h.1 c).2 main_v2 (Pipeline.mem_restRefs_of main_v2 (by decide) (by decide))).trans (tail_dg (holds m c pre))⟩)
    (run_main m ρ)

/-- The reference's frame: its arguments unchanged and no semaphore left counted. -/
theorem frame_reference (m : (ℓ : Loc Cert.DhMixRefIdeal.nD Cert.DhMixRefIdeal.τ Cert.DhMixRefIdeal.sig) → Buf (Elt Ideal) ℓ) (ρ : Dev Cert.DhMixRefIdeal.nD → PrngReg) :
    θ_run (Cert.DhMixRefIdeal.defs (F := Ideal)) (onTc (τ := Cert.DhMixRefIdeal.τ) (Cert.DhMixRefIdeal.main (F := Ideal))) ⟨m, fun _ => 0, ρ⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1)
      ∧ r.2.mem ((c.tc : Thread Cert.DhMixRefIdeal.nD Cert.DhMixRefIdeal.τ).loc Cert.DhMixRefIdeal.main_arg2) = m ((c.tc : Thread Cert.DhMixRefIdeal.nD Cert.DhMixRefIdeal.τ).loc Cert.DhMixRefIdeal.main_arg2)
      ∧ r.2.mem ((c.tc : Thread Cert.DhMixRefIdeal.nD Cert.DhMixRefIdeal.τ).loc Cert.DhMixRefIdeal.main_arg3) = m ((c.tc : Thread Cert.DhMixRefIdeal.nD Cert.DhMixRefIdeal.τ).loc Cert.DhMixRefIdeal.main_arg3)
      ∧ r.2.mem ((c.tc : Thread Cert.DhMixRefIdeal.nD Cert.DhMixRefIdeal.τ).loc Cert.DhMixRefIdeal.main_arg4) = m ((c.tc : Thread Cert.DhMixRefIdeal.nD Cert.DhMixRefIdeal.τ).loc Cert.DhMixRefIdeal.main_arg4)
      ∧ r.2.mem ((c.tc : Thread Cert.DhMixRefIdeal.nD Cert.DhMixRefIdeal.τ).loc Cert.DhMixRefIdeal.main_arg5) = m ((c.tc : Thread Cert.DhMixRefIdeal.nD Cert.DhMixRefIdeal.τ).loc Cert.DhMixRefIdeal.main_arg5))
      ∧ r.2.sem = fun _ => 0) :=
  (θ_run Cert.DhMixRefIdeal.defs _ _).mono (fun r h => ⟨fun c => (h c).2.2.2, Idealize.ShloMosaic.sem_eq_zero_of_no_sems (by decide) r.2⟩)
    (Cert.DhMixRefIdeal.Value.run (F := Ideal) m ρ)

theorem value : algebraic_DhMixIdeal_DhMixRefIdeal_pre_dh_mix_finite := fun m ρ m' ρ' pre hag =>
  ⟨dxOut m, fun c => (dxOut m c : Vec Ideal S4096x1024 .bf16), dgOut m,
    (θ_run defs _ _).mono (fun _ h c => ⟨(h.1 c).1, (h.1 c).2.1, (h.1 c).2.2, h.2.1 c⟩)
      (θ_run_and (run_kernel m ρ pre) (frame m ρ)),
    (θ_run Cert.DhMixRefIdeal.defs _ _).mono (fun _ h c => by
      obtain ⟨h0, h1, h2, hargs⟩ := h c
      have H := holds m c pre
      obtain ⟨a0, a1, a2, a3, a4, _⟩ := hag c
      have hz := fun (i : Fin 4096) (k : Fin 2560) => (congrFun a0 (ix3 0 i k)).trans (H.z i k)
      have hw := fun (k : Fin 2560) (j : Fin 1024) => (congrFun a1 (ix2 k j)).trans (H.w k j)
      have hx := fun (i : Fin 4096) (j : Fin 1024) => (congrFun a2 (ix2 i j)).trans (H.x i j)
      have hg := fun (j : Fin 1024) => (congrFun a3 (ix1 j)).trans (H.g j)
      have hd := fun (i : Fin 4096) (j : Fin 1024) => (congrFun a4 (ix2 i j)).trans (H.d i j)
      exact ⟨h0.trans ((Cert.DhMixRefIdeal.Read.val_main_v43_eq m' c).trans (Cert.DhMixRefIdeal.Value.v43_real hx hg hd hz hw)),
        h1.trans ((Cert.DhMixRefIdeal.Read.val_main_v44_eq m' c).trans (Cert.DhMixRefIdeal.Value.v44_real hx hg hd hz hw)),
        h2.trans (Cert.DhMixRefIdeal.Value.v28_real hx hz hw), hargs⟩)
      (Cert.DhMixRefIdeal.Value.run (F := Ideal) m' ρ')⟩

end Cert.DhMixIdeal.Value

end
-- ==== Proof.DhFfnPoint.lean ====
/-
  One point of the feed-forward's backward projection, as a function of the blocks it reads: the products of both
  planes' rows added, the norm's gradient of each block of 128 rows, and the sum over the rows that goes to the gains.
  The norm's part is the mixer's (DhMixPoint); the products are of two planes here.
-/
module

public import proofs.«01_k».proof.Proof.Gen.DhFfnIdeal.Skeleton
public import proofs.«01_k».proof.Proof.DhMixPoint

@[expose] public section

noncomputable section

open Idealize.ShloMosaic Idealize.ShloMosaic.TcCoe Idealize.ShloMosaic.RowLoads
namespace Cert.DhFfnIdeal.Value

open Cert.DhFfnIdeal Cert.DhFfnIdeal.Gen
open Cert.DhMixIdeal.Value (rows128 dxRows dxbRows dgRows dxRows_congr dxbRows_congr dgRows_congr)

variable {F : FTy → Type} [FloatOps F]

/-- The products of a half of the tile's cotangent with the weights, both planes added. -/
def dhHalf (z0 z1 : Vec F S512x2816 .bf16) (w0 w1 : Vec F S2816x1024 .bf16) (j : ℕ) (h : 256 * j + 256 ≤ 512) : Vec F S256x1024 .f32 :=
  k0_pay2 (rowsFrom (m := 512) (α := Elt F .bf16) 256 z0 (256 * j) h) w0 (rowsFrom (m := 512) (α := Elt F .bf16) 256 z1 (256 * j) h) w1

/-- 128 rows of them. -/
def dhRows (z0 z1 : Vec F S512x2816 .bf16) (w0 w1 : Vec F S2816x1024 .bf16) (j o : ℕ) (h : 256 * j + 256 ≤ 512) (ho : 128 * o + 128 ≤ 256) : Vec F S128x1024 .f32 :=
  rowsFrom (m := 256) (α := Elt F .f32) 128 (dhHalf z0 z1 w0 w1 j h) (128 * o) ho

variable (z0 z1 : Vec F S512x2816 .bf16) (w0 w1 : Vec F S2816x1024 .bf16) (x : Vec F S512x1024 .f32) (g : Vec F S1x1024 .f32) (d : Vec F S512x1024 .f32)

/-- Block `s` of the tile's gradient. -/
def dxBlock : ℕ → Vec F S128x1024 .f32
  | 0 => dxRows (rows128 x 0 (by omega)) (dhRows z0 z1 w0 w1 0 0 (by omega) (by omega)) g (rows128 d 0 (by omega))
  | 1 => dxRows (rows128 x 1 (by omega)) (dhRows z0 z1 w0 w1 0 1 (by omega) (by omega)) g (rows128 d 1 (by omega))
  | 2 => dxRows (rows128 x 2 (by omega)) (dhRows z0 z1 w0 w1 1 0 (by omega) (by omega)) g (rows128 d 2 (by omega))
  | _ => dxRows (rows128 x 3 (by omega)) (dhRows z0 z1 w0 w1 1 1 (by omega) (by omega)) g (rows128 d 3 (by omega))

/-- Block `s` of it in the narrow type. -/
def dxbBlock : ℕ → Vec F S128x1024 .bf16
  | 0 => dxbRows (rows128 x 0 (by omega)) (dhRows z0 z1 w0 w1 0 0 (by omega) (by omega)) g (rows128 d 0 (by omega))
  | 1 => dxbRows (rows128 x 1 (by omega)) (dhRows z0 z1 w0 w1 0 1 (by omega) (by omega)) g (rows128 d 1 (by omega))
  | 2 => dxbRows (rows128 x 2 (by omega)) (dhRows z0 z1 w0 w1 1 0 (by omega) (by omega)) g (rows128 d 2 (by omega))
  | _ => dxbRows (rows128 x 3 (by omega)) (dhRows z0 z1 w0 w1 1 1 (by omega) (by omega)) g (rows128 d 3 (by omega))

/-- The tile's gradient. -/
def dxTile : Vec F S512x1024 .f32 := Cert.RowBlocks.stack (α := Elt F .f32) (n := 1024) 128 4 (dxBlock z0 z1 w0 w1 x g d)

/-- The tile's gradient in the narrow type. -/
def dxbTile : Vec F S512x1024 .bf16 := Cert.RowBlocks.stack (α := Elt F .bf16) (n := 1024) 128 4 (dxbBlock z0 z1 w0 w1 x g d)

/-- The gains' gradient after the tile. -/
def dgTile (s : Vec F S8x1024 .f32) : Vec F S8x1024 .f32 :=
  dgRows (dgRows (dgRows (dgRows s (rows128 x 0 (by omega)) (dhRows z0 z1 w0 w1 0 0 (by omega) (by omega)))
    (rows128 x 1 (by omega)) (dhRows z0 z1 w0 w1 0 1 (by omega) (by omega)))
    (rows128 x 2 (by omega)) (dhRows z0 z1 w0 w1 1 0 (by omega) (by omega)))
    (rows128 x 3 (by omega)) (dhRows z0 z1 w0 w1 1 1 (by omega) (by omega))

section forms
variable (X : Vec F S128x1024 .f32) (H D : Vec F S128x1024 .f32) (s : Vec F S8x1024 .f32)

theorem dg_first : k0_pay9 (k0_pay5 s) (k0_pay6 X H) (k0_pay7 X H) (k0_pay8 X H) = dgRows s X H := rfl
theorem dg_second : k0_pay15 X (k0_pay12 X) H s = dgRows s X H := rfl
theorem dg_third : k0_pay22 X H s = dgRows s X H := rfl
theorem dg_fourth : k0_pay31 (k0_pay27 s) (k0_pay28 X H) (k0_pay29 X H) (k0_pay30 X H) = dgRows s X H := rfl
theorem dx_first : k0_pay10 (k0_pay3 X) (k0_pay4 X) H g D = dxRows X H g D := rfl
theorem dx_second : k0_pay17 (k0_pay13 (k0_pay12 X)) (k0_pay14 X (k0_pay12 X)) H (k0_pay16 g) D = dxRows X H g D := rfl
theorem dx_third : k0_pay23 (k0_pay20 X) (k0_pay21 X) H g D = dxRows X H g D := rfl
theorem dx_fourth : k0_pay32 (k0_pay25 X) (k0_pay26 X) H g D = dxRows X H g D := rfl
theorem dxb_first : k0_pay11 (k0_pay3 X) (k0_pay4 X) H g D = dxbRows X H g D := rfl
theorem dxb_second : k0_pay18 (k0_pay13 (k0_pay12 X)) (k0_pay14 X (k0_pay12 X)) H (k0_pay16 g) D = dxbRows X H g D := rfl
theorem dxb_third : k0_pay24 (k0_pay20 X) (k0_pay21 X) H g D = dxbRows X H g D := rfl
theorem dxb_fourth : k0_pay33 (k0_pay25 X) (k0_pay26 X) H g D = dxbRows X H g D := rfl
end forms

theorem half_second (Z0 Z1 : Vec F S256x2816 .bf16) : k0_pay19 Z0 w0 Z1 w1 = k0_pay2 Z0 w0 Z1 w1 := rfl

/-! What the stores of a point leave, from what its loads read. -/

section stores
variable {κ : Kind} {sp : Space} {X0 X1 X2 X3 H0 H1 H2 H3 D0 D1 D2 D3 : Vec F S128x1024 .f32} {G0 G1 G2 G3 : Vec F S1x1024 .f32}

variable {z0 z1 w0 w1 x g d}

/-- The tile's gradient stands in its buffer. -/
theorem dx_stored (v : View sig κ sp S512x1024 .f32) (f : v.ty.Contents (Elt F))
    (x0 : X0 = rows128 x 0 (by omega)) (x1 : X1 = rows128 x 1 (by omega)) (x2 : X2 = rows128 x 2 (by omega)) (x3 : X3 = rows128 x 3 (by omega))
    (d0 : D0 = rows128 d 0 (by omega)) (d1 : D1 = rows128 d 1 (by omega)) (d2 : D2 = rows128 d 2 (by omega)) (d3 : D3 = rows128 d 3 (by omega))
    (c0 : H0 = dhRows z0 z1 w0 w1 0 0 (by omega) (by omega)) (c1 : H1 = dhRows z0 z1 w0 w1 0 1 (by omega) (by omega))
    (c2 : H2 = dhRows z0 z1 w0 w1 1 0 (by omega) (by omega)) (c3 : H3 = dhRows z0 z1 w0 w1 1 1 (by omega) (by omega))
    (g0 : G0 = g) (g1 : G1 = g) (g2 : G2 = g) (g3 : G3 = g) (i0 i1 i2 i3) :
    v.read (Elt F) (v.writes (Elt F) f
      [⟨Rect.unit (s := S512x1024) ![384, 0] S128x1024.size i3, k0_pay32 (k0_pay25 X3) (k0_pay26 X3) H3 G3 D3⟩,
       ⟨Rect.unit (s := S512x1024) ![256, 0] S128x1024.size i2, k0_pay23 (k0_pay20 X2) (k0_pay21 X2) H2 G2 D2⟩,
       ⟨Rect.unit (s := S512x1024) ![128, 0] S128x1024.size i1, k0_pay17 (k0_pay13 (k0_pay12 X1)) (k0_pay14 X1 (k0_pay12 X1)) H1 (k0_pay16 G1) D1⟩,
       ⟨Rect.unit (s := S512x1024) ![0, 0] S128x1024.size i0, k0_pay10 (k0_pay3 X0) (k0_pay4 X0) H0 G0 D0⟩]) = dxTile z0 z1 w0 w1 x g d :=
  Cert.RowBlocks.read_four (Val := Elt F) (k := 128) (n := 1024) v f (dxBlock z0 z1 w0 w1 x g d) rfl rfl rfl _ _ _ _
    ((dx_first G0 X0 H0 D0).trans (dxRows_congr x0 c0 g0 d0))
    ((dx_second G1 X1 H1 D1).trans (dxRows_congr x1 c1 g1 d1))
    ((dx_third G2 X2 H2 D2).trans (dxRows_congr x2 c2 g2 d2))
    ((dx_fourth G3 X3 H3 D3).trans (dxRows_congr x3 c3 g3 d3)) i0 i1 i2 i3

/-- And the same in the narrow type. -/
theorem dxb_stored (v : View sig κ sp S512x1024 .bf16) (f : v.ty.Contents (Elt F))
    (x0 : X0 = rows128 x 0 (by omega)) (x1 : X1 = rows128 x 1 (by omega)) (x2 : X2 = rows128 x 2 (by omega)) (x3 : X3 = rows128 x 3 (by omega))
    (d0 : D0 = rows128 d 0 (by omega)) (d1 : D1 = rows128 d 1 (by omega)) (d2 : D2 = rows128 d 2 (by omega)) (d3 : D3 = rows128 d 3 (by omega))
    (c0 : H0 = dhRows z0 z1 w0 w1 0 0 (by omega) (by omega)) (c1 : H1 = dhRows z0 z1 w0 w1 0 1 (by omega) (by omega))
    (c2 : H2 = dhRows z0 z1 w0 w1 1 0 (by omega) (by omega)) (c3 : H3 = dhRows z0 z1 w0 w1 1 1 (by omega) (by omega))
    (g0 : G0 = g) (g1 : G1 = g) (g2 : G2 = g) (g3 : G3 = g) (i0 i1 i2 i3) :
    v.read (Elt F) (v.writes (Elt F) f
      [⟨Rect.unit (s := S512x1024) ![384, 0] S128x1024.size i3, k0_pay33 (k0_pay25 X3) (k0_pay26 X3) H3 G3 D3⟩,
       ⟨Rect.unit (s := S512x1024) ![256, 0] S128x1024.size i2, k0_pay24 (k0_pay20 X2) (k0_pay21 X2) H2 G2 D2⟩,
       ⟨Rect.unit (s := S512x1024) ![128, 0] S128x1024.size i1, k0_pay18 (k0_pay13 (k0_pay12 X1)) (k0_pay14 X1 (k0_pay12 X1)) H1 (k0_pay16 G1) D1⟩,
       ⟨Rect.unit (s := S512x1024) ![0, 0] S128x1024.size i0, k0_pay11 (k0_pay3 X0) (k0_pay4 X0) H0 G0 D0⟩]) = dxbTile z0 z1 w0 w1 x g d :=
  Cert.RowBlocks.read_four (Val := Elt F) (k := 128) (n := 1024) v f (dxbBlock z0 z1 w0 w1 x g d) rfl rfl rfl _ _ _ _
    ((dxb_first G0 X0 H0 D0).trans (dxbRows_congr x0 c0 g0 d0))
    ((dxb_second G1 X1 H1 D1).trans (dxbRows_congr x1 c1 g1 d1))
    ((dxb_third G2 X2 H2 D2).trans (dxbRows_congr x2 c2 g2 d2))
    ((dxb_fourth G3 X3 H3 D3).trans (dxbRows_congr x3 c3 g3 d3)) i0 i1 i2 i3

/-- The four additions to the gains' gradient. -/
theorem dg_added {s S0 S1 S2 S3 : Vec F S8x1024 .f32} (s0 : S0 = s)
    (s1 : S1 = k0_pay9 (k0_pay5 S0) (k0_pay6 X0 H0) (k0_pay7 X0 H0) (k0_pay8 X0 H0))
    (s2 : S2 = k0_pay15 X1 (k0_pay12 X1) H1 S1) (s3 : S3 = k0_pay22 X2 H2 S2)
    (x0 : X0 = rows128 x 0 (by omega)) (x1 : X1 = rows128 x 1 (by omega)) (x2 : X2 = rows128 x 2 (by omega)) (x3 : X3 = rows128 x 3 (by omega))
    (c0 : H0 = dhRows z0 z1 w0 w1 0 0 (by omega) (by omega)) (c1 : H1 = dhRows z0 z1 w0 w1 0 1 (by omega) (by omega))
    (c2 : H2 = dhRows z0 z1 w0 w1 1 0 (by omega) (by omega)) (c3 : H3 = dhRows z0 z1 w0 w1 1 1 (by omega) (by omega)) :
    k0_pay31 (k0_pay27 S3) (k0_pay28 X3 H3) (k0_pay29 X3 H3) (k0_pay30 X3 H3) = dgTile z0 z1 w0 w1 x s :=
  (dg_fourth X3 H3 S3).trans (dgRows_congr (s3.trans ((dg_third X2 H2 S2).trans (dgRows_congr (s2.trans ((dg_second X1 H1 S1).trans
    (dgRows_congr (s1.trans ((dg_first X0 H0 S0).trans (dgRows_congr s0 x0 c0))) x1 c1))) x2 c2))) x3 c3)

end stores

section loads
variable {z0 z1 w0 w1 x g d}
variable {κ κ' κ'' : Kind} {sp sp' sp'' : Space}

/-- A half of the tile's products, from the loads of both planes of the cotangent and of the weights. -/
theorem half_loaded {u0 u1 : View sig κ sp S512x2816 .bf16} {v0 v1 : View sig κ' sp' S2816x1024 .bf16} {f0 : v0.ty.Contents (Elt F)} {f1 : v1.ty.Contents (Elt F)}
    (hv0 : v0.read (Elt F) f0 = w0) (hv1 : v1.read (Elt F) f1 = w1) (j : ℕ) (h : 256 * j + 256 ≤ 512) {i0 i1 i0' i1'} :
    k0_pay2 (u0.readCov [⟨Rect.whole S512x2816, z0⟩] (Rect.unit (s := S512x2816) ![256 * j, 0] S256x2816.size i0).toLoadRect)
      (View.readAt (Elt F) v0 (Rect.unit (s := S2816x1024) ![0, 0] S2816x1024.size i0').toLoadRect f0)
      (u1.readCov [⟨Rect.whole S512x2816, z1⟩] (Rect.unit (s := S512x2816) ![256 * j, 0] S256x2816.size i1).toLoadRect)
      (View.readAt (Elt F) v1 (Rect.unit (s := S2816x1024) ![0, 0] S2816x1024.size i1').toLoadRect f1) = dhHalf z0 z1 w0 w1 j h :=
  congr (congr (congr (congrArg k0_pay2 (Cert.RowBlocks.readCov_whole (Val := Elt F) (m := 512) (n := 2816) (k := 256) (o := 256 * j) u0 z0 i0 h))
    ((Cert.Blocks.readAt_whole (Val := Elt F) Cert.Blocks.hz i0' v0 f0).trans hv0))
    (Cert.RowBlocks.readCov_whole (Val := Elt F) (m := 512) (n := 2816) (k := 256) (o := 256 * j) u1 z1 i1 h))
    ((Cert.Blocks.readAt_whole (Val := Elt F) Cert.Blocks.hz i1' v1 f1).trans hv1)

/-- The same of the other half. -/
theorem half_loaded_second {u0 u1 : View sig κ sp S512x2816 .bf16} {v0 v1 : View sig κ' sp' S2816x1024 .bf16} {f0 : v0.ty.Contents (Elt F)} {f1 : v1.ty.Contents (Elt F)}
    (hv0 : v0.read (Elt F) f0 = w0) (hv1 : v1.read (Elt F) f1 = w1) (j : ℕ) (h : 256 * j + 256 ≤ 512) {i0 i1 i0' i1'} :
    k0_pay19 (u0.readCov [⟨Rect.whole S512x2816, z0⟩] (Rect.unit (s := S512x2816) ![256 * j, 0] S256x2816.size i0).toLoadRect)
      (View.readAt (Elt F) v0 (Rect.unit (s := S2816x1024) ![0, 0] S2816x1024.size i0').toLoadRect f0)
      (u1.readCov [⟨Rect.whole S512x2816, z1⟩] (Rect.unit (s := S512x2816) ![256 * j, 0] S256x2816.size i1).toLoadRect)
      (View.readAt (Elt F) v1 (Rect.unit (s := S2816x1024) ![0, 0] S2816x1024.size i1').toLoadRect f1) = dhHalf z0 z1 w0 w1 j h :=
  (half_second _ _ _ _).trans (half_loaded hv0 hv1 j h)

/-- 128 rows of it, loaded from the scratch. -/
theorem dh_loaded {v : View sig κ sp S512x1024 .f32} {P : Vec F S256x1024 .f32} {L} (j o b : ℕ) (hb : b = 256 * j) (h : 256 * j + 256 ≤ 512) (ho : 128 * o + 128 ≤ 256)
    (hP : P = dhHalf z0 z1 w0 w1 j h) {i i'} :
    v.readCov (⟨Rect.unit (s := S512x1024) ![b, 0] S256x1024.size i, P⟩ :: L) (Rect.unit (s := S512x1024) ![b + 128 * o, 0] S128x1024.size i').toLoadRect
      = dhRows z0 z1 w0 w1 j o h ho := by
  subst hP
  exact Cert.RowBlocks.readCov_within (Val := Elt F) (m := 512) (n := 1024) (K := 256) (k := 128) (b := b) (o := 128 * o) v _ L i i' ho

/-- 128 rows of the tile, loaded. -/
theorem rows_loaded {v : View sig κ sp S512x1024 .f32} {f : v.ty.Contents (Elt F)} (hv : v.read (Elt F) f = x) (s : ℕ) (h : 128 * s + 128 ≤ 512) {i} :
    View.readAt (Elt F) v (Rect.unit (s := S512x1024) ![128 * s, 0] S128x1024.size i).toLoadRect f = rows128 x s h :=
  Cert.RowBlocks.readAt_rows (Val := Elt F) (m := 512) (n := 1024) (k := 128) (o := 128 * s) v f i h x hv

end loads

end Cert.DhFfnIdeal.Value
end
-- ==== Proof.DhFfnPay.lean ====
/-
  One point's arithmetic over the real numbers: where the blocks it reads hold real numbers, each of the values it stores
  is the real formula of its row, and the gains' gradient grows by a sum over the rows.
-/
module

public import Idealize.ShloMosaic.Lib.Pointwise
public import proofs.«01_k».proof.Proof.DhFfnPoint
public import proofs.«01_k».proof.Proof.DhMixPay

@[expose] public section

set_option maxRecDepth 16384

noncomputable section

open Idealize.ShloMosaic Idealize.ShloMosaic.TcCoe Idealize.SL.Sem

namespace Cert.DhFfnIdeal.Value

open Cert.DhFfnIdeal Cert.DhFfnIdeal.Gen Cert.RealLaws Cert.Rows
open Cert.DhMixIdeal.Value (rows128 dxRows dxbRows dgRows rows128_real dxRows_real dgRows_real)

/-- A row of the product of two planes: the sum over the first and the sum over the second. -/
def mulRow₂ {n : ℕ} (W₀ W₁ : ℕ → Fin 1024 → ℝ) (z₀ z₁ : Fin n → ℝ) (j : Fin 1024) : ℝ := mulRow W₀ z₀ j + mulRow W₁ z₁ j

section Tile

variable (z0 z1 : Vec Ideal S512x2816 .bf16) (w0 w1 : Vec Ideal S2816x1024 .bf16) (x : Vec Ideal S512x1024 .f32) (g : Vec Ideal S1x1024 .f32) (d : Vec Ideal S512x1024 .f32)
  (Z0 Z1 : ℕ → Fin 2816 → ℝ) (W0 W1 xr dr : ℕ → Fin 1024 → ℝ) (gr : Fin 1024 → ℝ)

variable (hz0 : ∀ (r : Fin 512) k, z0 (ix2 r k) = (Z0 r k : EReal)) (hz1 : ∀ (r : Fin 512) k, z1 (ix2 r k) = (Z1 r k : EReal))
  (hw0 : ∀ (k : Fin 2816) j, w0 (ix2 k j) = (W0 k j : EReal)) (hw1 : ∀ (k : Fin 2816) j, w1 (ix2 k j) = (W1 k j : EReal))
include hz0 hz1 hw0 hw1

theorem dhHalf_real (q : ℕ) (h : 256 * q + 256 ≤ 512) (r : Fin 256) (j : Fin 1024) :
    dhHalf (F := Ideal) z0 z1 w0 w1 q h (ix2 r j) = (mulRow₂ W0 W1 (Z0 (256 * q + r)) (Z1 (256 * q + r)) j : EReal) := by
  have hr : (r : ℕ) < 256 := r.isLt
  have e0 (k : Fin 2816) : RowLoads.rowsFrom (m := 512) (α := Elt Ideal .bf16) 256 z0 (256 * q) h (ix2 r k) = (Z0 (256 * q + r) k : EReal) :=
    hz0 ⟨256 * q + r, by omega⟩ k
  have e1 (k : Fin 2816) : RowLoads.rowsFrom (m := 512) (α := Elt Ideal .bf16) 256 z1 (256 * q) h (ix2 r k) = (Z1 (256 * q + r) k : EReal) :=
    hz1 ⟨256 * q + r, by omega⟩ k
  unfold dhHalf
  generalize RowLoads.rowsFrom (m := 512) (α := Elt Ideal .bf16) 256 z0 (256 * q) h = y0 at e0
  generalize RowLoads.rowsFrom (m := 512) (α := Elt Ideal .bf16) 256 z1 (256 * q) h = y1 at e1
  pointwise [k0_pay2]
  simp only [e0, e1, hw0, hw1, ← EReal.coe_mul, coe_sum, ← EReal.coe_add]
  rfl

theorem dhRows_real (q o : ℕ) (h : 256 * q + 256 ≤ 512) (ho : 128 * o + 128 ≤ 256) (r : Fin 128) (j : Fin 1024) :
    dhRows (F := Ideal) z0 z1 w0 w1 q o h ho (ix2 r j) = (mulRow₂ W0 W1 (Z0 (128 * (2 * q + o) + r)) (Z1 (128 * (2 * q + o) + r)) j : EReal) := by
  have hr : (r : ℕ) < 128 := r.isLt
  refine (dhHalf_real z0 z1 w0 w1 Z0 Z1 W0 W1 hz0 hz1 hw0 hw1 q h ⟨128 * o + r, by omega⟩ j).trans ?_
  rw [show 256 * q + ((⟨128 * o + r, by omega⟩ : Fin 256) : ℕ) = 128 * (2 * q + o) + r from by
    show 256 * q + (128 * o + r) = _
    omega]

variable (hx : ∀ (r : Fin 512) j, x (ix2 r j) = (xr r j : EReal))
include hx

/-- What a tile adds to the gains' gradient. -/
theorem dgTile_real (s : Vec Ideal S8x1024 .f32) (u : Fin 8) (j : Fin 1024) :
    dgTile z0 z1 w0 w1 x s (ix2 u j) = s (ix2 u j) + ((∑ q ∈ Finset.range 4, ∑ a ∈ Finset.range 16,
      mulRow₂ W0 W1 (Z0 (128 * q + (8 * a + u))) (Z1 (128 * q + (8 * a + u))) j * xn (xr (128 * q + (8 * a + u))) j : ℝ) : EReal) := by
  have step (q o : ℕ) (h : 256 * q + 256 ≤ 512) (ho : 128 * o + 128 ≤ 256) (hs : 128 * (2 * q + o) + 128 ≤ 512) (s : Vec Ideal S8x1024 .f32) :
      dgRows s (rows128 x (2 * q + o) hs) (dhRows z0 z1 w0 w1 q o h ho) (ix2 u j) = s (ix2 u j)
        + ((∑ a ∈ Finset.range 16, mulRow₂ W0 W1 (Z0 (128 * (2 * q + o) + (8 * a + u))) (Z1 (128 * (2 * q + o) + (8 * a + u))) j * xn (xr (128 * (2 * q + o) + (8 * a + u))) j : ℝ) : EReal) :=
    dgRows_real _ _ (fun r => xr (128 * (2 * q + o) + r)) (fun r => mulRow₂ W0 W1 (Z0 (128 * (2 * q + o) + r)) (Z1 (128 * (2 * q + o) + r)))
      (rows128_real x xr hx _ hs) (dhRows_real z0 z1 w0 w1 Z0 Z1 W0 W1 hz0 hz1 hw0 hw1 q o h ho) s u j
  unfold dgTile
  refine (step 1 1 (by omega) (by omega) (by omega) _).trans ?_
  refine (congrArg (· + _) (step 1 0 (by omega) (by omega) (by omega) _)).trans ?_
  refine (congrArg (· + _ + _) (step 0 1 (by omega) (by omega) (by omega) _)).trans ?_
  refine (congrArg (· + _ + _ + _) (step 0 0 (by omega) (by omega) (by omega) _)).trans ?_
  simp only [Finset.sum_range_succ _ 3, Finset.sum_range_succ _ 2, Finset.sum_range_succ _ 1, Finset.sum_range_one, EReal.coe_add, add_assoc]

variable (hg : ∀ j, g (ix2 0 j) = (gr j : EReal)) (hd : ∀ (r : Fin 512) j, d (ix2 r j) = (dr r j : EReal))
include hg hd

theorem dxBlock_real (s : ℕ) (hs : s < 4) (r : Fin 128) (j : Fin 1024) :
    dxBlock z0 z1 w0 w1 x g d s (ix2 r j) = (dnorm (xr (128 * s + r)) (mulRow₂ W0 W1 (Z0 (128 * s + r)) (Z1 (128 * s + r))) gr (dr (128 * s + r)) j : EReal) := by
  have step (q o : ℕ) (h : 256 * q + 256 ≤ 512) (ho : 128 * o + 128 ≤ 256) (hs : 128 * (2 * q + o) + 128 ≤ 512) :
      dxRows (rows128 x (2 * q + o) hs) (dhRows z0 z1 w0 w1 q o h ho) g (rows128 d (2 * q + o) hs) (ix2 r j)
        = (dnorm (xr (128 * (2 * q + o) + r)) (mulRow₂ W0 W1 (Z0 (128 * (2 * q + o) + r)) (Z1 (128 * (2 * q + o) + r))) gr (dr (128 * (2 * q + o) + r)) j : EReal) :=
    dxRows_real _ _ _ g (fun r => xr (128 * (2 * q + o) + r)) (fun r => mulRow₂ W0 W1 (Z0 (128 * (2 * q + o) + r)) (Z1 (128 * (2 * q + o) + r))) (fun r => dr (128 * (2 * q + o) + r)) gr
      (rows128_real x xr hx _ hs) (dhRows_real z0 z1 w0 w1 Z0 Z1 W0 W1 hz0 hz1 hw0 hw1 q o h ho) hg (rows128_real d dr hd _ hs) r j
  match s, hs with
  | 0, _ => exact step 0 0 (by omega) (by omega) (by omega)
  | 1, _ => exact step 0 1 (by omega) (by omega) (by omega)
  | 2, _ => exact step 1 0 (by omega) (by omega) (by omega)
  | 3, _ => exact step 1 1 (by omega) (by omega) (by omega)

/-- A tile's gradient, row by row. -/
theorem dxTile_real (r : Fin 512) (j : Fin 1024) :
    dxTile z0 z1 w0 w1 x g d (ix2 r j) = (dnorm (xr r) (mulRow₂ W0 W1 (Z0 r) (Z1 r)) gr (dr r) j : EReal) := by
  have hr : (r : ℕ) < 512 := r.isLt
  refine (dxBlock_real z0 z1 w0 w1 x g d Z0 Z1 W0 W1 xr dr gr hz0 hz1 hw0 hw1 hx hg hd (r.val / 128) (by omega) ⟨r.val % 128, Nat.mod_lt _ (by decide)⟩ j).trans ?_
  rw [show 128 * (r.val / 128) + ((⟨r.val % 128, Nat.mod_lt _ (by decide)⟩ : Fin 128) : ℕ) = r.val from Nat.div_add_mod _ _]

omit hz0 hz1 hw0 hw1 hx hg hd in
/-- The narrow type stores the same real numbers. -/
theorem dxbTile_eq : dxbTile z0 z1 w0 w1 x g d = (dxTile z0 z1 w0 w1 x g d : (S512x1024 : Shape).Idx → EReal) := by
  funext y
  have e (s : ℕ) : dxbBlock z0 z1 w0 w1 x g d s = (dxBlock z0 z1 w0 w1 x g d s : (S128x1024 : Shape).Idx → EReal) := by
    match s with
    | 0 => rfl
    | 1 => rfl
    | 2 => rfl
    | _ + 3 => rfl
  exact congrFun (e _) _

end Tile

end Cert.DhFfnIdeal.Value

end
-- ==== Proof.DhFfnRing.lean ====
/-
  The feed-forward's backward projection streams the row blocks of its two cotangent planes through three slots of a
  scratch buffer, a slot holding one block of each plane. This module names the places, the blocks and the semaphores,
  says what is held of each between two grid points, and turns what the launch hands over into that state and back.
-/
module

public import proofs.«01_k».proof.Proof.Gen.DhFfnIdeal.Skeleton
public import proofs.«01_k».proof.Proof.Gen.DhFfnIdeal.Launch
public import proofs.«01_k».proof.Proof.Gen.DhFfnIdeal.Points
public import Idealize.ShloMosaic.Lib.Pipeline.FrameBody
public import Idealize.ShloMosaic.Lib.Pipeline.FrameSuffix
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhFfnIdeal.Value

open Cert.DhFfnIdeal Cert.DhFfnIdeal.Gen

variable {F : FTy → Type} [FloatOps F]

local notation "𝕄" => MT nD τ sig Unit (Elt F) ℕ (Pipeline.UD sig nD τ) ℕ

/-! ## Names -/

abbrev dhScr : Memref sig .tc .vmem S512x1024 .f32 := Memref.whole cc0_scratch0
abbrev ringScr : Memref sig .tc .vmem S3x2x512x2816 .bf16 := Memref.whole cc0_scratch1
abbrev dzArr : Memref sig .tc .hbm S2x4096x2816 .bf16 := Memref.whole main_arg0
abbrev depArr : Memref sig .tc .hbm S8x128 .f32 := Memref.whole main_arg5

theorem slot_inb (s : Fin 3) (q : Fin 2) : ∀ a, (![s.val, q.val, 0, 0] : Fin 4 → Nat) a + S1x1x512x2816.size a ≤ S3x2x512x2816.size a := by
  have := s.isLt; have := q.isLt; intro a; fin_cases a <;> simp <;> omega
theorem block_inb (q : Fin 2) (b : Fin 8) : ∀ a, (![q.val, 512 * b.val, 0] : Fin 3 → Nat) a + S1x512x2816.size a ≤ S2x4096x2816.size a := by
  have := b.isLt; have := q.isLt; intro a; fin_cases a <;> simp <;> omega
theorem cell_inb (s : Fin 3) (q : Fin 2) : ∀ a, (![s.val, q.val] : Fin 2 → Nat) a + S1x1.size a ≤ S3x2.size a := by
  have := s.isLt; have := q.isLt; intro a; fin_cases a <;> simp <;> omega

/-- Slot `s`'s place for plane `q`, block `b` of that plane's rows, and the place's semaphore. -/
def slot (s : Fin 3) (q : Fin 2) : Memref sig .tc .vmem S512x2816 .bf16 :=
  (ringScr.slice (Rect.unit (s := S3x2x512x2816) ![s.val, q.val, 0, 0] S1x1x512x2816.size (slot_inb s q)) (fun _ => rfl)).squeeze S512x2816 squeezes_S1x1x512x2816_S512x2816
def block (q : Fin 2) (b : Fin 8) : Memref sig .tc .hbm S512x2816 .bf16 :=
  (dzArr.slice (Rect.unit (s := S2x4096x2816) ![q.val, 512 * b.val, 0] S1x512x2816.size (block_inb q b)) (fun _ => rfl)).squeeze S512x2816 squeezes_S1x512x2816_S512x2816
def cell (s : Fin 3) (q : Fin 2) : DmaSems sig S_ :=
  (cc0_scratch2.slice (Rect.unit (s := S3x2) ![s.val, q.val] S1x1.size (cell_inb s q))).squeeze S_ squeezes_S1x1_S_
abbrev cellLoc (s : Fin 3) (q : Fin 2) : SemLoc sig := SemLoc.dma (cell s q).sem

/-- The six semaphores, by number; a number's slot and its plane. -/
abbrev ownSem : Fin 6 → SemLoc sig := fun j =>
  (![SemLoc.dma 12, SemLoc.dma 13, SemLoc.dma 14, SemLoc.dma 15, SemLoc.dma 16, SemLoc.dma 17] : Fin 6 → SemLoc sig) j
abbrev slotNo (j : Fin 6) : Fin 3 := ⟨j.val / 2, by omega⟩
abbrev planeNo (j : Fin 6) : Fin 2 := ⟨j.val % 2, by omega⟩
theorem cellLoc_eq : ∀ j : Fin 6, cellLoc (slotNo j) (planeNo j) = ownSem j := by decide
theorem ownSem_facts : Pipeline.OwnSemFacts spec0 ownSem := by decide

/-! ## What is held of each -/

/-- The type of a buffer's contents, and a buffer held whole. -/
abbrev Held (c : Dev nD) {sp : Space} {S : Shape} {e : EltTy} (M : Memref sig .tc sp S e) : Type := Buf (Elt F) (M.view.loc (c : Thread nD τ))
abbrev whole (c : Dev nD) {sp : Space} {S : Shape} {e : EltTy} (M : Memref sig .tc sp S e) (f : Held (F := F) c M) : sProp 𝕄 :=
  M.view.loc (c : Thread nD τ) ↦{fullShare} f

section Ring
variable (c : Dev nD) (W : Held (F := F) c dzArr)

/-- A read share for each slot, halved between the planes, so that a copy may borrow any block. -/
abbrev slotShare (s : Fin 3) : PosShare TreeShare := if s.val = 0 then fullShare.left else if s.val = 1 then fullShare.right.left else fullShare.right.right
abbrev share (s : Fin 3) (q : Fin 2) : PosShare TreeShare := if q.val = 0 then (slotShare s).left else (slotShare s).right
abbrev slotPt (s : Fin 3) (q : Fin 2) (f : Held (F := F) c (slot s q)) : sProp 𝕄 := (slot s q).view.loc (c : Thread nD τ) ↦[(slot s q).view.set]{fullShare} f
abbrev cellPt (s : Fin 3) (q : Fin 2) : sProp 𝕄 := semVal ((c : Thread nD τ), cellLoc s q) 0
abbrev lent (s : Fin 3) (q : Fin 2) (b : Fin 8) : sProp 𝕄 := (block q b).view.loc (c : Thread nD τ) ↦[(block q b).view.set]{share s q} W
/-- The rest of the place's share, folded away from the executor. -/
def unlent (s : Fin 3) (q : Fin 2) (b : Fin 8) : sProp 𝕄 := ((c : Thread nD τ).loc main_arg0) ↦[Finset.univ \ (block q b).view.set]{share s q} W
abbrev shared (s : Fin 3) (q : Fin 2) : sProp 𝕄 := ((c : Thread nD τ).loc main_arg0) ↦[Finset.univ]{share s q} W
/-- The rows of block `b` of plane `q`, and a place's contents once they have landed in it. -/
abbrev rowsOf (q : Fin 2) (b : Fin 8) : Vec F S512x2816 .bf16 := (block q b).view.read (Elt F) W
abbrev landed (s : Fin 3) (q : Fin 2) (b : Fin 8) (f : Held (F := F) c (slot s q)) : Held (F := F) c (slot s q) :=
  (slot s q).view.writes (Elt F) f [⟨Rect.whole S512x2816, ReadAs.same.apply ((block q b).view.read (Elt F) W)⟩]
abbrev copying (s : Fin 3) (q : Fin 2) (b : Fin 8) (f : Held (F := F) c (slot s q)) : sProp 𝕄 :=
  Transfers.Flight countersEmb (c : Thread nD τ) (cellLoc s q) default ((slot s q).view.amount (cellLoc s q))
    iprop(slotPt c s q (landed c W s q b f) ∗ lent c W s q b)
/-- A place at rest has its share of the cotangent whole; a place being filled has the rest of it. -/
abbrev placeResting (s : Fin 3) (q : Fin 2) (f : Held (F := F) c (slot s q)) : sProp 𝕄 := iprop(slotPt c s q f ∗ shared c W s q)
abbrev placeFilling (s : Fin 3) (q : Fin 2) (b : Fin 8) (f : Held (F := F) c (slot s q)) : sProp 𝕄 := iprop(copying c W s q b f ∗ unlent c W s q b)
/-- A slot is its two places. -/
abbrev Both (s : Fin 3) : Type := Held (F := F) c (slot s 0) × Held (F := F) c (slot s 1)
abbrev cells (s : Fin 3) : sProp 𝕄 := iprop(cellPt c s 0 ∗ cellPt c s 1)
abbrev resting (s : Fin 3) (f : Both (F := F) c s) : sProp 𝕄 := iprop(placeResting c W s 0 f.1 ∗ placeResting c W s 1 f.2)
abbrev filling (s : Fin 3) (b : Fin 8) (f : Both (F := F) c s) : sProp 𝕄 := iprop(placeFilling c W s 0 b f.1 ∗ placeFilling c W s 1 b f.2)
abbrev nothing (b : Fin 8) : sProp 𝕄 := iprop(emp)

/-- The ring before point `k`: at rest before the first one, then blocks `k` and `k + 1` on their way. -/
def ringAt (k : ℕ) : sProp 𝕄 :=
  if k = 0 then Ring.At₀ (cells c) (resting c W) nothing else Ring.At 2 (cells c) (resting c W) nothing (filling c W) k

omit [FloatOps F] in
theorem cellPt_eq (j : Fin 6) : cellPt (F := F) c (slotNo j) (planeNo j) = semVal ((c : Thread nD τ), ownSem j) 0 :=
  congrArg (fun x => (semVal ((c : Thread nD τ), x) 0 : sProp 𝕄)) (cellLoc_eq j)

/-- A share of the cotangent is one block's elements and the rest. -/
theorem shared_split (s : Fin 3) (q : Fin 2) (b : Fin 8) : shared (F := F) c W s q ⊣⊢ iprop(lent c W s q b ∗ unlent c W s q b) := by
  unfold unlent; exact pointsTo_split_subset (Finset.subset_univ _)
/-- A slot's share is its two places'. -/
theorem slot_shares (s : Fin 3) : (((c : Thread nD τ).loc main_arg0) ↦[Finset.univ]{slotShare s} W : sProp 𝕄) ⊣⊢ iprop(shared c W s 0 ∗ shared c W s 1) :=
  pointsTo_share (PosShare.mem_left_op_right (slotShare s))
/-- The cotangent whole is the six shares. -/
theorem whole_split : (whole c dzArr W : sProp 𝕄)
    ⊣⊢ iprop((shared c W 0 0 ∗ shared c W 0 1) ∗ (shared c W 1 0 ∗ shared c W 1 1) ∗ (shared c W 2 0 ∗ shared c W 2 1)) := by
  refine ⟨?_, ?_⟩
  · iintro H
    ihave H' := (pointsTo_share (PosShare.mem_left_op_right fullShare)).1 $$ H
    icases H' with ⟨Ha, Hb⟩
    ihave H'' := (pointsTo_share (PosShare.mem_left_op_right fullShare.right)).1 $$ Hb
    icases H'' with ⟨Hb, Hc⟩
    isplitl [Ha]; · iapply (slot_shares (F := F) c W 0).1; iexact Ha
    isplitl [Hb]; · iapply (slot_shares (F := F) c W 1).1; iexact Hb
    iapply (slot_shares (F := F) c W 2).1; iexact Hc
  · iintro ⟨Ha, Hb, Hc⟩
    ihave Ha := (slot_shares (F := F) c W 0).2 $$ Ha
    ihave Hb := (slot_shares (F := F) c W 1).2 $$ Hb
    ihave Hc := (slot_shares (F := F) c W 2).2 $$ Hc
    iapply (pointsTo_share (PosShare.mem_left_op_right fullShare)).2
    isplitl [Ha]; · iexact Ha
    iapply (pointsTo_share (PosShare.mem_left_op_right fullShare.right)).2
    isplitl [Hb]; · iexact Hb
    iexact Hc

/-! ## The places are the scratch buffer -/

abbrev placeSet (j : Fin 6) : Finset S3x2x512x2816.Idx :=
  (Rect.unit (s := S3x2x512x2816) ![(slotNo j).val, (planeNo j).val, 0, 0] S1x1x512x2816.size (slot_inb (slotNo j) (planeNo j))).set
theorem placeSet_eq (j : Fin 6) : (slot (slotNo j) (planeNo j)).view.set = placeSet j := by
  simp only [slot, Memref.view_squeeze, View.set_reshape]; exact View.set_slice_whole _ _
theorem places_disjoint (j j' : Fin 6) (h : j ≠ j') : Disjoint (placeSet j) (placeSet j') := by
  rw [Finset.disjoint_left]
  intro i hi hi'
  have h0 := (Rect.mem_set_unit.mp hi) 0
  have h1 := (Rect.mem_set_unit.mp hi) 1
  have h0' := (Rect.mem_set_unit.mp hi') 0
  have h1' := (Rect.mem_set_unit.mp hi') 1
  simp at h0 h1 h0' h1'
  have hv : j.val ≠ j'.val := fun e => h (Fin.ext e)
  omega
theorem places_cover : Finset.univ.biUnion placeSet = Finset.univ := by
  ext i
  simp only [Finset.mem_biUnion, Finset.mem_univ, true_and, iff_true]
  have hi0 : (i 0).val < 3 := (i 0).isLt
  have hi1 : (i 1).val < 2 := (i 1).isLt
  have hi2 : (i 2).val < 512 := (i 2).isLt
  have hi3 : (i 3).val < 2816 := (i 3).isLt
  refine ⟨⟨2 * (i 0).val + (i 1).val, by omega⟩, Rect.mem_set_unit.mpr fun a => ?_⟩
  fin_cases a <;> simp <;> omega
abbrev placePt (j : Fin 6) (f : Buf (Elt F) ((c : Thread nD τ).loc cc0_scratch1)) : sProp 𝕄 := slotPt c (slotNo j) (planeNo j) f
theorem placePt_eq (j : Fin 6) (f) : placePt (F := F) c j f = (((c : Thread nD τ).loc cc0_scratch1) ↦[placeSet j]{fullShare} f : sProp 𝕄) := by
  unfold placePt slotPt; rw [placeSet_eq]; rfl

/-- The places, one by one. -/
abbrev places : sProp 𝕄 :=
  iprop(((∃ f, slotPt (F := F) c 0 0 f) ∗ (∃ f, slotPt (F := F) c 0 1 f)) ∗ ((∃ f, slotPt (F := F) c 1 0 f) ∗ (∃ f, slotPt (F := F) c 1 1 f))
    ∗ ((∃ f, slotPt (F := F) c 2 0 f) ∗ (∃ f, slotPt (F := F) c 2 1 f)))

set_option maxHeartbeats 1000000 in
theorem slots_split : iprop(∃ d, owns (c : Thread nD τ) ringScr fullShare d) ⊢ places (F := F) c := by
  simp only [ringScr, owns_whole]
  refine (Ring.slots_split_n (U := Pipeline.UD sig nD τ) (ℓ := (c : Thread nD τ).loc cc0_scratch1) (q := fullShare) placeSet places_disjoint places_cover
    [0, 1, 2, 3, 4, 5] (by decide) (by decide) (placePt c) (placePt_eq c)).trans ?_
  show iprop((∃ f, slotPt (F := F) c 0 0 f) ∗ (∃ f, slotPt (F := F) c 0 1 f) ∗ (∃ f, slotPt (F := F) c 1 0 f) ∗ (∃ f, slotPt (F := F) c 1 1 f)
    ∗ (∃ f, slotPt (F := F) c 2 0 f) ∗ (∃ f, slotPt (F := F) c 2 1 f)) ⊢ _
  iintro ⟨H0, H1, H2, H3, H4, H5⟩
  isplitl [H0 H1]; · isplitl [H0]; · iexact H0
                     iexact H1
  isplitl [H2 H3]; · isplitl [H2]; · iexact H2
                     iexact H3
  isplitl [H4]; · iexact H4
  iexact H5
set_option maxHeartbeats 1000000 in
theorem slots_join : places (F := F) c ⊢ iprop(∃ d, owns (c : Thread nD τ) ringScr fullShare d) := by
  simp only [ringScr, owns_whole]
  refine Idealize.SL.BI.Entails.trans ?_ (Ring.slots_join_n (U := Pipeline.UD sig nD τ) (ℓ := (c : Thread nD τ).loc cc0_scratch1) (q := fullShare) placeSet places_disjoint places_cover
    [0, 1, 2, 3, 4, 5] (by decide) (by decide) (placePt c) (placePt_eq c))
  show _ ⊢ iprop((∃ f, slotPt (F := F) c 0 0 f) ∗ (∃ f, slotPt (F := F) c 0 1 f) ∗ (∃ f, slotPt (F := F) c 1 0 f) ∗ (∃ f, slotPt (F := F) c 1 1 f)
    ∗ (∃ f, slotPt (F := F) c 2 0 f) ∗ (∃ f, slotPt (F := F) c 2 1 f))
  iintro ⟨⟨H0, H1⟩, ⟨H2, H3⟩, ⟨H4, H5⟩⟩
  isplitl [H0]; · iexact H0
  isplitl [H1]; · iexact H1
  isplitl [H2]; · iexact H2
  isplitl [H3]; · iexact H3
  isplitl [H4]; · iexact H4
  iexact H5

/-! ## Into the ring and out of it -/

/-- The semaphores at zero, slot by slot. -/
abbrev semsAtZero : sProp 𝕄 :=
  iprop((semVal ((c : Thread nD τ), ownSem 0) 0 ∗ semVal ((c : Thread nD τ), ownSem 1) 0) ∗ (semVal ((c : Thread nD τ), ownSem 2) 0 ∗ semVal ((c : Thread nD τ), ownSem 3) 0)
    ∗ (semVal ((c : Thread nD τ), ownSem 4) 0 ∗ semVal ((c : Thread nD τ), ownSem 5) 0))

omit [FloatOps F] in
theorem cells_eq : semsAtZero (F := F) c = iprop(cells c 0 ∗ cells c 1 ∗ cells c 2) := by
  unfold semsAtZero
  rw [← cellPt_eq c 0, ← cellPt_eq c 1, ← cellPt_eq c 2, ← cellPt_eq c 3, ← cellPt_eq c 4, ← cellPt_eq c 5]
  rfl

/-- The scratch buffer, the semaphores at zero and the cotangent. -/
abbrev atRest : sProp 𝕄 := iprop((∃ d, owns (c : Thread nD τ) ringScr fullShare d) ∗ semsAtZero c ∗ whole c dzArr W)

theorem ring_in : atRest c W ⊢ ringAt c W 0 := by
  unfold ringAt atRest; rw [if_pos rfl, cells_eq]; unfold Ring.At₀
  rw [Ring.bigSep_fin3]
  simp only [Ring.free]
  iintro ⟨HS, ⟨H0, H1, H2⟩, HW⟩
  iapply Ring.with_homes₀
  ihave HS' := (slots_split (F := F) c) $$ HS
  icases HS' with ⟨⟨⟨%d0, HS0⟩, ⟨%e0, HT0⟩⟩, ⟨⟨%d1, HS1⟩, ⟨%e1, HT1⟩⟩, ⟨⟨%d2, HS2⟩, ⟨%e2, HT2⟩⟩⟩
  ihave HW' := (whole_split (F := F) c W).1 $$ HW
  icases HW' with ⟨⟨HW0, HV0⟩, ⟨HW1, HV1⟩, ⟨HW2, HV2⟩⟩
  isplitl [H0 HS0 HT0 HW0 HV0]
  · isplitl [H0]; · iexact H0
    iexists (d0, e0); isplitl [HS0 HW0]; · isplitl [HS0]; · iexact HS0
                                           iexact HW0
    isplitl [HT0]; · iexact HT0
    iexact HV0
  isplitl [H1 HS1 HT1 HW1 HV1]
  · isplitl [H1]; · iexact H1
    iexists (d1, e1); isplitl [HS1 HW1]; · isplitl [HS1]; · iexact HS1
                                           iexact HW1
    isplitl [HT1]; · iexact HT1
    iexact HV1
  · isplitl [H2]; · iexact H2
    iexists (d2, e2); isplitl [HS2 HW2]; · isplitl [HS2]; · iexact HS2
                                           iexact HW2
    isplitl [HT2]; · iexact HT2
    iexact HV2

theorem ring_out : ringAt c W 8 ⊢ atRest c W := by
  unfold ringAt atRest; rw [if_neg (by decide), cells_eq]
  iintro H
  ihave H' := (Ring.free3_of_At_last _ _ _ _) $$ H
  simp only [Ring.free]
  icases H' with ⟨-, ⟨H0, ⟨%f0, ⟨HS0, HW0⟩, ⟨HT0, HV0⟩⟩⟩, ⟨H1, ⟨%f1, ⟨HS1, HW1⟩, ⟨HT1, HV1⟩⟩⟩, ⟨H2, ⟨%f2, ⟨HS2, HW2⟩, ⟨HT2, HV2⟩⟩⟩⟩
  isplitl [HS0 HS1 HS2 HT0 HT1 HT2]
  · iapply (slots_join (F := F) c)
    isplitl [HS0 HT0]
    · isplitl [HS0]; · iexists _; iexact HS0
      iexists _; iexact HT0
    isplitl [HS1 HT1]
    · isplitl [HS1]; · iexists _; iexact HS1
      iexists _; iexact HT1
    isplitl [HS2]; · iexists _; iexact HS2
    iexists _; iexact HT2
  isplitl [H0 H1 H2]
  · isplitl [H0]; · iexact H0
    isplitl [H1]; · iexact H1
    iexact H2
  · iapply (whole_split (F := F) c W).2
    isplitl [HW0 HV0]; · isplitl [HW0]; · iexact HW0
                         iexact HV0
    isplitl [HW1 HV1]; · isplitl [HW1]; · iexact HW1
                         iexact HV1
    isplitl [HW2]; · iexact HW2
    iexact HV2

end Ring

/-! ## The point's places, blocks and semaphores -/

/-- The first point, and the points that start copies. -/
abbrev isFirst (i : grid0.Coords) : Prop := k0_cond1 i = 1#1
abbrev starts (i : grid0.Coords) : Prop := k0_cond2 i = 1#1
theorem first_iff : ∀ t : Fin cfg0.N, isFirst (grid0.coords t) ↔ t.val = 0 := (by decide +kernel : ∀ t : Fin grid0.N, isFirst (grid0.coords t) ↔ t.val = 0)
theorem starts_iff : ∀ t : Fin cfg0.N, starts (grid0.coords t) ↔ t.val < 6 := (by decide +kernel : ∀ t : Fin grid0.N, starts (grid0.coords t) ↔ t.val < 6)

section Canon
omit [FloatOps F]

instance : NeZero grid0.N := ⟨by rw [N_0]; decide⟩

theorem slot_of {o : Fin 4 → Nat} {h} {s : Fin 3} {q : Fin 2} (e : o = ![s.val, q.val, 0, 0]) :
    (ringScr.slice (Rect.unit (s := S3x2x512x2816) o S1x1x512x2816.size h) (fun _ => rfl)).squeeze S512x2816 squeezes_S1x1x512x2816_S512x2816 = slot s q :=
  congrArg (fun M : Memref sig .tc .vmem S1x1x512x2816 .bf16 => M.squeeze S512x2816 squeezes_S1x1x512x2816_S512x2816) (Memref.slice_unit_congr _ e _ _ (fun _ => rfl) (fun _ => rfl))
theorem block_of {o : Fin 3 → Nat} {h} {q : Fin 2} {b : Fin 8} (e : o = ![q.val, 512 * b.val, 0]) :
    (dzArr.slice (Rect.unit (s := S2x4096x2816) o S1x512x2816.size h) (fun _ => rfl)).squeeze S512x2816 squeezes_S1x512x2816_S512x2816 = block q b :=
  congrArg (fun M : Memref sig .tc .hbm S1x512x2816 .bf16 => M.squeeze S512x2816 squeezes_S1x512x2816_S512x2816) (Memref.slice_unit_congr _ e _ _ (fun _ => rfl) (fun _ => rfl))
theorem cell_of {o : Fin 2 → Nat} {h} {s : Fin 3} {q : Fin 2} (e : o = ![s.val, q.val]) :
    (cc0_scratch2.slice (Rect.unit (s := S3x2) o S1x1.size h)).squeeze S_ squeezes_S1x1_S_ = cell s q :=
  congrArg (fun A : DmaSems sig S1x1 => A.squeeze S_ squeezes_S1x1_S_) (SemArray.slice_unit_congr _ e _ _)

variable (t : Fin grid0.N)

/-- At the first point the slots are 0 and 1, the blocks too. -/
theorem first_sl : ∀ t : Fin grid0.N, isFirst (grid0.coords t) →
    (Ring.sl 3 t.val).val = 0 ∧ (Ring.sl 3 (t.val + 1)).val = 1 ∧ (Ring.bk 8 t.val).val = 0 ∧ (Ring.bk 8 (t.val + 1)).val = 1 := by decide +kernel

theorem off_next : ∀ t : Fin grid0.N,
    (k0_off2 (grid0.coords t) = ![(Ring.sl 3 (t.val + 2)).val, 0, 0, 0] ∧ k0_off1 (grid0.coords t) = ![(Ring.sl 3 (t.val + 2)).val, 0]
      ∧ (starts (grid0.coords t) → k0_off3 (grid0.coords t) = ![0, 512 * (Ring.bk 8 (t.val + 2)).val, 0]))
    ∧ (k0_off5 (grid0.coords t) = ![(Ring.sl 3 (t.val + 2)).val, 1, 0, 0] ∧ k0_off4 (grid0.coords t) = ![(Ring.sl 3 (t.val + 2)).val, 1]
      ∧ (starts (grid0.coords t) → k0_off6 (grid0.coords t) = ![1, 512 * (Ring.bk 8 (t.val + 2)).val, 0])) := by decide +kernel
theorem off_here : ∀ t : Fin grid0.N,
    (k0_off8 (grid0.coords t) = ![(Ring.sl 3 t.val).val, 0, 0, 0] ∧ k0_off7 (grid0.coords t) = ![(Ring.sl 3 t.val).val, 0])
    ∧ (k0_off11 (grid0.coords t) = ![(Ring.sl 3 t.val).val, 1, 0, 0] ∧ k0_off10 (grid0.coords t) = ![(Ring.sl 3 t.val).val, 1]) := by decide +kernel

@[sl_canon] theorem slot_next0 (h : starts (grid0.coords t)) :
    (ringScr.slice (Rect.unit (s := S3x2x512x2816) (k0_off2 (grid0.coords t)) S1x1x512x2816.size (k0_off2_inb (grid0.coords t) h)) (fun _ => rfl)).squeeze S512x2816 squeezes_S1x1x512x2816_S512x2816 = slot (Ring.sl 3 (t.val + 2)) 0 :=
  slot_of (off_next t).1.1
@[sl_canon] theorem cell_next0 (h : starts (grid0.coords t)) :
    (cc0_scratch2.slice (Rect.unit (s := S3x2) (k0_off1 (grid0.coords t)) S1x1.size (k0_off1_inb (grid0.coords t) h))).squeeze S_ squeezes_S1x1_S_ = cell (Ring.sl 3 (t.val + 2)) 0 :=
  cell_of (off_next t).1.2.1
@[sl_canon] theorem block_next0 (h : starts (grid0.coords t)) :
    (dzArr.slice (Rect.unit (s := S2x4096x2816) (k0_off3 (grid0.coords t)) S1x512x2816.size (k0_off3_inb (grid0.coords t) h)) (fun _ => rfl)).squeeze S512x2816 squeezes_S1x512x2816_S512x2816 = block 0 (Ring.bk 8 (t.val + 2)) :=
  block_of ((off_next t).1.2.2 h)
@[sl_canon] theorem slot_next1 (h : starts (grid0.coords t)) :
    (ringScr.slice (Rect.unit (s := S3x2x512x2816) (k0_off5 (grid0.coords t)) S1x1x512x2816.size (k0_off5_inb (grid0.coords t) h)) (fun _ => rfl)).squeeze S512x2816 squeezes_S1x1x512x2816_S512x2816 = slot (Ring.sl 3 (t.val + 2)) 1 :=
  slot_of (off_next t).2.1
@[sl_canon] theorem cell_next1 (h : starts (grid0.coords t)) :
    (cc0_scratch2.slice (Rect.unit (s := S3x2) (k0_off4 (grid0.coords t)) S1x1.size (k0_off4_inb (grid0.coords t) h))).squeeze S_ squeezes_S1x1_S_ = cell (Ring.sl 3 (t.val + 2)) 1 :=
  cell_of (off_next t).2.2.1
@[sl_canon] theorem block_next1 (h : starts (grid0.coords t)) :
    (dzArr.slice (Rect.unit (s := S2x4096x2816) (k0_off6 (grid0.coords t)) S1x512x2816.size (k0_off6_inb (grid0.coords t) h)) (fun _ => rfl)).squeeze S512x2816 squeezes_S1x512x2816_S512x2816 = block 1 (Ring.bk 8 (t.val + 2)) :=
  block_of ((off_next t).2.2.2 h)
@[sl_canon] theorem slot_here0 :
    (ringScr.slice (Rect.unit (s := S3x2x512x2816) (k0_off8 (grid0.coords t)) S1x1x512x2816.size (k0_off8_inb (grid0.coords t))) (fun _ => rfl)).squeeze S512x2816 squeezes_S1x1x512x2816_S512x2816 = slot (Ring.sl 3 t.val) 0 :=
  slot_of (off_here t).1.1
@[sl_canon] theorem cell_here0 :
    (cc0_scratch2.slice (Rect.unit (s := S3x2) (k0_off7 (grid0.coords t)) S1x1.size (k0_off7_inb (grid0.coords t)))).squeeze S_ squeezes_S1x1_S_ = cell (Ring.sl 3 t.val) 0 :=
  cell_of (off_here t).1.2
@[sl_canon] theorem slot_here1 :
    (ringScr.slice (Rect.unit (s := S3x2x512x2816) (k0_off11 (grid0.coords t)) S1x1x512x2816.size (k0_off11_inb (grid0.coords t))) (fun _ => rfl)).squeeze S512x2816 squeezes_S1x1x512x2816_S512x2816 = slot (Ring.sl 3 t.val) 1 :=
  slot_of (off_here t).2.1
@[sl_canon] theorem cell_here1 :
    (cc0_scratch2.slice (Rect.unit (s := S3x2) (k0_off10 (grid0.coords t)) S1x1.size (k0_off10_inb (grid0.coords t)))).squeeze S_ squeezes_S1x1_S_ = cell (Ring.sl 3 t.val) 1 :=
  cell_of (off_here t).2.2

end Canon
end Cert.DhFfnIdeal.Value
end
-- ==== Proof.DhFfnBody.lean ====
/-
  One point of the feed-forward's backward projection: the run of its body.
-/
module

public import proofs.«01_k».proof.Proof.DhFfnRing
public import proofs.«01_k».proof.Proof.DhFfnPoint

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhFfnIdeal.Value

open Cert.DhFfnIdeal Cert.DhFfnIdeal.Gen

variable {F : FTy → Type} [FloatOps F]

local notation "𝕄" => MT nD τ sig Unit (Elt F) ℕ (Pipeline.UD sig nD τ) ℕ

variable (c : Dev nD) (t : Fin cfg0.N)
  (a2 : Memref sig .tc .vmem S2816x1024 .bf16) (h2 : a2.IsWhole) (a3 : Memref sig .tc .vmem S2816x1024 .bf16) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a8 : Memref sig .tc .vmem S512x1024 .f32) (h8 : a8.IsWhole) (a9 : Memref sig .tc .vmem S512x1024 .bf16) (h9 : a9.IsWhole)
  (a10 : Memref sig .tc .vmem S8x1024 .f32) (h10 : a10.IsWhole) (a11 : Memref sig .tc .vmem S512x1024 .f32) (h11 : a11.IsWhole)
  (w0 w1 : Vec F S2816x1024 .bf16) (x : Vec F S512x1024 .f32) (g : Vec F S1x1024 .f32) (d : Vec F S512x1024 .f32)
  (W : Held (F := F) c dzArr)

/-- The blocks a point reads, in their buffers. -/
abbrev given : sProp 𝕄 :=
  iprop(owns (c : Thread nD τ) a2 fullShare w0 ∗ owns (c : Thread nD τ) a3 fullShare w1 ∗ owns (c : Thread nD τ) a4 fullShare x ∗ owns (c : Thread nD τ) a5 fullShare g ∗ owns (c : Thread nD τ) a6 fullShare d)

/-- What a point leaves in its output buffers and the scratch, the gains' gradient having stood at `s`. -/
abbrev left (s : Vec F S8x1024 .f32) : sProp 𝕄 :=
  iprop(owns (c : Thread nD τ) a8 fullShare (dxTile (rowsOf c W 0 (Ring.bk 8 t.val)) (rowsOf c W 1 (Ring.bk 8 t.val)) w0 w1 x g d) ∗ owns (c : Thread nD τ) a9 fullShare (dxbTile (rowsOf c W 0 (Ring.bk 8 t.val)) (rowsOf c W 1 (Ring.bk 8 t.val)) w0 w1 x g d)
    ∗ owns (c : Thread nD τ) a10 fullShare (dgTile (rowsOf c W 0 (Ring.bk 8 t.val)) (rowsOf c W 1 (Ring.bk 8 t.val)) w0 w1 x s) ∗ (∃ v, owns (c : Thread nD τ) a11 fullShare v))

set_option maxHeartbeats 8000000 in
/-- A point in the middle. -/
theorem run_middle (hc0 : ¬isFirst (grid0.coords t)) (hc1 : starts (grid0.coords t)) (K : PUnit → sProp 𝕄) (D : Waits sig Unit) (dg : Vec F S8x1024 .f32) :
    iprop(given c a2 a3 a4 a5 a6 w0 w1 x g d ∗ (∃ v, owns (c : Thread nD τ) a8 fullShare v) ∗ (∃ v, owns (c : Thread nD τ) a9 fullShare v) ∗ owns (c : Thread nD τ) a10 fullShare dg
      ∗ (∃ v, owns (c : Thread nD τ) a11 fullShare v)
      ∗ Ring.inflight (filling c W) (Ring.sl 3 t.val) (Ring.bk 8 t.val) ∗ Ring.inflight (filling c W) (Ring.sl 3 (t.val + 1)) (Ring.bk 8 (t.val + 1))
      ∗ Ring.free (cells c) (resting c W) (Ring.sl 3 (t.val + 2)) ∗ owes (c : Thread nD τ) 0 D
      ∗ (iprop(given c a2 a3 a4 a5 a6 w0 w1 x g d ∗ left c t a8 a9 a10 a11 w0 w1 x g d W dg
        ∗ Ring.inflight (filling c W) (Ring.sl 3 (t.val + 1)) (Ring.bk 8 (t.val + 1)) ∗ Ring.inflight (filling c W) (Ring.sl 3 (t.val + 2)) (Ring.bk 8 (t.val + 2)) ∗ Ring.free (cells c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_ffn (grid0.coords t) dzArr (Memref.isWhole_whole _) a2 h2 a3 h3 a4 h4 a5 h5 a6 h6 depArr (Memref.isWhole_whole _) a8 h8 a9 h9 a10 h10 a11 h11 ringScr (Memref.isWhole_whole _) cc0_scratch2) K := by
  haveI : Fact (¬isFirst (grid0.coords t)) := ⟨hc0⟩
  haveI : Fact (starts (grid0.coords t)) := ⟨hc1⟩
  simp only [cc0_dh_ffn_eq_skeleton]; unfold cc0_dh_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  have hcanon0 := slot_here0 t
  have hcanon1 := slot_here1 t
  unfold given left owns Ring.free Ring.inflight
  iintro ⟨⟨⟨%f2, %hf2, H2⟩, ⟨%f3, %hf3, H3⟩, ⟨%f4, %hf4, H4⟩, ⟨%f5, %hf5, H5⟩, ⟨%f6, %hf6, H6⟩⟩, ⟨%v8, %f8, -, H8⟩, ⟨%v9, %f9, -, H9⟩, ⟨%f10, %hf10, H10⟩, ⟨%v11, %f11, -, H11⟩,
    ⟨%g0, ⟨Hg0, Hu0⟩, ⟨Hj0, Hv0⟩⟩, ⟨%g1, ⟨Hg1, Hu1⟩, ⟨Hj1, Hv1⟩⟩, ⟨⟨Hc2, Hd2⟩, ⟨%g2, ⟨Hs2, Hw2⟩, ⟨Ht2, Hx2⟩⟩⟩, HD, Hk⟩
  ihave Hy := (shared_split c W (Ring.sl 3 (t.val + 2)) 0 (Ring.bk 8 (t.val + 2))).1 $$ Hw2
  icases Hy with ⟨Hl2, Hu2⟩
  ihave Hy := (shared_split c W (Ring.sl 3 (t.val + 2)) 1 (Ring.bk 8 (t.val + 2))).1 $$ Hx2
  icases Hy with ⟨Hm2, Hv2⟩
  obtain rfl := h2.eq_unread hf2; obtain rfl := h3.eq_unread hf3; obtain rfl := h4.eq_unread hf4; obtain rfl := h5.eq_unread hf5; obtain rfl := h6.eq_unread hf6; obtain rfl := h10.eq_unread hf10
  sl_exec (disch := first | sl_exact hc0 | sl_exact hc1)
  sl_unfold_run_names
  sl_step
  have rx := fun s h i => rows_loaded (v := a4.view) (h4.read_unread x) s h (i := i)
  have rd := fun s h i => rows_loaded (v := a6.view) (h6.read_unread d) s h (i := i)
  have rg := fun i => (Cert.Blocks.readAt_whole (Val := Elt F) Cert.Blocks.hz i a5.view (h5.unread g)).trans (h5.read_unread g)
  have rh := fun j h i i' k k' => half_loaded (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  have rh2 := fun j h i i' k k' => half_loaded_second (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  iapply Hk
  isplitl [H2 H3 H4 H5 H6]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    isplitl [H5]; · iexists _; isplitr; swap; · iexact H5
                    ipureintro; exact h5.read_unread _
    iexists _; isplitr; swap; · iexact H6
    ipureintro; exact h6.read_unread _
  isplitl [H8 H9 H10 H11]
  · isplitl [H8]
    · iexists _; isplitr; swap; · iexact H8
      ipureintro
      exact dx_stored a8.view f8 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H9]
    · iexists _; isplitr; swap; · iexact H9
      ipureintro
      exact dxb_stored a9.view f9 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H10]
    · iexists _; isplitr; swap; · iexact H10
      ipureintro
      exact (Cert.Blocks.read_cons_whole (Val := Elt F) Cert.Blocks.hz _ a10.view _ _ _).trans (dg_added ((Cert.Blocks.readAt_whole (Val := Elt F) Cert.Blocks.hz _ a10.view _).trans (h10.read_unread dg))
        (Cert.RowBlocks.readCov_last (Val := Elt F) a10.view _ _ _ _) (Cert.RowBlocks.readCov_last (Val := Elt F) a10.view _ _ _ _) (Cert.RowBlocks.readCov_last (Val := Elt F) a10.view _ _ _ _)
        (rx 0 _ _) (rx 1 _ _) (rx 2 _ _) (rx 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _)))
    iexists _; iexists _; isplitr; swap; · iexact H11
    ipureintro; rfl
  isplitl [Hg1 Hu1 Hj1 Hv1]
  · iexists g1; isplitl [Hg1 Hu1]; · isplitl [Hg1]; · iexact Hg1
                                     iexact Hu1
    isplitl [Hj1]; · iexact Hj1
    iexact Hv1
  isplitl [Hc2 Hu2 Hd2 Hv2]
  · iexists g2; isplitl [Hc2 Hu2]; · isplitl [Hc2]; · iexact Hc2
                                     iexact Hu2
    isplitl [Hd2]; · iexact Hd2
    iexact Hv2
  isplitl [Hg0 Hg0_dst Hg0_src Hu0 Hj0 Hj0_dst Hj0_src Hv0]
  · isplitl [Hg0 Hj0]; · isplitl [Hg0]; · iexact Hg0
                         iexact Hj0
    iexists (landed c W (Ring.sl 3 t.val) 0 (Ring.bk 8 t.val) g0.1, landed c W (Ring.sl 3 t.val) 1 (Ring.bk 8 t.val) g0.2)
    isplitl [Hg0_dst Hg0_src Hu0]
    · isplitl [Hg0_dst]; · iexact Hg0_dst
      iapply (shared_split c W (Ring.sl 3 t.val) 0 (Ring.bk 8 t.val)).2
      isplitl [Hg0_src]; · iexact Hg0_src
      iexact Hu0
    isplitl [Hj0_dst]; · iexact Hj0_dst
    iapply (shared_split c W (Ring.sl 3 t.val) 1 (Ring.bk 8 t.val)).2
    isplitl [Hj0_src]; · iexact Hj0_src
    iexact Hv0
  iexists _; iexact HD

set_option maxHeartbeats 8000000 in
/-- One of the last points, which starts no copy. -/
theorem run_last (hc0 : ¬isFirst (grid0.coords t)) (hc1 : ¬starts (grid0.coords t)) (K : PUnit → sProp 𝕄) (D : Waits sig Unit) (dg : Vec F S8x1024 .f32) :
    iprop(given c a2 a3 a4 a5 a6 w0 w1 x g d ∗ (∃ v, owns (c : Thread nD τ) a8 fullShare v) ∗ (∃ v, owns (c : Thread nD τ) a9 fullShare v) ∗ owns (c : Thread nD τ) a10 fullShare dg
      ∗ (∃ v, owns (c : Thread nD τ) a11 fullShare v)
      ∗ Ring.inflight (filling c W) (Ring.sl 3 t.val) (Ring.bk 8 t.val) ∗ owes (c : Thread nD τ) 0 D
      ∗ (iprop(given c a2 a3 a4 a5 a6 w0 w1 x g d ∗ left c t a8 a9 a10 a11 w0 w1 x g d W dg
        ∗ Ring.free (cells c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_ffn (grid0.coords t) dzArr (Memref.isWhole_whole _) a2 h2 a3 h3 a4 h4 a5 h5 a6 h6 depArr (Memref.isWhole_whole _) a8 h8 a9 h9 a10 h10 a11 h11 ringScr (Memref.isWhole_whole _) cc0_scratch2) K := by
  haveI : Fact (¬isFirst (grid0.coords t)) := ⟨hc0⟩
  haveI : Fact (¬starts (grid0.coords t)) := ⟨hc1⟩
  simp only [cc0_dh_ffn_eq_skeleton]; unfold cc0_dh_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  have hcanon0 := slot_here0 t
  have hcanon1 := slot_here1 t
  unfold given left owns Ring.free Ring.inflight
  iintro ⟨⟨⟨%f2, %hf2, H2⟩, ⟨%f3, %hf3, H3⟩, ⟨%f4, %hf4, H4⟩, ⟨%f5, %hf5, H5⟩, ⟨%f6, %hf6, H6⟩⟩, ⟨%v8, %f8, -, H8⟩, ⟨%v9, %f9, -, H9⟩, ⟨%f10, %hf10, H10⟩, ⟨%v11, %f11, -, H11⟩,
    ⟨%g0, ⟨Hg0, Hu0⟩, ⟨Hj0, Hv0⟩⟩, HD, Hk⟩
  obtain rfl := h2.eq_unread hf2; obtain rfl := h3.eq_unread hf3; obtain rfl := h4.eq_unread hf4; obtain rfl := h5.eq_unread hf5; obtain rfl := h6.eq_unread hf6; obtain rfl := h10.eq_unread hf10
  sl_exec (disch := first | sl_exact hc0 | sl_exact hc1)
  sl_unfold_run_names
  sl_step
  have rx := fun s h i => rows_loaded (v := a4.view) (h4.read_unread x) s h (i := i)
  have rd := fun s h i => rows_loaded (v := a6.view) (h6.read_unread d) s h (i := i)
  have rg := fun i => (Cert.Blocks.readAt_whole (Val := Elt F) Cert.Blocks.hz i a5.view (h5.unread g)).trans (h5.read_unread g)
  have rh := fun j h i i' k k' => half_loaded (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  have rh2 := fun j h i i' k k' => half_loaded_second (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  iapply Hk
  isplitl [H2 H3 H4 H5 H6]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    isplitl [H5]; · iexists _; isplitr; swap; · iexact H5
                    ipureintro; exact h5.read_unread _
    iexists _; isplitr; swap; · iexact H6
    ipureintro; exact h6.read_unread _
  isplitl [H8 H9 H10 H11]
  · isplitl [H8]
    · iexists _; isplitr; swap; · iexact H8
      ipureintro
      exact dx_stored a8.view f8 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H9]
    · iexists _; isplitr; swap; · iexact H9
      ipureintro
      exact dxb_stored a9.view f9 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H10]
    · iexists _; isplitr; swap; · iexact H10
      ipureintro
      exact (Cert.Blocks.read_cons_whole (Val := Elt F) Cert.Blocks.hz _ a10.view _ _ _).trans (dg_added ((Cert.Blocks.readAt_whole (Val := Elt F) Cert.Blocks.hz _ a10.view _).trans (h10.read_unread dg))
        (Cert.RowBlocks.readCov_last (Val := Elt F) a10.view _ _ _ _) (Cert.RowBlocks.readCov_last (Val := Elt F) a10.view _ _ _ _) (Cert.RowBlocks.readCov_last (Val := Elt F) a10.view _ _ _ _)
        (rx 0 _ _) (rx 1 _ _) (rx 2 _ _) (rx 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _)))
    iexists _; iexists _; isplitr; swap; · iexact H11
    ipureintro; rfl
  isplitl [Hg0 Hg0_dst Hg0_src Hu0 Hj0 Hj0_dst Hj0_src Hv0]
  · isplitl [Hg0 Hj0]; · isplitl [Hg0]; · iexact Hg0
                         iexact Hj0
    iexists (landed c W (Ring.sl 3 t.val) 0 (Ring.bk 8 t.val) g0.1, landed c W (Ring.sl 3 t.val) 1 (Ring.bk 8 t.val) g0.2)
    isplitl [Hg0_dst Hg0_src Hu0]
    · isplitl [Hg0_dst]; · iexact Hg0_dst
      iapply (shared_split c W (Ring.sl 3 t.val) 0 (Ring.bk 8 t.val)).2
      isplitl [Hg0_src]; · iexact Hg0_src
      iexact Hu0
    isplitl [Hj0_dst]; · iexact Hj0_dst
    iapply (shared_split c W (Ring.sl 3 t.val) 1 (Ring.bk 8 t.val)).2
    isplitl [Hj0_src]; · iexact Hj0_src
    iexact Hv0
  iexists _; iexact HD

set_option maxHeartbeats 8000000 in
/-- The first point. -/
theorem run_first (hc0 : isFirst (grid0.coords t)) (hc1 : starts (grid0.coords t)) (K : PUnit → sProp 𝕄) (D : Waits sig Unit) :
    iprop(given c a2 a3 a4 a5 a6 w0 w1 x g d ∗ (∃ v, owns (c : Thread nD τ) a8 fullShare v) ∗ (∃ v, owns (c : Thread nD τ) a9 fullShare v) ∗ (∃ v, owns (c : Thread nD τ) a10 fullShare v)
      ∗ (∃ v, owns (c : Thread nD τ) a11 fullShare v)
      ∗ Ring.free (cells c) (resting c W) (Ring.sl 3 t.val) ∗ Ring.free (cells c) (resting c W) (Ring.sl 3 (t.val + 1))
      ∗ Ring.free (cells c) (resting c W) (Ring.sl 3 (t.val + 2)) ∗ owes (c : Thread nD τ) 0 D
      ∗ (iprop(given c a2 a3 a4 a5 a6 w0 w1 x g d ∗ left c t a8 a9 a10 a11 w0 w1 x g d W k0_pay1
        ∗ Ring.inflight (filling c W) (Ring.sl 3 (t.val + 1)) (Ring.bk 8 (t.val + 1)) ∗ Ring.inflight (filling c W) (Ring.sl 3 (t.val + 2)) (Ring.bk 8 (t.val + 2)) ∗ Ring.free (cells c) (resting c W) (Ring.sl 3 t.val) ∗ (∃ D', owes (c : Thread nD τ) 0 D')) -∗ K ⟨⟩))
    ⊢ wp Idealize.ShloMosaic.frame (wpE (defs₀ (F := F)) Variants.none c none) Set.univ
        (cc0_dh_ffn (grid0.coords t) dzArr (Memref.isWhole_whole _) a2 h2 a3 h3 a4 h4 a5 h5 a6 h6 depArr (Memref.isWhole_whole _) a8 h8 a9 h9 a10 h10 a11 h11 ringScr (Memref.isWhole_whole _) cc0_scratch2) K := by
  haveI : Fact (isFirst (grid0.coords t)) := ⟨hc0⟩
  haveI : Fact (starts (grid0.coords t)) := ⟨hc1⟩
  simp only [cc0_dh_ffn_eq_skeleton]; unfold cc0_dh_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  have hcanon0 := slot_here0 t
  have hcanon1 := slot_here1 t
  obtain ⟨e0, e1, k0, k1⟩ := first_sl t hc0
  have hcanon_s00 := slot_of (h := inb_S3x2x512x2816_S1x1x512x2816_0_0_0_0) (s := Ring.sl 3 t.val) (q := 0) (by rw [e0]; rfl)
  have hcanon_s01 := slot_of (h := inb_S3x2x512x2816_S1x1x512x2816_0_1_0_0) (s := Ring.sl 3 t.val) (q := 1) (by rw [e0]; rfl)
  have hcanon_s10 := slot_of (h := inb_S3x2x512x2816_S1x1x512x2816_1_0_0_0) (s := Ring.sl 3 (t.val + 1)) (q := 0) (by rw [e1]; rfl)
  have hcanon_s11 := slot_of (h := inb_S3x2x512x2816_S1x1x512x2816_1_1_0_0) (s := Ring.sl 3 (t.val + 1)) (q := 1) (by rw [e1]; rfl)
  have hcanon_c00 := cell_of (h := inb_S3x2_S1x1_0_0) (s := Ring.sl 3 t.val) (q := 0) (by rw [e0]; rfl)
  have hcanon_c01 := cell_of (h := inb_S3x2_S1x1_0_1) (s := Ring.sl 3 t.val) (q := 1) (by rw [e0]; rfl)
  have hcanon_c10 := cell_of (h := inb_S3x2_S1x1_1_0) (s := Ring.sl 3 (t.val + 1)) (q := 0) (by rw [e1]; rfl)
  have hcanon_c11 := cell_of (h := inb_S3x2_S1x1_1_1) (s := Ring.sl 3 (t.val + 1)) (q := 1) (by rw [e1]; rfl)
  have hcanon_b00 := block_of (h := inb_S2x4096x2816_S1x512x2816_0_0_0) (q := 0) (b := Ring.bk 8 t.val) (by rw [k0]; rfl)
  have hcanon_b01 := block_of (h := inb_S2x4096x2816_S1x512x2816_1_0_0) (q := 1) (b := Ring.bk 8 t.val) (by rw [k0]; rfl)
  have hcanon_b10 := block_of (h := inb_S2x4096x2816_S1x512x2816_0_512_0) (q := 0) (b := Ring.bk 8 (t.val + 1)) (by rw [k1]; rfl)
  have hcanon_b11 := block_of (h := inb_S2x4096x2816_S1x512x2816_1_512_0) (q := 1) (b := Ring.bk 8 (t.val + 1)) (by rw [k1]; rfl)
  unfold given left owns Ring.free Ring.inflight
  iintro ⟨⟨⟨%f2, %hf2, H2⟩, ⟨%f3, %hf3, H3⟩, ⟨%f4, %hf4, H4⟩, ⟨%f5, %hf5, H5⟩, ⟨%f6, %hf6, H6⟩⟩, ⟨%v8, %f8, -, H8⟩, ⟨%v9, %f9, -, H9⟩, ⟨%v10, %f10, -, H10⟩, ⟨%v11, %f11, -, H11⟩,
    ⟨⟨Hc0, Hd0⟩, ⟨%g0, ⟨Hs0, Hw0⟩, ⟨Ht0, Hx0⟩⟩⟩, ⟨⟨Hc1, Hd1⟩, ⟨%g1, ⟨Hs1, Hw1⟩, ⟨Ht1, Hx1⟩⟩⟩, ⟨⟨Hc2, Hd2⟩, ⟨%g2, ⟨Hs2, Hw2⟩, ⟨Ht2, Hx2⟩⟩⟩, HD, Hk⟩
  ihave Hy := (shared_split c W (Ring.sl 3 t.val) 0 (Ring.bk 8 t.val)).1 $$ Hw0
  icases Hy with ⟨Hl0, Hu0⟩
  ihave Hy := (shared_split c W (Ring.sl 3 t.val) 1 (Ring.bk 8 t.val)).1 $$ Hx0
  icases Hy with ⟨Hm0, Hv0⟩
  ihave Hy := (shared_split c W (Ring.sl 3 (t.val + 1)) 0 (Ring.bk 8 (t.val + 1))).1 $$ Hw1
  icases Hy with ⟨Hl1, Hu1⟩
  ihave Hy := (shared_split c W (Ring.sl 3 (t.val + 1)) 1 (Ring.bk 8 (t.val + 1))).1 $$ Hx1
  icases Hy with ⟨Hm1, Hv1⟩
  ihave Hy := (shared_split c W (Ring.sl 3 (t.val + 2)) 0 (Ring.bk 8 (t.val + 2))).1 $$ Hw2
  icases Hy with ⟨Hl2, Hu2⟩
  ihave Hy := (shared_split c W (Ring.sl 3 (t.val + 2)) 1 (Ring.bk 8 (t.val + 2))).1 $$ Hx2
  icases Hy with ⟨Hm2, Hv2⟩
  obtain rfl := h2.eq_unread hf2; obtain rfl := h3.eq_unread hf3; obtain rfl := h4.eq_unread hf4; obtain rfl := h5.eq_unread hf5; obtain rfl := h6.eq_unread hf6
  sl_exec (disch := first | sl_exact hc0 | sl_exact hc1)
  sl_unfold_run_names
  sl_step
  have rx := fun s h i => rows_loaded (v := a4.view) (h4.read_unread x) s h (i := i)
  have rd := fun s h i => rows_loaded (v := a6.view) (h6.read_unread d) s h (i := i)
  have rg := fun i => (Cert.Blocks.readAt_whole (Val := Elt F) Cert.Blocks.hz i a5.view (h5.unread g)).trans (h5.read_unread g)
  have rh := fun j h i i' k k' => half_loaded (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  have rh2 := fun j h i i' k k' => half_loaded_second (z0 := rowsOf c W 0 (Ring.bk 8 t.val)) (z1 := rowsOf c W 1 (Ring.bk 8 t.val)) (u0 := (slot (Ring.sl 3 t.val) 0).view) (u1 := (slot (Ring.sl 3 t.val) 1).view)
    (v0 := a2.view) (v1 := a3.view) (h2.read_unread w0) (h3.read_unread w1) j h (i0 := i) (i1 := i') (i0' := k) (i1' := k')
  iapply Hk
  isplitl [H2 H3 H4 H5 H6]
  · isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    isplitl [H5]; · iexists _; isplitr; swap; · iexact H5
                    ipureintro; exact h5.read_unread _
    iexists _; isplitr; swap; · iexact H6
    ipureintro; exact h6.read_unread _
  isplitl [H8 H9 H10 H11]
  · isplitl [H8]
    · iexists _; isplitr; swap; · iexact H8
      ipureintro
      exact dx_stored a8.view f8 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H9]
    · iexists _; isplitr; swap; · iexact H9
      ipureintro
      exact dxb_stored a9.view f9 (rx 0 _ _) (rx 1 _ _) (rx 2 _ _) (rx 3 _ _) (rd 0 _ _) (rd 1 _ _) (rd 2 _ _) (rd 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _))
        (rg _) (rg _) (rg _) (rg _) _ _ _ _
    isplitl [H10]
    · iexists _; isplitr; swap; · iexact H10
      ipureintro
      exact (Cert.Blocks.read_cons_whole (Val := Elt F) Cert.Blocks.hz _ a10.view _ _ _).trans (dg_added (Cert.RowBlocks.readCov_last (Val := Elt F) a10.view _ _ _ _)
        (Cert.RowBlocks.readCov_last (Val := Elt F) a10.view _ _ _ _) (Cert.RowBlocks.readCov_last (Val := Elt F) a10.view _ _ _ _) (Cert.RowBlocks.readCov_last (Val := Elt F) a10.view _ _ _ _)
        (rx 0 _ _) (rx 1 _ _) (rx 2 _ _) (rx 3 _ _)
        (dh_loaded 0 0 0 rfl _ _ (rh 0 _ _ _ _ _)) (dh_loaded 0 1 0 rfl _ _ (rh 0 _ _ _ _ _)) (dh_loaded 1 0 256 rfl _ _ (rh2 1 _ _ _ _ _)) (dh_loaded 1 1 256 rfl _ _ (rh2 1 _ _ _ _ _)))
    iexists _; iexists _; isplitr; swap; · iexact H11
    ipureintro; rfl
  isplitl [Hc1 Hu1 Hd1 Hv1]
  · iexists g1; isplitl [Hc1 Hu1]; · isplitl [Hc1]; · iexact Hc1
                                     iexact Hu1
    isplitl [Hd1]; · iexact Hd1
    iexact Hv1
  isplitl [Hc2 Hu2 Hd2 Hv2]
  · iexists g2; isplitl [Hc2 Hu2]; · isplitl [Hc2]; · iexact Hc2
                                     iexact Hu2
    isplitl [Hd2]; · iexact Hd2
    iexact Hv2
  isplitl [Hc0 Hs0 Hl0 Hu0 Hd0 Ht0 Hm0 Hv0]
  · isplitl [Hc0 Hd0]; · isplitl [Hc0]; · iexact Hc0
                         iexact Hd0
    iexists (landed c W (Ring.sl 3 t.val) 0 (Ring.bk 8 t.val) g0.1, landed c W (Ring.sl 3 t.val) 1 (Ring.bk 8 t.val) g0.2)
    isplitl [Hs0 Hl0 Hu0]
    · isplitl [Hs0]; · iexact Hs0
      iapply (shared_split c W (Ring.sl 3 t.val) 0 (Ring.bk 8 t.val)).2
      isplitl [Hl0]; · iexact Hl0
      iexact Hu0
    isplitl [Ht0]; · iexact Ht0
    iapply (shared_split c W (Ring.sl 3 t.val) 1 (Ring.bk 8 t.val)).2
    isplitl [Hm0]; · iexact Hm0
    iexact Hv0
  iexists _; iexact HD

end Cert.DhFfnIdeal.Value
end
-- ==== Proof.DhFfnFrame.lean ====
/-
  The run of the feed-forward's backward projection: what each point finds and leaves, the ring of copies between the points,
  and the frame of the whole program.
-/
module

public import proofs.«01_k».proof.Proof.DhFfnBody
public import proofs.«01_k».proof.Proof.Gen.DhFfnIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DhFfnIdeal.Value

open Cert.DhFfnIdeal Cert.DhFfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points compute -/

/-- The rows of a point in plane `q` of the cotangent. -/
abbrev zRows (c : Dev nD) (q : Fin 2) (t : ℕ) : Vec F S512x2816 .bf16 := rowsOf (F := F) c (V m c main_arg0) q (Ring.bk 8 t)

/-- The gains' gradient after point `n`. -/
def sumG (c : Dev nD) : (n : ℕ) → n < cfg0.N → Vec F S8x1024 .f32
  | 0, h => dgTile (zRows m c 0 0) (zRows m c 1 0) (iblk m c 0 ⟨0, h⟩) (iblk m c 1 ⟨0, h⟩) (iblk m c 2 ⟨0, h⟩) k0_pay1
  | n + 1, h => dgTile (zRows m c 0 (n + 1)) (zRows m c 1 (n + 1)) (iblk m c 0 ⟨n + 1, h⟩) (iblk m c 1 ⟨n + 1, h⟩) (iblk m c 2 ⟨n + 1, h⟩) (sumG c n (Nat.lt_of_succ_lt h))

theorem sumG_first (c : Dev nD) (t : Fin cfg0.N) (h0 : t.val = 0) :
    sumG m c t.val t.isLt = dgTile (zRows m c 0 t.val) (zRows m c 1 t.val) (iblk m c 0 t) (iblk m c 1 t) (iblk m c 2 t) k0_pay1 := by
  obtain ⟨n, hn⟩ := t
  cases n with
  | zero => rfl
  | succ n => exact absurd h0 (Nat.succ_ne_zero n)

theorem sumG_later (c : Dev nD) (t : Fin cfg0.N) (h0 : ¬t.val = 0) :
    sumG m c t.val t.isLt = dgTile (zRows m c 0 t.val) (zRows m c 1 t.val) (iblk m c 0 t) (iblk m c 1 t) (iblk m c 2 t) (sumG m c (t.val - 1) (Nat.lt_of_le_of_lt (Nat.sub_le _ _) t.isLt)) := by
  obtain ⟨n, hn⟩ := t
  cases n with
  | zero => exact absurd rfl h0
  | succ n => rfl

/-! ## The state between the points -/

/-- Between the points: the scratch at anything, the generator register, the token array, and the ring of copies. -/
def Phi (c : Dev nD) (k : ℕ) : sProp 𝕄 :=
  iprop((∃ d, owns (c : Thread nD τ) dhScr fullShare d) ∗ (∃ r, prngReg c r) ∗ whole c depArr (V m c main_arg5) ∗ ringAt c (V m c main_arg0) k)

/-- What the region finds in its arrays and what each point leaves in each block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxTile (zRows m c 0 t.val) (zRows m c 1 t.val) (iblk m c 0 t) (iblk m c 1 t) (iblk m c 2 t) (iblk m c 3 t) (iblk m c 4 t)
    | ⟨6, _⟩ => dxbTile (zRows m c 0 t.val) (zRows m c 1 t.val) (iblk m c 0 t) (iblk m c 1 t) (iblk m c 2 t) (iblk m c 3 t) (iblk m c 4 t)
    | ⟨7, _⟩ => sumG m c t.val t.isLt
  Φ t := Phi m c t.val
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = dxTile (zRows m c 0 t.val) (zRows m c 1 t.val) (iblk m c 0 t) (iblk m c 1 t) (iblk m c 2 t) (iblk m c 3 t) (iblk m c 4 t) := by dsimp only [dats]
theorem after0_6 (c : Dev nD) (t : Fin cfg0.N) :
    (dats m 0 c).after 6 t = dxbTile (zRows m c 0 t.val) (zRows m c 1 t.val) (iblk m c 0 t) (iblk m c 1 t) (iblk m c 2 t) (iblk m c 3 t) (iblk m c 4 t) := by dsimp only [dats]
theorem after0_7 (c : Dev nD) (t : Fin cfg0.N) : (dats m 0 c).after 7 t = sumG m c t.val t.isLt := by dsimp only [dats]

/-! A window that is read holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; rfl)

/-- At a later point the gains' gradient holds what the point before left. -/
theorem before0_7 (c : Dev nD) (t : Fin cfg0.N) (h0 : ¬t.val = 0) (d) :
    (dats m 0 c).before 7 t d = sumG m c (t.val - 1) (Nat.lt_of_le_of_lt (Nat.sub_le _ _) t.isLt) := by
  have hN : t.val < 8 := lt_of_lt_of_eq t.isLt (show cfg0.N = 8 from N_0)
  rw [Dat.before_out_kept _ 7 rfl t (by omega)
    (Bool.eq_false_iff.mpr fun h => by have := (flush0_7 _).mp h; dsimp only at this; omega) (fun _ => rfl) (fun _ _ => rfl)]
  dsimp only [dats]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 2400000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5, after0_6, after0_7]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi ringAt
  have hN : t.val < 8 := lt_of_lt_of_eq t.isLt (show cfg0.N = 8 from N_0)
  by_cases h0 : t.val = 0
  · have h1 : t.val < 6 := by omega
    rw [sumG_first m c t h0, if_pos h0, if_neg (Nat.succ_ne_zero t.val)]
    rw [Ring.At₀_eq3' _ _ _ t.val h0 (by decide : 3 ≤ 8), Ring.At3_one' _ _ _ _ t.val h0 (by decide : 3 ≤ 8)]
    iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c t _ _ _ _ _ _ _ _ _ _ _ _ _ _ _ _ _ _ (iblk m c 0 t) (iblk m c 1 t) (iblk m c 2 t) (iblk m c 3 t) (iblk m c 4 t) (V m c main_arg0)
      ((first_iff t).mpr h0) ((starts_iff t).mpr h1) _ W)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [HS]; · iexact HS
    isplitl [R0]; · iexact R0
    isplitl [R1]; · iexact R1
    isplitl [R2]; · iexact R2
    isplitl [HW]; · iexact HW
    iintro ⟨⟨H0, H1, H2, H3, H4⟩, ⟨H5, H6, H7, HS⟩, R0, R1, R2, ⟨%W', HW⟩⟩
    isplitl [HS Hg Hp R0 R1 R2]
    · isplitl [HS]; · iexact HS
      isplitl [Hg]; · iexact Hg
      isplitl [Hp]; · iexact Hp
      iapply (Ring.with_homes (Idealize.SL.BI.Entails.refl _))
      isplitl [R0]; · iexact R0
      isplitl [R1]; · iexact R1
      iexact R2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val < 6
    · rw [sumG_later m c t h0, if_neg h0, if_neg (Nat.succ_ne_zero t.val)]
      simp only [before0_7 m c t h0]
      have hB : t.val + 2 < 8 := by omega
      rw [Ring.At3_here _ _ _ _ t.val hB, Ring.At3_next _ _ _ _ t.val hB, Ring.slotAt3_next0 _ _ _ t.val (by omega), Ring.slotAt3_next1 _ _ _ t.val hB]
      iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c t _ _ _ _ _ _ _ _ _ _ _ _ _ _ _ _ _ _ (iblk m c 0 t) (iblk m c 1 t) (iblk m c 2 t) (iblk m c 3 t) (iblk m c 4 t) (V m c main_arg0)
        (fun h => h0 ((first_iff t).mp h)) ((starts_iff t).mpr h1) _ W _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexact H7
      isplitl [HS]; · iexact HS
      isplitl [R0]; · iexact R0
      isplitl [R1]; · iexact R1
      isplitl [R2]; · iexact R2
      isplitl [HW]; · iexact HW
      iintro ⟨⟨H0, H1, H2, H3, H4⟩, ⟨H5, H6, H7, HS⟩, R0, R1, R2, ⟨%W', HW⟩⟩
      isplitl [HS Hg Hp R0 R1 R2]
      · isplitl [HS]; · iexact HS
        isplitl [Hg]; · iexact Hg
        isplitl [Hp]; · iexact Hp
        iapply (Ring.with_homes (Idealize.SL.BI.Entails.refl _))
        isplitl [R0]; · iexact R0
        isplitl [R1]; · iexact R1
        iexact R2
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [sumG_later m c t h0, if_neg h0, if_neg (Nat.succ_ne_zero t.val)]
      simp only [before0_7 m c t h0]
      rw [Ring.At3_here_tail _ _ _ _ t.val hN, Ring.At3_next_tail _ _ _ _ t.val (by omega : 8 ≤ t.val + 2) hN, Ring.slotAt3_tail_role _ _ _ t.val]
      iintro ⟨⟨HS, Hg, Hp, ⟨-, R0, R1, R2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c t _ _ _ _ _ _ _ _ _ _ _ _ _ _ _ _ _ _ (iblk m c 0 t) (iblk m c 1 t) (iblk m c 2 t) (iblk m c 3 t) (iblk m c 4 t) (V m c main_arg0)
        (fun h => h0 ((first_iff t).mp h)) (fun h => h1 ((starts_iff t).mp h)) _ W _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexact H7
      isplitl [HS]; · iexact HS
      isplitl [R0]; · iexact R0
      isplitl [HW]; · iexact HW
      iintro ⟨⟨H0, H1, H2, H3, H4⟩, ⟨H5, H6, H7, HS⟩, R0, ⟨%W', HW⟩⟩
      isplitl [HS Hg Hp R0 R1 R2]
      · isplitl [HS]; · iexact HS
        isplitl [Hg]; · iexact Hg
        isplitl [Hp]; · iexact Hp
        iapply (Ring.with_homes (Idealize.SL.BI.Entails.refl _))
        isplitl [R1]; · iexact R1
        isplitl [R2]; · iexact R2
        iexact R0
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

/-- The arrays the region leaves in the main memory. -/
def unstaged : Finset (Ref sig .tc) := {main_arg0, main_arg5}
theorem unstaged_sub : unstaged ⊆ Pipeline.restRefs sig spec0 := by decide

/-- What the launch hands over, piece by piece. -/
theorem handed_eq (c : Dev nD) :
    (Pipeline.ΦD ownSem spec0 unstaged (V m) c : sProp 𝕄)
      = iprop(iprop((∃ d, owns (c : Thread nD τ) dhScr fullShare d) ∗ (∃ d, owns (c : Thread nD τ) ringScr fullShare d)) ∗ (∃ r, prngReg c r)
        ∗ iprop(semVal ((c : Thread nD τ), ownSem 0) 0 ∗ semVal ((c : Thread nD τ), ownSem 1) 0 ∗ semVal ((c : Thread nD τ), ownSem 2) 0 ∗ semVal ((c : Thread nD τ), ownSem 3) 0 ∗ semVal ((c : Thread nD τ), ownSem 4) 0 ∗ semVal ((c : Thread nD τ), ownSem 5) 0)
        ∗ iprop(whole c dzArr (V m c main_arg0) ∗ whole c depArr (V m c main_arg5))) := by
  have hs : (Pipeline.ownSems0 (Ix := Unit) (Name := ℕ) (U := Pipeline.UD sig nD τ) (Lvl := ℕ) (Val := Elt F) (τ := τ) ownSem c : sProp 𝕄)
      = iprop(semVal ((c : Thread nD τ), ownSem 0) 0 ∗ semVal ((c : Thread nD τ), ownSem 1) 0 ∗ semVal ((c : Thread nD τ), ownSem 2) 0 ∗ semVal ((c : Thread nD τ), ownSem 3) 0 ∗ semVal ((c : Thread nD τ), ownSem 4) 0 ∗ semVal ((c : Thread nD τ), ownSem 5) 0) := by
    rw [Pipeline.ownSems0_eq_of_list c ownSem [0, 1, 2, 3, 4, 5] (by decide) (by decide)]; rfl
  have hb : (bigSep unstaged (fun b => ((c : Thread nD τ).loc b) ↦{fullShare} V m c b) : sProp 𝕄)
      = iprop(whole c dzArr (V m c main_arg0) ∗ whole c depArr (V m c main_arg5)) := by
    rw [BI.bigSep_eq_bigSepL_of_eq [main_arg0, main_arg5] (by decide) (by decide)]; rfl
  rw [Pipeline.ΦD_eq, scopedRest0_eq, hs, hb]; simp only [dhScr, ringScr, owns_whole]; try rfl

theorem phi_in (c : Dev nD) : Pipeline.ΦD ownSem spec0 unstaged (V m) c ⊢ (dats m 0 c).Φ 0 := by
  rw [handed_eq, show (dats m 0 c).Φ 0 = Phi m c 0 from rfl]
  unfold Phi
  iintro ⟨⟨HS, HR⟩, Hg, ⟨Q0, Q1, Q2, Q3, Q4, Q5⟩, ⟨Hz, Hp⟩⟩
  isplitl [HS]; · iexact HS
  isplitl [Hg]; · iexact Hg
  isplitl [Hp]; · iexact Hp
  iapply (ring_in (F := F) c (V m c main_arg0))
  isplitl [HR]; · iexact HR
  isplitl [Q0 Q1 Q2 Q3 Q4 Q5]
  · unfold semsAtZero
    isplitl [Q0 Q1]
    · isplitl [Q0]; · iexact Q0
      iexact Q1
    isplitl [Q2 Q3]
    · isplitl [Q2]; · iexact Q2
      iexact Q3
    isplitl [Q4]; · iexact Q4
    iexact Q5
  iexact Hz

theorem phi_out (c : Dev nD) : (dats m 0 c).Φ (Fin.last cfg0.N) ⊢ Pipeline.ΦD ownSem spec0 unstaged (V m) c := by
  rw [handed_eq, show (dats m 0 c).Φ (Fin.last cfg0.N) = Phi m c grid0.N from rfl]
  unfold Phi
  rw [show grid0.N = 8 from N_0]
  iintro ⟨HS, Hg, Hp, HR⟩
  ihave HX := (ring_out (F := F) c (V m c main_arg0)) $$ HR
  icases HX with ⟨HR, ⟨⟨Q0, Q1⟩, ⟨Q2, Q3⟩, ⟨Q4, Q5⟩⟩, Hz⟩
  isplitl [HS HR]
  · isplitl [HS]; · iexact HS
    iexact HR
  isplitl [Hg]; · iexact Hg
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [Hz]; · iexact Hz
  iexact Hp

/-! ## The lines around the region -/

set_option maxHeartbeats 800000 in
/-- The program is its lines before the region, the region, and its lines after it. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region leave the unstaged arrays alone. -/
theorem later_but : ∀ ops ∈ ([hostOps1] : List (List (HloOp τ sig (Elt F)))), ∀ op ∈ ops,
    op.bufs ⊆ Pipeline.tailRefsBut sig Pipeline.Prefetch.none spec0 unstaged := by
  intro ops hops op hop
  obtain rfl := List.mem_singleton.mp hops
  refine Pipeline.sub_tailRefsBut Pipeline.Prefetch.none spec0 unstaged op ((List.forall_iff_forall_mem.mp hostOps1_sub) op hop) (fun j => j.elim0) ?_
  simp only [hostOps1, List.mem_cons, List.mem_nil_iff, or_false] at hop
  intro b hb
  simp only [unstaged, Finset.mem_insert, Finset.mem_singleton] at hb
  rcases hop with rfl | rfl <;> rcases hb with rfl | rfl <;>
    simp only [StableHlo.nullary_bufs, StableHlo.binary_bufs, Finset.mem_insert, Finset.mem_singleton, not_or] <;> and_intros <;>
    exact StableHlo.devRef_ne_of_ne (by decide)

set_option backward.isDefEq.respectTransparency.types false in
set_option maxHeartbeats 800000 in
/-- The run. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around_shared (Q' := _) cfgs (dats m) (0 : Fin 1) launch₀0 ownSem defs₀ Variants.none ownSem_facts unstaged unstaged_sub m ρ main
    (hbody := fun c => (body_obligation m c).loose) (hq := fun _ _ _ => rfl)
    (howed := fun _ _ => rfl) (V₀ := V0 m) (opss := [hostOps1]) (hsub := later_but) (hfresh := sfx_fresh) (hkeep := sfx_keeps)
    (hmain := around m Variants.none) (hA := A_eq m) (hin := phi_in m) (hout := phi_out m)

/-- An array no line after the region writes and no window stages ends as the region finds it. -/
theorem end_of (c : Dev nD) (b : Ref sig .tc) (hb : b = main_arg0 ∨ b = main_arg3 ∨ b = main_arg5) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.binary_writes, Finset.mem_singleton]
      rcases hb with rfl | rfl | rfl <;> exact ⟨StableHlo.devRef_ne_of_ne (by decide), StableHlo.devRef_ne_of_ne (by decide)⟩)),
    Pipeline.withArrays_of_ne _ c (V0 m c) _ b (by
      rcases hb with rfl | rfl | rfl
      exacts [(by decide : ∀ w, Pipeline.arrRef spec0 w ≠ main_arg0), (by decide : ∀ w, Pipeline.arrRef spec0 w ≠ main_arg3), (by decide : ∀ w, Pipeline.arrRef spec0 w ≠ main_arg5)])]

/-- The program ends with its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans ((end_of m c main_arg0 (.inl rfl)).trans (V_main_arg0 m c)),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans ((end_of m c main_arg3 (.inr (.inl rfl))).trans (V_main_arg3 m c)),
      ((h.1 c).1 4).trans (((dats m 0 c).arrAt_in 4 rfl _).trans ((A_eq m c 4).trans (V_main_arg4 m c))),
      ((h.1 c).2 main_arg5 (Pipeline.mem_restRefs_of main_arg5 (by decide) (by decide))).trans ((end_of m c main_arg5 (.inr (.inr rfl))).trans (V_main_arg5 m c))⟩, h.2⟩)
    (run_main m ρ)

end Cert.DhFfnIdeal.Value
end
-- ==== Proof.DhFfnValue.lean ====
/-
  The results of the feed-forward's backward projection over the real numbers: the rows' gradient in both types and the host's
  sum of the gains' gradient, as formulas of the rows of the arguments.
-/
module

public import proofs.«01_k».proof.Proof.DhFfnPay
public import proofs.«01_k».proof.Proof.DhFfnFrame

@[expose] public section

set_option maxRecDepth 16384

noncomputable section

open Idealize.ShloMosaic Idealize.ShloMosaic.TcCoe Idealize.SL.Sem
open Idealize.ShloMosaic.Pipeline (Dat Cfg Window)

namespace Cert.DhFfnIdeal.Value

open Cert.DhFfnIdeal Cert.DhFfnIdeal.Gen Cert.RealLaws Cert.Rows

variable (m : (ℓ : Loc nD τ sig) → Buf (Elt Ideal) ℓ) (ρ : Dev nD → PrngReg) (c : Dev nD)
  (Z0 Z1 : ℕ → Fin 2816 → ℝ) (W X D : ℕ → Fin 1024 → ℝ) (g : Fin 1024 → ℝ)

/-- The arguments hold the rows `Z0` and `Z1` of the cotangent's two planes, the weights' rows `W`, the rows `X`, the gains `g` and the rows `D`. -/
structure Holds : Prop where
  z0 : ∀ (i : Fin 4096) (k : Fin 2816), (m ((c : Thread nD τ).loc main_arg0) : Vec Ideal S2x4096x2816 .bf16) (ix3 0 i k) = (Z0 i k : EReal)
  z1 : ∀ (i : Fin 4096) (k : Fin 2816), (m ((c : Thread nD τ).loc main_arg0) : Vec Ideal S2x4096x2816 .bf16) (ix3 1 i k) = (Z1 i k : EReal)
  w : ∀ (k : Fin 5632) j, (m ((c : Thread nD τ).loc main_arg1) : Vec Ideal S5632x1024 .bf16) (ix2 k j) = (W k j : EReal)
  x : ∀ (i : Fin 4096) j, (m ((c : Thread nD τ).loc main_arg2) : Vec Ideal S4096x1024 .f32) (ix2 i j) = (X i j : EReal)
  g : ∀ j : Fin 1024, (m ((c : Thread nD τ).loc main_arg3) : Vec Ideal S1024 .f32) (ix1 j) = (g j : EReal)
  d : ∀ (i : Fin 4096) j, (m ((c : Thread nD τ).loc main_arg4) : Vec Ideal S4096x1024 .f32) (ix2 i j) = (D i j : EReal)

theorem idx_0 : ∀ t : Fin cfg0.N, win0_0.index t = ![0, 0] := (by decide +kernel : ∀ t : Fin grid0.N, _)
theorem idx_1 : ∀ t : Fin cfg0.N, win0_1.index t = ![1, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)

theorem V_v0 : V m c main_v0 = shapeCast S1x1024 (m ((c : Thread nD τ).loc main_arg3)) shapeCasts_S1024_S1x1024 := by
  unfold V V0
  simp only [hostOps0, List.flatten_cons, List.flatten_nil, List.append_nil]
  after_results
  rfl

theorem drop_unit {α : Type} (f : (S1x512x2816 : Shape).Idx → α) (hc : S1x512x2816.ShapeCasts S512x2816) (r : Fin 512) (k : Fin 2816) :
    shapeCast S512x2816 f hc (ix2 r k) = f (ix3 0 r k) := by
  pointwise

/-- Row `r` of a point's rows of the cotangent. -/
theorem rowsOf_apply (W : (S2x4096x2816 : Shape).Idx → EReal) (q : Fin 2) (b : Fin 8) (r : Fin 512) (k : Fin 2816) :
    rowsOf (F := Ideal) c W q b (ix2 r k) = W (ix3 q ⟨512 * b.val + r.val, by omega⟩ k) := by
  refine (drop_unit (dzArr.view.readAt (Elt Ideal) (Rect.unit (s := S2x4096x2816) ![q.val, 512 * b.val, 0] S1x512x2816.size (block_inb q b)).toLoadRect W) (by decide) r k).trans ?_
  refine congrArg W (funext fun a => Fin.ext ?_)
  match a with
  | ⟨0, _⟩ => rfl
  | ⟨1, _⟩ => exact congrArg (512 * b.val + ·) (Nat.one_mul _)
  | ⟨2, _⟩ => exact (Nat.zero_add _).trans (Nat.one_mul _)

variable {m c Z0 Z1 W X D g} (h : Holds m c Z0 Z1 W X D g)
include h

omit h in
theorem zRows_apply (q : Fin 2) (t : ℕ) (ht : t < 8) (r : Fin 512) (k : Fin 2816) : zRows m c q t (ix2 r k)
    = (m ((c : Thread nD τ).loc main_arg0) : Vec Ideal S2x4096x2816 .bf16) (ix3 q ⟨512 * t + r.val, by omega⟩ k) := by
  have hb : (Ring.bk 8 t).val = t := Nat.mod_eq_of_lt ht
  refine (rowsOf_apply c (V m c main_arg0) q _ r k).trans ?_
  rw [show V m c main_arg0 = _ from V_main_arg0 m c]
  refine congrArg (fun i => (m ((c : Thread nD τ).loc main_arg0) : Vec Ideal S2x4096x2816 .bf16) (ix3 q i k)) (Fin.ext ?_)
  show 512 * (Ring.bk 8 t).val + r.val = 512 * t + r.val
  rw [hb]

theorem blk_z0 (t : ℕ) (ht : t < 8) (r : Fin 512) (k : Fin 2816) : zRows m c 0 t (ix2 r k) = (Z0 (512 * t + r) k : EReal) := by
  rw [zRows_apply _ t ht, h.z0]

theorem blk_z1 (t : ℕ) (ht : t < 8) (r : Fin 512) (k : Fin 2816) : zRows m c 1 t (ix2 r k) = (Z1 (512 * t + r) k : EReal) := by
  rw [zRows_apply _ t ht, h.z1]

theorem blk_w0 (t : Fin cfg0.N) (k : Fin 2816) (j : Fin 1024) : iblk m c 0 t (ix2 k j) = (W k j : EReal) := by
  have e : iblk m c 0 t (ix2 k j) = (m ((c : Thread nD τ).loc main_arg1) : Vec Ideal S5632x1024 .bf16) (ix2 ⟨k, by omega⟩ j) := by
    blk_simp [iblk]
    rw [show V m c main_arg1 = _ from V_main_arg1 m c]
    congr 1
    blk_ext [idx_0]
  rw [e, h.w]

theorem blk_w1 (t : Fin cfg0.N) (k : Fin 2816) (j : Fin 1024) : iblk m c 1 t (ix2 k j) = (W (2816 + k) j : EReal) := by
  have e : iblk m c 1 t (ix2 k j) = (m ((c : Thread nD τ).loc main_arg1) : Vec Ideal S5632x1024 .bf16) (ix2 ⟨2816 + k, by omega⟩ j) := by
    blk_simp [iblk]
    rw [show V m c main_arg1 = _ from V_main_arg1 m c]
    congr 1
    blk_ext [idx_1]
  rw [e, h.w]

theorem blk_x (t : Fin cfg0.N) (r : Fin 512) (j : Fin 1024) : iblk m c 2 t (ix2 r j) = (X (512 * t.val + r) j : EReal) := by
  have hN : t.val < 8 := lt_of_lt_of_eq t.isLt (show cfg0.N = 8 from N_0)
  have e : iblk m c 2 t (ix2 r j) = (m ((c : Thread nD τ).loc main_arg2) : Vec Ideal S4096x1024 .f32) (ix2 ⟨512 * t.val + r, by omega⟩ j) := by
    blk_simp [iblk]
    rw [show V m c main_arg2 = _ from V_main_arg2 m c]
    congr 1
    blk_ext [idx_2]
  rw [e, h.x]

theorem blk_g (t : Fin cfg0.N) (j : Fin 1024) : iblk m c 3 t (ix2 0 j) = (g j : EReal) := by
  have e : iblk m c 3 t (ix2 0 j) = (m ((c : Thread nD τ).loc main_arg3) : Vec Ideal S1024 .f32) (ix1 j) := by
    blk_simp [iblk]
    rw [show V m c main_v0 = _ from V_v0 m c]
    pointwise
    refine congrArg (fun k => (m ((c : Thread nD τ).loc main_arg3) : Vec Ideal S1024 .f32) (ix1 k)) (Fin.ext ?_)
    blk_simp [idx_3]
  rw [e, h.g]

theorem blk_d (t : Fin cfg0.N) (r : Fin 512) (j : Fin 1024) : iblk m c 4 t (ix2 r j) = (D (512 * t.val + r) j : EReal) := by
  have hN : t.val < 8 := lt_of_lt_of_eq t.isLt (show cfg0.N = 8 from N_0)
  have e : iblk m c 4 t (ix2 r j) = (m ((c : Thread nD τ).loc main_arg4) : Vec Ideal S4096x1024 .f32) (ix2 ⟨512 * t.val + r, by omega⟩ j) := by
    blk_simp [iblk]
    rw [show V m c main_arg4 = _ from V_main_arg4 m c]
    congr 1
    blk_ext [idx_4]
  rw [e, h.d]

theorem tile_dx (t : Fin cfg0.N) (r : Fin 512) (j : Fin 1024) :
    dxTile (zRows m c 0 t.val) (zRows m c 1 t.val) (iblk m c 0 t) (iblk m c 1 t) (iblk m c 2 t) (iblk m c 3 t) (iblk m c 4 t) (ix2 r j)
      = ((dnorm (X (t.val * 512 + r)) (mulRow₂ W (fun k => W (2816 + k)) (Z0 (t.val * 512 + r)) (Z1 (t.val * 512 + r))) g (D (t.val * 512 + r)) j : ℝ) : EReal) := by
  have hN : t.val < 8 := lt_of_lt_of_eq t.isLt (show cfg0.N = 8 from N_0)
  rw [dxTile_real _ _ _ _ _ _ _ (fun r => Z0 (512 * t.val + r)) (fun r => Z1 (512 * t.val + r)) W (fun k => W (2816 + k)) (fun r => X (512 * t.val + r)) (fun r => D (512 * t.val + r)) g
    (blk_z0 h t.val hN) (blk_z1 h t.val hN) (blk_w0 h t) (blk_w1 h t) (blk_x h t) (blk_g h t) (blk_d h t), Nat.mul_comm t.val 512]

/-- The rows' gradient. -/
theorem final_dx : (dats m 0 c).arrAt 5 cfg0.N
    = (fun y => ((dnorm (X (y 0 : Fin 4096)) (mulRow₂ W (fun k => W (2816 + k)) (Z0 (y 0 : Fin 4096)) (Z1 (y 0 : Fin 4096))) g (D (y 0 : Fin 4096)) (y 1) : ℝ) : EReal) : Vec Ideal S4096x1024 .f32) := by
  refine (dats m 0 c).arrAt_eq_of_covers 5 _ (by decide +kernel) fun t hf y => ?_
  blk_simp
  rw [after0_5, idx_5]
  have e : ((win0_5.blk t).view.emb y 1 : Fin 1024) = y 1 := Fin.ext (by blk_simp [idx_5])
  rw [e]
  refine .trans ?_ (tile_dx h t (y 0) (y 1))
  exact congrArg _ (eq_ix2 (n0 := 512) (n1 := 1024) y)

/-- The rows' gradient in the narrow type. -/
theorem final_dxb : (dats m 0 c).arrAt 6 cfg0.N
    = (fun y => ((dnorm (X (y 0 : Fin 4096)) (mulRow₂ W (fun k => W (2816 + k)) (Z0 (y 0 : Fin 4096)) (Z1 (y 0 : Fin 4096))) g (D (y 0 : Fin 4096)) (y 1) : ℝ) : EReal) : Vec Ideal S4096x1024 .bf16) := by
  refine (dats m 0 c).arrAt_eq_of_covers 6 _ (by decide +kernel) fun t hf y => ?_
  blk_simp
  rw [after0_6, idx_6, dxbTile_eq]
  have e : ((win0_6.blk t).view.emb y 1 : Fin 1024) = y 1 := Fin.ext (by blk_simp [idx_6])
  rw [e]
  refine .trans ?_ (tile_dx h t (y 0) (y 1))
  exact congrArg _ (eq_ix2 (n0 := 512) (n1 := 1024) y)

theorem sumG_real (u : Fin 8) (j : Fin 1024) (n : ℕ) (hn : n < cfg0.N) :
    sumG m c n hn (ix2 u j) = ((∑ p ∈ Finset.range (n + 1), ∑ q ∈ Finset.range 4, ∑ a ∈ Finset.range 16,
      mulRow₂ W (fun k => W (2816 + k)) (Z0 (512 * p + (128 * q + (8 * a + u)))) (Z1 (512 * p + (128 * q + (8 * a + u)))) j * xn (X (512 * p + (128 * q + (8 * a + u)))) j : ℝ) : EReal) := by
  have h8 : n < 8 := lt_of_lt_of_eq hn (show cfg0.N = 8 from N_0)
  induction n with
  | zero =>
    rw [sumG, dgTile_real _ _ _ _ _ (fun r => Z0 (512 * 0 + r)) (fun r => Z1 (512 * 0 + r)) W (fun k => W (2816 + k)) (fun r => X (512 * 0 + r)) (blk_z0 h 0 h8) (blk_z1 h 0 h8) (blk_w0 h ⟨0, hn⟩) (blk_w1 h ⟨0, hn⟩) (blk_x h ⟨0, hn⟩)]
    rw [show k0_pay1 (F := Ideal) (ix2 u j) = 0 from by pointwise [k0_pay1], zero_add,
      Finset.sum_range_one]
  | succ n ih =>
    rw [sumG, dgTile_real _ _ _ _ _ (fun r => Z0 (512 * (n + 1) + r)) (fun r => Z1 (512 * (n + 1) + r)) W (fun k => W (2816 + k)) (fun r => X (512 * (n + 1) + r)) (blk_z0 h (n + 1) h8) (blk_z1 h (n + 1) h8) (blk_w0 h ⟨n + 1, hn⟩) (blk_w1 h ⟨n + 1, hn⟩) (blk_x h ⟨n + 1, hn⟩),
      ih _ (by omega), ← EReal.coe_add, ← Finset.sum_range_succ]

omit h in
/-- The block of partial sums of the gains' gradient. -/
theorem final_g : (dats m 0 c).arrAt 7 cfg0.N = (sumG m c 7 (by rw [show cfg0.N = 8 from N_0]; decide) : Vec Ideal S8x1024 .f32) := by
  refine (dats m 0 c).arrAt_eq_of_after_last 7 t0_7 (by decide +kernel) _ fun j => ?_
  blk_simp
  rw [after0_7]
  rfl

theorem tail_dg : (Pipeline.afterTail₀ cfgs (dats m) 0 (V0 m) [hostOps1] c main_v2 : Vec Ideal S1024 .f32)
    = fun y => ((∑ i ∈ Finset.range 4096, mulRow₂ W (fun k => W (2816 + k)) (Z0 i) (Z1 i) (y 0) * xn (X i) (y 0) : ℝ) : EReal) := by
  unfold Pipeline.afterTail₀
  simp only [hostOps1, List.flatten_cons, List.flatten_nil, List.append_nil]
  after_results
  rw [Dat.withArrays_arrAt (dats m 0 c) sharedIn0 (V0 m c) (A_eq m c) 7]
  rw [final_g]
  funext y
  obtain ⟨j, rfl⟩ : ∃ j : Fin 1024, y = ix1 j := ⟨y 0, eq_ix1 y⟩
  pointwise
  simp only [sumG_real h, coe_sum]
  exact congrArg (fun a : ℝ => (a : EReal)) (all_rows fun i => mulRow₂ W (fun k => W (2816 + k)) (Z0 i) (Z1 i) j * xn (X i) j)

end Cert.DhFfnIdeal.Value

end
-- ==== Proof.DhFfnRefValue.lean ====
/- Every result of the reference of the feed-forward's backward projection, in closed form over the real numbers. -/
module

public import Idealize.ShloMosaic.Lib.Pointwise
public import proofs.«01_k».proof.Proof.Gen.DhFfnRefIdeal.Read
public import proofs.«01_k».proof.Proof.DhFfnPay

@[expose] public section

set_option maxRecDepth 16384

noncomputable section

open Idealize.ShloMosaic Idealize.ShloMosaic.TcCoe Idealize.SL.Sem
open Cert.RealLaws Cert.Rows
open Cert.DhFfnIdeal.Value (mulRow₂)

namespace Cert.DhFfnRefIdeal.Value

open Cert.DhFfnRefIdeal Cert.DhFfnRefIdeal.Gen Cert.DhFfnRefIdeal.Read

variable {z : Vec Ideal S2x4096x2816 .bf16} {w : Vec Ideal S5632x1024 .bf16} {x : Vec Ideal S4096x1024 .f32} {g : Vec Ideal S1024 .f32}
  {d : Vec Ideal S4096x1024 .f32} {Z0 Z1 : ℕ → Fin 2816 → ℝ} {W X D : ℕ → Fin 1024 → ℝ} {G : Fin 1024 → ℝ}
  (hx : ∀ (i : Fin 4096) j, x (ix2 i j) = ((X i j : ℝ) : EReal)) (hg : ∀ j, g (ix1 j) = ((G j : ℝ) : EReal))
  (hd : ∀ (i : Fin 4096) j, d (ix2 i j) = ((D i j : ℝ) : EReal))
  (hz0 : ∀ (i : Fin 4096) k, z (ix3 0 i k) = ((Z0 i k : ℝ) : EReal)) (hz1 : ∀ (i : Fin 4096) k, z (ix3 1 i k) = ((Z1 i k : ℝ) : EReal))
  (hw : ∀ (k : Fin 5632) j, w (ix2 k j) = ((W k j : ℝ) : EReal))

section
include hx

theorem v6_real (i : Fin 4096) : val_main_v6 (F := Ideal) x (ix2 i 0) = ((ms (X i) : ℝ) : EReal) := by
  pointwise [val_main_v6, val_main_v5, val_main_v4, val_main_v3, val_main_v2, val_main_v1, val_main_v0, val_main_cst, val_main_cst_0, val_main_cst_1]
  simp only [hx, ← EReal.coe_mul, coe_sum]
  rw [show Ideal.ofBits .f32 1149239296#32 = _ from ofBits_1024, show Ideal.ofBits .f32 897988541#32 = _ from ofBits_eps,
    div_coe _ _ (by norm_num), ← EReal.coe_add]
  rfl

theorem v7_real (i : Fin 4096) : val_main_v7 (F := Ideal) x (ix2 i 0) = ((rinv (X i) : ℝ) : EReal) := by
  pointwise [val_main_v7]
  rw [v6_real hx, rsqrt_pos _ (ms_pos _)]
  rfl

theorem v10_real (i : Fin 4096) : val_main_v10 (F := Ideal) x (ix2 i 0) = ((-1 / 2 * (rinv (X i) / ms (X i)) : ℝ) : EReal) := by
  pointwise [val_main_v10, val_main_v9, val_main_v8, val_main_cst_2]
  rw [v7_real hx, v6_real hx, div_coe _ _ (ms_pos _).ne', show Ideal.ofBits .f32 3204448256#32 = _ from ofBits_neg_half, ← EReal.coe_mul]

theorem v12_real (i : Fin 4096) (j : Fin 1024) : val_main_v12 (F := Ideal) x (ix2 i j) = ((xn (X i) j : ℝ) : EReal) := by
  pointwise [val_main_v12, val_main_v11]
  rw [v7_real hx, hx, ← EReal.coe_mul]
  rfl
end

include hz0 in
theorem left_real (i : Fin 4096) (k : Fin 2816) : val_main_v24 (F := Ideal) z (ix2 i ⟨k, by omega⟩) = ((Z0 i k : ℝ) : EReal) := by
  refine (concatenate_pair_apply_left 1 (val_main_v20 (F := Ideal) z) (val_main_v22 (F := Ideal) z) concatenates_S4096x2816_S4096x2816_S4096x5632_d1
    (ix2 i ⟨k, by omega⟩) rfl (ix2 i k) (fun b => match b with
    | ⟨0, _⟩ => rfl
    | ⟨1, _⟩ => rfl)).trans ?_
  pointwise [val_main_v20, val_main_v19]
  exact hz0 i k

include hz1 in
theorem right_real (i : Fin 4096) (k : Fin 2816) : val_main_v24 (F := Ideal) z (ix2 i ⟨2816 + k, by omega⟩) = ((Z1 i k : ℝ) : EReal) := by
  refine (concatenate_pair_apply_right 1 (val_main_v20 (F := Ideal) z) (val_main_v22 (F := Ideal) z) concatenates_S4096x2816_S4096x2816_S4096x5632_d1
    (ix2 i ⟨2816 + k, by omega⟩) rfl rfl (ix2 i k) (fun b hb => match b, hb with
    | ⟨0, _⟩, _ => rfl
    | ⟨1, _⟩, hb => absurd rfl hb) (Nat.add_comm _ _)).trans ?_
  pointwise [val_main_v22, val_main_v21]
  exact hz1 i k

include hz0 hz1 hw in
theorem v25_real (i : Fin 4096) (j : Fin 1024) :
    val_main_v25 (F := Ideal) z w (ix2 i j) = ((mulRow₂ W (fun k => W (2816 + k)) (Z0 i) (Z1 i) j : ℝ) : EReal) := by
  have ew (k : Fin 5632) : val_main_v17 (F := Ideal) w (ix2 j k) = ((W k j : ℝ) : EReal) := by
    pointwise [val_main_v17, val_main_v16]
    exact hw k j
  pointwise [val_main_v25]
  simp only [ew]
  refine (Fin.sum_univ_add (a := 2816) (b := 2816) _).trans ?_
  refine (congrArg₂ (· + ·) (Finset.sum_congr rfl fun k _ => congrArg (· * _) (left_real hz0 i k))
    (Finset.sum_congr rfl fun k _ => congrArg (· * _) (right_real hz1 i k))).trans ?_
  simp only [← EReal.coe_mul, coe_sum, ← EReal.coe_add]
  rfl

include hx hz0 hz1 hw in
theorem v31_real : val_main_v31 (F := Ideal) z w x
    = fun y => ((∑ i ∈ Finset.range 4096, mulRow₂ W (fun k => W (2816 + k)) (Z0 i) (Z1 i) (y 0) * xn (X i) (y 0) : ℝ) : EReal) := by
  funext y
  pointwise [val_main_v31, val_main_cst_4, val_main_v28, val_main_v27, val_main_cst_3, val_main_v26]
  obtain ⟨j, rfl⟩ : ∃ j : Fin 1024, y = ix1 j := ⟨y 0, eq_ix1 y⟩
  refine (Fin.sum_univ_one _).trans ?_
  have e (i : Fin 4096) : val_main_v12 (F := Ideal) x (ix2 i j) * val_main_v25 (F := Ideal) z w (ix2 i j)
      = ((mulRow₂ W (fun k => W (2816 + k)) (Z0 i) (Z1 i) j * xn (X i) j : ℝ) : EReal) := by
    rw [v12_real hx, v25_real hz0 hz1 hw, ← EReal.coe_mul, mul_comm]
  refine (Finset.sum_congr rfl fun i _ => e i).trans ?_
  rw [coe_sum, Fin.sum_univ_eq_sum_range (fun i => mulRow₂ W (fun k => W (2816 + k)) (Z0 i) (Z1 i) j * xn (X i) j) 4096]
  rfl

include hg hz0 hz1 hw in
theorem v30_real (i : Fin 4096) (j : Fin 1024) : val_main_v30 (F := Ideal) z w g (ix2 i j) = ((mulRow₂ W (fun k => W (2816 + k)) (Z0 i) (Z1 i) j * G j : ℝ) : EReal) := by
  pointwise [val_main_v30, val_main_v29, val_main_v13]
  rw [v25_real hz0 hz1 hw, hg, ← EReal.coe_mul]

include hx hg hz0 hz1 hw in
theorem v41_real (i : Fin 4096) : val_main_v41 (F := Ideal) z w x g (ix1 i)
    = (((∑ k, X i k * (mulRow₂ W (fun k => W (2816 + k)) (Z0 i) (Z1 i) k * G k)) * (-1 / 2 * (rinv (X i) / ms (X i))) / 1024 : ℝ) : EReal) := by
  pointwise [val_main_v41, val_main_cst_7, val_main_v40, val_main_v39, val_main_cst_6, val_main_v38, val_main_v34, val_main_v33, val_main_cst_5, val_main_v32]
  rw [Fin.sum_univ_one, v10_real hx]
  simp only [hx, v30_real hg hz0 hz1 hw, ← EReal.coe_mul, coe_sum]
  rw [show Ideal.ofBits .f32 1149239296#32 = _ from ofBits_1024, div_coe _ _ (by norm_num)]

include hx hg hd hz0 hz1 hw

theorem v46_real : val_main_v46 (F := Ideal) z w x g d
    = fun y => ((dnorm (X (y 0 : Fin 4096)) (mulRow₂ W (fun k => W (2816 + k)) (Z0 (y 0 : Fin 4096)) (Z1 (y 0 : Fin 4096))) G (D (y 0 : Fin 4096)) (y 1) : ℝ) : EReal) := by
  funext y
  obtain ⟨i, j, rfl⟩ : ∃ (i : Fin 4096) (j : Fin 1024), y = ix2 i j := ⟨y 0, y 1, eq_ix2 y⟩
  pointwise [val_main_v46, val_main_v45, val_main_v44, val_main_v43, val_main_v42, val_main_v37, val_main_v36, val_main_v35]
  rw [v30_real hg hz0 hz1 hw, v7_real hx, v41_real hx hg hz0 hz1 hw, hx, hd]
  simp only [← EReal.coe_mul, ← EReal.coe_add]
  exact congrArg (fun a : ℝ => (a : EReal)) (dnorm_eq _ _ _ _ _).symm

theorem v47_real : val_main_v47 (F := Ideal) z w x g d
    = fun y => ((dnorm (X (y 0 : Fin 4096)) (mulRow₂ W (fun k => W (2816 + k)) (Z0 (y 0 : Fin 4096)) (Z1 (y 0 : Fin 4096))) G (D (y 0 : Fin 4096)) (y 1) : ℝ) : EReal) := by
  rw [← v46_real hx hg hd hz0 hz1 hw]
  rfl

end Cert.DhFfnRefIdeal.Value

end
-- ==== Proof.DhFfnClaim.lean ====
/- The feed-forward's backward projection and its reference compute the same three results. -/
module

public import proofs.«01_k».proof.Defs
public import proofs.«01_k».proof.Proof.Gen.DhFfn
public import proofs.«01_k».proof.Proof.Gen.Pre_dh_ffn_finite
public import proofs.«01_k».proof.Proof.Gen.DhFfnRefIdeal.Run
public import proofs.«01_k».proof.Proof.DhFfnValue
public import proofs.«01_k».proof.Proof.DhFfnRefValue

@[expose] public section

set_option maxRecDepth 16384

noncomputable section

open Idealize.ShloMosaic Idealize.ShloMosaic.TcCoe Idealize.SL.Sem
open Cert.RealLaws Cert.Rows

namespace Cert.DhFfnIdeal.Value

open Cert.DhFfnIdeal Cert.DhFfnIdeal.Gen

variable (m : (ℓ : Loc nD τ sig) → Buf (Elt Ideal) ℓ) (ρ : Dev nD → PrngReg) (c : Dev nD)

/-- The arguments' rows as real numbers: the cotangent's two planes, the weights, the rows, the gains, and the gradient past the norm. -/
def Z0 : ℕ → Fin 2816 → ℝ := RealLaws.rowsOf fun (i : Fin 4096) k => (m ((c : Thread nD τ).loc main_arg0) : Vec Ideal S2x4096x2816 .bf16) (ix3 0 i k)
def Z1 : ℕ → Fin 2816 → ℝ := RealLaws.rowsOf fun (i : Fin 4096) k => (m ((c : Thread nD τ).loc main_arg0) : Vec Ideal S2x4096x2816 .bf16) (ix3 1 i k)
def W : ℕ → Fin 1024 → ℝ := RealLaws.rowsOf fun (k : Fin 5632) j => (m ((c : Thread nD τ).loc main_arg1) : Vec Ideal S5632x1024 .bf16) (ix2 k j)
def X : ℕ → Fin 1024 → ℝ := RealLaws.rowsOf fun (i : Fin 4096) j => (m ((c : Thread nD τ).loc main_arg2) : Vec Ideal S4096x1024 .f32) (ix2 i j)
def G (j : Fin 1024) : ℝ := RealLaws.rowsOf (n := 1) (fun _ j => (m ((c : Thread nD τ).loc main_arg3) : Vec Ideal S1024 .f32) (ix1 j)) 0 j
def D : ℕ → Fin 1024 → ℝ := RealLaws.rowsOf fun (i : Fin 4096) j => (m ((c : Thread nD τ).loc main_arg4) : Vec Ideal S4096x1024 .f32) (ix2 i j)

theorem holds (pre : Pre_DhFfnIdeal_dh_ffn_finite m) : Holds m c (Z0 m c) (Z1 m c) (W m c) (X m c) (D m c) (G m c) := by
  have e := congrFun (pre c) (Shape.Idx.first Cert.Pre_dh_ffn_finite.Gen.h_S_)
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  have hk (s : Shape) (h : Cert.Pre_dh_ffn_finite.S_.BroadcastsInDim s ![]) (i : s.Idx) :
      broadcastInDim s ![] h (constant (F := Ideal) Cert.Pre_dh_ffn_finite.S_ .f32 0x7F800000#32) i = ⊤ := ofBits_inf
  exact ⟨fun i k => rowsOf_eq _ (fun i k => real_of_all _ _ (hk _ _) _ _ _ _ e0 (ix3 0 i k)) i k,
    fun i k => rowsOf_eq _ (fun i k => real_of_all _ _ (hk _ _) _ _ _ _ e0 (ix3 1 i k)) i k,
    fun k j => rowsOf_eq _ (fun k j => real_of_all _ _ (hk _ _) _ _ _ _ e1 (ix2 k j)) k j,
    fun i j => rowsOf_eq _ (fun i j => real_of_all _ _ (hk _ _) _ _ _ _ e2 (ix2 i j)) i j,
    fun j => rowsOf_eq (n := 1) _ (fun _ j => real_of_all _ _ (hk _ _) _ _ _ _ e3 (ix1 j)) 0 j,
    fun i j => rowsOf_eq _ (fun i j => real_of_all _ _ (hk _ _) _ _ _ _ e4 (ix2 i j)) i j⟩

def dxOut : Vec Ideal S4096x1024 .f32 :=
  fun y => ((dnorm (X m c (y 0 : Fin 4096)) (mulRow₂ (W m c) (fun k => W m c (2816 + k)) (Z0 m c (y 0 : Fin 4096)) (Z1 m c (y 0 : Fin 4096))) (G m c) (D m c (y 0 : Fin 4096)) (y 1) : ℝ) : EReal)
def dgOut : Vec Ideal S1024 .f32 := fun y => ((∑ i ∈ Finset.range 4096, mulRow₂ (W m c) (fun k => W m c (2816 + k)) (Z0 m c i) (Z1 m c i) (y 0) * xn (X m c i) (y 0) : ℝ) : EReal)

theorem run_kernel (pre : Pre_DhFfnIdeal_dh_ffn_finite m) : θ_run (defs (F := Ideal)) (onTc (τ := τ) (main (F := Ideal))) ⟨m, fun _ => 0, ρ⟩ (fun r => ∀ c : Dev nD,
      r.2.mem ((c.tc : Thread nD τ).loc main_v1_0) = dxOut m c
      ∧ r.2.mem ((c.tc : Thread nD τ).loc main_v1_1) = (dxOut m c : Vec Ideal S4096x1024 .bf16)
      ∧ r.2.mem ((c.tc : Thread nD τ).loc main_v2) = dgOut m c) :=
  (θ_run defs _ _).mono (fun r h c =>
    ⟨((h.1 c).1 5).trans (final_dx (holds m c pre)),
      ((h.1 c).1 6).trans (final_dxb (holds m c pre)),
      ((h.1 c).2 main_v2 (Pipeline.mem_restRefs_of main_v2 (by decide) (by decide))).trans (tail_dg (holds m c pre))⟩)
    (run_main m ρ)

/-- The reference's frame: its arguments unchanged and no semaphore left counted. -/
theorem frame_reference (m : (ℓ : Loc Cert.DhFfnRefIdeal.nD Cert.DhFfnRefIdeal.τ Cert.DhFfnRefIdeal.sig) → Buf (Elt Ideal) ℓ) (ρ : Dev Cert.DhFfnRefIdeal.nD → PrngReg) :
    θ_run (Cert.DhFfnRefIdeal.defs (F := Ideal)) (onTc (τ := Cert.DhFfnRefIdeal.τ) (Cert.DhFfnRefIdeal.main (F := Ideal))) ⟨m, fun _ => 0, ρ⟩ (fun r => (∀ c : Dev Cert.DhFfnRefIdeal.nD,
      r.2.mem ((c.tc : Thread Cert.DhFfnRefIdeal.nD Cert.DhFfnRefIdeal.τ).loc Cert.DhFfnRefIdeal.main_arg0) = m ((c.tc : Thread Cert.DhFfnRefIdeal.nD Cert.DhFfnRefIdeal.τ).loc Cert.DhFfnRefIdeal.main_arg0)
      ∧ r.2.mem ((c.tc : Thread Cert.DhFfnRefIdeal.nD Cert.DhFfnRefIdeal.τ).loc Cert.DhFfnRefIdeal.main_arg1) = m ((c.tc : Thread Cert.DhFfnRefIdeal.nD Cert.DhFfnRefIdeal.τ).loc Cert.DhFfnRefIdeal.main_arg1)
      ∧ r.2.mem ((c.tc : Thread Cert.DhFfnRefIdeal.nD Cert.DhFfnRefIdeal.τ).loc Cert.DhFfnRefIdeal.main_arg2) = m ((c.tc : Thread Cert.DhFfnRefIdeal.nD Cert.DhFfnRefIdeal.τ).loc Cert.DhFfnRefIdeal.main_arg2)
      ∧ r.2.mem ((c.tc : Thread Cert.DhFfnRefIdeal.nD Cert.DhFfnRefIdeal.τ).loc Cert.DhFfnRefIdeal.main_arg3) = m ((c.tc : Thread Cert.DhFfnRefIdeal.nD Cert.DhFfnRefIdeal.τ).loc Cert.DhFfnRefIdeal.main_arg3)
      ∧ r.2.mem ((c.tc : Thread Cert.DhFfnRefIdeal.nD Cert.DhFfnRefIdeal.τ).loc Cert.DhFfnRefIdeal.main_arg4) = m ((c.tc : Thread Cert.DhFfnRefIdeal.nD Cert.DhFfnRefIdeal.τ).loc Cert.DhFfnRefIdeal.main_arg4)
      ∧ r.2.mem ((c.tc : Thread Cert.DhFfnRefIdeal.nD Cert.DhFfnRefIdeal.τ).loc Cert.DhFfnRefIdeal.main_arg5) = m ((c.tc : Thread Cert.DhFfnRefIdeal.nD Cert.DhFfnRefIdeal.τ).loc Cert.DhFfnRefIdeal.main_arg5))
      ∧ r.2.sem = fun _ => 0) :=
  (θ_run Cert.DhFfnRefIdeal.defs _ _).mono (fun r h => ⟨fun c => (h c).2.2.2, Idealize.ShloMosaic.sem_eq_zero_of_no_sems (by decide) r.2⟩)
    (Cert.DhFfnRefIdeal.Value.run (F := Ideal) m ρ)

theorem value : algebraic_DhFfnIdeal_DhFfnRefIdeal_pre_dh_ffn_finite := fun m ρ m' ρ' pre hag =>
  ⟨dxOut m, fun c => (dxOut m c : Vec Ideal S4096x1024 .bf16), dgOut m,
    (θ_run defs _ _).mono (fun _ h c => ⟨(h.1 c).1, (h.1 c).2.1, (h.1 c).2.2, h.2.1 c⟩)
      (θ_run_and (run_kernel m ρ pre) (frame m ρ)),
    (θ_run Cert.DhFfnRefIdeal.defs _ _).mono (fun _ h c => by
      obtain ⟨h0, h1, h2, hargs⟩ := h c
      have H := holds m c pre
      obtain ⟨a0, a1, a2, a3, a4, _⟩ := hag c
      have hz0 := fun (i : Fin 4096) (k : Fin 2816) => (congrFun a0 (ix3 0 i k)).trans (H.z0 i k)
      have hz1 := fun (i : Fin 4096) (k : Fin 2816) => (congrFun a0 (ix3 1 i k)).trans (H.z1 i k)
      have hw := fun (k : Fin 5632) (j : Fin 1024) => (congrFun a1 (ix2 k j)).trans (H.w k j)
      have hx := fun (i : Fin 4096) (j : Fin 1024) => (congrFun a2 (ix2 i j)).trans (H.x i j)
      have hg := fun (j : Fin 1024) => (congrFun a3 (ix1 j)).trans (H.g j)
      have hd := fun (i : Fin 4096) (j : Fin 1024) => (congrFun a4 (ix2 i j)).trans (H.d i j)
      exact ⟨h0.trans ((Cert.DhFfnRefIdeal.Read.val_main_v46_eq m' c).trans (Cert.DhFfnRefIdeal.Value.v46_real hx hg hd hz0 hz1 hw)),
        h1.trans ((Cert.DhFfnRefIdeal.Read.val_main_v47_eq m' c).trans (Cert.DhFfnRefIdeal.Value.v47_real hx hg hd hz0 hz1 hw)),
        h2.trans (Cert.DhFfnRefIdeal.Value.v31_real hx hz0 hz1 hw), hargs⟩)
      (Cert.DhFfnRefIdeal.Value.run (F := Ideal) m' ρ')⟩

end Cert.DhFfnIdeal.Value

end
-- ==== Proof.Proj.lean ====
/-
  A row scaled by its root mean square and then by the gains, and its products with rows of weights: the formulas of the
  two forward projections, and what is needed to read them off rectangles stored one by one.
-/
module

public import proofs.«01_k».proof.Proof.RowBlocks
public import Idealize.ShloMosaic.Lib.Pointwise

@[expose] public section

noncomputable section

namespace Cert.Proj

open Idealize.ShloMosaic

/-- The row `X` divided by its root mean square, times the gains `g`. -/
def hRow (X g : Fin 1024 → EReal) (j : Fin 1024) : EReal :=
  X j * Ideal.rsqrt (Ideal.div (∑ k, X k * X k) (Ideal.ofBits .f32 1149239296#32) + Ideal.ofBits .f32 897988541#32) * g j

/-- That row's product with a row of weights. -/
def uRow (X g W : Fin 1024 → EReal) : EReal := ∑ k, hRow X g k * W k

theorem hRow_congr {X X' g g' : Fin 1024 → EReal} (hX : ∀ k, X k = X' k) (hg : ∀ k, g k = g' k) {j j' : Fin 1024} (hj : j'.val = 0 + j.val) :
    hRow X g j = hRow X' g' j' := by
  obtain rfl : X = X' := funext hX
  obtain rfl : g = g' := funext hg
  obtain rfl : j' = j := Fin.ext (hj.trans (Nat.zero_add _))
  rfl

theorem uRow_congr {X X' g g' W W' : Fin 1024 → EReal} (hX : ∀ k, X k = X' k) (hg : ∀ k, g k = g' k) (hW : ∀ k, W k = W' k) :
    uRow X g W = uRow X' g' W' := by
  obtain rfl : X = X' := funext hX
  obtain rfl : g = g' := funext hg
  obtain rfl : W = W' := funext hW
  rfl

variable {m n : ℕ} {Val : EltTy → Type} [∀ e, Nonempty (Val e)] {sig : RefSig} {κ : Kind} {sp : Space} {e : EltTy}

/-- A load of a rectangle, at one of its elements. -/
theorem readAt_at {k l o p : ℕ} (v : View sig κ sp (⟨2, ![m, n]⟩ : Shape) e) (f : v.ty.Contents Val)
    (inb : ∀ a, (![o, p] : Fin 2 → Nat) a + (![k, l] : Fin 2 → Nat) a ≤ (⟨2, ![m, n]⟩ : Shape).size a)
    (x : (⟨2, ![m, n]⟩ : Shape).Idx → Val e) (hx : v.read Val f = x) (r : Fin k) (j : Fin l) (a : Fin m) (b : Fin n)
    (ha : a.val = o + r.val) (hb : b.val = p + j.val) :
    View.readAt Val v (Rect.unit (s := (⟨2, ![m, n]⟩ : Shape)) ![o, p] ![k, l] inb).toLoadRect f (ValueIdx.ix2 r j) = x (ValueIdx.ix2 a b) := by
  rw [View.readAt_eq_ld, hx]
  refine congrArg x ?_
  funext q; apply Fin.ext
  fin_cases q
  · show o + 1 * r.val = a.val; omega
  · show p + 1 * j.val = b.val; omega

/-- A rectangle stored is a part of `G` once each of its elements is. -/
theorem piece_at {α : Type} {k l o p : ℕ} (inb : ∀ a, (![o, p] : Fin 2 → Nat) a + (![k, l] : Fin 2 → Nat) a ≤ (⟨2, ![m, n]⟩ : Shape).size a)
    (P : (⟨2, ![k, l]⟩ : Shape).Idx → α) (G : Fin m → Fin n → α)
    (h : ∀ (r : Fin k) (j : Fin l) (a : Fin m) (b : Fin n), a.val = o + r.val → b.val = p + j.val → P (ValueIdx.ix2 r j) = G a b)
    (x : (Rect.unit (s := (⟨2, ![m, n]⟩ : Shape)) ![o, p] ![k, l] inb).shape.Idx) :
    P x = G ((Rect.unit (s := (⟨2, ![m, n]⟩ : Shape)) ![o, p] ![k, l] inb).emb x 0) ((Rect.unit (s := (⟨2, ![m, n]⟩ : Shape)) ![o, p] ![k, l] inb).emb x 1) := by
  refine (congrArg P (ValueIdx.eq_ix2 (n0 := k) (n1 := l) x)).trans (h (x 0) (x 1) _ _ ?_ ?_)
  · show o + 1 * (x 0).val = o + (x 0).val; omega
  · show p + 1 * (x 1).val = p + (x 1).val; omega

/-- A whole buffer read back after rectangles that cover it, each a part of `G`. -/
theorem readCov_pieces (v : View sig κ sp (⟨2, ![m, n]⟩ : Shape) e) (L : List (View.Piece Val (⟨2, ![m, n]⟩ : Shape) e))
    (G : Fin m → Fin n → Val e) (hG : ∀ q ∈ L, ∀ x, q.2 x = G (q.1.emb x 0) (q.1.emb x 1)) (hc : ∀ y, ∃ q ∈ L, y ∈ q.1.set)
    (inb : ∀ a, (![0, 0] : Fin 2 → Nat) a + (⟨2, ![m, n]⟩ : Shape).size a ≤ (⟨2, ![m, n]⟩ : Shape).size a) :
    v.readCov L (Rect.unit (s := (⟨2, ![m, n]⟩ : Shape)) ![0, 0] (⟨2, ![m, n]⟩ : Shape).size inb).toLoadRect = fun y => G (y 0) (y 1) := by
  rw [View.readCov_eq_canon']
  funext y
  have q := View.canon_apply_of_pieces (fun y => G (y 0) (y 1)) L hG
    ((Rect.unit (s := (⟨2, ![m, n]⟩ : Shape)) ![0, 0] (⟨2, ![m, n]⟩ : Shape).size inb).emb y) (hc _)
  refine .trans ?_ (q.trans ?_)
  · rfl
  · show G _ _ = G _ _
    congr 1 <;> apply Fin.ext
    · show 0 + 1 * (y 0).val = _; omega
    · show 0 + 1 * (y 1).val = _; omega

/-- The same for the buffer's contents. -/
theorem read_pieces (v : View sig κ sp (⟨2, ![m, n]⟩ : Shape) e) (f : v.ty.Contents Val) (L : List (View.Piece Val (⟨2, ![m, n]⟩ : Shape) e))
    (G : Fin m → Fin n → Val e) (hG : ∀ q ∈ L, ∀ x, q.2 x = G (q.1.emb x 0) (q.1.emb x 1)) (hc : ∀ y, ∃ q ∈ L, y ∈ q.1.set) :
    v.read Val (v.writes Val f L) = fun y => G (y 0) (y 1) := by
  funext y
  exact (View.read_writes_apply_eq_canon v f y _ (hc y)).trans (View.canon_apply_of_pieces (fun y => G (y 0) (y 1)) L hG y (hc y))

end Cert.Proj
end
-- ==== Proof.InProjValue.lean ====
/- The mixer's forward projection: its two results as formulas of the rows of `x`, the gains, the weights and the bias. -/
module

public import proofs.«01_k».proof.Proof.Gen.InProjIdeal.Value
public import proofs.«01_k».proof.Proof.Proj

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.InProjIdeal.Value

open Cert.InProjIdeal Cert.InProjIdeal.Gen Cert.Proj

section Body

variable (x0 : Vec Ideal S512x1024 .f32) (x1 : Vec Ideal S1x1024 .f32) (x2 : Vec Ideal S2560x1024 .bf16) (x3 : Vec Ideal S1x2560 .f32)

/-- A block's scaled rows, and their products with the weights. -/
def hBlk (a : Fin 512) (b : Fin 1024) : EReal := hRow (fun k => x0 (ix2 a k)) (fun k => x1 (ix2 0 k)) b
def uBlk (a : Fin 512) (b : Fin 2560) : EReal := uRow (fun k => x0 (ix2 a k)) (fun k => x1 (ix2 0 k)) (fun k => x2 (ix2 b k)) + x3 (ix2 0 b)

section Pay
variable (v : Vec Ideal S128x1024 .f32) (g : Vec Ideal S1x1024 .f32) (r : Fin 128) (j : Fin 1024)
theorem pay3_at : k0_pay3 v g (ix2 r j) = hRow (fun k => v (ix2 r k)) (fun k => g (ix2 0 k)) j := by pointwise [k0_pay3]; rfl
theorem pay4_at : k0_pay4 v g (ix2 r j) = hRow (fun k => v (ix2 r k)) (fun k => g (ix2 0 k)) j := by pointwise [k0_pay4]; rfl
theorem pay6_at : k0_pay6 v (k0_pay5 v) g (ix2 r j) = hRow (fun k => v (ix2 r k)) (fun k => g (ix2 0 k)) j := by pointwise [k0_pay6, k0_pay5]; rfl
theorem pay7_at : k0_pay7 v g (ix2 r j) = hRow (fun k => v (ix2 r k)) (fun k => g (ix2 0 k)) j := by pointwise [k0_pay7]; rfl
variable (h w : Vec Ideal S512x1024 .bf16) (b : Vec Ideal S1x512 .f32) (p q : Fin 512)
theorem pay9_at : k0_pay9 (k0_pay8 h w) b (ix2 p q) = (∑ k, h (ix2 p k) * w (ix2 q k)) + b (ix2 0 q) := by pointwise [k0_pay9, k0_pay8]
theorem pay10_at : k0_pay10 h w b (ix2 p q) = (∑ k, h (ix2 p k) * w (ix2 q k)) + b (ix2 0 q) := by pointwise [k0_pay10]
theorem pay11_at : k0_pay11 h w b (ix2 p q) = (∑ k, h (ix2 p k) * w (ix2 q k)) + b (ix2 0 q) := by pointwise [k0_pay11]
theorem pay1_at : k0_pay1 (k0_pay12 h w) b (ix2 p q) = (∑ k, h (ix2 p k) * w (ix2 q k)) + b (ix2 0 q) := by pointwise [k0_pay1, k0_pay12]
theorem pay2_at : k0_pay2 h w b (ix2 p q) = (∑ k, h (ix2 p k) * w (ix2 q k)) + b (ix2 0 q) := by pointwise [k0_pay2]
end Pay

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S2560x1024 .bf16) (harg3 : arg3.IsWhole) (arg4 : Memref sig .tc .vmem S1x2560 .f32) (harg4 : arg4.IsWhole)
  (arg6 : Memref sig .tc .vmem S512x2560 .bf16) (harg6 : arg6.IsWhole) (arg7 : Memref sig .tc .vmem S512x1024 .bf16) (harg7 : arg7.IsWhole)

/-- Each block of rows stored is a part of the scaled rows. -/
theorem h_pieces : ∀ q ∈ (kernelRun0_A (F := Ideal) c i arg1 harg1 arg2 harg2 arg3 harg3 arg4 harg4 arg6 harg6 arg7 harg7 x0 x1 x2 x3).2.1, ∀ x, q.2 x = hBlk x0 x1 (q.1.emb x 0) (q.1.emb x 1) := by
  unfold kernelRun0_A
  dsimp only
  sl_unfold_run_names
  have key (pay : Vec Ideal S128x1024 .bf16) (v : Vec Ideal S128x1024 .f32) (g : Vec Ideal S1x1024 .f32)
      (hp : ∀ r j, pay (ix2 r j) = hRow (fun k => v (ix2 r k)) (fun k => g (ix2 0 k)) j) (o : ℕ)
      (inb : ∀ a, (![o, 0] : Fin 2 → Nat) a + (![128, 1024] : Fin 2 → Nat) a ≤ S512x1024.size a)
      (hv : ∀ (r : Fin 128) (k : Fin 1024) (a : Fin 512), a.val = o + r.val → v (ix2 r k) = x0 (ix2 a k)) (hg : ∀ k : Fin 1024, g (ix2 0 k) = x1 (ix2 0 k))
      (x : (Rect.unit (s := S512x1024) ![o, 0] ![128, 1024] inb).shape.Idx) :
      pay x = hBlk x0 x1 ((Rect.unit (s := S512x1024) ![o, 0] ![128, 1024] inb).emb x 0) ((Rect.unit (s := S512x1024) ![o, 0] ![128, 1024] inb).emb x 1) :=
    piece_at inb pay (hBlk x0 x1) (fun r j a b ha hb => (hp r j).trans (hRow_congr (fun k => hv r k a ha) hg hb)) x
  have hg (k : Fin 1024) := readAt_at arg2.view _ inb_S1x1024_S1x1024_0_0 x1 (harg2.read_unread x1) 0 k 0 k rfl (Nat.zero_add _).symm
  refine List.forall_mem_cons.mpr ⟨fun x => ?_, List.forall_mem_cons.mpr ⟨fun x => ?_, List.forall_mem_cons.mpr ⟨fun x => ?_,
    List.forall_mem_cons.mpr ⟨fun x => ?_, fun _ hq => absurd hq List.not_mem_nil⟩⟩⟩⟩
  · exact key _ _ _ (pay7_at _ _) _ inb_S512x1024_S128x1024_384_0
      (fun r k a h => readAt_at arg1.view _ _ x0 (harg1.read_unread x0) r k a k h (Nat.zero_add _).symm) hg x
  · exact key _ _ _ (pay6_at _ _) _ inb_S512x1024_S128x1024_256_0
      (fun r k a h => readAt_at arg1.view _ _ x0 (harg1.read_unread x0) r k a k h (Nat.zero_add _).symm) hg x
  · exact key _ _ _ (pay4_at _ _) _ inb_S512x1024_S128x1024_128_0
      (fun r k a h => readAt_at arg1.view _ _ x0 (harg1.read_unread x0) r k a k h (Nat.zero_add _).symm) hg x
  · exact key _ _ _ (pay3_at _ _) _ inb_S512x1024_S128x1024_0_0
      (fun r k a h => readAt_at arg1.view _ _ x0 (harg1.read_unread x0) r k a k h (Nat.zero_add _).symm) hg x

theorem out5 : out0_A_5 c i arg1 harg1 arg2 harg2 arg3 harg3 arg4 harg4 arg6 harg6 arg7 harg7 x0 x1 x2 x3 = fun y => hBlk x0 x1 (y 0) (y 1) :=
  read_pieces (Val := Elt Ideal) VO0_5 VO0_5.junk _ (hBlk x0 x1) (h_pieces x0 x1 x2 x3 c i arg1 harg1 arg2 harg2 arg3 harg3 arg4 harg4 arg6 harg6 arg7 harg7)
    (cover0_A_5 c i arg1 harg1 arg2 harg2 arg3 harg3 arg4 harg4 arg6 harg6 arg7 harg7 x0 x1 x2 x3)

/-- Each block of columns stored is a part of the products. -/
theorem u_pieces : ∀ q ∈ (kernelRun0_A (F := Ideal) c i arg1 harg1 arg2 harg2 arg3 harg3 arg4 harg4 arg6 harg6 arg7 harg7 x0 x1 x2 x3).1, ∀ x, q.2 x = uBlk x0 x1 x2 x3 (q.1.emb x 0) (q.1.emb x 1) := by
  have hH := readCov_pieces arg7.view _ (hBlk x0 x1) (h_pieces x0 x1 x2 x3 c i arg1 harg1 arg2 harg2 arg3 harg3 arg4 harg4 arg6 harg6 arg7 harg7)
    (cover0_A_5 c i arg1 harg1 arg2 harg2 arg3 harg3 arg4 harg4 arg6 harg6 arg7 harg7 x0 x1 x2 x3)
  have key (pay : Vec Ideal S512x512 .bf16) (h w : Vec Ideal S512x1024 .bf16) (b : Vec Ideal S1x512 .f32)
      (hp : ∀ p q, pay (ix2 p q) = (∑ k, h (ix2 p k) * w (ix2 q k)) + b (ix2 0 q)) (hh : h = fun y => hBlk x0 x1 (y 0) (y 1)) (o : ℕ)
      (inb : ∀ a, (![0, o] : Fin 2 → Nat) a + (![512, 512] : Fin 2 → Nat) a ≤ S512x2560.size a)
      (hw : ∀ (q : Fin 512) (k : Fin 1024) (b : Fin 2560), b.val = o + q.val → w (ix2 q k) = x2 (ix2 b k))
      (hb : ∀ (q : Fin 512) (b' : Fin 2560), b'.val = o + q.val → b (ix2 0 q) = x3 (ix2 0 b'))
      (x : (Rect.unit (s := S512x2560) ![0, o] ![512, 512] inb).shape.Idx) :
      pay x = uBlk x0 x1 x2 x3 ((Rect.unit (s := S512x2560) ![0, o] ![512, 512] inb).emb x 0) ((Rect.unit (s := S512x2560) ![0, o] ![512, 512] inb).emb x 1) := by
    refine piece_at inb pay (uBlk x0 x1 x2 x3) (fun p q a b' ha hb' => ?_) x
    obtain rfl : a = p := Fin.ext (ha.trans (Nat.zero_add _))
    subst hh
    exact (hp a q).trans (congrArg₂ (· + ·) (Finset.sum_congr rfl fun k _ => congrArg₂ (· * ·) rfl (hw q k b' hb')) (hb q b' hb'))
  revert hH
  unfold kernelRun0_A
  dsimp only
  sl_unfold_run_names
  intro hH
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ hq => absurd hq List.not_mem_nil⟩⟩⟩⟩⟩
  · exact key _ _ _ _ (pay2_at _ _ _) (hH inb_S512x1024_S512x1024_0_0) _ inb_S512x2560_S512x512_0_2048 (fun q k b h => readAt_at arg3.view _ _ x2 (harg3.read_unread x2) q k b k h (Nat.zero_add _).symm)
      (fun q b h => readAt_at arg4.view _ _ x3 (harg4.read_unread x3) 0 q 0 b rfl h) x
  · exact key _ _ _ _ (pay1_at _ _ _) (hH inb_S512x1024_S512x1024_0_0) _ inb_S512x2560_S512x512_0_1536 (fun q k b h => readAt_at arg3.view _ _ x2 (harg3.read_unread x2) q k b k h (Nat.zero_add _).symm)
      (fun q b h => readAt_at arg4.view _ _ x3 (harg4.read_unread x3) 0 q 0 b rfl h) x
  · exact key _ _ _ _ (pay11_at _ _ _) (hH inb_S512x1024_S512x1024_0_0) _ inb_S512x2560_S512x512_0_1024 (fun q k b h => readAt_at arg3.view _ _ x2 (harg3.read_unread x2) q k b k h (Nat.zero_add _).symm)
      (fun q b h => readAt_at arg4.view _ _ x3 (harg4.read_unread x3) 0 q 0 b rfl h) x
  · exact key _ _ _ _ (pay10_at _ _ _) (hH inb_S512x1024_S512x1024_0_0) _ inb_S512x2560_S512x512_0_512 (fun q k b h => readAt_at arg3.view _ _ x2 (harg3.read_unread x2) q k b k h (Nat.zero_add _).symm)
      (fun q b h => readAt_at arg4.view _ _ x3 (harg4.read_unread x3) 0 q 0 b rfl h) x
  · exact key _ _ _ _ (pay9_at _ _ _) (hH inb_S512x1024_S512x1024_0_0) _ inb_S512x2560_S512x512_0_0 (fun q k b h => readAt_at arg3.view _ _ x2 (harg3.read_unread x2) q k b k h (Nat.zero_add _).symm)
      (fun q b h => readAt_at arg4.view _ _ x3 (harg4.read_unread x3) 0 q 0 b rfl h) x

theorem out4 : out0_A_4 c i arg1 harg1 arg2 harg2 arg3 harg3 arg4 harg4 arg6 harg6 arg7 harg7 x0 x1 x2 x3 = fun y => uBlk x0 x1 x2 x3 (y 0) (y 1) :=
  read_pieces (Val := Elt Ideal) VO0_4 VO0_4.junk _ (uBlk x0 x1 x2 x3) (u_pieces x0 x1 x2 x3 c i arg1 harg1 arg2 harg2 arg3 harg3 arg4 harg4 arg6 harg6 arg7 harg7)
    (cover0_A_4 c i arg1 harg1 arg2 harg2 arg3 harg3 arg4 harg4 arg6 harg6 arg7 harg7 x0 x1 x2 x3)

end Body

variable (m : (ℓ : Loc nD τ sig) → Buf (Elt Ideal) ℓ) (c : Dev nD)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)

theorem V_v0 : V m c main_v0 = shapeCast S1x1024 (m ((c : Thread nD τ).loc main_arg1)) shapeCasts_S1024_S1x1024 := by
  unfold V
  simp only [hostOps0, List.flatten_cons, List.flatten_nil, List.append_nil]
  after_results
  rfl

theorem V_v1 : V m c main_v1 = shapeCast S1x2560 (m ((c : Thread nD τ).loc main_arg3)) shapeCasts_S2560_S1x2560 := by
  unfold V
  simp only [hostOps0, List.flatten_cons, List.flatten_nil, List.append_nil]
  after_results
  rfl

/-- The arguments: a row of `x`, the gains, a row of the weights, the bias. -/
def xRow (a : Fin 4096) (k : Fin 1024) : EReal := (m ((c : Thread nD τ).loc main_arg0) : Vec Ideal S4096x1024 .f32) (ix2 a k)
def gain (k : Fin 1024) : EReal := (m ((c : Thread nD τ).loc main_arg1) : Vec Ideal S1024 .f32) (ix1 k)
def wRow (b : Fin 2560) (k : Fin 1024) : EReal := (m ((c : Thread nD τ).loc main_arg2) : Vec Ideal S2560x1024 .bf16) (ix2 b k)
def bias (b : Fin 2560) : EReal := (m ((c : Thread nD τ).loc main_arg3) : Vec Ideal S2560 .f32) (ix1 b)

theorem blk_x (t : Fin cfg0.N) (r : Fin 512) (a : Fin 4096) (h : a.val = t.val * 512 + r.val) (k : Fin 1024) : iblk m c 0 t (ix2 r k) = xRow m c a k := by
  unfold xRow
  blk_simp [iblk]
  rw [show V m c main_arg0 = _ from V_main_arg0 m c]
  congr 1
  blk_ext [idx_0]

theorem blk_g (t : Fin cfg0.N) (k : Fin 1024) : iblk m c 1 t (ix2 0 k) = gain m c k := by
  unfold gain
  blk_simp [iblk]
  rw [show V m c main_v0 = _ from V_v0 m c]
  pointwise
  refine congrArg (fun k => (m ((c : Thread nD τ).loc main_arg1) : Vec Ideal S1024 .f32) (ix1 k)) (Fin.ext ?_)
  blk_simp [idx_1]

theorem blk_w (t : Fin cfg0.N) (b : Fin 2560) (k : Fin 1024) : iblk m c 2 t (ix2 b k) = wRow m c b k := by
  unfold wRow
  blk_simp [iblk]
  rw [show V m c main_arg2 = _ from V_main_arg2 m c]
  congr 1
  blk_ext [idx_2]

theorem blk_b (t : Fin cfg0.N) (b : Fin 2560) : iblk m c 3 t (ix2 0 b) = bias m c b := by
  unfold bias
  blk_simp [iblk]
  rw [show V m c main_v1 = _ from V_v1 m c]
  pointwise
  refine congrArg (fun k => (m ((c : Thread nD τ).loc main_arg3) : Vec Ideal S2560 .f32) (ix1 k)) (Fin.ext ?_)
  blk_simp [idx_3]

/-- The two results. -/
def hOut : Vec Ideal S4096x1024 .bf16 := fun y => hRow (xRow m c (y 0)) (gain m c) (y 1)
def uOut : Vec Ideal S4096x2560 .bf16 := fun y => uRow (xRow m c (y 0)) (gain m c) (wRow m c (y 1)) + bias m c (y 1)

theorem final_h : (dats m 0 c).arrAt 5 cfg0.N = hOut m c := by
  refine (dats m 0 c).arrAt_eq_of_covers 5 _ (by decide +kernel) fun t hf y => ?_
  blk_simp
  rw [after0_5]
  unfold outsAt0
  dsimp only
  rw [out5]
  have ha : ((win0_5.blk t).view.emb y 0).val = t.val * 512 + (y 0).val := by blk_simp [idx_5]
  have hb : ((win0_5.blk t).view.emb y 1).val = 0 + (y 1).val := by blk_simp [idx_5]
  exact hRow_congr (fun k => blk_x m c t (y 0) _ ha k) (fun k => blk_g m c t k) hb

theorem final_u : (dats m 0 c).arrAt 4 cfg0.N = uOut m c := by
  refine (dats m 0 c).arrAt_eq_of_covers 4 _ (by decide +kernel) fun t hf y => ?_
  blk_simp
  rw [after0_4]
  unfold outsAt0
  dsimp only
  rw [out4]
  have ha : ((win0_4.blk t).view.emb y 0).val = t.val * 512 + (y 0).val := by blk_simp [idx_4]
  have hb : (win0_4.blk t).view.emb y 1 = y 1 := Fin.ext (by blk_simp [idx_4])
  refine .trans (congrArg₂ (· + ·) (uRow_congr (fun k => blk_x m c t (y 0) _ ha k) (fun k => blk_g m c t k) fun k => blk_w m c t (y 1) k)
    (blk_b m c t (y 1))) ?_
  exact congrArg (fun b => uRow (xRow m c ((win0_4.blk t).view.emb y 0)) (gain m c) (wRow m c b) + bias m c b) hb.symm

end Cert.InProjIdeal.Value
end
-- ==== Proof.InProjRefValue.lean ====
/- The reference of the mixer's forward projection: its two results by the same formulas. -/
module

public import proofs.«01_k».proof.Proof.Gen.InProjRefIdeal.Read
public import proofs.«01_k».proof.Proof.Proj

@[expose] public section

set_option maxRecDepth 16384

noncomputable section

open Idealize.ShloMosaic Idealize.ShloMosaic.TcCoe Idealize.SL.Sem

namespace Cert.InProjRefIdeal.Value

open Cert.InProjRefIdeal Cert.InProjRefIdeal.Gen Cert.InProjRefIdeal.Read Cert.Proj

variable (x : Vec Ideal S4096x1024 .f32) (g : Vec Ideal S1024 .f32) (w : Vec Ideal S2560x1024 .bf16) (b : Vec Ideal S2560 .f32)

theorem v12_at (i : Fin 4096) (j : Fin 1024) : val_main_v12 (F := Ideal) x g (ix2 i j) = hRow (fun k => x (ix2 i k)) (fun k => g (ix1 k)) j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem v20_at (i : Fin 4096) (j : Fin 1024) : val_main_v20 (F := Ideal) x g (ix2 i j) = hRow (fun k => x (ix2 i k)) (fun k => g (ix1 k)) j :=
  v12_at x g i j

theorem v19_at (i : Fin 4096) (n : Fin 2560) : val_main_v19 (F := Ideal) x g w b (ix2 i n)
    = uRow (fun k => x (ix2 i k)) (fun k => g (ix1 k)) (fun k => w (ix2 n k)) + b (ix1 n) := by
  pointwise [val_main_v19, val_main_v18, val_main_v17, val_main_v16, val_main_v15, val_main_v14, val_main_v13]
  simp only [v12_at]
  rfl

end Cert.InProjRefIdeal.Value
end
-- ==== Proof.InProjClaim.lean ====
/- The mixer's forward projection and its reference compute the same two results. -/
module

public import proofs.«01_k».proof.Defs
public import proofs.«01_k».proof.Proof.Gen.InProjRefIdeal.Run
public import proofs.«01_k».proof.Proof.InProjValue
public import proofs.«01_k».proof.Proof.InProjRefValue

@[expose] public section

set_option maxRecDepth 16384

noncomputable section

open Idealize.ShloMosaic Idealize.ShloMosaic.TcCoe Idealize.SL.Sem

namespace Cert.InProjIdeal.Value

open Cert.InProjIdeal Cert.InProjIdeal.Gen Cert.Proj

/-- The reference's frame: its arguments unchanged and no semaphore left counted. -/
theorem frame_reference : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem value : Cert.algebraic_InProjIdeal_InProjRefIdeal := fun m ρ m' ρ' _ hag =>
  ⟨uOut m, hOut m,
    (θ_run defs _ _).mono (fun _ h c => ⟨(h c).1.trans (final_u m c), (h c).2.1.trans (final_h m c), (h c).2.2⟩) (run_blocks m ρ),
    (θ_run Cert.InProjRefIdeal.defs _ _).mono (fun _ h c => by
      obtain ⟨hu, hh, hargs⟩ := h c
      obtain ⟨a0, a1, a2, a3, _⟩ := hag c
      refine ⟨hu.trans (.trans (Cert.InProjRefIdeal.Read.val_main_v19_eq _ _ _ _) (funext fun y => ?_)),
        hh.trans (.trans (Cert.InProjRefIdeal.Read.val_main_v20_eq _ _) (funext fun y => ?_)), hargs⟩
      · obtain ⟨i, n, rfl⟩ : ∃ (i : Fin 4096) (n : Fin 2560), y = ix2 i n := ⟨y 0, y 1, eq_ix2 y⟩
        refine (Cert.InProjRefIdeal.Value.v19_at _ _ _ _ i n).trans ?_
        rw [a0, a1, a2, a3]
        rfl
      · obtain ⟨i, j, rfl⟩ : ∃ (i : Fin 4096) (j : Fin 1024), y = ix2 i j := ⟨y 0, y 1, eq_ix2 y⟩
        refine (Cert.InProjRefIdeal.Value.v20_at _ _ i j).trans ?_
        rw [a0, a1]
        rfl)
      (Cert.InProjRefIdeal.Value.run (F := Ideal) m' ρ')⟩

end Cert.InProjIdeal.Value
end
-- ==== Proof.UpProjValue.lean ====
/- The gated layer's forward projection: its two results as formulas of the rows of `x`, the gains and the weights. -/
module

public import proofs.«01_k».proof.Proof.Gen.UpProjIdeal.Value
public import proofs.«01_k».proof.Proof.Proj

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.UpProjIdeal.Value

open Cert.UpProjIdeal Cert.UpProjIdeal.Gen Cert.Proj

section Body

variable (x0 : Vec Ideal S512x1024 .f32) (x1 : Vec Ideal S1x1024 .f32) (x2 : Vec Ideal S5632x1024 .bf16)

/-- A block's scaled rows, and their products with the weights. -/
def hBlk (a : Fin 512) (b : Fin 1024) : EReal := hRow (fun k => x0 (ix2 a k)) (fun k => x1 (ix2 0 k)) b
def uBlk (a : Fin 512) (b : Fin 5632) : EReal := uRow (fun k => x0 (ix2 a k)) (fun k => x1 (ix2 0 k)) (fun k => x2 (ix2 b k))

section Pay
variable (v : Vec Ideal S128x1024 .f32) (g : Vec Ideal S1x1024 .f32) (r : Fin 128) (j : Fin 1024)
theorem pay3_at : k0_pay3 v g (ix2 r j) = hRow (fun k => v (ix2 r k)) (fun k => g (ix2 0 k)) j := by pointwise [k0_pay3]; rfl
theorem pay4_at : k0_pay4 v g (ix2 r j) = hRow (fun k => v (ix2 r k)) (fun k => g (ix2 0 k)) j := by pointwise [k0_pay4]; rfl
theorem pay6_at : k0_pay6 v (k0_pay5 v) g (ix2 r j) = hRow (fun k => v (ix2 r k)) (fun k => g (ix2 0 k)) j := by pointwise [k0_pay6, k0_pay5]; rfl
theorem pay7_at : k0_pay7 v g (ix2 r j) = hRow (fun k => v (ix2 r k)) (fun k => g (ix2 0 k)) j := by pointwise [k0_pay7]; rfl
variable (h w : Vec Ideal S512x1024 .bf16) (p q : Fin 512)
theorem pay8_at : k0_pay8 h w (ix2 p q) = ∑ k, h (ix2 p k) * w (ix2 q k) := by pointwise [k0_pay8]
theorem pay9_at : k0_pay9 h w (ix2 p q) = ∑ k, h (ix2 p k) * w (ix2 q k) := by pointwise [k0_pay9]
theorem pay10_at : k0_pay10 h w (ix2 p q) = ∑ k, h (ix2 p k) * w (ix2 q k) := by pointwise [k0_pay10]
theorem pay11_at : k0_pay11 h w (ix2 p q) = ∑ k, h (ix2 p k) * w (ix2 q k) := by pointwise [k0_pay11]
theorem pay12_at : k0_pay12 h w (ix2 p q) = ∑ k, h (ix2 p k) * w (ix2 q k) := by pointwise [k0_pay12]
theorem pay13_at : k0_pay13 h w (ix2 p q) = ∑ k, h (ix2 p k) * w (ix2 q k) := by pointwise [k0_pay13]
theorem pay14_at : k0_pay14 h w (ix2 p q) = ∑ k, h (ix2 p k) * w (ix2 q k) := by pointwise [k0_pay14]
theorem pay15_at : k0_pay15 h w (ix2 p q) = ∑ k, h (ix2 p k) * w (ix2 q k) := by pointwise [k0_pay15]
theorem pay16_at : k0_pay16 h w (ix2 p q) = ∑ k, h (ix2 p k) * w (ix2 q k) := by pointwise [k0_pay16]
theorem pay1_at : k0_pay1 (k0_pay17 h) w (ix2 p q) = ∑ k, h (ix2 p k) * w (ix2 q k) := by pointwise [k0_pay1, k0_pay17]
theorem pay2_at : k0_pay2 h w (ix2 p q) = ∑ k, h (ix2 p k) * w (ix2 q k) := by pointwise [k0_pay2]
end Pay

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S5632x1024 .bf16) (harg3 : arg3.IsWhole)
  (arg5 : Memref sig .tc .vmem S512x5632 .bf16) (harg5 : arg5.IsWhole) (arg6 : Memref sig .tc .vmem S512x1024 .bf16) (harg6 : arg6.IsWhole)

/-- Each block of rows stored is a part of the scaled rows. -/
theorem h_pieces : ∀ q ∈ (kernelRun0_A (F := Ideal) c i arg1 harg1 arg2 harg2 arg3 harg3 arg5 harg5 arg6 harg6 x0 x1 x2).2.1, ∀ x, q.2 x = hBlk x0 x1 (q.1.emb x 0) (q.1.emb x 1) := by
  unfold kernelRun0_A
  dsimp only
  sl_unfold_run_names
  have key (pay : Vec Ideal S128x1024 .bf16) (v : Vec Ideal S128x1024 .f32) (g : Vec Ideal S1x1024 .f32)
      (hp : ∀ r j, pay (ix2 r j) = hRow (fun k => v (ix2 r k)) (fun k => g (ix2 0 k)) j) (o : ℕ)
      (inb : ∀ a, (![o, 0] : Fin 2 → Nat) a + (![128, 1024] : Fin 2 → Nat) a ≤ S512x1024.size a)
      (hv : ∀ (r : Fin 128) (k : Fin 1024) (a : Fin 512), a.val = o + r.val → v (ix2 r k) = x0 (ix2 a k)) (hg : ∀ k : Fin 1024, g (ix2 0 k) = x1 (ix2 0 k))
      (x : (Rect.unit (s := S512x1024) ![o, 0] ![128, 1024] inb).shape.Idx) :
      pay x = hBlk x0 x1 ((Rect.unit (s := S512x1024) ![o, 0] ![128, 1024] inb).emb x 0) ((Rect.unit (s := S512x1024) ![o, 0] ![128, 1024] inb).emb x 1) :=
    piece_at inb pay (hBlk x0 x1) (fun r j a b ha hb => (hp r j).trans (hRow_congr (fun k => hv r k a ha) hg hb)) x
  have hg (k : Fin 1024) := readAt_at arg2.view _ inb_S1x1024_S1x1024_0_0 x1 (harg2.read_unread x1) 0 k 0 k rfl (Nat.zero_add _).symm
  refine List.forall_mem_cons.mpr ⟨fun x => ?_, List.forall_mem_cons.mpr ⟨fun x => ?_, List.forall_mem_cons.mpr ⟨fun x => ?_,
    List.forall_mem_cons.mpr ⟨fun x => ?_, fun _ hq => absurd hq List.not_mem_nil⟩⟩⟩⟩
  · exact key _ _ _ (pay7_at _ _) _ inb_S512x1024_S128x1024_384_0
      (fun r k a h => readAt_at arg1.view _ _ x0 (harg1.read_unread x0) r k a k h (Nat.zero_add _).symm) hg x
  · exact key _ _ _ (pay6_at _ _) _ inb_S512x1024_S128x1024_256_0
      (fun r k a h => readAt_at arg1.view _ _ x0 (harg1.read_unread x0) r k a k h (Nat.zero_add _).symm) hg x
  · exact key _ _ _ (pay4_at _ _) _ inb_S512x1024_S128x1024_128_0
      (fun r k a h => readAt_at arg1.view _ _ x0 (harg1.read_unread x0) r k a k h (Nat.zero_add _).symm) hg x
  · exact key _ _ _ (pay3_at _ _) _ inb_S512x1024_S128x1024_0_0
      (fun r k a h => readAt_at arg1.view _ _ x0 (harg1.read_unread x0) r k a k h (Nat.zero_add _).symm) hg x

theorem outH : out0_A_4 c i arg1 harg1 arg2 harg2 arg3 harg3 arg5 harg5 arg6 harg6 x0 x1 x2 = fun y => hBlk x0 x1 (y 0) (y 1) :=
  read_pieces (Val := Elt Ideal) VO0_4 VO0_4.junk _ (hBlk x0 x1) (h_pieces x0 x1 x2 c i arg1 harg1 arg2 harg2 arg3 harg3 arg5 harg5 arg6 harg6)
    (cover0_A_4 c i arg1 harg1 arg2 harg2 arg3 harg3 arg5 harg5 arg6 harg6 x0 x1 x2)

/-- Each block of columns stored is a part of the products. -/
theorem u_pieces : ∀ q ∈ (kernelRun0_A (F := Ideal) c i arg1 harg1 arg2 harg2 arg3 harg3 arg5 harg5 arg6 harg6 x0 x1 x2).1, ∀ x, q.2 x = uBlk x0 x1 x2 (q.1.emb x 0) (q.1.emb x 1) := by
  have hH := readCov_pieces arg6.view _ (hBlk x0 x1) (h_pieces x0 x1 x2 c i arg1 harg1 arg2 harg2 arg3 harg3 arg5 harg5 arg6 harg6)
    (cover0_A_4 c i arg1 harg1 arg2 harg2 arg3 harg3 arg5 harg5 arg6 harg6 x0 x1 x2)
  have key (pay : Vec Ideal S512x512 .bf16) (h w : Vec Ideal S512x1024 .bf16)
      (hp : ∀ p q, pay (ix2 p q) = ∑ k, h (ix2 p k) * w (ix2 q k)) (hh : h = fun y => hBlk x0 x1 (y 0) (y 1)) (o : ℕ)
      (inb : ∀ a, (![0, o] : Fin 2 → Nat) a + (![512, 512] : Fin 2 → Nat) a ≤ S512x5632.size a)
      (hw : ∀ (q : Fin 512) (k : Fin 1024) (b : Fin 5632), b.val = o + q.val → w (ix2 q k) = x2 (ix2 b k))
      (x : (Rect.unit (s := S512x5632) ![0, o] ![512, 512] inb).shape.Idx) :
      pay x = uBlk x0 x1 x2 ((Rect.unit (s := S512x5632) ![0, o] ![512, 512] inb).emb x 0) ((Rect.unit (s := S512x5632) ![0, o] ![512, 512] inb).emb x 1) := by
    refine piece_at inb pay (uBlk x0 x1 x2) (fun p q a b' ha hb' => ?_) x
    obtain rfl : a = p := Fin.ext (ha.trans (Nat.zero_add _))
    subst hh
    exact (hp a q).trans (Finset.sum_congr rfl fun k _ => congrArg₂ (· * ·) rfl (hw q k b' hb'))
  revert hH
  unfold kernelRun0_A
  dsimp only
  sl_unfold_run_names
  intro hH
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ hq => absurd hq List.not_mem_nil⟩⟩⟩⟩⟩⟩⟩⟩⟩⟩⟩
  · exact key _ _ _ (pay2_at _ _) (hH inb_S512x1024_S512x1024_0_0) _ inb_S512x5632_S512x512_0_5120
      (fun q k b h => readAt_at arg3.view _ _ x2 (harg3.read_unread x2) q k b k h (Nat.zero_add _).symm) x
  · exact key _ _ _ (pay1_at _ _) (hH inb_S512x1024_S512x1024_0_0) _ inb_S512x5632_S512x512_0_4608
      (fun q k b h => readAt_at arg3.view _ _ x2 (harg3.read_unread x2) q k b k h (Nat.zero_add _).symm) x
  · exact key _ _ _ (pay16_at _ _) (hH inb_S512x1024_S512x1024_0_0) _ inb_S512x5632_S512x512_0_4096
      (fun q k b h => readAt_at arg3.view _ _ x2 (harg3.read_unread x2) q k b k h (Nat.zero_add _).symm) x
  · exact key _ _ _ (pay15_at _ _) (hH inb_S512x1024_S512x1024_0_0) _ inb_S512x5632_S512x512_0_3584
      (fun q k b h => readAt_at arg3.view _ _ x2 (harg3.read_unread x2) q k b k h (Nat.zero_add _).symm) x
  · exact key _ _ _ (pay14_at _ _) (hH inb_S512x1024_S512x1024_0_0) _ inb_S512x5632_S512x512_0_3072
      (fun q k b h => readAt_at arg3.view _ _ x2 (harg3.read_unread x2) q k b k h (Nat.zero_add _).symm) x
  · exact key _ _ _ (pay13_at _ _) (hH inb_S512x1024_S512x1024_0_0) _ inb_S512x5632_S512x512_0_2560
      (fun q k b h => readAt_at arg3.view _ _ x2 (harg3.read_unread x2) q k b k h (Nat.zero_add _).symm) x
  · exact key _ _ _ (pay12_at _ _) (hH inb_S512x1024_S512x1024_0_0) _ inb_S512x5632_S512x512_0_2048
      (fun q k b h => readAt_at arg3.view _ _ x2 (harg3.read_unread x2) q k b k h (Nat.zero_add _).symm) x
  · exact key _ _ _ (pay11_at _ _) (hH inb_S512x1024_S512x1024_0_0) _ inb_S512x5632_S512x512_0_1536
      (fun q k b h => readAt_at arg3.view _ _ x2 (harg3.read_unread x2) q k b k h (Nat.zero_add _).symm) x
  · exact key _ _ _ (pay10_at _ _) (hH inb_S512x1024_S512x1024_0_0) _ inb_S512x5632_S512x512_0_1024
      (fun q k b h => readAt_at arg3.view _ _ x2 (harg3.read_unread x2) q k b k h (Nat.zero_add _).symm) x
  · exact key _ _ _ (pay9_at _ _) (hH inb_S512x1024_S512x1024_0_0) _ inb_S512x5632_S512x512_0_512
      (fun q k b h => readAt_at arg3.view _ _ x2 (harg3.read_unread x2) q k b k h (Nat.zero_add _).symm) x
  · exact key _ _ _ (pay8_at _ _) (hH inb_S512x1024_S512x1024_0_0) _ inb_S512x5632_S512x512_0_0
      (fun q k b h => readAt_at arg3.view _ _ x2 (harg3.read_unread x2) q k b k h (Nat.zero_add _).symm) x

theorem outU : out0_A_3 c i arg1 harg1 arg2 harg2 arg3 harg3 arg5 harg5 arg6 harg6 x0 x1 x2 = fun y => uBlk x0 x1 x2 (y 0) (y 1) :=
  read_pieces (Val := Elt Ideal) VO0_3 VO0_3.junk _ (uBlk x0 x1 x2) (u_pieces x0 x1 x2 c i arg1 harg1 arg2 harg2 arg3 harg3 arg5 harg5 arg6 harg6)
    (cover0_A_3 c i arg1 harg1 arg2 harg2 arg3 harg3 arg5 harg5 arg6 harg6 x0 x1 x2)

end Body

variable (m : (ℓ : Loc nD τ sig) → Buf (Elt Ideal) ℓ) (c : Dev nD)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)

theorem V_v0 : V m c main_v0 = shapeCast S1x1024 (m ((c : Thread nD τ).loc main_arg1)) shapeCasts_S1024_S1x1024 := by
  unfold V
  simp only [hostOps0, List.flatten_cons, List.flatten_nil, List.append_nil]
  after_results
  rfl

/-- The arguments: a row of `x`, the gains, a row of the weights. -/
def xRow (a : Fin 4096) (k : Fin 1024) : EReal := (m ((c : Thread nD τ).loc main_arg0) : Vec Ideal S4096x1024 .f32) (ix2 a k)
def gain (k : Fin 1024) : EReal := (m ((c : Thread nD τ).loc main_arg1) : Vec Ideal S1024 .f32) (ix1 k)
def wRow (b : Fin 5632) (k : Fin 1024) : EReal := (m ((c : Thread nD τ).loc main_arg2) : Vec Ideal S5632x1024 .bf16) (ix2 b k)

theorem blk_x (t : Fin cfg0.N) (r : Fin 512) (a : Fin 4096) (h : a.val = t.val * 512 + r.val) (k : Fin 1024) : iblk m c 0 t (ix2 r k) = xRow m c a k := by
  unfold xRow
  blk_simp [iblk]
  rw [show V m c main_arg0 = _ from V_main_arg0 m c]
  congr 1
  blk_ext [idx_0]

theorem blk_g (t : Fin cfg0.N) (k : Fin 1024) : iblk m c 1 t (ix2 0 k) = gain m c k := by
  unfold gain
  blk_simp [iblk]
  rw [show V m c main_v0 = _ from V_v0 m c]
  pointwise
  refine congrArg (fun k => (m ((c : Thread nD τ).loc main_arg1) : Vec Ideal S1024 .f32) (ix1 k)) (Fin.ext ?_)
  blk_simp [idx_1]

theorem blk_w (t : Fin cfg0.N) (b : Fin 5632) (k : Fin 1024) : iblk m c 2 t (ix2 b k) = wRow m c b k := by
  unfold wRow
  blk_simp [iblk]
  rw [show V m c main_arg2 = _ from V_main_arg2 m c]
  congr 1
  blk_ext [idx_2]

/-- The two results. -/
def hOut : Vec Ideal S4096x1024 .bf16 := fun y => hRow (xRow m c (y 0)) (gain m c) (y 1)
def uOut : Vec Ideal S4096x5632 .bf16 := fun y => uRow (xRow m c (y 0)) (gain m c) (wRow m c (y 1))

theorem final_h : (dats m 0 c).arrAt 4 cfg0.N = hOut m c := by
  refine (dats m 0 c).arrAt_eq_of_covers 4 _ (by decide +kernel) fun t hf y => ?_
  blk_simp
  rw [after0_4]
  unfold outsAt0
  dsimp only
  rw [outH]
  have ha : ((win0_4.blk t).view.emb y 0).val = t.val * 512 + (y 0).val := by blk_simp [idx_4]
  have hb : ((win0_4.blk t).view.emb y 1).val = 0 + (y 1).val := by blk_simp [idx_4]
  exact hRow_congr (fun k => blk_x m c t (y 0) _ ha k) (fun k => blk_g m c t k) hb

theorem final_u : (dats m 0 c).arrAt 3 cfg0.N = uOut m c := by
  refine (dats m 0 c).arrAt_eq_of_covers 3 _ (by decide +kernel) fun t hf y => ?_
  blk_simp
  rw [after0_3]
  unfold outsAt0
  dsimp only
  rw [outU]
  have ha : ((win0_3.blk t).view.emb y 0).val = t.val * 512 + (y 0).val := by blk_simp [idx_3]
  have hb : (win0_3.blk t).view.emb y 1 = y 1 := Fin.ext (by blk_simp [idx_3])
  refine .trans (uRow_congr (fun k => blk_x m c t (y 0) _ ha k) (fun k => blk_g m c t k) fun k => blk_w m c t (y 1) k) ?_
  exact congrArg (fun b => uRow (xRow m c ((win0_3.blk t).view.emb y 0)) (gain m c) (wRow m c b)) hb.symm

end Cert.UpProjIdeal.Value
end
-- ==== Proof.UpProjRefValue.lean ====
/- The reference of the gated layer's forward projection: its two results by the same formulas. -/
module

public import proofs.«01_k».proof.Proof.Gen.UpProjRefIdeal.Read
public import proofs.«01_k».proof.Proof.Proj

@[expose] public section

set_option maxRecDepth 16384

noncomputable section

open Idealize.ShloMosaic Idealize.ShloMosaic.TcCoe Idealize.SL.Sem

namespace Cert.UpProjRefIdeal.Value

open Cert.UpProjRefIdeal Cert.UpProjRefIdeal.Gen Cert.UpProjRefIdeal.Read Cert.Proj

variable (x : Vec Ideal S4096x1024 .f32) (g : Vec Ideal S1024 .f32) (w : Vec Ideal S5632x1024 .bf16)

theorem v12_at (i : Fin 4096) (j : Fin 1024) : val_main_v12 (F := Ideal) x g (ix2 i j) = hRow (fun k => x (ix2 i k)) (fun k => g (ix1 k)) j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem v17_at (i : Fin 4096) (j : Fin 1024) : val_main_v17 (F := Ideal) x g (ix2 i j) = hRow (fun k => x (ix2 i k)) (fun k => g (ix1 k)) j :=
  v12_at x g i j

theorem v16_at (i : Fin 4096) (n : Fin 5632) : val_main_v16 (F := Ideal) x g w (ix2 i n)
    = uRow (fun k => x (ix2 i k)) (fun k => g (ix1 k)) (fun k => w (ix2 n k)) := by
  pointwise [val_main_v16, val_main_v15, val_main_v14, val_main_v13]
  simp only [v12_at]
  rfl

end Cert.UpProjRefIdeal.Value
end
-- ==== Proof.UpProjClaim.lean ====
/- The gated layer's forward projection and its reference compute the same two results. -/
module

public import proofs.«01_k».proof.Defs
public import proofs.«01_k».proof.Proof.Gen.UpProjRefIdeal.Run
public import proofs.«01_k».proof.Proof.UpProjValue
public import proofs.«01_k».proof.Proof.UpProjRefValue

@[expose] public section

set_option maxRecDepth 16384

noncomputable section

open Idealize.ShloMosaic Idealize.ShloMosaic.TcCoe Idealize.SL.Sem

namespace Cert.UpProjIdeal.Value

open Cert.UpProjIdeal Cert.UpProjIdeal.Gen Cert.Proj

/-- The reference's frame: its arguments unchanged and no semaphore left counted. -/
theorem frame_reference : Cert.quiescent_UpProjRefIdeal := fun m ρ _ =>
  (θ_run Cert.UpProjRefIdeal.defs _ _).mono (fun r h => ⟨fun c => (h c).2.2, sem_eq_zero_of_no_sems (by decide) r.2⟩)
    (Cert.UpProjRefIdeal.Value.run (F := Ideal) m ρ)

theorem value : Cert.algebraic_UpProjIdeal_UpProjRefIdeal := fun m ρ m' ρ' _ hag =>
  ⟨uOut m, hOut m,
    (θ_run defs _ _).mono (fun _ h c => ⟨(h c).1.trans (final_u m c), (h c).2.1.trans (final_h m c), (h c).2.2⟩) (run_blocks m ρ),
    (θ_run Cert.UpProjRefIdeal.defs _ _).mono (fun _ h c => by
      obtain ⟨hu, hh, hargs⟩ := h c
      obtain ⟨a0, a1, a2, _⟩ := hag c
      refine ⟨hu.trans (.trans (Cert.UpProjRefIdeal.Read.val_main_v16_eq _ _ _) (funext fun y => ?_)),
        hh.trans (.trans (Cert.UpProjRefIdeal.Read.val_main_v17_eq _ _) (funext fun y => ?_)), hargs⟩
      · obtain ⟨i, n, rfl⟩ : ∃ (i : Fin 4096) (n : Fin 5632), y = ix2 i n := ⟨y 0, y 1, eq_ix2 y⟩
        refine (Cert.UpProjRefIdeal.Value.v16_at _ _ _ i n).trans ?_
        rw [a0, a1, a2]
        rfl
      · obtain ⟨i, j, rfl⟩ : ∃ (i : Fin 4096) (j : Fin 1024), y = ix2 i j := ⟨y 0, y 1, eq_ix2 y⟩
        refine (Cert.UpProjRefIdeal.Value.v17_at _ _ i j).trans ?_
        rw [a0, a1]
        rfl)
      (Cert.UpProjRefIdeal.Value.run (F := Ideal) m' ρ')⟩

end Cert.UpProjIdeal.Value
end
-- ==== Proof.DwUpValue.lean ====
/- The gradient of `w_up`: a block of the result is the sum of its products with the two halves of the sequence. -/
module

public import proofs.«01_k».proof.Proof.Gen.DwUpIdeal.Value
public import proofs.«01_k».proof.Proof.Proj

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.DwUpIdeal.Value

open Cert.DwUpIdeal Cert.DwUpIdeal.Gen Cert.Proj

section Body

variable (x0 : Vec Ideal S1x2048x1408 .bf16) (x1 : Vec Ideal S2048x1024 .bf16)

/-- A half's products. -/
def half (a : Fin 1408) (b : Fin 1024) : EReal := ∑ k : Fin 2048, x0 (ix3 0 k a) * x1 (ix2 k b)

theorem pay1_at (a : Fin 1408) (b : Fin 1024) : k0_pay1 x0 x1 (ix2 a b) = half x0 x1 a b := by
  pointwise [k0_pay1]; rfl

theorem pay2_at (s : Vec Ideal S1408x1024 .f32) (a : Fin 1408) (b : Fin 1024) : k0_pay2 s x0 x1 (ix2 a b) = s (ix2 a b) + half x0 x1 a b := by
  pointwise [k0_pay2]; rfl

variable (c : Dev nD) (i : grid0.Coords) (arg3 : Memref sig .tc .vmem S1x2048x1408 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)

theorem load3 (inb : ∀ a, (![0, 0, 0] : Fin 3 → Nat) a + S1x2048x1408.size a ≤ S1x2048x1408.size a) :
    View.readAt (Elt Ideal) arg3.view (Rect.unit (s := S1x2048x1408) ![0, 0, 0] S1x2048x1408.size inb).toLoadRect (harg3.unread x0) = x0 := by
  rw [View.readAt_eq_ld, harg3.read_unread]
  funext y
  refine congrArg x0 ?_
  funext q; apply Fin.ext
  fin_cases q
  · show 0 + 1 * (y 0).val = (y 0).val; omega
  · show 0 + 1 * (y 1).val = (y 1).val; omega
  · show 0 + 1 * (y 2).val = (y 2).val; omega

/-- The first half's products are what the scratch holds after the first point of a pair. -/
theorem scratch (hc0) (hc1) : sout0_A_0 c i arg3 harg3 arg4 harg4 arg5 harg5 arg6 harg6 hc0 hc1 x0 x1 = fun y => half x0 x1 (y 0) (y 1) := by
  refine read_pieces (Val := Elt Ideal) VS0_0 VS0_0.junk _ (half x0 x1) ?_ (scover0_A_0 c i arg3 harg3 arg4 harg4 arg5 harg5 arg6 harg6 hc0 hc1 x0 x1)
  unfold kernelRun0_A
  dsimp only
  sl_unfold_run_names
  refine List.forall_mem_cons.mpr ⟨fun x => ?_, fun _ hq => absurd hq List.not_mem_nil⟩
  refine piece_at inb_S1408x1024_S1408x1024_0_0 _ (half x0 x1) (fun r j a b ha hb => ?_) x
  obtain rfl : a = r := Fin.ext (ha.trans (Nat.zero_add _))
  obtain rfl : b = j := Fin.ext (hb.trans (Nat.zero_add _))
  refine (pay1_at _ _ a b).trans (Finset.sum_congr rfl fun k _ => congrArg₂ (· * ·) ?_ ?_)
  · exact congrFun (load3 x0 arg3 harg3 inb_S1x2048x1408_S1x2048x1408_0_0_0) _
  · exact readAt_at arg4.view _ _ x1 (harg4.read_unread x1) k b k b (Nat.zero_add _).symm (Nat.zero_add _).symm

/-- A block of the result: what the scratch held, and the second half's products. -/
theorem out2 (s : Vec Ideal S1408x1024 .f32) (hc0) (hc1) : out0_B_2 c i arg3 harg3 arg4 harg4 arg5 harg5 arg6 harg6 hc0 hc1 x0 x1 s
    = fun y => s (ix2 (y 0) (y 1)) + half x0 x1 (y 0) (y 1) := by
  refine read_pieces (Val := Elt Ideal) VO0_2 VO0_2.junk _ (fun a b => s (ix2 a b) + half x0 x1 a b) ?_ (cover0_B_2 c i arg3 harg3 arg4 harg4 arg5 harg5 arg6 harg6 hc0 hc1 x0 x1 s)
  unfold kernelRun0_B
  dsimp only
  sl_unfold_run_names
  refine List.forall_mem_cons.mpr ⟨fun x => ?_, fun _ hq => absurd hq List.not_mem_nil⟩
  refine piece_at inb_S1408x1024_S1408x1024_0_0 _ (fun a b => s (ix2 a b) + half x0 x1 a b) (fun r j a b ha hb => ?_) x
  obtain rfl : a = r := Fin.ext (ha.trans (Nat.zero_add _))
  obtain rfl : b = j := Fin.ext (hb.trans (Nat.zero_add _))
  refine (pay2_at _ _ _ a b).trans (congrArg₂ (· + ·) ?_ (Finset.sum_congr rfl fun k _ => congrArg₂ (· * ·) ?_ ?_))
  · exact readAt_at arg6.view _ _ s (harg6.read_unread s) a b a b (Nat.zero_add _).symm (Nat.zero_add _).symm
  · exact congrFun (load3 x0 arg3 harg3 inb_S1x2048x1408_S1x2048x1408_0_0_0) _
  · exact readAt_at arg4.view _ _ x1 (harg4.read_unread x1) k b k b (Nat.zero_add _).symm (Nat.zero_add _).symm

end Body

variable (m : (ℓ : Loc nD τ sig) → Buf (Elt Ideal) ℓ) (c : Dev nD)

theorem idx_0 : ∀ t : Fin cfg0.N, win0_0.index t = ![t.val / 4, t.val % 2, t.val / 2 % 2] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, 0] := (by decide +kernel : ∀ t : Fin grid0.N, _)

/-- The arguments at one place. -/
def aAt (p : Fin 2) (k : Fin 4096) (r : Fin 2816) : EReal := (m ((c : Thread nD τ).loc main_arg0) : Vec Ideal S2x4096x2816 .bf16) (ix3 p k r)
def bAt (k : Fin 4096) (b : Fin 1024) : EReal := (m ((c : Thread nD τ).loc main_arg1) : Vec Ideal S4096x1024 .bf16) (ix2 k b)

theorem blk_a (t : Fin cfg0.N) (k : Fin 2048) (a : Fin 1408) (p : Fin 2) (k' : Fin 4096) (r : Fin 2816) (hp : p.val = t.val / 4)
    (hk : k'.val = t.val % 2 * 2048 + k.val) (hr : r.val = t.val / 2 % 2 * 1408 + a.val) : iblk m c 0 t (ix3 0 k a) = aAt m c p k' r := by
  unfold aAt
  blk_simp [iblk]
  rw [show V m c main_arg0 = _ from V_main_arg0 m c]
  congr 1
  blk_ext [idx_0]

theorem blk_b (t : Fin cfg0.N) (k : Fin 2048) (b : Fin 1024) (k' : Fin 4096) (hk : k'.val = t.val % 2 * 2048 + k.val) :
    iblk m c 1 t (ix2 k b) = bAt m c k' b := by
  unfold bAt
  blk_simp [iblk]
  rw [show V m c main_arg1 = _ from V_main_arg1 m c]
  congr 1
  blk_ext [idx_1]

/-- The result: a row of it belongs to a column of one of the planes. -/
def col (i : Fin 5632) (b : Fin 1024) : EReal := ∑ k, aAt m c ⟨i.val / 2816, by omega⟩ k ⟨i.val % 2816, Nat.mod_lt _ (by omega)⟩ * bAt m c k b
def wOut : Vec Ideal S5632x1024 .bf16 := fun y => col m c (y 0) (y 1)

/-- A sum over the sequence is the sum of its two halves. -/
theorem two_halves (f : Fin 4096 → EReal) : ∑ k, f k = (∑ k : Fin 2048, f ⟨k.val, by omega⟩) + ∑ k : Fin 2048, f ⟨2048 + k.val, by omega⟩ :=
  Fin.sum_univ_add (a := 2048) (b := 2048) f

theorem half_at (t : Fin cfg0.N) (a : Fin 1408) (b : Fin 1024) (p : Fin 2) (r : Fin 2816) (hp : p.val = t.val / 4)
    (hr : r.val = t.val / 2 % 2 * 1408 + a.val) (o : Fin 2048 → Fin 4096) (ho : ∀ k, (o k).val = t.val % 2 * 2048 + k.val) :
    half (iblk m c 0 t) (iblk m c 1 t) a b = ∑ k, aAt m c p (o k) r * bAt m c (o k) b :=
  Finset.sum_congr rfl fun k _ => congrArg₂ (· * ·) (blk_a m c t k a p (o k) r hp (ho k) hr) (blk_b m c t k b (o k) (ho k))

theorem col_at (t u : Fin cfg0.N) (hodd : t.val % 2 = 1) (hu : u.val + 1 = t.val) (a : Fin 1408) (b : Fin 1024) (i : Fin 5632) (hi : i.val = t.val / 2 * 1408 + a.val) :
    half (iblk m c 0 u) (iblk m c 1 u) a b + half (iblk m c 0 t) (iblk m c 1 t) a b = col m c i b := by
  have h8 : t.val < 8 := lt_of_lt_of_eq t.isLt (show cfg0.N = 8 from N_0)
  refine .trans (congrArg₂ (· + ·) ?_ ?_) (two_halves _).symm
  · exact half_at m c u a b _ _ (by dsimp only; omega) (by dsimp only; omega) (fun k => ⟨k.val, by omega⟩) (fun k => by dsimp only; omega)
  · exact half_at m c t a b _ _ (by dsimp only; omega) (by dsimp only; omega) (fun k => ⟨2048 + k.val, by omega⟩) (fun k => by dsimp only; omega)

theorem final : (dats m 0 c).arrAt 2 cfg0.N = wOut m c := by
  refine (dats m 0 c).arrAt_eq_of_covers 2 _ (by decide +kernel) fun t hf y => ?_
  have hodd : t.val % 2 = 1 := (by decide +kernel : ∀ t : Fin grid0.N, win0_2.flush t = true → t.val % 2 = 1) t hf
  have h8 : t.val < 8 := lt_of_lt_of_eq t.isLt (show cfg0.N = 8 from N_0)
  blk_simp
  rw [after0_2, outsAt0_B m c t (by omega) hodd]
  dsimp only
  rw [out2]
  have hs := outsAt0_A m c ⟨t.val - 1, Nat.lt_of_le_of_lt (Nat.sub_le _ _) t.isLt⟩ (by dsimp only; omega) (by dsimp only; omega)
  dsimp only at hs
  rw [hs]
  dsimp only
  rw [scratch]
  have ha : ((win0_2.blk t).view.emb y 0).val = t.val / 2 * 1408 + (y 0).val := by blk_simp [idx_2]
  have hb : (win0_2.blk t).view.emb y 1 = y 1 := Fin.ext (by blk_simp [idx_2])
  refine (col_at m c t ⟨t.val - 1, _⟩ hodd (by dsimp only; omega) (y 0) (y 1) _ ha).trans ?_
  exact congrArg (col m c _) hb.symm

end Cert.DwUpIdeal.Value
end
-- ==== Proof.DwUpRefValue.lean ====
/- The reference of the gradient of `w_up`, at one place. -/
module

public import proofs.«01_k».proof.Proof.Gen.DwUpRefIdeal.Read
public import proofs.«01_k».proof.Proof.Proj

@[expose] public section

set_option maxRecDepth 16384

noncomputable section

open Idealize.ShloMosaic Idealize.ShloMosaic.TcCoe Idealize.SL.Sem

namespace Cert.DwUpRefIdeal.Value

open Cert.DwUpRefIdeal Cert.DwUpRefIdeal.Gen Cert.DwUpRefIdeal.Read

variable (a : Vec Ideal S2x4096x2816 .bf16) (b : Vec Ideal S4096x1024 .bf16)

/-- The planes side by side, at one place. -/
theorem v7_at (k : Fin 4096) (i : Fin 5632) : val_main_v7 (F := Ideal) a (ix2 k i) = a (ix3 ⟨i.val / 2816, by omega⟩ k ⟨i.val % 2816, Nat.mod_lt _ (by omega)⟩) := by
  by_cases h : i.val < 2816
  · refine (concatenate_pair_apply_left 1 (val_main_v4 (F := Ideal) a) (val_main_v6 (F := Ideal) a) concatenates_S4096x2816_S4096x2816_S4096x5632_d1
      (ix2 k i) rfl (ix2 k ⟨i.val, h⟩) (fun b => match b with
      | ⟨0, _⟩ => rfl
      | ⟨1, _⟩ => rfl)).trans ?_
    pointwise [val_main_v4, val_main_v3]
    exact congrArg₂ (fun p r => a (ix3 p k r)) (Fin.ext (show 0 = i.val / 2816 by omega)) (Fin.ext (show i.val = i.val % 2816 by omega))
  · refine (concatenate_pair_apply_right 1 (val_main_v4 (F := Ideal) a) (val_main_v6 (F := Ideal) a) concatenates_S4096x2816_S4096x2816_S4096x5632_d1
      (ix2 k i) rfl rfl (ix2 k ⟨i.val - 2816, by omega⟩) (fun b hb => match b, hb with
      | ⟨0, _⟩, _ => rfl
      | ⟨1, _⟩, hb => absurd rfl hb) (show i.val - 2816 + 2816 = i.val by omega)).trans ?_
    pointwise [val_main_v6, val_main_v5]
    exact congrArg₂ (fun p r => a (ix3 p k r)) (Fin.ext (show 1 = i.val / 2816 by omega)) (Fin.ext (show i.val - 2816 = i.val % 2816 by omega))

theorem v12_at (i : Fin 5632) (j : Fin 1024) : val_main_v12 (F := Ideal) a b (ix2 i j)
    = ∑ k, a (ix3 ⟨i.val / 2816, by omega⟩ k ⟨i.val % 2816, Nat.mod_lt _ (by omega)⟩) * b (ix2 k j) := by
  pointwise [val_main_v12, val_main_v11, val_main_v10, val_main_v9, val_main_v8, val_main_v1]
  simp only [v7_at]

end Cert.DwUpRefIdeal.Value
end
-- ==== Proof.DwUpClaim.lean ====
/- The gradient of `w_up` and its reference are the same. -/
module

public import proofs.«01_k».proof.Defs
public import proofs.«01_k».proof.Proof.Gen.DwUpRefIdeal.Run
public import proofs.«01_k».proof.Proof.DwUpValue
public import proofs.«01_k».proof.Proof.DwUpRefValue

@[expose] public section

set_option maxRecDepth 16384

noncomputable section

open Idealize.ShloMosaic Idealize.ShloMosaic.TcCoe Idealize.SL.Sem

namespace Cert.DwUpIdeal.Value

open Cert.DwUpIdeal Cert.DwUpIdeal.Gen

/-- The reference's frame: its arguments unchanged and no semaphore left counted. -/
theorem frame_reference : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

theorem value : Cert.algebraic_DwUpIdeal_DwUpRefIdeal := fun m ρ m' ρ' _ hag =>
  ⟨wOut m,
    (θ_run defs _ _).mono (fun _ h c => ⟨(h c).1.trans (final m c), (h c).2⟩) (run_blocks m ρ),
    (θ_run Cert.DwUpRefIdeal.defs _ _).mono (fun _ h c => by
      obtain ⟨hw, hargs⟩ := h c
      obtain ⟨a0, a1⟩ := hag c
      refine ⟨hw.trans (.trans (Cert.DwUpRefIdeal.Read.val_main_v12_eq _ _) (funext fun y => ?_)), hargs⟩
      obtain ⟨i, j, rfl⟩ : ∃ (i : Fin 5632) (j : Fin 1024), y = ix2 i j := ⟨y 0, y 1, eq_ix2 y⟩
      refine (Cert.DwUpRefIdeal.Value.v12_at _ _ i j).trans ?_
      rw [a0, a1]
      rfl)
      (Cert.DwUpRefIdeal.Value.run (F := Ideal) m' ρ')⟩

end Cert.DwUpIdeal.Value
end
-- ==== Proof.Adamw.lean ====
/- One step of AdamW at one weight, and blocks of one slab read and stored whole. -/
module

public import proofs.«01_k».proof.Proof.RowBlocks
public import Idealize.ShloMosaic.Lib.Pointwise

@[expose] public section

noncomputable section

namespace Cert.Adamw

open Idealize.ShloMosaic

/-- The two moments after a step with the gradient `g`. -/
def mNew (g m : EReal) : EReal := Ideal.ofBits .f32 0x3F666666#32 * m + Ideal.ofBits .f32 0x3DCCCCCD#32 * g
def vNew (g v : EReal) : EReal := Ideal.ofBits .f32 0x3F7FBE77#32 * v + Ideal.ofBits .f32 0x3A83126F#32 * (g * g)

/-- The weight's change. -/
def delta (g w m v : EReal) : EReal :=
  Ideal.ofBits .f32 0xBA83126F#32 * (Ideal.div (Ideal.div (mNew g m) (Ideal.ofBits .f32 0x3F26BD02#32))
    (Ideal.sqrt (Ideal.div (vNew g v) (Ideal.ofBits .f32 0x3C231ACC#32)) + Ideal.ofBits .f32 0x322BCC77#32) + Ideal.ofBits .f32 0x3C23D70A#32 * w)

theorem sum_congr {a b c d a' b' c' d' : EReal} (ha : a = a') (hb : b = b') (hc : c = c') (hd : d = d') : a + b + c + d = a' + b' + c' + d' := by
  rw [ha, hb, hc, hd]

theorem delta_congr {g w m v g' w' m' v' : EReal} (hg : g = g') (hw : w = w') (hm : m = m') (hv : v = v') : delta g w m v = delta g' w' m' v' := by
  rw [hg, hw, hm, hv]

variable {l m n : ℕ} {Val : EltTy → Type} [∀ e, Nonempty (Val e)] {sig : RefSig} {κ : Kind} {sp : Space} {e : EltTy}

/-- A load of one slab, at one of its elements. -/
theorem load_at {o : ℕ} (v : View sig κ sp (⟨3, ![l, m, n]⟩ : Shape) e) (f : v.ty.Contents Val)
    (inb : ∀ a, (![o, 0, 0] : Fin 3 → Nat) a + (![1, m, n] : Fin 3 → Nat) a ≤ (⟨3, ![l, m, n]⟩ : Shape).size a)
    (x : (⟨3, ![l, m, n]⟩ : Shape).Idx → Val e) (hx : v.read Val f = x) (q : Fin l) (r : Fin m) (j : Fin n) (hq : q.val = o) :
    View.readAt Val v (Rect.unit (s := (⟨3, ![l, m, n]⟩ : Shape)) ![o, 0, 0] ![1, m, n] inb).toLoadRect f (ValueIdx.ix3 0 r j) = x (ValueIdx.ix3 q r j) := by
  rw [View.readAt_eq_ld, hx]
  refine congrArg x ?_
  funext a; apply Fin.ext
  fin_cases a
  · show o + 1 * 0 = q.val; omega
  · show 0 + 1 * r.val = r.val; omega
  · show 0 + 1 * j.val = j.val; omega

/-- A slab stored whole is `G` once each of its elements is. -/
theorem slab_at {α : Type} (inb : ∀ a, (![0, 0, 0] : Fin 3 → Nat) a + (![1, m, n] : Fin 3 → Nat) a ≤ (⟨3, ![1, m, n]⟩ : Shape).size a)
    (P : (⟨3, ![1, m, n]⟩ : Shape).Idx → α) (G : Fin m → Fin n → α) (h : ∀ r j, P (ValueIdx.ix3 0 r j) = G r j)
    (x : (Rect.unit (s := (⟨3, ![1, m, n]⟩ : Shape)) ![0, 0, 0] ![1, m, n] inb).shape.Idx) :
    P x = G ((Rect.unit (s := (⟨3, ![1, m, n]⟩ : Shape)) ![0, 0, 0] ![1, m, n] inb).emb x 1) ((Rect.unit (s := (⟨3, ![1, m, n]⟩ : Shape)) ![0, 0, 0] ![1, m, n] inb).emb x 2) := by
  have e : x = ValueIdx.ix3 (n0 := 1) (n1 := m) (n2 := n) 0 (x 1) (x 2) := by
    funext a; apply Fin.ext
    fin_cases a
    · have := (x 0).isLt; show (x 0).val = 0; exact Nat.lt_one_iff.mp this
    · rfl
    · rfl
  refine (congrArg P e).trans ((h (x 1) (x 2)).trans (congrArg₂ G (Fin.ext ?_) (Fin.ext ?_)))
  · show (x 1).val = 0 + 1 * (x 1).val; omega
  · show (x 2).val = 0 + 1 * (x 2).val; omega

/-- The buffer's contents after stores that cover it, each a part of `G`. -/
theorem read_slab (v : View sig κ sp (⟨3, ![1, m, n]⟩ : Shape) e) (f : v.ty.Contents Val) (L : List (View.Piece Val (⟨3, ![1, m, n]⟩ : Shape) e))
    (G : Fin m → Fin n → Val e) (hG : ∀ q ∈ L, ∀ x, q.2 x = G (q.1.emb x 1) (q.1.emb x 2)) (hc : ∀ y, ∃ q ∈ L, y ∈ q.1.set) :
    v.read Val (v.writes Val f L) = fun y => G (y 1) (y 2) := by
  funext y
  exact (View.read_writes_apply_eq_canon v f y _ (hc y)).trans (View.canon_apply_of_pieces (fun y => G (y 1) (y 2)) L hG y (hc y))

end Cert.Adamw
end
-- ==== Proof.AdamwValue.lean ====
/-
  The optimiser's step on a device's rows of `w_up`: at each place the sum of the four chips' parts of the gradient, and
  with it the new moments and the change of the weight.
-/
module

public import proofs.«01_k».proof.Proof.Gen.AdamwIdeal.Value
public import proofs.«01_k».proof.Proof.Adamw

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.AdamwIdeal.Value

open Cert.AdamwIdeal Cert.AdamwIdeal.Gen Cert.Adamw

section Body

section PayA
variable (p0 p1 p2 p3 : Vec Ideal S1x352x1024 .bf16) (w mo ve : Vec Ideal S1x352x1024 .f32) (r : Fin 352) (j : Fin 1024)
theorem pay9_at : k0_pay9 p0 p1 p2 p3 (ix2 r j) = p0 (ix3 0 r j) + p1 (ix3 0 r j) + p2 (ix3 0 r j) + p3 (ix3 0 r j) := by pointwise [k0_pay9]
theorem pay11_at : k0_pay11 p0 p1 p2 p3 mo (ix2 r j) = mNew (p0 (ix3 0 r j) + p1 (ix3 0 r j) + p2 (ix3 0 r j) + p3 (ix3 0 r j)) (mo (ix3 0 r j)) := by
  pointwise [k0_pay11]
  rw [pay9_at]; rfl
theorem pay12_at : k0_pay12 p0 p1 p2 p3 ve (ix2 r j) = vNew (p0 (ix3 0 r j) + p1 (ix3 0 r j) + p2 (ix3 0 r j) + p3 (ix3 0 r j)) (ve (ix3 0 r j)) := by
  pointwise [k0_pay12]
  rw [pay9_at]; rfl
theorem gA_at : k0_pay1 (k0_pay9 p0 p1 p2 p3) (ix3 0 r j) = p0 (ix3 0 r j) + p1 (ix3 0 r j) + p2 (ix3 0 r j) + p3 (ix3 0 r j) := by
  pointwise [k0_pay1]
  exact pay9_at p0 p1 p2 p3 r j
theorem mA_at : k0_pay3 (k0_pay11 p0 p1 p2 p3 mo) (ix3 0 r j) = mNew (p0 (ix3 0 r j) + p1 (ix3 0 r j) + p2 (ix3 0 r j) + p3 (ix3 0 r j)) (mo (ix3 0 r j)) := by
  pointwise [k0_pay3]
  exact pay11_at p0 p1 p2 p3 mo r j
theorem vA_at : k0_pay4 (k0_pay12 p0 p1 p2 p3 ve) (ix3 0 r j) = vNew (p0 (ix3 0 r j) + p1 (ix3 0 r j) + p2 (ix3 0 r j) + p3 (ix3 0 r j)) (ve (ix3 0 r j)) := by
  pointwise [k0_pay4]
  exact pay12_at p0 p1 p2 p3 ve r j
theorem dA_at : k0_pay2 (k0_pay10 w) (k0_pay12 p0 p1 p2 p3 ve) (k0_pay13 p0 p1 p2 p3 mo) (ix3 0 r j)
    = delta (p0 (ix3 0 r j) + p1 (ix3 0 r j) + p2 (ix3 0 r j) + p3 (ix3 0 r j)) (w (ix3 0 r j)) (mo (ix3 0 r j)) (ve (ix3 0 r j)) := by
  pointwise [k0_pay2, k0_pay10, k0_pay13]
  rw [pay12_at, pay11_at]; rfl
end PayA

section PayB
variable (p0 p1 p2 p3 : Vec Ideal S1x352x1024 .bf16) (w mo ve : Vec Ideal S1x352x1024 .f32) (r : Fin 352) (j : Fin 1024)
theorem pay14_at : k0_pay14 p0 p1 p2 p3 (ix2 r j) = p0 (ix3 0 r j) + p1 (ix3 0 r j) + p2 (ix3 0 r j) + p3 (ix3 0 r j) := by pointwise [k0_pay14]
theorem pay16_at : k0_pay16 p0 p1 p2 p3 mo (ix2 r j) = mNew (p0 (ix3 0 r j) + p1 (ix3 0 r j) + p2 (ix3 0 r j) + p3 (ix3 0 r j)) (mo (ix3 0 r j)) := by
  pointwise [k0_pay16]
  rw [pay14_at]; rfl
theorem pay17_at : k0_pay17 p0 p1 p2 p3 ve (ix2 r j) = vNew (p0 (ix3 0 r j) + p1 (ix3 0 r j) + p2 (ix3 0 r j) + p3 (ix3 0 r j)) (ve (ix3 0 r j)) := by
  pointwise [k0_pay17]
  rw [pay14_at]; rfl
theorem gB_at : k0_pay5 (k0_pay14 p0 p1 p2 p3) (ix3 0 r j) = p0 (ix3 0 r j) + p1 (ix3 0 r j) + p2 (ix3 0 r j) + p3 (ix3 0 r j) := by
  pointwise [k0_pay5]
  exact pay14_at p0 p1 p2 p3 r j
theorem mB_at : k0_pay7 (k0_pay16 p0 p1 p2 p3 mo) (ix3 0 r j) = mNew (p0 (ix3 0 r j) + p1 (ix3 0 r j) + p2 (ix3 0 r j) + p3 (ix3 0 r j)) (mo (ix3 0 r j)) := by
  pointwise [k0_pay7]
  exact pay16_at p0 p1 p2 p3 mo r j
theorem vB_at : k0_pay8 (k0_pay17 p0 p1 p2 p3 ve) (ix3 0 r j) = vNew (p0 (ix3 0 r j) + p1 (ix3 0 r j) + p2 (ix3 0 r j) + p3 (ix3 0 r j)) (ve (ix3 0 r j)) := by
  pointwise [k0_pay8]
  exact pay17_at p0 p1 p2 p3 ve r j
theorem dB_at : k0_pay6 (k0_pay15 w) (k0_pay17 p0 p1 p2 p3 ve) (k0_pay18 p0 p1 p2 p3 mo) (ix3 0 r j)
    = delta (p0 (ix3 0 r j) + p1 (ix3 0 r j) + p2 (ix3 0 r j) + p3 (ix3 0 r j)) (w (ix3 0 r j)) (mo (ix3 0 r j)) (ve (ix3 0 r j)) := by
  pointwise [k0_pay6, k0_pay15, k0_pay18]
  rw [pay17_at, pay16_at]; rfl
end PayB

variable (x0 x1 : Vec Ideal S4x352x1024 .bf16) (x2 x3 x4 : Vec Ideal S1x352x1024 .f32)

/-- What a block's point computes, from the parts `p` of its layer. -/
def gBlk (p : Vec Ideal S4x352x1024 .bf16) (r : Fin 352) (j : Fin 1024) : EReal := p (ix3 0 r j) + p (ix3 1 r j) + p (ix3 2 r j) + p (ix3 3 r j)
def mBlk (p : Vec Ideal S4x352x1024 .bf16) (mo : Vec Ideal S1x352x1024 .f32) (r : Fin 352) (j : Fin 1024) : EReal := mNew (gBlk p r j) (mo (ix3 0 r j))
def vBlk (p : Vec Ideal S4x352x1024 .bf16) (ve : Vec Ideal S1x352x1024 .f32) (r : Fin 352) (j : Fin 1024) : EReal := vNew (gBlk p r j) (ve (ix3 0 r j))
def dBlk (p : Vec Ideal S4x352x1024 .bf16) (w mo ve : Vec Ideal S1x352x1024 .f32) (r : Fin 352) (j : Fin 1024) : EReal :=
  delta (gBlk p r j) (w (ix3 0 r j)) (mo (ix3 0 r j)) (ve (ix3 0 r j))

variable (c : Dev nD) (i : grid0.Coords) (arg2 : Memref sig .tc .vmem S4x352x1024 .bf16) (harg2 : arg2.IsWhole) (arg3 : Memref sig .tc .vmem S4x352x1024 .bf16) (harg3 : arg3.IsWhole)
  (arg4 : Memref sig .tc .vmem S1x352x1024 .f32) (harg4 : arg4.IsWhole) (arg5 : Memref sig .tc .vmem S1x352x1024 .f32) (harg5 : arg5.IsWhole)
  (arg6 : Memref sig .tc .vmem S1x352x1024 .f32) (harg6 : arg6.IsWhole) (arg8 : Memref sig .tc .vmem S1x352x1024 .f32) (harg8 : arg8.IsWhole)
  (arg9 : Memref sig .tc .vmem S1x352x1024 .f32) (harg9 : arg9.IsWhole) (arg10 : Memref sig .tc .vmem S1x352x1024 .f32) (harg10 : arg10.IsWhole)
  (arg11 : Memref sig .tc .vmem S1x352x1024 .f32) (harg11 : arg11.IsWhole)

theorem outA5 (hc0) (hc1) : out0_A_5 c i arg2 harg2 arg3 harg3 arg4 harg4 arg5 harg5 arg6 harg6 arg8 harg8 arg9 harg9 arg10 harg10 arg11 harg11 hc0 hc1 x0 x1 x2 x3 x4 = fun y => gBlk x0 (y 1) (y 2) := by
  refine read_slab (Val := Elt Ideal) VO0_5 VO0_5.junk _ (gBlk x0) ?_ (cover0_A_5 c i arg2 harg2 arg3 harg3 arg4 harg4 arg5 harg5 arg6 harg6 arg8 harg8 arg9 harg9 arg10 harg10 arg11 harg11 hc0 hc1 x0 x1 x2 x3 x4)
  unfold kernelRun0_A
  dsimp only
  sl_unfold_run_names
  refine List.forall_mem_cons.mpr ⟨fun x => ?_, fun _ hq => absurd hq List.not_mem_nil⟩
  refine slab_at inb_S1x352x1024_S1x352x1024_0_0_0 _ (gBlk x0) (fun r j => ?_) x
  exact (gA_at _ _ _ _ r j).trans
    (sum_congr (load_at arg2.view _ inb_S4x352x1024_S1x352x1024_0_0_0 x0 (harg2.read_unread x0) 0 r j rfl) (load_at arg2.view _ inb_S4x352x1024_S1x352x1024_1_0_0 x0 (harg2.read_unread x0) 1 r j rfl) (load_at arg2.view _ inb_S4x352x1024_S1x352x1024_2_0_0 x0 (harg2.read_unread x0) 2 r j rfl) (load_at arg2.view _ inb_S4x352x1024_S1x352x1024_3_0_0 x0 (harg2.read_unread x0) 3 r j rfl))

theorem outA6 (hc0) (hc1) : out0_A_6 c i arg2 harg2 arg3 harg3 arg4 harg4 arg5 harg5 arg6 harg6 arg8 harg8 arg9 harg9 arg10 harg10 arg11 harg11 hc0 hc1 x0 x1 x2 x3 x4 = fun y => dBlk x0 x2 x3 x4 (y 1) (y 2) := by
  refine read_slab (Val := Elt Ideal) VO0_6 VO0_6.junk _ (dBlk x0 x2 x3 x4) ?_ (cover0_A_6 c i arg2 harg2 arg3 harg3 arg4 harg4 arg5 harg5 arg6 harg6 arg8 harg8 arg9 harg9 arg10 harg10 arg11 harg11 hc0 hc1 x0 x1 x2 x3 x4)
  unfold kernelRun0_A
  dsimp only
  sl_unfold_run_names
  refine List.forall_mem_cons.mpr ⟨fun x => ?_, fun _ hq => absurd hq List.not_mem_nil⟩
  refine slab_at inb_S1x352x1024_S1x352x1024_0_0_0 _ (dBlk x0 x2 x3 x4) (fun r j => ?_) x
  exact (dA_at _ _ _ _ _ _ _ r j).trans
    (delta_congr (sum_congr (load_at arg2.view _ inb_S4x352x1024_S1x352x1024_0_0_0 x0 (harg2.read_unread x0) 0 r j rfl) (load_at arg2.view _ inb_S4x352x1024_S1x352x1024_1_0_0 x0 (harg2.read_unread x0) 1 r j rfl) (load_at arg2.view _ inb_S4x352x1024_S1x352x1024_2_0_0 x0 (harg2.read_unread x0) 2 r j rfl) (load_at arg2.view _ inb_S4x352x1024_S1x352x1024_3_0_0 x0 (harg2.read_unread x0) 3 r j rfl)) (load_at arg4.view _ inb_S1x352x1024_S1x352x1024_0_0_0 x2 (harg4.read_unread x2) 0 r j rfl) (load_at arg5.view _ inb_S1x352x1024_S1x352x1024_0_0_0 x3 (harg5.read_unread x3) 0 r j rfl) (load_at arg6.view _ inb_S1x352x1024_S1x352x1024_0_0_0 x4 (harg6.read_unread x4) 0 r j rfl))

theorem outA7 (hc0) (hc1) : out0_A_7 c i arg2 harg2 arg3 harg3 arg4 harg4 arg5 harg5 arg6 harg6 arg8 harg8 arg9 harg9 arg10 harg10 arg11 harg11 hc0 hc1 x0 x1 x2 x3 x4 = fun y => mBlk x0 x3 (y 1) (y 2) := by
  refine read_slab (Val := Elt Ideal) VO0_7 VO0_7.junk _ (mBlk x0 x3) ?_ (cover0_A_7 c i arg2 harg2 arg3 harg3 arg4 harg4 arg5 harg5 arg6 harg6 arg8 harg8 arg9 harg9 arg10 harg10 arg11 harg11 hc0 hc1 x0 x1 x2 x3 x4)
  unfold kernelRun0_A
  dsimp only
  sl_unfold_run_names
  refine List.forall_mem_cons.mpr ⟨fun x => ?_, fun _ hq => absurd hq List.not_mem_nil⟩
  refine slab_at inb_S1x352x1024_S1x352x1024_0_0_0 _ (mBlk x0 x3) (fun r j => ?_) x
  exact (mA_at _ _ _ _ _ r j).trans
    (congrArg₂ mNew (sum_congr (load_at arg2.view _ inb_S4x352x1024_S1x352x1024_0_0_0 x0 (harg2.read_unread x0) 0 r j rfl) (load_at arg2.view _ inb_S4x352x1024_S1x352x1024_1_0_0 x0 (harg2.read_unread x0) 1 r j rfl) (load_at arg2.view _ inb_S4x352x1024_S1x352x1024_2_0_0 x0 (harg2.read_unread x0) 2 r j rfl) (load_at arg2.view _ inb_S4x352x1024_S1x352x1024_3_0_0 x0 (harg2.read_unread x0) 3 r j rfl)) (load_at arg5.view _ inb_S1x352x1024_S1x352x1024_0_0_0 x3 (harg5.read_unread x3) 0 r j rfl))

theorem outA8 (hc0) (hc1) : out0_A_8 c i arg2 harg2 arg3 harg3 arg4 harg4 arg5 harg5 arg6 harg6 arg8 harg8 arg9 harg9 arg10 harg10 arg11 harg11 hc0 hc1 x0 x1 x2 x3 x4 = fun y => vBlk x0 x4 (y 1) (y 2) := by
  refine read_slab (Val := Elt Ideal) VO0_8 VO0_8.junk _ (vBlk x0 x4) ?_ (cover0_A_8 c i arg2 harg2 arg3 harg3 arg4 harg4 arg5 harg5 arg6 harg6 arg8 harg8 arg9 harg9 arg10 harg10 arg11 harg11 hc0 hc1 x0 x1 x2 x3 x4)
  unfold kernelRun0_A
  dsimp only
  sl_unfold_run_names
  refine List.forall_mem_cons.mpr ⟨fun x => ?_, fun _ hq => absurd hq List.not_mem_nil⟩
  refine slab_at inb_S1x352x1024_S1x352x1024_0_0_0 _ (vBlk x0 x4) (fun r j => ?_) x
  exact (vA_at _ _ _ _ _ r j).trans
    (congrArg₂ vNew (sum_congr (load_at arg2.view _ inb_S4x352x1024_S1x352x1024_0_0_0 x0 (harg2.read_unread x0) 0 r j rfl) (load_at arg2.view _ inb_S4x352x1024_S1x352x1024_1_0_0 x0 (harg2.read_unread x0) 1 r j rfl) (load_at arg2.view _ inb_S4x352x1024_S1x352x1024_2_0_0 x0 (harg2.read_unread x0) 2 r j rfl) (load_at arg2.view _ inb_S4x352x1024_S1x352x1024_3_0_0 x0 (harg2.read_unread x0) 3 r j rfl)) (load_at arg6.view _ inb_S1x352x1024_S1x352x1024_0_0_0 x4 (harg6.read_unread x4) 0 r j rfl))

theorem outB5 (hc0) (hc1) : out0_B_5 c i arg2 harg2 arg3 harg3 arg4 harg4 arg5 harg5 arg6 harg6 arg8 harg8 arg9 harg9 arg10 harg10 arg11 harg11 hc0 hc1 x0 x1 x2 x3 x4 = fun y => gBlk x1 (y 1) (y 2) := by
  refine read_slab (Val := Elt Ideal) VO0_5 VO0_5.junk _ (gBlk x1) ?_ (cover0_B_5 c i arg2 harg2 arg3 harg3 arg4 harg4 arg5 harg5 arg6 harg6 arg8 harg8 arg9 harg9 arg10 harg10 arg11 harg11 hc0 hc1 x0 x1 x2 x3 x4)
  unfold kernelRun0_B
  dsimp only
  sl_unfold_run_names
  refine List.forall_mem_cons.mpr ⟨fun x => ?_, fun _ hq => absurd hq List.not_mem_nil⟩
  refine slab_at inb_S1x352x1024_S1x352x1024_0_0_0 _ (gBlk x1) (fun r j => ?_) x
  exact (gB_at _ _ _ _ r j).trans
    (sum_congr (load_at arg3.view _ inb_S4x352x1024_S1x352x1024_0_0_0 x1 (harg3.read_unread x1) 0 r j rfl) (load_at arg3.view _ inb_S4x352x1024_S1x352x1024_1_0_0 x1 (harg3.read_unread x1) 1 r j rfl) (load_at arg3.view _ inb_S4x352x1024_S1x352x1024_2_0_0 x1 (harg3.read_unread x1) 2 r j rfl) (load_at arg3.view _ inb_S4x352x1024_S1x352x1024_3_0_0 x1 (harg3.read_unread x1) 3 r j rfl))

theorem outB6 (hc0) (hc1) : out0_B_6 c i arg2 harg2 arg3 harg3 arg4 harg4 arg5 harg5 arg6 harg6 arg8 harg8 arg9 harg9 arg10 harg10 arg11 harg11 hc0 hc1 x0 x1 x2 x3 x4 = fun y => dBlk x1 x2 x3 x4 (y 1) (y 2) := by
  refine read_slab (Val := Elt Ideal) VO0_6 VO0_6.junk _ (dBlk x1 x2 x3 x4) ?_ (cover0_B_6 c i arg2 harg2 arg3 harg3 arg4 harg4 arg5 harg5 arg6 harg6 arg8 harg8 arg9 harg9 arg10 harg10 arg11 harg11 hc0 hc1 x0 x1 x2 x3 x4)
  unfold kernelRun0_B
  dsimp only
  sl_unfold_run_names
  refine List.forall_mem_cons.mpr ⟨fun x => ?_, fun _ hq => absurd hq List.not_mem_nil⟩
  refine slab_at inb_S1x352x1024_S1x352x1024_0_0_0 _ (dBlk x1 x2 x3 x4) (fun r j => ?_) x
  exact (dB_at _ _ _ _ _ _ _ r j).trans
    (delta_congr (sum_congr (load_at arg3.view _ inb_S4x352x1024_S1x352x1024_0_0_0 x1 (harg3.read_unread x1) 0 r j rfl) (load_at arg3.view _ inb_S4x352x1024_S1x352x1024_1_0_0 x1 (harg3.read_unread x1) 1 r j rfl) (load_at arg3.view _ inb_S4x352x1024_S1x352x1024_2_0_0 x1 (harg3.read_unread x1) 2 r j rfl) (load_at arg3.view _ inb_S4x352x1024_S1x352x1024_3_0_0 x1 (harg3.read_unread x1) 3 r j rfl)) (load_at arg4.view _ inb_S1x352x1024_S1x352x1024_0_0_0 x2 (harg4.read_unread x2) 0 r j rfl) (load_at arg5.view _ inb_S1x352x1024_S1x352x1024_0_0_0 x3 (harg5.read_unread x3) 0 r j rfl) (load_at arg6.view _ inb_S1x352x1024_S1x352x1024_0_0_0 x4 (harg6.read_unread x4) 0 r j rfl))

theorem outB7 (hc0) (hc1) : out0_B_7 c i arg2 harg2 arg3 harg3 arg4 harg4 arg5 harg5 arg6 harg6 arg8 harg8 arg9 harg9 arg10 harg10 arg11 harg11 hc0 hc1 x0 x1 x2 x3 x4 = fun y => mBlk x1 x3 (y 1) (y 2) := by
  refine read_slab (Val := Elt Ideal) VO0_7 VO0_7.junk _ (mBlk x1 x3) ?_ (cover0_B_7 c i arg2 harg2 arg3 harg3 arg4 harg4 arg5 harg5 arg6 harg6 arg8 harg8 arg9 harg9 arg10 harg10 arg11 harg11 hc0 hc1 x0 x1 x2 x3 x4)
  unfold kernelRun0_B
  dsimp only
  sl_unfold_run_names
  refine List.forall_mem_cons.mpr ⟨fun x => ?_, fun _ hq => absurd hq List.not_mem_nil⟩
  refine slab_at inb_S1x352x1024_S1x352x1024_0_0_0 _ (mBlk x1 x3) (fun r j => ?_) x
  exact (mB_at _ _ _ _ _ r j).trans
    (congrArg₂ mNew (sum_congr (load_at arg3.view _ inb_S4x352x1024_S1x352x1024_0_0_0 x1 (harg3.read_unread x1) 0 r j rfl) (load_at arg3.view _ inb_S4x352x1024_S1x352x1024_1_0_0 x1 (harg3.read_unread x1) 1 r j rfl) (load_at arg3.view _ inb_S4x352x1024_S1x352x1024_2_0_0 x1 (harg3.read_unread x1) 2 r j rfl) (load_at arg3.view _ inb_S4x352x1024_S1x352x1024_3_0_0 x1 (harg3.read_unread x1) 3 r j rfl)) (load_at arg5.view _ inb_S1x352x1024_S1x352x1024_0_0_0 x3 (harg5.read_unread x3) 0 r j rfl))

theorem outB8 (hc0) (hc1) : out0_B_8 c i arg2 harg2 arg3 harg3 arg4 harg4 arg5 harg5 arg6 harg6 arg8 harg8 arg9 harg9 arg10 harg10 arg11 harg11 hc0 hc1 x0 x1 x2 x3 x4 = fun y => vBlk x1 x4 (y 1) (y 2) := by
  refine read_slab (Val := Elt Ideal) VO0_8 VO0_8.junk _ (vBlk x1 x4) ?_ (cover0_B_8 c i arg2 harg2 arg3 harg3 arg4 harg4 arg5 harg5 arg6 harg6 arg8 harg8 arg9 harg9 arg10 harg10 arg11 harg11 hc0 hc1 x0 x1 x2 x3 x4)
  unfold kernelRun0_B
  dsimp only
  sl_unfold_run_names
  refine List.forall_mem_cons.mpr ⟨fun x => ?_, fun _ hq => absurd hq List.not_mem_nil⟩
  refine slab_at inb_S1x352x1024_S1x352x1024_0_0_0 _ (vBlk x1 x4) (fun r j => ?_) x
  exact (vB_at _ _ _ _ _ r j).trans
    (congrArg₂ vNew (sum_congr (load_at arg3.view _ inb_S4x352x1024_S1x352x1024_0_0_0 x1 (harg3.read_unread x1) 0 r j rfl) (load_at arg3.view _ inb_S4x352x1024_S1x352x1024_1_0_0 x1 (harg3.read_unread x1) 1 r j rfl) (load_at arg3.view _ inb_S4x352x1024_S1x352x1024_2_0_0 x1 (harg3.read_unread x1) 2 r j rfl) (load_at arg3.view _ inb_S4x352x1024_S1x352x1024_3_0_0 x1 (harg3.read_unread x1) 3 r j rfl)) (load_at arg6.view _ inb_S1x352x1024_S1x352x1024_0_0_0 x4 (harg6.read_unread x4) 0 r j rfl))

end Body

variable (m : (ℓ : Loc nD τ sig) → Buf (Elt Ideal) ℓ) (c : Dev nD)

theorem idx_0 : ∀ t : Fin cfg0.N, win0_0.index t = ![0, min t.val 1, 0] := (by decide +kernel : ∀ t : Fin grid0.N, _)
theorem idx_1 : ∀ t : Fin cfg0.N, win0_1.index t = ![0, t.val - 2, 0] := (by decide +kernel : ∀ t : Fin grid0.N, _)
theorem idx_2 : ∀ t : Fin cfg0.N, win0_2.index t = ![t.val / 2, t.val % 2, 0] := (by decide +kernel : ∀ t : Fin grid0.N, _)
theorem idx_3 : ∀ t : Fin cfg0.N, win0_3.index t = ![t.val / 2, t.val % 2, 0] := (by decide +kernel : ∀ t : Fin grid0.N, _)
theorem idx_4 : ∀ t : Fin cfg0.N, win0_4.index t = ![t.val / 2, t.val % 2, 0] := (by decide +kernel : ∀ t : Fin grid0.N, _)
theorem idx_5 : ∀ t : Fin cfg0.N, win0_5.index t = ![t.val / 2, t.val % 2, 0] := (by decide +kernel : ∀ t : Fin grid0.N, _)
theorem idx_6 : ∀ t : Fin cfg0.N, win0_6.index t = ![t.val / 2, t.val % 2, 0] := (by decide +kernel : ∀ t : Fin grid0.N, _)
theorem idx_7 : ∀ t : Fin cfg0.N, win0_7.index t = ![t.val / 2, t.val % 2, 0] := (by decide +kernel : ∀ t : Fin grid0.N, _)
theorem idx_8 : ∀ t : Fin cfg0.N, win0_8.index t = ![t.val / 2, t.val % 2, 0] := (by decide +kernel : ∀ t : Fin grid0.N, _)

/-- The arguments at one place: the layers' parts, and an array of both layers. -/
def part0 (q : Fin 4) (a : Fin 704) (j : Fin 1024) : EReal := (m ((c : Thread nD τ).loc main_arg0) : Vec Ideal S4x704x1024 .bf16) (ix3 q a j)
def part1 (q : Fin 4) (a : Fin 704) (j : Fin 1024) : EReal := (m ((c : Thread nD τ).loc main_arg1) : Vec Ideal S4x704x1024 .bf16) (ix3 q a j)
def wAt (l : Fin 2) (a : Fin 704) (j : Fin 1024) : EReal := (m ((c : Thread nD τ).loc main_arg2) : Vec Ideal S2x704x1024 .f32) (ix3 l a j)
def mAt (l : Fin 2) (a : Fin 704) (j : Fin 1024) : EReal := (m ((c : Thread nD τ).loc main_arg3) : Vec Ideal S2x704x1024 .f32) (ix3 l a j)
def vAt (l : Fin 2) (a : Fin 704) (j : Fin 1024) : EReal := (m ((c : Thread nD τ).loc main_arg4) : Vec Ideal S2x704x1024 .f32) (ix3 l a j)

/-- A layer's gradient, and with it the other three results. -/
def gAt (l : Fin 2) (a : Fin 704) (j : Fin 1024) : EReal :=
  if l.val = 0 then part0 m c 0 a j + part0 m c 1 a j + part0 m c 2 a j + part0 m c 3 a j
  else part1 m c 0 a j + part1 m c 1 a j + part1 m c 2 a j + part1 m c 3 a j
def gOut : Vec Ideal S2x704x1024 .f32 := fun y => gAt m c (y 0) (y 1) (y 2)
def mOut : Vec Ideal S2x704x1024 .f32 := fun y => mNew (gAt m c (y 0) (y 1) (y 2)) (mAt m c (y 0) (y 1) (y 2))
def vOut : Vec Ideal S2x704x1024 .f32 := fun y => vNew (gAt m c (y 0) (y 1) (y 2)) (vAt m c (y 0) (y 1) (y 2))
def dOut : Vec Ideal S2x704x1024 .f32 := fun y =>
  delta (gAt m c (y 0) (y 1) (y 2)) (wAt m c (y 0) (y 1) (y 2)) (mAt m c (y 0) (y 1) (y 2)) (vAt m c (y 0) (y 1) (y 2))

theorem blk_0 (t : Fin cfg0.N) (ht : t.val < 2) (q : Fin 4) (r : Fin 352) (j : Fin 1024) (a : Fin 704) (ha : a.val = t.val % 2 * 352 + r.val) :
    iblk m c 0 t (ix3 q r j) = part0 m c q a j := by
  unfold part0
  blk_simp [iblk]
  rw [show V m c main_arg0 = _ from V_main_arg0 m c]
  congr 1
  blk_ext [idx_0]

theorem blk_1 (t : Fin cfg0.N) (ht : 2 ≤ t.val) (q : Fin 4) (r : Fin 352) (j : Fin 1024) (a : Fin 704) (ha : a.val = t.val % 2 * 352 + r.val) :
    iblk m c 1 t (ix3 q r j) = part1 m c q a j := by
  have h4 : t.val < 4 := lt_of_lt_of_eq t.isLt (show cfg0.N = 4 from N_0)
  unfold part1
  blk_simp [iblk]
  rw [show V m c main_arg1 = _ from V_main_arg1 m c]
  congr 1
  blk_ext [idx_1]

theorem blk_2 (t : Fin cfg0.N) (r : Fin 352) (j : Fin 1024) (l : Fin 2) (a : Fin 704) (hl : l.val = t.val / 2) (ha : a.val = t.val % 2 * 352 + r.val) :
    iblk m c 2 t (ix3 0 r j) = wAt m c l a j := by
  unfold wAt
  blk_simp [iblk]
  rw [show V m c main_arg2 = _ from V_main_arg2 m c]
  congr 1
  blk_ext [idx_2]

theorem blk_3 (t : Fin cfg0.N) (r : Fin 352) (j : Fin 1024) (l : Fin 2) (a : Fin 704) (hl : l.val = t.val / 2) (ha : a.val = t.val % 2 * 352 + r.val) :
    iblk m c 3 t (ix3 0 r j) = mAt m c l a j := by
  unfold mAt
  blk_simp [iblk]
  rw [show V m c main_arg3 = _ from V_main_arg3 m c]
  congr 1
  blk_ext [idx_3]

theorem blk_4 (t : Fin cfg0.N) (r : Fin 352) (j : Fin 1024) (l : Fin 2) (a : Fin 704) (hl : l.val = t.val / 2) (ha : a.val = t.val % 2 * 352 + r.val) :
    iblk m c 4 t (ix3 0 r j) = vAt m c l a j := by
  unfold vAt
  blk_simp [iblk]
  rw [show V m c main_arg4 = _ from V_main_arg4 m c]
  congr 1
  blk_ext [idx_4]

theorem g_at0 (t : Fin cfg0.N) (ht : t.val < 2) (r : Fin 352) (j : Fin 1024) (l : Fin 2) (a : Fin 704) (hl : l.val = t.val / 2)
    (ha : a.val = t.val % 2 * 352 + r.val) : gBlk (iblk m c 0 t) r j = gAt m c l a j :=
  (sum_congr (blk_0 m c t ht 0 r j a ha) (blk_0 m c t ht 1 r j a ha) (blk_0 m c t ht 2 r j a ha) (blk_0 m c t ht 3 r j a ha)).trans
    (if_pos (show l.val = 0 by omega)).symm

theorem g_at1 (t : Fin cfg0.N) (ht : 2 ≤ t.val) (r : Fin 352) (j : Fin 1024) (l : Fin 2) (a : Fin 704) (hl : l.val = t.val / 2)
    (ha : a.val = t.val % 2 * 352 + r.val) : gBlk (iblk m c 1 t) r j = gAt m c l a j :=
  (sum_congr (blk_1 m c t ht 0 r j a ha) (blk_1 m c t ht 1 r j a ha) (blk_1 m c t ht 2 r j a ha) (blk_1 m c t ht 3 r j a ha)).trans
    (if_neg (show ¬l.val = 0 by omega)).symm

theorem final_g : (dats m 0 c).arrAt 5 cfg0.N = gOut m c := by
  refine (dats m 0 c).arrAt_eq_of_covers 5 _ (by decide +kernel) fun t hf y => ?_
  have h4 : t.val < 4 := lt_of_lt_of_eq t.isLt (show cfg0.N = 4 from N_0)
  have y0 : (y 0).val < 1 := (y 0).isLt
  blk_simp
  have hl : ((win0_5.blk t).view.emb y 0).val = t.val / 2 := by blk_simp [idx_5]
  have ha : ((win0_5.blk t).view.emb y 1).val = t.val % 2 * 352 + (y 1).val := by blk_simp [idx_5]
  have hj : (win0_5.blk t).view.emb y 2 = y 2 := Fin.ext (by blk_simp [idx_5])
  rw [after0_5]
  by_cases h : t.val < 2
  · rw [outsAt0_A m c t h (by omega)]
    dsimp only
    rw [outA5]
    refine (g_at0 m c t (by omega) (y 1) (y 2) _ _ hl ha).trans ?_
    exact congrArg (fun b => gAt m c ((win0_5.blk t).view.emb y 0) ((win0_5.blk t).view.emb y 1) b) hj.symm
  · rw [outsAt0_B m c t h (by omega)]
    dsimp only
    rw [outB5]
    refine (g_at1 m c t (by omega) (y 1) (y 2) _ _ hl ha).trans ?_
    exact congrArg (fun b => gAt m c ((win0_5.blk t).view.emb y 0) ((win0_5.blk t).view.emb y 1) b) hj.symm

theorem final_d : (dats m 0 c).arrAt 6 cfg0.N = dOut m c := by
  refine (dats m 0 c).arrAt_eq_of_covers 6 _ (by decide +kernel) fun t hf y => ?_
  have h4 : t.val < 4 := lt_of_lt_of_eq t.isLt (show cfg0.N = 4 from N_0)
  have y0 : (y 0).val < 1 := (y 0).isLt
  blk_simp
  have hl : ((win0_6.blk t).view.emb y 0).val = t.val / 2 := by blk_simp [idx_6]
  have ha : ((win0_6.blk t).view.emb y 1).val = t.val % 2 * 352 + (y 1).val := by blk_simp [idx_6]
  have hj : (win0_6.blk t).view.emb y 2 = y 2 := Fin.ext (by blk_simp [idx_6])
  rw [after0_6]
  by_cases h : t.val < 2
  · rw [outsAt0_A m c t h (by omega)]
    dsimp only
    rw [outA6]
    refine (delta_congr (g_at0 m c t (by omega) (y 1) (y 2) _ _ hl ha) (blk_2 m c t (y 1) (y 2) _ _ hl ha) (blk_3 m c t (y 1) (y 2) _ _ hl ha) (blk_4 m c t (y 1) (y 2) _ _ hl ha)).trans ?_
    exact congrArg (fun b => delta (gAt m c ((win0_6.blk t).view.emb y 0) ((win0_6.blk t).view.emb y 1) b) (wAt m c ((win0_6.blk t).view.emb y 0) ((win0_6.blk t).view.emb y 1) b) (mAt m c ((win0_6.blk t).view.emb y 0) ((win0_6.blk t).view.emb y 1) b) (vAt m c ((win0_6.blk t).view.emb y 0) ((win0_6.blk t).view.emb y 1) b)) hj.symm
  · rw [outsAt0_B m c t h (by omega)]
    dsimp only
    rw [outB6]
    refine (delta_congr (g_at1 m c t (by omega) (y 1) (y 2) _ _ hl ha) (blk_2 m c t (y 1) (y 2) _ _ hl ha) (blk_3 m c t (y 1) (y 2) _ _ hl ha) (blk_4 m c t (y 1) (y 2) _ _ hl ha)).trans ?_
    exact congrArg (fun b => delta (gAt m c ((win0_6.blk t).view.emb y 0) ((win0_6.blk t).view.emb y 1) b) (wAt m c ((win0_6.blk t).view.emb y 0) ((win0_6.blk t).view.emb y 1) b) (mAt m c ((win0_6.blk t).view.emb y 0) ((win0_6.blk t).view.emb y 1) b) (vAt m c ((win0_6.blk t).view.emb y 0) ((win0_6.blk t).view.emb y 1) b)) hj.symm

theorem final_m : (dats m 0 c).arrAt 7 cfg0.N = mOut m c := by
  refine (dats m 0 c).arrAt_eq_of_covers 7 _ (by decide +kernel) fun t hf y => ?_
  have h4 : t.val < 4 := lt_of_lt_of_eq t.isLt (show cfg0.N = 4 from N_0)
  have y0 : (y 0).val < 1 := (y 0).isLt
  blk_simp
  have hl : ((win0_7.blk t).view.emb y 0).val = t.val / 2 := by blk_simp [idx_7]
  have ha : ((win0_7.blk t).view.emb y 1).val = t.val % 2 * 352 + (y 1).val := by blk_simp [idx_7]
  have hj : (win0_7.blk t).view.emb y 2 = y 2 := Fin.ext (by blk_simp [idx_7])
  rw [after0_7]
  by_cases h : t.val < 2
  · rw [outsAt0_A m c t h (by omega)]
    dsimp only
    rw [outA7]
    refine (congrArg₂ mNew (g_at0 m c t (by omega) (y 1) (y 2) _ _ hl ha) (blk_3 m c t (y 1) (y 2) _ _ hl ha)).trans ?_
    exact congrArg (fun b => mNew (gAt m c ((win0_7.blk t).view.emb y 0) ((win0_7.blk t).view.emb y 1) b) (mAt m c ((win0_7.blk t).view.emb y 0) ((win0_7.blk t).view.emb y 1) b)) hj.symm
  · rw [outsAt0_B m c t h (by omega)]
    dsimp only
    rw [outB7]
    refine (congrArg₂ mNew (g_at1 m c t (by omega) (y 1) (y 2) _ _ hl ha) (blk_3 m c t (y 1) (y 2) _ _ hl ha)).trans ?_
    exact congrArg (fun b => mNew (gAt m c ((win0_7.blk t).view.emb y 0) ((win0_7.blk t).view.emb y 1) b) (mAt m c ((win0_7.blk t).view.emb y 0) ((win0_7.blk t).view.emb y 1) b)) hj.symm

theorem final_v : (dats m 0 c).arrAt 8 cfg0.N = vOut m c := by
  refine (dats m 0 c).arrAt_eq_of_covers 8 _ (by decide +kernel) fun t hf y => ?_
  have h4 : t.val < 4 := lt_of_lt_of_eq t.isLt (show cfg0.N = 4 from N_0)
  have y0 : (y 0).val < 1 := (y 0).isLt
  blk_simp
  have hl : ((win0_8.blk t).view.emb y 0).val = t.val / 2 := by blk_simp [idx_8]
  have ha : ((win0_8.blk t).view.emb y 1).val = t.val % 2 * 352 + (y 1).val := by blk_simp [idx_8]
  have hj : (win0_8.blk t).view.emb y 2 = y 2 := Fin.ext (by blk_simp [idx_8])
  rw [after0_8]
  by_cases h : t.val < 2
  · rw [outsAt0_A m c t h (by omega)]
    dsimp only
    rw [outA8]
    refine (congrArg₂ vNew (g_at0 m c t (by omega) (y 1) (y 2) _ _ hl ha) (blk_4 m c t (y 1) (y 2) _ _ hl ha)).trans ?_
    exact congrArg (fun b => vNew (gAt m c ((win0_8.blk t).view.emb y 0) ((win0_8.blk t).view.emb y 1) b) (vAt m c ((win0_8.blk t).view.emb y 0) ((win0_8.blk t).view.emb y 1) b)) hj.symm
  · rw [outsAt0_B m c t h (by omega)]
    dsimp only
    rw [outB8]
    refine (congrArg₂ vNew (g_at1 m c t (by omega) (y 1) (y 2) _ _ hl ha) (blk_4 m c t (y 1) (y 2) _ _ hl ha)).trans ?_
    exact congrArg (fun b => vNew (gAt m c ((win0_8.blk t).view.emb y 0) ((win0_8.blk t).view.emb y 1) b) (vAt m c ((win0_8.blk t).view.emb y 0) ((win0_8.blk t).view.emb y 1) b)) hj.symm

end Cert.AdamwIdeal.Value
end
-- ==== Proof.AdamwRefValue.lean ====
/- The reference of the optimiser's step, at one place. -/
module

public import proofs.«01_k».proof.Proof.Gen.AdamwRefIdeal.Read
public import proofs.«01_k».proof.Proof.Adamw

@[expose] public section

set_option maxRecDepth 16384

noncomputable section

open Idealize.ShloMosaic Idealize.ShloMosaic.TcCoe Idealize.SL.Sem

namespace Cert.AdamwRefIdeal.Value

open Cert.AdamwRefIdeal Cert.AdamwRefIdeal.Gen Cert.AdamwRefIdeal.Read Cert.Adamw

variable (p0 p1 : Vec Ideal S4x704x1024 .bf16) (w mo ve : Vec Ideal S2x704x1024 .f32)

theorem v1_at (a : Fin 704) (j : Fin 1024) : val_main_v1 (F := Ideal) p0 (ix2 a j) = p0 (ix3 0 a j) + p0 (ix3 1 a j) + p0 (ix3 2 a j) + p0 (ix3 3 a j) := by
  pointwise [val_main_v1, val_main_v0, val_main_cst]
  exact Fin.sum_univ_four _

theorem v3_at (a : Fin 704) (j : Fin 1024) : val_main_v3 (F := Ideal) p1 (ix2 a j) = p1 (ix3 0 a j) + p1 (ix3 1 a j) + p1 (ix3 2 a j) + p1 (ix3 3 a j) := by
  pointwise [val_main_v3, val_main_v2, val_main_cst_0]
  exact Fin.sum_univ_four _

/-- A layer's gradient. -/
def gSum (l : Fin 2) (a : Fin 704) (j : Fin 1024) : EReal :=
  if l.val = 0 then p0 (ix3 0 a j) + p0 (ix3 1 a j) + p0 (ix3 2 a j) + p0 (ix3 3 a j)
  else p1 (ix3 0 a j) + p1 (ix3 1 a j) + p1 (ix3 2 a j) + p1 (ix3 3 a j)

theorem v6_at (l : Fin 2) (a : Fin 704) (j : Fin 1024) : val_main_v6 (F := Ideal) p0 p1 (ix3 l a j) = gSum p0 p1 l a j := by
  unfold gSum
  by_cases h : l.val = 0
  · refine (concatenate_pair_apply_left 0 (val_main_v4 (F := Ideal) p0) (val_main_v5 (F := Ideal) p1) concatenates_S1x704x1024_S1x704x1024_S2x704x1024_d0
      (ix3 l a j) rfl (ix3 0 a j) (fun b => match b with
      | ⟨0, _⟩ => h.symm
      | ⟨1, _⟩ => rfl
      | ⟨2, _⟩ => rfl)).trans ?_
    rw [if_pos h]
    pointwise [val_main_v4]
    exact v1_at p0 a j
  · refine (concatenate_pair_apply_right 0 (val_main_v4 (F := Ideal) p0) (val_main_v5 (F := Ideal) p1) concatenates_S1x704x1024_S1x704x1024_S2x704x1024_d0
      (ix3 l a j) rfl rfl (ix3 0 a j) (fun b hb => match b, hb with
      | ⟨0, _⟩, hb => absurd rfl hb
      | ⟨1, _⟩, _ => rfl
      | ⟨2, _⟩, _ => rfl) (show 0 + 1 = l.val by omega)).trans ?_
    rw [if_neg h]
    pointwise [val_main_v5]
    exact v3_at p1 a j

theorem v11_at (l : Fin 2) (a : Fin 704) (j : Fin 1024) : val_main_v11 (F := Ideal) p0 p1 mo (ix3 l a j) = mNew (gSum p0 p1 l a j) (mo (ix3 l a j)) := by
  pointwise [val_main_v11, val_main_v10, val_main_v9, val_main_v8, val_main_v7, val_main_cst_1, val_main_cst_2]
  rw [v6_at]; rfl

theorem v17_at (l : Fin 2) (a : Fin 704) (j : Fin 1024) : val_main_v17 (F := Ideal) p0 p1 ve (ix3 l a j) = vNew (gSum p0 p1 l a j) (ve (ix3 l a j)) := by
  pointwise [val_main_v17, val_main_v16, val_main_v15, val_main_v14, val_main_v13, val_main_v12, val_main_cst_3, val_main_cst_4]
  rw [v6_at]; rfl

theorem v30_at (l : Fin 2) (a : Fin 704) (j : Fin 1024) : val_main_v30 (F := Ideal) p0 p1 w mo ve (ix3 l a j)
    = delta (gSum p0 p1 l a j) (w (ix3 l a j)) (mo (ix3 l a j)) (ve (ix3 l a j)) := by
  pointwise [val_main_v30, val_main_v29, val_main_v28, val_main_v27, val_main_v26, val_main_v25, val_main_v24, val_main_v23, val_main_v22, val_main_v21,
    val_main_v20, val_main_v19, val_main_v18, val_main_cst_5, val_main_cst_6, val_main_cst_7, val_main_cst_8, val_main_cst_9]
  rw [v17_at, v11_at]; rfl

end Cert.AdamwRefIdeal.Value
end
-- ==== Proof.AdamwClaim.lean ====
/- The optimiser's step and its reference give the same four results. -/
module

public import proofs.«01_k».proof.Defs
public import proofs.«01_k».proof.Proof.Gen.AdamwRefIdeal.Run
public import proofs.«01_k».proof.Proof.AdamwValue
public import proofs.«01_k».proof.Proof.AdamwRefValue

@[expose] public section

set_option maxRecDepth 16384

noncomputable section

open Idealize.ShloMosaic Idealize.ShloMosaic.TcCoe Idealize.SL.Sem

namespace Cert.AdamwIdeal.Value

open Cert.AdamwIdeal Cert.AdamwIdeal.Gen

/-- The reference's frame: its arguments unchanged and no semaphore left counted. -/
theorem frame_reference : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

theorem value : Cert.algebraic_AdamwIdeal_AdamwRefIdeal := fun m ρ m' ρ' _ hag =>
  ⟨gOut m, dOut m, mOut m, vOut m,
    (θ_run defs _ _).mono (fun _ h c => ⟨(h c).1.trans (final_g m c), (h c).2.1.trans (final_d m c), (h c).2.2.1.trans (final_m m c),
      (h c).2.2.2.1.trans (final_v m c), (h c).2.2.2.2⟩) (run_blocks m ρ),
    (θ_run Cert.AdamwRefIdeal.defs _ _).mono (fun _ h c => by
      obtain ⟨hg, hd, hm, hv, hargs⟩ := h c
      obtain ⟨a0, a1, a2, a3, a4, _⟩ := hag c
      have split (y : S2x704x1024.Idx) : ∃ (l : Fin 2) (a : Fin 704) (j : Fin 1024), y = ix3 l a j := ⟨y 0, y 1, y 2, eq_ix3 y⟩
      refine ⟨hg.trans (.trans (Cert.AdamwRefIdeal.Read.val_main_v6_eq _ _) (funext fun y => ?_)),
        hd.trans (.trans (Cert.AdamwRefIdeal.Read.val_main_v30_eq _ _ _ _ _) (funext fun y => ?_)),
        hm.trans (.trans (Cert.AdamwRefIdeal.Read.val_main_v11_eq _ _ _) (funext fun y => ?_)),
        hv.trans (.trans (Cert.AdamwRefIdeal.Read.val_main_v17_eq _ _ _) (funext fun y => ?_)), hargs⟩
      · obtain ⟨l, a, j, rfl⟩ := split y
        refine (Cert.AdamwRefIdeal.Value.v6_at _ _ l a j).trans ?_
        rw [a0, a1]
        rfl
      · obtain ⟨l, a, j, rfl⟩ := split y
        refine (Cert.AdamwRefIdeal.Value.v30_at _ _ _ _ _ l a j).trans ?_
        rw [a0, a1, a2, a3, a4]
        rfl
      · obtain ⟨l, a, j, rfl⟩ := split y
        refine (Cert.AdamwRefIdeal.Value.v11_at _ _ _ l a j).trans ?_
        rw [a0, a1, a3]
        rfl
      · obtain ⟨l, a, j, rfl⟩ := split y
        refine (Cert.AdamwRefIdeal.Value.v17_at _ _ _ l a j).trans ?_
        rw [a0, a1, a4]
        rfl)
      (Cert.AdamwRefIdeal.Value.run (F := Ideal) m' ρ')⟩

end Cert.AdamwIdeal.Value
end
-- ==== Proof.Fold.lean ====
/- Small parts packed into one row: each is the sum of eight rows, and they stand one after the other. -/
module

public import proofs.«01_k».proof.Proof.Proj

@[expose] public section

set_option maxRecDepth 16384

noncomputable section

namespace Cert.Fold

open Idealize.ShloMosaic

/-- The sum of eight rows. -/
def colSum {n : ℕ} (X : (⟨2, ![8, n]⟩ : Shape).Idx → EReal) : (⟨1, ![n]⟩ : Shape).Idx → EReal := fun y => ∑ r : Fin 8, X (ix2 r (y 0))

/-- A place in one of the parts of a row. -/
theorem part_at (xs : List ((s : Shape) × (s.Idx → EReal))) (h : Shape.Concatenates (xs.map (·.1)) (⟨1, ![14336]⟩ : Shape) 0)
    (k : ℕ) (hk : k < xs.length) {n : ℕ} (f : (⟨1, ![n]⟩ : Shape).Idx → EReal) (hf : xs[k] = ⟨⟨1, ![n]⟩, f⟩) (o : ℕ)
    (S : List Shape) (hS : (xs.take k).map (·.1) = S)
    (ho : (S.map fun s => if h : s.rank = 1 then s.size (Fin.cast h.symm 0) else 0).sum = o)
    (j : Fin n) (b : Fin 14336) (hb : b.val = o + j.val) : concatenate (⟨1, ![14336]⟩ : Shape) 0 xs h (ix1 b) = f (ix1 j) :=
  concatenate_apply_piece 0 xs h (ix1 b) k hk _ f hf rfl o ((congrArg (fun l : List Shape => (l.map fun s => if h : s.rank = 1 then s.size (Fin.cast h.symm 0) else 0).sum) hS).trans ho) (ix1 j)
    (fun q hq => absurd (Fin.ext (by have h1 : q.val < 1 := q.isLt; show q.val = 0; omega)) hq) hb.symm

variable (x0 : (⟨2, ![8, 1024]⟩ : Shape).Idx → EReal) (x1 : (⟨2, ![8, 2560]⟩ : Shape).Idx → EReal) (x2 x3 x4 : (⟨2, ![8, 512]⟩ : Shape).Idx → EReal) (x5 x6 : (⟨2, ![8, 1024]⟩ : Shape).Idx → EReal) (x7 : (⟨2, ![8, 2560]⟩ : Shape).Idx → EReal) (x8 x9 x10 : (⟨2, ![8, 512]⟩ : Shape).Idx → EReal) (x11 x12 x13 : (⟨2, ![8, 1024]⟩ : Shape).Idx → EReal)

/-- The parts, in their order. -/
abbrev parts : List ((s : Shape) × (s.Idx → EReal)) :=
  [⟨⟨1, ![1024]⟩, colSum x0⟩, ⟨⟨1, ![2560]⟩, colSum x1⟩, ⟨⟨1, ![512]⟩, colSum x2⟩, ⟨⟨1, ![512]⟩, colSum x3⟩, ⟨⟨1, ![512]⟩, colSum x4⟩, ⟨⟨1, ![1024]⟩, colSum x5⟩, ⟨⟨1, ![1024]⟩, colSum x6⟩, ⟨⟨1, ![2560]⟩, colSum x7⟩, ⟨⟨1, ![512]⟩, colSum x8⟩, ⟨⟨1, ![512]⟩, colSum x9⟩, ⟨⟨1, ![512]⟩, colSum x10⟩, ⟨⟨1, ![1024]⟩, colSum x11⟩, ⟨⟨1, ![1024]⟩, colSum x12⟩, ⟨⟨1, ![1024]⟩, colSum x13⟩]

theorem fits : Shape.Concatenates ((parts x0 x1 x2 x3 x4 x5 x6 x7 x8 x9 x10 x11 x12 x13).map (·.1)) (⟨1, ![14336]⟩ : Shape) 0 :=
  (by decide : Shape.Concatenates [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩, ⟨1, ![512]⟩, ⟨1, ![512]⟩, ⟨1, ![1024]⟩, ⟨1, ![1024]⟩, ⟨1, ![1024]⟩] (⟨1, ![14336]⟩ : Shape) 0)

/-- The row. -/
def row (b : Fin 14336) : EReal := concatenate (⟨1, ![14336]⟩ : Shape) 0 (parts x0 x1 x2 x3 x4 x5 x6 x7 x8 x9 x10 x11 x12 x13) (fits x0 x1 x2 x3 x4 x5 x6 x7 x8 x9 x10 x11 x12 x13) (ix1 b)

theorem len : (parts x0 x1 x2 x3 x4 x5 x6 x7 x8 x9 x10 x11 x12 x13).length = 14 := rfl

theorem row_0 (j : Fin 1024) (b : Fin 14336) (hb : b.val = 0 + j.val) : row x0 x1 x2 x3 x4 x5 x6 x7 x8 x9 x10 x11 x12 x13 b = colSum x0 (ix1 j) :=
  part_at _ _ 0 (by rw [len]; omega) _ rfl 0 [] rfl (by decide +kernel) j b hb

theorem row_1 (j : Fin 2560) (b : Fin 14336) (hb : b.val = 1024 + j.val) : row x0 x1 x2 x3 x4 x5 x6 x7 x8 x9 x10 x11 x12 x13 b = colSum x1 (ix1 j) :=
  part_at _ _ 1 (by rw [len]; omega) _ rfl 1024 [⟨1, ![1024]⟩] rfl (by decide +kernel) j b hb

theorem row_2 (j : Fin 512) (b : Fin 14336) (hb : b.val = 3584 + j.val) : row x0 x1 x2 x3 x4 x5 x6 x7 x8 x9 x10 x11 x12 x13 b = colSum x2 (ix1 j) :=
  part_at _ _ 2 (by rw [len]; omega) _ rfl 3584 [⟨1, ![1024]⟩, ⟨1, ![2560]⟩] rfl (by decide +kernel) j b hb

theorem row_3 (j : Fin 512) (b : Fin 14336) (hb : b.val = 4096 + j.val) : row x0 x1 x2 x3 x4 x5 x6 x7 x8 x9 x10 x11 x12 x13 b = colSum x3 (ix1 j) :=
  part_at _ _ 3 (by rw [len]; omega) _ rfl 4096 [⟨1, ![1024]⟩, ⟨1, ![2560]⟩, ⟨1, ![512]⟩] rfl (by decide +kernel) j b hb

theorem row_4 (j : Fin 512) (b : Fin 14336) (hb : b.val = 4608 + j.val) : row x0 x1 x2 x3 x4 x5 x6 x7 x8 x9 x10 x11 x12 x13 b = colSum x4 (ix1 j) :=
  part_at _ _ 4 (by rw [len]; omega) _ rfl 4608 [⟨1, ![1024]⟩, ⟨1, ![2560]⟩, ⟨1, ![512]⟩, ⟨1, ![512]⟩] rfl (by decide +kernel) j b hb

theorem row_5 (j : Fin 1024) (b : Fin 14336) (hb : b.val = 5120 + j.val) : row x0 x1 x2 x3 x4 x5 x6 x7 x8 x9 x10 x11 x12 x13 b = colSum x5 (ix1 j) :=
  part_at _ _ 5 (by rw [len]; omega) _ rfl 5120 [⟨1, ![1024]⟩, ⟨1, ![2560]⟩, ⟨1, ![512]⟩, ⟨1, ![512]⟩, ⟨1, ![512]⟩] rfl (by decide +kernel) j b hb

theorem row_6 (j : Fin 1024) (b : Fin 14336) (hb : b.val = 6144 + j.val) : row x0 x1 x2 x3 x4 x5 x6 x7 x8 x9 x10 x11 x12 x13 b = colSum x6 (ix1 j) :=
  part_at _ _ 6 (by rw [len]; omega) _ rfl 6144 [⟨1, ![1024]⟩, ⟨1, ![2560]⟩, ⟨1, ![512]⟩, ⟨1, ![512]⟩, ⟨1, ![512]⟩, ⟨1, ![1024]⟩] rfl (by decide +kernel) j b hb

theorem row_7 (j : Fin 2560) (b : Fin 14336) (hb : b.val = 7168 + j.val) : row x0 x1 x2 x3 x4 x5 x6 x7 x8 x9 x10 x11 x12 x13 b = colSum x7 (ix1 j) :=
  part_at _ _ 7 (by rw [len]; omega) _ rfl 7168 [⟨1, ![1024]⟩, ⟨1, ![2560]⟩, ⟨1, ![512]⟩, ⟨1, ![512]⟩, ⟨1, ![512]⟩, ⟨1, ![1024]⟩, ⟨1, ![1024]⟩] rfl (by decide +kernel) j b hb

theorem row_8 (j : Fin 512) (b : Fin 14336) (hb : b.val = 9728 + j.val) : row x0 x1 x2 x3 x4 x5 x6 x7 x8 x9 x10 x11 x12 x13 b = colSum x8 (ix1 j) :=
  part_at _ _ 8 (by rw [len]; omega) _ rfl 9728 [⟨1, ![1024]⟩, ⟨1, ![2560]⟩, ⟨1, ![512]⟩, ⟨1, ![512]⟩, ⟨1, ![512]⟩, ⟨1, ![1024]⟩, ⟨1, ![1024]⟩, ⟨1, ![2560]⟩] rfl (by decide +kernel) j b hb

theorem row_9 (j : Fin 512) (b : Fin 14336) (hb : b.val = 10240 + j.val) : row x0 x1 x2 x3 x4 x5 x6 x7 x8 x9 x10 x11 x12 x13 b = colSum x9 (ix1 j) :=
  part_at _ _ 9 (by rw [len]; omega) _ rfl 10240 [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩] rfl (by decide +kernel) j b hb

theorem row_10 (j : Fin 512) (b : Fin 14336) (hb : b.val = 10752 + j.val) : row x0 x1 x2 x3 x4 x5 x6 x7 x8 x9 x10 x11 x12 x13 b = colSum x10 (ix1 j) :=
  part_at _ _ 10 (by rw [len]; omega) _ rfl 10752 [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩, ⟨1, ![512]⟩] rfl (by decide +kernel) j b hb

theorem row_11 (j : Fin 1024) (b : Fin 14336) (hb : b.val = 11264 + j.val) : row x0 x1 x2 x3 x4 x5 x6 x7 x8 x9 x10 x11 x12 x13 b = colSum x11 (ix1 j) :=
  part_at _ _ 11 (by rw [len]; omega) _ rfl 11264 [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩, ⟨1, ![512]⟩, ⟨1, ![512]⟩] rfl (by decide +kernel) j b hb

theorem row_12 (j : Fin 1024) (b : Fin 14336) (hb : b.val = 12288 + j.val) : row x0 x1 x2 x3 x4 x5 x6 x7 x8 x9 x10 x11 x12 x13 b = colSum x12 (ix1 j) :=
  part_at _ _ 12 (by rw [len]; omega) _ rfl 12288 [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩, ⟨1, ![512]⟩, ⟨1, ![512]⟩, ⟨1, ![1024]⟩] rfl (by decide +kernel) j b hb

theorem row_13 (j : Fin 1024) (b : Fin 14336) (hb : b.val = 13312 + j.val) : row x0 x1 x2 x3 x4 x5 x6 x7 x8 x9 x10 x11 x12 x13 b = colSum x13 (ix1 j) :=
  part_at _ _ 13 (by rw [len]; omega) _ rfl 13312 [⟨1, ![1024]⟩, ⟨1, ![2560]⟩, ⟨1, ![512]⟩, ⟨1, ![512]⟩, ⟨1, ![512]⟩, ⟨1, ![1024]⟩, ⟨1, ![1024]⟩, ⟨1, ![2560]⟩, ⟨1, ![512]⟩, ⟨1, ![512]⟩, ⟨1, ![512]⟩, ⟨1, ![1024]⟩, ⟨1, ![1024]⟩] rfl (by decide +kernel) j b hb

end Cert.Fold
end
-- ==== Proof.FoldValue.lean ====
/- The packed row: what the call leaves in it, and the claim's kernel side. -/
module

public import proofs.«01_k».proof.Proof.Gen.FoldIdeal.Value
public import proofs.«01_k».proof.Proof.Fold

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.FoldIdeal.Value

open Cert.FoldIdeal Cert.FoldIdeal.Gen Cert.Proj Cert.Fold

theorem pay3_at (x : Vec Ideal S8x1024 .f32) (j : Fin 1024) : k0_pay3 x (ix2 0 j) = ∑ r : Fin 8, x (ix2 r j) := by
  pointwise [k0_pay3]

theorem pay4_at (x : Vec Ideal S8x2560 .f32) (j : Fin 2560) : k0_pay4 x (ix2 0 j) = ∑ r : Fin 8, x (ix2 r j) := by
  pointwise [k0_pay4]

theorem pay5_at (x : Vec Ideal S8x512 .f32) (j : Fin 512) : k0_pay5 x (ix2 0 j) = ∑ r : Fin 8, x (ix2 r j) := by
  pointwise [k0_pay5]

theorem pay6_at (x : Vec Ideal S8x512 .f32) (j : Fin 512) : k0_pay6 x (ix2 0 j) = ∑ r : Fin 8, x (ix2 r j) := by
  pointwise [k0_pay6]

theorem pay7_at (x : Vec Ideal S8x512 .f32) (j : Fin 512) : k0_pay7 x (ix2 0 j) = ∑ r : Fin 8, x (ix2 r j) := by
  pointwise [k0_pay7]

theorem pay8_at (x : Vec Ideal S8x1024 .f32) (j : Fin 1024) : k0_pay8 x (ix2 0 j) = ∑ r : Fin 8, x (ix2 r j) := by
  pointwise [k0_pay8]

theorem pay9_at (x : Vec Ideal S8x1024 .f32) (j : Fin 1024) : k0_pay9 x (ix2 0 j) = ∑ r : Fin 8, x (ix2 r j) := by
  pointwise [k0_pay9]

theorem pay10_at (x : Vec Ideal S8x2560 .f32) (j : Fin 2560) : k0_pay10 x (ix2 0 j) = ∑ r : Fin 8, x (ix2 r j) := by
  pointwise [k0_pay10]

theorem pay11_at (x : Vec Ideal S8x512 .f32) (j : Fin 512) : k0_pay11 x (ix2 0 j) = ∑ r : Fin 8, x (ix2 r j) := by
  pointwise [k0_pay11]

theorem pay12_at (x : Vec Ideal S8x512 .f32) (j : Fin 512) : k0_pay12 x (ix2 0 j) = ∑ r : Fin 8, x (ix2 r j) := by
  pointwise [k0_pay12]

theorem pay13_at (x : Vec Ideal S8x512 .f32) (j : Fin 512) : k0_pay13 x (ix2 0 j) = ∑ r : Fin 8, x (ix2 r j) := by
  pointwise [k0_pay13]

theorem pay14_at (x : Vec Ideal S8x1024 .f32) (j : Fin 1024) : k0_pay14 x (ix2 0 j) = ∑ r : Fin 8, x (ix2 r j) := by
  pointwise [k0_pay14]

theorem pay1_at (x : Vec Ideal S8x1024 .f32) (j : Fin 1024) : k0_pay1 x (ix2 0 j) = ∑ r : Fin 8, x (ix2 r j) := by
  pointwise [k0_pay1]

theorem pay2_at (x : Vec Ideal S8x1024 .f32) (j : Fin 1024) : k0_pay2 x (ix2 0 j) = ∑ r : Fin 8, x (ix2 r j) := by
  pointwise [k0_pay2]

section Body

variable (x0 : Vec Ideal S8x1024 .f32) (x1 : Vec Ideal S8x2560 .f32) (x2 x3 x4 : Vec Ideal S8x512 .f32) (x5 x6 : Vec Ideal S8x1024 .f32) (x7 : Vec Ideal S8x2560 .f32) (x8 x9 x10 : Vec Ideal S8x512 .f32) (x11 x12 x13 : Vec Ideal S8x1024 .f32)
variable (c : Dev nD) (arg0 : Memref sig .tc .vmem S8x1024 .f32) (harg0 : arg0.IsWhole) (arg1 : Memref sig .tc .vmem S8x2560 .f32) (harg1 : arg1.IsWhole) (arg2 : Memref sig .tc .vmem S8x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x2560 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1x14336 .f32) (harg14 : arg14.IsWhole)

/-- A part stored at `o`, whose place `j` holds the sum of the eight rows loaded from a whole buffer. -/
theorem part {n o : ℕ} (inb : ∀ a, (![0, o] : Fin 2 → Nat) a + (![1, n] : Fin 2 → Nat) a ≤ S1x14336.size a)
    (pay : (⟨2, ![8, n]⟩ : Shape).Idx → EReal) (P : (⟨2, ![1, n]⟩ : Shape).Idx → EReal) (X : (⟨2, ![8, n]⟩ : Shape).Idx → EReal)
    (hp : ∀ j, P (ix2 0 j) = ∑ r : Fin 8, pay (ix2 r j)) (hX : ∀ r j, pay (ix2 r j) = X (ix2 r j))
    (G : Fin 14336 → EReal) (hG : ∀ (j : Fin n) (b : Fin 14336), b.val = o + j.val → G b = colSum X (ix1 j))
    (x : (Rect.unit (s := S1x14336) ![0, o] ![1, n] inb).shape.Idx) :
    P x = G ((Rect.unit (s := S1x14336) ![0, o] ![1, n] inb).emb x 1) :=
  piece_at (m := 1) (n := 14336) inb P (fun _ b => G b) (fun r j a b _ hb => by
    obtain rfl : r = 0 := Fin.fin_one_eq_zero r
    exact (hp j).trans ((Finset.sum_congr rfl fun r _ => hX r j).trans (hG j b hb).symm)) x

set_option maxHeartbeats 1000000 in
/-- The row, after the body. -/
theorem out : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = fun y => row x0 x1 x2 x3 x4 x5 x6 x7 x8 x9 x10 x11 x12 x13 (y 1) := by
  refine read_pieces (Val := Elt Ideal) VO0_14 VO0_14.junk _ (fun _ b => row x0 x1 x2 x3 x4 x5 x6 x7 x8 x9 x10 x11 x12 x13 b) ?_ (cover0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13)
  unfold kernelRun0_A
  dsimp only
  sl_unfold_run_names
  refine List.forall_mem_cons.mpr ⟨part (n := 1024) (o := 13312) inb_S1x14336_S1x1024_0_13312 _ _ x13 (pay2_at _) (fun r j => readAt_at arg13.view _ _ x13 (harg13.read_unread x13) r j r j (Nat.zero_add _).symm (Nat.zero_add _).symm) _
    (row_13 x0 x1 x2 x3 x4 x5 x6 x7 x8 x9 x10 x11 x12 x13), ?_⟩
  refine List.forall_mem_cons.mpr ⟨part (n := 1024) (o := 12288) inb_S1x14336_S1x1024_0_12288 _ _ x12 (pay1_at _) (fun r j => readAt_at arg12.view _ _ x12 (harg12.read_unread x12) r j r j (Nat.zero_add _).symm (Nat.zero_add _).symm) _
    (row_12 x0 x1 x2 x3 x4 x5 x6 x7 x8 x9 x10 x11 x12 x13), ?_⟩
  refine List.forall_mem_cons.mpr ⟨part (n := 1024) (o := 11264) inb_S1x14336_S1x1024_0_11264 _ _ x11 (pay14_at _) (fun r j => readAt_at arg11.view _ _ x11 (harg11.read_unread x11) r j r j (Nat.zero_add _).symm (Nat.zero_add _).symm) _
    (row_11 x0 x1 x2 x3 x4 x5 x6 x7 x8 x9 x10 x11 x12 x13), ?_⟩
  refine List.forall_mem_cons.mpr ⟨part (n := 512) (o := 10752) inb_S1x14336_S1x512_0_10752 _ _ x10 (pay13_at _) (fun r j => readAt_at arg10.view _ _ x10 (harg10.read_unread x10) r j r j (Nat.zero_add _).symm (Nat.zero_add _).symm) _
    (row_10 x0 x1 x2 x3 x4 x5 x6 x7 x8 x9 x10 x11 x12 x13), ?_⟩
  refine List.forall_mem_cons.mpr ⟨part (n := 512) (o := 10240) inb_S1x14336_S1x512_0_10240 _ _ x9 (pay12_at _) (fun r j => readAt_at arg9.view _ _ x9 (harg9.read_unread x9) r j r j (Nat.zero_add _).symm (Nat.zero_add _).symm) _
    (row_9 x0 x1 x2 x3 x4 x5 x6 x7 x8 x9 x10 x11 x12 x13), ?_⟩
  refine List.forall_mem_cons.mpr ⟨part (n := 512) (o := 9728) inb_S1x14336_S1x512_0_9728 _ _ x8 (pay11_at _) (fun r j => readAt_at arg8.view _ _ x8 (harg8.read_unread x8) r j r j (Nat.zero_add _).symm (Nat.zero_add _).symm) _
    (row_8 x0 x1 x2 x3 x4 x5 x6 x7 x8 x9 x10 x11 x12 x13), ?_⟩
  refine List.forall_mem_cons.mpr ⟨part (n := 2560) (o := 7168) inb_S1x14336_S1x2560_0_7168 _ _ x7 (pay10_at _) (fun r j => readAt_at arg7.view _ _ x7 (harg7.read_unread x7) r j r j (Nat.zero_add _).symm (Nat.zero_add _).symm) _
    (row_7 x0 x1 x2 x3 x4 x5 x6 x7 x8 x9 x10 x11 x12 x13), ?_⟩
  refine List.forall_mem_cons.mpr ⟨part (n := 1024) (o := 6144) inb_S1x14336_S1x1024_0_6144 _ _ x6 (pay9_at _) (fun r j => readAt_at arg6.view _ _ x6 (harg6.read_unread x6) r j r j (Nat.zero_add _).symm (Nat.zero_add _).symm) _
    (row_6 x0 x1 x2 x3 x4 x5 x6 x7 x8 x9 x10 x11 x12 x13), ?_⟩
  refine List.forall_mem_cons.mpr ⟨part (n := 1024) (o := 5120) inb_S1x14336_S1x1024_0_5120 _ _ x5 (pay8_at _) (fun r j => readAt_at arg5.view _ _ x5 (harg5.read_unread x5) r j r j (Nat.zero_add _).symm (Nat.zero_add _).symm) _
    (row_5 x0 x1 x2 x3 x4 x5 x6 x7 x8 x9 x10 x11 x12 x13), ?_⟩
  refine List.forall_mem_cons.mpr ⟨part (n := 512) (o := 4608) inb_S1x14336_S1x512_0_4608 _ _ x4 (pay7_at _) (fun r j => readAt_at arg4.view _ _ x4 (harg4.read_unread x4) r j r j (Nat.zero_add _).symm (Nat.zero_add _).symm) _
    (row_4 x0 x1 x2 x3 x4 x5 x6 x7 x8 x9 x10 x11 x12 x13), ?_⟩
  refine List.forall_mem_cons.mpr ⟨part (n := 512) (o := 4096) inb_S1x14336_S1x512_0_4096 _ _ x3 (pay6_at _) (fun r j => readAt_at arg3.view _ _ x3 (harg3.read_unread x3) r j r j (Nat.zero_add _).symm (Nat.zero_add _).symm) _
    (row_3 x0 x1 x2 x3 x4 x5 x6 x7 x8 x9 x10 x11 x12 x13), ?_⟩
  refine List.forall_mem_cons.mpr ⟨part (n := 512) (o := 3584) inb_S1x14336_S1x512_0_3584 _ _ x2 (pay5_at _) (fun r j => readAt_at arg2.view _ _ x2 (harg2.read_unread x2) r j r j (Nat.zero_add _).symm (Nat.zero_add _).symm) _
    (row_2 x0 x1 x2 x3 x4 x5 x6 x7 x8 x9 x10 x11 x12 x13), ?_⟩
  refine List.forall_mem_cons.mpr ⟨part (n := 2560) (o := 1024) inb_S1x14336_S1x2560_0_1024 _ _ x1 (pay4_at _) (fun r j => readAt_at arg1.view _ _ x1 (harg1.read_unread x1) r j r j (Nat.zero_add _).symm (Nat.zero_add _).symm) _
    (row_1 x0 x1 x2 x3 x4 x5 x6 x7 x8 x9 x10 x11 x12 x13), ?_⟩
  refine List.forall_mem_cons.mpr ⟨part (n := 1024) (o := 0) inb_S1x14336_S1x1024_0_0 _ _ x0 (pay3_at _) (fun r j => readAt_at arg0.view _ _ x0 (harg0.read_unread x0) r j r j (Nat.zero_add _).symm (Nat.zero_add _).symm) _
    (row_0 x0 x1 x2 x3 x4 x5 x6 x7 x8 x9 x10 x11 x12 x13), ?_⟩
  exact fun _ hq => absurd hq List.not_mem_nil

end Body

section Final

variable (m : (ℓ : Loc nD τ sig) → Buf (Elt Ideal) ℓ) (c : Dev nD)

theorem blk0 (t : Fin cfg0.N) : iblk m c 0 t = (m ((c : Thread nD τ).loc main_arg0) : Vec Ideal S8x1024 .f32) := by
  funext y
  blk_simp [iblk]
  rw [show V m c main_arg0 = _ from V_main_arg0 m c]
  refine congrArg _ ?_
  funext q; apply Fin.ext
  fin_cases q
  · show 0 * _ + 1 * (y 0).val = (y 0).val; omega
  · show 0 * _ + 1 * (y 1).val = (y 1).val; omega

theorem blk1 (t : Fin cfg0.N) : iblk m c 1 t = (m ((c : Thread nD τ).loc main_arg1) : Vec Ideal S8x2560 .f32) := by
  funext y
  blk_simp [iblk]
  rw [show V m c main_arg1 = _ from V_main_arg1 m c]
  refine congrArg _ ?_
  funext q; apply Fin.ext
  fin_cases q
  · show 0 * _ + 1 * (y 0).val = (y 0).val; omega
  · show 0 * _ + 1 * (y 1).val = (y 1).val; omega

theorem blk2 (t : Fin cfg0.N) : iblk m c 2 t = (m ((c : Thread nD τ).loc main_arg2) : Vec Ideal S8x512 .f32) := by
  funext y
  blk_simp [iblk]
  rw [show V m c main_arg2 = _ from V_main_arg2 m c]
  refine congrArg _ ?_
  funext q; apply Fin.ext
  fin_cases q
  · show 0 * _ + 1 * (y 0).val = (y 0).val; omega
  · show 0 * _ + 1 * (y 1).val = (y 1).val; omega

theorem blk3 (t : Fin cfg0.N) : iblk m c 3 t = (m ((c : Thread nD τ).loc main_arg3) : Vec Ideal S8x512 .f32) := by
  funext y
  blk_simp [iblk]
  rw [show V m c main_arg3 = _ from V_main_arg3 m c]
  refine congrArg _ ?_
  funext q; apply Fin.ext
  fin_cases q
  · show 0 * _ + 1 * (y 0).val = (y 0).val; omega
  · show 0 * _ + 1 * (y 1).val = (y 1).val; omega

theorem blk4 (t : Fin cfg0.N) : iblk m c 4 t = (m ((c : Thread nD τ).loc main_arg4) : Vec Ideal S8x512 .f32) := by
  funext y
  blk_simp [iblk]
  rw [show V m c main_arg4 = _ from V_main_arg4 m c]
  refine congrArg _ ?_
  funext q; apply Fin.ext
  fin_cases q
  · show 0 * _ + 1 * (y 0).val = (y 0).val; omega
  · show 0 * _ + 1 * (y 1).val = (y 1).val; omega

theorem blk5 (t : Fin cfg0.N) : iblk m c 5 t = (m ((c : Thread nD τ).loc main_arg5) : Vec Ideal S8x1024 .f32) := by
  funext y
  blk_simp [iblk]
  rw [show V m c main_arg5 = _ from V_main_arg5 m c]
  refine congrArg _ ?_
  funext q; apply Fin.ext
  fin_cases q
  · show 0 * _ + 1 * (y 0).val = (y 0).val; omega
  · show 0 * _ + 1 * (y 1).val = (y 1).val; omega

theorem blk6 (t : Fin cfg0.N) : iblk m c 6 t = (m ((c : Thread nD τ).loc main_arg6) : Vec Ideal S8x1024 .f32) := by
  funext y
  blk_simp [iblk]
  rw [show V m c main_arg6 = _ from V_main_arg6 m c]
  refine congrArg _ ?_
  funext q; apply Fin.ext
  fin_cases q
  · show 0 * _ + 1 * (y 0).val = (y 0).val; omega
  · show 0 * _ + 1 * (y 1).val = (y 1).val; omega

theorem blk7 (t : Fin cfg0.N) : iblk m c 7 t = (m ((c : Thread nD τ).loc main_arg7) : Vec Ideal S8x2560 .f32) := by
  funext y
  blk_simp [iblk]
  rw [show V m c main_arg7 = _ from V_main_arg7 m c]
  refine congrArg _ ?_
  funext q; apply Fin.ext
  fin_cases q
  · show 0 * _ + 1 * (y 0).val = (y 0).val; omega
  · show 0 * _ + 1 * (y 1).val = (y 1).val; omega

theorem blk8 (t : Fin cfg0.N) : iblk m c 8 t = (m ((c : Thread nD τ).loc main_arg8) : Vec Ideal S8x512 .f32) := by
  funext y
  blk_simp [iblk]
  rw [show V m c main_arg8 = _ from V_main_arg8 m c]
  refine congrArg _ ?_
  funext q; apply Fin.ext
  fin_cases q
  · show 0 * _ + 1 * (y 0).val = (y 0).val; omega
  · show 0 * _ + 1 * (y 1).val = (y 1).val; omega

theorem blk9 (t : Fin cfg0.N) : iblk m c 9 t = (m ((c : Thread nD τ).loc main_arg9) : Vec Ideal S8x512 .f32) := by
  funext y
  blk_simp [iblk]
  rw [show V m c main_arg9 = _ from V_main_arg9 m c]
  refine congrArg _ ?_
  funext q; apply Fin.ext
  fin_cases q
  · show 0 * _ + 1 * (y 0).val = (y 0).val; omega
  · show 0 * _ + 1 * (y 1).val = (y 1).val; omega

theorem blk10 (t : Fin cfg0.N) : iblk m c 10 t = (m ((c : Thread nD τ).loc main_arg10) : Vec Ideal S8x512 .f32) := by
  funext y
  blk_simp [iblk]
  rw [show V m c main_arg10 = _ from V_main_arg10 m c]
  refine congrArg _ ?_
  funext q; apply Fin.ext
  fin_cases q
  · show 0 * _ + 1 * (y 0).val = (y 0).val; omega
  · show 0 * _ + 1 * (y 1).val = (y 1).val; omega

theorem blk11 (t : Fin cfg0.N) : iblk m c 11 t = (m ((c : Thread nD τ).loc main_arg11) : Vec Ideal S8x1024 .f32) := by
  funext y
  blk_simp [iblk]
  rw [show V m c main_arg11 = _ from V_main_arg11 m c]
  refine congrArg _ ?_
  funext q; apply Fin.ext
  fin_cases q
  · show 0 * _ + 1 * (y 0).val = (y 0).val; omega
  · show 0 * _ + 1 * (y 1).val = (y 1).val; omega

theorem blk12 (t : Fin cfg0.N) : iblk m c 12 t = (m ((c : Thread nD τ).loc main_arg12) : Vec Ideal S8x1024 .f32) := by
  funext y
  blk_simp [iblk]
  rw [show V m c main_arg12 = _ from V_main_arg12 m c]
  refine congrArg _ ?_
  funext q; apply Fin.ext
  fin_cases q
  · show 0 * _ + 1 * (y 0).val = (y 0).val; omega
  · show 0 * _ + 1 * (y 1).val = (y 1).val; omega

theorem blk13 (t : Fin cfg0.N) : iblk m c 13 t = (m ((c : Thread nD τ).loc main_arg13) : Vec Ideal S8x1024 .f32) := by
  funext y
  blk_simp [iblk]
  rw [show V m c main_arg13 = _ from V_main_arg13 m c]
  refine congrArg _ ?_
  funext q; apply Fin.ext
  fin_cases q
  · show 0 * _ + 1 * (y 0).val = (y 0).val; omega
  · show 0 * _ + 1 * (y 1).val = (y 1).val; omega

/-- The result. -/
def wOut : Vec Ideal S1x14336 .f32 := fun y => row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (y 1)

theorem final : (dats m 0 c).arrAt 14 cfg0.N = wOut m c := by
  refine (dats m 0 c).arrAt_eq_of_covers 14 _ (by decide +kernel) fun t hf y => ?_
  blk_simp
  rw [after0_14]
  unfold outsAt0
  rw [out, blk0, blk1, blk2, blk3, blk4, blk5, blk6, blk7, blk8, blk9, blk10, blk11, blk12, blk13]
  have hb : (win0_14.blk t).view.emb y 1 = y 1 := Fin.ext (by show 0 * 14336 + 1 * (y 1).val = (y 1).val; omega)
  exact congrArg (row _ _ _ _ _ _ _ _ _ _ _ _ _ _ ) hb.symm

end Final

end Cert.FoldIdeal.Value
end
-- ==== Proof.FoldRefValue.lean ====
/- The reference of the packed row, at one place. -/
module

public import proofs.«01_k».proof.Proof.Gen.FoldRefIdeal.Read
public import proofs.«01_k».proof.Proof.Fold

@[expose] public section

set_option maxRecDepth 16384

noncomputable section

open Idealize.ShloMosaic Idealize.ShloMosaic.TcCoe Idealize.SL.Sem

namespace Cert.FoldRefIdeal.Value

open Cert.FoldRefIdeal Cert.FoldRefIdeal.Gen Cert.FoldRefIdeal.Read Cert.Fold

theorem v0_eq (x : Vec Ideal S8x1024 .f32) : val_main_v0 (F := Ideal) x = colSum x := by
  funext y
  rw [val_main_v0_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v1_eq (x : Vec Ideal S8x2560 .f32) : val_main_v1 (F := Ideal) x = colSum x := by
  funext y
  rw [val_main_v1_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v2_eq (x : Vec Ideal S8x512 .f32) : val_main_v2 (F := Ideal) x = colSum x := by
  funext y
  rw [val_main_v2_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v3_eq (x : Vec Ideal S8x512 .f32) : val_main_v3 (F := Ideal) x = colSum x := by
  funext y
  rw [val_main_v3_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v4_eq (x : Vec Ideal S8x512 .f32) : val_main_v4 (F := Ideal) x = colSum x := by
  funext y
  rw [val_main_v4_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v5_eq (x : Vec Ideal S8x1024 .f32) : val_main_v5 (F := Ideal) x = colSum x := by
  funext y
  rw [val_main_v5_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v6_eq (x : Vec Ideal S8x1024 .f32) : val_main_v6 (F := Ideal) x = colSum x := by
  funext y
  rw [val_main_v6_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v7_eq (x : Vec Ideal S8x2560 .f32) : val_main_v7 (F := Ideal) x = colSum x := by
  funext y
  rw [val_main_v7_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v8_eq (x : Vec Ideal S8x512 .f32) : val_main_v8 (F := Ideal) x = colSum x := by
  funext y
  rw [val_main_v8_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v9_eq (x : Vec Ideal S8x512 .f32) : val_main_v9 (F := Ideal) x = colSum x := by
  funext y
  rw [val_main_v9_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v10_eq (x : Vec Ideal S8x512 .f32) : val_main_v10 (F := Ideal) x = colSum x := by
  funext y
  rw [val_main_v10_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v11_eq (x : Vec Ideal S8x1024 .f32) : val_main_v11 (F := Ideal) x = colSum x := by
  funext y
  rw [val_main_v11_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v12_eq (x : Vec Ideal S8x1024 .f32) : val_main_v12 (F := Ideal) x = colSum x := by
  funext y
  rw [val_main_v12_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

theorem v13_eq (x : Vec Ideal S8x1024 .f32) : val_main_v13 (F := Ideal) x = colSum x := by
  funext y
  rw [val_main_v13_apply]
  refine (congrArg₂ (· + ·) (Ideal.ofBits_zero .f32 : val_main_cst (F := Ideal) _ = 0) (Finset.sum_congr rfl fun k _ => congrArg x ?_)).trans (zero_add _)
  funext a
  match a with
  | ⟨0, _⟩ => rfl
  | ⟨1, _⟩ => rfl

variable (x0 : Vec Ideal S8x1024 .f32) (x1 : Vec Ideal S8x2560 .f32) (x2 x3 x4 : Vec Ideal S8x512 .f32) (x5 x6 : Vec Ideal S8x1024 .f32) (x7 : Vec Ideal S8x2560 .f32) (x8 x9 x10 : Vec Ideal S8x512 .f32) (x11 x12 x13 : Vec Ideal S8x1024 .f32)

theorem v15_eq : val_main_v15 (F := Ideal) x0 x1 x2 x3 x4 x5 x6 x7 x8 x9 x10 x11 x12 x13 = fun y => row x0 x1 x2 x3 x4 x5 x6 x7 x8 x9 x10 x11 x12 x13 (y 1) := by
  funext y
  rw [val_main_v15_apply]
  unfold val_main_v14
  simp only [v0_eq, v1_eq, v2_eq, v3_eq, v4_eq, v5_eq, v6_eq, v7_eq, v8_eq, v9_eq, v10_eq, v11_eq, v12_eq, v13_eq]
  refine congrArg (concatenate _ _ _ _) ?_
  funext a
  match a with
  | ⟨0, _⟩ => rfl

end Cert.FoldRefIdeal.Value
end
-- ==== Proof.FoldClaim.lean ====
/- The packed row and its reference are the same. -/
module

public import proofs.«01_k».proof.Defs
public import proofs.«01_k».proof.Proof.Gen.FoldRefIdeal.Run
public import proofs.«01_k».proof.Proof.FoldValue
public import proofs.«01_k».proof.Proof.FoldRefValue

@[expose] public section

set_option maxRecDepth 16384

noncomputable section

open Idealize.ShloMosaic Idealize.ShloMosaic.TcCoe Idealize.SL.Sem

namespace Cert.FoldIdeal.Value

open Cert.FoldIdeal Cert.FoldIdeal.Gen

/-- The reference's frame: its arguments unchanged and no semaphore left counted. -/
theorem frame_reference : Cert.quiescent_FoldRefIdeal := fun m ρ _ =>
  (θ_run Cert.FoldRefIdeal.defs _ _).mono (fun r h => ⟨fun c => (h c).2, sem_eq_zero_of_no_sems (by decide) r.2⟩)
    (Cert.FoldRefIdeal.Value.run (F := Ideal) m ρ)

theorem value : Cert.algebraic_FoldIdeal_FoldRefIdeal := fun m ρ m' ρ' _ hag =>
  ⟨wOut m,
    (θ_run defs _ _).mono (fun _ h c => ⟨(h c).1.trans (final m c), (h c).2⟩) (run_blocks m ρ),
    (θ_run Cert.FoldRefIdeal.defs _ _).mono (fun _ h c => by
      obtain ⟨hw, hargs⟩ := h c
      obtain ⟨a0, a1, a2, a3, a4, a5, a6, a7, a8, a9, a10, a11, a12, a13⟩ := hag c
      refine ⟨hw.trans (.trans (Cert.FoldRefIdeal.Read.val_main_v15_eq _ _ _ _ _ _ _ _ _ _ _ _ _ _ ) (.trans (Cert.FoldRefIdeal.Value.v15_eq _ _ _ _ _ _ _ _ _ _ _ _ _ _ ) ?_)), hargs⟩
      rw [a0, a1, a2, a3, a4, a5, a6, a7, a8, a9, a10, a11, a12, a13]
      rfl)
      (Cert.FoldRefIdeal.Value.run (F := Ideal) m' ρ')⟩

end Cert.FoldIdeal.Value
end
-- ==== Proof.lean ====
module

public import proofs.«01_k».proof.Proof.Gen.LossRefIdeal.Run
public import proofs.«01_k».proof.Proof.Gen.LossRefIdeal.Read
public import proofs.«01_k».proof.Proof.LossClaim
public import proofs.«01_k».proof.Proof.FfnClaim
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal.Run
public import proofs.«01_k».proof.Proof.Gen.FfnRefIdeal.Read
public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.Pre_ffn_finite
public import proofs.«01_k».proof.Proof.Gen.Loss
public import proofs.«01_k».proof.Proof.Gen.LossIdeal
public import proofs.«01_k».proof.Proof.Gen.LossRefIdeal
public import proofs.«01_k».proof.Proof.Gen.Pre_loss_finite
public import proofs.«01_k».proof.Proof.DhMixClaim
public import proofs.«01_k».proof.Proof.Gen.DhMixIdeal.Skeleton
public import proofs.«01_k».proof.Proof.Gen.DhMixIdeal.Launch
public import proofs.«01_k».proof.Proof.Gen.DhMixIdeal.Points
public import proofs.«01_k».proof.Proof.Gen.DhMixIdeal.Frame
public import proofs.«01_k».proof.Proof.Gen.DhMixRefIdeal.Run
public import proofs.«01_k».proof.Proof.Gen.DhMixRefIdeal.Read
public import proofs.«01_k».proof.Proof.Gen.DhMix
public import proofs.«01_k».proof.Proof.Gen.DhMixIdeal
public import proofs.«01_k».proof.Proof.Gen.DhMixRefIdeal
public import proofs.«01_k».proof.Proof.Gen.Pre_dh_mix_finite
public import proofs.«01_k».proof.Proof.DhFfnClaim
public import proofs.«01_k».proof.Proof.Gen.DhFfnIdeal.Skeleton
public import proofs.«01_k».proof.Proof.Gen.DhFfnIdeal.Launch
public import proofs.«01_k».proof.Proof.Gen.DhFfnIdeal.Points
public import proofs.«01_k».proof.Proof.Gen.DhFfnIdeal.Frame
public import proofs.«01_k».proof.Proof.Gen.DhFfnRefIdeal.Run
public import proofs.«01_k».proof.Proof.Gen.DhFfnRefIdeal.Read
public import proofs.«01_k».proof.Proof.Gen.DhFfn
public import proofs.«01_k».proof.Proof.Gen.DhFfnIdeal
public import proofs.«01_k».proof.Proof.Gen.DhFfnRefIdeal
public import proofs.«01_k».proof.Proof.Gen.Pre_dh_ffn_finite
public import proofs.«01_k».proof.Proof.InProjClaim
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InProj
public import proofs.«01_k».proof.Proof.Gen.InProjIdeal
public import proofs.«01_k».proof.Proof.Gen.InProjRefIdeal
public import proofs.«01_k».proof.Proof.UpProjClaim
public import proofs.«01_k».proof.Proof.Gen.UpProj.Frame
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.Gen.UpProj
public import proofs.«01_k».proof.Proof.Gen.UpProjIdeal
public import proofs.«01_k».proof.Proof.Gen.UpProjRefIdeal
public import proofs.«01_k».proof.Proof.DwUpClaim
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwUp
public import proofs.«01_k».proof.Proof.Gen.DwUpIdeal
public import proofs.«01_k».proof.Proof.Gen.DwUpRefIdeal
public import proofs.«01_k».proof.Proof.AdamwClaim
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.Adamw
public import proofs.«01_k».proof.Proof.Gen.AdamwIdeal
public import proofs.«01_k».proof.Proof.Gen.AdamwRefIdeal
public import proofs.«01_k».proof.Proof.FoldClaim
public import proofs.«01_k».proof.Proof.Gen.Fold.Frame
public import proofs.«01_k».proof.Proof.Gen.FoldIdeal.Value
public import proofs.«01_k».proof.Proof.Gen.FoldRefIdeal.Run
public import proofs.«01_k».proof.Proof.Gen.FoldRefIdeal.Read
public import proofs.«01_k».proof.Proof.Gen.Fold
public import proofs.«01_k».proof.Proof.Gen.FoldIdeal
public import proofs.«01_k».proof.Proof.Gen.FoldRefIdeal
public import Idealize.ShloMosaic.Adequacy
public import Idealize.ShloMosaic.Init

@[expose] public section

noncomputable section

namespace Cert.Proof

open Idealize.ShloMosaic Idealize.SL.Sem Cert.Loss

theorem frame_loss : Cert.quiescent_Loss := fun m ρ _ =>
  cast (by sl_kernel_rfl) (Cert.LossIdeal.Value.frame (F := Bits) m ρ)

theorem frame_lossI : Cert.quiescent_LossIdeal := fun m ρ _ => Cert.LossIdeal.Value.frame m ρ

theorem frame_lossIp : Cert.quiescent_LossIdeal_pre_loss_finite := fun m ρ _ => Cert.LossIdeal.Value.frame m ρ

theorem frame_lossRI : Cert.quiescent_LossRefIdeal := fun m ρ _ => Cert.LossIdeal.Value.frame_reference m ρ

theorem frame_lossRIp : Cert.quiescent_LossRefIdeal_pre_loss_finite := fun m ρ _ => Cert.LossIdeal.Value.frame_reference m ρ

theorem frame_ffn : Cert.quiescent_Ffn := fun m ρ _ =>
  cast (by sl_kernel_rfl) (Cert.FfnIdeal.Value.frame (F := Bits) m ρ)

theorem frame_ffnI : Cert.quiescent_FfnIdeal := fun m ρ _ => Cert.FfnIdeal.Value.frame m ρ

theorem frame_ffnIp : Cert.quiescent_FfnIdeal_pre_ffn_finite := fun m ρ _ => Cert.FfnIdeal.Value.frame m ρ

theorem frame_ffnRI : Cert.quiescent_FfnRefIdeal := fun m ρ _ => Cert.FfnIdeal.Value.frame_reference m ρ

theorem frame_ffnRIp : Cert.quiescent_FfnRefIdeal_pre_ffn_finite := fun m ρ _ => Cert.FfnIdeal.Value.frame_reference m ρ

theorem frame_dhmix : Cert.quiescent_DhMix := fun m ρ _ =>
  cast (by sl_kernel_rfl) (Cert.DhMixIdeal.Value.frame (F := Bits) m ρ)

theorem frame_dhmixI : Cert.quiescent_DhMixIdeal := fun m ρ _ => Cert.DhMixIdeal.Value.frame m ρ

theorem frame_dhmixIp : Cert.quiescent_DhMixIdeal_pre_dh_mix_finite := fun m ρ _ => Cert.DhMixIdeal.Value.frame m ρ

theorem frame_dhmixRI : Cert.quiescent_DhMixRefIdeal := fun m ρ _ => Cert.DhMixIdeal.Value.frame_reference m ρ

theorem frame_dhmixRIp : Cert.quiescent_DhMixRefIdeal_pre_dh_mix_finite := fun m ρ _ => Cert.DhMixIdeal.Value.frame_reference m ρ

theorem frame_dhffn : Cert.quiescent_DhFfn := fun m ρ _ =>
  cast (by sl_kernel_rfl) (Cert.DhFfnIdeal.Value.frame (F := Bits) m ρ)

theorem frame_dhffnI : Cert.quiescent_DhFfnIdeal := fun m ρ _ => Cert.DhFfnIdeal.Value.frame m ρ

theorem frame_dhffnIp : Cert.quiescent_DhFfnIdeal_pre_dh_ffn_finite := fun m ρ _ => Cert.DhFfnIdeal.Value.frame m ρ

theorem frame_dhffnRI : Cert.quiescent_DhFfnRefIdeal := fun m ρ _ => Cert.DhFfnIdeal.Value.frame_reference m ρ

theorem frame_dhffnRIp : Cert.quiescent_DhFfnRefIdeal_pre_dh_ffn_finite := fun m ρ _ => Cert.DhFfnIdeal.Value.frame_reference m ρ

theorem frame_inproj : Cert.quiescent_InProj := fun m ρ _ => Cert.InProj.Gen.frame m ρ

theorem frame_inprojI : Cert.quiescent_InProjIdeal := fun m ρ _ => Cert.InProjIdeal.Gen.frame m ρ

theorem frame_upproj : Cert.quiescent_UpProj := fun m ρ _ => Cert.UpProj.Gen.frame m ρ

theorem frame_upprojI : Cert.quiescent_UpProjIdeal := fun m ρ _ => Cert.UpProjIdeal.Gen.frame m ρ

theorem frame_dwup : Cert.quiescent_DwUp := fun m ρ _ => Cert.DwUp.Gen.frame m ρ

theorem frame_dwupI : Cert.quiescent_DwUpIdeal := fun m ρ _ => Cert.DwUpIdeal.Gen.frame m ρ

theorem frame_adamw : Cert.quiescent_Adamw := fun m ρ _ => Cert.Adamw.Gen.frame m ρ

theorem frame_adamwI : Cert.quiescent_AdamwIdeal := fun m ρ _ => Cert.AdamwIdeal.Gen.frame m ρ

theorem frame_fold : Cert.quiescent_Fold := fun m ρ _ => Cert.Fold.Gen.frame m ρ

theorem frame_foldI : Cert.quiescent_FoldIdeal := fun m ρ _ => Cert.FoldIdeal.Gen.frame m ρ

theorem claim : Cert.Claim := ⟨Cert.Loss.Gen.facts, Cert.LossIdeal.Gen.facts, Cert.LossRefIdeal.Gen.facts,
  Cert.Ffn.Gen.facts, Cert.FfnIdeal.Gen.facts, Cert.FfnRefIdeal.Gen.facts,
  Cert.DhMix.Gen.facts, Cert.DhMixIdeal.Gen.facts, Cert.DhMixRefIdeal.Gen.facts,
  Cert.DhFfn.Gen.facts, Cert.DhFfnIdeal.Gen.facts, Cert.DhFfnRefIdeal.Gen.facts,
  Cert.InProj.Gen.facts, Cert.InProjIdeal.Gen.facts, Cert.InProjRefIdeal.Gen.facts,
  Cert.UpProj.Gen.facts, Cert.UpProjIdeal.Gen.facts, Cert.UpProjRefIdeal.Gen.facts,
  Cert.DwUp.Gen.facts, Cert.DwUpIdeal.Gen.facts, Cert.DwUpRefIdeal.Gen.facts,
  Cert.Adamw.Gen.facts, Cert.AdamwIdeal.Gen.facts, Cert.AdamwRefIdeal.Gen.facts,
  Cert.Fold.Gen.facts, Cert.FoldIdeal.Gen.facts, Cert.FoldRefIdeal.Gen.facts,
  Cert.Pre_loss_finite.Gen.facts, Cert.Pre_ffn_finite.Gen.facts, Cert.Pre_dh_mix_finite.Gen.facts, Cert.Pre_dh_ffn_finite.Gen.facts,
  frame_loss, frame_lossI, frame_lossIp, frame_lossRI, frame_lossRIp,
  frame_ffn, frame_ffnI, frame_ffnIp, frame_ffnRI, frame_ffnRIp,
  frame_dhmix, frame_dhmixI, frame_dhmixIp, frame_dhmixRI, frame_dhmixRIp,
  frame_dhffn, frame_dhffnI, frame_dhffnIp, frame_dhffnRI, frame_dhffnRIp,
  frame_inproj, frame_inprojI, Cert.InProjIdeal.Value.frame_reference,
  frame_upproj, frame_upprojI, Cert.UpProjIdeal.Value.frame_reference,
  frame_dwup, frame_dwupI, Cert.DwUpIdeal.Value.frame_reference,
  frame_adamw, frame_adamwI, Cert.AdamwIdeal.Value.frame_reference,
  frame_fold, frame_foldI, Cert.FoldIdeal.Value.frame_reference,
  trivial, Cert.LossIdeal.Value.value, trivial, Cert.FfnIdeal.Value.value, trivial, Cert.DhMixIdeal.Value.value,
  trivial, Cert.DhFfnIdeal.Value.value,
  trivial, Cert.InProjIdeal.Value.value, trivial, Cert.UpProjIdeal.Value.value,
  trivial, Cert.DwUpIdeal.Value.value, trivial, Cert.AdamwIdeal.Value.value,
  trivial, Cert.FoldIdeal.Value.value⟩

end Cert.Proof

end
